-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dwup1 (m : (ℓ : Loc Cert.Dwup1.nD Cert.Dwup1.τ Cert.Dwup1.sig) → Buf (Elt Bits) ℓ) : Prop :=
  True

def Pre_Dwup1Ideal (m : (ℓ : Loc Cert.Dwup1Ideal.nD Cert.Dwup1Ideal.τ Cert.Dwup1Ideal.sig) → Buf (Elt Ideal) ℓ) : Prop :=
  True

def Pre_Dwup1RefIdeal (m : (ℓ : Loc Cert.Dwup1RefIdeal.nD Cert.Dwup1RefIdeal.τ Cert.Dwup1RefIdeal.sig) → Buf (Elt Ideal) ℓ) : Prop :=
  True

def Pre_Dwdown1 (m : (ℓ : Loc Cert.Dwdown1.nD Cert.Dwdown1.τ Cert.Dwdown1.sig) → Buf (Elt Bits) ℓ) : Prop :=
  True

def Pre_Dwdown1Ideal (m : (ℓ : Loc Cert.Dwdown1Ideal.nD Cert.Dwdown1Ideal.τ Cert.Dwdown1Ideal.sig) → Buf (Elt Ideal) ℓ) : Prop :=
  True

def Pre_Dwdown1RefIdeal (m : (ℓ : Loc Cert.Dwdown1RefIdeal.nD Cert.Dwdown1RefIdeal.τ Cert.Dwdown1RefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Datt (m : (ℓ : Loc Cert.Datt.nD Cert.Datt.τ Cert.Datt.sig) → Buf (Elt Bits) ℓ) : Prop :=
  True

def Pre_DattIdeal (m : (ℓ : Loc Cert.DattIdeal.nD Cert.DattIdeal.τ Cert.DattIdeal.sig) → Buf (Elt Ideal) ℓ) : Prop :=
  True

def Pre_DattRefIdeal (m : (ℓ : Loc Cert.DattRefIdeal.nD Cert.DattRefIdeal.τ Cert.DattRefIdeal.sig) → Buf (Elt Ideal) ℓ) : Prop :=
  True

def Pre_Inbwd (m : (ℓ : Loc Cert.Inbwd.nD Cert.Inbwd.τ Cert.Inbwd.sig) → Buf (Elt Bits) ℓ) : Prop :=
  True

def Pre_InbwdIdeal (m : (ℓ : Loc Cert.InbwdIdeal.nD Cert.InbwdIdeal.τ Cert.InbwdIdeal.sig) → Buf (Elt Ideal) ℓ) : Prop :=
  True

def Pre_InbwdRefIdeal (m : (ℓ : Loc Cert.InbwdRefIdeal.nD Cert.InbwdRefIdeal.τ Cert.InbwdRefIdeal.sig) → Buf (Elt Ideal) ℓ) : Prop :=
  True

def Pre_Outb (m : (ℓ : Loc Cert.Outb.nD Cert.Outb.τ Cert.Outb.sig) → Buf (Elt Bits) ℓ) : Prop :=
  True

def Pre_OutbIdeal (m : (ℓ : Loc Cert.OutbIdeal.nD Cert.OutbIdeal.τ Cert.OutbIdeal.sig) → Buf (Elt Ideal) ℓ) : Prop :=
  True

def Pre_OutbIdeal_outb_finite [hPre_outb_finite : Cert.Pre_outb_finite.Facts] (m : (ℓ : Loc Cert.OutbIdeal.nD Cert.OutbIdeal.τ Cert.OutbIdeal.sig) → Buf (Elt Ideal) ℓ) : Prop :=
  ∀ c : Dev Cert.OutbIdeal.nD,
    (Cert.Pre_outb_finite.fn (F := Ideal) (m ((c.tc : Thread Cert.OutbIdeal.nD Cert.OutbIdeal.τ).loc Cert.OutbIdeal.main_arg0)) (m ((c.tc : Thread Cert.OutbIdeal.nD Cert.OutbIdeal.τ).loc Cert.OutbIdeal.main_arg1)) (m ((c.tc : Thread Cert.OutbIdeal.nD Cert.OutbIdeal.τ).loc Cert.OutbIdeal.main_arg2)) (m ((c.tc : Thread Cert.OutbIdeal.nD Cert.OutbIdeal.τ).loc Cert.OutbIdeal.main_arg3))) = (fun _ => 1#1)

def Pre_OutbRefIdeal (m : (ℓ : Loc Cert.OutbRefIdeal.nD Cert.OutbRefIdeal.τ Cert.OutbRefIdeal.sig) → Buf (Elt Ideal) ℓ) : Prop :=
  True

def Pre_OutbRefIdeal_outb_finite [hPre_outb_finite : Cert.Pre_outb_finite.Facts] (m : (ℓ : Loc Cert.OutbRefIdeal.nD Cert.OutbRefIdeal.τ Cert.OutbRefIdeal.sig) → Buf (Elt Ideal) ℓ) : Prop :=
  ∀ c : Dev Cert.OutbRefIdeal.nD,
    (Cert.Pre_outb_finite.fn (F := Ideal) (m ((c.tc : Thread Cert.OutbRefIdeal.nD Cert.OutbRefIdeal.τ).loc Cert.OutbRefIdeal.main_arg0)) (m ((c.tc : Thread Cert.OutbRefIdeal.nD Cert.OutbRefIdeal.τ).loc Cert.OutbRefIdeal.main_arg1)) (m ((c.tc : Thread Cert.OutbRefIdeal.nD Cert.OutbRefIdeal.τ).loc Cert.OutbRefIdeal.main_arg2)) (m ((c.tc : Thread Cert.OutbRefIdeal.nD Cert.OutbRefIdeal.τ).loc Cert.OutbRefIdeal.main_arg3))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Lruin (m : (ℓ : Loc Cert.Lruin.nD Cert.Lruin.τ Cert.Lruin.sig) → Buf (Elt Bits) ℓ) : Prop :=
  True

def Pre_LruinIdeal (m : (ℓ : Loc Cert.LruinIdeal.nD Cert.LruinIdeal.τ Cert.LruinIdeal.sig) → Buf (Elt Ideal) ℓ) : Prop :=
  True

def Pre_LruinRefIdeal (m : (ℓ : Loc Cert.LruinRefIdeal.nD Cert.LruinRefIdeal.τ Cert.LruinRefIdeal.sig) → Buf (Elt Ideal) ℓ) : Prop :=
  True

def Pre_Lruout (m : (ℓ : Loc Cert.Lruout.nD Cert.Lruout.τ Cert.Lruout.sig) → Buf (Elt Bits) ℓ) : Prop :=
  True

def Pre_LruoutIdeal (m : (ℓ : Loc Cert.LruoutIdeal.nD Cert.LruoutIdeal.τ Cert.LruoutIdeal.sig) → Buf (Elt Ideal) ℓ) : Prop :=
  True

def Pre_LruoutRefIdeal (m : (ℓ : Loc Cert.LruoutRefIdeal.nD Cert.LruoutRefIdeal.τ Cert.LruoutRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_Adams (m : (ℓ : Loc Cert.Adams.nD Cert.Adams.τ Cert.Adams.sig) → Buf (Elt Bits) ℓ) : Prop :=
  True

def Pre_AdamsIdeal (m : (ℓ : Loc Cert.AdamsIdeal.nD Cert.AdamsIdeal.τ Cert.AdamsIdeal.sig) → Buf (Elt Ideal) ℓ) : Prop :=
  True

def Pre_AdamsRefIdeal (m : (ℓ : Loc Cert.AdamsRefIdeal.nD Cert.AdamsRefIdeal.τ Cert.AdamsRefIdeal.sig) → Buf (Elt Ideal) ℓ) : Prop :=
  True

def Pre_Adamup (m : (ℓ : Loc Cert.Adamup.nD Cert.Adamup.τ Cert.Adamup.sig) → Buf (Elt Bits) ℓ) : Prop :=
  True

def Pre_AdamupIdeal (m : (ℓ : Loc Cert.AdamupIdeal.nD Cert.AdamupIdeal.τ Cert.AdamupIdeal.sig) → Buf (Elt Ideal) ℓ) : Prop :=
  True

def Pre_AdamupRefIdeal (m : (ℓ : Loc Cert.AdamupRefIdeal.nD Cert.AdamupRefIdeal.τ Cert.AdamupRefIdeal.sig) → Buf (Elt Ideal) ℓ) : Prop :=
  True

def Pre_Adamqkv (m : (ℓ : Loc Cert.Adamqkv.nD Cert.Adamqkv.τ Cert.Adamqkv.sig) → Buf (Elt Bits) ℓ) : Prop :=
  True

def Pre_AdamqkvIdeal (m : (ℓ : Loc Cert.AdamqkvIdeal.nD Cert.AdamqkvIdeal.τ Cert.AdamqkvIdeal.sig) → Buf (Elt Ideal) ℓ) : Prop :=
  True

def Pre_AdamqkvRefIdeal (m : (ℓ : Loc Cert.AdamqkvRefIdeal.nD Cert.AdamqkvRefIdeal.τ Cert.AdamqkvRefIdeal.sig) → Buf (Elt Ideal) ℓ) : Prop :=
  True

def Pre_Adamin (m : (ℓ : Loc Cert.Adamin.nD Cert.Adamin.τ Cert.Adamin.sig) → Buf (Elt Bits) ℓ) : Prop :=
  True

def Pre_AdaminIdeal (m : (ℓ : Loc Cert.AdaminIdeal.nD Cert.AdaminIdeal.τ Cert.AdaminIdeal.sig) → Buf (Elt Ideal) ℓ) : Prop :=
  True

def Pre_AdaminRefIdeal (m : (ℓ : Loc Cert.AdaminRefIdeal.nD Cert.AdaminRefIdeal.τ Cert.AdaminRefIdeal.sig) → Buf (Elt Ideal) ℓ) : Prop :=
  True

def Pre_Adamo (m : (ℓ : Loc Cert.Adamo.nD Cert.Adamo.τ Cert.Adamo.sig) → Buf (Elt Bits) ℓ) : Prop :=
  True

def Pre_AdamoIdeal (m : (ℓ : Loc Cert.AdamoIdeal.nD Cert.AdamoIdeal.τ Cert.AdamoIdeal.sig) → Buf (Elt Ideal) ℓ) : Prop :=
  True

def Pre_AdamoRefIdeal (m : (ℓ : Loc Cert.AdamoRefIdeal.nD Cert.AdamoRefIdeal.τ Cert.AdamoRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1)
      ∧ r.2.mem ((c.tc : Thread Cert.Dwup.nD Cert.Dwup.τ).loc Cert.Dwup.main_arg2) = m ((c.tc : Thread Cert.Dwup.nD Cert.Dwup.τ).loc Cert.Dwup.main_arg2))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
      ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1)
      ∧ r.2.mem ((c.tc : Thread Cert.DwupRefIdeal.nD Cert.DwupRefIdeal.τ).loc Cert.DwupRefIdeal.main_arg2) = m ((c.tc : Thread Cert.DwupRefIdeal.nD Cert.DwupRefIdeal.τ).loc Cert.DwupRefIdeal.main_arg2))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1)
      ∧ r.2.mem ((c.tc : Thread Cert.Dwdown.nD Cert.Dwdown.τ).loc Cert.Dwdown.main_arg2) = m ((c.tc : Thread Cert.Dwdown.nD Cert.Dwdown.τ).loc Cert.Dwdown.main_arg2))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1)
      ∧ r.2.mem ((c.tc : Thread Cert.DwdownIdeal.nD Cert.DwdownIdeal.τ).loc Cert.DwdownIdeal.main_arg2) = m ((c.tc : Thread Cert.DwdownIdeal.nD Cert.DwdownIdeal.τ).loc Cert.DwdownIdeal.main_arg2))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1)
      ∧ r.2.mem ((c.tc : Thread Cert.DwdownRefIdeal.nD Cert.DwdownRefIdeal.τ).loc Cert.DwdownRefIdeal.main_arg2) = m ((c.tc : Thread Cert.DwdownRefIdeal.nD Cert.DwdownRefIdeal.τ).loc Cert.DwdownRefIdeal.main_arg2))
      ∧ r.2.sem = fun _ => 0)

def quiescent_Dwup1 [hDwup1 : Cert.Dwup1.Facts] : Prop :=
  ∀ (m : (ℓ : Loc Cert.Dwup1.nD Cert.Dwup1.τ Cert.Dwup1.sig) → Buf (Elt Bits) ℓ) (g : Dev Cert.Dwup1.nD → PrngReg), Pre_Dwup1 m →
    θ_run (Cert.Dwup1.defs (F := Bits)) (onTc (τ := Cert.Dwup1.τ) (Cert.Dwup1.main (F := Bits))) ⟨m, fun _ => 0, g⟩ (fun r => (∀ c : Dev Cert.Dwup1.nD,
      r.2.mem ((c.tc : Thread Cert.Dwup1.nD Cert.Dwup1.τ).loc Cert.Dwup1.main_arg0) = m ((c.tc : Thread Cert.Dwup1.nD Cert.Dwup1.τ).loc Cert.Dwup1.main_arg0)
      ∧ r.2.mem ((c.tc : Thread Cert.Dwup1.nD Cert.Dwup1.τ).loc Cert.Dwup1.main_arg1) = m ((c.tc : Thread Cert.Dwup1.nD Cert.Dwup1.τ).loc Cert.Dwup1.main_arg1))
      ∧ r.2.sem = fun _ => 0)

def quiescent_Dwup1Ideal [hDwup1Ideal : Cert.Dwup1Ideal.Facts] : Prop :=
  ∀ (m : (ℓ : Loc Cert.Dwup1Ideal.nD Cert.Dwup1Ideal.τ Cert.Dwup1Ideal.sig) → Buf (Elt Ideal) ℓ) (g : Dev Cert.Dwup1Ideal.nD → PrngReg), Pre_Dwup1Ideal m →
    θ_run (Cert.Dwup1Ideal.defs (F := Ideal)) (onTc (τ := Cert.Dwup1Ideal.τ) (Cert.Dwup1Ideal.main (F := Ideal))) ⟨m, fun _ => 0, g⟩ (fun r => (∀ c : Dev Cert.Dwup1Ideal.nD,
      r.2.mem ((c.tc : Thread Cert.Dwup1Ideal.nD Cert.Dwup1Ideal.τ).loc Cert.Dwup1Ideal.main_arg0) = m ((c.tc : Thread Cert.Dwup1Ideal.nD Cert.Dwup1Ideal.τ).loc Cert.Dwup1Ideal.main_arg0)
      ∧ r.2.mem ((c.tc : Thread Cert.Dwup1Ideal.nD Cert.Dwup1Ideal.τ).loc Cert.Dwup1Ideal.main_arg1) = m ((c.tc : Thread Cert.Dwup1Ideal.nD Cert.Dwup1Ideal.τ).loc Cert.Dwup1Ideal.main_arg1))
      ∧ r.2.sem = fun _ => 0)

def quiescent_Dwup1RefIdeal [hDwup1RefIdeal : Cert.Dwup1RefIdeal.Facts] : Prop :=
  ∀ (m : (ℓ : Loc Cert.Dwup1RefIdeal.nD Cert.Dwup1RefIdeal.τ Cert.Dwup1RefIdeal.sig) → Buf (Elt Ideal) ℓ) (g : Dev Cert.Dwup1RefIdeal.nD → PrngReg), Pre_Dwup1RefIdeal m →
    θ_run (Cert.Dwup1RefIdeal.defs (F := Ideal)) (onTc (τ := Cert.Dwup1RefIdeal.τ) (Cert.Dwup1RefIdeal.main (F := Ideal))) ⟨m, fun _ => 0, g⟩ (fun r => (∀ c : Dev Cert.Dwup1RefIdeal.nD,
      r.2.mem ((c.tc : Thread Cert.Dwup1RefIdeal.nD Cert.Dwup1RefIdeal.τ).loc Cert.Dwup1RefIdeal.main_arg0) = m ((c.tc : Thread Cert.Dwup1RefIdeal.nD Cert.Dwup1RefIdeal.τ).loc Cert.Dwup1RefIdeal.main_arg0)
      ∧ r.2.mem ((c.tc : Thread Cert.Dwup1RefIdeal.nD Cert.Dwup1RefIdeal.τ).loc Cert.Dwup1RefIdeal.main_arg1) = m ((c.tc : Thread Cert.Dwup1RefIdeal.nD Cert.Dwup1RefIdeal.τ).loc Cert.Dwup1RefIdeal.main_arg1))
      ∧ r.2.sem = fun _ => 0)

def quiescent_Dwdown1 [hDwdown1 : Cert.Dwdown1.Facts] : Prop :=
  ∀ (m : (ℓ : Loc Cert.Dwdown1.nD Cert.Dwdown1.τ Cert.Dwdown1.sig) → Buf (Elt Bits) ℓ) (g : Dev Cert.Dwdown1.nD → PrngReg), Pre_Dwdown1 m →
    θ_run (Cert.Dwdown1.defs (F := Bits)) (onTc (τ := Cert.Dwdown1.τ) (Cert.Dwdown1.main (F := Bits))) ⟨m, fun _ => 0, g⟩ (fun r => (∀ c : Dev Cert.Dwdown1.nD,
      r.2.mem ((c.tc : Thread Cert.Dwdown1.nD Cert.Dwdown1.τ).loc Cert.Dwdown1.main_arg0) = m ((c.tc : Thread Cert.Dwdown1.nD Cert.Dwdown1.τ).loc Cert.Dwdown1.main_arg0)
      ∧ r.2.mem ((c.tc : Thread Cert.Dwdown1.nD Cert.Dwdown1.τ).loc Cert.Dwdown1.main_arg1) = m ((c.tc : Thread Cert.Dwdown1.nD Cert.Dwdown1.τ).loc Cert.Dwdown1.main_arg1))
      ∧ r.2.sem = fun _ => 0)

def quiescent_Dwdown1Ideal [hDwdown1Ideal : Cert.Dwdown1Ideal.Facts] : Prop :=
  ∀ (m : (ℓ : Loc Cert.Dwdown1Ideal.nD Cert.Dwdown1Ideal.τ Cert.Dwdown1Ideal.sig) → Buf (Elt Ideal) ℓ) (g : Dev Cert.Dwdown1Ideal.nD → PrngReg), Pre_Dwdown1Ideal m →
    θ_run (Cert.Dwdown1Ideal.defs (F := Ideal)) (onTc (τ := Cert.Dwdown1Ideal.τ) (Cert.Dwdown1Ideal.main (F := Ideal))) ⟨m, fun _ => 0, g⟩ (fun r => (∀ c : Dev Cert.Dwdown1Ideal.nD,
      r.2.mem ((c.tc : Thread Cert.Dwdown1Ideal.nD Cert.Dwdown1Ideal.τ).loc Cert.Dwdown1Ideal.main_arg0) = m ((c.tc : Thread Cert.Dwdown1Ideal.nD Cert.Dwdown1Ideal.τ).loc Cert.Dwdown1Ideal.main_arg0)
      ∧ r.2.mem ((c.tc : Thread Cert.Dwdown1Ideal.nD Cert.Dwdown1Ideal.τ).loc Cert.Dwdown1Ideal.main_arg1) = m ((c.tc : Thread Cert.Dwdown1Ideal.nD Cert.Dwdown1Ideal.τ).loc Cert.Dwdown1Ideal.main_arg1))
      ∧ r.2.sem = fun _ => 0)

def quiescent_Dwdown1RefIdeal [hDwdown1RefIdeal : Cert.Dwdown1RefIdeal.Facts] : Prop :=
  ∀ (m : (ℓ : Loc Cert.Dwdown1RefIdeal.nD Cert.Dwdown1RefIdeal.τ Cert.Dwdown1RefIdeal.sig) → Buf (Elt Ideal) ℓ) (g : Dev Cert.Dwdown1RefIdeal.nD → PrngReg), Pre_Dwdown1RefIdeal m →
    θ_run (Cert.Dwdown1RefIdeal.defs (F := Ideal)) (onTc (τ := Cert.Dwdown1RefIdeal.τ) (Cert.Dwdown1RefIdeal.main (F := Ideal))) ⟨m, fun _ => 0, g⟩ (fun r => (∀ c : Dev Cert.Dwdown1RefIdeal.nD,
      r.2.mem ((c.tc : Thread Cert.Dwdown1RefIdeal.nD Cert.Dwdown1RefIdeal.τ).loc Cert.Dwdown1RefIdeal.main_arg0) = m ((c.tc : Thread Cert.Dwdown1RefIdeal.nD Cert.Dwdown1RefIdeal.τ).loc Cert.Dwdown1RefIdeal.main_arg0)
      ∧ r.2.mem ((c.tc : Thread Cert.Dwdown1RefIdeal.nD Cert.Dwdown1RefIdeal.τ).loc Cert.Dwdown1RefIdeal.main_arg1) = m ((c.tc : Thread Cert.Dwdown1RefIdeal.nD Cert.Dwdown1RefIdeal.τ).loc Cert.Dwdown1RefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Datt [hDatt : Cert.Datt.Facts] : Prop :=
  ∀ (m : (ℓ : Loc Cert.Datt.nD Cert.Datt.τ Cert.Datt.sig) → Buf (Elt Bits) ℓ) (g : Dev Cert.Datt.nD → PrngReg), Pre_Datt m →
    θ_run (Cert.Datt.defs (F := Bits)) (onTc (τ := Cert.Datt.τ) (Cert.Datt.main (F := Bits))) ⟨m, fun _ => 0, g⟩ (fun r => (∀ c : Dev Cert.Datt.nD,
      r.2.mem ((c.tc : Thread Cert.Datt.nD Cert.Datt.τ).loc Cert.Datt.main_arg0) = m ((c.tc : Thread Cert.Datt.nD Cert.Datt.τ).loc Cert.Datt.main_arg0)
      ∧ r.2.mem ((c.tc : Thread Cert.Datt.nD Cert.Datt.τ).loc Cert.Datt.main_arg1) = m ((c.tc : Thread Cert.Datt.nD Cert.Datt.τ).loc Cert.Datt.main_arg1))
      ∧ r.2.sem = fun _ => 0)

def quiescent_DattIdeal [hDattIdeal : Cert.DattIdeal.Facts] : Prop :=
  ∀ (m : (ℓ : Loc Cert.DattIdeal.nD Cert.DattIdeal.τ Cert.DattIdeal.sig) → Buf (Elt Ideal) ℓ) (g : Dev Cert.DattIdeal.nD → PrngReg), Pre_DattIdeal m →
    θ_run (Cert.DattIdeal.defs (F := Ideal)) (onTc (τ := Cert.DattIdeal.τ) (Cert.DattIdeal.main (F := Ideal))) ⟨m, fun _ => 0, g⟩ (fun r => (∀ c : Dev Cert.DattIdeal.nD,
      r.2.mem ((c.tc : Thread Cert.DattIdeal.nD Cert.DattIdeal.τ).loc Cert.DattIdeal.main_arg0) = m ((c.tc : Thread Cert.DattIdeal.nD Cert.DattIdeal.τ).loc Cert.DattIdeal.main_arg0)
      ∧ r.2.mem ((c.tc : Thread Cert.DattIdeal.nD Cert.DattIdeal.τ).loc Cert.DattIdeal.main_arg1) = m ((c.tc : Thread Cert.DattIdeal.nD Cert.DattIdeal.τ).loc Cert.DattIdeal.main_arg1))
      ∧ r.2.sem = fun _ => 0)

def quiescent_DattRefIdeal [hDattRefIdeal : Cert.DattRefIdeal.Facts] : Prop :=
  ∀ (m : (ℓ : Loc Cert.DattRefIdeal.nD Cert.DattRefIdeal.τ Cert.DattRefIdeal.sig) → Buf (Elt Ideal) ℓ) (g : Dev Cert.DattRefIdeal.nD → PrngReg), Pre_DattRefIdeal m →
    θ_run (Cert.DattRefIdeal.defs (F := Ideal)) (onTc (τ := Cert.DattRefIdeal.τ) (Cert.DattRefIdeal.main (F := Ideal))) ⟨m, fun _ => 0, g⟩ (fun r => (∀ c : Dev Cert.DattRefIdeal.nD,
      r.2.mem ((c.tc : Thread Cert.DattRefIdeal.nD Cert.DattRefIdeal.τ).loc Cert.DattRefIdeal.main_arg0) = m ((c.tc : Thread Cert.DattRefIdeal.nD Cert.DattRefIdeal.τ).loc Cert.DattRefIdeal.main_arg0)
      ∧ r.2.mem ((c.tc : Thread Cert.DattRefIdeal.nD Cert.DattRefIdeal.τ).loc Cert.DattRefIdeal.main_arg1) = m ((c.tc : Thread Cert.DattRefIdeal.nD Cert.DattRefIdeal.τ).loc Cert.DattRefIdeal.main_arg1))
      ∧ r.2.sem = fun _ => 0)

def quiescent_Inbwd [hInbwd : Cert.Inbwd.Facts] : Prop :=
  ∀ (m : (ℓ : Loc Cert.Inbwd.nD Cert.Inbwd.τ Cert.Inbwd.sig) → Buf (Elt Bits) ℓ) (g : Dev Cert.Inbwd.nD → PrngReg), Pre_Inbwd m →
    θ_run (Cert.Inbwd.defs (F := Bits)) (onTc (τ := Cert.Inbwd.τ) (Cert.Inbwd.main (F := Bits))) ⟨m, fun _ => 0, g⟩ (fun r => (∀ c : Dev Cert.Inbwd.nD,
      r.2.mem ((c.tc : Thread Cert.Inbwd.nD Cert.Inbwd.τ).loc Cert.Inbwd.main_arg0) = m ((c.tc : Thread Cert.Inbwd.nD Cert.Inbwd.τ).loc Cert.Inbwd.main_arg0)
      ∧ r.2.mem ((c.tc : Thread Cert.Inbwd.nD Cert.Inbwd.τ).loc Cert.Inbwd.main_arg1) = m ((c.tc : Thread Cert.Inbwd.nD Cert.Inbwd.τ).loc Cert.Inbwd.main_arg1)
      ∧ r.2.mem ((c.tc : Thread Cert.Inbwd.nD Cert.Inbwd.τ).loc Cert.Inbwd.main_arg2) = m ((c.tc : Thread Cert.Inbwd.nD Cert.Inbwd.τ).loc Cert.Inbwd.main_arg2)
      ∧ r.2.mem ((c.tc : Thread Cert.Inbwd.nD Cert.Inbwd.τ).loc Cert.Inbwd.main_arg3) = m ((c.tc : Thread Cert.Inbwd.nD Cert.Inbwd.τ).loc Cert.Inbwd.main_arg3)
      ∧ r.2.mem ((c.tc : Thread Cert.Inbwd.nD Cert.Inbwd.τ).loc Cert.Inbwd.main_arg4) = m ((c.tc : Thread Cert.Inbwd.nD Cert.Inbwd.τ).loc Cert.Inbwd.main_arg4))
      ∧ r.2.sem = fun _ => 0)

def quiescent_InbwdIdeal [hInbwdIdeal : Cert.InbwdIdeal.Facts] : Prop :=
  ∀ (m : (ℓ : Loc Cert.InbwdIdeal.nD Cert.InbwdIdeal.τ Cert.InbwdIdeal.sig) → Buf (Elt Ideal) ℓ) (g : Dev Cert.InbwdIdeal.nD → PrngReg), Pre_InbwdIdeal m →
    θ_run (Cert.InbwdIdeal.defs (F := Ideal)) (onTc (τ := Cert.InbwdIdeal.τ) (Cert.InbwdIdeal.main (F := Ideal))) ⟨m, fun _ => 0, g⟩ (fun r => (∀ c : Dev Cert.InbwdIdeal.nD,
      r.2.mem ((c.tc : Thread Cert.InbwdIdeal.nD Cert.InbwdIdeal.τ).loc Cert.InbwdIdeal.main_arg0) = m ((c.tc : Thread Cert.InbwdIdeal.nD Cert.InbwdIdeal.τ).loc Cert.InbwdIdeal.main_arg0)
      ∧ r.2.mem ((c.tc : Thread Cert.InbwdIdeal.nD Cert.InbwdIdeal.τ).loc Cert.InbwdIdeal.main_arg1) = m ((c.tc : Thread Cert.InbwdIdeal.nD Cert.InbwdIdeal.τ).loc Cert.InbwdIdeal.main_arg1)
      ∧ r.2.mem ((c.tc : Thread Cert.InbwdIdeal.nD Cert.InbwdIdeal.τ).loc Cert.InbwdIdeal.main_arg2) = m ((c.tc : Thread Cert.InbwdIdeal.nD Cert.InbwdIdeal.τ).loc Cert.InbwdIdeal.main_arg2)
      ∧ r.2.mem ((c.tc : Thread Cert.InbwdIdeal.nD Cert.InbwdIdeal.τ).loc Cert.InbwdIdeal.main_arg3) = m ((c.tc : Thread Cert.InbwdIdeal.nD Cert.InbwdIdeal.τ).loc Cert.InbwdIdeal.main_arg3)
      ∧ r.2.mem ((c.tc : Thread Cert.InbwdIdeal.nD Cert.InbwdIdeal.τ).loc Cert.InbwdIdeal.main_arg4) = m ((c.tc : Thread Cert.InbwdIdeal.nD Cert.InbwdIdeal.τ).loc Cert.InbwdIdeal.main_arg4))
      ∧ r.2.sem = fun _ => 0)

def quiescent_InbwdRefIdeal [hInbwdRefIdeal : Cert.InbwdRefIdeal.Facts] : Prop :=
  ∀ (m : (ℓ : Loc Cert.InbwdRefIdeal.nD Cert.InbwdRefIdeal.τ Cert.InbwdRefIdeal.sig) → Buf (Elt Ideal) ℓ) (g : Dev Cert.InbwdRefIdeal.nD → PrngReg), Pre_InbwdRefIdeal m →
    θ_run (Cert.InbwdRefIdeal.defs (F := Ideal)) (onTc (τ := Cert.InbwdRefIdeal.τ) (Cert.InbwdRefIdeal.main (F := Ideal))) ⟨m, fun _ => 0, g⟩ (fun r => (∀ c : Dev Cert.InbwdRefIdeal.nD,
      r.2.mem ((c.tc : Thread Cert.InbwdRefIdeal.nD Cert.InbwdRefIdeal.τ).loc Cert.InbwdRefIdeal.main_arg0) = m ((c.tc : Thread Cert.InbwdRefIdeal.nD Cert.InbwdRefIdeal.τ).loc Cert.InbwdRefIdeal.main_arg0)
      ∧ r.2.mem ((c.tc : Thread Cert.InbwdRefIdeal.nD Cert.InbwdRefIdeal.τ).loc Cert.InbwdRefIdeal.main_arg1) = m ((c.tc : Thread Cert.InbwdRefIdeal.nD Cert.InbwdRefIdeal.τ).loc Cert.InbwdRefIdeal.main_arg1)
      ∧ r.2.mem ((c.tc : Thread Cert.InbwdRefIdeal.nD Cert.InbwdRefIdeal.τ).loc Cert.InbwdRefIdeal.main_arg2) = m ((c.tc : Thread Cert.InbwdRefIdeal.nD Cert.InbwdRefIdeal.τ).loc Cert.InbwdRefIdeal.main_arg2)
      ∧ r.2.mem ((c.tc : Thread Cert.InbwdRefIdeal.nD Cert.InbwdRefIdeal.τ).loc Cert.InbwdRefIdeal.main_arg3) = m ((c.tc : Thread Cert.InbwdRefIdeal.nD Cert.InbwdRefIdeal.τ).loc Cert.InbwdRefIdeal.main_arg3)
      ∧ r.2.mem ((c.tc : Thread Cert.InbwdRefIdeal.nD Cert.InbwdRefIdeal.τ).loc Cert.InbwdRefIdeal.main_arg4) = m ((c.tc : Thread Cert.InbwdRefIdeal.nD Cert.InbwdRefIdeal.τ).loc Cert.InbwdRefIdeal.main_arg4))
      ∧ r.2.sem = fun _ => 0)

def quiescent_Outb [hOutb : Cert.Outb.Facts] : Prop :=
  ∀ (m : (ℓ : Loc Cert.Outb.nD Cert.Outb.τ Cert.Outb.sig) → Buf (Elt Bits) ℓ) (g : Dev Cert.Outb.nD → PrngReg), Pre_Outb m →
    θ_run (Cert.Outb.defs (F := Bits)) (onTc (τ := Cert.Outb.τ) (Cert.Outb.main (F := Bits))) ⟨m, fun _ => 0, g⟩ (fun r => (∀ c : Dev Cert.Outb.nD,
      r.2.mem ((c.tc : Thread Cert.Outb.nD Cert.Outb.τ).loc Cert.Outb.main_arg0) = m ((c.tc : Thread Cert.Outb.nD Cert.Outb.τ).loc Cert.Outb.main_arg0)
      ∧ r.2.mem ((c.tc : Thread Cert.Outb.nD Cert.Outb.τ).loc Cert.Outb.main_arg1) = m ((c.tc : Thread Cert.Outb.nD Cert.Outb.τ).loc Cert.Outb.main_arg1)
      ∧ r.2.mem ((c.tc : Thread Cert.Outb.nD Cert.Outb.τ).loc Cert.Outb.main_arg2) = m ((c.tc : Thread Cert.Outb.nD Cert.Outb.τ).loc Cert.Outb.main_arg2)
      ∧ r.2.mem ((c.tc : Thread Cert.Outb.nD Cert.Outb.τ).loc Cert.Outb.main_arg3) = m ((c.tc : Thread Cert.Outb.nD Cert.Outb.τ).loc Cert.Outb.main_arg3))
      ∧ r.2.sem = fun _ => 0)

def quiescent_OutbIdeal [hOutbIdeal : Cert.OutbIdeal.Facts] : Prop :=
  ∀ (m : (ℓ : Loc Cert.OutbIdeal.nD Cert.OutbIdeal.τ Cert.OutbIdeal.sig) → Buf (Elt Ideal) ℓ) (g : Dev Cert.OutbIdeal.nD → PrngReg), Pre_OutbIdeal m →
    θ_run (Cert.OutbIdeal.defs (F := Ideal)) (onTc (τ := Cert.OutbIdeal.τ) (Cert.OutbIdeal.main (F := Ideal))) ⟨m, fun _ => 0, g⟩ (fun r => (∀ c : Dev Cert.OutbIdeal.nD,
      r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
      ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
      ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
      ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3))
      ∧ r.2.sem = fun _ => 0)

def quiescent_OutbIdeal_pre_outb_finite [hOutbIdeal : Cert.OutbIdeal.Facts] [hPre_outb_finite : Cert.Pre_outb_finite.Facts] : Prop :=
  ∀ (m : (ℓ : Loc Cert.OutbIdeal.nD Cert.OutbIdeal.τ Cert.OutbIdeal.sig) → Buf (Elt Ideal) ℓ) (g : Dev Cert.OutbIdeal.nD → PrngReg), Pre_OutbIdeal_outb_finite m →
    θ_run (Cert.OutbIdeal.defs (F := Ideal)) (onTc (τ := Cert.OutbIdeal.τ) (Cert.OutbIdeal.main (F := Ideal))) ⟨m, fun _ => 0, g⟩ (fun r => (∀ c : Dev Cert.OutbIdeal.nD,
      r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
      ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
      ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
      ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3))
      ∧ r.2.sem = fun _ => 0)

def quiescent_OutbRefIdeal [hOutbRefIdeal : Cert.OutbRefIdeal.Facts] : Prop :=
  ∀ (m : (ℓ : Loc Cert.OutbRefIdeal.nD Cert.OutbRefIdeal.τ Cert.OutbRefIdeal.sig) → Buf (Elt Ideal) ℓ) (g : Dev Cert.OutbRefIdeal.nD → PrngReg), Pre_OutbRefIdeal m →
    θ_run (Cert.OutbRefIdeal.defs (F := Ideal)) (onTc (τ := Cert.OutbRefIdeal.τ) (Cert.OutbRefIdeal.main (F := Ideal))) ⟨m, fun _ => 0, g⟩ (fun r => (∀ c : Dev Cert.OutbRefIdeal.nD,
      r.2.mem ((c.tc : Thread Cert.OutbRefIdeal.nD Cert.OutbRefIdeal.τ).loc Cert.OutbRefIdeal.main_arg0) = m ((c.tc : Thread Cert.OutbRefIdeal.nD Cert.OutbRefIdeal.τ).loc Cert.OutbRefIdeal.main_arg0)
      ∧ r.2.mem ((c.tc : Thread Cert.OutbRefIdeal.nD Cert.OutbRefIdeal.τ).loc Cert.OutbRefIdeal.main_arg1) = m ((c.tc : Thread Cert.OutbRefIdeal.nD Cert.OutbRefIdeal.τ).loc Cert.OutbRefIdeal.main_arg1)
      ∧ r.2.mem ((c.tc : Thread Cert.OutbRefIdeal.nD Cert.OutbRefIdeal.τ).loc Cert.OutbRefIdeal.main_arg2) = m ((c.tc : Thread Cert.OutbRefIdeal.nD Cert.OutbRefIdeal.τ).loc Cert.OutbRefIdeal.main_arg2)
      ∧ r.2.mem ((c.tc : Thread Cert.OutbRefIdeal.nD Cert.OutbRefIdeal.τ).loc Cert.OutbRefIdeal.main_arg3) = m ((c.tc : Thread Cert.OutbRefIdeal.nD Cert.OutbRefIdeal.τ).loc Cert.OutbRefIdeal.main_arg3))
      ∧ r.2.sem = fun _ => 0)

def quiescent_OutbRefIdeal_pre_outb_finite [hOutbRefIdeal : Cert.OutbRefIdeal.Facts] [hPre_outb_finite : Cert.Pre_outb_finite.Facts] : Prop :=
  ∀ (m : (ℓ : Loc Cert.OutbRefIdeal.nD Cert.OutbRefIdeal.τ Cert.OutbRefIdeal.sig) → Buf (Elt Ideal) ℓ) (g : Dev Cert.OutbRefIdeal.nD → PrngReg), Pre_OutbRefIdeal_outb_finite m →
    θ_run (Cert.OutbRefIdeal.defs (F := Ideal)) (onTc (τ := Cert.OutbRefIdeal.τ) (Cert.OutbRefIdeal.main (F := Ideal))) ⟨m, fun _ => 0, g⟩ (fun r => (∀ c : Dev Cert.OutbRefIdeal.nD,
      r.2.mem ((c.tc : Thread Cert.OutbRefIdeal.nD Cert.OutbRefIdeal.τ).loc Cert.OutbRefIdeal.main_arg0) = m ((c.tc : Thread Cert.OutbRefIdeal.nD Cert.OutbRefIdeal.τ).loc Cert.OutbRefIdeal.main_arg0)
      ∧ r.2.mem ((c.tc : Thread Cert.OutbRefIdeal.nD Cert.OutbRefIdeal.τ).loc Cert.OutbRefIdeal.main_arg1) = m ((c.tc : Thread Cert.OutbRefIdeal.nD Cert.OutbRefIdeal.τ).loc Cert.OutbRefIdeal.main_arg1)
      ∧ r.2.mem ((c.tc : Thread Cert.OutbRefIdeal.nD Cert.OutbRefIdeal.τ).loc Cert.OutbRefIdeal.main_arg2) = m ((c.tc : Thread Cert.OutbRefIdeal.nD Cert.OutbRefIdeal.τ).loc Cert.OutbRefIdeal.main_arg2)
      ∧ r.2.mem ((c.tc : Thread Cert.OutbRefIdeal.nD Cert.OutbRefIdeal.τ).loc Cert.OutbRefIdeal.main_arg3) = m ((c.tc : Thread Cert.OutbRefIdeal.nD Cert.OutbRefIdeal.τ).loc Cert.OutbRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Lruin [hLruin : Cert.Lruin.Facts] : Prop :=
  ∀ (m : (ℓ : Loc Cert.Lruin.nD Cert.Lruin.τ Cert.Lruin.sig) → Buf (Elt Bits) ℓ) (g : Dev Cert.Lruin.nD → PrngReg), Pre_Lruin m →
    θ_run (Cert.Lruin.defs (F := Bits)) (onTc (τ := Cert.Lruin.τ) (Cert.Lruin.main (F := Bits))) ⟨m, fun _ => 0, g⟩ (fun r => (∀ c : Dev Cert.Lruin.nD,
      r.2.mem ((c.tc : Thread Cert.Lruin.nD Cert.Lruin.τ).loc Cert.Lruin.main_arg0) = m ((c.tc : Thread Cert.Lruin.nD Cert.Lruin.τ).loc Cert.Lruin.main_arg0)
      ∧ r.2.mem ((c.tc : Thread Cert.Lruin.nD Cert.Lruin.τ).loc Cert.Lruin.main_arg1) = m ((c.tc : Thread Cert.Lruin.nD Cert.Lruin.τ).loc Cert.Lruin.main_arg1)
      ∧ r.2.mem ((c.tc : Thread Cert.Lruin.nD Cert.Lruin.τ).loc Cert.Lruin.main_arg2) = m ((c.tc : Thread Cert.Lruin.nD Cert.Lruin.τ).loc Cert.Lruin.main_arg2))
      ∧ r.2.sem = fun _ => 0)

def quiescent_LruinIdeal [hLruinIdeal : Cert.LruinIdeal.Facts] : Prop :=
  ∀ (m : (ℓ : Loc Cert.LruinIdeal.nD Cert.LruinIdeal.τ Cert.LruinIdeal.sig) → Buf (Elt Ideal) ℓ) (g : Dev Cert.LruinIdeal.nD → PrngReg), Pre_LruinIdeal m →
    θ_run (Cert.LruinIdeal.defs (F := Ideal)) (onTc (τ := Cert.LruinIdeal.τ) (Cert.LruinIdeal.main (F := Ideal))) ⟨m, fun _ => 0, g⟩ (fun r => (∀ c : Dev Cert.LruinIdeal.nD,
      r.2.mem ((c.tc : Thread Cert.LruinIdeal.nD Cert.LruinIdeal.τ).loc Cert.LruinIdeal.main_arg0) = m ((c.tc : Thread Cert.LruinIdeal.nD Cert.LruinIdeal.τ).loc Cert.LruinIdeal.main_arg0)
      ∧ r.2.mem ((c.tc : Thread Cert.LruinIdeal.nD Cert.LruinIdeal.τ).loc Cert.LruinIdeal.main_arg1) = m ((c.tc : Thread Cert.LruinIdeal.nD Cert.LruinIdeal.τ).loc Cert.LruinIdeal.main_arg1)
      ∧ r.2.mem ((c.tc : Thread Cert.LruinIdeal.nD Cert.LruinIdeal.τ).loc Cert.LruinIdeal.main_arg2) = m ((c.tc : Thread Cert.LruinIdeal.nD Cert.LruinIdeal.τ).loc Cert.LruinIdeal.main_arg2))
      ∧ r.2.sem = fun _ => 0)

def quiescent_LruinRefIdeal [hLruinRefIdeal : Cert.LruinRefIdeal.Facts] : Prop :=
  ∀ (m : (ℓ : Loc Cert.LruinRefIdeal.nD Cert.LruinRefIdeal.τ Cert.LruinRefIdeal.sig) → Buf (Elt Ideal) ℓ) (g : Dev Cert.LruinRefIdeal.nD → PrngReg), Pre_LruinRefIdeal m →
    θ_run (Cert.LruinRefIdeal.defs (F := Ideal)) (onTc (τ := Cert.LruinRefIdeal.τ) (Cert.LruinRefIdeal.main (F := Ideal))) ⟨m, fun _ => 0, g⟩ (fun r => (∀ c : Dev Cert.LruinRefIdeal.nD,
      r.2.mem ((c.tc : Thread Cert.LruinRefIdeal.nD Cert.LruinRefIdeal.τ).loc Cert.LruinRefIdeal.main_arg0) = m ((c.tc : Thread Cert.LruinRefIdeal.nD Cert.LruinRefIdeal.τ).loc Cert.LruinRefIdeal.main_arg0)
      ∧ r.2.mem ((c.tc : Thread Cert.LruinRefIdeal.nD Cert.LruinRefIdeal.τ).loc Cert.LruinRefIdeal.main_arg1) = m ((c.tc : Thread Cert.LruinRefIdeal.nD Cert.LruinRefIdeal.τ).loc Cert.LruinRefIdeal.main_arg1)
      ∧ r.2.mem ((c.tc : Thread Cert.LruinRefIdeal.nD Cert.LruinRefIdeal.τ).loc Cert.LruinRefIdeal.main_arg2) = m ((c.tc : Thread Cert.LruinRefIdeal.nD Cert.LruinRefIdeal.τ).loc Cert.LruinRefIdeal.main_arg2))
      ∧ r.2.sem = fun _ => 0)

def quiescent_Lruout [hLruout : Cert.Lruout.Facts] : Prop :=
  ∀ (m : (ℓ : Loc Cert.Lruout.nD Cert.Lruout.τ Cert.Lruout.sig) → Buf (Elt Bits) ℓ) (g : Dev Cert.Lruout.nD → PrngReg), Pre_Lruout m →
    θ_run (Cert.Lruout.defs (F := Bits)) (onTc (τ := Cert.Lruout.τ) (Cert.Lruout.main (F := Bits))) ⟨m, fun _ => 0, g⟩ (fun r => (∀ c : Dev Cert.Lruout.nD,
      r.2.mem ((c.tc : Thread Cert.Lruout.nD Cert.Lruout.τ).loc Cert.Lruout.main_arg0) = m ((c.tc : Thread Cert.Lruout.nD Cert.Lruout.τ).loc Cert.Lruout.main_arg0)
      ∧ r.2.mem ((c.tc : Thread Cert.Lruout.nD Cert.Lruout.τ).loc Cert.Lruout.main_arg1) = m ((c.tc : Thread Cert.Lruout.nD Cert.Lruout.τ).loc Cert.Lruout.main_arg1)
      ∧ r.2.mem ((c.tc : Thread Cert.Lruout.nD Cert.Lruout.τ).loc Cert.Lruout.main_arg2) = m ((c.tc : Thread Cert.Lruout.nD Cert.Lruout.τ).loc Cert.Lruout.main_arg2)
      ∧ r.2.mem ((c.tc : Thread Cert.Lruout.nD Cert.Lruout.τ).loc Cert.Lruout.main_arg3) = m ((c.tc : Thread Cert.Lruout.nD Cert.Lruout.τ).loc Cert.Lruout.main_arg3))
      ∧ r.2.sem = fun _ => 0)

def quiescent_LruoutIdeal [hLruoutIdeal : Cert.LruoutIdeal.Facts] : Prop :=
  ∀ (m : (ℓ : Loc Cert.LruoutIdeal.nD Cert.LruoutIdeal.τ Cert.LruoutIdeal.sig) → Buf (Elt Ideal) ℓ) (g : Dev Cert.LruoutIdeal.nD → PrngReg), Pre_LruoutIdeal m →
    θ_run (Cert.LruoutIdeal.defs (F := Ideal)) (onTc (τ := Cert.LruoutIdeal.τ) (Cert.LruoutIdeal.main (F := Ideal))) ⟨m, fun _ => 0, g⟩ (fun r => (∀ c : Dev Cert.LruoutIdeal.nD,
      r.2.mem ((c.tc : Thread Cert.LruoutIdeal.nD Cert.LruoutIdeal.τ).loc Cert.LruoutIdeal.main_arg0) = m ((c.tc : Thread Cert.LruoutIdeal.nD Cert.LruoutIdeal.τ).loc Cert.LruoutIdeal.main_arg0)
      ∧ r.2.mem ((c.tc : Thread Cert.LruoutIdeal.nD Cert.LruoutIdeal.τ).loc Cert.LruoutIdeal.main_arg1) = m ((c.tc : Thread Cert.LruoutIdeal.nD Cert.LruoutIdeal.τ).loc Cert.LruoutIdeal.main_arg1)
      ∧ r.2.mem ((c.tc : Thread Cert.LruoutIdeal.nD Cert.LruoutIdeal.τ).loc Cert.LruoutIdeal.main_arg2) = m ((c.tc : Thread Cert.LruoutIdeal.nD Cert.LruoutIdeal.τ).loc Cert.LruoutIdeal.main_arg2)
      ∧ r.2.mem ((c.tc : Thread Cert.LruoutIdeal.nD Cert.LruoutIdeal.τ).loc Cert.LruoutIdeal.main_arg3) = m ((c.tc : Thread Cert.LruoutIdeal.nD Cert.LruoutIdeal.τ).loc Cert.LruoutIdeal.main_arg3))
      ∧ r.2.sem = fun _ => 0)

def quiescent_LruoutRefIdeal [hLruoutRefIdeal : Cert.LruoutRefIdeal.Facts] : Prop :=
  ∀ (m : (ℓ : Loc Cert.LruoutRefIdeal.nD Cert.LruoutRefIdeal.τ Cert.LruoutRefIdeal.sig) → Buf (Elt Ideal) ℓ) (g : Dev Cert.LruoutRefIdeal.nD → PrngReg), Pre_LruoutRefIdeal m →
    θ_run (Cert.LruoutRefIdeal.defs (F := Ideal)) (onTc (τ := Cert.LruoutRefIdeal.τ) (Cert.LruoutRefIdeal.main (F := Ideal))) ⟨m, fun _ => 0, g⟩ (fun r => (∀ c : Dev Cert.LruoutRefIdeal.nD,
      r.2.mem ((c.tc : Thread Cert.LruoutRefIdeal.nD Cert.LruoutRefIdeal.τ).loc Cert.LruoutRefIdeal.main_arg0) = m ((c.tc : Thread Cert.LruoutRefIdeal.nD Cert.LruoutRefIdeal.τ).loc Cert.LruoutRefIdeal.main_arg0)
      ∧ r.2.mem ((c.tc : Thread Cert.LruoutRefIdeal.nD Cert.LruoutRefIdeal.τ).loc Cert.LruoutRefIdeal.main_arg1) = m ((c.tc : Thread Cert.LruoutRefIdeal.nD Cert.LruoutRefIdeal.τ).loc Cert.LruoutRefIdeal.main_arg1)
      ∧ r.2.mem ((c.tc : Thread Cert.LruoutRefIdeal.nD Cert.LruoutRefIdeal.τ).loc Cert.LruoutRefIdeal.main_arg2) = m ((c.tc : Thread Cert.LruoutRefIdeal.nD Cert.LruoutRefIdeal.τ).loc Cert.LruoutRefIdeal.main_arg2)
      ∧ r.2.mem ((c.tc : Thread Cert.LruoutRefIdeal.nD Cert.LruoutRefIdeal.τ).loc Cert.LruoutRefIdeal.main_arg3) = m ((c.tc : Thread Cert.LruoutRefIdeal.nD Cert.LruoutRefIdeal.τ).loc Cert.LruoutRefIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_Adams [hAdams : Cert.Adams.Facts] : Prop :=
  ∀ (m : (ℓ : Loc Cert.Adams.nD Cert.Adams.τ Cert.Adams.sig) → Buf (Elt Bits) ℓ) (g : Dev Cert.Adams.nD → PrngReg), Pre_Adams m →
    θ_run (Cert.Adams.defs (F := Bits)) (onTc (τ := Cert.Adams.τ) (Cert.Adams.main (F := Bits))) ⟨m, fun _ => 0, g⟩ (fun r => (∀ c : Dev Cert.Adams.nD,
      r.2.mem ((c.tc : Thread Cert.Adams.nD Cert.Adams.τ).loc Cert.Adams.main_arg0) = m ((c.tc : Thread Cert.Adams.nD Cert.Adams.τ).loc Cert.Adams.main_arg0)
      ∧ r.2.mem ((c.tc : Thread Cert.Adams.nD Cert.Adams.τ).loc Cert.Adams.main_arg1) = m ((c.tc : Thread Cert.Adams.nD Cert.Adams.τ).loc Cert.Adams.main_arg1)
      ∧ r.2.mem ((c.tc : Thread Cert.Adams.nD Cert.Adams.τ).loc Cert.Adams.main_arg2) = m ((c.tc : Thread Cert.Adams.nD Cert.Adams.τ).loc Cert.Adams.main_arg2)
      ∧ r.2.mem ((c.tc : Thread Cert.Adams.nD Cert.Adams.τ).loc Cert.Adams.main_arg3) = m ((c.tc : Thread Cert.Adams.nD Cert.Adams.τ).loc Cert.Adams.main_arg3))
      ∧ r.2.sem = fun _ => 0)

def quiescent_AdamsIdeal [hAdamsIdeal : Cert.AdamsIdeal.Facts] : Prop :=
  ∀ (m : (ℓ : Loc Cert.AdamsIdeal.nD Cert.AdamsIdeal.τ Cert.AdamsIdeal.sig) → Buf (Elt Ideal) ℓ) (g : Dev Cert.AdamsIdeal.nD → PrngReg), Pre_AdamsIdeal m →
    θ_run (Cert.AdamsIdeal.defs (F := Ideal)) (onTc (τ := Cert.AdamsIdeal.τ) (Cert.AdamsIdeal.main (F := Ideal))) ⟨m, fun _ => 0, g⟩ (fun r => (∀ c : Dev Cert.AdamsIdeal.nD,
      r.2.mem ((c.tc : Thread Cert.AdamsIdeal.nD Cert.AdamsIdeal.τ).loc Cert.AdamsIdeal.main_arg0) = m ((c.tc : Thread Cert.AdamsIdeal.nD Cert.AdamsIdeal.τ).loc Cert.AdamsIdeal.main_arg0)
      ∧ r.2.mem ((c.tc : Thread Cert.AdamsIdeal.nD Cert.AdamsIdeal.τ).loc Cert.AdamsIdeal.main_arg1) = m ((c.tc : Thread Cert.AdamsIdeal.nD Cert.AdamsIdeal.τ).loc Cert.AdamsIdeal.main_arg1)
      ∧ r.2.mem ((c.tc : Thread Cert.AdamsIdeal.nD Cert.AdamsIdeal.τ).loc Cert.AdamsIdeal.main_arg2) = m ((c.tc : Thread Cert.AdamsIdeal.nD Cert.AdamsIdeal.τ).loc Cert.AdamsIdeal.main_arg2)
      ∧ r.2.mem ((c.tc : Thread Cert.AdamsIdeal.nD Cert.AdamsIdeal.τ).loc Cert.AdamsIdeal.main_arg3) = m ((c.tc : Thread Cert.AdamsIdeal.nD Cert.AdamsIdeal.τ).loc Cert.AdamsIdeal.main_arg3))
      ∧ r.2.sem = fun _ => 0)

def quiescent_AdamsRefIdeal [hAdamsRefIdeal : Cert.AdamsRefIdeal.Facts] : Prop :=
  ∀ (m : (ℓ : Loc Cert.AdamsRefIdeal.nD Cert.AdamsRefIdeal.τ Cert.AdamsRefIdeal.sig) → Buf (Elt Ideal) ℓ) (g : Dev Cert.AdamsRefIdeal.nD → PrngReg), Pre_AdamsRefIdeal m →
    θ_run (Cert.AdamsRefIdeal.defs (F := Ideal)) (onTc (τ := Cert.AdamsRefIdeal.τ) (Cert.AdamsRefIdeal.main (F := Ideal))) ⟨m, fun _ => 0, g⟩ (fun r => (∀ c : Dev Cert.AdamsRefIdeal.nD,
      r.2.mem ((c.tc : Thread Cert.AdamsRefIdeal.nD Cert.AdamsRefIdeal.τ).loc Cert.AdamsRefIdeal.main_arg0) = m ((c.tc : Thread Cert.AdamsRefIdeal.nD Cert.AdamsRefIdeal.τ).loc Cert.AdamsRefIdeal.main_arg0)
      ∧ r.2.mem ((c.tc : Thread Cert.AdamsRefIdeal.nD Cert.AdamsRefIdeal.τ).loc Cert.AdamsRefIdeal.main_arg1) = m ((c.tc : Thread Cert.AdamsRefIdeal.nD Cert.AdamsRefIdeal.τ).loc Cert.AdamsRefIdeal.main_arg1)
      ∧ r.2.mem ((c.tc : Thread Cert.AdamsRefIdeal.nD Cert.AdamsRefIdeal.τ).loc Cert.AdamsRefIdeal.main_arg2) = m ((c.tc : Thread Cert.AdamsRefIdeal.nD Cert.AdamsRefIdeal.τ).loc Cert.AdamsRefIdeal.main_arg2)
      ∧ r.2.mem ((c.tc : Thread Cert.AdamsRefIdeal.nD Cert.AdamsRefIdeal.τ).loc Cert.AdamsRefIdeal.main_arg3) = m ((c.tc : Thread Cert.AdamsRefIdeal.nD Cert.AdamsRefIdeal.τ).loc Cert.AdamsRefIdeal.main_arg3))
      ∧ r.2.sem = fun _ => 0)

def quiescent_Adamup [hAdamup : Cert.Adamup.Facts] : Prop :=
  ∀ (m : (ℓ : Loc Cert.Adamup.nD Cert.Adamup.τ Cert.Adamup.sig) → Buf (Elt Bits) ℓ) (g : Dev Cert.Adamup.nD → PrngReg), Pre_Adamup m →
    θ_run (Cert.Adamup.defs (F := Bits)) (onTc (τ := Cert.Adamup.τ) (Cert.Adamup.main (F := Bits))) ⟨m, fun _ => 0, g⟩ (fun r => (∀ c : Dev Cert.Adamup.nD,
      r.2.mem ((c.tc : Thread Cert.Adamup.nD Cert.Adamup.τ).loc Cert.Adamup.main_arg0) = m ((c.tc : Thread Cert.Adamup.nD Cert.Adamup.τ).loc Cert.Adamup.main_arg0)
      ∧ r.2.mem ((c.tc : Thread Cert.Adamup.nD Cert.Adamup.τ).loc Cert.Adamup.main_arg1) = m ((c.tc : Thread Cert.Adamup.nD Cert.Adamup.τ).loc Cert.Adamup.main_arg1)
      ∧ r.2.mem ((c.tc : Thread Cert.Adamup.nD Cert.Adamup.τ).loc Cert.Adamup.main_arg2) = m ((c.tc : Thread Cert.Adamup.nD Cert.Adamup.τ).loc Cert.Adamup.main_arg2)
      ∧ r.2.mem ((c.tc : Thread Cert.Adamup.nD Cert.Adamup.τ).loc Cert.Adamup.main_arg3) = m ((c.tc : Thread Cert.Adamup.nD Cert.Adamup.τ).loc Cert.Adamup.main_arg3)
      ∧ r.2.mem ((c.tc : Thread Cert.Adamup.nD Cert.Adamup.τ).loc Cert.Adamup.main_arg4) = m ((c.tc : Thread Cert.Adamup.nD Cert.Adamup.τ).loc Cert.Adamup.main_arg4)
      ∧ r.2.mem ((c.tc : Thread Cert.Adamup.nD Cert.Adamup.τ).loc Cert.Adamup.main_arg5) = m ((c.tc : Thread Cert.Adamup.nD Cert.Adamup.τ).loc Cert.Adamup.main_arg5))
      ∧ r.2.sem = fun _ => 0)

def quiescent_AdamupIdeal [hAdamupIdeal : Cert.AdamupIdeal.Facts] : Prop :=
  ∀ (m : (ℓ : Loc Cert.AdamupIdeal.nD Cert.AdamupIdeal.τ Cert.AdamupIdeal.sig) → Buf (Elt Ideal) ℓ) (g : Dev Cert.AdamupIdeal.nD → PrngReg), Pre_AdamupIdeal m →
    θ_run (Cert.AdamupIdeal.defs (F := Ideal)) (onTc (τ := Cert.AdamupIdeal.τ) (Cert.AdamupIdeal.main (F := Ideal))) ⟨m, fun _ => 0, g⟩ (fun r => (∀ c : Dev Cert.AdamupIdeal.nD,
      r.2.mem ((c.tc : Thread Cert.AdamupIdeal.nD Cert.AdamupIdeal.τ).loc Cert.AdamupIdeal.main_arg0) = m ((c.tc : Thread Cert.AdamupIdeal.nD Cert.AdamupIdeal.τ).loc Cert.AdamupIdeal.main_arg0)
      ∧ r.2.mem ((c.tc : Thread Cert.AdamupIdeal.nD Cert.AdamupIdeal.τ).loc Cert.AdamupIdeal.main_arg1) = m ((c.tc : Thread Cert.AdamupIdeal.nD Cert.AdamupIdeal.τ).loc Cert.AdamupIdeal.main_arg1)
      ∧ r.2.mem ((c.tc : Thread Cert.AdamupIdeal.nD Cert.AdamupIdeal.τ).loc Cert.AdamupIdeal.main_arg2) = m ((c.tc : Thread Cert.AdamupIdeal.nD Cert.AdamupIdeal.τ).loc Cert.AdamupIdeal.main_arg2)
      ∧ r.2.mem ((c.tc : Thread Cert.AdamupIdeal.nD Cert.AdamupIdeal.τ).loc Cert.AdamupIdeal.main_arg3) = m ((c.tc : Thread Cert.AdamupIdeal.nD Cert.AdamupIdeal.τ).loc Cert.AdamupIdeal.main_arg3)
      ∧ r.2.mem ((c.tc : Thread Cert.AdamupIdeal.nD Cert.AdamupIdeal.τ).loc Cert.AdamupIdeal.main_arg4) = m ((c.tc : Thread Cert.AdamupIdeal.nD Cert.AdamupIdeal.τ).loc Cert.AdamupIdeal.main_arg4)
      ∧ r.2.mem ((c.tc : Thread Cert.AdamupIdeal.nD Cert.AdamupIdeal.τ).loc Cert.AdamupIdeal.main_arg5) = m ((c.tc : Thread Cert.AdamupIdeal.nD Cert.AdamupIdeal.τ).loc Cert.AdamupIdeal.main_arg5))
      ∧ r.2.sem = fun _ => 0)

def quiescent_AdamupRefIdeal [hAdamupRefIdeal : Cert.AdamupRefIdeal.Facts] : Prop :=
  ∀ (m : (ℓ : Loc Cert.AdamupRefIdeal.nD Cert.AdamupRefIdeal.τ Cert.AdamupRefIdeal.sig) → Buf (Elt Ideal) ℓ) (g : Dev Cert.AdamupRefIdeal.nD → PrngReg), Pre_AdamupRefIdeal m →
    θ_run (Cert.AdamupRefIdeal.defs (F := Ideal)) (onTc (τ := Cert.AdamupRefIdeal.τ) (Cert.AdamupRefIdeal.main (F := Ideal))) ⟨m, fun _ => 0, g⟩ (fun r => (∀ c : Dev Cert.AdamupRefIdeal.nD,
      r.2.mem ((c.tc : Thread Cert.AdamupRefIdeal.nD Cert.AdamupRefIdeal.τ).loc Cert.AdamupRefIdeal.main_arg0) = m ((c.tc : Thread Cert.AdamupRefIdeal.nD Cert.AdamupRefIdeal.τ).loc Cert.AdamupRefIdeal.main_arg0)
      ∧ r.2.mem ((c.tc : Thread Cert.AdamupRefIdeal.nD Cert.AdamupRefIdeal.τ).loc Cert.AdamupRefIdeal.main_arg1) = m ((c.tc : Thread Cert.AdamupRefIdeal.nD Cert.AdamupRefIdeal.τ).loc Cert.AdamupRefIdeal.main_arg1)
      ∧ r.2.mem ((c.tc : Thread Cert.AdamupRefIdeal.nD Cert.AdamupRefIdeal.τ).loc Cert.AdamupRefIdeal.main_arg2) = m ((c.tc : Thread Cert.AdamupRefIdeal.nD Cert.AdamupRefIdeal.τ).loc Cert.AdamupRefIdeal.main_arg2)
      ∧ r.2.mem ((c.tc : Thread Cert.AdamupRefIdeal.nD Cert.AdamupRefIdeal.τ).loc Cert.AdamupRefIdeal.main_arg3) = m ((c.tc : Thread Cert.AdamupRefIdeal.nD Cert.AdamupRefIdeal.τ).loc Cert.AdamupRefIdeal.main_arg3)
      ∧ r.2.mem ((c.tc : Thread Cert.AdamupRefIdeal.nD Cert.AdamupRefIdeal.τ).loc Cert.AdamupRefIdeal.main_arg4) = m ((c.tc : Thread Cert.AdamupRefIdeal.nD Cert.AdamupRefIdeal.τ).loc Cert.AdamupRefIdeal.main_arg4)
      ∧ r.2.mem ((c.tc : Thread Cert.AdamupRefIdeal.nD Cert.AdamupRefIdeal.τ).loc Cert.AdamupRefIdeal.main_arg5) = m ((c.tc : Thread Cert.AdamupRefIdeal.nD Cert.AdamupRefIdeal.τ).loc Cert.AdamupRefIdeal.main_arg5))
      ∧ r.2.sem = fun _ => 0)

def quiescent_Adamqkv [hAdamqkv : Cert.Adamqkv.Facts] : Prop :=
  ∀ (m : (ℓ : Loc Cert.Adamqkv.nD Cert.Adamqkv.τ Cert.Adamqkv.sig) → Buf (Elt Bits) ℓ) (g : Dev Cert.Adamqkv.nD → PrngReg), Pre_Adamqkv m →
    θ_run (Cert.Adamqkv.defs (F := Bits)) (onTc (τ := Cert.Adamqkv.τ) (Cert.Adamqkv.main (F := Bits))) ⟨m, fun _ => 0, g⟩ (fun r => (∀ c : Dev Cert.Adamqkv.nD,
      r.2.mem ((c.tc : Thread Cert.Adamqkv.nD Cert.Adamqkv.τ).loc Cert.Adamqkv.main_arg0) = m ((c.tc : Thread Cert.Adamqkv.nD Cert.Adamqkv.τ).loc Cert.Adamqkv.main_arg0)
      ∧ r.2.mem ((c.tc : Thread Cert.Adamqkv.nD Cert.Adamqkv.τ).loc Cert.Adamqkv.main_arg1) = m ((c.tc : Thread Cert.Adamqkv.nD Cert.Adamqkv.τ).loc Cert.Adamqkv.main_arg1)
      ∧ r.2.mem ((c.tc : Thread Cert.Adamqkv.nD Cert.Adamqkv.τ).loc Cert.Adamqkv.main_arg2) = m ((c.tc : Thread Cert.Adamqkv.nD Cert.Adamqkv.τ).loc Cert.Adamqkv.main_arg2)
      ∧ r.2.mem ((c.tc : Thread Cert.Adamqkv.nD Cert.Adamqkv.τ).loc Cert.Adamqkv.main_arg3) = m ((c.tc : Thread Cert.Adamqkv.nD Cert.Adamqkv.τ).loc Cert.Adamqkv.main_arg3)
      ∧ r.2.mem ((c.tc : Thread Cert.Adamqkv.nD Cert.Adamqkv.τ).loc Cert.Adamqkv.main_arg4) = m ((c.tc : Thread Cert.Adamqkv.nD Cert.Adamqkv.τ).loc Cert.Adamqkv.main_arg4)
      ∧ r.2.mem ((c.tc : Thread Cert.Adamqkv.nD Cert.Adamqkv.τ).loc Cert.Adamqkv.main_arg5) = m ((c.tc : Thread Cert.Adamqkv.nD Cert.Adamqkv.τ).loc Cert.Adamqkv.main_arg5))
      ∧ r.2.sem = fun _ => 0)

def quiescent_AdamqkvIdeal [hAdamqkvIdeal : Cert.AdamqkvIdeal.Facts] : Prop :=
  ∀ (m : (ℓ : Loc Cert.AdamqkvIdeal.nD Cert.AdamqkvIdeal.τ Cert.AdamqkvIdeal.sig) → Buf (Elt Ideal) ℓ) (g : Dev Cert.AdamqkvIdeal.nD → PrngReg), Pre_AdamqkvIdeal m →
    θ_run (Cert.AdamqkvIdeal.defs (F := Ideal)) (onTc (τ := Cert.AdamqkvIdeal.τ) (Cert.AdamqkvIdeal.main (F := Ideal))) ⟨m, fun _ => 0, g⟩ (fun r => (∀ c : Dev Cert.AdamqkvIdeal.nD,
      r.2.mem ((c.tc : Thread Cert.AdamqkvIdeal.nD Cert.AdamqkvIdeal.τ).loc Cert.AdamqkvIdeal.main_arg0) = m ((c.tc : Thread Cert.AdamqkvIdeal.nD Cert.AdamqkvIdeal.τ).loc Cert.AdamqkvIdeal.main_arg0)
      ∧ r.2.mem ((c.tc : Thread Cert.AdamqkvIdeal.nD Cert.AdamqkvIdeal.τ).loc Cert.AdamqkvIdeal.main_arg1) = m ((c.tc : Thread Cert.AdamqkvIdeal.nD Cert.AdamqkvIdeal.τ).loc Cert.AdamqkvIdeal.main_arg1)
      ∧ r.2.mem ((c.tc : Thread Cert.AdamqkvIdeal.nD Cert.AdamqkvIdeal.τ).loc Cert.AdamqkvIdeal.main_arg2) = m ((c.tc : Thread Cert.AdamqkvIdeal.nD Cert.AdamqkvIdeal.τ).loc Cert.AdamqkvIdeal.main_arg2)
      ∧ r.2.mem ((c.tc : Thread Cert.AdamqkvIdeal.nD Cert.AdamqkvIdeal.τ).loc Cert.AdamqkvIdeal.main_arg3) = m ((c.tc : Thread Cert.AdamqkvIdeal.nD Cert.AdamqkvIdeal.τ).loc Cert.AdamqkvIdeal.main_arg3)
      ∧ r.2.mem ((c.tc : Thread Cert.AdamqkvIdeal.nD Cert.AdamqkvIdeal.τ).loc Cert.AdamqkvIdeal.main_arg4) = m ((c.tc : Thread Cert.AdamqkvIdeal.nD Cert.AdamqkvIdeal.τ).loc Cert.AdamqkvIdeal.main_arg4)
      ∧ r.2.mem ((c.tc : Thread Cert.AdamqkvIdeal.nD Cert.AdamqkvIdeal.τ).loc Cert.AdamqkvIdeal.main_arg5) = m ((c.tc : Thread Cert.AdamqkvIdeal.nD Cert.AdamqkvIdeal.τ).loc Cert.AdamqkvIdeal.main_arg5))
      ∧ r.2.sem = fun _ => 0)

def quiescent_AdamqkvRefIdeal [hAdamqkvRefIdeal : Cert.AdamqkvRefIdeal.Facts] : Prop :=
  ∀ (m : (ℓ : Loc Cert.AdamqkvRefIdeal.nD Cert.AdamqkvRefIdeal.τ Cert.AdamqkvRefIdeal.sig) → Buf (Elt Ideal) ℓ) (g : Dev Cert.AdamqkvRefIdeal.nD → PrngReg), Pre_AdamqkvRefIdeal m →
    θ_run (Cert.AdamqkvRefIdeal.defs (F := Ideal)) (onTc (τ := Cert.AdamqkvRefIdeal.τ) (Cert.AdamqkvRefIdeal.main (F := Ideal))) ⟨m, fun _ => 0, g⟩ (fun r => (∀ c : Dev Cert.AdamqkvRefIdeal.nD,
      r.2.mem ((c.tc : Thread Cert.AdamqkvRefIdeal.nD Cert.AdamqkvRefIdeal.τ).loc Cert.AdamqkvRefIdeal.main_arg0) = m ((c.tc : Thread Cert.AdamqkvRefIdeal.nD Cert.AdamqkvRefIdeal.τ).loc Cert.AdamqkvRefIdeal.main_arg0)
      ∧ r.2.mem ((c.tc : Thread Cert.AdamqkvRefIdeal.nD Cert.AdamqkvRefIdeal.τ).loc Cert.AdamqkvRefIdeal.main_arg1) = m ((c.tc : Thread Cert.AdamqkvRefIdeal.nD Cert.AdamqkvRefIdeal.τ).loc Cert.AdamqkvRefIdeal.main_arg1)
      ∧ r.2.mem ((c.tc : Thread Cert.AdamqkvRefIdeal.nD Cert.AdamqkvRefIdeal.τ).loc Cert.AdamqkvRefIdeal.main_arg2) = m ((c.tc : Thread Cert.AdamqkvRefIdeal.nD Cert.AdamqkvRefIdeal.τ).loc Cert.AdamqkvRefIdeal.main_arg2)
      ∧ r.2.mem ((c.tc : Thread Cert.AdamqkvRefIdeal.nD Cert.AdamqkvRefIdeal.τ).loc Cert.AdamqkvRefIdeal.main_arg3) = m ((c.tc : Thread Cert.AdamqkvRefIdeal.nD Cert.AdamqkvRefIdeal.τ).loc Cert.AdamqkvRefIdeal.main_arg3)
      ∧ r.2.mem ((c.tc : Thread Cert.AdamqkvRefIdeal.nD Cert.AdamqkvRefIdeal.τ).loc Cert.AdamqkvRefIdeal.main_arg4) = m ((c.tc : Thread Cert.AdamqkvRefIdeal.nD Cert.AdamqkvRefIdeal.τ).loc Cert.AdamqkvRefIdeal.main_arg4)
      ∧ r.2.mem ((c.tc : Thread Cert.AdamqkvRefIdeal.nD Cert.AdamqkvRefIdeal.τ).loc Cert.AdamqkvRefIdeal.main_arg5) = m ((c.tc : Thread Cert.AdamqkvRefIdeal.nD Cert.AdamqkvRefIdeal.τ).loc Cert.AdamqkvRefIdeal.main_arg5))
      ∧ r.2.sem = fun _ => 0)

def quiescent_Adamin [hAdamin : Cert.Adamin.Facts] : Prop :=
  ∀ (m : (ℓ : Loc Cert.Adamin.nD Cert.Adamin.τ Cert.Adamin.sig) → Buf (Elt Bits) ℓ) (g : Dev Cert.Adamin.nD → PrngReg), Pre_Adamin m →
    θ_run (Cert.Adamin.defs (F := Bits)) (onTc (τ := Cert.Adamin.τ) (Cert.Adamin.main (F := Bits))) ⟨m, fun _ => 0, g⟩ (fun r => (∀ c : Dev Cert.Adamin.nD,
      r.2.mem ((c.tc : Thread Cert.Adamin.nD Cert.Adamin.τ).loc Cert.Adamin.main_arg0) = m ((c.tc : Thread Cert.Adamin.nD Cert.Adamin.τ).loc Cert.Adamin.main_arg0)
      ∧ r.2.mem ((c.tc : Thread Cert.Adamin.nD Cert.Adamin.τ).loc Cert.Adamin.main_arg1) = m ((c.tc : Thread Cert.Adamin.nD Cert.Adamin.τ).loc Cert.Adamin.main_arg1)
      ∧ r.2.mem ((c.tc : Thread Cert.Adamin.nD Cert.Adamin.τ).loc Cert.Adamin.main_arg2) = m ((c.tc : Thread Cert.Adamin.nD Cert.Adamin.τ).loc Cert.Adamin.main_arg2)
      ∧ r.2.mem ((c.tc : Thread Cert.Adamin.nD Cert.Adamin.τ).loc Cert.Adamin.main_arg3) = m ((c.tc : Thread Cert.Adamin.nD Cert.Adamin.τ).loc Cert.Adamin.main_arg3)
      ∧ r.2.mem ((c.tc : Thread Cert.Adamin.nD Cert.Adamin.τ).loc Cert.Adamin.main_arg4) = m ((c.tc : Thread Cert.Adamin.nD Cert.Adamin.τ).loc Cert.Adamin.main_arg4)
      ∧ r.2.mem ((c.tc : Thread Cert.Adamin.nD Cert.Adamin.τ).loc Cert.Adamin.main_arg5) = m ((c.tc : Thread Cert.Adamin.nD Cert.Adamin.τ).loc Cert.Adamin.main_arg5))
      ∧ r.2.sem = fun _ => 0)

def quiescent_AdaminIdeal [hAdaminIdeal : Cert.AdaminIdeal.Facts] : Prop :=
  ∀ (m : (ℓ : Loc Cert.AdaminIdeal.nD Cert.AdaminIdeal.τ Cert.AdaminIdeal.sig) → Buf (Elt Ideal) ℓ) (g : Dev Cert.AdaminIdeal.nD → PrngReg), Pre_AdaminIdeal m →
    θ_run (Cert.AdaminIdeal.defs (F := Ideal)) (onTc (τ := Cert.AdaminIdeal.τ) (Cert.AdaminIdeal.main (F := Ideal))) ⟨m, fun _ => 0, g⟩ (fun r => (∀ c : Dev Cert.AdaminIdeal.nD,
      r.2.mem ((c.tc : Thread Cert.AdaminIdeal.nD Cert.AdaminIdeal.τ).loc Cert.AdaminIdeal.main_arg0) = m ((c.tc : Thread Cert.AdaminIdeal.nD Cert.AdaminIdeal.τ).loc Cert.AdaminIdeal.main_arg0)
      ∧ r.2.mem ((c.tc : Thread Cert.AdaminIdeal.nD Cert.AdaminIdeal.τ).loc Cert.AdaminIdeal.main_arg1) = m ((c.tc : Thread Cert.AdaminIdeal.nD Cert.AdaminIdeal.τ).loc Cert.AdaminIdeal.main_arg1)
      ∧ r.2.mem ((c.tc : Thread Cert.AdaminIdeal.nD Cert.AdaminIdeal.τ).loc Cert.AdaminIdeal.main_arg2) = m ((c.tc : Thread Cert.AdaminIdeal.nD Cert.AdaminIdeal.τ).loc Cert.AdaminIdeal.main_arg2)
      ∧ r.2.mem ((c.tc : Thread Cert.AdaminIdeal.nD Cert.AdaminIdeal.τ).loc Cert.AdaminIdeal.main_arg3) = m ((c.tc : Thread Cert.AdaminIdeal.nD Cert.AdaminIdeal.τ).loc Cert.AdaminIdeal.main_arg3)
      ∧ r.2.mem ((c.tc : Thread Cert.AdaminIdeal.nD Cert.AdaminIdeal.τ).loc Cert.AdaminIdeal.main_arg4) = m ((c.tc : Thread Cert.AdaminIdeal.nD Cert.AdaminIdeal.τ).loc Cert.AdaminIdeal.main_arg4)
      ∧ r.2.mem ((c.tc : Thread Cert.AdaminIdeal.nD Cert.AdaminIdeal.τ).loc Cert.AdaminIdeal.main_arg5) = m ((c.tc : Thread Cert.AdaminIdeal.nD Cert.AdaminIdeal.τ).loc Cert.AdaminIdeal.main_arg5))
      ∧ r.2.sem = fun _ => 0)

def quiescent_AdaminRefIdeal [hAdaminRefIdeal : Cert.AdaminRefIdeal.Facts] : Prop :=
  ∀ (m : (ℓ : Loc Cert.AdaminRefIdeal.nD Cert.AdaminRefIdeal.τ Cert.AdaminRefIdeal.sig) → Buf (Elt Ideal) ℓ) (g : Dev Cert.AdaminRefIdeal.nD → PrngReg), Pre_AdaminRefIdeal m →
    θ_run (Cert.AdaminRefIdeal.defs (F := Ideal)) (onTc (τ := Cert.AdaminRefIdeal.τ) (Cert.AdaminRefIdeal.main (F := Ideal))) ⟨m, fun _ => 0, g⟩ (fun r => (∀ c : Dev Cert.AdaminRefIdeal.nD,
      r.2.mem ((c.tc : Thread Cert.AdaminRefIdeal.nD Cert.AdaminRefIdeal.τ).loc Cert.AdaminRefIdeal.main_arg0) = m ((c.tc : Thread Cert.AdaminRefIdeal.nD Cert.AdaminRefIdeal.τ).loc Cert.AdaminRefIdeal.main_arg0)
      ∧ r.2.mem ((c.tc : Thread Cert.AdaminRefIdeal.nD Cert.AdaminRefIdeal.τ).loc Cert.AdaminRefIdeal.main_arg1) = m ((c.tc : Thread Cert.AdaminRefIdeal.nD Cert.AdaminRefIdeal.τ).loc Cert.AdaminRefIdeal.main_arg1)
      ∧ r.2.mem ((c.tc : Thread Cert.AdaminRefIdeal.nD Cert.AdaminRefIdeal.τ).loc Cert.AdaminRefIdeal.main_arg2) = m ((c.tc : Thread Cert.AdaminRefIdeal.nD Cert.AdaminRefIdeal.τ).loc Cert.AdaminRefIdeal.main_arg2)
      ∧ r.2.mem ((c.tc : Thread Cert.AdaminRefIdeal.nD Cert.AdaminRefIdeal.τ).loc Cert.AdaminRefIdeal.main_arg3) = m ((c.tc : Thread Cert.AdaminRefIdeal.nD Cert.AdaminRefIdeal.τ).loc Cert.AdaminRefIdeal.main_arg3)
      ∧ r.2.mem ((c.tc : Thread Cert.AdaminRefIdeal.nD Cert.AdaminRefIdeal.τ).loc Cert.AdaminRefIdeal.main_arg4) = m ((c.tc : Thread Cert.AdaminRefIdeal.nD Cert.AdaminRefIdeal.τ).loc Cert.AdaminRefIdeal.main_arg4)
      ∧ r.2.mem ((c.tc : Thread Cert.AdaminRefIdeal.nD Cert.AdaminRefIdeal.τ).loc Cert.AdaminRefIdeal.main_arg5) = m ((c.tc : Thread Cert.AdaminRefIdeal.nD Cert.AdaminRefIdeal.τ).loc Cert.AdaminRefIdeal.main_arg5))
      ∧ r.2.sem = fun _ => 0)

def quiescent_Adamo [hAdamo : Cert.Adamo.Facts] : Prop :=
  ∀ (m : (ℓ : Loc Cert.Adamo.nD Cert.Adamo.τ Cert.Adamo.sig) → Buf (Elt Bits) ℓ) (g : Dev Cert.Adamo.nD → PrngReg), Pre_Adamo m →
    θ_run (Cert.Adamo.defs (F := Bits)) (onTc (τ := Cert.Adamo.τ) (Cert.Adamo.main (F := Bits))) ⟨m, fun _ => 0, g⟩ (fun r => (∀ c : Dev Cert.Adamo.nD,
      r.2.mem ((c.tc : Thread Cert.Adamo.nD Cert.Adamo.τ).loc Cert.Adamo.main_arg0) = m ((c.tc : Thread Cert.Adamo.nD Cert.Adamo.τ).loc Cert.Adamo.main_arg0)
      ∧ r.2.mem ((c.tc : Thread Cert.Adamo.nD Cert.Adamo.τ).loc Cert.Adamo.main_arg1) = m ((c.tc : Thread Cert.Adamo.nD Cert.Adamo.τ).loc Cert.Adamo.main_arg1)
      ∧ r.2.mem ((c.tc : Thread Cert.Adamo.nD Cert.Adamo.τ).loc Cert.Adamo.main_arg2) = m ((c.tc : Thread Cert.Adamo.nD Cert.Adamo.τ).loc Cert.Adamo.main_arg2)
      ∧ r.2.mem ((c.tc : Thread Cert.Adamo.nD Cert.Adamo.τ).loc Cert.Adamo.main_arg3) = m ((c.tc : Thread Cert.Adamo.nD Cert.Adamo.τ).loc Cert.Adamo.main_arg3)
      ∧ r.2.mem ((c.tc : Thread Cert.Adamo.nD Cert.Adamo.τ).loc Cert.Adamo.main_arg4) = m ((c.tc : Thread Cert.Adamo.nD Cert.Adamo.τ).loc Cert.Adamo.main_arg4)
      ∧ r.2.mem ((c.tc : Thread Cert.Adamo.nD Cert.Adamo.τ).loc Cert.Adamo.main_arg5) = m ((c.tc : Thread Cert.Adamo.nD Cert.Adamo.τ).loc Cert.Adamo.main_arg5))
      ∧ r.2.sem = fun _ => 0)

def quiescent_AdamoIdeal [hAdamoIdeal : Cert.AdamoIdeal.Facts] : Prop :=
  ∀ (m : (ℓ : Loc Cert.AdamoIdeal.nD Cert.AdamoIdeal.τ Cert.AdamoIdeal.sig) → Buf (Elt Ideal) ℓ) (g : Dev Cert.AdamoIdeal.nD → PrngReg), Pre_AdamoIdeal m →
    θ_run (Cert.AdamoIdeal.defs (F := Ideal)) (onTc (τ := Cert.AdamoIdeal.τ) (Cert.AdamoIdeal.main (F := Ideal))) ⟨m, fun _ => 0, g⟩ (fun r => (∀ c : Dev Cert.AdamoIdeal.nD,
      r.2.mem ((c.tc : Thread Cert.AdamoIdeal.nD Cert.AdamoIdeal.τ).loc Cert.AdamoIdeal.main_arg0) = m ((c.tc : Thread Cert.AdamoIdeal.nD Cert.AdamoIdeal.τ).loc Cert.AdamoIdeal.main_arg0)
      ∧ r.2.mem ((c.tc : Thread Cert.AdamoIdeal.nD Cert.AdamoIdeal.τ).loc Cert.AdamoIdeal.main_arg1) = m ((c.tc : Thread Cert.AdamoIdeal.nD Cert.AdamoIdeal.τ).loc Cert.AdamoIdeal.main_arg1)
      ∧ r.2.mem ((c.tc : Thread Cert.AdamoIdeal.nD Cert.AdamoIdeal.τ).loc Cert.AdamoIdeal.main_arg2) = m ((c.tc : Thread Cert.AdamoIdeal.nD Cert.AdamoIdeal.τ).loc Cert.AdamoIdeal.main_arg2)
      ∧ r.2.mem ((c.tc : Thread Cert.AdamoIdeal.nD Cert.AdamoIdeal.τ).loc Cert.AdamoIdeal.main_arg3) = m ((c.tc : Thread Cert.AdamoIdeal.nD Cert.AdamoIdeal.τ).loc Cert.AdamoIdeal.main_arg3)
      ∧ r.2.mem ((c.tc : Thread Cert.AdamoIdeal.nD Cert.AdamoIdeal.τ).loc Cert.AdamoIdeal.main_arg4) = m ((c.tc : Thread Cert.AdamoIdeal.nD Cert.AdamoIdeal.τ).loc Cert.AdamoIdeal.main_arg4)
      ∧ r.2.mem ((c.tc : Thread Cert.AdamoIdeal.nD Cert.AdamoIdeal.τ).loc Cert.AdamoIdeal.main_arg5) = m ((c.tc : Thread Cert.AdamoIdeal.nD Cert.AdamoIdeal.τ).loc Cert.AdamoIdeal.main_arg5))
      ∧ r.2.sem = fun _ => 0)

def quiescent_AdamoRefIdeal [hAdamoRefIdeal : Cert.AdamoRefIdeal.Facts] : Prop :=
  ∀ (m : (ℓ : Loc Cert.AdamoRefIdeal.nD Cert.AdamoRefIdeal.τ Cert.AdamoRefIdeal.sig) → Buf (Elt Ideal) ℓ) (g : Dev Cert.AdamoRefIdeal.nD → PrngReg), Pre_AdamoRefIdeal m →
    θ_run (Cert.AdamoRefIdeal.defs (F := Ideal)) (onTc (τ := Cert.AdamoRefIdeal.τ) (Cert.AdamoRefIdeal.main (F := Ideal))) ⟨m, fun _ => 0, g⟩ (fun r => (∀ c : Dev Cert.AdamoRefIdeal.nD,
      r.2.mem ((c.tc : Thread Cert.AdamoRefIdeal.nD Cert.AdamoRefIdeal.τ).loc Cert.AdamoRefIdeal.main_arg0) = m ((c.tc : Thread Cert.AdamoRefIdeal.nD Cert.AdamoRefIdeal.τ).loc Cert.AdamoRefIdeal.main_arg0)
      ∧ r.2.mem ((c.tc : Thread Cert.AdamoRefIdeal.nD Cert.AdamoRefIdeal.τ).loc Cert.AdamoRefIdeal.main_arg1) = m ((c.tc : Thread Cert.AdamoRefIdeal.nD Cert.AdamoRefIdeal.τ).loc Cert.AdamoRefIdeal.main_arg1)
      ∧ r.2.mem ((c.tc : Thread Cert.AdamoRefIdeal.nD Cert.AdamoRefIdeal.τ).loc Cert.AdamoRefIdeal.main_arg2) = m ((c.tc : Thread Cert.AdamoRefIdeal.nD Cert.AdamoRefIdeal.τ).loc Cert.AdamoRefIdeal.main_arg2)
      ∧ r.2.mem ((c.tc : Thread Cert.AdamoRefIdeal.nD Cert.AdamoRefIdeal.τ).loc Cert.AdamoRefIdeal.main_arg3) = m ((c.tc : Thread Cert.AdamoRefIdeal.nD Cert.AdamoRefIdeal.τ).loc Cert.AdamoRefIdeal.main_arg3)
      ∧ r.2.mem ((c.tc : Thread Cert.AdamoRefIdeal.nD Cert.AdamoRefIdeal.τ).loc Cert.AdamoRefIdeal.main_arg4) = m ((c.tc : Thread Cert.AdamoRefIdeal.nD Cert.AdamoRefIdeal.τ).loc Cert.AdamoRefIdeal.main_arg4)
      ∧ r.2.mem ((c.tc : Thread Cert.AdamoRefIdeal.nD Cert.AdamoRefIdeal.τ).loc Cert.AdamoRefIdeal.main_arg5) = m ((c.tc : Thread Cert.AdamoRefIdeal.nD Cert.AdamoRefIdeal.τ).loc Cert.AdamoRefIdeal.main_arg5))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v19_0)) (v1 : (c : Dev Cert.MlpIdeal.nD) → Buf (Elt Ideal) ((c.tc : Thread Cert.MlpIdeal.nD Cert.MlpIdeal.τ).loc Cert.MlpIdeal.main_v19_1)) (v2 : (c : Dev Cert.MlpIdeal.nD) → Buf (Elt Ideal) ((c.tc : Thread Cert.MlpIdeal.nD Cert.MlpIdeal.τ).loc Cert.MlpIdeal.main_v19_2)) (v3 : (c : Dev Cert.MlpIdeal.nD) → Buf (Elt Ideal) ((c.tc : Thread Cert.MlpIdeal.nD Cert.MlpIdeal.τ).loc Cert.MlpIdeal.main_v19_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v19_0) = v0 c
          ∧ r.2.mem ((c.tc : Thread Cert.MlpIdeal.nD Cert.MlpIdeal.τ).loc Cert.MlpIdeal.main_v19_1) = v1 c
          ∧ r.2.mem ((c.tc : Thread Cert.MlpIdeal.nD Cert.MlpIdeal.τ).loc Cert.MlpIdeal.main_v19_2) = v2 c
          ∧ r.2.mem ((c.tc : Thread Cert.MlpIdeal.nD Cert.MlpIdeal.τ).loc Cert.MlpIdeal.main_v19_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v53) = v0 c
          ∧ r.2.mem ((c.tc : Thread Cert.MlpRefIdeal.nD Cert.MlpRefIdeal.τ).loc Cert.MlpRefIdeal.main_v52) = v1 c
          ∧ r.2.mem ((c.tc : Thread Cert.MlpRefIdeal.nD Cert.MlpRefIdeal.τ).loc Cert.MlpRefIdeal.main_v54) = v2 c
          ∧ r.2.mem ((c.tc : Thread Cert.MlpRefIdeal.nD Cert.MlpRefIdeal.τ).loc Cert.MlpRefIdeal.main_v35) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)
      ∧ m' ((c.tc : Thread Cert.DwupRefIdeal.nD Cert.DwupRefIdeal.τ).loc Cert.DwupRefIdeal.main_arg2) = m ((c.tc : Thread Cert.DwupIdeal.nD Cert.DwupIdeal.τ).loc Cert.DwupIdeal.main_arg2)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
          ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v13) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1)
          ∧ r.2.mem ((c.tc : Thread Cert.DwupRefIdeal.nD Cert.DwupRefIdeal.τ).loc Cert.DwupRefIdeal.main_arg2) = m' ((c.tc : Thread Cert.DwupRefIdeal.nD Cert.DwupRefIdeal.τ).loc Cert.DwupRefIdeal.main_arg2))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)
      ∧ m' ((c.tc : Thread Cert.DwdownRefIdeal.nD Cert.DwdownRefIdeal.τ).loc Cert.DwdownRefIdeal.main_arg2) = m ((c.tc : Thread Cert.DwdownIdeal.nD Cert.DwdownIdeal.τ).loc Cert.DwdownIdeal.main_arg2)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1)
          ∧ r.2.mem ((c.tc : Thread Cert.DwdownIdeal.nD Cert.DwdownIdeal.τ).loc Cert.DwdownIdeal.main_arg2) = m ((c.tc : Thread Cert.DwdownIdeal.nD Cert.DwdownIdeal.τ).loc Cert.DwdownIdeal.main_arg2))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v14) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1)
          ∧ r.2.mem ((c.tc : Thread Cert.DwdownRefIdeal.nD Cert.DwdownRefIdeal.τ).loc Cert.DwdownRefIdeal.main_arg2) = m' ((c.tc : Thread Cert.DwdownRefIdeal.nD Cert.DwdownRefIdeal.τ).loc Cert.DwdownRefIdeal.main_arg2))

def preserves_Dwup1_Dwup1Ideal : Prop :=
  True

def algebraic_Dwup1Ideal_Dwup1RefIdeal_on_dwup1_on [hDwup1Ideal : Cert.Dwup1Ideal.Facts] [hDwup1RefIdeal : Cert.Dwup1RefIdeal.Facts] [hOn_dwup1_on : Cert.On_dwup1_on.Facts] : Prop :=
  ∀ (m : (ℓ : Loc Cert.Dwup1Ideal.nD Cert.Dwup1Ideal.τ Cert.Dwup1Ideal.sig) → Buf (Elt Ideal) ℓ) (g : Dev Cert.Dwup1Ideal.nD → PrngReg)
    (m' : (ℓ : Loc Cert.Dwup1RefIdeal.nD Cert.Dwup1RefIdeal.τ Cert.Dwup1RefIdeal.sig) → Buf (Elt Ideal) ℓ) (g' : Dev Cert.Dwup1RefIdeal.nD → PrngReg), Pre_Dwup1Ideal m →
    (∀ c : Dev Cert.Dwup1Ideal.nD,
      m' ((c.tc : Thread Cert.Dwup1RefIdeal.nD Cert.Dwup1RefIdeal.τ).loc Cert.Dwup1RefIdeal.main_arg0) = m ((c.tc : Thread Cert.Dwup1Ideal.nD Cert.Dwup1Ideal.τ).loc Cert.Dwup1Ideal.main_arg0)
      ∧ m' ((c.tc : Thread Cert.Dwup1RefIdeal.nD Cert.Dwup1RefIdeal.τ).loc Cert.Dwup1RefIdeal.main_arg1) = m ((c.tc : Thread Cert.Dwup1Ideal.nD Cert.Dwup1Ideal.τ).loc Cert.Dwup1Ideal.main_arg1)) →
    ∃ (v0 : (c : Dev Cert.Dwup1Ideal.nD) → Buf (Elt Ideal) ((c.tc : Thread Cert.Dwup1Ideal.nD Cert.Dwup1Ideal.τ).loc Cert.Dwup1Ideal.main_v0)),
      θ_run (Cert.Dwup1Ideal.defs (F := Ideal)) (onTc (τ := Cert.Dwup1Ideal.τ) (Cert.Dwup1Ideal.main (F := Ideal))) ⟨m, fun _ => 0, g⟩ (fun r => ∀ c : Dev Cert.Dwup1Ideal.nD,
          (∀ i : (⟨4, ![4, 2, 1024, 1024]⟩ : Shape).Idx, (Cert.On_dwup1_on.fn (F := Ideal) (m ((c.tc : Thread Cert.Dwup1Ideal.nD Cert.Dwup1Ideal.τ).loc Cert.Dwup1Ideal.main_arg0)) (m ((c.tc : Thread Cert.Dwup1Ideal.nD Cert.Dwup1Ideal.τ).loc Cert.Dwup1Ideal.main_arg1))) i = 1#1 → r.2.mem ((c.tc : Thread Cert.Dwup1Ideal.nD Cert.Dwup1Ideal.τ).loc Cert.Dwup1Ideal.main_v0) i = v0 c i)
          ∧ r.2.mem ((c.tc : Thread Cert.Dwup1Ideal.nD Cert.Dwup1Ideal.τ).loc Cert.Dwup1Ideal.main_arg0) = m ((c.tc : Thread Cert.Dwup1Ideal.nD Cert.Dwup1Ideal.τ).loc Cert.Dwup1Ideal.main_arg0)
          ∧ r.2.mem ((c.tc : Thread Cert.Dwup1Ideal.nD Cert.Dwup1Ideal.τ).loc Cert.Dwup1Ideal.main_arg1) = m ((c.tc : Thread Cert.Dwup1Ideal.nD Cert.Dwup1Ideal.τ).loc Cert.Dwup1Ideal.main_arg1))
      ∧ θ_run (Cert.Dwup1RefIdeal.defs (F := Ideal)) (onTc (τ := Cert.Dwup1RefIdeal.τ) (Cert.Dwup1RefIdeal.main (F := Ideal))) ⟨m', fun _ => 0, g'⟩ (fun r => ∀ c : Dev Cert.Dwup1RefIdeal.nD,
          (∀ i : (⟨4, ![4, 2, 1024, 1024]⟩ : Shape).Idx, (Cert.On_dwup1_on.fn (F := Ideal) (m ((c.tc : Thread Cert.Dwup1Ideal.nD Cert.Dwup1Ideal.τ).loc Cert.Dwup1Ideal.main_arg0)) (m ((c.tc : Thread Cert.Dwup1Ideal.nD Cert.Dwup1Ideal.τ).loc Cert.Dwup1Ideal.main_arg1))) i = 1#1 → r.2.mem ((c.tc : Thread Cert.Dwup1RefIdeal.nD Cert.Dwup1RefIdeal.τ).loc Cert.Dwup1RefIdeal.main_v12) i = v0 c i)
          ∧ r.2.mem ((c.tc : Thread Cert.Dwup1RefIdeal.nD Cert.Dwup1RefIdeal.τ).loc Cert.Dwup1RefIdeal.main_arg0) = m' ((c.tc : Thread Cert.Dwup1RefIdeal.nD Cert.Dwup1RefIdeal.τ).loc Cert.Dwup1RefIdeal.main_arg0)
          ∧ r.2.mem ((c.tc : Thread Cert.Dwup1RefIdeal.nD Cert.Dwup1RefIdeal.τ).loc Cert.Dwup1RefIdeal.main_arg1) = m' ((c.tc : Thread Cert.Dwup1RefIdeal.nD Cert.Dwup1RefIdeal.τ).loc Cert.Dwup1RefIdeal.main_arg1))

def preserves_Dwdown1_Dwdown1Ideal : Prop :=
  True

def algebraic_Dwdown1Ideal_Dwdown1RefIdeal_on_dwdown1_on [hDwdown1Ideal : Cert.Dwdown1Ideal.Facts] [hDwdown1RefIdeal : Cert.Dwdown1RefIdeal.Facts] [hOn_dwdown1_on : Cert.On_dwdown1_on.Facts] : Prop :=
  ∀ (m : (ℓ : Loc Cert.Dwdown1Ideal.nD Cert.Dwdown1Ideal.τ Cert.Dwdown1Ideal.sig) → Buf (Elt Ideal) ℓ) (g : Dev Cert.Dwdown1Ideal.nD → PrngReg)
    (m' : (ℓ : Loc Cert.Dwdown1RefIdeal.nD Cert.Dwdown1RefIdeal.τ Cert.Dwdown1RefIdeal.sig) → Buf (Elt Ideal) ℓ) (g' : Dev Cert.Dwdown1RefIdeal.nD → PrngReg), Pre_Dwdown1Ideal m →
    (∀ c : Dev Cert.Dwdown1Ideal.nD,
      m' ((c.tc : Thread Cert.Dwdown1RefIdeal.nD Cert.Dwdown1RefIdeal.τ).loc Cert.Dwdown1RefIdeal.main_arg0) = m ((c.tc : Thread Cert.Dwdown1Ideal.nD Cert.Dwdown1Ideal.τ).loc Cert.Dwdown1Ideal.main_arg0)
      ∧ m' ((c.tc : Thread Cert.Dwdown1RefIdeal.nD Cert.Dwdown1RefIdeal.τ).loc Cert.Dwdown1RefIdeal.main_arg1) = m ((c.tc : Thread Cert.Dwdown1Ideal.nD Cert.Dwdown1Ideal.τ).loc Cert.Dwdown1Ideal.main_arg1)) →
    ∃ (v0 : (c : Dev Cert.Dwdown1Ideal.nD) → Buf (Elt Ideal) ((c.tc : Thread Cert.Dwdown1Ideal.nD Cert.Dwdown1Ideal.τ).loc Cert.Dwdown1Ideal.main_v0)),
      θ_run (Cert.Dwdown1Ideal.defs (F := Ideal)) (onTc (τ := Cert.Dwdown1Ideal.τ) (Cert.Dwdown1Ideal.main (F := Ideal))) ⟨m, fun _ => 0, g⟩ (fun r => ∀ c : Dev Cert.Dwdown1Ideal.nD,
          (∀ i : (⟨4, ![4, 2, 1024, 1024]⟩ : Shape).Idx, (Cert.On_dwdown1_on.fn (F := Ideal) (m ((c.tc : Thread Cert.Dwdown1Ideal.nD Cert.Dwdown1Ideal.τ).loc Cert.Dwdown1Ideal.main_arg0)) (m ((c.tc : Thread Cert.Dwdown1Ideal.nD Cert.Dwdown1Ideal.τ).loc Cert.Dwdown1Ideal.main_arg1))) i = 1#1 → r.2.mem ((c.tc : Thread Cert.Dwdown1Ideal.nD Cert.Dwdown1Ideal.τ).loc Cert.Dwdown1Ideal.main_v0) i = v0 c i)
          ∧ r.2.mem ((c.tc : Thread Cert.Dwdown1Ideal.nD Cert.Dwdown1Ideal.τ).loc Cert.Dwdown1Ideal.main_arg0) = m ((c.tc : Thread Cert.Dwdown1Ideal.nD Cert.Dwdown1Ideal.τ).loc Cert.Dwdown1Ideal.main_arg0)
          ∧ r.2.mem ((c.tc : Thread Cert.Dwdown1Ideal.nD Cert.Dwdown1Ideal.τ).loc Cert.Dwdown1Ideal.main_arg1) = m ((c.tc : Thread Cert.Dwdown1Ideal.nD Cert.Dwdown1Ideal.τ).loc Cert.Dwdown1Ideal.main_arg1))
      ∧ θ_run (Cert.Dwdown1RefIdeal.defs (F := Ideal)) (onTc (τ := Cert.Dwdown1RefIdeal.τ) (Cert.Dwdown1RefIdeal.main (F := Ideal))) ⟨m', fun _ => 0, g'⟩ (fun r => ∀ c : Dev Cert.Dwdown1RefIdeal.nD,
          (∀ i : (⟨4, ![4, 2, 1024, 1024]⟩ : Shape).Idx, (Cert.On_dwdown1_on.fn (F := Ideal) (m ((c.tc : Thread Cert.Dwdown1Ideal.nD Cert.Dwdown1Ideal.τ).loc Cert.Dwdown1Ideal.main_arg0)) (m ((c.tc : Thread Cert.Dwdown1Ideal.nD Cert.Dwdown1Ideal.τ).loc Cert.Dwdown1Ideal.main_arg1))) i = 1#1 → r.2.mem ((c.tc : Thread Cert.Dwdown1RefIdeal.nD Cert.Dwdown1RefIdeal.τ).loc Cert.Dwdown1RefIdeal.main_v13) i = v0 c i)
          ∧ r.2.mem ((c.tc : Thread Cert.Dwdown1RefIdeal.nD Cert.Dwdown1RefIdeal.τ).loc Cert.Dwdown1RefIdeal.main_arg0) = m' ((c.tc : Thread Cert.Dwdown1RefIdeal.nD Cert.Dwdown1RefIdeal.τ).loc Cert.Dwdown1RefIdeal.main_arg0)
          ∧ r.2.mem ((c.tc : Thread Cert.Dwdown1RefIdeal.nD Cert.Dwdown1RefIdeal.τ).loc Cert.Dwdown1RefIdeal.main_arg1) = m' ((c.tc : Thread Cert.Dwdown1RefIdeal.nD Cert.Dwdown1RefIdeal.τ).loc Cert.Dwdown1RefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v85) = v0 c
          ∧ r.2.mem ((c.tc : Thread Cert.ConvRefIdeal.nD Cert.ConvRefIdeal.τ).loc Cert.ConvRefIdeal.main_v78) = v1 c
          ∧ r.2.mem ((c.tc : Thread Cert.ConvRefIdeal.nD Cert.ConvRefIdeal.τ).loc Cert.ConvRefIdeal.main_v37) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v8) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v7) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Datt_DattIdeal : Prop :=
  True

def algebraic_DattIdeal_DattRefIdeal [hDattIdeal : Cert.DattIdeal.Facts] [hDattRefIdeal : Cert.DattRefIdeal.Facts] : Prop :=
  ∀ (m : (ℓ : Loc Cert.DattIdeal.nD Cert.DattIdeal.τ Cert.DattIdeal.sig) → Buf (Elt Ideal) ℓ) (g : Dev Cert.DattIdeal.nD → PrngReg)
    (m' : (ℓ : Loc Cert.DattRefIdeal.nD Cert.DattRefIdeal.τ Cert.DattRefIdeal.sig) → Buf (Elt Ideal) ℓ) (g' : Dev Cert.DattRefIdeal.nD → PrngReg), Pre_DattIdeal m →
    (∀ c : Dev Cert.DattIdeal.nD,
      m' ((c.tc : Thread Cert.DattRefIdeal.nD Cert.DattRefIdeal.τ).loc Cert.DattRefIdeal.main_arg0) = m ((c.tc : Thread Cert.DattIdeal.nD Cert.DattIdeal.τ).loc Cert.DattIdeal.main_arg0)
      ∧ m' ((c.tc : Thread Cert.DattRefIdeal.nD Cert.DattRefIdeal.τ).loc Cert.DattRefIdeal.main_arg1) = m ((c.tc : Thread Cert.DattIdeal.nD Cert.DattIdeal.τ).loc Cert.DattIdeal.main_arg1)) →
    ∃ (v0 : (c : Dev Cert.DattIdeal.nD) → Buf (Elt Ideal) ((c.tc : Thread Cert.DattIdeal.nD Cert.DattIdeal.τ).loc Cert.DattIdeal.main_v1)),
      θ_run (Cert.DattIdeal.defs (F := Ideal)) (onTc (τ := Cert.DattIdeal.τ) (Cert.DattIdeal.main (F := Ideal))) ⟨m, fun _ => 0, g⟩ (fun r => ∀ c : Dev Cert.DattIdeal.nD,
          r.2.mem ((c.tc : Thread Cert.DattIdeal.nD Cert.DattIdeal.τ).loc Cert.DattIdeal.main_v1) = v0 c
          ∧ r.2.mem ((c.tc : Thread Cert.DattIdeal.nD Cert.DattIdeal.τ).loc Cert.DattIdeal.main_arg0) = m ((c.tc : Thread Cert.DattIdeal.nD Cert.DattIdeal.τ).loc Cert.DattIdeal.main_arg0)
          ∧ r.2.mem ((c.tc : Thread Cert.DattIdeal.nD Cert.DattIdeal.τ).loc Cert.DattIdeal.main_arg1) = m ((c.tc : Thread Cert.DattIdeal.nD Cert.DattIdeal.τ).loc Cert.DattIdeal.main_arg1))
      ∧ θ_run (Cert.DattRefIdeal.defs (F := Ideal)) (onTc (τ := Cert.DattRefIdeal.τ) (Cert.DattRefIdeal.main (F := Ideal))) ⟨m', fun _ => 0, g'⟩ (fun r => ∀ c : Dev Cert.DattRefIdeal.nD,
          r.2.mem ((c.tc : Thread Cert.DattRefIdeal.nD Cert.DattRefIdeal.τ).loc Cert.DattRefIdeal.main_v4) = v0 c
          ∧ r.2.mem ((c.tc : Thread Cert.DattRefIdeal.nD Cert.DattRefIdeal.τ).loc Cert.DattRefIdeal.main_arg0) = m' ((c.tc : Thread Cert.DattRefIdeal.nD Cert.DattRefIdeal.τ).loc Cert.DattRefIdeal.main_arg0)
          ∧ r.2.mem ((c.tc : Thread Cert.DattRefIdeal.nD Cert.DattRefIdeal.τ).loc Cert.DattRefIdeal.main_arg1) = m' ((c.tc : Thread Cert.DattRefIdeal.nD Cert.DattRefIdeal.τ).loc Cert.DattRefIdeal.main_arg1))

def preserves_Inbwd_InbwdIdeal : Prop :=
  True

def algebraic_InbwdIdeal_InbwdRefIdeal [hInbwdIdeal : Cert.InbwdIdeal.Facts] [hInbwdRefIdeal : Cert.InbwdRefIdeal.Facts] : Prop :=
  ∀ (m : (ℓ : Loc Cert.InbwdIdeal.nD Cert.InbwdIdeal.τ Cert.InbwdIdeal.sig) → Buf (Elt Ideal) ℓ) (g : Dev Cert.InbwdIdeal.nD → PrngReg)
    (m' : (ℓ : Loc Cert.InbwdRefIdeal.nD Cert.InbwdRefIdeal.τ Cert.InbwdRefIdeal.sig) → Buf (Elt Ideal) ℓ) (g' : Dev Cert.InbwdRefIdeal.nD → PrngReg), Pre_InbwdIdeal m →
    (∀ c : Dev Cert.InbwdIdeal.nD,
      m' ((c.tc : Thread Cert.InbwdRefIdeal.nD Cert.InbwdRefIdeal.τ).loc Cert.InbwdRefIdeal.main_arg0) = m ((c.tc : Thread Cert.InbwdIdeal.nD Cert.InbwdIdeal.τ).loc Cert.InbwdIdeal.main_arg0)
      ∧ m' ((c.tc : Thread Cert.InbwdRefIdeal.nD Cert.InbwdRefIdeal.τ).loc Cert.InbwdRefIdeal.main_arg1) = m ((c.tc : Thread Cert.InbwdIdeal.nD Cert.InbwdIdeal.τ).loc Cert.InbwdIdeal.main_arg1)
      ∧ m' ((c.tc : Thread Cert.InbwdRefIdeal.nD Cert.InbwdRefIdeal.τ).loc Cert.InbwdRefIdeal.main_arg2) = m ((c.tc : Thread Cert.InbwdIdeal.nD Cert.InbwdIdeal.τ).loc Cert.InbwdIdeal.main_arg2)
      ∧ m' ((c.tc : Thread Cert.InbwdRefIdeal.nD Cert.InbwdRefIdeal.τ).loc Cert.InbwdRefIdeal.main_arg3) = m ((c.tc : Thread Cert.InbwdIdeal.nD Cert.InbwdIdeal.τ).loc Cert.InbwdIdeal.main_arg3)
      ∧ m' ((c.tc : Thread Cert.InbwdRefIdeal.nD Cert.InbwdRefIdeal.τ).loc Cert.InbwdRefIdeal.main_arg4) = m ((c.tc : Thread Cert.InbwdIdeal.nD Cert.InbwdIdeal.τ).loc Cert.InbwdIdeal.main_arg4)) →
    ∃ (v0 : (c : Dev Cert.InbwdIdeal.nD) → Buf (Elt Ideal) ((c.tc : Thread Cert.InbwdIdeal.nD Cert.InbwdIdeal.τ).loc Cert.InbwdIdeal.main_v3_0)) (v1 : (c : Dev Cert.InbwdIdeal.nD) → Buf (Elt Ideal) ((c.tc : Thread Cert.InbwdIdeal.nD Cert.InbwdIdeal.τ).loc Cert.InbwdIdeal.main_v3_1)) (v2 : (c : Dev Cert.InbwdIdeal.nD) → Buf (Elt Ideal) ((c.tc : Thread Cert.InbwdIdeal.nD Cert.InbwdIdeal.τ).loc Cert.InbwdIdeal.main_v3_2)),
      θ_run (Cert.InbwdIdeal.defs (F := Ideal)) (onTc (τ := Cert.InbwdIdeal.τ) (Cert.InbwdIdeal.main (F := Ideal))) ⟨m, fun _ => 0, g⟩ (fun r => ∀ c : Dev Cert.InbwdIdeal.nD,
          r.2.mem ((c.tc : Thread Cert.InbwdIdeal.nD Cert.InbwdIdeal.τ).loc Cert.InbwdIdeal.main_v3_0) = v0 c
          ∧ r.2.mem ((c.tc : Thread Cert.InbwdIdeal.nD Cert.InbwdIdeal.τ).loc Cert.InbwdIdeal.main_v3_1) = v1 c
          ∧ r.2.mem ((c.tc : Thread Cert.InbwdIdeal.nD Cert.InbwdIdeal.τ).loc Cert.InbwdIdeal.main_v3_2) = v2 c
          ∧ r.2.mem ((c.tc : Thread Cert.InbwdIdeal.nD Cert.InbwdIdeal.τ).loc Cert.InbwdIdeal.main_arg0) = m ((c.tc : Thread Cert.InbwdIdeal.nD Cert.InbwdIdeal.τ).loc Cert.InbwdIdeal.main_arg0)
          ∧ r.2.mem ((c.tc : Thread Cert.InbwdIdeal.nD Cert.InbwdIdeal.τ).loc Cert.InbwdIdeal.main_arg1) = m ((c.tc : Thread Cert.InbwdIdeal.nD Cert.InbwdIdeal.τ).loc Cert.InbwdIdeal.main_arg1)
          ∧ r.2.mem ((c.tc : Thread Cert.InbwdIdeal.nD Cert.InbwdIdeal.τ).loc Cert.InbwdIdeal.main_arg2) = m ((c.tc : Thread Cert.InbwdIdeal.nD Cert.InbwdIdeal.τ).loc Cert.InbwdIdeal.main_arg2)
          ∧ r.2.mem ((c.tc : Thread Cert.InbwdIdeal.nD Cert.InbwdIdeal.τ).loc Cert.InbwdIdeal.main_arg3) = m ((c.tc : Thread Cert.InbwdIdeal.nD Cert.InbwdIdeal.τ).loc Cert.InbwdIdeal.main_arg3)
          ∧ r.2.mem ((c.tc : Thread Cert.InbwdIdeal.nD Cert.InbwdIdeal.τ).loc Cert.InbwdIdeal.main_arg4) = m ((c.tc : Thread Cert.InbwdIdeal.nD Cert.InbwdIdeal.τ).loc Cert.InbwdIdeal.main_arg4))
      ∧ θ_run (Cert.InbwdRefIdeal.defs (F := Ideal)) (onTc (τ := Cert.InbwdRefIdeal.τ) (Cert.InbwdRefIdeal.main (F := Ideal))) ⟨m', fun _ => 0, g'⟩ (fun r => ∀ c : Dev Cert.InbwdRefIdeal.nD,
          r.2.mem ((c.tc : Thread Cert.InbwdRefIdeal.nD Cert.InbwdRefIdeal.τ).loc Cert.InbwdRefIdeal.main_v37) = v0 c
          ∧ r.2.mem ((c.tc : Thread Cert.InbwdRefIdeal.nD Cert.InbwdRefIdeal.τ).loc Cert.InbwdRefIdeal.main_v38) = v1 c
          ∧ r.2.mem ((c.tc : Thread Cert.InbwdRefIdeal.nD Cert.InbwdRefIdeal.τ).loc Cert.InbwdRefIdeal.main_v20) = v2 c
          ∧ r.2.mem ((c.tc : Thread Cert.InbwdRefIdeal.nD Cert.InbwdRefIdeal.τ).loc Cert.InbwdRefIdeal.main_arg0) = m' ((c.tc : Thread Cert.InbwdRefIdeal.nD Cert.InbwdRefIdeal.τ).loc Cert.InbwdRefIdeal.main_arg0)
          ∧ r.2.mem ((c.tc : Thread Cert.InbwdRefIdeal.nD Cert.InbwdRefIdeal.τ).loc Cert.InbwdRefIdeal.main_arg1) = m' ((c.tc : Thread Cert.InbwdRefIdeal.nD Cert.InbwdRefIdeal.τ).loc Cert.InbwdRefIdeal.main_arg1)
          ∧ r.2.mem ((c.tc : Thread Cert.InbwdRefIdeal.nD Cert.InbwdRefIdeal.τ).loc Cert.InbwdRefIdeal.main_arg2) = m' ((c.tc : Thread Cert.InbwdRefIdeal.nD Cert.InbwdRefIdeal.τ).loc Cert.InbwdRefIdeal.main_arg2)
          ∧ r.2.mem ((c.tc : Thread Cert.InbwdRefIdeal.nD Cert.InbwdRefIdeal.τ).loc Cert.InbwdRefIdeal.main_arg3) = m' ((c.tc : Thread Cert.InbwdRefIdeal.nD Cert.InbwdRefIdeal.τ).loc Cert.InbwdRefIdeal.main_arg3)
          ∧ r.2.mem ((c.tc : Thread Cert.InbwdRefIdeal.nD Cert.InbwdRefIdeal.τ).loc Cert.InbwdRefIdeal.main_arg4) = m' ((c.tc : Thread Cert.InbwdRefIdeal.nD Cert.InbwdRefIdeal.τ).loc Cert.InbwdRefIdeal.main_arg4))

def preserves_Outb_OutbIdeal : Prop :=
  IdealRules.named_const.Statement Cert.OutbIdeal.κ "cubic" .f32 0x3D372713#32 ((8943 / 200000 : ℝ) : EReal)
  ∧ IdealRules.named_const.Statement Cert.OutbIdeal.κ "cubic3" .f32 0x3E095D4F#32 ((26829 / 200000 : ℝ) : EReal)

def algebraic_OutbIdeal_OutbRefIdeal_on_outb_on_pre_outb_finite [hOutbIdeal : Cert.OutbIdeal.Facts] [hOutbRefIdeal : Cert.OutbRefIdeal.Facts] [hPre_outb_finite : Cert.Pre_outb_finite.Facts] [hOn_outb_on : Cert.On_outb_on.Facts] : Prop :=
  ∀ (m : (ℓ : Loc Cert.OutbIdeal.nD Cert.OutbIdeal.τ Cert.OutbIdeal.sig) → Buf (Elt Ideal) ℓ) (g : Dev Cert.OutbIdeal.nD → PrngReg)
    (m' : (ℓ : Loc Cert.OutbRefIdeal.nD Cert.OutbRefIdeal.τ Cert.OutbRefIdeal.sig) → Buf (Elt Ideal) ℓ) (g' : Dev Cert.OutbRefIdeal.nD → PrngReg), Pre_OutbIdeal_outb_finite m →
    (∀ c : Dev Cert.OutbIdeal.nD,
      m' ((c.tc : Thread Cert.OutbRefIdeal.nD Cert.OutbRefIdeal.τ).loc Cert.OutbRefIdeal.main_arg0) = m ((c.tc : Thread Cert.OutbIdeal.nD Cert.OutbIdeal.τ).loc Cert.OutbIdeal.main_arg0)
      ∧ m' ((c.tc : Thread Cert.OutbRefIdeal.nD Cert.OutbRefIdeal.τ).loc Cert.OutbRefIdeal.main_arg1) = m ((c.tc : Thread Cert.OutbIdeal.nD Cert.OutbIdeal.τ).loc Cert.OutbIdeal.main_arg1)
      ∧ m' ((c.tc : Thread Cert.OutbRefIdeal.nD Cert.OutbRefIdeal.τ).loc Cert.OutbRefIdeal.main_arg2) = m ((c.tc : Thread Cert.OutbIdeal.nD Cert.OutbIdeal.τ).loc Cert.OutbIdeal.main_arg2)
      ∧ m' ((c.tc : Thread Cert.OutbRefIdeal.nD Cert.OutbRefIdeal.τ).loc Cert.OutbRefIdeal.main_arg3) = m ((c.tc : Thread Cert.OutbIdeal.nD Cert.OutbIdeal.τ).loc Cert.OutbIdeal.main_arg3)) →
    ∃ (v0 : (c : Dev Cert.OutbIdeal.nD) → Buf (Elt Ideal) ((c.tc : Thread Cert.OutbIdeal.nD Cert.OutbIdeal.τ).loc Cert.OutbIdeal.main_v1_0)) (v1 : (c : Dev Cert.OutbIdeal.nD) → Buf (Elt Ideal) ((c.tc : Thread Cert.OutbIdeal.nD Cert.OutbIdeal.τ).loc Cert.OutbIdeal.main_v1_1)),
      θ_run (Cert.OutbIdeal.defs (F := Ideal)) (onTc (τ := Cert.OutbIdeal.τ) (Cert.OutbIdeal.main (F := Ideal))) ⟨m, fun _ => 0, g⟩ (fun r => ∀ c : Dev Cert.OutbIdeal.nD,
          (∀ i : (⟨2, ![4224, 2048]⟩ : Shape).Idx, (Cert.On_outb_on.fn (F := Ideal) (m ((c.tc : Thread Cert.OutbIdeal.nD Cert.OutbIdeal.τ).loc Cert.OutbIdeal.main_arg0)) (m ((c.tc : Thread Cert.OutbIdeal.nD Cert.OutbIdeal.τ).loc Cert.OutbIdeal.main_arg1)) (m ((c.tc : Thread Cert.OutbIdeal.nD Cert.OutbIdeal.τ).loc Cert.OutbIdeal.main_arg2)) (m ((c.tc : Thread Cert.OutbIdeal.nD Cert.OutbIdeal.τ).loc Cert.OutbIdeal.main_arg3))).1 i = 1#1 → r.2.mem ((c.tc : Thread Cert.OutbIdeal.nD Cert.OutbIdeal.τ).loc Cert.OutbIdeal.main_v1_0) i = v0 c i)
          ∧ (∀ i : (⟨2, ![4224, 1024]⟩ : Shape).Idx, (Cert.On_outb_on.fn (F := Ideal) (m ((c.tc : Thread Cert.OutbIdeal.nD Cert.OutbIdeal.τ).loc Cert.OutbIdeal.main_arg0)) (m ((c.tc : Thread Cert.OutbIdeal.nD Cert.OutbIdeal.τ).loc Cert.OutbIdeal.main_arg1)) (m ((c.tc : Thread Cert.OutbIdeal.nD Cert.OutbIdeal.τ).loc Cert.OutbIdeal.main_arg2)) (m ((c.tc : Thread Cert.OutbIdeal.nD Cert.OutbIdeal.τ).loc Cert.OutbIdeal.main_arg3))).2 i = 1#1 → r.2.mem ((c.tc : Thread Cert.OutbIdeal.nD Cert.OutbIdeal.τ).loc Cert.OutbIdeal.main_v1_1) i = v1 c i)
          ∧ r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
          ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
          ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
          ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3))
      ∧ θ_run (Cert.OutbRefIdeal.defs (F := Ideal)) (onTc (τ := Cert.OutbRefIdeal.τ) (Cert.OutbRefIdeal.main (F := Ideal))) ⟨m', fun _ => 0, g'⟩ (fun r => ∀ c : Dev Cert.OutbRefIdeal.nD,
          (∀ i : (⟨2, ![4224, 2048]⟩ : Shape).Idx, (Cert.On_outb_on.fn (F := Ideal) (m ((c.tc : Thread Cert.OutbIdeal.nD Cert.OutbIdeal.τ).loc Cert.OutbIdeal.main_arg0)) (m ((c.tc : Thread Cert.OutbIdeal.nD Cert.OutbIdeal.τ).loc Cert.OutbIdeal.main_arg1)) (m ((c.tc : Thread Cert.OutbIdeal.nD Cert.OutbIdeal.τ).loc Cert.OutbIdeal.main_arg2)) (m ((c.tc : Thread Cert.OutbIdeal.nD Cert.OutbIdeal.τ).loc Cert.OutbIdeal.main_arg3))).1 i = 1#1 → r.2.mem ((c.tc : Thread Cert.OutbRefIdeal.nD Cert.OutbRefIdeal.τ).loc Cert.OutbRefIdeal.main_v43) i = v0 c i)
          ∧ (∀ i : (⟨2, ![4224, 1024]⟩ : Shape).Idx, (Cert.On_outb_on.fn (F := Ideal) (m ((c.tc : Thread Cert.OutbIdeal.nD Cert.OutbIdeal.τ).loc Cert.OutbIdeal.main_arg0)) (m ((c.tc : Thread Cert.OutbIdeal.nD Cert.OutbIdeal.τ).loc Cert.OutbIdeal.main_arg1)) (m ((c.tc : Thread Cert.OutbIdeal.nD Cert.OutbIdeal.τ).loc Cert.OutbIdeal.main_arg2)) (m ((c.tc : Thread Cert.OutbIdeal.nD Cert.OutbIdeal.τ).loc Cert.OutbIdeal.main_arg3))).2 i = 1#1 → r.2.mem ((c.tc : Thread Cert.OutbRefIdeal.nD Cert.OutbRefIdeal.τ).loc Cert.OutbRefIdeal.main_v28) i = v1 c i)
          ∧ r.2.mem ((c.tc : Thread Cert.OutbRefIdeal.nD Cert.OutbRefIdeal.τ).loc Cert.OutbRefIdeal.main_arg0) = m' ((c.tc : Thread Cert.OutbRefIdeal.nD Cert.OutbRefIdeal.τ).loc Cert.OutbRefIdeal.main_arg0)
          ∧ r.2.mem ((c.tc : Thread Cert.OutbRefIdeal.nD Cert.OutbRefIdeal.τ).loc Cert.OutbRefIdeal.main_arg1) = m' ((c.tc : Thread Cert.OutbRefIdeal.nD Cert.OutbRefIdeal.τ).loc Cert.OutbRefIdeal.main_arg1)
          ∧ r.2.mem ((c.tc : Thread Cert.OutbRefIdeal.nD Cert.OutbRefIdeal.τ).loc Cert.OutbRefIdeal.main_arg2) = m' ((c.tc : Thread Cert.OutbRefIdeal.nD Cert.OutbRefIdeal.τ).loc Cert.OutbRefIdeal.main_arg2)
          ∧ r.2.mem ((c.tc : Thread Cert.OutbRefIdeal.nD Cert.OutbRefIdeal.τ).loc Cert.OutbRefIdeal.main_arg3) = m' ((c.tc : Thread Cert.OutbRefIdeal.nD Cert.OutbRefIdeal.τ).loc Cert.OutbRefIdeal.main_arg3))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v5_0)) (v1 : (c : Dev Cert.FwdIdeal.nD) → Buf (Elt Ideal) ((c.tc : Thread Cert.FwdIdeal.nD Cert.FwdIdeal.τ).loc Cert.FwdIdeal.main_v5_1)) (v2 : (c : Dev Cert.FwdIdeal.nD) → Buf (Elt Ideal) ((c.tc : Thread Cert.FwdIdeal.nD Cert.FwdIdeal.τ).loc Cert.FwdIdeal.main_v5_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v5_0) = v0 c
          ∧ r.2.mem ((c.tc : Thread Cert.FwdIdeal.nD Cert.FwdIdeal.τ).loc Cert.FwdIdeal.main_v5_1) = v1 c
          ∧ r.2.mem ((c.tc : Thread Cert.FwdIdeal.nD Cert.FwdIdeal.τ).loc Cert.FwdIdeal.main_v5_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v16) = v0 c
          ∧ r.2.mem ((c.tc : Thread Cert.FwdRefIdeal.nD Cert.FwdRefIdeal.τ).loc Cert.FwdRefIdeal.main_v17) = v1 c
          ∧ r.2.mem ((c.tc : Thread Cert.FwdRefIdeal.nD Cert.FwdRefIdeal.τ).loc Cert.FwdRefIdeal.main_v18) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v12) = v0 c
          ∧ r.2.mem ((c.tc : Thread Cert.QkvRefIdeal.nD Cert.QkvRefIdeal.τ).loc Cert.QkvRefIdeal.main_v14) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Lruin_LruinIdeal : Prop :=
  True

def algebraic_LruinIdeal_LruinRefIdeal [hLruinIdeal : Cert.LruinIdeal.Facts] [hLruinRefIdeal : Cert.LruinRefIdeal.Facts] : Prop :=
  ∀ (m : (ℓ : Loc Cert.LruinIdeal.nD Cert.LruinIdeal.τ Cert.LruinIdeal.sig) → Buf (Elt Ideal) ℓ) (g : Dev Cert.LruinIdeal.nD → PrngReg)
    (m' : (ℓ : Loc Cert.LruinRefIdeal.nD Cert.LruinRefIdeal.τ Cert.LruinRefIdeal.sig) → Buf (Elt Ideal) ℓ) (g' : Dev Cert.LruinRefIdeal.nD → PrngReg), Pre_LruinIdeal m →
    (∀ c : Dev Cert.LruinIdeal.nD,
      m' ((c.tc : Thread Cert.LruinRefIdeal.nD Cert.LruinRefIdeal.τ).loc Cert.LruinRefIdeal.main_arg0) = m ((c.tc : Thread Cert.LruinIdeal.nD Cert.LruinIdeal.τ).loc Cert.LruinIdeal.main_arg0)
      ∧ m' ((c.tc : Thread Cert.LruinRefIdeal.nD Cert.LruinRefIdeal.τ).loc Cert.LruinRefIdeal.main_arg1) = m ((c.tc : Thread Cert.LruinIdeal.nD Cert.LruinIdeal.τ).loc Cert.LruinIdeal.main_arg1)
      ∧ m' ((c.tc : Thread Cert.LruinRefIdeal.nD Cert.LruinRefIdeal.τ).loc Cert.LruinRefIdeal.main_arg2) = m ((c.tc : Thread Cert.LruinIdeal.nD Cert.LruinIdeal.τ).loc Cert.LruinIdeal.main_arg2)) →
    ∃ (v0 : (c : Dev Cert.LruinIdeal.nD) → Buf (Elt Ideal) ((c.tc : Thread Cert.LruinIdeal.nD Cert.LruinIdeal.τ).loc Cert.LruinIdeal.main_v3_0)) (v1 : (c : Dev Cert.LruinIdeal.nD) → Buf (Elt Ideal) ((c.tc : Thread Cert.LruinIdeal.nD Cert.LruinIdeal.τ).loc Cert.LruinIdeal.main_v3_1)),
      θ_run (Cert.LruinIdeal.defs (F := Ideal)) (onTc (τ := Cert.LruinIdeal.τ) (Cert.LruinIdeal.main (F := Ideal))) ⟨m, fun _ => 0, g⟩ (fun r => ∀ c : Dev Cert.LruinIdeal.nD,
          r.2.mem ((c.tc : Thread Cert.LruinIdeal.nD Cert.LruinIdeal.τ).loc Cert.LruinIdeal.main_v3_0) = v0 c
          ∧ r.2.mem ((c.tc : Thread Cert.LruinIdeal.nD Cert.LruinIdeal.τ).loc Cert.LruinIdeal.main_v3_1) = v1 c
          ∧ r.2.mem ((c.tc : Thread Cert.LruinIdeal.nD Cert.LruinIdeal.τ).loc Cert.LruinIdeal.main_arg0) = m ((c.tc : Thread Cert.LruinIdeal.nD Cert.LruinIdeal.τ).loc Cert.LruinIdeal.main_arg0)
          ∧ r.2.mem ((c.tc : Thread Cert.LruinIdeal.nD Cert.LruinIdeal.τ).loc Cert.LruinIdeal.main_arg1) = m ((c.tc : Thread Cert.LruinIdeal.nD Cert.LruinIdeal.τ).loc Cert.LruinIdeal.main_arg1)
          ∧ r.2.mem ((c.tc : Thread Cert.LruinIdeal.nD Cert.LruinIdeal.τ).loc Cert.LruinIdeal.main_arg2) = m ((c.tc : Thread Cert.LruinIdeal.nD Cert.LruinIdeal.τ).loc Cert.LruinIdeal.main_arg2))
      ∧ θ_run (Cert.LruinRefIdeal.defs (F := Ideal)) (onTc (τ := Cert.LruinRefIdeal.τ) (Cert.LruinRefIdeal.main (F := Ideal))) ⟨m', fun _ => 0, g'⟩ (fun r => ∀ c : Dev Cert.LruinRefIdeal.nD,
          r.2.mem ((c.tc : Thread Cert.LruinRefIdeal.nD Cert.LruinRefIdeal.τ).loc Cert.LruinRefIdeal.main_v12) = v0 c
          ∧ r.2.mem ((c.tc : Thread Cert.LruinRefIdeal.nD Cert.LruinRefIdeal.τ).loc Cert.LruinRefIdeal.main_v13) = v1 c
          ∧ r.2.mem ((c.tc : Thread Cert.LruinRefIdeal.nD Cert.LruinRefIdeal.τ).loc Cert.LruinRefIdeal.main_arg0) = m' ((c.tc : Thread Cert.LruinRefIdeal.nD Cert.LruinRefIdeal.τ).loc Cert.LruinRefIdeal.main_arg0)
          ∧ r.2.mem ((c.tc : Thread Cert.LruinRefIdeal.nD Cert.LruinRefIdeal.τ).loc Cert.LruinRefIdeal.main_arg1) = m' ((c.tc : Thread Cert.LruinRefIdeal.nD Cert.LruinRefIdeal.τ).loc Cert.LruinRefIdeal.main_arg1)
          ∧ r.2.mem ((c.tc : Thread Cert.LruinRefIdeal.nD Cert.LruinRefIdeal.τ).loc Cert.LruinRefIdeal.main_arg2) = m' ((c.tc : Thread Cert.LruinRefIdeal.nD Cert.LruinRefIdeal.τ).loc Cert.LruinRefIdeal.main_arg2))

def preserves_Lruout_LruoutIdeal : Prop :=
  True

def algebraic_LruoutIdeal_LruoutRefIdeal [hLruoutIdeal : Cert.LruoutIdeal.Facts] [hLruoutRefIdeal : Cert.LruoutRefIdeal.Facts] : Prop :=
  ∀ (m : (ℓ : Loc Cert.LruoutIdeal.nD Cert.LruoutIdeal.τ Cert.LruoutIdeal.sig) → Buf (Elt Ideal) ℓ) (g : Dev Cert.LruoutIdeal.nD → PrngReg)
    (m' : (ℓ : Loc Cert.LruoutRefIdeal.nD Cert.LruoutRefIdeal.τ Cert.LruoutRefIdeal.sig) → Buf (Elt Ideal) ℓ) (g' : Dev Cert.LruoutRefIdeal.nD → PrngReg), Pre_LruoutIdeal m →
    (∀ c : Dev Cert.LruoutIdeal.nD,
      m' ((c.tc : Thread Cert.LruoutRefIdeal.nD Cert.LruoutRefIdeal.τ).loc Cert.LruoutRefIdeal.main_arg0) = m ((c.tc : Thread Cert.LruoutIdeal.nD Cert.LruoutIdeal.τ).loc Cert.LruoutIdeal.main_arg0)
      ∧ m' ((c.tc : Thread Cert.LruoutRefIdeal.nD Cert.LruoutRefIdeal.τ).loc Cert.LruoutRefIdeal.main_arg1) = m ((c.tc : Thread Cert.LruoutIdeal.nD Cert.LruoutIdeal.τ).loc Cert.LruoutIdeal.main_arg1)
      ∧ m' ((c.tc : Thread Cert.LruoutRefIdeal.nD Cert.LruoutRefIdeal.τ).loc Cert.LruoutRefIdeal.main_arg2) = m ((c.tc : Thread Cert.LruoutIdeal.nD Cert.LruoutIdeal.τ).loc Cert.LruoutIdeal.main_arg2)
      ∧ m' ((c.tc : Thread Cert.LruoutRefIdeal.nD Cert.LruoutRefIdeal.τ).loc Cert.LruoutRefIdeal.main_arg3) = m ((c.tc : Thread Cert.LruoutIdeal.nD Cert.LruoutIdeal.τ).loc Cert.LruoutIdeal.main_arg3)) →
    ∃ (v0 : (c : Dev Cert.LruoutIdeal.nD) → Buf (Elt Ideal) ((c.tc : Thread Cert.LruoutIdeal.nD Cert.LruoutIdeal.τ).loc Cert.LruoutIdeal.main_v1_0)) (v1 : (c : Dev Cert.LruoutIdeal.nD) → Buf (Elt Ideal) ((c.tc : Thread Cert.LruoutIdeal.nD Cert.LruoutIdeal.τ).loc Cert.LruoutIdeal.main_v1_1)),
      θ_run (Cert.LruoutIdeal.defs (F := Ideal)) (onTc (τ := Cert.LruoutIdeal.τ) (Cert.LruoutIdeal.main (F := Ideal))) ⟨m, fun _ => 0, g⟩ (fun r => ∀ c : Dev Cert.LruoutIdeal.nD,
          r.2.mem ((c.tc : Thread Cert.LruoutIdeal.nD Cert.LruoutIdeal.τ).loc Cert.LruoutIdeal.main_v1_0) = v0 c
          ∧ r.2.mem ((c.tc : Thread Cert.LruoutIdeal.nD Cert.LruoutIdeal.τ).loc Cert.LruoutIdeal.main_v1_1) = v1 c
          ∧ r.2.mem ((c.tc : Thread Cert.LruoutIdeal.nD Cert.LruoutIdeal.τ).loc Cert.LruoutIdeal.main_arg0) = m ((c.tc : Thread Cert.LruoutIdeal.nD Cert.LruoutIdeal.τ).loc Cert.LruoutIdeal.main_arg0)
          ∧ r.2.mem ((c.tc : Thread Cert.LruoutIdeal.nD Cert.LruoutIdeal.τ).loc Cert.LruoutIdeal.main_arg1) = m ((c.tc : Thread Cert.LruoutIdeal.nD Cert.LruoutIdeal.τ).loc Cert.LruoutIdeal.main_arg1)
          ∧ r.2.mem ((c.tc : Thread Cert.LruoutIdeal.nD Cert.LruoutIdeal.τ).loc Cert.LruoutIdeal.main_arg2) = m ((c.tc : Thread Cert.LruoutIdeal.nD Cert.LruoutIdeal.τ).loc Cert.LruoutIdeal.main_arg2)
          ∧ r.2.mem ((c.tc : Thread Cert.LruoutIdeal.nD Cert.LruoutIdeal.τ).loc Cert.LruoutIdeal.main_arg3) = m ((c.tc : Thread Cert.LruoutIdeal.nD Cert.LruoutIdeal.τ).loc Cert.LruoutIdeal.main_arg3))
      ∧ θ_run (Cert.LruoutRefIdeal.defs (F := Ideal)) (onTc (τ := Cert.LruoutRefIdeal.τ) (Cert.LruoutRefIdeal.main (F := Ideal))) ⟨m', fun _ => 0, g'⟩ (fun r => ∀ c : Dev Cert.LruoutRefIdeal.nD,
          r.2.mem ((c.tc : Thread Cert.LruoutRefIdeal.nD Cert.LruoutRefIdeal.τ).loc Cert.LruoutRefIdeal.main_v15) = v0 c
          ∧ r.2.mem ((c.tc : Thread Cert.LruoutRefIdeal.nD Cert.LruoutRefIdeal.τ).loc Cert.LruoutRefIdeal.main_v17) = v1 c
          ∧ r.2.mem ((c.tc : Thread Cert.LruoutRefIdeal.nD Cert.LruoutRefIdeal.τ).loc Cert.LruoutRefIdeal.main_arg0) = m' ((c.tc : Thread Cert.LruoutRefIdeal.nD Cert.LruoutRefIdeal.τ).loc Cert.LruoutRefIdeal.main_arg0)
          ∧ r.2.mem ((c.tc : Thread Cert.LruoutRefIdeal.nD Cert.LruoutRefIdeal.τ).loc Cert.LruoutRefIdeal.main_arg1) = m' ((c.tc : Thread Cert.LruoutRefIdeal.nD Cert.LruoutRefIdeal.τ).loc Cert.LruoutRefIdeal.main_arg1)
          ∧ r.2.mem ((c.tc : Thread Cert.LruoutRefIdeal.nD Cert.LruoutRefIdeal.τ).loc Cert.LruoutRefIdeal.main_arg2) = m' ((c.tc : Thread Cert.LruoutRefIdeal.nD Cert.LruoutRefIdeal.τ).loc Cert.LruoutRefIdeal.main_arg2)
          ∧ r.2.mem ((c.tc : Thread Cert.LruoutRefIdeal.nD Cert.LruoutRefIdeal.τ).loc Cert.LruoutRefIdeal.main_arg3) = m' ((c.tc : Thread Cert.LruoutRefIdeal.nD Cert.LruoutRefIdeal.τ).loc Cert.LruoutRefIdeal.main_arg3))

def preserves_Att_AttIdeal : Prop :=
  True

def algebraic_AttIdeal_AttRefIdeal [hAttIdeal : Cert.AttIdeal.Facts] [hAttRefIdeal : Cert.AttRefIdeal.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v1) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v2) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_Adams_AdamsIdeal : Prop :=
  IdealRules.named_const.Statement Cert.AdamsIdeal.κ "corr1" .f32 0x3FC48605#32 ((8388608 / 5463681 : ℝ) : EReal)
  ∧ IdealRules.named_const.Statement Cert.AdamsIdeal.κ "corr2" .f32 0x42C8E6D3#32 ((268435456 / 2672307 : ℝ) : EReal)

def algebraic_AdamsIdeal_AdamsRefIdeal [hAdamsIdeal : Cert.AdamsIdeal.Facts] [hAdamsRefIdeal : Cert.AdamsRefIdeal.Facts] : Prop :=
  ∀ (m : (ℓ : Loc Cert.AdamsIdeal.nD Cert.AdamsIdeal.τ Cert.AdamsIdeal.sig) → Buf (Elt Ideal) ℓ) (g : Dev Cert.AdamsIdeal.nD → PrngReg)
    (m' : (ℓ : Loc Cert.AdamsRefIdeal.nD Cert.AdamsRefIdeal.τ Cert.AdamsRefIdeal.sig) → Buf (Elt Ideal) ℓ) (g' : Dev Cert.AdamsRefIdeal.nD → PrngReg), Pre_AdamsIdeal m →
    (∀ c : Dev Cert.AdamsIdeal.nD,
      m' ((c.tc : Thread Cert.AdamsRefIdeal.nD Cert.AdamsRefIdeal.τ).loc Cert.AdamsRefIdeal.main_arg0) = m ((c.tc : Thread Cert.AdamsIdeal.nD Cert.AdamsIdeal.τ).loc Cert.AdamsIdeal.main_arg0)
      ∧ m' ((c.tc : Thread Cert.AdamsRefIdeal.nD Cert.AdamsRefIdeal.τ).loc Cert.AdamsRefIdeal.main_arg1) = m ((c.tc : Thread Cert.AdamsIdeal.nD Cert.AdamsIdeal.τ).loc Cert.AdamsIdeal.main_arg1)
      ∧ m' ((c.tc : Thread Cert.AdamsRefIdeal.nD Cert.AdamsRefIdeal.τ).loc Cert.AdamsRefIdeal.main_arg2) = m ((c.tc : Thread Cert.AdamsIdeal.nD Cert.AdamsIdeal.τ).loc Cert.AdamsIdeal.main_arg2)
      ∧ m' ((c.tc : Thread Cert.AdamsRefIdeal.nD Cert.AdamsRefIdeal.τ).loc Cert.AdamsRefIdeal.main_arg3) = m ((c.tc : Thread Cert.AdamsIdeal.nD Cert.AdamsIdeal.τ).loc Cert.AdamsIdeal.main_arg3)) →
    ∃ (v0 : (c : Dev Cert.AdamsIdeal.nD) → Buf (Elt Ideal) ((c.tc : Thread Cert.AdamsIdeal.nD Cert.AdamsIdeal.τ).loc Cert.AdamsIdeal.main_v0_0)) (v1 : (c : Dev Cert.AdamsIdeal.nD) → Buf (Elt Ideal) ((c.tc : Thread Cert.AdamsIdeal.nD Cert.AdamsIdeal.τ).loc Cert.AdamsIdeal.main_v0_1)) (v2 : (c : Dev Cert.AdamsIdeal.nD) → Buf (Elt Ideal) ((c.tc : Thread Cert.AdamsIdeal.nD Cert.AdamsIdeal.τ).loc Cert.AdamsIdeal.main_v0_2)),
      θ_run (Cert.AdamsIdeal.defs (F := Ideal)) (onTc (τ := Cert.AdamsIdeal.τ) (Cert.AdamsIdeal.main (F := Ideal))) ⟨m, fun _ => 0, g⟩ (fun r => ∀ c : Dev Cert.AdamsIdeal.nD,
          r.2.mem ((c.tc : Thread Cert.AdamsIdeal.nD Cert.AdamsIdeal.τ).loc Cert.AdamsIdeal.main_v0_0) = v0 c
          ∧ r.2.mem ((c.tc : Thread Cert.AdamsIdeal.nD Cert.AdamsIdeal.τ).loc Cert.AdamsIdeal.main_v0_1) = v1 c
          ∧ r.2.mem ((c.tc : Thread Cert.AdamsIdeal.nD Cert.AdamsIdeal.τ).loc Cert.AdamsIdeal.main_v0_2) = v2 c
          ∧ r.2.mem ((c.tc : Thread Cert.AdamsIdeal.nD Cert.AdamsIdeal.τ).loc Cert.AdamsIdeal.main_arg0) = m ((c.tc : Thread Cert.AdamsIdeal.nD Cert.AdamsIdeal.τ).loc Cert.AdamsIdeal.main_arg0)
          ∧ r.2.mem ((c.tc : Thread Cert.AdamsIdeal.nD Cert.AdamsIdeal.τ).loc Cert.AdamsIdeal.main_arg1) = m ((c.tc : Thread Cert.AdamsIdeal.nD Cert.AdamsIdeal.τ).loc Cert.AdamsIdeal.main_arg1)
          ∧ r.2.mem ((c.tc : Thread Cert.AdamsIdeal.nD Cert.AdamsIdeal.τ).loc Cert.AdamsIdeal.main_arg2) = m ((c.tc : Thread Cert.AdamsIdeal.nD Cert.AdamsIdeal.τ).loc Cert.AdamsIdeal.main_arg2)
          ∧ r.2.mem ((c.tc : Thread Cert.AdamsIdeal.nD Cert.AdamsIdeal.τ).loc Cert.AdamsIdeal.main_arg3) = m ((c.tc : Thread Cert.AdamsIdeal.nD Cert.AdamsIdeal.τ).loc Cert.AdamsIdeal.main_arg3))
      ∧ θ_run (Cert.AdamsRefIdeal.defs (F := Ideal)) (onTc (τ := Cert.AdamsRefIdeal.τ) (Cert.AdamsRefIdeal.main (F := Ideal))) ⟨m', fun _ => 0, g'⟩ (fun r => ∀ c : Dev Cert.AdamsRefIdeal.nD,
          r.2.mem ((c.tc : Thread Cert.AdamsRefIdeal.nD Cert.AdamsRefIdeal.τ).loc Cert.AdamsRefIdeal.main_v23) = v0 c
          ∧ r.2.mem ((c.tc : Thread Cert.AdamsRefIdeal.nD Cert.AdamsRefIdeal.τ).loc Cert.AdamsRefIdeal.main_v4) = v1 c
          ∧ r.2.mem ((c.tc : Thread Cert.AdamsRefIdeal.nD Cert.AdamsRefIdeal.τ).loc Cert.AdamsRefIdeal.main_v10) = v2 c
          ∧ r.2.mem ((c.tc : Thread Cert.AdamsRefIdeal.nD Cert.AdamsRefIdeal.τ).loc Cert.AdamsRefIdeal.main_arg0) = m' ((c.tc : Thread Cert.AdamsRefIdeal.nD Cert.AdamsRefIdeal.τ).loc Cert.AdamsRefIdeal.main_arg0)
          ∧ r.2.mem ((c.tc : Thread Cert.AdamsRefIdeal.nD Cert.AdamsRefIdeal.τ).loc Cert.AdamsRefIdeal.main_arg1) = m' ((c.tc : Thread Cert.AdamsRefIdeal.nD Cert.AdamsRefIdeal.τ).loc Cert.AdamsRefIdeal.main_arg1)
          ∧ r.2.mem ((c.tc : Thread Cert.AdamsRefIdeal.nD Cert.AdamsRefIdeal.τ).loc Cert.AdamsRefIdeal.main_arg2) = m' ((c.tc : Thread Cert.AdamsRefIdeal.nD Cert.AdamsRefIdeal.τ).loc Cert.AdamsRefIdeal.main_arg2)
          ∧ r.2.mem ((c.tc : Thread Cert.AdamsRefIdeal.nD Cert.AdamsRefIdeal.τ).loc Cert.AdamsRefIdeal.main_arg3) = m' ((c.tc : Thread Cert.AdamsRefIdeal.nD Cert.AdamsRefIdeal.τ).loc Cert.AdamsRefIdeal.main_arg3))

def preserves_Adamup_AdamupIdeal : Prop :=
  IdealRules.named_const.Statement Cert.AdamupIdeal.κ "corr1" .f32 0x3FC48605#32 ((8388608 / 5463681 : ℝ) : EReal)
  ∧ IdealRules.named_const.Statement Cert.AdamupIdeal.κ "corr2" .f32 0x42C8E6D3#32 ((268435456 / 2672307 : ℝ) : EReal)

def algebraic_AdamupIdeal_AdamupRefIdeal [hAdamupIdeal : Cert.AdamupIdeal.Facts] [hAdamupRefIdeal : Cert.AdamupRefIdeal.Facts] : Prop :=
  ∀ (m : (ℓ : Loc Cert.AdamupIdeal.nD Cert.AdamupIdeal.τ Cert.AdamupIdeal.sig) → Buf (Elt Ideal) ℓ) (g : Dev Cert.AdamupIdeal.nD → PrngReg)
    (m' : (ℓ : Loc Cert.AdamupRefIdeal.nD Cert.AdamupRefIdeal.τ Cert.AdamupRefIdeal.sig) → Buf (Elt Ideal) ℓ) (g' : Dev Cert.AdamupRefIdeal.nD → PrngReg), Pre_AdamupIdeal m →
    (∀ c : Dev Cert.AdamupIdeal.nD,
      m' ((c.tc : Thread Cert.AdamupRefIdeal.nD Cert.AdamupRefIdeal.τ).loc Cert.AdamupRefIdeal.main_arg0) = m ((c.tc : Thread Cert.AdamupIdeal.nD Cert.AdamupIdeal.τ).loc Cert.AdamupIdeal.main_arg0)
      ∧ m' ((c.tc : Thread Cert.AdamupRefIdeal.nD Cert.AdamupRefIdeal.τ).loc Cert.AdamupRefIdeal.main_arg1) = m ((c.tc : Thread Cert.AdamupIdeal.nD Cert.AdamupIdeal.τ).loc Cert.AdamupIdeal.main_arg1)
      ∧ m' ((c.tc : Thread Cert.AdamupRefIdeal.nD Cert.AdamupRefIdeal.τ).loc Cert.AdamupRefIdeal.main_arg2) = m ((c.tc : Thread Cert.AdamupIdeal.nD Cert.AdamupIdeal.τ).loc Cert.AdamupIdeal.main_arg2)
      ∧ m' ((c.tc : Thread Cert.AdamupRefIdeal.nD Cert.AdamupRefIdeal.τ).loc Cert.AdamupRefIdeal.main_arg3) = m ((c.tc : Thread Cert.AdamupIdeal.nD Cert.AdamupIdeal.τ).loc Cert.AdamupIdeal.main_arg3)
      ∧ m' ((c.tc : Thread Cert.AdamupRefIdeal.nD Cert.AdamupRefIdeal.τ).loc Cert.AdamupRefIdeal.main_arg4) = m ((c.tc : Thread Cert.AdamupIdeal.nD Cert.AdamupIdeal.τ).loc Cert.AdamupIdeal.main_arg4)
      ∧ m' ((c.tc : Thread Cert.AdamupRefIdeal.nD Cert.AdamupRefIdeal.τ).loc Cert.AdamupRefIdeal.main_arg5) = m ((c.tc : Thread Cert.AdamupIdeal.nD Cert.AdamupIdeal.τ).loc Cert.AdamupIdeal.main_arg5)) →
    ∃ (v0 : (c : Dev Cert.AdamupIdeal.nD) → Buf (Elt Ideal) ((c.tc : Thread Cert.AdamupIdeal.nD Cert.AdamupIdeal.τ).loc Cert.AdamupIdeal.main_v0_0)) (v1 : (c : Dev Cert.AdamupIdeal.nD) → Buf (Elt Ideal) ((c.tc : Thread Cert.AdamupIdeal.nD Cert.AdamupIdeal.τ).loc Cert.AdamupIdeal.main_v0_1)) (v2 : (c : Dev Cert.AdamupIdeal.nD) → Buf (Elt Ideal) ((c.tc : Thread Cert.AdamupIdeal.nD Cert.AdamupIdeal.τ).loc Cert.AdamupIdeal.main_v0_2)) (v3 : (c : Dev Cert.AdamupIdeal.nD) → Buf (Elt Ideal) ((c.tc : Thread Cert.AdamupIdeal.nD Cert.AdamupIdeal.τ).loc Cert.AdamupIdeal.main_v0_3)),
      θ_run (Cert.AdamupIdeal.defs (F := Ideal)) (onTc (τ := Cert.AdamupIdeal.τ) (Cert.AdamupIdeal.main (F := Ideal))) ⟨m, fun _ => 0, g⟩ (fun r => ∀ c : Dev Cert.AdamupIdeal.nD,
          r.2.mem ((c.tc : Thread Cert.AdamupIdeal.nD Cert.AdamupIdeal.τ).loc Cert.AdamupIdeal.main_v0_0) = v0 c
          ∧ r.2.mem ((c.tc : Thread Cert.AdamupIdeal.nD Cert.AdamupIdeal.τ).loc Cert.AdamupIdeal.main_v0_1) = v1 c
          ∧ r.2.mem ((c.tc : Thread Cert.AdamupIdeal.nD Cert.AdamupIdeal.τ).loc Cert.AdamupIdeal.main_v0_2) = v2 c
          ∧ r.2.mem ((c.tc : Thread Cert.AdamupIdeal.nD Cert.AdamupIdeal.τ).loc Cert.AdamupIdeal.main_v0_3) = v3 c
          ∧ r.2.mem ((c.tc : Thread Cert.AdamupIdeal.nD Cert.AdamupIdeal.τ).loc Cert.AdamupIdeal.main_arg0) = m ((c.tc : Thread Cert.AdamupIdeal.nD Cert.AdamupIdeal.τ).loc Cert.AdamupIdeal.main_arg0)
          ∧ r.2.mem ((c.tc : Thread Cert.AdamupIdeal.nD Cert.AdamupIdeal.τ).loc Cert.AdamupIdeal.main_arg1) = m ((c.tc : Thread Cert.AdamupIdeal.nD Cert.AdamupIdeal.τ).loc Cert.AdamupIdeal.main_arg1)
          ∧ r.2.mem ((c.tc : Thread Cert.AdamupIdeal.nD Cert.AdamupIdeal.τ).loc Cert.AdamupIdeal.main_arg2) = m ((c.tc : Thread Cert.AdamupIdeal.nD Cert.AdamupIdeal.τ).loc Cert.AdamupIdeal.main_arg2)
          ∧ r.2.mem ((c.tc : Thread Cert.AdamupIdeal.nD Cert.AdamupIdeal.τ).loc Cert.AdamupIdeal.main_arg3) = m ((c.tc : Thread Cert.AdamupIdeal.nD Cert.AdamupIdeal.τ).loc Cert.AdamupIdeal.main_arg3)
          ∧ r.2.mem ((c.tc : Thread Cert.AdamupIdeal.nD Cert.AdamupIdeal.τ).loc Cert.AdamupIdeal.main_arg4) = m ((c.tc : Thread Cert.AdamupIdeal.nD Cert.AdamupIdeal.τ).loc Cert.AdamupIdeal.main_arg4)
          ∧ r.2.mem ((c.tc : Thread Cert.AdamupIdeal.nD Cert.AdamupIdeal.τ).loc Cert.AdamupIdeal.main_arg5) = m ((c.tc : Thread Cert.AdamupIdeal.nD Cert.AdamupIdeal.τ).loc Cert.AdamupIdeal.main_arg5))
      ∧ θ_run (Cert.AdamupRefIdeal.defs (F := Ideal)) (onTc (τ := Cert.AdamupRefIdeal.τ) (Cert.AdamupRefIdeal.main (F := Ideal))) ⟨m', fun _ => 0, g'⟩ (fun r => ∀ c : Dev Cert.AdamupRefIdeal.nD,
          r.2.mem ((c.tc : Thread Cert.AdamupRefIdeal.nD Cert.AdamupRefIdeal.τ).loc Cert.AdamupRefIdeal.main_v7) = v0 c
          ∧ r.2.mem ((c.tc : Thread Cert.AdamupRefIdeal.nD Cert.AdamupRefIdeal.τ).loc Cert.AdamupRefIdeal.main_v31) = v1 c
          ∧ r.2.mem ((c.tc : Thread Cert.AdamupRefIdeal.nD Cert.AdamupRefIdeal.τ).loc Cert.AdamupRefIdeal.main_v12) = v2 c
          ∧ r.2.mem ((c.tc : Thread Cert.AdamupRefIdeal.nD Cert.AdamupRefIdeal.τ).loc Cert.AdamupRefIdeal.main_v18) = v3 c
          ∧ r.2.mem ((c.tc : Thread Cert.AdamupRefIdeal.nD Cert.AdamupRefIdeal.τ).loc Cert.AdamupRefIdeal.main_arg0) = m' ((c.tc : Thread Cert.AdamupRefIdeal.nD Cert.AdamupRefIdeal.τ).loc Cert.AdamupRefIdeal.main_arg0)
          ∧ r.2.mem ((c.tc : Thread Cert.AdamupRefIdeal.nD Cert.AdamupRefIdeal.τ).loc Cert.AdamupRefIdeal.main_arg1) = m' ((c.tc : Thread Cert.AdamupRefIdeal.nD Cert.AdamupRefIdeal.τ).loc Cert.AdamupRefIdeal.main_arg1)
          ∧ r.2.mem ((c.tc : Thread Cert.AdamupRefIdeal.nD Cert.AdamupRefIdeal.τ).loc Cert.AdamupRefIdeal.main_arg2) = m' ((c.tc : Thread Cert.AdamupRefIdeal.nD Cert.AdamupRefIdeal.τ).loc Cert.AdamupRefIdeal.main_arg2)
          ∧ r.2.mem ((c.tc : Thread Cert.AdamupRefIdeal.nD Cert.AdamupRefIdeal.τ).loc Cert.AdamupRefIdeal.main_arg3) = m' ((c.tc : Thread Cert.AdamupRefIdeal.nD Cert.AdamupRefIdeal.τ).loc Cert.AdamupRefIdeal.main_arg3)
          ∧ r.2.mem ((c.tc : Thread Cert.AdamupRefIdeal.nD Cert.AdamupRefIdeal.τ).loc Cert.AdamupRefIdeal.main_arg4) = m' ((c.tc : Thread Cert.AdamupRefIdeal.nD Cert.AdamupRefIdeal.τ).loc Cert.AdamupRefIdeal.main_arg4)
          ∧ r.2.mem ((c.tc : Thread Cert.AdamupRefIdeal.nD Cert.AdamupRefIdeal.τ).loc Cert.AdamupRefIdeal.main_arg5) = m' ((c.tc : Thread Cert.AdamupRefIdeal.nD Cert.AdamupRefIdeal.τ).loc Cert.AdamupRefIdeal.main_arg5))

def preserves_Adamqkv_AdamqkvIdeal : Prop :=
  IdealRules.named_const.Statement Cert.AdamqkvIdeal.κ "corr1" .f32 0x3FC48605#32 ((8388608 / 5463681 : ℝ) : EReal)
  ∧ IdealRules.named_const.Statement Cert.AdamqkvIdeal.κ "corr2" .f32 0x42C8E6D3#32 ((268435456 / 2672307 : ℝ) : EReal)

def algebraic_AdamqkvIdeal_AdamqkvRefIdeal [hAdamqkvIdeal : Cert.AdamqkvIdeal.Facts] [hAdamqkvRefIdeal : Cert.AdamqkvRefIdeal.Facts] : Prop :=
  ∀ (m : (ℓ : Loc Cert.AdamqkvIdeal.nD Cert.AdamqkvIdeal.τ Cert.AdamqkvIdeal.sig) → Buf (Elt Ideal) ℓ) (g : Dev Cert.AdamqkvIdeal.nD → PrngReg)
    (m' : (ℓ : Loc Cert.AdamqkvRefIdeal.nD Cert.AdamqkvRefIdeal.τ Cert.AdamqkvRefIdeal.sig) → Buf (Elt Ideal) ℓ) (g' : Dev Cert.AdamqkvRefIdeal.nD → PrngReg), Pre_AdamqkvIdeal m →
    (∀ c : Dev Cert.AdamqkvIdeal.nD,
      m' ((c.tc : Thread Cert.AdamqkvRefIdeal.nD Cert.AdamqkvRefIdeal.τ).loc Cert.AdamqkvRefIdeal.main_arg0) = m ((c.tc : Thread Cert.AdamqkvIdeal.nD Cert.AdamqkvIdeal.τ).loc Cert.AdamqkvIdeal.main_arg0)
      ∧ m' ((c.tc : Thread Cert.AdamqkvRefIdeal.nD Cert.AdamqkvRefIdeal.τ).loc Cert.AdamqkvRefIdeal.main_arg1) = m ((c.tc : Thread Cert.AdamqkvIdeal.nD Cert.AdamqkvIdeal.τ).loc Cert.AdamqkvIdeal.main_arg1)
      ∧ m' ((c.tc : Thread Cert.AdamqkvRefIdeal.nD Cert.AdamqkvRefIdeal.τ).loc Cert.AdamqkvRefIdeal.main_arg2) = m ((c.tc : Thread Cert.AdamqkvIdeal.nD Cert.AdamqkvIdeal.τ).loc Cert.AdamqkvIdeal.main_arg2)
      ∧ m' ((c.tc : Thread Cert.AdamqkvRefIdeal.nD Cert.AdamqkvRefIdeal.τ).loc Cert.AdamqkvRefIdeal.main_arg3) = m ((c.tc : Thread Cert.AdamqkvIdeal.nD Cert.AdamqkvIdeal.τ).loc Cert.AdamqkvIdeal.main_arg3)
      ∧ m' ((c.tc : Thread Cert.AdamqkvRefIdeal.nD Cert.AdamqkvRefIdeal.τ).loc Cert.AdamqkvRefIdeal.main_arg4) = m ((c.tc : Thread Cert.AdamqkvIdeal.nD Cert.AdamqkvIdeal.τ).loc Cert.AdamqkvIdeal.main_arg4)
      ∧ m' ((c.tc : Thread Cert.AdamqkvRefIdeal.nD Cert.AdamqkvRefIdeal.τ).loc Cert.AdamqkvRefIdeal.main_arg5) = m ((c.tc : Thread Cert.AdamqkvIdeal.nD Cert.AdamqkvIdeal.τ).loc Cert.AdamqkvIdeal.main_arg5)) →
    ∃ (v0 : (c : Dev Cert.AdamqkvIdeal.nD) → Buf (Elt Ideal) ((c.tc : Thread Cert.AdamqkvIdeal.nD Cert.AdamqkvIdeal.τ).loc Cert.AdamqkvIdeal.main_v0_0)) (v1 : (c : Dev Cert.AdamqkvIdeal.nD) → Buf (Elt Ideal) ((c.tc : Thread Cert.AdamqkvIdeal.nD Cert.AdamqkvIdeal.τ).loc Cert.AdamqkvIdeal.main_v0_1)) (v2 : (c : Dev Cert.AdamqkvIdeal.nD) → Buf (Elt Ideal) ((c.tc : Thread Cert.AdamqkvIdeal.nD Cert.AdamqkvIdeal.τ).loc Cert.AdamqkvIdeal.main_v0_2)) (v3 : (c : Dev Cert.AdamqkvIdeal.nD) → Buf (Elt Ideal) ((c.tc : Thread Cert.AdamqkvIdeal.nD Cert.AdamqkvIdeal.τ).loc Cert.AdamqkvIdeal.main_v0_3)),
      θ_run (Cert.AdamqkvIdeal.defs (F := Ideal)) (onTc (τ := Cert.AdamqkvIdeal.τ) (Cert.AdamqkvIdeal.main (F := Ideal))) ⟨m, fun _ => 0, g⟩ (fun r => ∀ c : Dev Cert.AdamqkvIdeal.nD,
          r.2.mem ((c.tc : Thread Cert.AdamqkvIdeal.nD Cert.AdamqkvIdeal.τ).loc Cert.AdamqkvIdeal.main_v0_0) = v0 c
          ∧ r.2.mem ((c.tc : Thread Cert.AdamqkvIdeal.nD Cert.AdamqkvIdeal.τ).loc Cert.AdamqkvIdeal.main_v0_1) = v1 c
          ∧ r.2.mem ((c.tc : Thread Cert.AdamqkvIdeal.nD Cert.AdamqkvIdeal.τ).loc Cert.AdamqkvIdeal.main_v0_2) = v2 c
          ∧ r.2.mem ((c.tc : Thread Cert.AdamqkvIdeal.nD Cert.AdamqkvIdeal.τ).loc Cert.AdamqkvIdeal.main_v0_3) = v3 c
          ∧ r.2.mem ((c.tc : Thread Cert.AdamqkvIdeal.nD Cert.AdamqkvIdeal.τ).loc Cert.AdamqkvIdeal.main_arg0) = m ((c.tc : Thread Cert.AdamqkvIdeal.nD Cert.AdamqkvIdeal.τ).loc Cert.AdamqkvIdeal.main_arg0)
          ∧ r.2.mem ((c.tc : Thread Cert.AdamqkvIdeal.nD Cert.AdamqkvIdeal.τ).loc Cert.AdamqkvIdeal.main_arg1) = m ((c.tc : Thread Cert.AdamqkvIdeal.nD Cert.AdamqkvIdeal.τ).loc Cert.AdamqkvIdeal.main_arg1)
          ∧ r.2.mem ((c.tc : Thread Cert.AdamqkvIdeal.nD Cert.AdamqkvIdeal.τ).loc Cert.AdamqkvIdeal.main_arg2) = m ((c.tc : Thread Cert.AdamqkvIdeal.nD Cert.AdamqkvIdeal.τ).loc Cert.AdamqkvIdeal.main_arg2)
          ∧ r.2.mem ((c.tc : Thread Cert.AdamqkvIdeal.nD Cert.AdamqkvIdeal.τ).loc Cert.AdamqkvIdeal.main_arg3) = m ((c.tc : Thread Cert.AdamqkvIdeal.nD Cert.AdamqkvIdeal.τ).loc Cert.AdamqkvIdeal.main_arg3)
          ∧ r.2.mem ((c.tc : Thread Cert.AdamqkvIdeal.nD Cert.AdamqkvIdeal.τ).loc Cert.AdamqkvIdeal.main_arg4) = m ((c.tc : Thread Cert.AdamqkvIdeal.nD Cert.AdamqkvIdeal.τ).loc Cert.AdamqkvIdeal.main_arg4)
          ∧ r.2.mem ((c.tc : Thread Cert.AdamqkvIdeal.nD Cert.AdamqkvIdeal.τ).loc Cert.AdamqkvIdeal.main_arg5) = m ((c.tc : Thread Cert.AdamqkvIdeal.nD Cert.AdamqkvIdeal.τ).loc Cert.AdamqkvIdeal.main_arg5))
      ∧ θ_run (Cert.AdamqkvRefIdeal.defs (F := Ideal)) (onTc (τ := Cert.AdamqkvRefIdeal.τ) (Cert.AdamqkvRefIdeal.main (F := Ideal))) ⟨m', fun _ => 0, g'⟩ (fun r => ∀ c : Dev Cert.AdamqkvRefIdeal.nD,
          r.2.mem ((c.tc : Thread Cert.AdamqkvRefIdeal.nD Cert.AdamqkvRefIdeal.τ).loc Cert.AdamqkvRefIdeal.main_v7) = v0 c
          ∧ r.2.mem ((c.tc : Thread Cert.AdamqkvRefIdeal.nD Cert.AdamqkvRefIdeal.τ).loc Cert.AdamqkvRefIdeal.main_v31) = v1 c
          ∧ r.2.mem ((c.tc : Thread Cert.AdamqkvRefIdeal.nD Cert.AdamqkvRefIdeal.τ).loc Cert.AdamqkvRefIdeal.main_v12) = v2 c
          ∧ r.2.mem ((c.tc : Thread Cert.AdamqkvRefIdeal.nD Cert.AdamqkvRefIdeal.τ).loc Cert.AdamqkvRefIdeal.main_v18) = v3 c
          ∧ r.2.mem ((c.tc : Thread Cert.AdamqkvRefIdeal.nD Cert.AdamqkvRefIdeal.τ).loc Cert.AdamqkvRefIdeal.main_arg0) = m' ((c.tc : Thread Cert.AdamqkvRefIdeal.nD Cert.AdamqkvRefIdeal.τ).loc Cert.AdamqkvRefIdeal.main_arg0)
          ∧ r.2.mem ((c.tc : Thread Cert.AdamqkvRefIdeal.nD Cert.AdamqkvRefIdeal.τ).loc Cert.AdamqkvRefIdeal.main_arg1) = m' ((c.tc : Thread Cert.AdamqkvRefIdeal.nD Cert.AdamqkvRefIdeal.τ).loc Cert.AdamqkvRefIdeal.main_arg1)
          ∧ r.2.mem ((c.tc : Thread Cert.AdamqkvRefIdeal.nD Cert.AdamqkvRefIdeal.τ).loc Cert.AdamqkvRefIdeal.main_arg2) = m' ((c.tc : Thread Cert.AdamqkvRefIdeal.nD Cert.AdamqkvRefIdeal.τ).loc Cert.AdamqkvRefIdeal.main_arg2)
          ∧ r.2.mem ((c.tc : Thread Cert.AdamqkvRefIdeal.nD Cert.AdamqkvRefIdeal.τ).loc Cert.AdamqkvRefIdeal.main_arg3) = m' ((c.tc : Thread Cert.AdamqkvRefIdeal.nD Cert.AdamqkvRefIdeal.τ).loc Cert.AdamqkvRefIdeal.main_arg3)
          ∧ r.2.mem ((c.tc : Thread Cert.AdamqkvRefIdeal.nD Cert.AdamqkvRefIdeal.τ).loc Cert.AdamqkvRefIdeal.main_arg4) = m' ((c.tc : Thread Cert.AdamqkvRefIdeal.nD Cert.AdamqkvRefIdeal.τ).loc Cert.AdamqkvRefIdeal.main_arg4)
          ∧ r.2.mem ((c.tc : Thread Cert.AdamqkvRefIdeal.nD Cert.AdamqkvRefIdeal.τ).loc Cert.AdamqkvRefIdeal.main_arg5) = m' ((c.tc : Thread Cert.AdamqkvRefIdeal.nD Cert.AdamqkvRefIdeal.τ).loc Cert.AdamqkvRefIdeal.main_arg5))

def preserves_Adamin_AdaminIdeal : Prop :=
  IdealRules.named_const.Statement Cert.AdaminIdeal.κ "corr1" .f32 0x3FC48605#32 ((8388608 / 5463681 : ℝ) : EReal)
  ∧ IdealRules.named_const.Statement Cert.AdaminIdeal.κ "corr2" .f32 0x42C8E6D3#32 ((268435456 / 2672307 : ℝ) : EReal)

def algebraic_AdaminIdeal_AdaminRefIdeal [hAdaminIdeal : Cert.AdaminIdeal.Facts] [hAdaminRefIdeal : Cert.AdaminRefIdeal.Facts] : Prop :=
  ∀ (m : (ℓ : Loc Cert.AdaminIdeal.nD Cert.AdaminIdeal.τ Cert.AdaminIdeal.sig) → Buf (Elt Ideal) ℓ) (g : Dev Cert.AdaminIdeal.nD → PrngReg)
    (m' : (ℓ : Loc Cert.AdaminRefIdeal.nD Cert.AdaminRefIdeal.τ Cert.AdaminRefIdeal.sig) → Buf (Elt Ideal) ℓ) (g' : Dev Cert.AdaminRefIdeal.nD → PrngReg), Pre_AdaminIdeal m →
    (∀ c : Dev Cert.AdaminIdeal.nD,
      m' ((c.tc : Thread Cert.AdaminRefIdeal.nD Cert.AdaminRefIdeal.τ).loc Cert.AdaminRefIdeal.main_arg0) = m ((c.tc : Thread Cert.AdaminIdeal.nD Cert.AdaminIdeal.τ).loc Cert.AdaminIdeal.main_arg0)
      ∧ m' ((c.tc : Thread Cert.AdaminRefIdeal.nD Cert.AdaminRefIdeal.τ).loc Cert.AdaminRefIdeal.main_arg1) = m ((c.tc : Thread Cert.AdaminIdeal.nD Cert.AdaminIdeal.τ).loc Cert.AdaminIdeal.main_arg1)
      ∧ m' ((c.tc : Thread Cert.AdaminRefIdeal.nD Cert.AdaminRefIdeal.τ).loc Cert.AdaminRefIdeal.main_arg2) = m ((c.tc : Thread Cert.AdaminIdeal.nD Cert.AdaminIdeal.τ).loc Cert.AdaminIdeal.main_arg2)
      ∧ m' ((c.tc : Thread Cert.AdaminRefIdeal.nD Cert.AdaminRefIdeal.τ).loc Cert.AdaminRefIdeal.main_arg3) = m ((c.tc : Thread Cert.AdaminIdeal.nD Cert.AdaminIdeal.τ).loc Cert.AdaminIdeal.main_arg3)
      ∧ m' ((c.tc : Thread Cert.AdaminRefIdeal.nD Cert.AdaminRefIdeal.τ).loc Cert.AdaminRefIdeal.main_arg4) = m ((c.tc : Thread Cert.AdaminIdeal.nD Cert.AdaminIdeal.τ).loc Cert.AdaminIdeal.main_arg4)
      ∧ m' ((c.tc : Thread Cert.AdaminRefIdeal.nD Cert.AdaminRefIdeal.τ).loc Cert.AdaminRefIdeal.main_arg5) = m ((c.tc : Thread Cert.AdaminIdeal.nD Cert.AdaminIdeal.τ).loc Cert.AdaminIdeal.main_arg5)) →
    ∃ (v0 : (c : Dev Cert.AdaminIdeal.nD) → Buf (Elt Ideal) ((c.tc : Thread Cert.AdaminIdeal.nD Cert.AdaminIdeal.τ).loc Cert.AdaminIdeal.main_v0_0)) (v1 : (c : Dev Cert.AdaminIdeal.nD) → Buf (Elt Ideal) ((c.tc : Thread Cert.AdaminIdeal.nD Cert.AdaminIdeal.τ).loc Cert.AdaminIdeal.main_v0_1)) (v2 : (c : Dev Cert.AdaminIdeal.nD) → Buf (Elt Ideal) ((c.tc : Thread Cert.AdaminIdeal.nD Cert.AdaminIdeal.τ).loc Cert.AdaminIdeal.main_v0_2)) (v3 : (c : Dev Cert.AdaminIdeal.nD) → Buf (Elt Ideal) ((c.tc : Thread Cert.AdaminIdeal.nD Cert.AdaminIdeal.τ).loc Cert.AdaminIdeal.main_v0_3)),
      θ_run (Cert.AdaminIdeal.defs (F := Ideal)) (onTc (τ := Cert.AdaminIdeal.τ) (Cert.AdaminIdeal.main (F := Ideal))) ⟨m, fun _ => 0, g⟩ (fun r => ∀ c : Dev Cert.AdaminIdeal.nD,
          r.2.mem ((c.tc : Thread Cert.AdaminIdeal.nD Cert.AdaminIdeal.τ).loc Cert.AdaminIdeal.main_v0_0) = v0 c
          ∧ r.2.mem ((c.tc : Thread Cert.AdaminIdeal.nD Cert.AdaminIdeal.τ).loc Cert.AdaminIdeal.main_v0_1) = v1 c
          ∧ r.2.mem ((c.tc : Thread Cert.AdaminIdeal.nD Cert.AdaminIdeal.τ).loc Cert.AdaminIdeal.main_v0_2) = v2 c
          ∧ r.2.mem ((c.tc : Thread Cert.AdaminIdeal.nD Cert.AdaminIdeal.τ).loc Cert.AdaminIdeal.main_v0_3) = v3 c
          ∧ r.2.mem ((c.tc : Thread Cert.AdaminIdeal.nD Cert.AdaminIdeal.τ).loc Cert.AdaminIdeal.main_arg0) = m ((c.tc : Thread Cert.AdaminIdeal.nD Cert.AdaminIdeal.τ).loc Cert.AdaminIdeal.main_arg0)
          ∧ r.2.mem ((c.tc : Thread Cert.AdaminIdeal.nD Cert.AdaminIdeal.τ).loc Cert.AdaminIdeal.main_arg1) = m ((c.tc : Thread Cert.AdaminIdeal.nD Cert.AdaminIdeal.τ).loc Cert.AdaminIdeal.main_arg1)
          ∧ r.2.mem ((c.tc : Thread Cert.AdaminIdeal.nD Cert.AdaminIdeal.τ).loc Cert.AdaminIdeal.main_arg2) = m ((c.tc : Thread Cert.AdaminIdeal.nD Cert.AdaminIdeal.τ).loc Cert.AdaminIdeal.main_arg2)
          ∧ r.2.mem ((c.tc : Thread Cert.AdaminIdeal.nD Cert.AdaminIdeal.τ).loc Cert.AdaminIdeal.main_arg3) = m ((c.tc : Thread Cert.AdaminIdeal.nD Cert.AdaminIdeal.τ).loc Cert.AdaminIdeal.main_arg3)
          ∧ r.2.mem ((c.tc : Thread Cert.AdaminIdeal.nD Cert.AdaminIdeal.τ).loc Cert.AdaminIdeal.main_arg4) = m ((c.tc : Thread Cert.AdaminIdeal.nD Cert.AdaminIdeal.τ).loc Cert.AdaminIdeal.main_arg4)
          ∧ r.2.mem ((c.tc : Thread Cert.AdaminIdeal.nD Cert.AdaminIdeal.τ).loc Cert.AdaminIdeal.main_arg5) = m ((c.tc : Thread Cert.AdaminIdeal.nD Cert.AdaminIdeal.τ).loc Cert.AdaminIdeal.main_arg5))
      ∧ θ_run (Cert.AdaminRefIdeal.defs (F := Ideal)) (onTc (τ := Cert.AdaminRefIdeal.τ) (Cert.AdaminRefIdeal.main (F := Ideal))) ⟨m', fun _ => 0, g'⟩ (fun r => ∀ c : Dev Cert.AdaminRefIdeal.nD,
          r.2.mem ((c.tc : Thread Cert.AdaminRefIdeal.nD Cert.AdaminRefIdeal.τ).loc Cert.AdaminRefIdeal.main_v7) = v0 c
          ∧ r.2.mem ((c.tc : Thread Cert.AdaminRefIdeal.nD Cert.AdaminRefIdeal.τ).loc Cert.AdaminRefIdeal.main_v31) = v1 c
          ∧ r.2.mem ((c.tc : Thread Cert.AdaminRefIdeal.nD Cert.AdaminRefIdeal.τ).loc Cert.AdaminRefIdeal.main_v12) = v2 c
          ∧ r.2.mem ((c.tc : Thread Cert.AdaminRefIdeal.nD Cert.AdaminRefIdeal.τ).loc Cert.AdaminRefIdeal.main_v18) = v3 c
          ∧ r.2.mem ((c.tc : Thread Cert.AdaminRefIdeal.nD Cert.AdaminRefIdeal.τ).loc Cert.AdaminRefIdeal.main_arg0) = m' ((c.tc : Thread Cert.AdaminRefIdeal.nD Cert.AdaminRefIdeal.τ).loc Cert.AdaminRefIdeal.main_arg0)
          ∧ r.2.mem ((c.tc : Thread Cert.AdaminRefIdeal.nD Cert.AdaminRefIdeal.τ).loc Cert.AdaminRefIdeal.main_arg1) = m' ((c.tc : Thread Cert.AdaminRefIdeal.nD Cert.AdaminRefIdeal.τ).loc Cert.AdaminRefIdeal.main_arg1)
          ∧ r.2.mem ((c.tc : Thread Cert.AdaminRefIdeal.nD Cert.AdaminRefIdeal.τ).loc Cert.AdaminRefIdeal.main_arg2) = m' ((c.tc : Thread Cert.AdaminRefIdeal.nD Cert.AdaminRefIdeal.τ).loc Cert.AdaminRefIdeal.main_arg2)
          ∧ r.2.mem ((c.tc : Thread Cert.AdaminRefIdeal.nD Cert.AdaminRefIdeal.τ).loc Cert.AdaminRefIdeal.main_arg3) = m' ((c.tc : Thread Cert.AdaminRefIdeal.nD Cert.AdaminRefIdeal.τ).loc Cert.AdaminRefIdeal.main_arg3)
          ∧ r.2.mem ((c.tc : Thread Cert.AdaminRefIdeal.nD Cert.AdaminRefIdeal.τ).loc Cert.AdaminRefIdeal.main_arg4) = m' ((c.tc : Thread Cert.AdaminRefIdeal.nD Cert.AdaminRefIdeal.τ).loc Cert.AdaminRefIdeal.main_arg4)
          ∧ r.2.mem ((c.tc : Thread Cert.AdaminRefIdeal.nD Cert.AdaminRefIdeal.τ).loc Cert.AdaminRefIdeal.main_arg5) = m' ((c.tc : Thread Cert.AdaminRefIdeal.nD Cert.AdaminRefIdeal.τ).loc Cert.AdaminRefIdeal.main_arg5))

def preserves_Adamo_AdamoIdeal : Prop :=
  IdealRules.named_const.Statement Cert.AdamoIdeal.κ "corr1" .f32 0x3FC48605#32 ((8388608 / 5463681 : ℝ) : EReal)
  ∧ IdealRules.named_const.Statement Cert.AdamoIdeal.κ "corr2" .f32 0x42C8E6D3#32 ((268435456 / 2672307 : ℝ) : EReal)

def algebraic_AdamoIdeal_AdamoRefIdeal [hAdamoIdeal : Cert.AdamoIdeal.Facts] [hAdamoRefIdeal : Cert.AdamoRefIdeal.Facts] : Prop :=
  ∀ (m : (ℓ : Loc Cert.AdamoIdeal.nD Cert.AdamoIdeal.τ Cert.AdamoIdeal.sig) → Buf (Elt Ideal) ℓ) (g : Dev Cert.AdamoIdeal.nD → PrngReg)
    (m' : (ℓ : Loc Cert.AdamoRefIdeal.nD Cert.AdamoRefIdeal.τ Cert.AdamoRefIdeal.sig) → Buf (Elt Ideal) ℓ) (g' : Dev Cert.AdamoRefIdeal.nD → PrngReg), Pre_AdamoIdeal m →
    (∀ c : Dev Cert.AdamoIdeal.nD,
      m' ((c.tc : Thread Cert.AdamoRefIdeal.nD Cert.AdamoRefIdeal.τ).loc Cert.AdamoRefIdeal.main_arg0) = m ((c.tc : Thread Cert.AdamoIdeal.nD Cert.AdamoIdeal.τ).loc Cert.AdamoIdeal.main_arg0)
      ∧ m' ((c.tc : Thread Cert.AdamoRefIdeal.nD Cert.AdamoRefIdeal.τ).loc Cert.AdamoRefIdeal.main_arg1) = m ((c.tc : Thread Cert.AdamoIdeal.nD Cert.AdamoIdeal.τ).loc Cert.AdamoIdeal.main_arg1)
      ∧ m' ((c.tc : Thread Cert.AdamoRefIdeal.nD Cert.AdamoRefIdeal.τ).loc Cert.AdamoRefIdeal.main_arg2) = m ((c.tc : Thread Cert.AdamoIdeal.nD Cert.AdamoIdeal.τ).loc Cert.AdamoIdeal.main_arg2)
      ∧ m' ((c.tc : Thread Cert.AdamoRefIdeal.nD Cert.AdamoRefIdeal.τ).loc Cert.AdamoRefIdeal.main_arg3) = m ((c.tc : Thread Cert.AdamoIdeal.nD Cert.AdamoIdeal.τ).loc Cert.AdamoIdeal.main_arg3)
      ∧ m' ((c.tc : Thread Cert.AdamoRefIdeal.nD Cert.AdamoRefIdeal.τ).loc Cert.AdamoRefIdeal.main_arg4) = m ((c.tc : Thread Cert.AdamoIdeal.nD Cert.AdamoIdeal.τ).loc Cert.AdamoIdeal.main_arg4)
      ∧ m' ((c.tc : Thread Cert.AdamoRefIdeal.nD Cert.AdamoRefIdeal.τ).loc Cert.AdamoRefIdeal.main_arg5) = m ((c.tc : Thread Cert.AdamoIdeal.nD Cert.AdamoIdeal.τ).loc Cert.AdamoIdeal.main_arg5)) →
    ∃ (v0 : (c : Dev Cert.AdamoIdeal.nD) → Buf (Elt Ideal) ((c.tc : Thread Cert.AdamoIdeal.nD Cert.AdamoIdeal.τ).loc Cert.AdamoIdeal.main_v0_0)) (v1 : (c : Dev Cert.AdamoIdeal.nD) → Buf (Elt Ideal) ((c.tc : Thread Cert.AdamoIdeal.nD Cert.AdamoIdeal.τ).loc Cert.AdamoIdeal.main_v0_1)) (v2 : (c : Dev Cert.AdamoIdeal.nD) → Buf (Elt Ideal) ((c.tc : Thread Cert.AdamoIdeal.nD Cert.AdamoIdeal.τ).loc Cert.AdamoIdeal.main_v0_2)) (v3 : (c : Dev Cert.AdamoIdeal.nD) → Buf (Elt Ideal) ((c.tc : Thread Cert.AdamoIdeal.nD Cert.AdamoIdeal.τ).loc Cert.AdamoIdeal.main_v0_3)),
      θ_run (Cert.AdamoIdeal.defs (F := Ideal)) (onTc (τ := Cert.AdamoIdeal.τ) (Cert.AdamoIdeal.main (F := Ideal))) ⟨m, fun _ => 0, g⟩ (fun r => ∀ c : Dev Cert.AdamoIdeal.nD,
          r.2.mem ((c.tc : Thread Cert.AdamoIdeal.nD Cert.AdamoIdeal.τ).loc Cert.AdamoIdeal.main_v0_0) = v0 c
          ∧ r.2.mem ((c.tc : Thread Cert.AdamoIdeal.nD Cert.AdamoIdeal.τ).loc Cert.AdamoIdeal.main_v0_1) = v1 c
          ∧ r.2.mem ((c.tc : Thread Cert.AdamoIdeal.nD Cert.AdamoIdeal.τ).loc Cert.AdamoIdeal.main_v0_2) = v2 c
          ∧ r.2.mem ((c.tc : Thread Cert.AdamoIdeal.nD Cert.AdamoIdeal.τ).loc Cert.AdamoIdeal.main_v0_3) = v3 c
          ∧ r.2.mem ((c.tc : Thread Cert.AdamoIdeal.nD Cert.AdamoIdeal.τ).loc Cert.AdamoIdeal.main_arg0) = m ((c.tc : Thread Cert.AdamoIdeal.nD Cert.AdamoIdeal.τ).loc Cert.AdamoIdeal.main_arg0)
          ∧ r.2.mem ((c.tc : Thread Cert.AdamoIdeal.nD Cert.AdamoIdeal.τ).loc Cert.AdamoIdeal.main_arg1) = m ((c.tc : Thread Cert.AdamoIdeal.nD Cert.AdamoIdeal.τ).loc Cert.AdamoIdeal.main_arg1)
          ∧ r.2.mem ((c.tc : Thread Cert.AdamoIdeal.nD Cert.AdamoIdeal.τ).loc Cert.AdamoIdeal.main_arg2) = m ((c.tc : Thread Cert.AdamoIdeal.nD Cert.AdamoIdeal.τ).loc Cert.AdamoIdeal.main_arg2)
          ∧ r.2.mem ((c.tc : Thread Cert.AdamoIdeal.nD Cert.AdamoIdeal.τ).loc Cert.AdamoIdeal.main_arg3) = m ((c.tc : Thread Cert.AdamoIdeal.nD Cert.AdamoIdeal.τ).loc Cert.AdamoIdeal.main_arg3)
          ∧ r.2.mem ((c.tc : Thread Cert.AdamoIdeal.nD Cert.AdamoIdeal.τ).loc Cert.AdamoIdeal.main_arg4) = m ((c.tc : Thread Cert.AdamoIdeal.nD Cert.AdamoIdeal.τ).loc Cert.AdamoIdeal.main_arg4)
          ∧ r.2.mem ((c.tc : Thread Cert.AdamoIdeal.nD Cert.AdamoIdeal.τ).loc Cert.AdamoIdeal.main_arg5) = m ((c.tc : Thread Cert.AdamoIdeal.nD Cert.AdamoIdeal.τ).loc Cert.AdamoIdeal.main_arg5))
      ∧ θ_run (Cert.AdamoRefIdeal.defs (F := Ideal)) (onTc (τ := Cert.AdamoRefIdeal.τ) (Cert.AdamoRefIdeal.main (F := Ideal))) ⟨m', fun _ => 0, g'⟩ (fun r => ∀ c : Dev Cert.AdamoRefIdeal.nD,
          r.2.mem ((c.tc : Thread Cert.AdamoRefIdeal.nD Cert.AdamoRefIdeal.τ).loc Cert.AdamoRefIdeal.main_v7) = v0 c
          ∧ r.2.mem ((c.tc : Thread Cert.AdamoRefIdeal.nD Cert.AdamoRefIdeal.τ).loc Cert.AdamoRefIdeal.main_v31) = v1 c
          ∧ r.2.mem ((c.tc : Thread Cert.AdamoRefIdeal.nD Cert.AdamoRefIdeal.τ).loc Cert.AdamoRefIdeal.main_v12) = v2 c
          ∧ r.2.mem ((c.tc : Thread Cert.AdamoRefIdeal.nD Cert.AdamoRefIdeal.τ).loc Cert.AdamoRefIdeal.main_v18) = v3 c
          ∧ r.2.mem ((c.tc : Thread Cert.AdamoRefIdeal.nD Cert.AdamoRefIdeal.τ).loc Cert.AdamoRefIdeal.main_arg0) = m' ((c.tc : Thread Cert.AdamoRefIdeal.nD Cert.AdamoRefIdeal.τ).loc Cert.AdamoRefIdeal.main_arg0)
          ∧ r.2.mem ((c.tc : Thread Cert.AdamoRefIdeal.nD Cert.AdamoRefIdeal.τ).loc Cert.AdamoRefIdeal.main_arg1) = m' ((c.tc : Thread Cert.AdamoRefIdeal.nD Cert.AdamoRefIdeal.τ).loc Cert.AdamoRefIdeal.main_arg1)
          ∧ r.2.mem ((c.tc : Thread Cert.AdamoRefIdeal.nD Cert.AdamoRefIdeal.τ).loc Cert.AdamoRefIdeal.main_arg2) = m' ((c.tc : Thread Cert.AdamoRefIdeal.nD Cert.AdamoRefIdeal.τ).loc Cert.AdamoRefIdeal.main_arg2)
          ∧ r.2.mem ((c.tc : Thread Cert.AdamoRefIdeal.nD Cert.AdamoRefIdeal.τ).loc Cert.AdamoRefIdeal.main_arg3) = m' ((c.tc : Thread Cert.AdamoRefIdeal.nD Cert.AdamoRefIdeal.τ).loc Cert.AdamoRefIdeal.main_arg3)
          ∧ r.2.mem ((c.tc : Thread Cert.AdamoRefIdeal.nD Cert.AdamoRefIdeal.τ).loc Cert.AdamoRefIdeal.main_arg4) = m' ((c.tc : Thread Cert.AdamoRefIdeal.nD Cert.AdamoRefIdeal.τ).loc Cert.AdamoRefIdeal.main_arg4)
          ∧ r.2.mem ((c.tc : Thread Cert.AdamoRefIdeal.nD Cert.AdamoRefIdeal.τ).loc Cert.AdamoRefIdeal.main_arg5) = m' ((c.tc : Thread Cert.AdamoRefIdeal.nD Cert.AdamoRefIdeal.τ).loc Cert.AdamoRefIdeal.main_arg5))

def Claim : Prop :=
  ∃ (hMlp : Cert.Mlp.Facts) (hMlpIdeal : Cert.MlpIdeal.Facts) (hMlpRefIdeal : Cert.MlpRefIdeal.Facts) (hDwup : Cert.Dwup.Facts) (hDwupIdeal : Cert.DwupIdeal.Facts) (hDwupRefIdeal : Cert.DwupRefIdeal.Facts) (hDwdown : Cert.Dwdown.Facts) (hDwdownIdeal : Cert.DwdownIdeal.Facts) (hDwdownRefIdeal : Cert.DwdownRefIdeal.Facts) (hDwup1 : Cert.Dwup1.Facts) (hDwup1Ideal : Cert.Dwup1Ideal.Facts) (hDwup1RefIdeal : Cert.Dwup1RefIdeal.Facts) (hDwdown1 : Cert.Dwdown1.Facts) (hDwdown1Ideal : Cert.Dwdown1Ideal.Facts) (hDwdown1RefIdeal : Cert.Dwdown1RefIdeal.Facts) (hConv : Cert.Conv.Facts) (hConvIdeal : Cert.ConvIdeal.Facts) (hConvRefIdeal : Cert.ConvRefIdeal.Facts) (hDwin : Cert.Dwin.Facts) (hDwinIdeal : Cert.DwinIdeal.Facts) (hDwinRefIdeal : Cert.DwinRefIdeal.Facts) (hDwo : Cert.Dwo.Facts) (hDwoIdeal : Cert.DwoIdeal.Facts) (hDwoRefIdeal : Cert.DwoRefIdeal.Facts) (hDatt : Cert.Datt.Facts) (hDattIdeal : Cert.DattIdeal.Facts) (hDattRefIdeal : Cert.DattRefIdeal.Facts) (hInbwd : Cert.Inbwd.Facts) (hInbwdIdeal : Cert.InbwdIdeal.Facts) (hInbwdRefIdeal : Cert.InbwdRefIdeal.Facts) (hOutb : Cert.Outb.Facts) (hOutbIdeal : Cert.OutbIdeal.Facts) (hOutbRefIdeal : Cert.OutbRefIdeal.Facts) (hFwd : Cert.Fwd.Facts) (hFwdIdeal : Cert.FwdIdeal.Facts) (hFwdRefIdeal : Cert.FwdRefIdeal.Facts) (hQkv : Cert.Qkv.Facts) (hQkvIdeal : Cert.QkvIdeal.Facts) (hQkvRefIdeal : Cert.QkvRefIdeal.Facts) (hLruin : Cert.Lruin.Facts) (hLruinIdeal : Cert.LruinIdeal.Facts) (hLruinRefIdeal : Cert.LruinRefIdeal.Facts) (hLruout : Cert.Lruout.Facts) (hLruoutIdeal : Cert.LruoutIdeal.Facts) (hLruoutRefIdeal : Cert.LruoutRefIdeal.Facts) (hAtt : Cert.Att.Facts) (hAttIdeal : Cert.AttIdeal.Facts) (hAttRefIdeal : Cert.AttRefIdeal.Facts) (hAdams : Cert.Adams.Facts) (hAdamsIdeal : Cert.AdamsIdeal.Facts) (hAdamsRefIdeal : Cert.AdamsRefIdeal.Facts) (hAdamup : Cert.Adamup.Facts) (hAdamupIdeal : Cert.AdamupIdeal.Facts) (hAdamupRefIdeal : Cert.AdamupRefIdeal.Facts) (hAdamqkv : Cert.Adamqkv.Facts) (hAdamqkvIdeal : Cert.AdamqkvIdeal.Facts) (hAdamqkvRefIdeal : Cert.AdamqkvRefIdeal.Facts) (hAdamin : Cert.Adamin.Facts) (hAdaminIdeal : Cert.AdaminIdeal.Facts) (hAdaminRefIdeal : Cert.AdaminRefIdeal.Facts) (hAdamo : Cert.Adamo.Facts) (hAdamoIdeal : Cert.AdamoIdeal.Facts) (hAdamoRefIdeal : Cert.AdamoRefIdeal.Facts) (hPre_outb_finite : Cert.Pre_outb_finite.Facts) (hOn_dwup1_on : Cert.On_dwup1_on.Facts) (hOn_dwdown1_on : Cert.On_dwdown1_on.Facts) (hOn_outb_on : Cert.On_outb_on.Facts),
    quiescent_Mlp (hMlp := hMlp)
    ∧ quiescent_MlpIdeal (hMlpIdeal := hMlpIdeal)
    ∧ quiescent_MlpRefIdeal (hMlpRefIdeal := hMlpRefIdeal)
    ∧ quiescent_Dwup (hDwup := hDwup)
    ∧ quiescent_DwupIdeal (hDwupIdeal := hDwupIdeal)
    ∧ quiescent_DwupRefIdeal (hDwupRefIdeal := hDwupRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dwup1 (hDwup1 := hDwup1)
    ∧ quiescent_Dwup1Ideal (hDwup1Ideal := hDwup1Ideal)
    ∧ quiescent_Dwup1RefIdeal (hDwup1RefIdeal := hDwup1RefIdeal)
    ∧ quiescent_Dwdown1 (hDwdown1 := hDwdown1)
    ∧ quiescent_Dwdown1Ideal (hDwdown1Ideal := hDwdown1Ideal)
    ∧ quiescent_Dwdown1RefIdeal (hDwdown1RefIdeal := hDwdown1RefIdeal)
    ∧ quiescent_Conv (hConv := hConv)
    ∧ quiescent_ConvIdeal (hConvIdeal := hConvIdeal)
    ∧ quiescent_ConvRefIdeal (hConvRefIdeal := hConvRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Datt (hDatt := hDatt)
    ∧ quiescent_DattIdeal (hDattIdeal := hDattIdeal)
    ∧ quiescent_DattRefIdeal (hDattRefIdeal := hDattRefIdeal)
    ∧ quiescent_Inbwd (hInbwd := hInbwd)
    ∧ quiescent_InbwdIdeal (hInbwdIdeal := hInbwdIdeal)
    ∧ quiescent_InbwdRefIdeal (hInbwdRefIdeal := hInbwdRefIdeal)
    ∧ quiescent_Outb (hOutb := hOutb)
    ∧ quiescent_OutbIdeal (hOutbIdeal := hOutbIdeal)
    ∧ quiescent_OutbIdeal_pre_outb_finite (hOutbIdeal := hOutbIdeal) (hPre_outb_finite := hPre_outb_finite)
    ∧ quiescent_OutbRefIdeal (hOutbRefIdeal := hOutbRefIdeal)
    ∧ quiescent_OutbRefIdeal_pre_outb_finite (hOutbRefIdeal := hOutbRefIdeal) (hPre_outb_finite := hPre_outb_finite)
    ∧ quiescent_Fwd (hFwd := hFwd)
    ∧ quiescent_FwdIdeal (hFwdIdeal := hFwdIdeal)
    ∧ quiescent_FwdRefIdeal (hFwdRefIdeal := hFwdRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Lruin (hLruin := hLruin)
    ∧ quiescent_LruinIdeal (hLruinIdeal := hLruinIdeal)
    ∧ quiescent_LruinRefIdeal (hLruinRefIdeal := hLruinRefIdeal)
    ∧ quiescent_Lruout (hLruout := hLruout)
    ∧ quiescent_LruoutIdeal (hLruoutIdeal := hLruoutIdeal)
    ∧ quiescent_LruoutRefIdeal (hLruoutRefIdeal := hLruoutRefIdeal)
    ∧ quiescent_Att (hAtt := hAtt)
    ∧ quiescent_AttIdeal (hAttIdeal := hAttIdeal)
    ∧ quiescent_AttRefIdeal (hAttRefIdeal := hAttRefIdeal)
    ∧ quiescent_Adams (hAdams := hAdams)
    ∧ quiescent_AdamsIdeal (hAdamsIdeal := hAdamsIdeal)
    ∧ quiescent_AdamsRefIdeal (hAdamsRefIdeal := hAdamsRefIdeal)
    ∧ quiescent_Adamup (hAdamup := hAdamup)
    ∧ quiescent_AdamupIdeal (hAdamupIdeal := hAdamupIdeal)
    ∧ quiescent_AdamupRefIdeal (hAdamupRefIdeal := hAdamupRefIdeal)
    ∧ quiescent_Adamqkv (hAdamqkv := hAdamqkv)
    ∧ quiescent_AdamqkvIdeal (hAdamqkvIdeal := hAdamqkvIdeal)
    ∧ quiescent_AdamqkvRefIdeal (hAdamqkvRefIdeal := hAdamqkvRefIdeal)
    ∧ quiescent_Adamin (hAdamin := hAdamin)
    ∧ quiescent_AdaminIdeal (hAdaminIdeal := hAdaminIdeal)
    ∧ quiescent_AdaminRefIdeal (hAdaminRefIdeal := hAdaminRefIdeal)
    ∧ quiescent_Adamo (hAdamo := hAdamo)
    ∧ quiescent_AdamoIdeal (hAdamoIdeal := hAdamoIdeal)
    ∧ quiescent_AdamoRefIdeal (hAdamoRefIdeal := hAdamoRefIdeal)
    ∧ preserves_Mlp_MlpIdeal
    ∧ algebraic_MlpIdeal_MlpRefIdeal (hMlpIdeal := hMlpIdeal) (hMlpRefIdeal := hMlpRefIdeal)
    ∧ preserves_Dwup_DwupIdeal
    ∧ algebraic_DwupIdeal_DwupRefIdeal (hDwupIdeal := hDwupIdeal) (hDwupRefIdeal := hDwupRefIdeal)
    ∧ preserves_Dwdown_DwdownIdeal
    ∧ algebraic_DwdownIdeal_DwdownRefIdeal (hDwdownIdeal := hDwdownIdeal) (hDwdownRefIdeal := hDwdownRefIdeal)
    ∧ preserves_Dwup1_Dwup1Ideal
    ∧ algebraic_Dwup1Ideal_Dwup1RefIdeal_on_dwup1_on (hDwup1Ideal := hDwup1Ideal) (hDwup1RefIdeal := hDwup1RefIdeal) (hOn_dwup1_on := hOn_dwup1_on)
    ∧ preserves_Dwdown1_Dwdown1Ideal
    ∧ algebraic_Dwdown1Ideal_Dwdown1RefIdeal_on_dwdown1_on (hDwdown1Ideal := hDwdown1Ideal) (hDwdown1RefIdeal := hDwdown1RefIdeal) (hOn_dwdown1_on := hOn_dwdown1_on)
    ∧ preserves_Conv_ConvIdeal
    ∧ algebraic_ConvIdeal_ConvRefIdeal (hConvIdeal := hConvIdeal) (hConvRefIdeal := hConvRefIdeal)
    ∧ preserves_Dwin_DwinIdeal
    ∧ algebraic_DwinIdeal_DwinRefIdeal (hDwinIdeal := hDwinIdeal) (hDwinRefIdeal := hDwinRefIdeal)
    ∧ preserves_Dwo_DwoIdeal
    ∧ algebraic_DwoIdeal_DwoRefIdeal (hDwoIdeal := hDwoIdeal) (hDwoRefIdeal := hDwoRefIdeal)
    ∧ preserves_Datt_DattIdeal
    ∧ algebraic_DattIdeal_DattRefIdeal (hDattIdeal := hDattIdeal) (hDattRefIdeal := hDattRefIdeal)
    ∧ preserves_Inbwd_InbwdIdeal
    ∧ algebraic_InbwdIdeal_InbwdRefIdeal (hInbwdIdeal := hInbwdIdeal) (hInbwdRefIdeal := hInbwdRefIdeal)
    ∧ preserves_Outb_OutbIdeal
    ∧ algebraic_OutbIdeal_OutbRefIdeal_on_outb_on_pre_outb_finite (hOutbIdeal := hOutbIdeal) (hOutbRefIdeal := hOutbRefIdeal) (hPre_outb_finite := hPre_outb_finite) (hOn_outb_on := hOn_outb_on)
    ∧ preserves_Fwd_FwdIdeal
    ∧ algebraic_FwdIdeal_FwdRefIdeal (hFwdIdeal := hFwdIdeal) (hFwdRefIdeal := hFwdRefIdeal)
    ∧ preserves_Qkv_QkvIdeal
    ∧ algebraic_QkvIdeal_QkvRefIdeal (hQkvIdeal := hQkvIdeal) (hQkvRefIdeal := hQkvRefIdeal)
    ∧ preserves_Lruin_LruinIdeal
    ∧ algebraic_LruinIdeal_LruinRefIdeal (hLruinIdeal := hLruinIdeal) (hLruinRefIdeal := hLruinRefIdeal)
    ∧ preserves_Lruout_LruoutIdeal
    ∧ algebraic_LruoutIdeal_LruoutRefIdeal (hLruoutIdeal := hLruoutIdeal) (hLruoutRefIdeal := hLruoutRefIdeal)
    ∧ preserves_Att_AttIdeal
    ∧ algebraic_AttIdeal_AttRefIdeal (hAttIdeal := hAttIdeal) (hAttRefIdeal := hAttRefIdeal)
    ∧ preserves_Adams_AdamsIdeal
    ∧ algebraic_AdamsIdeal_AdamsRefIdeal (hAdamsIdeal := hAdamsIdeal) (hAdamsRefIdeal := hAdamsRefIdeal)
    ∧ preserves_Adamup_AdamupIdeal
    ∧ algebraic_AdamupIdeal_AdamupRefIdeal (hAdamupIdeal := hAdamupIdeal) (hAdamupRefIdeal := hAdamupRefIdeal)
    ∧ preserves_Adamqkv_AdamqkvIdeal
    ∧ algebraic_AdamqkvIdeal_AdamqkvRefIdeal (hAdamqkvIdeal := hAdamqkvIdeal) (hAdamqkvRefIdeal := hAdamqkvRefIdeal)
    ∧ preserves_Adamin_AdaminIdeal
    ∧ algebraic_AdaminIdeal_AdaminRefIdeal (hAdaminIdeal := hAdaminIdeal) (hAdaminRefIdeal := hAdaminRefIdeal)
    ∧ preserves_Adamo_AdamoIdeal
    ∧ algebraic_AdamoIdeal_AdamoRefIdeal (hAdamoIdeal := hAdamoIdeal) (hAdamoRefIdeal := hAdamoRefIdeal)
-- ==== On_dwdown1_on.lean ====
abbrev S4224x4096 : Shape := ⟨2, ![4224, 4096]⟩
abbrev S4224x1024 : Shape := ⟨2, ![4224, 1024]⟩
abbrev S2 : Shape := ⟨1, ![2]⟩
abbrev S_ : Shape := ⟨0, ![]⟩
abbrev S1x2x1x1 : Shape := ⟨4, ![1, 2, 1, 1]⟩
abbrev S4x2x1024x1024 : Shape := ⟨4, ![4, 2, 1024, 1024]⟩

class Facts : Prop where
  bcast_S_S2 : S_.BroadcastsInDim S2 (![] : Fin 0 → Fin S2.rank)
  bcast_S2_S1x2x1x1_1 : S2.BroadcastsInDim S1x2x1x1 (![1] : Fin 1 → Fin S1x2x1x1.rank)
  bcast_S1x2x1x1_S4x2x1024x1024_0_1_2_3 : S1x2x1x1.BroadcastsInDim S4x2x1024x1024 (![0, 1, 2, 3] : Fin 4 → Fin S4x2x1024x1024.rank)

variable [Facts]

def fn {F : FTy → Type} [FloatOps F] (main_arg0 : FVec F S4224x4096 .bf16) (main_arg1 : FVec F S4224x1024 .bf16) : IVec S4x2x1024x1024 1 :=
  let main_v0 : IVec S2 32 := iotaInDim S2 32 0
  let main_c : IVec S_ 32 := constantI S_ 32 1#32
  let main_v1 : IVec S2 32 := broadcastInDim S2 ![] bcast_S_S2 main_c
  let main_v2 : IVec S2 1 := cmpi .eq main_v0 main_v1
  let main_v3 : IVec S1x2x1x1 1 := broadcastInDim S1x2x1x1 ![1] bcast_S2_S1x2x1x1_1 main_v2
  let main_v4 : IVec S4x2x1024x1024 1 := broadcastInDim S4x2x1024x1024 ![0, 1, 2, 3] bcast_S1x2x1x1_S4x2x1024x1024_0_1_2_3 main_v3
  main_v4
-- ==== On_dwup1_on.lean ====
abbrev S4224x1024 : Shape := ⟨2, ![4224, 1024]⟩
abbrev S4224x4096 : Shape := ⟨2, ![4224, 4096]⟩
abbrev S2 : Shape := ⟨1, ![2]⟩
abbrev S_ : Shape := ⟨0, ![]⟩
abbrev S1x2x1x1 : Shape := ⟨4, ![1, 2, 1, 1]⟩
abbrev S4x2x1024x1024 : Shape := ⟨4, ![4, 2, 1024, 1024]⟩

class Facts : Prop where
  bcast_S_S2 : S_.BroadcastsInDim S2 (![] : Fin 0 → Fin S2.rank)
  bcast_S2_S1x2x1x1_1 : S2.BroadcastsInDim S1x2x1x1 (![1] : Fin 1 → Fin S1x2x1x1.rank)
  bcast_S1x2x1x1_S4x2x1024x1024_0_1_2_3 : S1x2x1x1.BroadcastsInDim S4x2x1024x1024 (![0, 1, 2, 3] : Fin 4 → Fin S4x2x1024x1024.rank)

variable [Facts]

def fn {F : FTy → Type} [FloatOps F] (main_arg0 : FVec F S4224x1024 .bf16) (main_arg1 : FVec F S4224x4096 .bf16) : IVec S4x2x1024x1024 1 :=
  let main_v0 : IVec S2 32 := iotaInDim S2 32 0
  let main_c : IVec S_ 32 := constantI S_ 32 1#32
  let main_v1 : IVec S2 32 := broadcastInDim S2 ![] bcast_S_S2 main_c
  let main_v2 : IVec S2 1 := cmpi .eq main_v0 main_v1
  let main_v3 : IVec S1x2x1x1 1 := broadcastInDim S1x2x1x1 ![1] bcast_S2_S1x2x1x1_1 main_v2
  let main_v4 : IVec S4x2x1024x1024 1 := broadcastInDim S4x2x1024x1024 ![0, 1, 2, 3] bcast_S1x2x1x1_S4x2x1024x1024_0_1_2_3 main_v3
  main_v4
-- ==== On_outb_on.lean ====
abbrev S4224x2048 : Shape := ⟨2, ![4224, 2048]⟩
abbrev S4224x1024 : Shape := ⟨2, ![4224, 1024]⟩
abbrev S1024x1024 : Shape := ⟨2, ![1024, 1024]⟩
abbrev S2048 : Shape := ⟨1, ![2048]⟩
abbrev S_ : Shape := ⟨0, ![]⟩
abbrev S1x2048 : Shape := ⟨2, ![1, 2048]⟩

class Facts : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4224x2048_0_1 : S1x2048.BroadcastsInDim S4224x2048 (![0, 1] : Fin 2 → Fin S4224x2048.rank)
  bcast_S_S4224x1024 : S_.BroadcastsInDim S4224x1024 (![] : Fin 0 → Fin S4224x1024.rank)

variable [Facts]

def fn {F : FTy → Type} [FloatOps F] (main_arg0 : FVec F S4224x2048 .f32) (main_arg1 : FVec F S4224x1024 .f32) (main_arg2 : FVec F S4224x1024 .bf16) (main_arg3 : FVec F S1024x1024 .f32) : IVec S4224x2048 1 × IVec S4224x1024 1 :=
  let main_v0 : IVec S2048 32 := iotaInDim S2048 32 0
  let main_c : IVec S_ 32 := constantI S_ 32 1024#32
  let main_v1 : IVec S2048 32 := broadcastInDim S2048 ![] bcast_S_S2048 main_c
  let main_v2 : IVec S2048 1 := cmpi .slt main_v0 main_v1
  let main_v3 : IVec S1x2048 1 := broadcastInDim S1x2048 ![1] bcast_S2048_S1x2048_1 main_v2
  let main_v4 : IVec S4224x2048 1 := broadcastInDim S4224x2048 ![0, 1] bcast_S1x2048_S4224x2048_0_1 main_v3
  let main_c_0 : IVec S_ 1 := constantI S_ 1 1#1
  let main_v5 : IVec S4224x1024 1 := broadcastInDim S4224x1024 ![] bcast_S_S4224x1024 main_c_0
  (main_v4, main_v5)
-- ==== Pre_outb_finite.lean ====
abbrev S4224x2048 : Shape := ⟨2, ![4224, 2048]⟩
abbrev S4224x1024 : Shape := ⟨2, ![4224, 1024]⟩
abbrev S1024x1024 : Shape := ⟨2, ![1024, 1024]⟩
abbrev S9472x1024 : Shape := ⟨2, ![9472, 1024]⟩
abbrev S_ : Shape := ⟨0, ![]⟩

class Facts : Prop where
  bitsLt_bf16_f32 : FTy.bits .bf16 < FTy.bits .f32
  concatenates_S4224x1024_S4224x1024_S1024x1024_S9472x1024_d0 : Shape.Concatenates [S4224x1024, S4224x1024, S1024x1024] S9472x1024 0
  bcast_S_S9472x1024 : S_.BroadcastsInDim S9472x1024 (![] : Fin 0 → Fin S9472x1024.rank)

variable [Facts]

def fn {F : FTy → Type} [FloatOps F] (main_arg0 : FVec F S4224x2048 .f32) (main_arg1 : FVec F S4224x1024 .f32) (main_arg2 : FVec F S4224x1024 .bf16) (main_arg3 : FVec F S1024x1024 .f32) : IVec S9472x1024 1 :=
  let main_v0 : FVec F S4224x1024 .f32 := (extf .f32 · bitsLt_bf16_f32) main_arg2
  let main_v1 : FVec F S9472x1024 .f32 := concatenate S9472x1024 0 [⟨S4224x1024, main_arg1⟩, ⟨S4224x1024, main_v0⟩, ⟨S1024x1024, main_arg3⟩] concatenates_S4224x1024_S4224x1024_S1024x1024_S9472x1024_d0
  let main_v2 : FVec F S9472x1024 .f32 := Host.absf main_v1
  let main_cst : FVec F S_ .f32 := constant S_ .f32 0x7F800000#32
  let main_v3 : FVec F S9472x1024 .f32 := broadcastInDim S9472x1024 ![] bcast_S_S9472x1024 main_cst
  let main_v4 : IVec S9472x1024 1 := cmpf .olt main_v2 main_v3
  main_v4
-- ==== Mlp.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S4224x4096 : Shape := ⟨2, ![4224, 4096]⟩
abbrev S1024x4x1x1024 : Shape := ⟨4, ![1024, 4, 1, 1024]⟩
abbrev S4x1x1024x1024 : Shape := ⟨4, ![4, 1, 1024, 1024]⟩
abbrev S528x1024 : Shape := ⟨2, ![528, 1024]⟩
abbrev S1x1x1024x1024 : Shape := ⟨4, ![1, 1, 1024, 1024]⟩
abbrev S272x1024 : Shape := ⟨2, ![272, 1024]⟩
abbrev S1024x1024 : Shape := ⟨2, ![1024, 1024]⟩
abbrev S256x1024 : Shape := ⟨2, ![256, 1024]⟩
abbrev S528 : Shape := ⟨1, ![528]⟩
abbrev S528x1 : Shape := ⟨2, ![528, 1]⟩
abbrev S1024 : Shape := ⟨1, ![1024]⟩

abbrev nBuf : Space → Nat
  | .hbm => 31
  | .vmem => 20
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x4096, .f32⟩
  | .hbm, ⟨21, _⟩ => ⟨S4224x4096, .bf16⟩
  | .hbm, ⟨22, _⟩ => ⟨S1024x4x1x1024, .f32⟩
  | .hbm, ⟨23, _⟩ => ⟨S4x1x1024x1024, .f32⟩
  | .hbm, ⟨24, _⟩ => ⟨S4x1x1024x1024, .bf16⟩
  | .hbm, ⟨25, _⟩ => ⟨S4x1x1024x1024, .f32⟩
  | .hbm, ⟨26, _⟩ => ⟨S4x1x1024x1024, .bf16⟩
  | .hbm, ⟨27, _⟩ => ⟨S4224x4096, .bf16⟩
  | .hbm, ⟨28, _⟩ => ⟨S4224x1024, .f32⟩
  | .hbm, ⟨29, _⟩ => ⟨S4224x1024, .bf16⟩
  | .hbm, ⟨30, _⟩ => ⟨S1x1024, .f32⟩
  | .local _ .vmem, ⟨0, _⟩ => ⟨S528x1024, .f32⟩
  | .local _ .vmem, ⟨1, _⟩ => ⟨S528x1024, .f32⟩
  | .local _ .vmem, ⟨2, _⟩ => ⟨S528x1024, .f32⟩
  | .local _ .vmem, ⟨3, _⟩ => ⟨S528x1024, .f32⟩
  | .local _ .vmem, ⟨4, _⟩ => ⟨S1x1024, .f32⟩
  | .local _ .vmem, ⟨5, _⟩ => ⟨S528x1024, .bf16⟩
  | .local _ .vmem, ⟨6, _⟩ => ⟨S528x1024, .bf16⟩
  | .local _ .vmem, ⟨7, _⟩ => ⟨S1x1x1024x1024, .bf16⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1x1x1024x1024, .bf16⟩
  | .local _ .vmem, ⟨11, _⟩ => ⟨S528x1024, .bf16⟩
  | .local _ .vmem, ⟨12, _⟩ => ⟨S528x1024, .bf16⟩
  | .local _ .vmem, ⟨13, _⟩ => ⟨S528x1024, .f32⟩
  | .local _ .vmem, ⟨14, _⟩ => ⟨S528x1024, .f32⟩
  | .local _ .vmem, ⟨15, _⟩ => ⟨S528x1024, .bf16⟩
  | .local _ .vmem, ⟨16, _⟩ => ⟨S528x1024, .bf16⟩
  | .local _ .vmem, ⟨17, _⟩ => ⟨S1x1024, .f32⟩
  | .local _ .vmem, ⟨18, _⟩ => ⟨S528x1024, .bf16⟩
  | .local _ .vmem, ⟨19, _⟩ => ⟨S528x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_38 : BitVec 32 := 0#32
  let v46 : BitVec 1 := Scalar.cmpi .ne v45 c0_i32_38
  v46

def k0_cond5 (i : grid0.Coords) : BitVec 1 :=
  let arg0 : BitVec 32 := BitVec.ofNat 32 (i 0).val
  let c0_i32_57 : BitVec 32 := 0#32
  let v80 : BitVec 1 := Scalar.cmpi .eq arg0 c0_i32_57
  let v81 : BitVec 32 := Scalar.extui v80
  let c0_i32_58 : BitVec 32 := 0#32
  let v82 : BitVec 1 := Scalar.cmpi .ne v81 c0_i32_58
  v82

def k0_cond6 (i : grid0.Coords) : BitVec 1 :=
  let arg0 : BitVec 32 := BitVec.ofNat 32 (i 0).val
  let c0_i32_59 : BitVec 32 := 0#32
  let v83 : BitVec 1 := Scalar.cmpi .sgt arg0 c0_i32_59
  let v84 : BitVec 32 := Scalar.extui v83
  let c0_i32_60 : BitVec 32 := 0#32
  let v85 : BitVec 1 := Scalar.cmpi .ne v84 c0_i32_60
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S528x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S528x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S528x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S528x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S528x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MlpRefIdeal.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4224x4096 : Shape := ⟨2, ![4224, 4096]⟩
abbrev S4224 : Shape := ⟨1, ![4224]⟩
abbrev S4224x1 : Shape := ⟨2, ![4224, 1]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S4224x4096, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x4096, .f32⟩
  | .hbm, ⟨27, _⟩ => ⟨S4224x4096, .f32⟩
  | .hbm, ⟨28, _⟩ => ⟨S_, .f32⟩
  | .hbm, ⟨29, _⟩ => ⟨S4224x4096, .f32⟩
  | .hbm, ⟨30, _⟩ => ⟨S4224x4096, .f32⟩
  | .hbm, ⟨31, _⟩ => ⟨S_, .f32⟩
  | .hbm, ⟨32, _⟩ => ⟨S4224x4096, .f32⟩
  | .hbm, ⟨33, _⟩ => ⟨S4224x4096, .i1⟩
  | .hbm, ⟨34, _⟩ => ⟨S_, .f32⟩
  | .hbm, ⟨35, _⟩ => ⟨S4224x4096, .f32⟩
  | .hbm, ⟨36, _⟩ => ⟨S4224x4096, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x4096, .f32⟩
  | .hbm, ⟨41, _⟩ => ⟨S4224x4096, .f32⟩
  | .hbm, ⟨42, _⟩ => ⟨S4224x4096, .f32⟩
  | .hbm, ⟨43, _⟩ => ⟨S4224x4096, .f32⟩
  | .hbm, ⟨44, _⟩ => ⟨S_, .f32⟩
  | .hbm, ⟨45, _⟩ => ⟨S4224x4096, .f32⟩
  | .hbm, ⟨46, _⟩ => ⟨S4224x4096, .f32⟩
  | .hbm, ⟨47, _⟩ => ⟨S4224x1024, .f32⟩
  | .hbm, ⟨48, _⟩ => ⟨S4224x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S_, .f32⟩
  | .hbm, ⟨56, _⟩ => ⟨S4224, .f32⟩
  | .hbm, ⟨57, _⟩ => ⟨S4224x1, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S4224x1, .f32⟩
  | .hbm, ⟨62, _⟩ => ⟨S_, .f32⟩
  | .hbm, ⟨63, _⟩ => ⟨S4224x1, .f32⟩
  | .hbm, ⟨64, _⟩ => ⟨S4224x1, .f32⟩
  | .hbm, ⟨65, _⟩ => ⟨S_, .f32⟩
  | .hbm, ⟨66, _⟩ => ⟨S4224, .f32⟩
  | .hbm, ⟨67, _⟩ => ⟨S4224x1024, .f32⟩
  | .hbm, ⟨68, _⟩ => ⟨S4224x1024, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S4224x4096, .bf16⟩
  | .hbm, ⟨73, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Dwup.lean ====
abbrev S4224x1024 : Shape := ⟨2, ![4224, 1024]⟩
abbrev S4224x4096 : Shape := ⟨2, ![4224, 4096]⟩
abbrev S4x2x1024x1024 : Shape := ⟨4, ![4, 2, 1024, 1024]⟩
abbrev S4224x512 : Shape := ⟨2, ![4224, 512]⟩
abbrev S1x1x512x512 : Shape := ⟨4, ![1, 1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S4x2x1024x1024, .bf16⟩
  | .hbm, ⟨3, _⟩ => ⟨S4x2x1024x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S1x1x512x512, .bf16⟩
  | .local _ .vmem, ⟨5, _⟩ => ⟨S1x1x512x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwupRefIdeal.lean ====
abbrev S4224x1024 : Shape := ⟨2, ![4224, 1024]⟩
abbrev S4224x4096 : Shape := ⟨2, ![4224, 4096]⟩
abbrev S4x2x1024x1024 : Shape := ⟨4, ![4, 2, 1024, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S4x2x1024x1024, .bf16⟩
  | .hbm, ⟨3, _⟩ => ⟨S_, .f32⟩
  | .hbm, ⟨4, _⟩ => ⟨S1024x4096, .f32⟩
  | .hbm, ⟨5, _⟩ => ⟨S4224x1024, .f32⟩
  | .hbm, ⟨6, _⟩ => ⟨S4224x4096, .f32⟩
  | .hbm, ⟨7, _⟩ => ⟨S4224x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4x1x1024x1024, .bf16⟩
  | .hbm, ⟨14, _⟩ => ⟨S4x1024x1024, .bf16⟩
  | .hbm, ⟨15, _⟩ => ⟨S4x1x1024x1024, .bf16⟩
  | .hbm, ⟨16, _⟩ => ⟨S4x1x1024x1024, .bf16⟩
  | .hbm, ⟨17, _⟩ => ⟨S4x2x1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Dwdown.lean ====
abbrev S4224x4096 : Shape := ⟨2, ![4224, 4096]⟩
abbrev S4224x1024 : Shape := ⟨2, ![4224, 1024]⟩
abbrev S4x2x1024x1024 : Shape := ⟨4, ![4, 2, 1024, 1024]⟩
abbrev S4224x512 : Shape := ⟨2, ![4224, 512]⟩
abbrev S1x1x512x512 : Shape := ⟨4, ![1, 1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4224x1024, .bf16⟩
  | .hbm, ⟨2, _⟩ => ⟨S4x2x1024x1024, .bf16⟩
  | .hbm, ⟨3, _⟩ => ⟨S4x2x1024x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S1x1x512x512, .bf16⟩
  | .local _ .vmem, ⟨5, _⟩ => ⟨S1x1x512x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwdownRefIdeal.lean ====
abbrev S4224x4096 : Shape := ⟨2, ![4224, 4096]⟩
abbrev S4224x1024 : Shape := ⟨2, ![4224, 1024]⟩
abbrev S4x2x1024x1024 : Shape := ⟨4, ![4, 2, 1024, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x1x1024x1024 : Shape := ⟨4, ![4, 1, 1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x1024, .bf16⟩
  | .hbm, ⟨2, _⟩ => ⟨S4x2x1024x1024, .bf16⟩
  | .hbm, ⟨3, _⟩ => ⟨S_, .f32⟩
  | .hbm, ⟨4, _⟩ => ⟨S4096x1024, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .f32⟩
  | .hbm, ⟨9, _⟩ => ⟨S4224x4096, .f32⟩
  | .hbm, ⟨10, _⟩ => ⟨S4224x1024, .f32⟩
  | .hbm, ⟨11, _⟩ => ⟨S4224x1024, .f32⟩
  | .hbm, ⟨12, _⟩ => ⟨S1024x4096, .f32⟩
  | .hbm, ⟨13, _⟩ => ⟨S4096x1024, .f32⟩
  | .hbm, ⟨14, _⟩ => ⟨S4x1024x1024, .f32⟩
  | .hbm, ⟨15, _⟩ => ⟨S4x1024x1024, .bf16⟩
  | .hbm, ⟨16, _⟩ => ⟨S4x1x1024x1024, .bf16⟩
  | .hbm, ⟨17, _⟩ => ⟨S4x1024x1024, .bf16⟩
  | .hbm, ⟨18, _⟩ => ⟨S4x1x1024x1024, .bf16⟩
  | .hbm, ⟨19, _⟩ => ⟨S4x1x1024x1024, .bf16⟩
  | .hbm, ⟨20, _⟩ => ⟨S4x2x1024x1024, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Dwup1.lean ====
abbrev S4224x1024 : Shape := ⟨2, ![4224, 1024]⟩
abbrev S4224x4096 : Shape := ⟨2, ![4224, 4096]⟩
abbrev S4x2x1024x1024 : Shape := ⟨4, ![4, 2, 1024, 1024]⟩
abbrev S4224x512 : Shape := ⟨2, ![4224, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S4x2x1024x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S1x1x512x512, .bf16⟩
  | .local _ .vmem, ⟨5, _⟩ => ⟨S1x1x512x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dwup1RefIdeal.lean ====
abbrev S4224x1024 : Shape := ⟨2, ![4224, 1024]⟩
abbrev S4224x4096 : Shape := ⟨2, ![4224, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x4096, .bf16⟩
  | .hbm, ⟨2, _⟩ => ⟨S_, .f32⟩
  | .hbm, ⟨3, _⟩ => ⟨S1024x4096, .f32⟩
  | .hbm, ⟨4, _⟩ => ⟨S4224x1024, .f32⟩
  | .hbm, ⟨5, _⟩ => ⟨S4224x4096, .f32⟩
  | .hbm, ⟨6, _⟩ => ⟨S4224x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | .hbm, ⟨12, _⟩ => ⟨S_, .bf16⟩
  | .hbm, ⟨13, _⟩ => ⟨S4x1024x1024, .bf16⟩
  | .hbm, ⟨14, _⟩ => ⟨S4x1x1024x1024, .bf16⟩
  | .hbm, ⟨15, _⟩ => ⟨S4x1x1024x1024, .bf16⟩
  | .hbm, ⟨16, _⟩ => ⟨S4x2x1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Dwdown1.lean ====
abbrev S4224x4096 : Shape := ⟨2, ![4224, 4096]⟩
abbrev S4224x1024 : Shape := ⟨2, ![4224, 1024]⟩
abbrev S4x2x1024x1024 : Shape := ⟨4, ![4, 2, 1024, 1024]⟩
abbrev S4224x512 : Shape := ⟨2, ![4224, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4224x1024, .bf16⟩
  | .hbm, ⟨2, _⟩ => ⟨S4x2x1024x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S1x1x512x512, .bf16⟩
  | .local _ .vmem, ⟨5, _⟩ => ⟨S1x1x512x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dwdown1RefIdeal.lean ====
abbrev S4224x4096 : Shape := ⟨2, ![4224, 4096]⟩
abbrev S4224x1024 : Shape := ⟨2, ![4224, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x1x1024x1024 : Shape := ⟨4, ![4, 1, 1024, 1024]⟩
abbrev S4x2x1024x1024 : Shape := ⟨4, ![4, 2, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x1024, .bf16⟩
  | .hbm, ⟨2, _⟩ => ⟨S_, .f32⟩
  | .hbm, ⟨3, _⟩ => ⟨S4096x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .f32⟩
  | .hbm, ⟨9, _⟩ => ⟨S4224x1024, .f32⟩
  | .hbm, ⟨10, _⟩ => ⟨S4224x1024, .f32⟩
  | .hbm, ⟨11, _⟩ => ⟨S1024x4096, .f32⟩
  | .hbm, ⟨12, _⟩ => ⟨S4096x1024, .f32⟩
  | .hbm, ⟨13, _⟩ => ⟨S4x1024x1024, .f32⟩
  | .hbm, ⟨14, _⟩ => ⟨S4x1024x1024, .bf16⟩
  | .hbm, ⟨15, _⟩ => ⟨S_, .bf16⟩
  | .hbm, ⟨16, _⟩ => ⟨S4x1024x1024, .bf16⟩
  | .hbm, ⟨17, _⟩ => ⟨S4x1x1024x1024, .bf16⟩
  | .hbm, ⟨18, _⟩ => ⟨S4x1x1024x1024, .bf16⟩
  | .hbm, ⟨19, _⟩ => ⟨S4x2x1024x1024, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Conv.lean ====
abbrev S4224x2048 : Shape := ⟨2, ![4224, 2048]⟩
abbrev S4224x1024 : Shape := ⟨2, ![4224, 1024]⟩
abbrev S4x1024 : Shape := ⟨2, ![4, 1024]⟩
abbrev S1x1024 : Shape := ⟨2, ![1, 1024]⟩
abbrev S192x1024 : Shape := ⟨2, ![192, 1024]⟩
abbrev S8x1024 : Shape := ⟨2, ![8, 1024]⟩
abbrev S200x1024 : Shape := ⟨2, ![200, 1024]⟩
abbrev S1024 : Shape := ⟨1, ![1024]⟩

abbrev nBuf : Space → Nat
  | .hbm => 7
  | .vmem => 15
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4x1024, .f32⟩
  | .hbm, ⟨3, _⟩ => ⟨S4224x2048, .bf16⟩
  | .hbm, ⟨4, _⟩ => ⟨S4224x2048, .bf16⟩
  | .hbm, ⟨5, _⟩ => ⟨S4x1024, .f32⟩
  | .hbm, ⟨6, _⟩ => ⟨S1x1024, .f32⟩
  | .local _ .vmem, ⟨0, _⟩ => ⟨S192x1024, .f32⟩
  | .local _ .vmem, ⟨1, _⟩ => ⟨S192x1024, .f32⟩
  | .local _ .vmem, ⟨2, _⟩ => ⟨S8x1024, .f32⟩
  | .local _ .vmem, ⟨3, _⟩ => ⟨S8x1024, .f32⟩
  | .local _ .vmem, ⟨4, _⟩ => ⟨S192x1024, .f32⟩
  | .local _ .vmem, ⟨5, _⟩ => ⟨S192x1024, .f32⟩
  | .local _ .vmem, ⟨6, _⟩ => ⟨S8x1024, .f32⟩
  | .local _ .vmem, ⟨7, _⟩ => ⟨S8x1024, .f32⟩
  | .local _ .vmem, ⟨8, _⟩ => ⟨S4x1024, .f32⟩
  | .local _ .vmem, ⟨9, _⟩ => ⟨S192x1024, .bf16⟩
  | .local _ .vmem, ⟨10, _⟩ => ⟨S192x1024, .bf16⟩
  | .local _ .vmem, ⟨11, _⟩ => ⟨S4x1024, .f32⟩
  | .local _ .vmem, ⟨12, _⟩ => ⟨S1x1024, .f32⟩
  | .local _ .vmem, ⟨13, _⟩ => ⟨S200x1024, .f32⟩
  | .local _ .vmem, ⟨14, _⟩ => ⟨S200x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32_34 : BitVec 32 := 0#32
  let v65 : BitVec 1 := Scalar.cmpi .eq arg0 c0_i32_34
  let v66 : BitVec 32 := Scalar.extui v65
  let c0_i32_35 : BitVec 32 := 0#32
  let v67 : BitVec 1 := Scalar.cmpi .ne v66 c0_i32_35
  v67

def k0_cond2 (i : grid0.Coords) : BitVec 1 :=
  let arg0 : BitVec 32 := BitVec.ofNat 32 (i 0).val
  let c0_i32_36 : BitVec 32 := 0#32
  let v68 : BitVec 1 := Scalar.cmpi .sgt arg0 c0_i32_36
  let v69 : BitVec 32 := Scalar.extui v68
  let c0_i32_37 : BitVec 32 := 0#32
  let v70 : BitVec 1 := Scalar.cmpi .ne v69 c0_i32_37
  v70

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c24_i32 : BitVec 32 := 24#32
  let v0 : BitVec 32 := Scalar.muli arg0 c24_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.muli v0 c24_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S192x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S4224x2048 : Shape := ⟨2, ![4224, 2048]⟩
abbrev S4224x1024 : Shape := ⟨2, ![4224, 1024]⟩
abbrev S4x1024 : Shape := ⟨2, ![4, 1024]⟩
abbrev S_ : Shape := ⟨0, ![]⟩
abbrev S1x1024 : Shape := ⟨2, ![1, 1024]⟩
abbrev S3x1024 : Shape := ⟨2, ![3, 1024]⟩
abbrev S4227x1024 : Shape := ⟨2, ![4227, 1024]⟩
abbrev S1024 : Shape := ⟨1, ![1024]⟩

abbrev nBuf : Space → Nat
  | .hbm => 111
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4x1024, .f32⟩
  | .hbm, ⟨3, _⟩ => ⟨S4224x2048, .bf16⟩
  | .hbm, ⟨4, _⟩ => ⟨S4224x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S3x1024, .f32⟩
  | .hbm, ⟨9, _⟩ => ⟨S4227x1024, .f32⟩
  | .hbm, ⟨10, _⟩ => ⟨S_, .f32⟩
  | .hbm, ⟨11, _⟩ => ⟨S3x1024, .f32⟩
  | .hbm, ⟨12, _⟩ => ⟨S4224x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4224x1024, .f32⟩
  | .hbm, ⟨17, _⟩ => ⟨S4224x1024, .f32⟩
  | .hbm, ⟨18, _⟩ => ⟨S_, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S4224x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4224x1024, .f32⟩
  | .hbm, ⟨48, _⟩ => ⟨S4224x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4224x1024, .f32⟩
  | .hbm, ⟨53, _⟩ => ⟨S4224x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S4x1024, .f32⟩
  | .hbm, ⟨59, _⟩ => ⟨S_, .f32⟩
  | .hbm, ⟨60, _⟩ => ⟨S4227x1024, .f32⟩
  | .hbm, ⟨61, _⟩ => ⟨S4224x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4224x1024, .f32⟩
  | .hbm, ⟨66, _⟩ => ⟨S4224x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S4x1024, .f32⟩
  | .hbm, ⟨72, _⟩ => ⟨S4x1024, .f32⟩
  | .hbm, ⟨73, _⟩ => ⟨S_, .f32⟩
  | .hbm, ⟨74, _⟩ => ⟨S4227x1024, .f32⟩
  | .hbm, ⟨75, _⟩ => ⟨S4227x1024, .f32⟩
  | .hbm, ⟨76, _⟩ => ⟨S4224x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4224x1024, .f32⟩
  | .hbm, ⟨81, _⟩ => ⟨S4224x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S4x1024, .f32⟩
  | .hbm, ⟨87, _⟩ => ⟨S4x1024, .f32⟩
  | .hbm, ⟨88, _⟩ => ⟨S_, .f32⟩
  | .hbm, ⟨89, _⟩ => ⟨S4227x1024, .f32⟩
  | .hbm, ⟨90, _⟩ => ⟨S4227x1024, .f32⟩
  | .hbm, ⟨91, _⟩ => ⟨S4224x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4224x1024, .f32⟩
  | .hbm, ⟨96, _⟩ => ⟨S4224x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S_, .f32⟩
  | .hbm, ⟨101, _⟩ => ⟨S4x1024, .f32⟩
  | .hbm, ⟨102, _⟩ => ⟨S4x1024, .f32⟩
  | .hbm, ⟨103, _⟩ => ⟨S_, .f32⟩
  | .hbm, ⟨104, _⟩ => ⟨S4227x1024, .f32⟩
  | .hbm, ⟨105, _⟩ => ⟨S4227x1024, .f32⟩
  | .hbm, ⟨106, _⟩ => ⟨S3x1024, .f32⟩
  | .hbm, ⟨107, _⟩ => ⟨S4224x1024, .f32⟩
  | .hbm, ⟨108, _⟩ => ⟨S4224x1024, .bf16⟩
  | .hbm, ⟨109, _⟩ => ⟨S4224x1024, .bf16⟩
  | .hbm, ⟨110, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_cst_15 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_cst_19 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Dwin.lean ====
abbrev S4224x1024 : Shape := ⟨2, ![4224, 1024]⟩
abbrev S4224x2048 : Shape := ⟨2, ![4224, 2048]⟩
abbrev S4x1024x512 : Shape := ⟨3, ![4, 1024, 512]⟩
abbrev S4224x512 : Shape := ⟨2, ![4224, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x2048, .bf16⟩
  | .hbm, ⟨2, _⟩ => ⟨S4x1024x512, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S1x512x512, .bf16⟩
  | .local _ .vmem, ⟨5, _⟩ => ⟨S1x512x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwinRefIdeal.lean ====
abbrev S4224x1024 : Shape := ⟨2, ![4224, 1024]⟩
abbrev S4224x2048 : Shape := ⟨2, ![4224, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2048, .bf16⟩
  | .hbm, ⟨2, _⟩ => ⟨S_, .f32⟩
  | .hbm, ⟨3, _⟩ => ⟨S1024x2048, .f32⟩
  | .hbm, ⟨4, _⟩ => ⟨S4224x1024, .f32⟩
  | .hbm, ⟨5, _⟩ => ⟨S4224x2048, .f32⟩
  | .hbm, ⟨6, _⟩ => ⟨S4224x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dwo.lean ====
abbrev S4224x1024 : Shape := ⟨2, ![4224, 1024]⟩
abbrev S1x1024x1024 : Shape := ⟨3, ![1, 1024, 1024]⟩
abbrev S4224x512 : Shape := ⟨2, ![4224, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1x1024x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S1x512x512, .bf16⟩
  | .local _ .vmem, ⟨5, _⟩ => ⟨S1x512x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoRefIdeal.lean ====
abbrev S4224x1024 : Shape := ⟨2, ![4224, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Datt.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .f32⟩
  | .hbm, ⟨2, _⟩ => ⟨S1024x1024, .bf16⟩
  | .hbm, ⟨3, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DattRefIdeal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .f32⟩
  | .hbm, ⟨2, _⟩ => ⟨S_, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Inbwd.lean ====
abbrev S4224x2048 : Shape := ⟨2, ![4224, 2048]⟩
abbrev S1024x2048 : Shape := ⟨2, ![1024, 2048]⟩
abbrev S4224x1024 : Shape := ⟨2, ![4224, 1024]⟩
abbrev S1x1024 : Shape := ⟨2, ![1, 1024]⟩
abbrev S1024x4x512 : Shape := ⟨3, ![1024, 4, 512]⟩
abbrev S4x1024x512 : Shape := ⟨3, ![4, 1024, 512]⟩
abbrev S1056x512 : Shape := ⟨2, ![1056, 512]⟩
abbrev S1x1024x512 : Shape := ⟨3, ![1, 1024, 512]⟩
abbrev S1056x1024 : Shape := ⟨2, ![1056, 1024]⟩
abbrev S1024x512 : Shape := ⟨2, ![1024, 512]⟩
abbrev S1056 : Shape := ⟨1, ![1056]⟩
abbrev S1056x1 : Shape := ⟨2, ![1056, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4224x2048, .bf16⟩
  | .hbm, ⟨1, _⟩ => ⟨S1024x2048, .f32⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S4224x1024, .f32⟩
  | .hbm, ⟨9, _⟩ => ⟨S4224x1024, .bf16⟩
  | .hbm, ⟨10, _⟩ => ⟨S1x1024, .f32⟩
  | .local _ .vmem, ⟨0, _⟩ => ⟨S1056x512, .bf16⟩
  | .local _ .vmem, ⟨1, _⟩ => ⟨S1056x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1056x1024, .f32⟩
  | .local _ .vmem, ⟨5, _⟩ => ⟨S1056x1024, .f32⟩
  | .local _ .vmem, ⟨6, _⟩ => ⟨S1x1024, .f32⟩
  | .local _ .vmem, ⟨7, _⟩ => ⟨S1056x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .f32⟩
  | .local _ .vmem, ⟨11, _⟩ => ⟨S1056x1024, .bf16⟩
  | .local _ .vmem, ⟨12, _⟩ => ⟨S1056x1024, .bf16⟩
  | .local _ .vmem, ⟨13, _⟩ => ⟨S1x1024, .f32⟩
  | .local _ .vmem, ⟨14, _⟩ => ⟨S1056x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def k0_cond5 (i : grid0.Coords) : BitVec 1 :=
  let arg0 : BitVec 32 := BitVec.ofNat 32 (i 0).val
  let c0_i32_28 : BitVec 32 := 0#32
  let v49 : BitVec 1 := Scalar.cmpi .sgt arg0 c0_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1056x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== InbwdRefIdeal.lean ====
abbrev S4224x2048 : Shape := ⟨2, ![4224, 2048]⟩
abbrev S1024x2048 : Shape := ⟨2, ![1024, 2048]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S1024x2048, .f32⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x2048, .f32⟩
  | .hbm, ⟨25, _⟩ => ⟨S4224x2048, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S_, .f32⟩
  | .hbm, ⟨35, _⟩ => ⟨S4224, .f32⟩
  | .hbm, ⟨36, _⟩ => ⟨S4224x1, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1, .f32⟩
  | .hbm, ⟨41, _⟩ => ⟨S_, .f32⟩
  | .hbm, ⟨42, _⟩ => ⟨S4224x1, .f32⟩
  | .hbm, ⟨43, _⟩ => ⟨S4224x1, .f32⟩
  | .hbm, ⟨44, _⟩ => ⟨S_, .f32⟩
  | .hbm, ⟨45, _⟩ => ⟨S4224, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Outb.lean ====
abbrev S4224x2048 : Shape := ⟨2, ![4224, 2048]⟩
abbrev S4224x1024 : Shape := ⟨2, ![4224, 1024]⟩
abbrev S1024x1024 : Shape := ⟨2, ![1024, 1024]⟩
abbrev S528x1024 : Shape := ⟨2, ![528, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4224x1024, .bf16⟩
  | .hbm, ⟨3, _⟩ => ⟨S1024x1024, .f32⟩
  | .hbm, ⟨4, _⟩ => ⟨S1024x1024, .bf16⟩
  | .hbm, ⟨5, _⟩ => ⟨S4224x2048, .bf16⟩
  | .hbm, ⟨6, _⟩ => ⟨S4224x1024, .f32⟩
  | .local _ .vmem, ⟨0, _⟩ => ⟨S528x1024, .f32⟩
  | .local _ .vmem, ⟨1, _⟩ => ⟨S528x1024, .f32⟩
  | .local _ .vmem, ⟨2, _⟩ => ⟨S528x1024, .f32⟩
  | .local _ .vmem, ⟨3, _⟩ => ⟨S528x1024, .f32⟩
  | .local _ .vmem, ⟨4, _⟩ => ⟨S528x1024, .bf16⟩
  | .local _ .vmem, ⟨5, _⟩ => ⟨S528x1024, .bf16⟩
  | .local _ .vmem, ⟨6, _⟩ => ⟨S1024x1024, .bf16⟩
  | .local _ .vmem, ⟨7, _⟩ => ⟨S528x1024, .bf16⟩
  | .local _ .vmem, ⟨8, _⟩ => ⟨S528x1024, .bf16⟩
  | .local _ .vmem, ⟨9, _⟩ => ⟨S528x1024, .f32⟩
  | .local _ .vmem, ⟨10, _⟩ => ⟨S528x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutbIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== OutbRefIdeal.lean ====
abbrev S4224x2048 : Shape := ⟨2, ![4224, 2048]⟩
abbrev S4224x1024 : Shape := ⟨2, ![4224, 1024]⟩
abbrev S1024x1024 : Shape := ⟨2, ![1024, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4224x1024, .bf16⟩
  | .hbm, ⟨3, _⟩ => ⟨S1024x1024, .f32⟩
  | .hbm, ⟨4, _⟩ => ⟨S4224x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S_, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S_, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224x1024, .f32⟩
  | .hbm, ⟨30, _⟩ => ⟨S4224x1024, .f32⟩
  | .hbm, ⟨31, _⟩ => ⟨S_, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S_, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S_, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x1024, .bf16⟩
  | .hbm, ⟨56, _⟩ => ⟨S_, .bf16⟩
  | .hbm, ⟨57, _⟩ => ⟨S4224x1024, .bf16⟩
  | .hbm, ⟨58, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Fwd.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S1024x4x1x1024 : Shape := ⟨4, ![1024, 4, 1, 1024]⟩
abbrev S4x1x1024x1024 : Shape := ⟨4, ![4, 1, 1024, 1024]⟩
abbrev S4224x4096 : Shape := ⟨2, ![4224, 4096]⟩
abbrev S528x1024 : Shape := ⟨2, ![528, 1024]⟩
abbrev S1x1x1024x1024 : Shape := ⟨4, ![1, 1, 1024, 1024]⟩
abbrev S528 : Shape := ⟨1, ![528]⟩
abbrev S528x1 : Shape := ⟨2, ![528, 1]⟩
abbrev S272x1024 : Shape := ⟨2, ![272, 1024]⟩
abbrev S1024x1024 : Shape := ⟨2, ![1024, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024x4x1x1024, .f32⟩
  | .hbm, ⟨5, _⟩ => ⟨S4x1x1024x1024, .f32⟩
  | .hbm, ⟨6, _⟩ => ⟨S4x1x1024x1024, .bf16⟩
  | .hbm, ⟨7, _⟩ => ⟨S4x1x1024x1024, .f32⟩
  | .hbm, ⟨8, _⟩ => ⟨S4x1x1024x1024, .bf16⟩
  | .hbm, ⟨9, _⟩ => ⟨S4224x1024, .f32⟩
  | .hbm, ⟨10, _⟩ => ⟨S4224x1024, .bf16⟩
  | .hbm, ⟨11, _⟩ => ⟨S4224x4096, .bf16⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S528x1024, .f32⟩
  | .local _ .vmem, ⟨8, _⟩ => ⟨S528x1024, .f32⟩
  | .local _ .vmem, ⟨9, _⟩ => ⟨S528x1024, .bf16⟩
  | .local _ .vmem, ⟨10, _⟩ => ⟨S528x1024, .bf16⟩
  | .local _ .vmem, ⟨11, _⟩ => ⟨S528x1024, .bf16⟩
  | .local _ .vmem, ⟨12, _⟩ => ⟨S528x1024, .bf16⟩
  | .local _ .vmem, ⟨13, _⟩ => ⟨S528x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond5 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_34 : BitVec 32 := 0#32
  let v43 : BitVec 1 := Scalar.cmpi .ne v42 c0_i32_34
  v43

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S528x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdRefIdeal.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S4224x4096 : Shape := ⟨2, ![4224, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4224x4096, .f32⟩
  | .hbm, ⟨24, _⟩ => ⟨S4224x1024, .f32⟩
  | .hbm, ⟨25, _⟩ => ⟨S4224x1024, .f32⟩
  | .hbm, ⟨26, _⟩ => ⟨S4224x1024, .bf16⟩
  | .hbm, ⟨27, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Qkv.lean ====
abbrev S4224x1024 : Shape := ⟨2, ![4224, 1024]⟩
abbrev S1x1024 : Shape := ⟨2, ![1, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4224x3072 : Shape := ⟨2, ![4224, 3072]⟩
abbrev S1056x1024 : Shape := ⟨2, ![1056, 1024]⟩
abbrev S1x1024x768 : Shape := ⟨3, ![1, 1024, 768]⟩
abbrev S1056x768 : Shape := ⟨2, ![1056, 768]⟩
abbrev S1056 : Shape := ⟨1, ![1056]⟩
abbrev S1056x1 : Shape := ⟨2, ![1056, 1]⟩
abbrev S1024x768 : Shape := ⟨2, ![1024, 768]⟩

abbrev nBuf : Space → Nat
  | .hbm => 8
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x3072, .f32⟩
  | .hbm, ⟨3, _⟩ => ⟨S1024x4x768, .f32⟩
  | .hbm, ⟨4, _⟩ => ⟨S4x1024x768, .f32⟩
  | .hbm, ⟨5, _⟩ => ⟨S4x1024x768, .bf16⟩
  | .hbm, ⟨6, _⟩ => ⟨S4224x1024, .bf16⟩
  | .hbm, ⟨7, _⟩ => ⟨S4224x3072, .bf16⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S1x1024x768, .bf16⟩
  | .local _ .vmem, ⟨4, _⟩ => ⟨S1x1024x768, .bf16⟩
  | .local _ .vmem, ⟨5, _⟩ => ⟨S1056x1024, .bf16⟩
  | .local _ .vmem, ⟨6, _⟩ => ⟨S1056x1024, .bf16⟩
  | .local _ .vmem, ⟨7, _⟩ => ⟨S1056x768, .bf16⟩
  | .local _ .vmem, ⟨8, _⟩ => ⟨S1056x768, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1056x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S4224x1024 : Shape := ⟨2, ![4224, 1024]⟩
abbrev S1x1024 : Shape := ⟨2, ![1, 1024]⟩
abbrev S1024x3072 : Shape := ⟨2, ![1024, 3072]⟩
abbrev S_ : Shape := ⟨0, ![]⟩
abbrev S4224 : Shape := ⟨1, ![4224]⟩
abbrev S4224x1 : Shape := ⟨2, ![4224, 1]⟩
abbrev S4224x3072 : Shape := ⟨2, ![4224, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x3072, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .bf16⟩
  | .hbm, ⟨19, _⟩ => ⟨S4224x3072, .f32⟩
  | .hbm, ⟨20, _⟩ => ⟨S4224x3072, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Lruin.lean ====
abbrev S4224x1024 : Shape := ⟨2, ![4224, 1024]⟩
abbrev S1x1024 : Shape := ⟨2, ![1, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4224x2048 : Shape := ⟨2, ![4224, 2048]⟩
abbrev S1056x1024 : Shape := ⟨2, ![1056, 1024]⟩
abbrev S1x1024x512 : Shape := ⟨3, ![1, 1024, 512]⟩
abbrev S1056x512 : Shape := ⟨2, ![1056, 512]⟩
abbrev S1056 : Shape := ⟨1, ![1056]⟩
abbrev S1056x1 : Shape := ⟨2, ![1056, 1]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x2048, .f32⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S4224x1024, .bf16⟩
  | .hbm, ⟨7, _⟩ => ⟨S4224x2048, .f32⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1056x1024, .bf16⟩
  | .local _ .vmem, ⟨6, _⟩ => ⟨S1056x1024, .bf16⟩
  | .local _ .vmem, ⟨7, _⟩ => ⟨S1056x512, .f32⟩
  | .local _ .vmem, ⟨8, _⟩ => ⟨S1056x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LruinRefIdeal.lean ====
abbrev S4224x1024 : Shape := ⟨2, ![4224, 1024]⟩
abbrev S1x1024 : Shape := ⟨2, ![1, 1024]⟩
abbrev S1024x2048 : Shape := ⟨2, ![1024, 2048]⟩
abbrev S_ : Shape := ⟨0, ![]⟩
abbrev S4224 : Shape := ⟨1, ![4224]⟩
abbrev S4224x1 : Shape := ⟨2, ![4224, 1]⟩
abbrev S4224x2048 : Shape := ⟨2, ![4224, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x2048, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .bf16⟩
  | .hbm, ⟨19, _⟩ => ⟨S4224x2048, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Lruout.lean ====
abbrev S4224x2048 : Shape := ⟨2, ![4224, 2048]⟩
abbrev S4224x1024 : Shape := ⟨2, ![4224, 1024]⟩
abbrev S1024x1024 : Shape := ⟨2, ![1024, 1024]⟩
abbrev S528x1024 : Shape := ⟨2, ![528, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S1024x1024, .f32⟩
  | .hbm, ⟨3, _⟩ => ⟨S4224x1024, .f32⟩
  | .hbm, ⟨4, _⟩ => ⟨S1024x1024, .bf16⟩
  | .hbm, ⟨5, _⟩ => ⟨S4224x1024, .bf16⟩
  | .hbm, ⟨6, _⟩ => ⟨S4224x1024, .f32⟩
  | .local _ .vmem, ⟨0, _⟩ => ⟨S528x1024, .f32⟩
  | .local _ .vmem, ⟨1, _⟩ => ⟨S528x1024, .f32⟩
  | .local _ .vmem, ⟨2, _⟩ => ⟨S528x1024, .f32⟩
  | .local _ .vmem, ⟨3, _⟩ => ⟨S528x1024, .f32⟩
  | .local _ .vmem, ⟨4, _⟩ => ⟨S1024x1024, .bf16⟩
  | .local _ .vmem, ⟨5, _⟩ => ⟨S528x1024, .f32⟩
  | .local _ .vmem, ⟨6, _⟩ => ⟨S528x1024, .f32⟩
  | .local _ .vmem, ⟨7, _⟩ => ⟨S528x1024, .bf16⟩
  | .local _ .vmem, ⟨8, _⟩ => ⟨S528x1024, .bf16⟩
  | .local _ .vmem, ⟨9, _⟩ => ⟨S528x1024, .f32⟩
  | .local _ .vmem, ⟨10, _⟩ => ⟨S528x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LruoutRefIdeal.lean ====
abbrev S4224x2048 : Shape := ⟨2, ![4224, 2048]⟩
abbrev S4224x1024 : Shape := ⟨2, ![4224, 1024]⟩
abbrev S1024x1024 : Shape := ⟨2, ![1024, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S1024x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S_, .f32⟩
  | .hbm, ⟨16, _⟩ => ⟨S4224x1024, .f32⟩
  | .hbm, ⟨17, _⟩ => ⟨S4224x1024, .f32⟩
  | .hbm, ⟨18, _⟩ => ⟨S_, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .bf16⟩
  | .hbm, ⟨24, _⟩ => ⟨S4224x1024, .f32⟩
  | .hbm, ⟨25, _⟩ => ⟨S4224x1024, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Att.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .f32⟩
  | .hbm, ⟨2, _⟩ => ⟨S4224x1024, .f32⟩
  | .hbm, ⟨3, _⟩ => ⟨S1024x1024, .bf16⟩
  | .hbm, ⟨4, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttRefIdeal.lean ====
abbrev S4224x1024 : Shape := ⟨2, ![4224, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Adams.lean ====
abbrev S272x1024 : Shape := ⟨2, ![272, 1024]⟩

abbrev nBuf : Space → Nat
  | .hbm => 7
  | .vmem => 7
  | .smem => 0
  | _ => 0

abbrev bufTy : (tb : Table) → Fin (tcTables nBuf tb) → BufTy
  | .hbm, ⟨0, _⟩ => ⟨S272x1024, .f32⟩
  | .hbm, ⟨1, _⟩ => ⟨S272x1024, .f32⟩
  | .hbm, ⟨2, _⟩ => ⟨S272x1024, .f32⟩
  | .hbm, ⟨3, _⟩ => ⟨S272x1024, .f32⟩
  | .hbm, ⟨4, _⟩ => ⟨S272x1024, .f32⟩
  | .hbm, ⟨5, _⟩ => ⟨S272x1024, .f32⟩
  | .hbm, ⟨6, _⟩ => ⟨S272x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | _, _ => ⟨S272x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S272x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S272x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S272x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S272x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S272x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S272x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S272x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamsIdeal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== AdamsRefIdeal.lean ====
abbrev S272x1024 : Shape := ⟨2, ![272, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S272x1024, .f32⟩
  | .hbm, ⟨1, _⟩ => ⟨S272x1024, .f32⟩
  | .hbm, ⟨2, _⟩ => ⟨S272x1024, .f32⟩
  | .hbm, ⟨3, _⟩ => ⟨S272x1024, .f32⟩
  | .hbm, ⟨4, _⟩ => ⟨S_, .f32⟩
  | .hbm, ⟨5, _⟩ => ⟨S272x1024, .f32⟩
  | .hbm, ⟨6, _⟩ => ⟨S272x1024, .f32⟩
  | .hbm, ⟨7, _⟩ => ⟨S_, .f32⟩
  | .hbm, ⟨8, _⟩ => ⟨S272x1024, .f32⟩
  | .hbm, ⟨9, _⟩ => ⟨S272x1024, .f32⟩
  | .hbm, ⟨10, _⟩ => ⟨S272x1024, .f32⟩
  | .hbm, ⟨11, _⟩ => ⟨S_, .f32⟩
  | .hbm, ⟨12, _⟩ => ⟨S272x1024, .f32⟩
  | .hbm, ⟨13, _⟩ => ⟨S272x1024, .f32⟩
  | .hbm, ⟨14, _⟩ => ⟨S272x1024, .f32⟩
  | .hbm, ⟨15, _⟩ => ⟨S_, .f32⟩
  | .hbm, ⟨16, _⟩ => ⟨S272x1024, .f32⟩
  | .hbm, ⟨17, _⟩ => ⟨S272x1024, .f32⟩
  | .hbm, ⟨18, _⟩ => ⟨S272x1024, .f32⟩
  | .hbm, ⟨19, _⟩ => ⟨S_, .f32⟩
  | .hbm, ⟨20, _⟩ => ⟨S272x1024, .f32⟩
  | .hbm, ⟨21, _⟩ => ⟨S272x1024, .f32⟩
  | .hbm, ⟨22, _⟩ => ⟨S_, .f32⟩
  | .hbm, ⟨23, _⟩ => ⟨S272x1024, .f32⟩
  | .hbm, ⟨24, _⟩ => ⟨S272x1024, .f32⟩
  | .hbm, ⟨25, _⟩ => ⟨S272x1024, .f32⟩
  | .hbm, ⟨26, _⟩ => ⟨S_, .f32⟩
  | .hbm, ⟨27, _⟩ => ⟨S272x1024, .f32⟩
  | .hbm, ⟨28, _⟩ => ⟨S272x1024, .f32⟩
  | .hbm, ⟨29, _⟩ => ⟨S272x1024, .f32⟩
  | .hbm, ⟨30, _⟩ => ⟨S_, .f32⟩
  | .hbm, ⟨31, _⟩ => ⟨S272x1024, .f32⟩
  | .hbm, ⟨32, _⟩ => ⟨S272x1024, .f32⟩
  | .hbm, ⟨33, _⟩ => ⟨S272x1024, .f32⟩
  | .hbm, ⟨34, _⟩ => ⟨S_, .f32⟩
  | .hbm, ⟨35, _⟩ => ⟨S272x1024, .f32⟩
  | .hbm, ⟨36, _⟩ => ⟨S272x1024, .f32⟩
  | _, _ => ⟨S272x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamup.lean ====
abbrev S2x1024x1024 : Shape := ⟨3, ![2, 1024, 1024]⟩
abbrev S1024x1024 : Shape := ⟨2, ![1024, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamupIdeal.lean ====
abbrev S2x1024x1024 : Shape := ⟨3, ![2, 1024, 1024]⟩
abbrev S1024x1024 : Shape := ⟨2, ![1024, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "corr1" => some ((8388608 / 5463681 : ℝ) : EReal)
  | "corr2" => some ((268435456 / 2672307 : ℝ) : EReal)
  | _ => none

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamupRefIdeal.lean ====
abbrev S2x1024x1024 : Shape := ⟨3, ![2, 1024, 1024]⟩
abbrev S1024x1024 : Shape := ⟨2, ![1024, 1024]⟩
abbrev S1 : Shape := ⟨1, ![1]⟩
abbrev S2 : Shape := ⟨1, ![2]⟩
abbrev S_ : Shape := ⟨0, ![]⟩
abbrev S2x1x1 : Shape := ⟨3, ![2, 1, 1]⟩
abbrev S1x1024x1024 : Shape := ⟨3, ![1, 1024, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S1, .i32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x1024x1024, .f32⟩
  | .hbm, ⟨12, _⟩ => ⟨S1x1024x1024, .f32⟩
  | .hbm, ⟨13, _⟩ => ⟨S2x1024x1024, .i1⟩
  | .hbm, ⟨14, _⟩ => ⟨S2x1024x1024, .f32⟩
  | .hbm, ⟨15, _⟩ => ⟨S2x1024x1024, .f32⟩
  | .hbm, ⟨16, _⟩ => ⟨S2x1024x1024, .f32⟩
  | .hbm, ⟨17, _⟩ => ⟨S_, .f32⟩
  | .hbm, ⟨18, _⟩ => ⟨S2x1024x1024, .f32⟩
  | .hbm, ⟨19, _⟩ => ⟨S2x1024x1024, .f32⟩
  | .hbm, ⟨20, _⟩ => ⟨S_, .f32⟩
  | .hbm, ⟨21, _⟩ => ⟨S2x1024x1024, .f32⟩
  | .hbm, ⟨22, _⟩ => ⟨S2x1024x1024, .f32⟩
  | .hbm, ⟨23, _⟩ => ⟨S2x1024x1024, .f32⟩
  | .hbm, ⟨24, _⟩ => ⟨S_, .f32⟩
  | .hbm, ⟨25, _⟩ => ⟨S2x1024x1024, .f32⟩
  | .hbm, ⟨26, _⟩ => ⟨S2x1024x1024, .f32⟩
  | .hbm, ⟨27, _⟩ => ⟨S2x1024x1024, .f32⟩
  | .hbm, ⟨28, _⟩ => ⟨S_, .f32⟩
  | .hbm, ⟨29, _⟩ => ⟨S2x1024x1024, .f32⟩
  | .hbm, ⟨30, _⟩ => ⟨S2x1024x1024, .f32⟩
  | .hbm, ⟨31, _⟩ => ⟨S2x1024x1024, .f32⟩
  | .hbm, ⟨32, _⟩ => ⟨S_, .f32⟩
  | .hbm, ⟨33, _⟩ => ⟨S2x1024x1024, .f32⟩
  | .hbm, ⟨34, _⟩ => ⟨S2x1024x1024, .f32⟩
  | .hbm, ⟨35, _⟩ => ⟨S_, .f32⟩
  | .hbm, ⟨36, _⟩ => ⟨S2x1024x1024, .f32⟩
  | .hbm, ⟨37, _⟩ => ⟨S2x1024x1024, .f32⟩
  | .hbm, ⟨38, _⟩ => ⟨S2x1024x1024, .f32⟩
  | .hbm, ⟨39, _⟩ => ⟨S_, .f32⟩
  | .hbm, ⟨40, _⟩ => ⟨S2x1024x1024, .f32⟩
  | .hbm, ⟨41, _⟩ => ⟨S2x1024x1024, .f32⟩
  | .hbm, ⟨42, _⟩ => ⟨S2x1024x1024, .f32⟩
  | .hbm, ⟨43, _⟩ => ⟨S_, .f32⟩
  | .hbm, ⟨44, _⟩ => ⟨S2x1024x1024, .f32⟩
  | .hbm, ⟨45, _⟩ => ⟨S2x1024x1024, .f32⟩
  | .hbm, ⟨46, _⟩ => ⟨S2x1024x1024, .f32⟩
  | .hbm, ⟨47, _⟩ => ⟨S_, .f32⟩
  | .hbm, ⟨48, _⟩ => ⟨S2x1024x1024, .f32⟩
  | .hbm, ⟨49, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Adamqkv.lean ====
abbrev S2x512x768 : Shape := ⟨3, ![2, 512, 768]⟩
abbrev S512x768 : Shape := ⟨2, ![512, 768]⟩
abbrev S1 : Shape := ⟨1, ![1]⟩
abbrev S1x256x768 : Shape := ⟨3, ![1, 256, 768]⟩
abbrev S256x768 : Shape := ⟨2, ![256, 768]⟩

abbrev nBuf : Space → Nat
  | .hbm => 9
  | .vmem => 18
  | .smem => 1
  | _ => 0

abbrev bufTy : (tb : Table) → Fin (tcTables nBuf tb) → BufTy
  | .hbm, ⟨0, _⟩ => ⟨S2x512x768, .f32⟩
  | .hbm, ⟨1, _⟩ => ⟨S512x768, .f32⟩
  | .hbm, ⟨2, _⟩ => ⟨S512x768, .f32⟩
  | .hbm, ⟨3, _⟩ => ⟨S2x512x768, .f32⟩
  | .hbm, ⟨4, _⟩ => ⟨S2x512x768, .f32⟩
  | .hbm, ⟨5, _⟩ => ⟨S2x512x768, .f32⟩
  | .hbm, ⟨6, _⟩ => ⟨S2x512x768, .f32⟩
  | .hbm, ⟨7, _⟩ => ⟨S2x512x768, .f32⟩
  | .hbm, ⟨8, _⟩ => ⟨S2x512x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamqkvIdeal.lean ====
abbrev S2x512x768 : Shape := ⟨3, ![2, 512, 768]⟩
abbrev S512x768 : Shape := ⟨2, ![512, 768]⟩
abbrev S1 : Shape := ⟨1, ![1]⟩
abbrev S1x256x768 : Shape := ⟨3, ![1, 256, 768]⟩
abbrev S256x768 : Shape := ⟨2, ![256, 768]⟩

abbrev nBuf : Space → Nat
  | .hbm => 9
  | .vmem => 18
  | .smem => 1
  | _ => 0

abbrev bufTy : (tb : Table) → Fin (tcTables nBuf tb) → BufTy
  | .hbm, ⟨0, _⟩ => ⟨S2x512x768, .f32⟩
  | .hbm, ⟨1, _⟩ => ⟨S512x768, .f32⟩
  | .hbm, ⟨2, _⟩ => ⟨S512x768, .f32⟩
  | .hbm, ⟨3, _⟩ => ⟨S2x512x768, .f32⟩
  | .hbm, ⟨4, _⟩ => ⟨S2x512x768, .f32⟩
  | .hbm, ⟨5, _⟩ => ⟨S2x512x768, .f32⟩
  | .hbm, ⟨6, _⟩ => ⟨S2x512x768, .f32⟩
  | .hbm, ⟨7, _⟩ => ⟨S2x512x768, .f32⟩
  | .hbm, ⟨8, _⟩ => ⟨S2x512x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "corr1" => some ((8388608 / 5463681 : ℝ) : EReal)
  | "corr2" => some ((268435456 / 2672307 : ℝ) : EReal)
  | _ => none

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamqkvRefIdeal.lean ====
abbrev S2x512x768 : Shape := ⟨3, ![2, 512, 768]⟩
abbrev S512x768 : Shape := ⟨2, ![512, 768]⟩
abbrev S1 : Shape := ⟨1, ![1]⟩
abbrev S2 : Shape := ⟨1, ![2]⟩
abbrev S_ : Shape := ⟨0, ![]⟩
abbrev S2x1x1 : Shape := ⟨3, ![2, 1, 1]⟩
abbrev S1x512x768 : Shape := ⟨3, ![1, 512, 768]⟩

abbrev nBuf : Space → Nat
  | .hbm => 50
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S512x768, .f32⟩
  | .hbm, ⟨2, _⟩ => ⟨S512x768, .f32⟩
  | .hbm, ⟨3, _⟩ => ⟨S2x512x768, .f32⟩
  | .hbm, ⟨4, _⟩ => ⟨S2x512x768, .f32⟩
  | .hbm, ⟨5, _⟩ => ⟨S1, .i32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x512x768, .f32⟩
  | .hbm, ⟨12, _⟩ => ⟨S1x512x768, .f32⟩
  | .hbm, ⟨13, _⟩ => ⟨S2x512x768, .i1⟩
  | .hbm, ⟨14, _⟩ => ⟨S2x512x768, .f32⟩
  | .hbm, ⟨15, _⟩ => ⟨S2x512x768, .f32⟩
  | .hbm, ⟨16, _⟩ => ⟨S2x512x768, .f32⟩
  | .hbm, ⟨17, _⟩ => ⟨S_, .f32⟩
  | .hbm, ⟨18, _⟩ => ⟨S2x512x768, .f32⟩
  | .hbm, ⟨19, _⟩ => ⟨S2x512x768, .f32⟩
  | .hbm, ⟨20, _⟩ => ⟨S_, .f32⟩
  | .hbm, ⟨21, _⟩ => ⟨S2x512x768, .f32⟩
  | .hbm, ⟨22, _⟩ => ⟨S2x512x768, .f32⟩
  | .hbm, ⟨23, _⟩ => ⟨S2x512x768, .f32⟩
  | .hbm, ⟨24, _⟩ => ⟨S_, .f32⟩
  | .hbm, ⟨25, _⟩ => ⟨S2x512x768, .f32⟩
  | .hbm, ⟨26, _⟩ => ⟨S2x512x768, .f32⟩
  | .hbm, ⟨27, _⟩ => ⟨S2x512x768, .f32⟩
  | .hbm, ⟨28, _⟩ => ⟨S_, .f32⟩
  | .hbm, ⟨29, _⟩ => ⟨S2x512x768, .f32⟩
  | .hbm, ⟨30, _⟩ => ⟨S2x512x768, .f32⟩
  | .hbm, ⟨31, _⟩ => ⟨S2x512x768, .f32⟩
  | .hbm, ⟨32, _⟩ => ⟨S_, .f32⟩
  | .hbm, ⟨33, _⟩ => ⟨S2x512x768, .f32⟩
  | .hbm, ⟨34, _⟩ => ⟨S2x512x768, .f32⟩
  | .hbm, ⟨35, _⟩ => ⟨S_, .f32⟩
  | .hbm, ⟨36, _⟩ => ⟨S2x512x768, .f32⟩
  | .hbm, ⟨37, _⟩ => ⟨S2x512x768, .f32⟩
  | .hbm, ⟨38, _⟩ => ⟨S2x512x768, .f32⟩
  | .hbm, ⟨39, _⟩ => ⟨S_, .f32⟩
  | .hbm, ⟨40, _⟩ => ⟨S2x512x768, .f32⟩
  | .hbm, ⟨41, _⟩ => ⟨S2x512x768, .f32⟩
  | .hbm, ⟨42, _⟩ => ⟨S2x512x768, .f32⟩
  | .hbm, ⟨43, _⟩ => ⟨S_, .f32⟩
  | .hbm, ⟨44, _⟩ => ⟨S2x512x768, .f32⟩
  | .hbm, ⟨45, _⟩ => ⟨S2x512x768, .f32⟩
  | .hbm, ⟨46, _⟩ => ⟨S2x512x768, .f32⟩
  | .hbm, ⟨47, _⟩ => ⟨S_, .f32⟩
  | .hbm, ⟨48, _⟩ => ⟨S2x512x768, .f32⟩
  | .hbm, ⟨49, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Adamin.lean ====
abbrev S2x512x512 : Shape := ⟨3, ![2, 512, 512]⟩
abbrev S512x512 : Shape := ⟨2, ![512, 512]⟩
abbrev S1 : Shape := ⟨1, ![1]⟩
abbrev S1x256x512 : Shape := ⟨3, ![1, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512x512, .f32⟩
  | .hbm, ⟨3, _⟩ => ⟨S2x512x512, .f32⟩
  | .hbm, ⟨4, _⟩ => ⟨S2x512x512, .f32⟩
  | .hbm, ⟨5, _⟩ => ⟨S2x512x512, .f32⟩
  | .hbm, ⟨6, _⟩ => ⟨S2x512x512, .f32⟩
  | .hbm, ⟨7, _⟩ => ⟨S2x512x512, .f32⟩
  | .hbm, ⟨8, _⟩ => ⟨S2x512x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaminIdeal.lean ====
abbrev S2x512x512 : Shape := ⟨3, ![2, 512, 512]⟩
abbrev S512x512 : Shape := ⟨2, ![512, 512]⟩
abbrev S1 : Shape := ⟨1, ![1]⟩
abbrev S1x256x512 : Shape := ⟨3, ![1, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512x512, .f32⟩
  | .hbm, ⟨3, _⟩ => ⟨S2x512x512, .f32⟩
  | .hbm, ⟨4, _⟩ => ⟨S2x512x512, .f32⟩
  | .hbm, ⟨5, _⟩ => ⟨S2x512x512, .f32⟩
  | .hbm, ⟨6, _⟩ => ⟨S2x512x512, .f32⟩
  | .hbm, ⟨7, _⟩ => ⟨S2x512x512, .f32⟩
  | .hbm, ⟨8, _⟩ => ⟨S2x512x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "corr1" => some ((8388608 / 5463681 : ℝ) : EReal)
  | "corr2" => some ((268435456 / 2672307 : ℝ) : EReal)
  | _ => none

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaminRefIdeal.lean ====
abbrev S2x512x512 : Shape := ⟨3, ![2, 512, 512]⟩
abbrev S512x512 : Shape := ⟨2, ![512, 512]⟩
abbrev S1 : Shape := ⟨1, ![1]⟩
abbrev S2 : Shape := ⟨1, ![2]⟩
abbrev S_ : Shape := ⟨0, ![]⟩
abbrev S2x1x1 : Shape := ⟨3, ![2, 1, 1]⟩
abbrev S1x512x512 : Shape := ⟨3, ![1, 512, 512]⟩

abbrev nBuf : Space → Nat
  | .hbm => 50
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512x512, .f32⟩
  | .hbm, ⟨3, _⟩ => ⟨S2x512x512, .f32⟩
  | .hbm, ⟨4, _⟩ => ⟨S2x512x512, .f32⟩
  | .hbm, ⟨5, _⟩ => ⟨S1, .i32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x512x512, .f32⟩
  | .hbm, ⟨12, _⟩ => ⟨S1x512x512, .f32⟩
  | .hbm, ⟨13, _⟩ => ⟨S2x512x512, .i1⟩
  | .hbm, ⟨14, _⟩ => ⟨S2x512x512, .f32⟩
  | .hbm, ⟨15, _⟩ => ⟨S2x512x512, .f32⟩
  | .hbm, ⟨16, _⟩ => ⟨S2x512x512, .f32⟩
  | .hbm, ⟨17, _⟩ => ⟨S_, .f32⟩
  | .hbm, ⟨18, _⟩ => ⟨S2x512x512, .f32⟩
  | .hbm, ⟨19, _⟩ => ⟨S2x512x512, .f32⟩
  | .hbm, ⟨20, _⟩ => ⟨S_, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S_, .f32⟩
  | .hbm, ⟨25, _⟩ => ⟨S2x512x512, .f32⟩
  | .hbm, ⟨26, _⟩ => ⟨S2x512x512, .f32⟩
  | .hbm, ⟨27, _⟩ => ⟨S2x512x512, .f32⟩
  | .hbm, ⟨28, _⟩ => ⟨S_, .f32⟩
  | .hbm, ⟨29, _⟩ => ⟨S2x512x512, .f32⟩
  | .hbm, ⟨30, _⟩ => ⟨S2x512x512, .f32⟩
  | .hbm, ⟨31, _⟩ => ⟨S2x512x512, .f32⟩
  | .hbm, ⟨32, _⟩ => ⟨S_, .f32⟩
  | .hbm, ⟨33, _⟩ => ⟨S2x512x512, .f32⟩
  | .hbm, ⟨34, _⟩ => ⟨S2x512x512, .f32⟩
  | .hbm, ⟨35, _⟩ => ⟨S_, .f32⟩
  | .hbm, ⟨36, _⟩ => ⟨S2x512x512, .f32⟩
  | .hbm, ⟨37, _⟩ => ⟨S2x512x512, .f32⟩
  | .hbm, ⟨38, _⟩ => ⟨S2x512x512, .f32⟩
  | .hbm, ⟨39, _⟩ => ⟨S_, .f32⟩
  | .hbm, ⟨40, _⟩ => ⟨S2x512x512, .f32⟩
  | .hbm, ⟨41, _⟩ => ⟨S2x512x512, .f32⟩
  | .hbm, ⟨42, _⟩ => ⟨S2x512x512, .f32⟩
  | .hbm, ⟨43, _⟩ => ⟨S_, .f32⟩
  | .hbm, ⟨44, _⟩ => ⟨S2x512x512, .f32⟩
  | .hbm, ⟨45, _⟩ => ⟨S2x512x512, .f32⟩
  | .hbm, ⟨46, _⟩ => ⟨S2x512x512, .f32⟩
  | .hbm, ⟨47, _⟩ => ⟨S_, .f32⟩
  | .hbm, ⟨48, _⟩ => ⟨S2x512x512, .f32⟩
  | .hbm, ⟨49, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Adamo.lean ====
abbrev S2x128x1024 : Shape := ⟨3, ![2, 128, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S2x128x1024, .f32⟩
  | .hbm, ⟨1, _⟩ => ⟨S128x1024, .f32⟩
  | .hbm, ⟨2, _⟩ => ⟨S128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamoIdeal.lean ====
variable {F : FTy → Type} [FloatOps F] [Named F]
def κ : String → Option EReal := fun
  | "corr1" => some ((8388608 / 5463681 : ℝ) : EReal)
  | "corr2" => some ((268435456 / 2672307 : ℝ) : EReal)
  | _ => none
-- ==== AdamoRefIdeal.lean ====
abbrev S2x128x1024 : Shape := ⟨3, ![2, 128, 1024]⟩
abbrev S128x1024 : Shape := ⟨2, ![128, 1024]⟩
abbrev S1 : Shape := ⟨1, ![1]⟩
abbrev S2 : Shape := ⟨1, ![2]⟩
abbrev S_ : Shape := ⟨0, ![]⟩
abbrev S2x1x1 : Shape := ⟨3, ![2, 1, 1]⟩
abbrev S1x128x1024 : Shape := ⟨3, ![1, 128, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S128x1024, .f32⟩
  | .hbm, ⟨2, _⟩ => ⟨S128x1024, .f32⟩
  | .hbm, ⟨3, _⟩ => ⟨S2x128x1024, .f32⟩
  | .hbm, ⟨4, _⟩ => ⟨S2x128x1024, .f32⟩
  | .hbm, ⟨5, _⟩ => ⟨S1, .i32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S2x1x1, .i1⟩
  | .hbm, ⟨11, _⟩ => ⟨S1x128x1024, .f32⟩
  | .hbm, ⟨12, _⟩ => ⟨S1x128x1024, .f32⟩
  | .hbm, ⟨13, _⟩ => ⟨S2x128x1024, .i1⟩
  | .hbm, ⟨14, _⟩ => ⟨S2x128x1024, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S_, .f32⟩
  | .hbm, ⟨21, _⟩ => ⟨S2x128x1024, .f32⟩
  | .hbm, ⟨22, _⟩ => ⟨S2x128x1024, .f32⟩
  | .hbm, ⟨23, _⟩ => ⟨S2x128x1024, .f32⟩
  | .hbm, ⟨24, _⟩ => ⟨S_, .f32⟩
  | .hbm, ⟨25, _⟩ => ⟨S2x128x1024, .f32⟩
  | .hbm, ⟨26, _⟩ => ⟨S2x128x1024, .f32⟩
  | .hbm, ⟨27, _⟩ => ⟨S2x128x1024, .f32⟩
  | .hbm, ⟨28, _⟩ => ⟨S_, .f32⟩
  | .hbm, ⟨29, _⟩ => ⟨S2x128x1024, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S_, .f32⟩
  | .hbm, ⟨36, _⟩ => ⟨S2x128x1024, .f32⟩
  | .hbm, ⟨37, _⟩ => ⟨S2x128x1024, .f32⟩
  | .hbm, ⟨38, _⟩ => ⟨S2x128x1024, .f32⟩
  | .hbm, ⟨39, _⟩ => ⟨S_, .f32⟩
  | .hbm, ⟨40, _⟩ => ⟨S2x128x1024, .f32⟩
  | .hbm, ⟨41, _⟩ => ⟨S2x128x1024, .f32⟩
  | .hbm, ⟨42, _⟩ => ⟨S2x128x1024, .f32⟩
  | .hbm, ⟨43, _⟩ => ⟨S_, .f32⟩
  | .hbm, ⟨44, _⟩ => ⟨S2x128x1024, .f32⟩
  | .hbm, ⟨45, _⟩ => ⟨S2x128x1024, .f32⟩
  | .hbm, ⟨46, _⟩ => ⟨S2x128x1024, .f32⟩
  | .hbm, ⟨47, _⟩ => ⟨S_, .f32⟩
  | .hbm, ⟨48, _⟩ => ⟨S2x128x1024, .f32⟩
  | .hbm, ⟨49, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.Arith.lean ====
/-
  Arithmetic of the extended reals that the value proofs of this certificate share: the float literals the programs
  carry, sums scaled by a real, the derivative of the squared ReLU and the backward pass of the RMS norm.
-/
module

public import Idealize.ShloMosaic.Lib.Pointwise
public import Idealize.ShloMosaic.Lib.IdealHost

@[expose] public section

noncomputable section

namespace Cert.Arith

open Idealize.ShloMosaic

/-! ## Literals -/

/-- The float literal 2. -/
theorem lit_two : Ideal.ofBits .f32 0x40000000#32 = ((2 : ℝ) : EReal) := by
  simp [Ideal.ofBits, Ideal.ieee, -EReal.coe_mul]; norm_num

/-- The float literal -1/2. -/
theorem lit_neg_half : Ideal.ofBits .f32 0xBF000000#32 = ((-(1 / 2) : ℝ) : EReal) := by
  simp [Ideal.ofBits, Ideal.ieee, -EReal.coe_mul]; norm_num

/-- The float literal 1024. -/
theorem lit_1024 : Ideal.ofBits .f32 0x44800000#32 = ((1024 : ℝ) : EReal) := by
  simp [Ideal.ofBits, Ideal.ieee, -EReal.coe_mul]; norm_num

/-- The literal of the norm's epsilon is a positive real. -/
theorem lit_eps : ∃ e : ℝ, 0 < e ∧ Ideal.ofBits .f32 0x358637BD#32 = (e : EReal) := by
  refine ⟨_, ?_, by simp [Ideal.ofBits, Ideal.ieee, -EReal.coe_mul]; rfl⟩
  norm_num

/-! ## Scaling by a real -/

/-- A sum of two equal extended reals is twice one of them. -/
theorem add_self (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_add, ← EReal.coe_mul]; congr 1; ring

/-- A real that is not negative distributes over a sum. -/
theorem coe_mul_sum {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- Division by a positive real is multiplication by its inverse. -/
theorem div_coe (a : EReal) {r : ℝ} (hr : 0 < r) : Ideal.div a (r : EReal) = a * ((r⁻¹ : ℝ) : EReal) := by
  unfold Ideal.div
  rw [if_neg (by exact_mod_cast hr.ne'), EReal.coe_inv]

/-! ## The squared ReLU -/

/-- The derivative of `max u 0 * max u 0`, as the chain rule writes it, is the product with `2 * max u 0`. -/
theorem relu_bwd (u d : EReal) :
    (if 0 < u then max u 0 * d + d * max u 0 else 0) = d * (((2 : ℝ) : EReal) * max u 0) := by
  split
  · rw [mul_comm (max u 0) d, add_self, mul_assoc, mul_comm (max u 0)]
  · rename_i h
    rw [max_eq_right (not_lt.mp h), mul_zero, mul_zero]

/-! ## The RMS norm -/

/-- The reciprocal root of a mean of squares plus a positive constant is a real that is not negative, and dividing it by
    its argument cubes it. -/
theorem rsqrt_mean (a : EReal) (ha : 0 ≤ a) {n e : ℝ} (hn : 0 < n) (he : 0 < e) :
    ∃ ρ : ℝ, 0 ≤ ρ ∧ Ideal.rsqrt (Ideal.div a (n : EReal) + (e : EReal)) = (ρ : EReal)
      ∧ Ideal.div (ρ : EReal) (Ideal.div a (n : EReal) + (e : EReal)) = ((ρ * ρ * ρ : ℝ) : EReal) := by
  rw [div_coe a hn]
  induction a with
  | bot => exact absurd ha (by simp)
  | top =>
    rw [EReal.top_mul_coe_of_pos (inv_pos.mpr hn), EReal.top_add_coe]
    refine ⟨0, le_rfl, by simp, ?_⟩
    unfold Ideal.div
    rw [if_neg (by simp)]; simp
  | coe s =>
    have hs : 0 ≤ s := by exact_mod_cast ha
    have hv : 0 < s * n⁻¹ + e := add_pos_of_nonneg_of_pos (mul_nonneg hs (inv_nonneg.mpr hn.le)) he
    rw [← EReal.coe_mul, ← EReal.coe_add]
    refine ⟨(Real.sqrt (s * n⁻¹ + e))⁻¹, inv_nonneg.mpr (Real.sqrt_nonneg _), ?_, ?_⟩
    · rw [Ideal.rsqrt_coe, if_neg (not_lt.mpr hv.le), if_neg hv.ne']
    · rw [div_coe _ hv, ← EReal.coe_mul]
      congr 1
      have h : (s * n⁻¹ + e)⁻¹ = (Real.sqrt (s * n⁻¹ + e))⁻¹ * (Real.sqrt (s * n⁻¹ + e))⁻¹ := by
        rw [← mul_inv, Real.mul_self_sqrt hv.le]
      rw [h, mul_assoc]

/-- A sum of squares is not negative. -/
theorem sum_sq_nonneg {ι : Type} (s : Finset ι) (x : ι → EReal) : 0 ≤ ∑ i ∈ s, x i * x i :=
  Finset.sum_nonneg fun i _ => by
    rcases le_total 0 (x i) with h | h
    · exact mul_nonneg h h
    · rw [← neg_mul_neg]; exact mul_nonneg (EReal.neg_nonneg.mpr h) (EReal.neg_nonneg.mpr h)

/-- The backward pass of the RMS norm: the form with the normalised row, and the form the chain rule gives through the
    mean of squares. -/
theorem rms_bwd {ι : Type} [Fintype ι] (x dn : ι → EReal) (dy : EReal) (j : ι) {n e : ℝ} (hn : 0 < n) (he : 0 < e) :
    let v := Ideal.div (∑ k, x k * x k) (n : EReal) + (e : EReal)
    let r := Ideal.rsqrt v
    let q := Ideal.div ((∑ k, x k * dn k) * (((-(1 / 2) : ℝ) : EReal) * Ideal.div r v)) (n : EReal)
    dy + r * (dn j - x j * r * Ideal.div (∑ k, dn k * (x k * r)) (n : EReal))
      = dy + dn j * r + x j * q + q * x j := by
  intro v r q
  obtain ⟨ρ, h0, hr, hd⟩ := rsqrt_mean (∑ k, x k * x k) (sum_sq_nonneg _ x) hn he
  have hr' : r = (ρ : EReal) := hr
  have hS : ∑ k, dn k * (x k * r) = (ρ : EReal) * ∑ k, x k * dn k := by
    rw [coe_mul_sum _ _ h0, hr']
    exact Finset.sum_congr rfl fun k _ => by rw [← mul_assoc, mul_comm _ (ρ : EReal), mul_comm (dn k)]
  have hq : q = (∑ k, x k * dn k) * ((-(1 / 2) * (ρ * ρ * ρ) * n⁻¹ : ℝ) : EReal) := by
    show Ideal.div (_ * (_ * Ideal.div r v)) _ = _
    rw [hr', hd, div_coe _ hn, ← EReal.coe_mul, mul_assoc, ← EReal.coe_mul]
  generalize hSS : (∑ k, x k * dn k) = S at *
  rw [hS, hr', hq, div_coe _ hn, sub_eq_add_neg,
    EReal.left_distrib_of_nonneg_of_ne_top (EReal.coe_nonneg.mpr h0) (EReal.coe_ne_top ρ)]
  have e1 : (ρ : EReal) * -(x j * ρ * ((ρ : EReal) * S * ((n⁻¹ : ℝ) : EReal)))
      = x j * S * ((-(ρ * ρ * ρ) * n⁻¹ : ℝ) : EReal) := by
    have : ((-(ρ * ρ * ρ) * n⁻¹ : ℝ) : EReal) = -((ρ : EReal) * ρ * ρ * ((n⁻¹ : ℝ) : EReal)) := by
      push_cast; rw [EReal.neg_mul]
    rw [this, mul_neg, mul_neg]
    congr 1; ac_rfl
  have e2 : x j * (S * ((-(1 / 2) * (ρ * ρ * ρ) * n⁻¹ : ℝ) : EReal)) + S * ((-(1 / 2) * (ρ * ρ * ρ) * n⁻¹ : ℝ) : EReal) * x j
      = x j * S * ((-(ρ * ρ * ρ) * n⁻¹ : ℝ) : EReal) := by
    rw [mul_comm (S * _) (x j), add_self, ← mul_assoc, mul_assoc _ _ ((2 : ℝ) : EReal), ← EReal.coe_mul]
    congr 2; ring
  rw [e1, add_assoc (dy + dn j * ρ), e2, mul_comm (ρ : EReal) (dn j), add_assoc]

end Cert.Arith

end
-- ==== Proof.MlpPay.lean ====
/-
  The values one grid point of the MLP's backward kernel computes, element by element: the gradient of the hidden layer's
  pre-activation, the block's part of the product with the up projection, the norm's backward pass and the block's part of
  the norm's weight gradient.
-/
module

public import proofs.«01_k».proof.Proof.Gen.MlpIdeal.Skeleton
public import proofs.«01_k».proof.Proof.Arith
public import Idealize.ShloMosaic.Lib.Pipeline.Value

@[expose] public section

set_option maxRecDepth 16384

noncomputable section

namespace Cert.MlpPay

open Cert.MlpIdeal Cert.MlpIdeal.Gen Idealize.ShloMosaic

/-- A block of the gradient of the pre-activation: the incoming gradient times the transposed down projection, times the
    derivative of the squared ReLU. -/
def dupB (d : Vec Ideal S528x1024 .bf16) (wd : Vec Ideal S1x1x1024x1024 .bf16) (u : Vec Ideal S528x1024 .bf16) :
    Vec Ideal S528x1024 .bf16 := fun j =>
  (∑ k : Fin 1024, d (ix2 (n0 := 528) (n1 := 1024) (j 0) k) * wd (ix4 (n0 := 1) (n1 := 1) (n2 := 1024) (n3 := 1024) 0 0 (j 1) k)) * (((2 : ℝ) : EReal) * max (u j) 0)

/-- A block's part of the gradient of the normalised input. -/
def accB (d : Vec Ideal S528x1024 .bf16) (wd : Vec Ideal S1x1x1024x1024 .bf16) (u : Vec Ideal S528x1024 .bf16)
    (wu : Vec Ideal S1x1x1024x1024 .bf16) : Vec Ideal S528x1024 .f32 := fun j =>
  ∑ k : Fin 1024, dupB d wd u (ix2 (n0 := 528) (n1 := 1024) (j 0) k) * wu (ix4 (n0 := 1) (n1 := 1) (n2 := 1024) (n3 := 1024) 0 0 (j 1) k)

/-- The rows' reciprocal root mean square. -/
def rstd (h : Fin 1024 → EReal) : EReal :=
  Ideal.rsqrt (Ideal.div (∑ x, h x * h x) ((1024 : ℝ) : EReal) + Ideal.ofBits FTy.f32 0x358637BD#32)

/-- The upper rows of a block of the pre-activation's gradient. -/
theorem pay12_apply (a : Vec Ideal S272x1024 .bf16) (wd : Vec Ideal S1x1x1024x1024 .bf16) (u : Vec Ideal S272x1024 .bf16)
    (r : Fin 272) (l : Fin 1024) :
    k0_pay12 a wd u (ix2 r l) = (∑ k : Fin 1024, a (ix2 r k) * wd (ix4 0 0 l k)) * (((2 : ℝ) : EReal) * max (u (ix2 r l)) 0) := by
  pointwise [k0_pay12, Arith.lit_two]

/-- The lower rows of a block of the pre-activation's gradient. -/
theorem pay1_apply (a : Vec Ideal S256x1024 .bf16) (wd : Vec Ideal S1x1x1024x1024 .bf16) (u : Vec Ideal S256x1024 .bf16)
    (r : Fin 256) (l : Fin 1024) :
    k0_pay1 (k0_pay14 a wd) (k0_pay15 u) (ix2 r l)
      = (∑ k : Fin 1024, a (ix2 r k) * wd (ix4 0 0 l k)) * (((2 : ℝ) : EReal) * max (u (ix2 r l)) 0) := by
  pointwise [k0_pay1, k0_pay14, k0_pay15, Arith.lit_two]

/-- The block's product with the up projection, in the two pieces its rows come in. -/
theorem pay2_apply (a : Vec Ideal S272x1024 .bf16) (u : Vec Ideal S272x1024 .bf16) (v23 v26 : FVec Ideal S256x1024 .f32)
    (wd wu : Vec Ideal S1x1x1024x1024 .bf16) (r : Fin 528) (l : Fin 1024) :
    k0_pay2 (k0_pay13 a wd u wu) v23 v26 wu (ix2 r l)
      = if h : r.val < 272 then ∑ k : Fin 1024, k0_pay12 a wd u (ix2 ⟨r.val, h⟩ k) * wu (ix4 0 0 l k)
        else ∑ k : Fin 1024, k0_pay1 v23 v26 (ix2 ⟨r.val - 272, by omega⟩ k) * wu (ix4 0 0 l k) := by
  pointwise [k0_pay2, k0_pay13]

/-- The norm's backward pass at one element of a block. -/
theorem pay9_apply (h : Vec Ideal S528x1024 .f32) (g : Vec Ideal S1x1024 .f32) (a dy : Vec Ideal S528x1024 .f32) (r : Fin 528) (l : Fin 1024) :
    k0_pay9 h g a dy (ix2 r l)
      = dy (ix2 r l) + rstd (fun k => h (ix2 r k)) * (a (ix2 r l) * g (ix2 0 l) - h (ix2 r l) * rstd (fun k => h (ix2 r k))
          * Ideal.div (∑ k, a (ix2 r k) * g (ix2 0 k) * (h (ix2 r k) * rstd (fun k => h (ix2 r k)))) ((1024 : ℝ) : EReal)) := by
  unfold rstd
  pointwise [k0_pay9, k0_pay7, k0_pay6, Arith.lit_1024]

/-- A block's part of the gradient of the norm's weights. -/
theorem pay8_apply (h : Vec Ideal S528x1024 .f32) (a : Vec Ideal S528x1024 .f32) (r : Fin 1) (l : Fin 1024) :
    k0_pay8 h a (ix2 r l) = ∑ x : Fin 528, a (ix2 x l) * (h (ix2 x l) * rstd (fun k => h (ix2 x k))) := by
  unfold rstd
  pointwise [k0_pay8, k0_pay7, k0_pay6, Arith.lit_1024]

/-- The rounded copy holds the values. -/
theorem pay11_apply (x : Vec Ideal S528x1024 .f32) : (k0_pay11 x : Vec Ideal S528x1024 .bf16) = fun j => x j := by
  funext j; pointwise [k0_pay11]

theorem pay10_apply (h : Vec Ideal S528x1024 .f32) (g : Vec Ideal S1x1024 .f32) (a dy : Vec Ideal S528x1024 .f32) :
    (k0_pay10 h g a dy : Vec Ideal S528x1024 .bf16) = fun j => k0_pay9 h g a dy j := by
  funext j; pointwise [k0_pay10]

/-- The product of a block's pre-activation gradient with the up projection, its rows taken in two pieces. -/
theorem pay2_eq (d u : Vec Ideal S528x1024 .bf16) (wd wu : Vec Ideal S1x1x1024x1024 .bf16) :
    k0_pay2 (k0_pay13 (View.ld d (Rect.unit ![0, 0] ![272, 1024] inb_S528x1024_S272x1024_0_0) : Vec Ideal S272x1024 .bf16) wd (View.ld u (Rect.unit ![0, 0] ![272, 1024] inb_S528x1024_S272x1024_0_0) : Vec Ideal S272x1024 .bf16) wu)
      (k0_pay14 (View.ld d (Rect.unit ![272, 0] ![256, 1024] inb_S528x1024_S256x1024_272_0) : Vec Ideal S256x1024 .bf16) wd) (k0_pay15 (View.ld u (Rect.unit ![272, 0] ![256, 1024] inb_S528x1024_S256x1024_272_0) : Vec Ideal S256x1024 .bf16)) wu
      = accB d wd u wu := by
  funext j
  idx_vars j
  rw [pay2_apply]
  split
  · refine Finset.sum_congr rfl fun k _ => ?_
    rw [pay12_apply]
    pointwise [dupB]
  · refine Finset.sum_congr rfl fun k _ => ?_
    rw [pay1_apply]
    have e : (⟨272 + (j0.val - 272), by omega⟩ : Fin 528) = j0 := Fin.ext (by show 272 + (j0.val - 272) = j0.val; omega)
    pointwise [dupB]
    simp only [e]

/-- The block of the pre-activation's gradient, stored in two pieces. -/
theorem dup_eq (d u : Vec Ideal S528x1024 .bf16) (wd : Vec Ideal S1x1x1024x1024 .bf16) :
    View.canon (
      [⟨Rect.unit (s := S528x1024) ![272, 0] ![256, 1024] inb_S528x1024_S256x1024_272_0, (k0_pay1 (k0_pay14 (View.ld d (Rect.unit ![272, 0] ![256, 1024] inb_S528x1024_S256x1024_272_0) : Vec Ideal S256x1024 .bf16) wd) (k0_pay15 (View.ld u (Rect.unit ![272, 0] ![256, 1024] inb_S528x1024_S256x1024_272_0) : Vec Ideal S256x1024 .bf16)) : Vec Ideal S256x1024 .bf16)⟩,
       ⟨Rect.unit (s := S528x1024) ![0, 0] ![272, 1024] inb_S528x1024_S272x1024_0_0, (k0_pay12 (View.ld d (Rect.unit ![0, 0] ![272, 1024] inb_S528x1024_S272x1024_0_0) : Vec Ideal S272x1024 .bf16) wd (View.ld u (Rect.unit ![0, 0] ![272, 1024] inb_S528x1024_S272x1024_0_0) : Vec Ideal S272x1024 .bf16) : Vec Ideal S272x1024 .bf16)⟩] : List (View.Piece (Elt Ideal) S528x1024 .bf16))
      = dupB d wd u := by
  funext j
  refine View.canon_apply_of_pieces (dupB d wd u) _ ?_ j ?_
  · intro p hp
    rcases List.mem_cons.1 hp with rfl | hp
    · intro (x : S256x1024.Idx)
      idx_vars x
      have e : (Rect.unit (s := S528x1024) ![272, 0] ![256, 1024] inb_S528x1024_S256x1024_272_0).emb (ix2 x0 x1) = ix2 (n0 := 528) (n1 := 1024) ⟨272 + x0.val, by omega⟩ x1 := by
        funext a; apply Fin.ext; rw [Rect.emb_apply]; fin_cases a
        · show 272 + 1 * x0.val = 272 + x0.val; omega
        · show 0 + 1 * x1.val = x1.val; omega
      show _ = dupB d wd u ((Rect.unit (s := S528x1024) ![272, 0] ![256, 1024] inb_S528x1024_S256x1024_272_0).emb (ix2 x0 x1))
      rw [e]
      refine (pay1_apply _ _ _ x0 x1).trans ?_
      pointwise [dupB]
    · rcases List.mem_singleton.1 hp with rfl
      intro (x : S272x1024.Idx)
      idx_vars x
      have e : (Rect.unit (s := S528x1024) ![0, 0] ![272, 1024] inb_S528x1024_S272x1024_0_0).emb (ix2 x0 x1) = ix2 (n0 := 528) (n1 := 1024) ⟨x0.val, by omega⟩ x1 := by
        funext a; apply Fin.ext; rw [Rect.emb_apply]; fin_cases a
        · show 0 + 1 * x0.val = x0.val; omega
        · show 0 + 1 * x1.val = x1.val; omega
      show _ = dupB d wd u ((Rect.unit (s := S528x1024) ![0, 0] ![272, 1024] inb_S528x1024_S272x1024_0_0).emb (ix2 x0 x1))
      rw [e]
      refine (pay12_apply _ _ _ x0 x1).trans ?_
      pointwise [dupB]
  · have h0 : (j 0).val < 528 := (j 0).isLt
    have h1 : (j 1).val < 1024 := (j 1).isLt
    by_cases h : (j 0).val < 272
    · refine ⟨_, List.mem_cons_of_mem _ (List.mem_singleton_self _), ?_⟩
      rw [Rect.mem_set_unit]
      intro a; fin_cases a
      · show 0 ≤ (j 0).val ∧ (j 0).val < 0 + 272; omega
      · show 0 ≤ (j 1).val ∧ (j 1).val < 0 + 1024; omega
    · refine ⟨_, List.mem_cons_self, ?_⟩
      rw [Rect.mem_set_unit]
      intro a; fin_cases a
      · show 272 ≤ (j 0).val ∧ (j 0).val < 272 + 256; omega
      · show 0 ≤ (j 1).val ∧ (j 1).val < 0 + 1024; omega

/-- What the first column tile leaves in the running sum. -/
theorem pay3_eq (v : FVec Ideal S272x1024 .f32) (a b : FVec Ideal S256x1024 .f32) (wu : Vec Ideal S1x1x1024x1024 .bf16) :
    k0_pay3 v a b wu = k0_pay2 v a b wu := by
  funext j; pointwise [k0_pay3]

/-- What a later column tile leaves in the running sum. -/
theorem pay4_eq (v : FVec Ideal S272x1024 .f32) (a b : FVec Ideal S256x1024 .f32) (wu : Vec Ideal S1x1x1024x1024 .bf16) (s : Vec Ideal S528x1024 .f32) :
    k0_pay4 v a b wu s = fun j => s j + k0_pay2 v a b wu j := by
  funext j; pointwise [k0_pay4]

/-- A block's addition to the gradient of the norm's weights. -/
theorem pay5_eq (v : FVec Ideal S1x1024 .f32) (s : Vec Ideal S1x1024 .f32) : k0_pay5 v s = fun j => s j + v j := by
  funext j; pointwise [k0_pay5]

end Cert.MlpPay

end
-- ==== Proof.MlpRead.lean ====
/-
  The reference of the MLP's backward pass, read element by element: the pre-activation, its gradient, the gradient of the
  normalised input, the norm's weight gradient and the gradient of the residual stream.
-/
module

public import proofs.«01_k».proof.Proof.Gen.MlpRefIdeal.Read
public import proofs.«01_k».proof.Proof.MlpPay

@[expose] public section

set_option maxRecDepth 16384

noncomputable section

namespace Cert.MlpRead

open Cert.MlpRefIdeal Cert.MlpRefIdeal.Gen Cert.MlpRefIdeal.Read Idealize.ShloMosaic
open Cert.MlpPay (rstd)

variable (dy h : Vec Ideal S4224x1024 .f32) (g : Vec Ideal S1x1024 .f32) (wu : Vec Ideal S1024x4096 .f32)
  (wd : Vec Ideal S4096x1024 .f32)

/-- The hidden layer before its activation. -/
def up (r : Fin 4224) (l : Fin 4096) : EReal :=
  ∑ k : Fin 1024, h (ix2 r k) * rstd (fun k => h (ix2 r k)) * g (ix2 0 k) * wu (ix2 k l)

/-- Its gradient. -/
def dup (r : Fin 4224) (l : Fin 4096) : EReal :=
  (∑ k : Fin 1024, dy (ix2 r k) * wd (ix2 l k)) * (((2 : ℝ) : EReal) * max (up h g wu r l) 0)

/-- The gradient of the normalised input times the norm's weights. -/
def dn (r : Fin 4224) (l : Fin 1024) : EReal := ∑ k : Fin 4096, dup dy h g wu wd r k * wu (ix2 l k)

/-- The norm's weight gradient. -/
def dg (l : Fin 1024) : EReal :=
  ∑ r : Fin 4224, dn dy h g wu wd r l * (h (ix2 r l) * rstd (fun k => h (ix2 r k)))

/-- The gradient of the residual stream. -/
def dh (r : Fin 4224) (l : Fin 1024) : EReal :=
  dy (ix2 r l) + rstd (fun k => h (ix2 r k)) * (dn dy h g wu wd r l * g (ix2 0 l) - h (ix2 r l) * rstd (fun k => h (ix2 r k))
    * Ideal.div (∑ k, dn dy h g wu wd r k * g (ix2 0 k) * (h (ix2 r k) * rstd (fun k => h (ix2 r k)))) ((1024 : ℝ) : EReal))

/-- The reference's reciprocal root mean square. -/
theorem val8 (r : Fin 4224) : val_main_v8 (F := Ideal) h (ix2 r 0) = rstd (fun k => h (ix2 r k)) := by
  unfold rstd
  pointwise [val_main_v8, val_main_v7, val_main_v6, val_main_v5, val_main_v4, val_main_v3, val_main_v2, val_main_v1, val_main_cst_1, val_main_cst_2, val_main_cst, val_main_cst_0, Arith.lit_1024]

/-- The reference's pre-activation. -/
theorem val16 (r : Fin 4224) (l : Fin 4096) : val_main_v16 (F := Ideal) h g wu (ix2 r l) = up h g wu r l := by
  unfold up
  pointwise [val_main_v16, val_main_v15, val_main_v14, val_main_v13, val_main_v12, val8]

/-- The reference's gradient of the pre-activation. -/
theorem val31 (r : Fin 4224) (l : Fin 4096) :
    val_main_v31 (F := Ideal) dy h g wu wd (ix2 r l) = dup dy h g wu wd r l := by
  unfold dup
  rw [← Arith.relu_bwd]
  pointwise [val_main_v31, val_main_v30, val_main_v29, val_main_v28, val_main_v27, val_main_v26, val_main_v25, val_main_v20, val_main_v19,
    val_main_v18, val_main_v17, val_main_v0, val_main_cst, val_main_cst_4, val_main_cst_5, val_main_cst_6, val_main_call0_v0, val_main_call0_cst, val16]

/-- The reference's gradient of the normalised input times the norm's weights. -/
theorem val32 (r : Fin 4224) (l : Fin 1024) :
    val_main_v32 (F := Ideal) dy h g wu wd (ix2 r l) = dn dy h g wu wd r l := by
  unfold dn
  pointwise [val_main_v32, val31]

/-- The reference's gradient of the norm's weights. -/
theorem val35 (l : Fin 1024) :
    val_main_v35 (F := Ideal) dy h g wu wd (ix2 0 l) = dg dy h g wu wd l := by
  unfold dg
  pointwise [val_main_v35, val_main_v34, val_main_v33, val_main_v13, val_main_v12, val_main_cst_7, val8, val32]
  exact Finset.sum_congr rfl fun r _ => mul_comm _ _

/-- The reference's gradient of the residual stream, in the form with the normalised row. -/
theorem val52 (r : Fin 4224) (l : Fin 1024) :
    val_main_v52 (F := Ideal) dy h g wu wd (ix2 r l) = dh dy h g wu wd r l := by
  obtain ⟨e, he, hee⟩ := Arith.lit_eps
  have key := Arith.rms_bwd (fun k : Fin 1024 => h (ix2 r k)) (fun k => dn dy h g wu wd r k * g (ix2 0 k)) (dy (ix2 r l)) l
    (by norm_num : (0 : ℝ) < 1024) he
  rw [← hee] at key
  unfold dh
  refine Eq.trans ?_ key.symm
  pointwise [val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v11, val_main_v10, val_main_v9, val_main_v7, val_main_v6, val_main_v5, val_main_v4, val_main_v3, val_main_v2, val_main_v1, val_main_cst_1, val_main_cst_2, val_main_cst_0,
    val_main_cst_3, val_main_cst_9, val_main_cst_10, val_main_cst_8, val8, val32, Arith.lit_1024, Arith.lit_neg_half]
  simp only [Fin.sum_univ_one, val8]
  rfl

end Cert.MlpRead

end
-- ==== Proof.MlpBlk.lean ====
module

public import proofs.«01_k».proof.Proof.Gen.MlpIdeal.Frame.Runs
public import proofs.«01_k».proof.Proof.MlpRead
public import Idealize.ShloMosaic.Lib.Claim
public import Idealize.ShloMosaic.Lib.StableHlo.Run

@[expose] public section

/-!
# The blocks the kernel's points read

Point `t` of the 32 works on row block `t / 4` and on column tile `t % 4` of the hidden width. Each input block is read off
the arguments at an index.
-/

set_option maxRecDepth 16384

noncomputable section

namespace Cert.MlpBlk

open Cert.MlpIdeal Cert.MlpIdeal.Gen Idealize.ShloMosaic Idealize.ShloMosaic.TcCoe Idealize.SL.Sem

variable (m : (ℓ : Loc nD τ sig) → Buf (Elt Ideal) ℓ)

/-- The incoming gradient. -/
abbrev aDy (c : Dev nD) : Vec Ideal S4224x1024 .f32 := m ((c : Thread nD τ).loc main_arg0)
/-- The layer's input. -/
abbrev aH (c : Dev nD) : Vec Ideal S4224x1024 .f32 := m ((c : Thread nD τ).loc main_arg1)
/-- The norm's weights. -/
abbrev aG (c : Dev nD) : Vec Ideal S1x1024 .f32 := m ((c : Thread nD τ).loc main_arg2)
/-- The up projection. -/
abbrev aWu (c : Dev nD) : Vec Ideal S1024x4096 .f32 := m ((c : Thread nD τ).loc main_arg3)
/-- The down projection. -/
abbrev aWd (c : Dev nD) : Vec Ideal S4096x1024 .f32 := m ((c : Thread nD τ).loc main_arg4)

/-- The saved pre-activation the host hands the kernel. -/
theorem V13 (c : Dev nD) (r : Fin 4224) (l : Fin 4096) :
    (V m c main_v13 : Vec Ideal S4224x4096 .bf16) (ix2 r l) = MlpRead.up (aH m c) (aG m c) (aWu m c) r l := by
  unfold_abbrev_sides
  after_results
  unfold MlpRead.up
  pointwise [Arith.lit_1024, MlpPay.rstd]

/-- The up projection as the kernel's blocks take it: cut into four column tiles. -/
theorem V16 (c : Dev nD) (a : Fin 1) (q : Fin 4) (r : Fin 1024) (l : Fin 1024) :
    (V m c main_v16 : Vec Ideal S4x1x1024x1024 .bf16) (ix4 q a r l) = aWu m c (ix2 r ⟨q * 1024 + l, by omega⟩) := by
  unfold_abbrev_sides
  after_results
  pointwise

/-- The down projection as the kernel's blocks take it: cut into four row tiles. -/
theorem V18 (c : Dev nD) (a : Fin 1) (q : Fin 4) (r : Fin 1024) (l : Fin 1024) :
    (V m c main_v18 : Vec Ideal S4x1x1024x1024 .bf16) (ix4 q a r l) = aWd m c (ix2 ⟨q * 1024 + r, by omega⟩ l) := by
  unfold_abbrev_sides
  after_results
  pointwise

theorem N32 : cfg0.N = 32 := N_0

/-- A point's row of the whole array. -/
abbrev row (t : Fin cfg0.N) (r : Fin 528) : Fin 4224 := ⟨t.val / 4 * 528 + r.val, by have h := lt_of_lt_of_eq t.isLt N32; omega⟩
/-- A point's column of the hidden width. -/
abbrev col (t : Fin cfg0.N) (l : Fin 1024) : Fin 4096 := ⟨t.val % 4 * 1024 + l.val, by omega⟩

theorem idx0 : ∀ t : Fin cfg0.N, win0_0.index t (0 : Fin 2) = t.val / 4 ∧ win0_0.index t (1 : Fin 2) = 0 :=
  (by decide +kernel : ∀ t : Fin grid0.N, _)

theorem idx1 : ∀ t : Fin cfg0.N, win0_1.index t (0 : Fin 2) = t.val / 4 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val / 4 ∧ win0_3.index t (1 : Fin 2) = t.val % 4 :=
  (by decide +kernel : ∀ t : Fin grid0.N, _)

theorem idx4 : ∀ t : Fin cfg0.N, win0_4.index t (0 : Fin 4) = t.val % 4 ∧ win0_4.index t (1 : Fin 4) = 0 ∧ win0_4.index t (2 : Fin 4) = 0 ∧ win0_4.index t (3 : Fin 4) = 0 :=
  (by decide +kernel : ∀ t : Fin grid0.N, _)

theorem idx5 : ∀ t : Fin cfg0.N, win0_5.index t (0 : Fin 4) = t.val % 4 ∧ win0_5.index t (1 : Fin 4) = 0 ∧ win0_5.index t (2 : Fin 4) = 0 ∧ win0_5.index t (3 : Fin 4) = 0 :=
  (by decide +kernel : ∀ t : Fin grid0.N, _)

/-- A block of the incoming gradient. -/
theorem ib0 (c : Dev nD) (t : Fin cfg0.N) (r : Fin 528) (l : Fin 1024) :
    (iblk m c 0 t : Vec Ideal S528x1024 .f32) (ix2 r l) = aDy m c (ix2 (row t r) l) := by
  have hN := lt_of_lt_of_eq t.isLt N32
  obtain ⟨e0, e1⟩ := idx0 t
  unfold iblk
  rw [View.read_apply]
  have e : ((cfg0.win 0).blk t).view.emb (ix2 r l) = (ix2 (row t r) l : S4224x1024.Idx) := by
    funext a; apply Fin.ext; fin_cases a
    · show win0_0.index t (0 : Fin 2) * 528 + 1 * (r : Fin 528).val = t.val / 4 * 528 + r.val; rw [e0]; omega
    · show win0_0.index t (1 : Fin 2) * 1024 + 1 * (l : Fin 1024).val = l.val; rw [e1]; omega
  show (V m c main_arg0 : Vec Ideal S4224x1024 .f32) (((cfg0.win 0).blk t).view.emb (ix2 r l)) = _
  rw [e, V_main_arg0]

/-- A block of the layer's input. -/
theorem ib1 (c : Dev nD) (t : Fin cfg0.N) (r : Fin 528) (l : Fin 1024) :
    (iblk m c 1 t : Vec Ideal S528x1024 .f32) (ix2 r l) = aH m c (ix2 (row t r) l) := by
  have hN := lt_of_lt_of_eq t.isLt N32
  obtain ⟨e0, e1⟩ := idx1 t
  unfold iblk
  rw [View.read_apply]
  have e : ((cfg0.win 1).blk t).view.emb (ix2 r l) = (ix2 (row t r) l : S4224x1024.Idx) := by
    funext a; apply Fin.ext; fin_cases a
    · show win0_1.index t (0 : Fin 2) * 528 + 1 * (r : Fin 528).val = t.val / 4 * 528 + r.val; rw [e0]; omega
    · show win0_1.index t (1 : Fin 2) * 1024 + 1 * (l : Fin 1024).val = l.val; rw [e1]; omega
  show (V m c main_arg1 : Vec Ideal S4224x1024 .f32) (((cfg0.win 1).blk t).view.emb (ix2 r l)) = _
  rw [e, V_main_arg1]

/-- The norm's weights. -/
theorem ib2 (c : Dev nD) (t : Fin cfg0.N) (r : Fin 1) (l : Fin 1024) :
    (iblk m c 2 t : Vec Ideal S1x1024 .f32) (ix2 r l) = aG m c (ix2 r l) := by
  have hN := lt_of_lt_of_eq t.isLt N32
  obtain ⟨e0, e1⟩ := idx2 t
  unfold iblk
  rw [View.read_apply]
  have e : ((cfg0.win 2).blk t).view.emb (ix2 r l) = (ix2 r l : S1x1024.Idx) := by
    funext a; apply Fin.ext; fin_cases a
    · show win0_2.index t (0 : Fin 2) * 1 + 1 * (r : Fin 1).val = r.val; rw [e0]; omega
    · show win0_2.index t (1 : Fin 2) * 1024 + 1 * (l : Fin 1024).val = l.val; rw [e1]; omega
  show (V m c main_arg2 : Vec Ideal S1x1024 .f32) (((cfg0.win 2).blk t).view.emb (ix2 r l)) = _
  rw [e, V_main_arg2]

/-- A block of the saved pre-activation. -/
theorem ib3 (c : Dev nD) (t : Fin cfg0.N) (r : Fin 528) (l : Fin 1024) :
    (iblk m c 3 t : Vec Ideal S528x1024 .bf16) (ix2 r l) = MlpRead.up (aH m c) (aG m c) (aWu m c) (row t r) (col t l) := by
  have hN := lt_of_lt_of_eq t.isLt N32
  obtain ⟨e0, e1⟩ := idx3 t
  unfold iblk
  rw [View.read_apply]
  have e : ((cfg0.win 3).blk t).view.emb (ix2 r l) = (ix2 (row t r) (col t l) : S4224x4096.Idx) := by
    funext a; apply Fin.ext; fin_cases a
    · show win0_3.index t (0 : Fin 2) * 528 + 1 * (r : Fin 528).val = t.val / 4 * 528 + r.val; rw [e0]; omega
    · show win0_3.index t (1 : Fin 2) * 1024 + 1 * (l : Fin 1024).val = t.val % 4 * 1024 + l.val; rw [e1]; omega
  show (V m c main_v13 : Vec Ideal S4224x4096 .bf16) (((cfg0.win 3).blk t).view.emb (ix2 r l)) = _
  rw [e, V13]

/-- A column tile of the up projection. -/
theorem ib4 (c : Dev nD) (t : Fin cfg0.N) (a b : Fin 1) (r l : Fin 1024) :
    (iblk m c 4 t : Vec Ideal S1x1x1024x1024 .bf16) (ix4 a b r l) = aWu m c (ix2 r (col t l)) := by
  have hN := lt_of_lt_of_eq t.isLt N32
  obtain ⟨e0, e1, e2, e3⟩ := idx4 t
  unfold iblk
  rw [View.read_apply]
  have e : ((cfg0.win 4).blk t).view.emb (ix4 a b r l) = (ix4 (⟨t.val % 4, Nat.mod_lt _ (by decide)⟩ : Fin 4) b r l : S4x1x1024x1024.Idx) := by
    funext a; apply Fin.ext; fin_cases a
    · show win0_4.index t (0 : Fin 4) * 1 + 1 * (a : Fin 1).val = t.val % 4; rw [e0]; omega
    · show win0_4.index t (1 : Fin 4) * 1 + 1 * (b : Fin 1).val = b.val; rw [e1]; omega
    · show win0_4.index t (2 : Fin 4) * 1024 + 1 * (r : Fin 1024).val = r.val; rw [e2]; omega
    · show win0_4.index t (3 : Fin 4) * 1024 + 1 * (l : Fin 1024).val = l.val; rw [e3]; omega
  show (V m c main_v16 : Vec Ideal S4x1x1024x1024 .bf16) (((cfg0.win 4).blk t).view.emb (ix4 a b r l)) = _
  rw [e, V16]

/-- A row tile of the down projection. -/
theorem ib5 (c : Dev nD) (t : Fin cfg0.N) (a b : Fin 1) (r l : Fin 1024) :
    (iblk m c 5 t : Vec Ideal S1x1x1024x1024 .bf16) (ix4 a b r l) = aWd m c (ix2 (col t r) l) := by
  have hN := lt_of_lt_of_eq t.isLt N32
  obtain ⟨e0, e1, e2, e3⟩ := idx5 t
  unfold iblk
  rw [View.read_apply]
  have e : ((cfg0.win 5).blk t).view.emb (ix4 a b r l) = (ix4 (⟨t.val % 4, Nat.mod_lt _ (by decide)⟩ : Fin 4) b r l : S4x1x1024x1024.Idx) := by
    funext a; apply Fin.ext; fin_cases a
    · show win0_5.index t (0 : Fin 4) * 1 + 1 * (a : Fin 1).val = t.val % 4; rw [e0]; omega
    · show win0_5.index t (1 : Fin 4) * 1 + 1 * (b : Fin 1).val = b.val; rw [e1]; omega
    · show win0_5.index t (2 : Fin 4) * 1024 + 1 * (r : Fin 1024).val = r.val; rw [e2]; omega
    · show win0_5.index t (3 : Fin 4) * 1024 + 1 * (l : Fin 1024).val = l.val; rw [e3]; omega
  show (V m c main_v18 : Vec Ideal S4x1x1024x1024 .bf16) (((cfg0.win 5).blk t).view.emb (ix4 a b r l)) = _
  rw [e, V18]

end Cert.MlpBlk

end
-- ==== Proof.MlpCase.lean ====
module
public import proofs.«01_k».proof.Proof.Gen.MlpIdeal.Frame
public import proofs.«01_k».proof.Proof.MlpPay
public import Idealize.ShloMosaic.Lib.Pipeline.Value
@[expose] public section
set_option maxRecDepth 16384
noncomputable section
namespace Cert.MlpCase
open Cert.MlpIdeal Cert.MlpIdeal.Gen Idealize.ShloMosaic Idealize.ShloMosaic.TcCoe Idealize.SL.Sem

theorem hz : (![0, 0] : Fin 2 → Nat) = fun _ => 0 := funext fun a => by fin_cases a <;> rfl
theorem hz4 : (![0, 0, 0, 0] : Fin 4 → Nat) = fun _ => 0 := funext fun a => by fin_cases a <;> rfl

/-- A load of part of a buffer that a whole store filled reads that part of what was stored. -/
theorem readCov_ld {S : Shape} {e : EltTy} {sg : RefSig} {κ : Kind} {sp : Space} (v : View sg κ sp S e) {off : Fin S.rank → ℕ} (ho : off = fun _ => 0)
    (inb : ∀ a, off a + S.size a ≤ S.size a) (w : S.Idx → Elt Ideal e) (L : List (View.Piece (Elt Ideal) S e)) (r : Rect S) :
    v.readCov (⟨Rect.unit off S.size inb, w⟩ :: L) r.toLoadRect = View.ld w r := by
  rw [View.readCov_eq_canon', View.canon_cons_unit_zero ho]

/-- The pre-activation's gradient at the first column tile. -/
theorem vout0_A_6 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : cond0_0 i) (hc1 : cond0_1 i) (hc2 : ¬cond0_2 i) (hc3 : ¬cond0_3 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) :
    out0_A_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 = MlpPay.dupB x0 x5 x3 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5)]
  unfold kernelRun0_A
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The rounded incoming gradient kept at the first column tile. -/
theorem vsout0_A_0 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : cond0_0 i) (hc1 : cond0_1 i) (hc2 : ¬cond0_2 i) (hc3 : ¬cond0_3 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 = fun j => x0 j := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5)]
  unfold kernelRun0_A
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The running sum after the first column tile. -/
theorem vsout0_A_1 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : cond0_0 i) (hc1 : cond0_1 i) (hc2 : ¬cond0_2 i) (hc3 : ¬cond0_3 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) :
    sout0_A_1 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 = MlpPay.accB x0 x5 x3 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5)]
  unfold kernelRun0_A
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The pre-activation's gradient at a middle column tile. -/
theorem vout0_B_6 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : ¬cond0_3 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xs0 : Vec Ideal S528x1024 .bf16) (xs1 : Vec Ideal S528x1024 .f32) :
    out0_B_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 = MlpPay.dupB xs0 x5 x3 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1)]
  unfold kernelRun0_B
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The running sum after a middle column tile. -/
theorem vsout0_B_1 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : ¬cond0_3 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xs0 : Vec Ideal S528x1024 .bf16) (xs1 : Vec Ideal S528x1024 .f32) :
    sout0_B_1 (F := Ideal) c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 = (fun j => xs1 j + MlpPay.accB xs0 x5 x3 x4 j) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1)]
  unfold kernelRun0_B
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The pre-activation's gradient at the last column tile of the first block. -/
theorem vout0_C_6 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : cond0_4 i) (hc5 : ¬cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xs0 : Vec Ideal S528x1024 .bf16) (xs1 : Vec Ideal S528x1024 .f32) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1 = MlpPay.dupB xs0 x5 x3 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The running sum after the last column tile of the first block. -/
theorem vsout0_C_1 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : cond0_4 i) (hc5 : ¬cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xs0 : Vec Ideal S528x1024 .bf16) (xs1 : Vec Ideal S528x1024 .f32) :
    sout0_C_1 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1 = (fun j => xs1 j + MlpPay.accB xs0 x5 x3 x4 j) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The input's gradient at the last column tile of the first block. -/
theorem vout0_C_7 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : cond0_4 i) (hc5 : ¬cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xs0 : Vec Ideal S528x1024 .bf16) (xs1 : Vec Ideal S528x1024 .f32) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1 = k0_pay9 x1 x2 (fun j => xs1 j + MlpPay.accB xs0 x5 x3 x4 j) x0 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The input's gradient, rounded, at the last column tile of the first block. -/
theorem vout0_C_8 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : cond0_4 i) (hc5 : ¬cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xs0 : Vec Ideal S528x1024 .bf16) (xs1 : Vec Ideal S528x1024 .f32) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1 = fun j => k0_pay9 x1 x2 (fun j => xs1 j + MlpPay.accB xs0 x5 x3 x4 j) x0 j := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The weights' gradient after the last column tile of the first block. -/
theorem vout0_C_9 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : cond0_4 i) (hc5 : ¬cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xs0 : Vec Ideal S528x1024 .bf16) (xs1 : Vec Ideal S528x1024 .f32) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1 = k0_pay8 x1 (fun j => xs1 j + MlpPay.accB xs0 x5 x3 x4 j) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs0 xs1)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The pre-activation's gradient at the last column tile of a later block. -/
theorem vout0_D_6 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : ¬cond0_4 i) (hc5 : cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xo9 : Vec Ideal S1x1024 .f32) (xs0 : Vec Ideal S528x1024 .bf16) (xs1 : Vec Ideal S528x1024 .f32) :
    out0_D_6 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1 = MlpPay.dupB xs0 x5 x3 := by
  unfold out0_D_6
  rw [View.read_writes_eq_canon _ _ _ (cover0_D_6 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1)]
  unfold kernelRun0_D
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The running sum after the last column tile of a later block. -/
theorem vsout0_D_1 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : ¬cond0_4 i) (hc5 : cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xo9 : Vec Ideal S1x1024 .f32) (xs0 : Vec Ideal S528x1024 .bf16) (xs1 : Vec Ideal S528x1024 .f32) :
    sout0_D_1 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1 = (fun j => xs1 j + MlpPay.accB xs0 x5 x3 x4 j) := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1)]
  unfold kernelRun0_D
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The input's gradient at the last column tile of a later block. -/
theorem vout0_D_7 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : ¬cond0_4 i) (hc5 : cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xo9 : Vec Ideal S1x1024 .f32) (xs0 : Vec Ideal S528x1024 .bf16) (xs1 : Vec Ideal S528x1024 .f32) :
    out0_D_7 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1 = k0_pay9 x1 x2 (fun j => xs1 j + MlpPay.accB xs0 x5 x3 x4 j) x0 := by
  unfold out0_D_7
  rw [View.read_writes_eq_canon _ _ _ (cover0_D_7 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1)]
  unfold kernelRun0_D
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The input's gradient, rounded, at the last column tile of a later block. -/
theorem vout0_D_8 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : ¬cond0_4 i) (hc5 : cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xo9 : Vec Ideal S1x1024 .f32) (xs0 : Vec Ideal S528x1024 .bf16) (xs1 : Vec Ideal S528x1024 .f32) :
    out0_D_8 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1 = fun j => k0_pay9 x1 x2 (fun j => xs1 j + MlpPay.accB xs0 x5 x3 x4 j) x0 j := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1)]
  unfold kernelRun0_D
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

/-- The weights' gradient after the last column tile of a later block. -/
theorem vout0_D_9 (c : Dev nD) (i : grid0.Coords) (arg2 : Memref sig .tc .vmem S528x1024 .f32) (harg2 : arg2.IsWhole) (arg3 : Memref sig .tc .vmem S528x1024 .f32) (harg3 : arg3.IsWhole) (arg4 : Memref sig .tc .vmem S1x1024 .f32) (harg4 : arg4.IsWhole) (arg5 : Memref sig .tc .vmem S528x1024 .bf16) (harg5 : arg5.IsWhole) (arg6 : Memref sig .tc .vmem S1x1x1024x1024 .bf16) (harg6 : arg6.IsWhole) (arg7 : Memref sig .tc .vmem S1x1x1024x1024 .bf16) (harg7 : arg7.IsWhole) (arg8 : Memref sig .tc .vmem S528x1024 .bf16) (harg8 : arg8.IsWhole) (arg9 : Memref sig .tc .vmem S528x1024 .f32) (harg9 : arg9.IsWhole) (arg10 : Memref sig .tc .vmem S528x1024 .bf16) (harg10 : arg10.IsWhole) (arg11 : Memref sig .tc .vmem S1x1024 .f32) (harg11 : arg11.IsWhole) (arg12 : Memref sig .tc .vmem S528x1024 .bf16) (harg12 : arg12.IsWhole) (arg13 : Memref sig .tc .vmem S528x1024 .f32) (harg13 : arg13.IsWhole) (hc0 : ¬cond0_0 i) (hc1 : ¬cond0_1 i) (hc2 : cond0_2 i) (hc3 : cond0_3 i) (hc4 : ¬cond0_4 i) (hc5 : cond0_5 i)
    (x0 : Vec Ideal S528x1024 .f32) (x1 : Vec Ideal S528x1024 .f32) (x2 : Vec Ideal S1x1024 .f32) (x3 : Vec Ideal S528x1024 .bf16) (x4 : Vec Ideal S1x1x1024x1024 .bf16) (x5 : Vec Ideal S1x1x1024x1024 .bf16) (xo9 : Vec Ideal S1x1024 .f32) (xs0 : Vec Ideal S528x1024 .bf16) (xs1 : Vec Ideal S528x1024 .f32) :
    out0_D_9 (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1 = fun j => xo9 j + k0_pay8 x1 (fun j => xs1 j + MlpPay.accB xs0 x5 x3 x4 j) j := by
  unfold out0_D_9
  rw [View.read_writes_eq_canon _ _ _ (cover0_D_9 c i arg2 harg2 arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xo9 xs0 xs1)]
  unfold kernelRun0_D
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S528x1024) hz, View.ld_unit_zero (S := S1x1024) hz, View.ld_unit_zero (S := S1x1x1024x1024) hz4]
  (try simp only [MlpPay.pay11_apply, MlpPay.pay3_eq, MlpPay.pay4_eq, MlpPay.pay2_eq, MlpPay.dup_eq, MlpPay.pay5_eq, MlpPay.pay10_apply])
  try rfl

end Cert.MlpCase

end
-- ==== Proof.MlpSteps.lean ====
module

public import proofs.«01_k».proof.Proof.MlpBlk
public import proofs.«01_k».proof.Proof.MlpCase

@[expose] public section

/-!
# What each point of the kernel leaves

By induction over the points: after point `t` the staged block of the pre-activation's gradient is that gradient's block, the
running sum holds the column tiles up to `t % 4`, and the gradient of the norm's weights holds the row blocks finished so far.
-/

set_option maxRecDepth 16384

noncomputable section

namespace Cert.MlpSteps

open Cert.MlpIdeal Cert.MlpIdeal.Gen Cert.MlpBlk Cert.MlpCase Idealize.ShloMosaic Idealize.ShloMosaic.TcCoe Idealize.SL.Sem

variable (m : (ℓ : Loc nD τ sig) → Buf (Elt Ideal) ℓ)

/-- The pre-activation's gradient over the arguments. -/
abbrev dup (c : Dev nD) (r : Fin 4224) (C : Fin 4096) : EReal := MlpRead.dup (aDy m c) (aH m c) (aG m c) (aWu m c) (aWd m c) r C
/-- The normalised input's gradient over the arguments. -/
abbrev dn (c : Dev nD) (r : Fin 4224) (l : Fin 1024) : EReal := MlpRead.dn (aDy m c) (aH m c) (aG m c) (aWu m c) (aWd m c) r l
/-- The input's gradient over the arguments. -/
abbrev dh (c : Dev nD) (r : Fin 4224) (l : Fin 1024) : EReal := MlpRead.dh (aDy m c) (aH m c) (aG m c) (aWu m c) (aWd m c) r l

/-- Column `k` of tile `f`. -/
abbrev colT (f : ℕ) (k : Fin 1024) : Fin 4096 := ⟨f % 4 * 1024 + k.val, by omega⟩
/-- One column tile's part of the normalised input's gradient. -/
def part (c : Dev nD) (r : Fin 4224) (l : Fin 1024) (f : ℕ) : EReal :=
  ∑ k : Fin 1024, dup m c r (colT f k) * aWu m c (ix2 l (colT f k))
/-- Row `x` of row block `i`. -/
abbrev rowB (i : ℕ) (x : Fin 528) : Fin 4224 := ⟨i % 8 * 528 + x.val, by omega⟩
/-- One row block's part of the gradient of the norm's weights. -/
def blkG (c : Dev nD) (l : Fin 1024) (i : ℕ) : EReal :=
  ∑ x : Fin 528, dn m c (rowB i x) l * (aH m c (ix2 (rowB i x) l) * MlpPay.rstd (fun k => aH m c (ix2 (rowB i x) k)))

/-- The four column tiles make up the whole width. -/
theorem part_all (c : Dev nD) (r : Fin 4224) (l : Fin 1024) : ∑ f ∈ Finset.range 4, part m c r l f = dn m c r l := by
  rw [Finset.sum_range]
  unfold dn MlpRead.dn part
  rw [Fin.sum_univ_tiles 4 1024 rfl]
  refine Finset.sum_congr rfl fun f _ => Finset.sum_congr rfl fun k _ => ?_
  have e : colT f.val k = ⟨f.val * 1024 + k.val, by omega⟩ := Fin.ext (by show f.val % 4 * 1024 + k.val = f.val * 1024 + k.val; omega)
  rw [e]

/-- The eight row blocks make up all rows. -/
theorem blkG_all (c : Dev nD) (l : Fin 1024) :
    ∑ i ∈ Finset.range 8, blkG m c l i = MlpRead.dg (aDy m c) (aH m c) (aG m c) (aWu m c) (aWd m c) l := by
  rw [Finset.sum_range]
  unfold MlpRead.dg blkG
  rw [Fin.sum_univ_tiles 8 528 rfl]
  refine Finset.sum_congr rfl fun f _ => Finset.sum_congr rfl fun k _ => ?_
  have e : rowB f.val k = ⟨f.val * 528 + k.val, by omega⟩ := Fin.ext (by show f.val % 8 * 528 + k.val = f.val * 528 + k.val; omega)
  rw [e]

/-- The block of the pre-activation's gradient at a point. -/
theorem dup_blk (c : Dev nD) (t : Fin cfg0.N) (d : Vec Ideal S528x1024 .bf16) (hd : ∀ r k, d (ix2 r k) = aDy m c (ix2 (row t r) k))
    (r : Fin 528) (l : Fin 1024) :
    MlpPay.dupB d (iblk m c 5 t) (iblk m c 3 t) (ix2 r l) = dup m c (row t r) (col t l) := by
  show (∑ k : Fin 1024, d (ix2 r k) * (iblk m c 5 t : Vec Ideal S1x1x1024x1024 .bf16) (ix4 0 0 l k)) * (((2 : ℝ) : EReal) * max (α := EReal) ((iblk m c 3 t : Vec Ideal S528x1024 .bf16) (ix2 r l)) 0) = _
  rw [ib3]
  simp only [hd, ib5]
  rfl

/-- A point's part of the normalised input's gradient. -/
theorem acc_blk (c : Dev nD) (t : Fin cfg0.N) (d : Vec Ideal S528x1024 .bf16) (hd : ∀ r k, d (ix2 r k) = aDy m c (ix2 (row t r) k))
    (r : Fin 528) (l : Fin 1024) :
    MlpPay.accB d (iblk m c 5 t) (iblk m c 3 t) (iblk m c 4 t) (ix2 r l) = part m c (row t r) l (t.val % 4) := by
  show (∑ k : Fin 1024, MlpPay.dupB d (iblk m c 5 t) (iblk m c 3 t) (ix2 r k) * (iblk m c 4 t : Vec Ideal S1x1x1024x1024 .bf16) (ix4 0 0 l k)) = _
  unfold part
  refine Finset.sum_congr rfl fun k _ => ?_
  rw [dup_blk m c t d hd, ib4]
  have e : colT (t.val % 4) k = col t k := Fin.ext (by show t.val % 4 % 4 * 1024 + k.val = t.val % 4 * 1024 + k.val; omega)
  rw [e]

/-- The input's gradient at the last column tile of a row block. -/
theorem dh_blk (c : Dev nD) (t : Fin cfg0.N) (a : Vec Ideal S528x1024 .f32) (ha : ∀ r l, a (ix2 r l) = dn m c (row t r) l)
    (r : Fin 528) (l : Fin 1024) :
    k0_pay9 (iblk m c 1 t) (iblk m c 2 t) a (iblk m c 0 t) (ix2 r l) = dh m c (row t r) l := by
  rw [MlpPay.pay9_apply]
  simp only [ha, ib0, ib1, ib2]
  rfl

/-- A row block's part of the gradient of the norm's weights. -/
theorem dg_blk (c : Dev nD) (t : Fin cfg0.N) (a : Vec Ideal S528x1024 .f32) (ha : ∀ r l, a (ix2 r l) = dn m c (row t r) l)
    (r : Fin 1) (l : Fin 1024) :
    k0_pay8 (iblk m c 1 t) a (ix2 r l) = blkG m c l (t.val / 4) := by
  rw [MlpPay.pay8_apply]
  unfold blkG
  refine Finset.sum_congr rfl fun x _ => ?_
  have hN := lt_of_lt_of_eq t.isLt N32
  have e : rowB (t.val / 4) x = row t x := Fin.ext (by show t.val / 4 % 8 * 528 + x.val = t.val / 4 * 528 + x.val; omega)
  simp only [ha, ib1, e]

/-- What the kernel holds after point `t`. -/
structure Inv (c : Dev nD) (t : Fin cfg0.N) : Prop where
  o6 : ∀ r l, (outsAt0 m c t.val t.isLt).1 (ix2 r l) = dup m c (row t r) (col t l)
  s0 : ∀ r l, (outsAt0 m c t.val t.isLt).2.2.2.2.1 (ix2 r l) = aDy m c (ix2 (row t r) l)
  s1 : ∀ r l, (outsAt0 m c t.val t.isLt).2.2.2.2.2 (ix2 r l) = ∑ f ∈ Finset.range (t.val % 4 + 1), part m c (row t r) l f
  o7 : t.val % 4 = 3 → ∀ r l, (outsAt0 m c t.val t.isLt).2.1 (ix2 r l) = dh m c (row t r) l
  o8 : t.val % 4 = 3 → ∀ r l, (outsAt0 m c t.val t.isLt).2.2.1 (ix2 r l) = dh m c (row t r) l
  o9 : 4 ≤ t.val + 1 → ∀ a l, (outsAt0 m c t.val t.isLt).2.2.2.1 (ix2 a l) = ∑ i ∈ Finset.range ((t.val + 1) / 4), blkG m c l i

/-- The running sum grows by the point's tile. -/
theorem s1_step (c : Dev nD) (t : Fin cfg0.N) (h0 : ¬t.val % 4 = 0) (xs0 : Vec Ideal S528x1024 .bf16) (xs1 : Vec Ideal S528x1024 .f32)
    (h : ∀ r l, xs0 (ix2 r l) = aDy m c (ix2 (row t r) l))
    (h' : ∀ r l, xs1 (ix2 r l) = ∑ f ∈ Finset.range (t.val % 4), part m c (row t r) l f) (r : Fin 528) (l : Fin 1024) :
    xs1 (ix2 r l) + MlpPay.accB xs0 (iblk m c 5 t) (iblk m c 3 t) (iblk m c 4 t) (ix2 r l)
      = ∑ f ∈ Finset.range (t.val % 4 + 1), part m c (row t r) l f := by
  rw [h', acc_blk m c t xs0 h, Finset.sum_range_succ]

theorem inv (c : Dev nD) : ∀ (n : ℕ) (h : n < cfg0.N), Inv m c ⟨n, h⟩ := by
  intro n
  induction n with
  | zero =>
    intro h
    have e := outsAt0_A m c ⟨0, h⟩ rfl rfl (by show ¬1 ≤ 0 % 4; decide) (by show ¬0 % 4 = 3; decide)
    refine ⟨fun r l => ?_, fun r l => ?_, fun r l => ?_, fun h' => absurd h' (by show ¬0 % 4 = 3; decide), fun h' => absurd h' (by show ¬0 % 4 = 3; decide), fun h' => absurd h' (by show ¬4 ≤ 0 + 1; decide)⟩
    all_goals (rw [e]; dsimp only)
    · rw [vout0_A_6]; exact dup_blk m c _ _ (fun r k => ib0 m c _ r k) r l
    · rw [vsout0_A_0]; exact ib0 m c _ r l
    · rw [vsout0_A_1, acc_blk m c _ _ (fun r k => ib0 m c _ r k)]; exact (Finset.sum_range_one _).symm
  | succ n ih =>
    intro h
    have hN := lt_of_lt_of_eq h N32
    have p := ih (by omega)
    by_cases h0 : (n + 1) % 4 = 0
    · have e := outsAt0_A m c ⟨n + 1, h⟩ h0 h0 (by show ¬1 ≤ (n + 1) % 4; omega) (by show ¬(n + 1) % 4 = 3; omega)
      refine ⟨fun r l => ?_, fun r l => ?_, fun r l => ?_, fun h' => absurd h' (by show ¬(n + 1) % 4 = 3; omega), fun h' => absurd h' (by show ¬(n + 1) % 4 = 3; omega), fun h' a l => ?_⟩
      all_goals (rw [e]; dsimp only)
      · rw [vout0_A_6]; exact dup_blk m c _ _ (fun r k => ib0 m c _ r k) r l
      · rw [vsout0_A_0]; exact ib0 m c _ r l
      · rw [vsout0_A_1, acc_blk m c _ _ (fun r k => ib0 m c _ r k)]
        show part m c _ l ((n + 1) % 4) = ∑ f ∈ Finset.range ((n + 1) % 4 + 1), _
        rw [h0]; exact (Finset.sum_range_one _).symm
      · refine (p.o9 (by show 4 ≤ n + 1; omega) a l).trans ?_
        show ∑ i ∈ Finset.range ((n + 1) / 4), _ = ∑ i ∈ Finset.range ((n + 1 + 1) / 4), _
        rw [show (n + 1 + 1) / 4 = (n + 1) / 4 by omega]
    · have er : ∀ r, row ⟨n, by omega⟩ r = row ⟨n + 1, h⟩ r := fun r => Fin.ext (by show n / 4 * 528 + r.val = (n + 1) / 4 * 528 + r.val; omega)
      have hs0 : ∀ r l, (outsAt0 m c n (by omega)).2.2.2.2.1 (ix2 r l) = aDy m c (ix2 (row ⟨n + 1, h⟩ r) l) := fun r l => by rw [← er]; exact p.s0 r l
      have hs1 : ∀ r l, (outsAt0 m c n (by omega)).2.2.2.2.2 (ix2 r l) = ∑ f ∈ Finset.range ((n + 1) % 4), part m c (row ⟨n + 1, h⟩ r) l f := fun r l => by
        rw [← er, show (n + 1) % 4 = n % 4 + 1 by omega]; exact p.s1 r l
      have hst := s1_step m c ⟨n + 1, h⟩ h0 _ _ hs0 hs1
      by_cases h3 : (n + 1) % 4 = 3
      · have hst' : ∀ r l, _ = dn m c (row ⟨n + 1, h⟩ r) l := fun r l => (hst r l).trans (by
          show ∑ f ∈ Finset.range ((n + 1) % 4 + 1), _ = _
          rw [h3]; exact part_all m c _ l)
        by_cases h4 : n + 1 < 4
        · have e := outsAt0_C m c ⟨n + 1, h⟩ h0 h0 (by show 1 ≤ (n + 1) % 4; omega) h3 h4 (by show ¬4 ≤ n + 1; omega)
          refine ⟨fun r l => ?_, fun r l => ?_, fun r l => ?_, fun h' r l => ?_, fun h' r l => ?_, fun h' a l => ?_⟩
          all_goals (rw [e]; dsimp only)
          · rw [vout0_C_6]; exact dup_blk m c _ _ hs0 r l
          · exact hs0 r l
          · rw [vsout0_C_1]; exact hst r l
          · rw [vout0_C_7]; exact dh_blk m c _ _ hst' r l
          · rw [vout0_C_8]; exact dh_blk m c _ _ hst' r l
          · rw [vout0_C_9]; refine (dg_blk m c _ _ hst' a l).trans ?_
            show blkG m c l ((n + 1) / 4) = ∑ i ∈ Finset.range ((n + 1 + 1) / 4), _
            rw [show (n + 1) / 4 = 0 by omega, show (n + 1 + 1) / 4 = 1 by omega, Finset.sum_range_one]
        · have e := outsAt0_D m c ⟨n + 1, h⟩ h0 h0 (by show 1 ≤ (n + 1) % 4; omega) h3 h4 (by show 4 ≤ n + 1; omega)
          refine ⟨fun r l => ?_, fun r l => ?_, fun r l => ?_, fun h' r l => ?_, fun h' r l => ?_, fun h' a l => ?_⟩
          all_goals (rw [e]; dsimp only)
          · rw [vout0_D_6]; exact dup_blk m c _ _ hs0 r l
          · exact hs0 r l
          · rw [vsout0_D_1]; exact hst r l
          · rw [vout0_D_7]; exact dh_blk m c _ _ hst' r l
          · rw [vout0_D_8]; exact dh_blk m c _ _ hst' r l
          · rw [vout0_D_9]
            refine (congrArg₂ (fun x y : EReal => x + y) (p.o9 (by show 4 ≤ n + 1; omega) a l) (dg_blk m c _ _ hst' a l)).trans ?_
            show (∑ i ∈ Finset.range ((n + 1) / 4), blkG m c l i) + blkG m c l ((n + 1) / 4) = ∑ i ∈ Finset.range ((n + 1 + 1) / 4), blkG m c l i
            rw [show (n + 1 + 1) / 4 = (n + 1) / 4 + 1 by omega, Finset.sum_range_succ]
      · have e := outsAt0_B m c ⟨n + 1, h⟩ h0 h0 (by show 1 ≤ (n + 1) % 4; omega) h3
        refine ⟨fun r l => ?_, fun r l => ?_, fun r l => ?_, fun h' => absurd h' h3, fun h' => absurd h' h3, fun h' a l => ?_⟩
        all_goals (rw [e]; dsimp only)
        · rw [vout0_B_6]; exact dup_blk m c _ _ hs0 r l
        · exact hs0 r l
        · rw [vsout0_B_1]; exact hst r l
        · refine (p.o9 (by have h' : 4 ≤ n + 1 + 1 := h'; show 4 ≤ n + 1; omega) a l).trans ?_
          show ∑ i ∈ Finset.range ((n + 1) / 4), _ = ∑ i ∈ Finset.range ((n + 1 + 1) / 4), _
          rw [show (n + 1 + 1) / 4 = (n + 1) / 4 by omega]

end Cert.MlpSteps

end
-- ==== Proof.MlpFinal.lean ====
module

public import proofs.«01_k».proof.Proof.MlpSteps
public import proofs.«01_k».proof.Proof.Gen.MlpIdeal.Value
public import proofs.«01_k».proof.Proof.Gen.MlpRefIdeal.Run
public import proofs.«01_k».proof.Defs

@[expose] public section

/-!
# The layer's backward kernel computes the layer's gradients

The arrays the kernel leaves, and the reference's results, are the same expressions of the arguments.
-/

set_option maxRecDepth 16384

noncomputable section

namespace Cert.MlpFinal

open Cert.MlpIdeal Cert.MlpIdeal.Gen Cert.MlpIdeal.Value Cert.MlpBlk Cert.MlpSteps Idealize.ShloMosaic Idealize.ShloMosaic.TcCoe Idealize.SL.Sem

variable (m : (ℓ : Loc nD τ sig) → Buf (Elt Ideal) ℓ)

/-- The kernel's first result is the pre-activation's gradient. -/
theorem G6_eq (c : Dev nD) : G6 m c = fun i : S4224x4096.Idx => dup m c (i 0) (i 1) := by
  funext i
  have h0 : (i 0).val < 4224 := (i 0).isLt
  have h1 : (i 1).val < 4096 := (i 1).isLt
  have hp : pt6Of i < cfg0.N := lt_of_lt_of_eq (by show 4 * ((i 0).val / 528 - 0) + 1 * ((i 1).val / 1024 - 0) < 32; omega) N32.symm
  unfold G6
  rw [dif_pos hp, ← outsAt0_sweep]
  have el : loc6Of i = ix2 ⟨(i 0).val % 528, Nat.mod_lt _ (by decide)⟩ ⟨(i 1).val % 1024, Nat.mod_lt _ (by decide)⟩ := by
    funext a; fin_cases a <;> rfl
  rw [el]
  refine ((inv m c _ hp).o6 _ _).trans ?_
  congr 1
  · apply Fin.ext; show (4 * ((i 0).val / 528 - 0) + 1 * ((i 1).val / 1024 - 0)) / 4 * 528 + (i 0).val % 528 = (i 0).val; omega
  · apply Fin.ext; show (4 * ((i 0).val / 528 - 0) + 1 * ((i 1).val / 1024 - 0)) % 4 * 1024 + (i 1).val % 1024 = (i 1).val; omega

/-- Its second is the input's gradient. -/
theorem G7_eq (c : Dev nD) : G7 m c = fun i : S4224x1024.Idx => dh m c (i 0) (i 1) := by
  funext i
  have h0 : (i 0).val < 4224 := (i 0).isLt
  have h1 : (i 1).val < 1024 := (i 1).isLt
  have hp : pt7Of i < cfg0.N := lt_of_lt_of_eq (by show 4 * (1 * ((i 0).val / 528 - 0) + 1 * ((i 1).val / 1024 - 0)) + 3 < 32; omega) N32.symm
  unfold G7
  rw [dif_pos hp, ← outsAt0_sweep]
  have el : loc7Of i = ix2 ⟨(i 0).val % 528, Nat.mod_lt _ (by decide)⟩ ⟨(i 1).val % 1024, Nat.mod_lt _ (by decide)⟩ := by
    funext a; fin_cases a <;> rfl
  rw [el]
  refine ((inv m c _ hp).o7 (by show (4 * (1 * ((i 0).val / 528 - 0) + 1 * ((i 1).val / 1024 - 0)) + 3) % 4 = 3; omega) _ _).trans ?_
  congr 1
  · apply Fin.ext; show (4 * (1 * ((i 0).val / 528 - 0) + 1 * ((i 1).val / 1024 - 0)) + 3) / 4 * 528 + (i 0).val % 528 = (i 0).val; omega
  · apply Fin.ext; show (i 1).val % 1024 = (i 1).val; omega

/-- Its third is the same gradient, rounded. -/
theorem G8_eq (c : Dev nD) : G8 m c = fun i : S4224x1024.Idx => dh m c (i 0) (i 1) := by
  funext i
  have h0 : (i 0).val < 4224 := (i 0).isLt
  have h1 : (i 1).val < 1024 := (i 1).isLt
  have hp : pt8Of i < cfg0.N := lt_of_lt_of_eq (by show 4 * (1 * ((i 0).val / 528 - 0) + 1 * ((i 1).val / 1024 - 0)) + 3 < 32; omega) N32.symm
  unfold G8
  rw [dif_pos hp, ← outsAt0_sweep]
  have el : loc8Of i = ix2 ⟨(i 0).val % 528, Nat.mod_lt _ (by decide)⟩ ⟨(i 1).val % 1024, Nat.mod_lt _ (by decide)⟩ := by
    funext a; fin_cases a <;> rfl
  rw [el]
  refine ((inv m c _ hp).o8 (by show (4 * (1 * ((i 0).val / 528 - 0) + 1 * ((i 1).val / 1024 - 0)) + 3) % 4 = 3; omega) _ _).trans ?_
  congr 1
  · apply Fin.ext; show (4 * (1 * ((i 0).val / 528 - 0) + 1 * ((i 1).val / 1024 - 0)) + 3) / 4 * 528 + (i 0).val % 528 = (i 0).val; omega
  · apply Fin.ext; show (i 1).val % 1024 = (i 1).val; omega

/-- Its fourth is the gradient of the norm's weights. -/
theorem G9_eq (c : Dev nD) : G9 m c = fun i : S1x1024.Idx => MlpRead.dg (aDy m c) (aH m c) (aG m c) (aWu m c) (aWd m c) (i 1) := by
  funext i
  have h0 : (i 0).val < 1 := (i 0).isLt
  have h1 : (i 1).val < 1024 := (i 1).isLt
  have hp : pt9Of i < cfg0.N := lt_of_lt_of_eq (by show 32 * (1 * ((i 0).val / 1 - 0) + 1 * ((i 1).val / 1024 - 0)) + 31 < 32; omega) N32.symm
  unfold G9
  rw [dif_pos hp, ← outsAt0_sweep]
  have el : loc9Of i = ix2 ⟨(i 0).val % 1, Nat.mod_lt _ (by decide)⟩ ⟨(i 1).val % 1024, Nat.mod_lt _ (by decide)⟩ := by
    funext a; fin_cases a <;> rfl
  rw [el]
  have hq : pt9Of i = 31 := by show 32 * (1 * ((i 0).val / 1 - 0) + 1 * ((i 1).val / 1024 - 0)) + 31 = 31; omega
  refine ((inv m c _ hp).o9 (by show 4 ≤ pt9Of i + 1; omega) _ _).trans ?_
  show ∑ k ∈ Finset.range ((pt9Of i + 1) / 4), _ = _
  rw [hq]
  refine (blkG_all m c _).trans ?_
  congr 1
  apply Fin.ext; show (i 1).val % 1024 = (i 1).val; omega

/-- The kernel's gradients are the reference's. -/
theorem alg (hK : Cert.MlpIdeal.Facts) (hR : Cert.MlpRefIdeal.Facts) : @Cert.algebraic_MlpIdeal_MlpRefIdeal hK hR := by
  intro m ρ m' ρ' _ hag
  refine ⟨fun c (i : S4224x4096.Idx) => dup m c (i 0) (i 1), fun c (i : S4224x1024.Idx) => dh m c (i 0) (i 1), fun c (i : S4224x1024.Idx) => dh m c (i 0) (i 1),
    fun c (i : S1x1024.Idx) => MlpRead.dg (aDy m c) (aH m c) (aG m c) (aWu m c) (aWd m c) (i 1), ?_, ?_⟩
  · refine (θ_run _ _ _).mono (fun r h c => ?_) (Cert.MlpIdeal.Value.run m ρ)
    obtain ⟨a, b, d, e, f⟩ := h c
    exact ⟨a.trans (G6_eq m c), b.trans (G7_eq m c), d.trans (G8_eq m c), e.trans (G9_eq m c), f⟩
  · refine (θ_run _ _ _).mono (fun r h c => ?_) (Cert.MlpRefIdeal.Value.run m' ρ')
    obtain ⟨a, b, d, e, f⟩ := h c
    obtain ⟨g0, g1, g2, g3, g4⟩ := hag c
    rw [Cert.MlpRefIdeal.Read.val_main_v53_eq, g0, g1, g2, g3, g4] at a
    rw [Cert.MlpRefIdeal.Read.val_main_v52_eq, g0, g1, g2, g3, g4] at b
    rw [Cert.MlpRefIdeal.Read.val_main_v54_eq, g0, g1, g2, g3, g4] at d
    rw [Cert.MlpRefIdeal.Read.val_main_v35_eq, g0, g1, g2, g3, g4] at e
    refine ⟨a.trans ?_, b.trans ?_, d.trans ?_, e.trans ?_, f⟩
    · funext i
      obtain ⟨r, l, rfl⟩ : ∃ (r : Fin 4224) (l : Fin 4096), i = ix2 r l := ⟨i 0, i 1, by funext a; fin_cases a <;> rfl⟩
      exact MlpRead.val31 _ _ _ _ _ r l
    · funext i
      obtain ⟨r, l, rfl⟩ : ∃ (r : Fin 4224) (l : Fin 1024), i = ix2 r l := ⟨i 0, i 1, by funext a; fin_cases a <;> rfl⟩
      exact MlpRead.val52 _ _ _ _ _ r l
    · funext i
      obtain ⟨r, l, rfl⟩ : ∃ (r : Fin 4224) (l : Fin 1024), i = ix2 r l := ⟨i 0, i 1, by funext a; fin_cases a <;> rfl⟩
      exact MlpRead.val52 _ _ _ _ _ r l
    · funext i
      obtain ⟨r, l, rfl⟩ : ∃ (r : Fin 1) (l : Fin 1024), i = ix2 r l := ⟨i 0, i 1, by funext a; fin_cases a <;> rfl⟩
      obtain rfl : r = 0 := Subsingleton.elim _ _
      exact MlpRead.val35 _ _ _ _ _ l

end Cert.MlpFinal

end
-- ==== Proof.DwupFinal.lean ====
module

public import proofs.«01_k».proof.Proof.MlpCase
public import proofs.«01_k».proof.Proof.Gen.DwupIdeal.Value
public import proofs.«01_k».proof.Proof.Gen.DwupRefIdeal.Read
public import proofs.«01_k».proof.Defs
public import Idealize.ShloMosaic.Lib.Claim
public import Idealize.ShloMosaic.Lib.StableHlo.Run

@[expose] public section

/-!
# The kernel of the up projection's weight gradient

Point `t` of the 16 fills rows `(t / 8) * 512 …` and columns `(t % 2) * 512 …` of shard `(t % 8) / 2` of the stack's first
member; the second member keeps what the array held.
-/

set_option maxRecDepth 16384

noncomputable section

namespace Cert.DwupFinal

open Cert.DwupIdeal Cert.DwupIdeal.Gen Cert.DwupIdeal.Value Idealize.ShloMosaic Idealize.ShloMosaic.TcCoe Idealize.SL.Sem

/-- The weight gradient: the normalised input transposed, times the pre-activation's gradient. -/
def grad (x : Vec Ideal S4224x1024 .bf16) (d : Vec Ideal S4224x4096 .bf16) (r : Fin 1024) (l : Fin 4096) : EReal :=
  ∑ k : Fin 4224, x (ix2 k r) * d (ix2 k l)

/-- The stack of both layers' gradients by column shard: the first layer's is computed, the second's is kept. -/
def stack (x : Vec Ideal S4224x1024 .bf16) (d : Vec Ideal S4224x4096 .bf16) (w : Vec Ideal S4x2x1024x1024 .bf16) (q : Fin 4) (b : Fin 2)
    (r l : Fin 1024) : EReal :=
  if b = 0 then grad x d r ⟨q * 1024 + l, by omega⟩ else w (ix4 q b r l)

/-- One point's product at an element. -/
theorem pay1_apply (x : Vec Ideal S4224x512 .bf16) (d : Vec Ideal S4224x512 .bf16) (a b : Fin 1) (r l : Fin 512) :
    k0_pay1 x d (ix4 a b r l) = ∑ k : Fin 4224, x (ix2 k r) * d (ix2 k l) := by
  pointwise [k0_pay1]

/-- The reference's gradient at an element. -/
theorem ref4 (x : Vec Ideal S4224x1024 .bf16) (d : Vec Ideal S4224x4096 .bf16) (r : Fin 4096) (l : Fin 1024) :
    Cert.DwupRefIdeal.Read.val_main_v4 (F := Ideal) x d (ix2 r l) = grad x d l r := by
  unfold grad
  pointwise [Cert.DwupRefIdeal.Read.val_main_v4, Cert.DwupRefIdeal.Read.val_main_v3, Cert.DwupRefIdeal.Read.val_main_v1]
  exact Finset.sum_congr rfl fun k _ => mul_comm _ _

/-- The reference's result at an element. -/
theorem ref13 (x : Vec Ideal S4224x1024 .bf16) (d : Vec Ideal S4224x4096 .bf16) (w : Vec Ideal S4x2x1024x1024 .bf16) (q : Fin 4) (b : Fin 2)
    (r l : Fin 1024) :
    Cert.DwupRefIdeal.Read.val_main_v13 (F := Ideal) x d w (ix4 q b r l) = stack x d w q b r l := by
  unfold stack
  pointwise [Cert.DwupRefIdeal.Read.val_main_v13, Cert.DwupRefIdeal.Read.val_main_v12, Cert.DwupRefIdeal.Read.val_main_v11,
    Cert.DwupRefIdeal.Read.val_main_v10, Cert.DwupRefIdeal.Read.val_main_v9, Cert.DwupRefIdeal.Read.val_main_v8, Cert.DwupRefIdeal.Read.val_main_v7,
    Cert.DwupRefIdeal.Read.val_main_v6, Cert.DwupRefIdeal.Read.val_main_v5, ref4]
  by_cases hb : b = 0
  · subst hb; rfl
  · have hb1 : b = 1 := by omega
    subst hb1; rfl

variable (m : (ℓ : Loc nD τ sig) → Buf (Elt Ideal) ℓ)

/-- The saved normalised input. -/
abbrev aX (c : Dev nD) : Vec Ideal S4224x1024 .bf16 := m ((c : Thread nD τ).loc main_arg0)
/-- The pre-activation's gradient. -/
abbrev aD (c : Dev nD) : Vec Ideal S4224x4096 .bf16 := m ((c : Thread nD τ).loc main_arg1)
/-- The stack the result is written into. -/
abbrev aW (c : Dev nD) : Vec Ideal S4x2x1024x1024 .bf16 := m ((c : Thread nD τ).loc main_arg2)

/-- The output array starts as a copy of the stack. -/
theorem V0 (c : Dev nD) : (V m c main_v0 : Vec Ideal S4x2x1024x1024 .bf16) = aW m c := by
  unfold_abbrev_sides
  after_results
  try rfl

theorem N16 : cfg0.N = 16 := by decide

theorem idx0 : ∀ t : Fin cfg0.N, win0_0.index t (0 : Fin 2) = 0 ∧ win0_0.index t (1 : Fin 2) = t.val / 8 :=
  (by decide +kernel : ∀ t : Fin grid0.N, _)

theorem idx1 : ∀ t : Fin cfg0.N, win0_1.index t (0 : Fin 2) = 0 ∧ win0_1.index t (1 : Fin 2) = t.val % 8 :=
  (by decide +kernel : ∀ t : Fin grid0.N, _)

theorem idx2 : ∀ t : Fin cfg0.N, win0_2.index t (0 : Fin 4) = t.val % 8 / 2 ∧ win0_2.index t (1 : Fin 4) = 0 ∧ win0_2.index t (2 : Fin 4) = t.val / 8
    ∧ win0_2.index t (3 : Fin 4) = t.val % 2 :=
  (by decide +kernel : ∀ t : Fin grid0.N, _)

/-- A column block of the normalised input. -/
theorem ib0 (c : Dev nD) (t : Fin cfg0.N) (r : Fin 4224) (l : Fin 512) :
    (iblk m c 0 t : Vec Ideal S4224x512 .bf16) (ix2 r l)
      = aX m c (ix2 r ⟨t.val / 8 * 512 + l, by have := lt_of_lt_of_eq t.isLt N16; omega⟩) := by
  have hN := lt_of_lt_of_eq t.isLt N16
  obtain ⟨e0, e1⟩ := idx0 t
  unfold iblk
  rw [View.read_apply]
  have e : ((cfg0.win 0).blk t).view.emb (ix2 r l) = (ix2 r ⟨t.val / 8 * 512 + l, by omega⟩ : S4224x1024.Idx) := by
    funext a; apply Fin.ext; fin_cases a
    · show win0_0.index t (0 : Fin 2) * 4224 + 1 * (r : Fin 4224).val = r.val; rw [e0]; omega
    · show win0_0.index t (1 : Fin 2) * 512 + 1 * (l : Fin 512).val = t.val / 8 * 512 + l.val; rw [e1]; omega
  show (V m c main_arg0 : Vec Ideal S4224x1024 .bf16) (((cfg0.win 0).blk t).view.emb (ix2 r l)) = _
  rw [e, V_main_arg0]

/-- A column block of the pre-activation's gradient. -/
theorem ib1 (c : Dev nD) (t : Fin cfg0.N) (r : Fin 4224) (l : Fin 512) :
    (iblk m c 1 t : Vec Ideal S4224x512 .bf16) (ix2 r l)
      = aD m c (ix2 r ⟨t.val % 8 * 512 + l, by omega⟩) := by
  obtain ⟨e0, e1⟩ := idx1 t
  unfold iblk
  rw [View.read_apply]
  have e : ((cfg0.win 1).blk t).view.emb (ix2 r l) = (ix2 r ⟨t.val % 8 * 512 + l, by omega⟩ : S4224x4096.Idx) := by
    funext a; apply Fin.ext; fin_cases a
    · show win0_1.index t (0 : Fin 2) * 4224 + 1 * (r : Fin 4224).val = r.val; rw [e0]; omega
    · show win0_1.index t (1 : Fin 2) * 512 + 1 * (l : Fin 512).val = t.val % 8 * 512 + l.val; rw [e1]; omega
  show (V m c main_arg1 : Vec Ideal S4224x4096 .bf16) (((cfg0.win 1).blk t).view.emb (ix2 r l)) = _
  rw [e, V_main_arg1]

/-- What a point leaves in the output's block. -/
theorem vout (c : Dev nD) (i : grid0.Coords) (arg2 : Memref sig .tc .vmem S4224x512 .bf16) (harg2 : arg2.IsWhole) (arg3 : Memref sig .tc .vmem S4224x512 .bf16) (harg3 : arg3.IsWhole) (arg5 : Memref sig .tc .vmem S1x1x512x512 .bf16) (harg5 : arg5.IsWhole)
    (x0 : Vec Ideal S4224x512 .bf16) (x1 : Vec Ideal S4224x512 .bf16) :
    out0_A_2 (F := Ideal) c i arg2 harg2 arg3 harg3 arg5 harg5 x0 x1 = k0_pay1 x0 x1 := by
  unfold out0_A_2
  rw [View.read_writes_eq_canon _ _ _ (cover0_A_2 c i arg2 harg2 arg3 harg3 arg5 harg5 x0 x1)]
  unfold kernelRun0_A
  dsimp only
  (try sl_unfold_words)
  simp only [View.canon_cons_unit_zero (S := S1x1x512x512) MlpCase.hz4, View.readAt_eq_ld, harg2.read_unread, harg3.read_unread, View.ld_unit_zero (S := S4224x512) MlpCase.hz]

/-- The array the kernel leaves. -/
theorem arr (c : Dev nD) (q : Fin 4) (b : Fin 2) (r l : Fin 1024) :
    ((dats m 0 c).arrAt 2 cfg0.N : Vec Ideal S4x2x1024x1024 .bf16) (ix4 q b r l) = stack (aX m c) (aD m c) (aW m c) q b r l := by
  unfold stack
  by_cases hb : b = 0
  · subst hb
    rw [if_pos rfl]
    let t : Fin cfg0.N := ⟨r.val / 512 * 8 + q.val * 2 + l.val / 512, by rw [N16]; omega⟩
    obtain ⟨e0, e1, e2, e3⟩ := idx2 t
    have ht : t.val = r.val / 512 * 8 + q.val * 2 + l.val / 512 := rfl
    have e : ((cfg0.win 2).blk t).view.emb (ix4 0 0 ⟨r.val % 512, by omega⟩ ⟨l.val % 512, by omega⟩ : S1x1x512x512.Idx) = (ix4 q 0 r l : S4x2x1024x1024.Idx) := by
      funext a; apply Fin.ext; fin_cases a
      · show win0_2.index t (0 : Fin 4) * 1 + 1 * 0 = q.val; rw [e0]; omega
      · show win0_2.index t (1 : Fin 4) * 1 + 1 * 0 = 0; rw [e1]
      · show win0_2.index t (2 : Fin 4) * 512 + 1 * (r.val % 512) = r.val; rw [e2]; omega
      · show win0_2.index t (3 : Fin 4) * 512 + 1 * (l.val % 512) = l.val; rw [e3]; omega
    have h := congrFun (blocks2 m c t (flush0_2 t)) (ix4 0 0 ⟨r.val % 512, by omega⟩ ⟨l.val % 512, by omega⟩ : S1x1x512x512.Idx)
    rw [View.read_apply, e, flushed2_A, vout] at h
    refine Eq.trans h ?_
    show k0_pay1 _ _ (ix4 0 0 (⟨r.val % 512, by omega⟩ : Fin 512) (⟨l.val % 512, by omega⟩ : Fin 512)) = _
    rw [pay1_apply]
    unfold grad
    refine Finset.sum_congr rfl fun k _ => ?_
    rw [ib0, ib1]
    have er : (⟨t.val / 8 * 512 + r.val % 512, by omega⟩ : Fin 1024) = r := Fin.ext (by show t.val / 8 * 512 + r.val % 512 = r.val; omega)
    have el : (⟨t.val % 8 * 512 + l.val % 512, by omega⟩ : Fin 4096) = ⟨q * 1024 + l, by omega⟩ :=
      Fin.ext (by show t.val % 8 * 512 + l.val % 512 = q.val * 1024 + l.val; omega)
    exact congrArg₂ (fun a b => aX m c (ix2 k a) * aD m c (ix2 k b)) er el
  · rw [if_neg hb]
    have h := entry2 m c (ix4 q b r l : S4x2x1024x1024.Idx) (fun t _ hm => by
      obtain ⟨y, hy⟩ := View.exists_emb_of_mem_set _ hm
      obtain ⟨e0, e1, e2, e3⟩ := idx2 t
      have h1 := congrArg Fin.val (congrFun hy (1 : Fin 4))
      have h2 : win0_2.index t (1 : Fin 4) * 1 + 1 * (y (1 : Fin 4)).val = b.val := h1
      have h3 : (y (1 : Fin 4)).val < 1 := (y (1 : Fin 4)).isLt
      rw [e1] at h2
      exact hb (Fin.ext (by show b.val = 0; omega)))
    refine Eq.trans h ?_
    exact congrFun (V0 m c) (ix4 q b r l)

/-- The kernel's array and the reference's result are the same function of the arguments. -/
theorem alg (hK : Cert.DwupIdeal.Facts) (hR : Cert.DwupRefIdeal.Facts) : @Cert.algebraic_DwupIdeal_DwupRefIdeal hK hR := by
  intro m ρ m' ρ' _ hag
  refine ⟨fun c (i : S4x2x1024x1024.Idx) => stack (aX m c) (aD m c) (aW m c) (i 0) (i 1) (i 2) (i 3), ?_, ?_⟩
  · refine (θ_run _ _ _).mono (fun r h c => ?_) (Cert.DwupIdeal.Value.run_blocks m ρ)
    obtain ⟨a, f⟩ := h c
    refine ⟨a.trans ?_, f⟩
    funext i
    obtain ⟨q, b, r, l, rfl⟩ : ∃ (q : Fin 4) (b : Fin 2) (r l : Fin 1024), i = ix4 q b r l := ⟨i 0, i 1, i 2, i 3, by funext a; fin_cases a <;> rfl⟩
    exact arr m c q b r l
  · refine (θ_run _ _ _).mono (fun r h c => ?_) (Cert.DwupRefIdeal.Value.run m' ρ')
    obtain ⟨a, f⟩ := h c
    obtain ⟨g0, g1, g2⟩ := hag c
    rw [Cert.DwupRefIdeal.Read.val_main_v13_eq, g0, g1, g2] at a
    refine ⟨a.trans ?_, f⟩
    funext i
    obtain ⟨q, b, r, l, rfl⟩ : ∃ (q : Fin 4) (b : Fin 2) (r l : Fin 1024), i = ix4 q b r l := ⟨i 0, i 1, i 2, i 3, by funext a; fin_cases a <;> rfl⟩
    exact ref13 _ _ _ q b r l

end Cert.DwupFinal

end
-- ==== Proof.DwdownFinal.lean ====
module

public import proofs.«01_k».proof.Proof.MlpCase
public import proofs.«01_k».proof.Proof.Gen.DwdownIdeal.Value
public import proofs.«01_k».proof.Proof.Gen.DwdownRefIdeal.Read
public import proofs.«01_k».proof.Defs
public import Idealize.ShloMosaic.Lib.Claim
public import Idealize.ShloMosaic.Lib.StableHlo.Run

@[expose] public section

/-!
# The kernel of the down projection's weight gradient

Point `t` of the 16 fills rows `(t / 2 % 2) * 512 …` and columns `(t % 2) * 512 …` of shard `t / 4` of the stack's first
member; the second member keeps what the array held.
-/

set_option maxRecDepth 16384

noncomputable section

namespace Cert.DwdownFinal

open Cert.DwdownIdeal Cert.DwdownIdeal.Gen Cert.DwdownIdeal.Value Idealize.ShloMosaic Idealize.ShloMosaic.TcCoe Idealize.SL.Sem

/-- The weight gradient: the square of the rectified pre-activation, transposed, times the incoming gradient. -/
def grad (x : Vec Ideal S4224x4096 .bf16) (d : Vec Ideal S4224x1024 .bf16) (r : Fin 4096) (l : Fin 1024) : EReal :=
  ∑ k : Fin 4224, max (x (ix2 k r)) 0 * max (x (ix2 k r)) 0 * d (ix2 k l)

/-- The stack of both layers' gradients by row shard: the first layer's is computed, the second's is kept. -/
def stack (x : Vec Ideal S4224x4096 .bf16) (d : Vec Ideal S4224x1024 .bf16) (w : Vec Ideal S4x2x1024x1024 .bf16) (q : Fin 4) (b : Fin 2)
    (r l : Fin 1024) : EReal :=
  if b = 0 then grad x d ⟨q * 1024 + r, by omega⟩ l else w (ix4 q b r l)

/-- One point's product at an element. -/
theorem pay1_apply (x : Vec Ideal S4224x512 .bf16) (d : Vec Ideal S4224x512 .bf16) (a b : Fin 1) (r l : Fin 512) :
    k0_pay1 x d (ix4 a b r l) = ∑ k : Fin 4224, max (α := EReal) (x (ix2 k r)) 0 * max (α := EReal) (x (ix2 k r)) 0 * d (ix2 k l) := by
  pointwise [k0_pay1]

/-- The reference's gradient at an element. -/
theorem ref6 (x : Vec Ideal S4224x4096 .bf16) (d : Vec Ideal S4224x1024 .bf16) (r : Fin 1024) (l : Fin 4096) :
    Cert.DwdownRefIdeal.Read.val_main_v6 (F := Ideal) x d (ix2 r l) = grad x d l r := by
  unfold grad
  pointwise [Cert.DwdownRefIdeal.Read.val_main_v6, Cert.DwdownRefIdeal.Read.val_main_v5, Cert.DwdownRefIdeal.Read.val_main_v3,
    Cert.DwdownRefIdeal.Read.val_main_v2, Cert.DwdownRefIdeal.Read.val_main_v1, Cert.DwdownRefIdeal.Read.val_main_call0_v0,
    Cert.DwdownRefIdeal.Read.val_main_call0_cst]
  exact Finset.sum_congr rfl fun k _ => mul_comm _ _

/-- The reference's result at an element. -/
theorem ref14 (x : Vec Ideal S4224x4096 .bf16) (d : Vec Ideal S4224x1024 .bf16) (w : Vec Ideal S4x2x1024x1024 .bf16) (q : Fin 4) (b : Fin 2)
    (r l : Fin 1024) :
    Cert.DwdownRefIdeal.Read.val_main_v14 (F := Ideal) x d w (ix4 q b r l) = stack x d w q b r l := by
  unfold stack
  pointwise [Cert.DwdownRefIdeal.Read.val_main_v14, Cert.DwdownRefIdeal.Read.val_main_v13, Cert.DwdownRefIdeal.Read.val_main_v12,
    Cert.DwdownRefIdeal.Read.val_main_v11, Cert.DwdownRefIdeal.Read.val_main_v10, Cert.DwdownRefIdeal.Read.val_main_v9,
    Cert.DwdownRefIdeal.Read.val_main_v8, Cert.DwdownRefIdeal.Read.val_main_v7, ref6]
  by_cases hb : b = 0
  · subst hb; rfl
  · have hb1 : b = 1 := by omega
    subst hb1; rfl

variable (m : (ℓ : Loc nD τ sig) → Buf (Elt Ideal) ℓ)

/-- The saved pre-activation. -/
abbrev aX (c : Dev nD) : Vec Ideal S4224x4096 .bf16 := m ((c : Thread nD τ).loc main_arg0)
/-- The incoming gradient. -/
abbrev aD (c : Dev nD) : Vec Ideal S4224x1024 .bf16 := m ((c : Thread nD τ).loc main_arg1)
/-- The stack the result is written into. -/
abbrev aW (c : Dev nD) : Vec Ideal S4x2x1024x1024 .bf16 := m ((c : Thread nD τ).loc main_arg2)

/-- The output array starts as a copy of the stack. -/
theorem V0 (c : Dev nD) : (V m c main_v0 : Vec Ideal S4x2x1024x1024 .bf16) = aW m c := by
  unfold_abbrev_sides
  after_results
  try rfl

theorem N16 : cfg0.N = 16 := by decide

theorem idx0 : ∀ t : Fin cfg0.N, win0_0.index t (0 : Fin 2) = 0 ∧ win0_0.index t (1 : Fin 2) = t.val / 2 :=
  (by decide +kernel : ∀ t : Fin grid0.N, _)

theorem idx1 : ∀ t : Fin cfg0.N, win0_1.index t (0 : Fin 2) = 0 ∧ win0_1.index t (1 : Fin 2) = t.val % 2 :=
  (by decide +kernel : ∀ t : Fin grid0.N, _)

theorem idx2 : ∀ t : Fin cfg0.N, win0_2.index t (0 : Fin 4) = t.val / 4 ∧ win0_2.index t (1 : Fin 4) = 0 ∧ win0_2.index t (2 : Fin 4) = t.val / 2 % 2
    ∧ win0_2.index t (3 : Fin 4) = t.val % 2 :=
  (by decide +kernel : ∀ t : Fin grid0.N, _)

/-- A column block of the saved pre-activation. -/
theorem ib0 (c : Dev nD) (t : Fin cfg0.N) (r : Fin 4224) (l : Fin 512) :
    (iblk m c 0 t : Vec Ideal S4224x512 .bf16) (ix2 r l)
      = aX m c (ix2 r ⟨t.val / 2 * 512 + l, by have := lt_of_lt_of_eq t.isLt N16; omega⟩) := by
  have hN := lt_of_lt_of_eq t.isLt N16
  obtain ⟨e0, e1⟩ := idx0 t
  unfold iblk
  rw [View.read_apply]
  have e : ((cfg0.win 0).blk t).view.emb (ix2 r l) = (ix2 r ⟨t.val / 2 * 512 + l, by omega⟩ : S4224x4096.Idx) := by
    funext a; apply Fin.ext; fin_cases a
    · show win0_0.index t (0 : Fin 2) * 4224 + 1 * (r : Fin 4224).val = r.val; rw [e0]; omega
    · show win0_0.index t (1 : Fin 2) * 512 + 1 * (l : Fin 512).val = t.val / 2 * 512 + l.val; rw [e1]; omega
  show (V m c main_arg0 : Vec Ideal S4224x4096 .bf16) (((cfg0.win 0).blk t).view.emb (ix2 r l)) = _
  rw [e, V_main_arg0]

/-- A column block of the incoming gradient. -/
theorem ib1 (c : Dev nD) (t : Fin cfg0.N) (r : Fin 4224) (l : Fin 512) :
    (iblk m c 1 t : Vec Ideal S4224x512 .bf16) (ix2 r l)
      = aD m c (ix2 r ⟨t.val % 2 * 512 + l, by omega⟩) := by
  obtain ⟨e0, e1⟩ := idx1 t
  unfold iblk
  rw [View.read_apply]
  have e : ((cfg0.win 1).blk t).view.emb (ix2 r l) = (ix2 r ⟨t.val % 2 * 512 + l, by omega⟩ : S4224x1024.Idx) := by
    funext a; apply Fin.ext; fin_cases a
    · show win0_1.index t (0 : Fin 2) * 4224 + 1 * (r : Fin 4224).val = r.val; rw [e0]; omega
    · show win0_1.index t (1 : Fin 2) * 512 + 1 * (l : Fin 512).val = t.val % 2 * 512 + l.val; rw [e1]; omega
  show (V m c main_arg1 : Vec Ideal S4224x1024 .bf16) (((cfg0.win 1).blk t).view.emb (ix2 r l)) = _
  rw [e, V_main_arg1]

/-- What a point leaves in the output's block. -/
theorem vout (c : Dev nD) (i : grid0.Coords) (arg2 : Memref sig .tc .vmem S4224x512 .bf16) (harg2 : arg2.IsWhole) (arg3 : Memref sig .tc .vmem S4224x512 .bf16) (harg3 : arg3.IsWhole) (arg5 : Memref sig .tc .vmem S1x1x512x512 .bf16) (harg5 : arg5.IsWhole)
    (x0 : Vec Ideal S4224x512 .bf16) (x1 : Vec Ideal S4224x512 .bf16) :
    out0_A_2 (F := Ideal) c i arg2 harg2 arg3 harg3 arg5 harg5 x0 x1 = k0_pay1 x0 x1 := by
  unfold out0_A_2
  rw [View.read_writes_eq_canon _ _ _ (cover0_A_2 c i arg2 harg2 arg3 harg3 arg5 harg5 x0 x1)]
  unfold kernelRun0_A
  dsimp only
  (try sl_unfold_words)
  simp only [View.canon_cons_unit_zero (S := S1x1x512x512) MlpCase.hz4, View.readAt_eq_ld, harg2.read_unread, harg3.read_unread, View.ld_unit_zero (S := S4224x512) MlpCase.hz]

/-- The array the kernel leaves. -/
theorem arr (c : Dev nD) (q : Fin 4) (b : Fin 2) (r l : Fin 1024) :
    ((dats m 0 c).arrAt 2 cfg0.N : Vec Ideal S4x2x1024x1024 .bf16) (ix4 q b r l) = stack (aX m c) (aD m c) (aW m c) q b r l := by
  unfold stack
  by_cases hb : b = 0
  · subst hb
    rw [if_pos rfl]
    let t : Fin cfg0.N := ⟨q.val * 4 + r.val / 512 * 2 + l.val / 512, by rw [N16]; omega⟩
    obtain ⟨e0, e1, e2, e3⟩ := idx2 t
    have ht : t.val = q.val * 4 + r.val / 512 * 2 + l.val / 512 := rfl
    have e : ((cfg0.win 2).blk t).view.emb (ix4 0 0 ⟨r.val % 512, by omega⟩ ⟨l.val % 512, by omega⟩ : S1x1x512x512.Idx) = (ix4 q 0 r l : S4x2x1024x1024.Idx) := by
      funext a; apply Fin.ext; fin_cases a
      · show win0_2.index t (0 : Fin 4) * 1 + 1 * 0 = q.val; rw [e0]; omega
      · show win0_2.index t (1 : Fin 4) * 1 + 1 * 0 = 0; rw [e1]
      · show win0_2.index t (2 : Fin 4) * 512 + 1 * (r.val % 512) = r.val; rw [e2]; omega
      · show win0_2.index t (3 : Fin 4) * 512 + 1 * (l.val % 512) = l.val; rw [e3]; omega
    have h := congrFun (blocks2 m c t (flush0_2 t)) (ix4 0 0 ⟨r.val % 512, by omega⟩ ⟨l.val % 512, by omega⟩ : S1x1x512x512.Idx)
    rw [View.read_apply, e, flushed2_A, vout] at h
    refine Eq.trans h ?_
    show k0_pay1 _ _ (ix4 0 0 (⟨r.val % 512, by omega⟩ : Fin 512) (⟨l.val % 512, by omega⟩ : Fin 512)) = _
    rw [pay1_apply]
    unfold grad
    refine Finset.sum_congr rfl fun k _ => ?_
    rw [ib0, ib1]
    have er : (⟨t.val / 2 * 512 + r.val % 512, by omega⟩ : Fin 4096) = ⟨q * 1024 + r, by omega⟩ :=
      Fin.ext (by show t.val / 2 * 512 + r.val % 512 = q.val * 1024 + r.val; omega)
    have el : (⟨t.val % 2 * 512 + l.val % 512, by omega⟩ : Fin 1024) = l := Fin.ext (by show t.val % 2 * 512 + l.val % 512 = l.val; omega)
    exact congrArg₂ (fun a b => max (aX m c (ix2 k a)) 0 * max (aX m c (ix2 k a)) 0 * aD m c (ix2 k b)) er el
  · rw [if_neg hb]
    have h := entry2 m c (ix4 q b r l : S4x2x1024x1024.Idx) (fun t _ hm => by
      obtain ⟨y, hy⟩ := View.exists_emb_of_mem_set _ hm
      obtain ⟨e0, e1, e2, e3⟩ := idx2 t
      have h1 := congrArg Fin.val (congrFun hy (1 : Fin 4))
      have h2 : win0_2.index t (1 : Fin 4) * 1 + 1 * (y (1 : Fin 4)).val = b.val := h1
      have h3 : (y (1 : Fin 4)).val < 1 := (y (1 : Fin 4)).isLt
      rw [e1] at h2
      exact hb (Fin.ext (by show b.val = 0; omega)))
    refine Eq.trans h ?_
    exact congrFun (V0 m c) (ix4 q b r l)

/-- The kernel's array and the reference's result are the same function of the arguments. -/
theorem alg (hK : Cert.DwdownIdeal.Facts) (hR : Cert.DwdownRefIdeal.Facts) : @Cert.algebraic_DwdownIdeal_DwdownRefIdeal hK hR := by
  intro m ρ m' ρ' _ hag
  refine ⟨fun c (i : S4x2x1024x1024.Idx) => stack (aX m c) (aD m c) (aW m c) (i 0) (i 1) (i 2) (i 3), ?_, ?_⟩
  · refine (θ_run _ _ _).mono (fun r h c => ?_) (Cert.DwdownIdeal.Value.run_blocks m ρ)
    obtain ⟨a, f⟩ := h c
    refine ⟨a.trans ?_, f⟩
    funext i
    obtain ⟨q, b, r, l, rfl⟩ : ∃ (q : Fin 4) (b : Fin 2) (r l : Fin 1024), i = ix4 q b r l := ⟨i 0, i 1, i 2, i 3, by funext a; fin_cases a <;> rfl⟩
    exact arr m c q b r l
  · refine (θ_run _ _ _).mono (fun r h c => ?_) (Cert.DwdownRefIdeal.Value.run m' ρ')
    obtain ⟨a, f⟩ := h c
    obtain ⟨g0, g1, g2⟩ := hag c
    rw [Cert.DwdownRefIdeal.Read.val_main_v14_eq, g0, g1, g2] at a
    refine ⟨a.trans ?_, f⟩
    funext i
    obtain ⟨q, b, r, l, rfl⟩ : ∃ (q : Fin 4) (b : Fin 2) (r l : Fin 1024), i = ix4 q b r l := ⟨i 0, i 1, i 2, i 3, by funext a; fin_cases a <;> rfl⟩
    exact ref14 _ _ _ q b r l

end Cert.DwdownFinal

end
-- ==== Proof.Dwup1Final.lean ====
module

public import proofs.«01_k».proof.Proof.MlpCase
public import proofs.«01_k».proof.Proof.Gen.Dwup1Ideal.Value
public import proofs.«01_k».proof.Proof.Gen.Dwup1RefIdeal.Read
public import proofs.«01_k».proof.Defs
public import Idealize.ShloMosaic.Lib.Claim
public import Idealize.ShloMosaic.Lib.StableHlo.Run

@[expose] public section

/-!
# The kernel of the up projection's weight gradient

Point `t` of the 16 fills rows `(t / 8) * 512 …` and columns `(t % 2) * 512 …` of shard `(t % 8) / 2` of the stack's second
member; nothing is claimed of the first.
-/

set_option maxRecDepth 16384

noncomputable section

namespace Cert.Dwup1Final

open Cert.Dwup1Ideal Cert.Dwup1Ideal.Gen Cert.Dwup1Ideal.Value Idealize.ShloMosaic Idealize.ShloMosaic.TcCoe Idealize.SL.Sem

/-- The weight gradient: the normalised input transposed, times the pre-activation's gradient. -/
def grad (x : Vec Ideal S4224x1024 .bf16) (d : Vec Ideal S4224x4096 .bf16) (r : Fin 1024) (l : Fin 4096) : EReal :=
  ∑ k : Fin 4224, x (ix2 k r) * d (ix2 k l)

/-- The stack of both layers' gradients by column shard: the second layer's is computed. -/
def stack (x : Vec Ideal S4224x1024 .bf16) (d : Vec Ideal S4224x4096 .bf16) (q : Fin 4) (b : Fin 2) (r l : Fin 1024) : EReal :=
  if b = 0 then 0 else grad x d r ⟨q * 1024 + l, by omega⟩

/-- One point's product at an element. -/
theorem pay1_apply (x : Vec Ideal S4224x512 .bf16) (d : Vec Ideal S4224x512 .bf16) (a b : Fin 1) (r l : Fin 512) :
    k0_pay1 x d (ix4 a b r l) = ∑ k : Fin 4224, x (ix2 k r) * d (ix2 k l) := by
  pointwise [k0_pay1]

/-- The reference's gradient at an element. -/
theorem ref4 (x : Vec Ideal S4224x1024 .bf16) (d : Vec Ideal S4224x4096 .bf16) (r : Fin 4096) (l : Fin 1024) :
    Cert.Dwup1RefIdeal.Read.val_main_v4 (F := Ideal) x d (ix2 r l) = grad x d l r := by
  unfold grad
  pointwise [Cert.Dwup1RefIdeal.Read.val_main_v4, Cert.Dwup1RefIdeal.Read.val_main_v3, Cert.Dwup1RefIdeal.Read.val_main_v1]
  exact Finset.sum_congr rfl fun k _ => mul_comm _ _

/-- The reference's result at an element. -/
theorem ref12 (x : Vec Ideal S4224x1024 .bf16) (d : Vec Ideal S4224x4096 .bf16) (q : Fin 4) (b : Fin 2) (r l : Fin 1024) :
    Cert.Dwup1RefIdeal.Read.val_main_v12 (F := Ideal) x d (ix4 q b r l) = stack x d q b r l := by
  unfold stack
  pointwise [Cert.Dwup1RefIdeal.Read.val_main_v12, Cert.Dwup1RefIdeal.Read.val_main_v11, Cert.Dwup1RefIdeal.Read.val_main_v10, Cert.Dwup1RefIdeal.Read.val_main_v9, Cert.Dwup1RefIdeal.Read.val_main_v8, Cert.Dwup1RefIdeal.Read.val_main_v7, Cert.Dwup1RefIdeal.Read.val_main_v6, Cert.Dwup1RefIdeal.Read.val_main_v5, Cert.Dwup1RefIdeal.Read.val_main_cst_0, ref4]
  by_cases hb : b = 0
  · subst hb; rfl
  · have hb1 : b = 1 := by omega
    subst hb1; rfl

/-- The mask selects the second member alone. -/
theorem mask [Cert.On_dwup1_on.Facts] (x : Vec Ideal S4224x1024 .bf16) (d : Vec Ideal S4224x4096 .bf16) (q : Fin 4) (b : Fin 2) (r l : Fin 1024)
    (h : Cert.On_dwup1_on.fn (F := Ideal) x d (ix4 q b r l) = 1#1) : b = 1 := by
  revert h
  unfold Cert.On_dwup1_on.fn
  pointwise
  revert b
  decide

variable (m : (ℓ : Loc nD τ sig) → Buf (Elt Ideal) ℓ)

/-- The saved normalised input. -/
abbrev aX (c : Dev nD) : Vec Ideal S4224x1024 .bf16 := m ((c : Thread nD τ).loc main_arg0)
/-- The pre-activation's gradient. -/
abbrev aD (c : Dev nD) : Vec Ideal S4224x4096 .bf16 := m ((c : Thread nD τ).loc main_arg1)
theorem N16 : cfg0.N = 16 := by decide

theorem idx0 : ∀ t : Fin cfg0.N, win0_0.index t (0 : Fin 2) = 0 ∧ win0_0.index t (1 : Fin 2) = t.val / 8 :=
  (by decide +kernel : ∀ t : Fin grid0.N, _)

theorem idx1 : ∀ t : Fin cfg0.N, win0_1.index t (0 : Fin 2) = 0 ∧ win0_1.index t (1 : Fin 2) = t.val % 8 :=
  (by decide +kernel : ∀ t : Fin grid0.N, _)

theorem idx2 : ∀ t : Fin cfg0.N, win0_2.index t (0 : Fin 4) = t.val % 8 / 2 ∧ win0_2.index t (1 : Fin 4) = 1 ∧ win0_2.index t (2 : Fin 4) = t.val / 8
    ∧ win0_2.index t (3 : Fin 4) = t.val % 2 :=
  (by decide +kernel : ∀ t : Fin grid0.N, _)

/-- A column block of the normalised input. -/
theorem ib0 (c : Dev nD) (t : Fin cfg0.N) (r : Fin 4224) (l : Fin 512) :
    (iblk m c 0 t : Vec Ideal S4224x512 .bf16) (ix2 r l)
      = aX m c (ix2 r ⟨t.val / 8 * 512 + l, by have := lt_of_lt_of_eq t.isLt N16; omega⟩) := by
  have hN := lt_of_lt_of_eq t.isLt N16
  obtain ⟨e0, e1⟩ := idx0 t
  unfold iblk
  rw [View.read_apply]
  have e : ((cfg0.win 0).blk t).view.emb (ix2 r l) = (ix2 r ⟨t.val / 8 * 512 + l, by omega⟩ : S4224x1024.Idx) := by
    funext a; apply Fin.ext; fin_cases a
    · show win0_0.index t (0 : Fin 2) * 4224 + 1 * (r : Fin 4224).val = r.val; rw [e0]; omega
    · show win0_0.index t (1 : Fin 2) * 512 + 1 * (l : Fin 512).val = t.val / 8 * 512 + l.val; rw [e1]; omega
  show (V m c main_arg0 : Vec Ideal S4224x1024 .bf16) (((cfg0.win 0).blk t).view.emb (ix2 r l)) = _
  rw [e, V_main_arg0]

/-- A column block of the pre-activation's gradient. -/
theorem ib1 (c : Dev nD) (t : Fin cfg0.N) (r : Fin 4224) (l : Fin 512) :
    (iblk m c 1 t : Vec Ideal S4224x512 .bf16) (ix2 r l)
      = aD m c (ix2 r ⟨t.val % 8 * 512 + l, by omega⟩) := by
  obtain ⟨e0, e1⟩ := idx1 t
  unfold iblk
  rw [View.read_apply]
  have e : ((cfg0.win 1).blk t).view.emb (ix2 r l) = (ix2 r ⟨t.val % 8 * 512 + l, by omega⟩ : S4224x4096.Idx) := by
    funext a; apply Fin.ext; fin_cases a
    · show win0_1.index t (0 : Fin 2) * 4224 + 1 * (r : Fin 4224).val = r.val; rw [e0]; omega
    · show win0_1.index t (1 : Fin 2) * 512 + 1 * (l : Fin 512).val = t.val % 8 * 512 + l.val; rw [e1]; omega
  show (V m c main_arg1 : Vec Ideal S4224x4096 .bf16) (((cfg0.win 1).blk t).view.emb (ix2 r l)) = _
  rw [e, V_main_arg1]

/-- What a point leaves in the output's block. -/
theorem vout (x0 x1 : Vec Ideal S4224x512 .bf16) : out0_2 (F := Ideal) x0 x1 = k0_pay1 x0 x1 := by
  unfold out0_2
  simp only [View.canon_unit_zero (S := S1x1x512x512) MlpCase.hz4, View.ld_unit_zero (S := S4224x512) MlpCase.hz]

/-- The array the kernel leaves, at the second member. -/
theorem arr (c : Dev nD) (q : Fin 4) (r l : Fin 1024) :
    ((dats m 0 c).arrAt 2 cfg0.N : Vec Ideal S4x2x1024x1024 .bf16) (ix4 q 1 r l) = stack (aX m c) (aD m c) q 1 r l := by
  unfold stack
  · rw [if_neg (by decide)]
    let t : Fin cfg0.N := ⟨r.val / 512 * 8 + q.val * 2 + l.val / 512, by rw [N16]; omega⟩
    obtain ⟨e0, e1, e2, e3⟩ := idx2 t
    have ht : t.val = r.val / 512 * 8 + q.val * 2 + l.val / 512 := rfl
    have e : ((cfg0.win 2).blk t).view.emb (ix4 0 0 ⟨r.val % 512, by omega⟩ ⟨l.val % 512, by omega⟩ : S1x1x512x512.Idx) = (ix4 q 1 r l : S4x2x1024x1024.Idx) := by
      funext a; apply Fin.ext; fin_cases a
      · show win0_2.index t (0 : Fin 4) * 1 + 1 * 0 = q.val; rw [e0]; omega
      · show win0_2.index t (1 : Fin 4) * 1 + 1 * 0 = 1; rw [e1]
      · show win0_2.index t (2 : Fin 4) * 512 + 1 * (r.val % 512) = r.val; rw [e2]; omega
      · show win0_2.index t (3 : Fin 4) * 512 + 1 * (l.val % 512) = l.val; rw [e3]; omega
    have h := congrFun (blocks2 m c t (flush0_2 t)) (ix4 0 0 ⟨r.val % 512, by omega⟩ ⟨l.val % 512, by omega⟩ : S1x1x512x512.Idx)
    rw [View.read_apply, e, flushed2, vout] at h
    refine Eq.trans h ?_
    show k0_pay1 _ _ (ix4 0 0 (⟨r.val % 512, by omega⟩ : Fin 512) (⟨l.val % 512, by omega⟩ : Fin 512)) = _
    rw [pay1_apply]
    unfold grad
    refine Finset.sum_congr rfl fun k _ => ?_
    rw [ib0, ib1]
    have er : (⟨t.val / 8 * 512 + r.val % 512, by omega⟩ : Fin 1024) = r := Fin.ext (by show t.val / 8 * 512 + r.val % 512 = r.val; omega)
    have el : (⟨t.val % 8 * 512 + l.val % 512, by omega⟩ : Fin 4096) = ⟨q * 1024 + l, by omega⟩ :=
      Fin.ext (by show t.val % 8 * 512 + l.val % 512 = q.val * 1024 + l.val; omega)
    exact congrArg₂ (fun a b => aX m c (ix2 k a) * aD m c (ix2 k b)) er el

/-- Where the mask is set the kernel's array and the reference's result are the same function of the arguments. -/
theorem alg (hK : Cert.Dwup1Ideal.Facts) (hR : Cert.Dwup1RefIdeal.Facts) (hM : Cert.On_dwup1_on.Facts) :
    @Cert.algebraic_Dwup1Ideal_Dwup1RefIdeal_on_dwup1_on hK hR hM := by
  intro m ρ m' ρ' _ hag
  refine ⟨fun c (i : S4x2x1024x1024.Idx) => stack (aX m c) (aD m c) (i 0) (i 1) (i 2) (i 3), ?_, ?_⟩
  · refine (θ_run _ _ _).mono (fun r h c => ?_) (Cert.Dwup1Ideal.Value.run_blocks m ρ)
    obtain ⟨a, f⟩ := h c
    refine ⟨fun i hi => (congrFun a i).trans ?_, f⟩
    obtain ⟨q, b, r, l, rfl⟩ : ∃ (q : Fin 4) (b : Fin 2) (r l : Fin 1024), i = ix4 q b r l := ⟨i 0, i 1, i 2, i 3, by funext a; fin_cases a <;> rfl⟩
    obtain rfl := mask _ _ q b r l hi
    exact arr m c q r l
  · refine (θ_run _ _ _).mono (fun r h c => ?_) (Cert.Dwup1RefIdeal.Value.run m' ρ')
    obtain ⟨a, f⟩ := h c
    obtain ⟨g0, g1⟩ := hag c
    rw [Cert.Dwup1RefIdeal.Read.val_main_v12_eq, g0, g1] at a
    refine ⟨fun i _ => (congrFun a i).trans ?_, f⟩
    obtain ⟨q, b, r, l, rfl⟩ : ∃ (q : Fin 4) (b : Fin 2) (r l : Fin 1024), i = ix4 q b r l := ⟨i 0, i 1, i 2, i 3, by funext a; fin_cases a <;> rfl⟩
    exact ref12 _ _ q b r l

end Cert.Dwup1Final

end
-- ==== Proof.Dwdown1Final.lean ====
module

public import proofs.«01_k».proof.Proof.MlpCase
public import proofs.«01_k».proof.Proof.Gen.Dwdown1Ideal.Value
public import proofs.«01_k».proof.Proof.Gen.Dwdown1RefIdeal.Read
public import proofs.«01_k».proof.Defs
public import Idealize.ShloMosaic.Lib.Claim
public import Idealize.ShloMosaic.Lib.StableHlo.Run

@[expose] public section

/-!
# The kernel of the down projection's weight gradient

Point `t` of the 16 fills rows `(t / 2 % 2) * 512 …` and columns `(t % 2) * 512 …` of shard `t / 4` of the stack's second
member; nothing is claimed of the first.
-/

set_option maxRecDepth 16384

noncomputable section

namespace Cert.Dwdown1Final

open Cert.Dwdown1Ideal Cert.Dwdown1Ideal.Gen Cert.Dwdown1Ideal.Value Idealize.ShloMosaic Idealize.ShloMosaic.TcCoe Idealize.SL.Sem

/-- The weight gradient: the square of the rectified pre-activation, transposed, times the incoming gradient. -/
def grad (x : Vec Ideal S4224x4096 .bf16) (d : Vec Ideal S4224x1024 .bf16) (r : Fin 4096) (l : Fin 1024) : EReal :=
  ∑ k : Fin 4224, max (x (ix2 k r)) 0 * max (x (ix2 k r)) 0 * d (ix2 k l)

/-- The stack of both layers' gradients by row shard: the second layer's is computed. -/
def stack (x : Vec Ideal S4224x4096 .bf16) (d : Vec Ideal S4224x1024 .bf16) (q : Fin 4) (b : Fin 2) (r l : Fin 1024) : EReal :=
  if b = 0 then 0 else grad x d ⟨q * 1024 + r, by omega⟩ l

/-- One point's product at an element. -/
theorem pay1_apply (x : Vec Ideal S4224x512 .bf16) (d : Vec Ideal S4224x512 .bf16) (a b : Fin 1) (r l : Fin 512) :
    k0_pay1 x d (ix4 a b r l) = ∑ k : Fin 4224, max (α := EReal) (x (ix2 k r)) 0 * max (α := EReal) (x (ix2 k r)) 0 * d (ix2 k l) := by
  pointwise [k0_pay1]

/-- The reference's gradient at an element. -/
theorem ref6 (x : Vec Ideal S4224x4096 .bf16) (d : Vec Ideal S4224x1024 .bf16) (r : Fin 1024) (l : Fin 4096) :
    Cert.Dwdown1RefIdeal.Read.val_main_v6 (F := Ideal) x d (ix2 r l) = grad x d l r := by
  unfold grad
  pointwise [Cert.Dwdown1RefIdeal.Read.val_main_v6, Cert.Dwdown1RefIdeal.Read.val_main_v5, Cert.Dwdown1RefIdeal.Read.val_main_v3,
    Cert.Dwdown1RefIdeal.Read.val_main_v2, Cert.Dwdown1RefIdeal.Read.val_main_v1, Cert.Dwdown1RefIdeal.Read.val_main_call0_v0,
    Cert.Dwdown1RefIdeal.Read.val_main_call0_cst]
  exact Finset.sum_congr rfl fun k _ => mul_comm _ _

/-- The reference's result at an element. -/
theorem ref13 (x : Vec Ideal S4224x4096 .bf16) (d : Vec Ideal S4224x1024 .bf16) (q : Fin 4) (b : Fin 2) (r l : Fin 1024) :
    Cert.Dwdown1RefIdeal.Read.val_main_v13 (F := Ideal) x d (ix4 q b r l) = stack x d q b r l := by
  unfold stack
  pointwise [Cert.Dwdown1RefIdeal.Read.val_main_v13, Cert.Dwdown1RefIdeal.Read.val_main_v12, Cert.Dwdown1RefIdeal.Read.val_main_v11, Cert.Dwdown1RefIdeal.Read.val_main_v10, Cert.Dwdown1RefIdeal.Read.val_main_v9, Cert.Dwdown1RefIdeal.Read.val_main_v8, Cert.Dwdown1RefIdeal.Read.val_main_v7, Cert.Dwdown1RefIdeal.Read.val_main_cst_0, ref6]
  by_cases hb : b = 0
  · subst hb; rfl
  · have hb1 : b = 1 := by omega
    subst hb1; rfl

/-- The mask selects the second member alone. -/
theorem mask [Cert.On_dwdown1_on.Facts] (x : Vec Ideal S4224x4096 .bf16) (d : Vec Ideal S4224x1024 .bf16) (q : Fin 4) (b : Fin 2) (r l : Fin 1024)
    (h : Cert.On_dwdown1_on.fn (F := Ideal) x d (ix4 q b r l) = 1#1) : b = 1 := by
  revert h
  unfold Cert.On_dwdown1_on.fn
  pointwise
  revert b
  decide

variable (m : (ℓ : Loc nD τ sig) → Buf (Elt Ideal) ℓ)

/-- The saved pre-activation. -/
abbrev aX (c : Dev nD) : Vec Ideal S4224x4096 .bf16 := m ((c : Thread nD τ).loc main_arg0)
/-- The incoming gradient. -/
abbrev aD (c : Dev nD) : Vec Ideal S4224x1024 .bf16 := m ((c : Thread nD τ).loc main_arg1)
theorem N16 : cfg0.N = 16 := by decide

theorem idx0 : ∀ t : Fin cfg0.N, win0_0.index t (0 : Fin 2) = 0 ∧ win0_0.index t (1 : Fin 2) = t.val / 2 :=
  (by decide +kernel : ∀ t : Fin grid0.N, _)

theorem idx1 : ∀ t : Fin cfg0.N, win0_1.index t (0 : Fin 2) = 0 ∧ win0_1.index t (1 : Fin 2) = t.val % 2 :=
  (by decide +kernel : ∀ t : Fin grid0.N, _)

theorem idx2 : ∀ t : Fin cfg0.N, win0_2.index t (0 : Fin 4) = t.val / 4 ∧ win0_2.index t (1 : Fin 4) = 1 ∧ win0_2.index t (2 : Fin 4) = t.val / 2 % 2
    ∧ win0_2.index t (3 : Fin 4) = t.val % 2 :=
  (by decide +kernel : ∀ t : Fin grid0.N, _)

/-- A column block of the saved pre-activation. -/
theorem ib0 (c : Dev nD) (t : Fin cfg0.N) (r : Fin 4224) (l : Fin 512) :
    (iblk m c 0 t : Vec Ideal S4224x512 .bf16) (ix2 r l)
      = aX m c (ix2 r ⟨t.val / 2 * 512 + l, by have := lt_of_lt_of_eq t.isLt N16; omega⟩) := by
  have hN := lt_of_lt_of_eq t.isLt N16
  obtain ⟨e0, e1⟩ := idx0 t
  unfold iblk
  rw [View.read_apply]
  have e : ((cfg0.win 0).blk t).view.emb (ix2 r l) = (ix2 r ⟨t.val / 2 * 512 + l, by omega⟩ : S4224x4096.Idx) := by
    funext a; apply Fin.ext; fin_cases a
    · show win0_0.index t (0 : Fin 2) * 4224 + 1 * (r : Fin 4224).val = r.val; rw [e0]; omega
    · show win0_0.index t (1 : Fin 2) * 512 + 1 * (l : Fin 512).val = t.val / 2 * 512 + l.val; rw [e1]; omega
  show (V m c main_arg0 : Vec Ideal S4224x4096 .bf16) (((cfg0.win 0).blk t).view.emb (ix2 r l)) = _
  rw [e, V_main_arg0]

/-- A column block of the incoming gradient. -/
theorem ib1 (c : Dev nD) (t : Fin cfg0.N) (r : Fin 4224) (l : Fin 512) :
    (iblk m c 1 t : Vec Ideal S4224x512 .bf16) (ix2 r l)
      = aD m c (ix2 r ⟨t.val % 2 * 512 + l, by omega⟩) := by
  obtain ⟨e0, e1⟩ := idx1 t
  unfold iblk
  rw [View.read_apply]
  have e : ((cfg0.win 1).blk t).view.emb (ix2 r l) = (ix2 r ⟨t.val % 2 * 512 + l, by omega⟩ : S4224x1024.Idx) := by
    funext a; apply Fin.ext; fin_cases a
    · show win0_1.index t (0 : Fin 2) * 4224 + 1 * (r : Fin 4224).val = r.val; rw [e0]; omega
    · show win0_1.index t (1 : Fin 2) * 512 + 1 * (l : Fin 512).val = t.val % 2 * 512 + l.val; rw [e1]; omega
  show (V m c main_arg1 : Vec Ideal S4224x1024 .bf16) (((cfg0.win 1).blk t).view.emb (ix2 r l)) = _
  rw [e, V_main_arg1]

/-- What a point leaves in the output's block. -/
theorem vout (x0 x1 : Vec Ideal S4224x512 .bf16) : out0_2 (F := Ideal) x0 x1 = k0_pay1 x0 x1 := by
  unfold out0_2
  simp only [View.canon_unit_zero (S := S1x1x512x512) MlpCase.hz4, View.ld_unit_zero (S := S4224x512) MlpCase.hz]

/-- The array the kernel leaves, at the second member. -/
theorem arr (c : Dev nD) (q : Fin 4) (r l : Fin 1024) :
    ((dats m 0 c).arrAt 2 cfg0.N : Vec Ideal S4x2x1024x1024 .bf16) (ix4 q 1 r l) = stack (aX m c) (aD m c) q 1 r l := by
  unfold stack
  · rw [if_neg (by decide)]
    let t : Fin cfg0.N := ⟨q.val * 4 + r.val / 512 * 2 + l.val / 512, by rw [N16]; omega⟩
    obtain ⟨e0, e1, e2, e3⟩ := idx2 t
    have ht : t.val = q.val * 4 + r.val / 512 * 2 + l.val / 512 := rfl
    have e : ((cfg0.win 2).blk t).view.emb (ix4 0 0 ⟨r.val % 512, by omega⟩ ⟨l.val % 512, by omega⟩ : S1x1x512x512.Idx) = (ix4 q 1 r l : S4x2x1024x1024.Idx) := by
      funext a; apply Fin.ext; fin_cases a
      · show win0_2.index t (0 : Fin 4) * 1 + 1 * 0 = q.val; rw [e0]; omega
      · show win0_2.index t (1 : Fin 4) * 1 + 1 * 0 = 1; rw [e1]
      · show win0_2.index t (2 : Fin 4) * 512 + 1 * (r.val % 512) = r.val; rw [e2]; omega
      · show win0_2.index t (3 : Fin 4) * 512 + 1 * (l.val % 512) = l.val; rw [e3]; omega
    have h := congrFun (blocks2 m c t (flush0_2 t)) (ix4 0 0 ⟨r.val % 512, by omega⟩ ⟨l.val % 512, by omega⟩ : S1x1x512x512.Idx)
    rw [View.read_apply, e, flushed2, vout] at h
    refine Eq.trans h ?_
    show k0_pay1 _ _ (ix4 0 0 (⟨r.val % 512, by omega⟩ : Fin 512) (⟨l.val % 512, by omega⟩ : Fin 512)) = _
    rw [pay1_apply]
    unfold grad
    refine Finset.sum_congr rfl fun k _ => ?_
    rw [ib0, ib1]
    have er : (⟨t.val / 2 * 512 + r.val % 512, by omega⟩ : Fin 4096) = ⟨q * 1024 + r, by omega⟩ :=
      Fin.ext (by show t.val / 2 * 512 + r.val % 512 = q.val * 1024 + r.val; omega)
    have el : (⟨t.val % 2 * 512 + l.val % 512, by omega⟩ : Fin 1024) = l := Fin.ext (by show t.val % 2 * 512 + l.val % 512 = l.val; omega)
    exact congrArg₂ (fun a b => max (aX m c (ix2 k a)) 0 * max (aX m c (ix2 k a)) 0 * aD m c (ix2 k b)) er el

/-- Where the mask is set the kernel's array and the reference's result are the same function of the arguments. -/
theorem alg (hK : Cert.Dwdown1Ideal.Facts) (hR : Cert.Dwdown1RefIdeal.Facts) (hM : Cert.On_dwdown1_on.Facts) :
    @Cert.algebraic_Dwdown1Ideal_Dwdown1RefIdeal_on_dwdown1_on hK hR hM := by
  intro m ρ m' ρ' _ hag
  refine ⟨fun c (i : S4x2x1024x1024.Idx) => stack (aX m c) (aD m c) (i 0) (i 1) (i 2) (i 3), ?_, ?_⟩
  · refine (θ_run _ _ _).mono (fun r h c => ?_) (Cert.Dwdown1Ideal.Value.run_blocks m ρ)
    obtain ⟨a, f⟩ := h c
    refine ⟨fun i hi => (congrFun a i).trans ?_, f⟩
    obtain ⟨q, b, r, l, rfl⟩ : ∃ (q : Fin 4) (b : Fin 2) (r l : Fin 1024), i = ix4 q b r l := ⟨i 0, i 1, i 2, i 3, by funext a; fin_cases a <;> rfl⟩
    obtain rfl := mask _ _ q b r l hi
    exact arr m c q r l
  · refine (θ_run _ _ _).mono (fun r h c => ?_) (Cert.Dwdown1RefIdeal.Value.run m' ρ')
    obtain ⟨a, f⟩ := h c
    obtain ⟨g0, g1⟩ := hag c
    rw [Cert.Dwdown1RefIdeal.Read.val_main_v13_eq, g0, g1] at a
    refine ⟨fun i _ => (congrFun a i).trans ?_, f⟩
    obtain ⟨q, b, r, l, rfl⟩ : ∃ (q : Fin 4) (b : Fin 2) (r l : Fin 1024), i = ix4 q b r l := ⟨i 0, i 1, i 2, i 3, by funext a; fin_cases a <;> rfl⟩
    exact ref13 _ _ q b r l

end Cert.Dwdown1Final

end
-- ==== Proof.ConvFinal.lean ====
module

public import proofs.«01_k».proof.Proof.MlpCase
public import proofs.«01_k».proof.Proof.Gen.ConvIdeal.Value
public import proofs.«01_k».proof.Proof.Gen.ConvRefIdeal.Run
public import proofs.«01_k».proof.Proof.Gen.ConvRefIdeal.Read
public import proofs.«01_k».proof.Defs
public import Idealize.ShloMosaic.Lib.Claim
public import Idealize.ShloMosaic.Lib.StableHlo.Run

@[expose] public section

/-!
# The kernel of the causal convolution's gradient

Point `t` of the 22 works on rows `t * 192 …`. Two buffers hold the point's rows with 8 rows of a neighbour: the convolution's input with
the rows before them, zero at the first point, and the incoming gradient with the rows after them, zero at the last point. The gradient of the
input is written row block by row block; the gradients of the weights and of the bias are accumulated over the points.
-/

set_option maxRecDepth 16384

noncomputable section

namespace Cert.ConvFinal

open Cert.ConvIdeal Cert.ConvIdeal.Gen Cert.ConvIdeal.Value Idealize.ShloMosaic Idealize.ShloMosaic.TcCoe Idealize.SL.Sem
open Cert.MlpCase (hz readCov_ld)

/-! ## The two buffers -/

/-- A buffer whose last 192 rows were stored over its first 8: what its row `p` holds. -/
theorem canon_hi (cur : Vec Ideal S192x1024 .f32) (halo : Vec Ideal S8x1024 .f32) (i1 i2) (p : Fin 200) (l : Fin 1024) :
    View.canon (Val := Elt Ideal) (s := S200x1024) (e := .f32) [⟨Rect.unit ![8, 0] ![192, 1024] i1, cur⟩, ⟨Rect.unit ![0, 0] ![8, 1024] i2, halo⟩] (ix2 p l)
      = if h : p.val < 8 then halo (ix2 ⟨p.val, h⟩ l) else cur (ix2 ⟨p.val - 8, by omega⟩ l) := by
  by_cases h : p.val < 8
  · rw [dif_pos h, View.canon_cons_of_not_mem]
    · have e : (ix2 p l : S200x1024.Idx) = (Rect.unit (s := S200x1024) ![0, 0] ![8, 1024] i2).emb (ix2 ⟨p.val, h⟩ l : S8x1024.Idx) := by
        funext a; apply Fin.ext; fin_cases a
        · show p.val = 0 + 1 * p.val; omega
        · show l.val = 0 + 1 * l.val; omega
      rw [e]
      exact View.canon_cons_emb _ _ _ _
    · intro hm
      have h0 : 8 ≤ p.val := ((Rect.mem_set_unit (inb := i1)).mp hm (0 : Fin 2)).1
      omega
  · rw [dif_neg h]
    have e : (ix2 p l : S200x1024.Idx) = (Rect.unit (s := S200x1024) ![8, 0] ![192, 1024] i1).emb (ix2 ⟨p.val - 8, by omega⟩ l : S192x1024.Idx) := by
      funext a; apply Fin.ext; fin_cases a
      · show p.val = 8 + 1 * (p.val - 8); omega
      · show l.val = 0 + 1 * l.val; omega
    rw [e]
    exact View.canon_cons_emb _ _ _ _

/-- A buffer whose last 8 rows were stored over its first 192: what its row `p` holds. -/
theorem canon_lo (halo : Vec Ideal S8x1024 .f32) (cur : Vec Ideal S192x1024 .f32) (i1 i2) (p : Fin 200) (l : Fin 1024) :
    View.canon (Val := Elt Ideal) (s := S200x1024) (e := .f32) [⟨Rect.unit ![192, 0] ![8, 1024] i1, halo⟩, ⟨Rect.unit ![0, 0] ![192, 1024] i2, cur⟩] (ix2 p l)
      = if h : p.val < 192 then cur (ix2 ⟨p.val, h⟩ l) else halo (ix2 ⟨p.val - 192, by omega⟩ l) := by
  by_cases h : p.val < 192
  · rw [dif_pos h, View.canon_cons_of_not_mem]
    · have e : (ix2 p l : S200x1024.Idx) = (Rect.unit (s := S200x1024) ![0, 0] ![192, 1024] i2).emb (ix2 ⟨p.val, h⟩ l : S192x1024.Idx) := by
        funext a; apply Fin.ext; fin_cases a
        · show p.val = 0 + 1 * p.val; omega
        · show l.val = 0 + 1 * l.val; omega
      rw [e]
      exact View.canon_cons_emb _ _ _ _
    · intro hm
      have h0 : 192 ≤ p.val := ((Rect.mem_set_unit (inb := i1)).mp hm (0 : Fin 2)).1
      omega
  · rw [dif_neg h]
    have e : (ix2 p l : S200x1024.Idx) = (Rect.unit (s := S200x1024) ![192, 0] ![8, 1024] i1).emb (ix2 ⟨p.val - 192, by omega⟩ l : S8x1024.Idx) := by
      funext a; apply Fin.ext; fin_cases a
      · show p.val = 192 + 1 * (p.val - 192); omega
      · show l.val = 0 + 1 * l.val; omega
    rw [e]
    exact View.canon_cons_emb _ _ _ _

/-- A load of 192 rows from row `o`. -/
theorem load_rows (v : View sig .tc .vmem S200x1024 .f32) (L : List (View.Piece (Elt Ideal) S200x1024 .f32)) (o : ℕ) (ho : o ≤ 8)
    (inb : ∀ a : Fin S200x1024.rank, (![o, 0] : Fin 2 → ℕ) a + (![192, 1024] : Fin 2 → ℕ) a ≤ S200x1024.size a) :
    (v.readCov L (Rect.unit (s := S200x1024) ![o, 0] ![192, 1024] inb).toLoadRect : Vec Ideal S192x1024 .f32)
      = fun (y : S192x1024.Idx) => View.canon L (ix2 (⟨o + (y 0).val, by have h : (y 0).val < 192 := (y 0).isLt; omega⟩ : Fin 200) (y 1)) := by
  rw [View.readCov_eq_canon']
  funext y
  refine congrArg (View.canon L) ?_
  funext a; apply Fin.ext; fin_cases a
  · show o + 1 * (y 0).val = o + (y 0).val; omega
  · show 0 + 1 * (y 1).val = (y 1).val; omega

/-- Comparing a point's number with a literal. -/
theorem sel0 : ∀ (n : Fin 22) (a b : EReal), Scalar.select (Scalar.cmpi CmpIPredicate.eq (BitVec.ofNat 32 n.val) 0#32) a b = if n.val = 0 then a else b := by
  intro n a b
  fin_cases n <;> rfl

/-- The same with the last point. -/
theorem sel21 : ∀ (n : Fin 22) (a b : EReal), Scalar.select (Scalar.cmpi CmpIPredicate.eq (BitVec.ofNat 32 n.val) 21#32) a b = if n.val = 21 then a else b := by
  intro n a b
  fin_cases n <;> rfl

/-- The rows before the point's, zero at the first point. -/
theorem pay3_apply (i : grid0.Coords) (x : Vec Ideal S8x1024 .f32) (r : Fin 8) (l : Fin 1024) :
    k0_pay3 i x (ix2 r l) = if (i 0).val = 0 then 0 else x (ix2 r l) := by
  pointwise [k0_pay3]
  exact sel0 (i 0) _ _

/-- The rows after the point's, zero at the last point. -/
theorem pay6_apply (i : grid0.Coords) (x : Vec Ideal S8x1024 .f32) (r : Fin 8) (l : Fin 1024) :
    k0_pay6 i x (ix2 r l) = if (i 0).val = 21 then 0 else x (ix2 r l) := by
  pointwise [k0_pay6]
  exact sel21 (i 0) _ _

theorem pay4_eq (x : Vec Ideal S192x1024 .f32) : k0_pay4 x = x := by
  funext j
  idx_vars j
  pointwise [k0_pay4]

theorem pay5_eq (x : Vec Ideal S192x1024 .f32) : k0_pay5 x = x := by
  funext j
  idx_vars j
  pointwise [k0_pay5]

/-- Row `p` of the buffer of the convolution's input. -/
def xb (i : grid0.Coords) (x0 : Vec Ideal S192x1024 .f32) (x1 : Vec Ideal S8x1024 .f32) (p : ℕ) (l : Fin 1024) : EReal :=
  if h : p < 8 then (if (i 0).val = 0 then 0 else x1 (ix2 ⟨p, h⟩ l)) else if h : p - 8 < 192 then x0 (ix2 ⟨p - 8, h⟩ l) else 0

/-- Row `p` of the buffer of the incoming gradient. -/
def db (i : grid0.Coords) (x2 : Vec Ideal S192x1024 .f32) (x3 : Vec Ideal S8x1024 .f32) (p : ℕ) (l : Fin 1024) : EReal :=
  if h : p < 192 then x2 (ix2 ⟨p, h⟩ l) else if (i 0).val = 21 then 0 else if h : p - 192 < 8 then x3 (ix2 ⟨p - 192, h⟩ l) else 0

/-- A load of the first buffer. -/
theorem load_x (v : View sig .tc .vmem S200x1024 .f32) (i : grid0.Coords) (x0 : Vec Ideal S192x1024 .f32) (x1 : Vec Ideal S8x1024 .f32) (o : ℕ) (ho : o ≤ 8) (i1 i2)
    (inb : ∀ a : Fin S200x1024.rank, (![o, 0] : Fin 2 → ℕ) a + (![192, 1024] : Fin 2 → ℕ) a ≤ S200x1024.size a) :
    (v.readCov [⟨Rect.unit ![8, 0] ![192, 1024] i1, k0_pay4 x0⟩, ⟨Rect.unit ![0, 0] ![8, 1024] i2, k0_pay3 i x1⟩]
        (Rect.unit (s := S200x1024) ![o, 0] ![192, 1024] inb).toLoadRect : Vec Ideal S192x1024 .f32)
      = fun (y : S192x1024.Idx) => xb i x0 x1 (o + (y 0).val) (y 1) := by
  rw [load_rows _ _ o ho]
  funext y
  obtain ⟨r, l, rfl⟩ : ∃ (r : Fin 192) (l : Fin 1024), y = ix2 r l := ⟨y 0, y 1, by funext a; fin_cases a <;> rfl⟩
  refine (canon_hi (k0_pay4 x0) (k0_pay3 i x1) i1 i2 ⟨o + r.val, by omega⟩ l).trans ?_
  rw [pay4_eq]
  show _ = xb i x0 x1 (o + r.val) l
  unfold xb
  by_cases h : o + r.val < 8
  · rw [dif_pos h, dif_pos h, pay3_apply]
  · rw [dif_neg h, dif_neg h, dif_pos (by omega)]

/-- A load of the second buffer. -/
theorem load_d (v : View sig .tc .vmem S200x1024 .f32) (i : grid0.Coords) (x2 : Vec Ideal S192x1024 .f32) (x3 : Vec Ideal S8x1024 .f32) (o : ℕ) (ho : o ≤ 8) (i1 i2)
    (inb : ∀ a : Fin S200x1024.rank, (![o, 0] : Fin 2 → ℕ) a + (![192, 1024] : Fin 2 → ℕ) a ≤ S200x1024.size a) :
    (v.readCov [⟨Rect.unit ![192, 0] ![8, 1024] i1, k0_pay6 i x3⟩, ⟨Rect.unit ![0, 0] ![192, 1024] i2, k0_pay5 x2⟩]
        (Rect.unit (s := S200x1024) ![o, 0] ![192, 1024] inb).toLoadRect : Vec Ideal S192x1024 .f32)
      = fun (y : S192x1024.Idx) => db i x2 x3 (o + (y 0).val) (y 1) := by
  rw [load_rows _ _ o ho]
  funext y
  obtain ⟨r, l, rfl⟩ : ∃ (r : Fin 192) (l : Fin 1024), y = ix2 r l := ⟨y 0, y 1, by funext a; fin_cases a <;> rfl⟩
  refine (canon_lo (k0_pay6 i x3) (k0_pay5 x2) i1 i2 ⟨o + r.val, by omega⟩ l).trans ?_
  rw [pay5_eq]
  show _ = db i x2 x3 (o + r.val) l
  unfold db
  by_cases h : o + r.val < 192
  · rw [dif_pos h, dif_pos h]
  · rw [dif_neg h, dif_neg h, pay6_apply, dif_pos (by omega)]

/-! ## What a point computes -/

/-- The gradient of the point's rows of the input. -/
def dxB (i : grid0.Coords) (x2 : Vec Ideal S192x1024 .f32) (x3 : Vec Ideal S8x1024 .f32) (w : Vec Ideal S4x1024 .f32) : Vec Ideal S192x1024 .bf16 := fun y =>
  db i x2 x3 (3 + (y 0).val) (y 1) * w (ix2 0 (y 1)) + db i x2 x3 (2 + (y 0).val) (y 1) * w (ix2 1 (y 1))
    + db i x2 x3 (1 + (y 0).val) (y 1) * w (ix2 2 (y 1)) + db i x2 x3 (0 + (y 0).val) (y 1) * w (ix2 3 (y 1))

/-- The point's part of the weights' gradient. -/
def dwB (i : grid0.Coords) (x0 : Vec Ideal S192x1024 .f32) (x1 : Vec Ideal S8x1024 .f32) (x2 : Vec Ideal S192x1024 .f32) : Vec Ideal S4x1024 .f32 := fun y =>
  ∑ r : Fin 192, x2 (ix2 r (y 1)) * xb i x0 x1 (5 + (y 0).val + r.val) (y 1)

/-- The point's part of the bias's gradient. -/
def dbB (x2 : Vec Ideal S192x1024 .f32) : Vec Ideal S1x1024 .f32 := fun y => ∑ r : Fin 192, x2 (ix2 r (y 1))

/-- The four taps' sum at an element. -/
theorem pay8_apply (w : Vec Ideal S4x1024 .f32) (d a b c : Vec Ideal S192x1024 .f32) (r : Fin 192) (l : Fin 1024) :
    k0_pay8 w (k0_pay7 w d) a b c (ix2 r l)
      = d (ix2 r l) * w (ix2 0 l) + a (ix2 r l) * w (ix2 1 l) + b (ix2 r l) * w (ix2 2 l) + c (ix2 r l) * w (ix2 3 l) := by
  pointwise [k0_pay8, k0_pay7]

/-- The four taps' products with the incoming gradient, one row each. -/
theorem pay9_apply (d a0 a1 a2 a3 : Vec Ideal S192x1024 .f32) (j : Fin 4) (l : Fin 1024) :
    k0_pay9 d a0 a1 a2 a3 (ix2 j l)
      = if j.val < 1 then ∑ x, d (ix2 x l) * a0 (ix2 x l)
        else if j.val - 1 < 1 then ∑ x, d (ix2 x l) * a1 (ix2 x l)
        else if j.val - 1 - 1 < 1 then ∑ x, d (ix2 x l) * a2 (ix2 x l) else ∑ x, d (ix2 x l) * a3 (ix2 x l) := by
  pointwise [k0_pay9]
  rfl

theorem pay10_eq (d : Vec Ideal S192x1024 .f32) : k0_pay10 d = dbB d := by
  funext j
  idx_vars j
  unfold dbB
  pointwise [k0_pay10]

theorem pay1_eq (d a : Vec Ideal S4x1024 .f32) : k0_pay1 d a = fun y => a y + d y := by
  funext j
  idx_vars j
  pointwise [k0_pay1]

theorem pay2_eq (d a : Vec Ideal S1x1024 .f32) : k0_pay2 d a = fun y => a y + d y := by
  funext j
  idx_vars j
  pointwise [k0_pay2]

/-- The point's part of the weights' gradient over the buffer. -/
theorem dw_eq (i : grid0.Coords) (x0 : Vec Ideal S192x1024 .f32) (x1 : Vec Ideal S8x1024 .f32) (x2 : Vec Ideal S192x1024 .f32) :
    k0_pay9 x2 (fun y => xb i x0 x1 (5 + (y 0).val) (y 1)) (fun y => xb i x0 x1 (6 + (y 0).val) (y 1)) (fun y => xb i x0 x1 (7 + (y 0).val) (y 1))
      (fun y => xb i x0 x1 (8 + (y 0).val) (y 1)) = dwB i x0 x1 x2 := by
  funext y
  obtain ⟨j, l, rfl⟩ : ∃ (j : Fin 4) (l : Fin 1024), y = ix2 j l := ⟨y 0, y 1, by funext a; fin_cases a <;> rfl⟩
  rw [pay9_apply]
  fin_cases j <;> rfl

/-- The gradient of the point's rows over the buffer. -/
theorem dx_eq (i : grid0.Coords) (x2 : Vec Ideal S192x1024 .f32) (x3 : Vec Ideal S8x1024 .f32) (w : Vec Ideal S4x1024 .f32) :
    k0_pay8 w (k0_pay7 w (fun y => db i x2 x3 (3 + (y 0).val) (y 1))) (fun y => db i x2 x3 (2 + (y 0).val) (y 1)) (fun y => db i x2 x3 (1 + (y 0).val) (y 1))
      (fun y => db i x2 x3 (0 + (y 0).val) (y 1)) = dxB i x2 x3 w := by
  funext y
  obtain ⟨r, l, rfl⟩ : ∃ (r : Fin 192) (l : Fin 1024), y = ix2 r l := ⟨y 0, y 1, by funext a; fin_cases a <;> rfl⟩
  rw [pay8_apply]
  rfl

/-! ## The body's two cases -/

/-- The input's gradient at the first point. -/
theorem vout0_A_5 (c : Dev nD) (i : grid0.Coords) (arg1 : Memref sig .tc .vmem S192x1024 .f32) (harg1 : arg1.IsWhole) (arg2 : Memref sig .tc .vmem S8x1024 .f32) (harg2 : arg2.IsWhole) (arg3 : Memref sig .tc .vmem S192x1024 .f32) (harg3 : arg3.IsWhole) (arg4 : Memref sig .tc .vmem S8x1024 .f32) (harg4 : arg4.IsWhole) (arg5 : Memref sig .tc .vmem S4x1024 .f32) (harg5 : arg5.IsWhole) (arg7 : Memref sig .tc .vmem S192x1024 .bf16) (harg7 : arg7.IsWhole) (arg8 : Memref sig .tc .vmem S4x1024 .f32) (harg8 : arg8.IsWhole) (arg9 : Memref sig .tc .vmem S1x1024 .f32) (harg9 : arg9.IsWhole) (arg10 : Memref sig .tc .vmem S200x1024 .f32) (harg10 : arg10.IsWhole) (arg11 : Memref sig .tc .vmem S200x1024 .f32) (harg11 : arg11.IsWhole) (hc0 : cond0_0 i) (hc1 : ¬cond0_1 i)
    (x0 : Vec Ideal S192x1024 .f32) (x1 : Vec Ideal S8x1024 .f32) (x2 : Vec Ideal S192x1024 .f32) (x3 : Vec Ideal S8x1024 .f32) (x4 : Vec Ideal S4x1024 .f32) :
    out0_A_5 (F := Ideal) c i arg1 harg1 arg2 harg2 arg3 harg3 arg4 harg4 arg5 harg5 arg7 harg7 arg8 harg8 arg9 harg9 arg10 harg10 arg11 harg11 hc0 hc1 x0 x1 x2 x3 x4 = dxB i x2 x3 x4 := by
  unfold out0_A_5
  rw [View.read_writes_eq_canon _ _ _ (cover0_A_5 c i arg1 harg1 arg2 harg2 arg3 harg3 arg4 harg4 arg5 harg5 arg7 harg7 arg8 harg8 arg9 harg9 arg10 harg10 arg11 harg11 hc0 hc1 x0 x1 x2 x3 x4)]
  unfold kernelRun0_A
  dsimp only
  (try sl_unfold_words)
  simp only [View.canon_cons_unit_zero (S := S192x1024) hz, View.canon_cons_unit_zero (S := S4x1024) hz, View.canon_cons_unit_zero (S := S1x1024) hz, View.readAt_eq_ld, harg1.read_unread, harg2.read_unread, harg3.read_unread, harg4.read_unread, harg5.read_unread, harg7.read_unread, harg8.read_unread, harg9.read_unread, View.ld_unit_zero (S := S192x1024) hz, View.ld_unit_zero (S := S8x1024) hz, View.ld_unit_zero (S := S4x1024) hz, View.ld_unit_zero (S := S1x1024) hz]
  (try simp only [load_x _ i x0 x1 5 (by omega), load_x _ i x0 x1 6 (by omega), load_x _ i x0 x1 7 (by omega), load_x _ i x0 x1 8 (by omega)])
  (try simp only [load_d _ i x2 x3 0 (by omega), load_d _ i x2 x3 1 (by omega), load_d _ i x2 x3 2 (by omega), load_d _ i x2 x3 3 (by omega)])
  (try simp only [dx_eq, dw_eq, pay10_eq, pay1_eq, pay2_eq])
  try rfl

/-- The weights' gradient at the first point. -/
theorem vout0_A_6 (c : Dev nD) (i : grid0.Coords) (arg1 : Memref sig .tc .vmem S192x1024 .f32) (harg1 : arg1.IsWhole) (arg2 : Memref sig .tc .vmem S8x1024 .f32) (harg2 : arg2.IsWhole) (arg3 : Memref sig .tc .vmem S192x1024 .f32) (harg3 : arg3.IsWhole) (arg4 : Memref sig .tc .vmem S8x1024 .f32) (harg4 : arg4.IsWhole) (arg5 : Memref sig .tc .vmem S4x1024 .f32) (harg5 : arg5.IsWhole) (arg7 : Memref sig .tc .vmem S192x1024 .bf16) (harg7 : arg7.IsWhole) (arg8 : Memref sig .tc .vmem S4x1024 .f32) (harg8 : arg8.IsWhole) (arg9 : Memref sig .tc .vmem S1x1024 .f32) (harg9 : arg9.IsWhole) (arg10 : Memref sig .tc .vmem S200x1024 .f32) (harg10 : arg10.IsWhole) (arg11 : Memref sig .tc .vmem S200x1024 .f32) (harg11 : arg11.IsWhole) (hc0 : cond0_0 i) (hc1 : ¬cond0_1 i)
    (x0 : Vec Ideal S192x1024 .f32) (x1 : Vec Ideal S8x1024 .f32) (x2 : Vec Ideal S192x1024 .f32) (x3 : Vec Ideal S8x1024 .f32) (x4 : Vec Ideal S4x1024 .f32) :
    out0_A_6 (F := Ideal) c i arg1 harg1 arg2 harg2 arg3 harg3 arg4 harg4 arg5 harg5 arg7 harg7 arg8 harg8 arg9 harg9 arg10 harg10 arg11 harg11 hc0 hc1 x0 x1 x2 x3 x4 = dwB i x0 x1 x2 := by
  unfold out0_A_6
  rw [View.read_writes_eq_canon _ _ _ (cover0_A_6 c i arg1 harg1 arg2 harg2 arg3 harg3 arg4 harg4 arg5 harg5 arg7 harg7 arg8 harg8 arg9 harg9 arg10 harg10 arg11 harg11 hc0 hc1 x0 x1 x2 x3 x4)]
  unfold kernelRun0_A
  dsimp only
  (try sl_unfold_words)
  simp only [View.canon_cons_unit_zero (S := S192x1024) hz, View.canon_cons_unit_zero (S := S4x1024) hz, View.canon_cons_unit_zero (S := S1x1024) hz, View.readAt_eq_ld, harg1.read_unread, harg2.read_unread, harg3.read_unread, harg4.read_unread, harg5.read_unread, harg7.read_unread, harg8.read_unread, harg9.read_unread, View.ld_unit_zero (S := S192x1024) hz, View.ld_unit_zero (S := S8x1024) hz, View.ld_unit_zero (S := S4x1024) hz, View.ld_unit_zero (S := S1x1024) hz]
  (try simp only [load_x _ i x0 x1 5 (by omega), load_x _ i x0 x1 6 (by omega), load_x _ i x0 x1 7 (by omega), load_x _ i x0 x1 8 (by omega)])
  (try simp only [load_d _ i x2 x3 0 (by omega), load_d _ i x2 x3 1 (by omega), load_d _ i x2 x3 2 (by omega), load_d _ i x2 x3 3 (by omega)])
  (try simp only [dx_eq, dw_eq, pay10_eq, pay1_eq, pay2_eq])
  try rfl

/-- The bias's gradient at the first point. -/
theorem vout0_A_7 (c : Dev nD) (i : grid0.Coords) (arg1 : Memref sig .tc .vmem S192x1024 .f32) (harg1 : arg1.IsWhole) (arg2 : Memref sig .tc .vmem S8x1024 .f32) (harg2 : arg2.IsWhole) (arg3 : Memref sig .tc .vmem S192x1024 .f32) (harg3 : arg3.IsWhole) (arg4 : Memref sig .tc .vmem S8x1024 .f32) (harg4 : arg4.IsWhole) (arg5 : Memref sig .tc .vmem S4x1024 .f32) (harg5 : arg5.IsWhole) (arg7 : Memref sig .tc .vmem S192x1024 .bf16) (harg7 : arg7.IsWhole) (arg8 : Memref sig .tc .vmem S4x1024 .f32) (harg8 : arg8.IsWhole) (arg9 : Memref sig .tc .vmem S1x1024 .f32) (harg9 : arg9.IsWhole) (arg10 : Memref sig .tc .vmem S200x1024 .f32) (harg10 : arg10.IsWhole) (arg11 : Memref sig .tc .vmem S200x1024 .f32) (harg11 : arg11.IsWhole) (hc0 : cond0_0 i) (hc1 : ¬cond0_1 i)
    (x0 : Vec Ideal S192x1024 .f32) (x1 : Vec Ideal S8x1024 .f32) (x2 : Vec Ideal S192x1024 .f32) (x3 : Vec Ideal S8x1024 .f32) (x4 : Vec Ideal S4x1024 .f32) :
    out0_A_7 (F := Ideal) c i arg1 harg1 arg2 harg2 arg3 harg3 arg4 harg4 arg5 harg5 arg7 harg7 arg8 harg8 arg9 harg9 arg10 harg10 arg11 harg11 hc0 hc1 x0 x1 x2 x3 x4 = dbB x2 := by
  unfold out0_A_7
  rw [View.read_writes_eq_canon _ _ _ (cover0_A_7 c i arg1 harg1 arg2 harg2 arg3 harg3 arg4 harg4 arg5 harg5 arg7 harg7 arg8 harg8 arg9 harg9 arg10 harg10 arg11 harg11 hc0 hc1 x0 x1 x2 x3 x4)]
  unfold kernelRun0_A
  dsimp only
  (try sl_unfold_words)
  simp only [View.canon_cons_unit_zero (S := S192x1024) hz, View.canon_cons_unit_zero (S := S4x1024) hz, View.canon_cons_unit_zero (S := S1x1024) hz, View.readAt_eq_ld, harg1.read_unread, harg2.read_unread, harg3.read_unread, harg4.read_unread, harg5.read_unread, harg7.read_unread, harg8.read_unread, harg9.read_unread, View.ld_unit_zero (S := S192x1024) hz, View.ld_unit_zero (S := S8x1024) hz, View.ld_unit_zero (S := S4x1024) hz, View.ld_unit_zero (S := S1x1024) hz]
  (try simp only [load_x _ i x0 x1 5 (by omega), load_x _ i x0 x1 6 (by omega), load_x _ i x0 x1 7 (by omega), load_x _ i x0 x1 8 (by omega)])
  (try simp only [load_d _ i x2 x3 0 (by omega), load_d _ i x2 x3 1 (by omega), load_d _ i x2 x3 2 (by omega), load_d _ i x2 x3 3 (by omega)])
  (try simp only [dx_eq, dw_eq, pay10_eq, pay1_eq, pay2_eq])
  try rfl

/-- The input's gradient at a later point. -/
theorem vout0_B_5 (c : Dev nD) (i : grid0.Coords) (arg1 : Memref sig .tc .vmem S192x1024 .f32) (harg1 : arg1.IsWhole) (arg2 : Memref sig .tc .vmem S8x1024 .f32) (harg2 : arg2.IsWhole) (arg3 : Memref sig .tc .vmem S192x1024 .f32) (harg3 : arg3.IsWhole) (arg4 : Memref sig .tc .vmem S8x1024 .f32) (harg4 : arg4.IsWhole) (arg5 : Memref sig .tc .vmem S4x1024 .f32) (harg5 : arg5.IsWhole) (arg7 : Memref sig .tc .vmem S192x1024 .bf16) (harg7 : arg7.IsWhole) (arg8 : Memref sig .tc .vmem S4x1024 .f32) (harg8 : arg8.IsWhole) (arg9 : Memref sig .tc .vmem S1x1024 .f32) (harg9 : arg9.IsWhole) (arg10 : Memref sig .tc .vmem S200x1024 .f32) (harg10 : arg10.IsWhole) (arg11 : Memref sig .tc .vmem S200x1024 .f32) (harg11 : arg11.IsWhole) (hc0 : ¬cond0_0 i) (hc1 : cond0_1 i)
    (x0 : Vec Ideal S192x1024 .f32) (x1 : Vec Ideal S8x1024 .f32) (x2 : Vec Ideal S192x1024 .f32) (x3 : Vec Ideal S8x1024 .f32) (x4 : Vec Ideal S4x1024 .f32) (xo6 : Vec Ideal S4x1024 .f32) (xo7 : Vec Ideal S1x1024 .f32) :
    out0_B_5 (F := Ideal) c i arg1 harg1 arg2 harg2 arg3 harg3 arg4 harg4 arg5 harg5 arg7 harg7 arg8 harg8 arg9 harg9 arg10 harg10 arg11 harg11 hc0 hc1 x0 x1 x2 x3 x4 xo6 xo7 = dxB i x2 x3 x4 := by
  unfold out0_B_5
  rw [View.read_writes_eq_canon _ _ _ (cover0_B_5 c i arg1 harg1 arg2 harg2 arg3 harg3 arg4 harg4 arg5 harg5 arg7 harg7 arg8 harg8 arg9 harg9 arg10 harg10 arg11 harg11 hc0 hc1 x0 x1 x2 x3 x4 xo6 xo7)]
  unfold kernelRun0_B
  dsimp only
  (try sl_unfold_words)
  simp only [View.canon_cons_unit_zero (S := S192x1024) hz, View.canon_cons_unit_zero (S := S4x1024) hz, View.canon_cons_unit_zero (S := S1x1024) hz, View.readAt_eq_ld, harg1.read_unread, harg2.read_unread, harg3.read_unread, harg4.read_unread, harg5.read_unread, harg7.read_unread, harg8.read_unread, harg9.read_unread, View.ld_unit_zero (S := S192x1024) hz, View.ld_unit_zero (S := S8x1024) hz, View.ld_unit_zero (S := S4x1024) hz, View.ld_unit_zero (S := S1x1024) hz]
  (try simp only [load_x _ i x0 x1 5 (by omega), load_x _ i x0 x1 6 (by omega), load_x _ i x0 x1 7 (by omega), load_x _ i x0 x1 8 (by omega)])
  (try simp only [load_d _ i x2 x3 0 (by omega), load_d _ i x2 x3 1 (by omega), load_d _ i x2 x3 2 (by omega), load_d _ i x2 x3 3 (by omega)])
  (try simp only [dx_eq, dw_eq, pay10_eq, pay1_eq, pay2_eq])
  try rfl

/-- The weights' gradient grows at a later point. -/
theorem vout0_B_6 (c : Dev nD) (i : grid0.Coords) (arg1 : Memref sig .tc .vmem S192x1024 .f32) (harg1 : arg1.IsWhole) (arg2 : Memref sig .tc .vmem S8x1024 .f32) (harg2 : arg2.IsWhole) (arg3 : Memref sig .tc .vmem S192x1024 .f32) (harg3 : arg3.IsWhole) (arg4 : Memref sig .tc .vmem S8x1024 .f32) (harg4 : arg4.IsWhole) (arg5 : Memref sig .tc .vmem S4x1024 .f32) (harg5 : arg5.IsWhole) (arg7 : Memref sig .tc .vmem S192x1024 .bf16) (harg7 : arg7.IsWhole) (arg8 : Memref sig .tc .vmem S4x1024 .f32) (harg8 : arg8.IsWhole) (arg9 : Memref sig .tc .vmem S1x1024 .f32) (harg9 : arg9.IsWhole) (arg10 : Memref sig .tc .vmem S200x1024 .f32) (harg10 : arg10.IsWhole) (arg11 : Memref sig .tc .vmem S200x1024 .f32) (harg11 : arg11.IsWhole) (hc0 : ¬cond0_0 i) (hc1 : cond0_1 i)
    (x0 : Vec Ideal S192x1024 .f32) (x1 : Vec Ideal S8x1024 .f32) (x2 : Vec Ideal S192x1024 .f32) (x3 : Vec Ideal S8x1024 .f32) (x4 : Vec Ideal S4x1024 .f32) (xo6 : Vec Ideal S4x1024 .f32) (xo7 : Vec Ideal S1x1024 .f32) :
    out0_B_6 (F := Ideal) c i arg1 harg1 arg2 harg2 arg3 harg3 arg4 harg4 arg5 harg5 arg7 harg7 arg8 harg8 arg9 harg9 arg10 harg10 arg11 harg11 hc0 hc1 x0 x1 x2 x3 x4 xo6 xo7 = fun y => xo6 y + dwB i x0 x1 x2 y := by
  unfold out0_B_6
  rw [View.read_writes_eq_canon _ _ _ (cover0_B_6 c i arg1 harg1 arg2 harg2 arg3 harg3 arg4 harg4 arg5 harg5 arg7 harg7 arg8 harg8 arg9 harg9 arg10 harg10 arg11 harg11 hc0 hc1 x0 x1 x2 x3 x4 xo6 xo7)]
  unfold kernelRun0_B
  dsimp only
  (try sl_unfold_words)
  simp only [View.canon_cons_unit_zero (S := S192x1024) hz, View.canon_cons_unit_zero (S := S4x1024) hz, View.canon_cons_unit_zero (S := S1x1024) hz, View.readAt_eq_ld, harg1.read_unread, harg2.read_unread, harg3.read_unread, harg4.read_unread, harg5.read_unread, harg7.read_unread, harg8.read_unread, harg9.read_unread, View.ld_unit_zero (S := S192x1024) hz, View.ld_unit_zero (S := S8x1024) hz, View.ld_unit_zero (S := S4x1024) hz, View.ld_unit_zero (S := S1x1024) hz]
  (try simp only [load_x _ i x0 x1 5 (by omega), load_x _ i x0 x1 6 (by omega), load_x _ i x0 x1 7 (by omega), load_x _ i x0 x1 8 (by omega)])
  (try simp only [load_d _ i x2 x3 0 (by omega), load_d _ i x2 x3 1 (by omega), load_d _ i x2 x3 2 (by omega), load_d _ i x2 x3 3 (by omega)])
  (try simp only [dx_eq, dw_eq, pay10_eq, pay1_eq, pay2_eq])
  try rfl

/-- The bias's gradient grows at a later point. -/
theorem vout0_B_7 (c : Dev nD) (i : grid0.Coords) (arg1 : Memref sig .tc .vmem S192x1024 .f32) (harg1 : arg1.IsWhole) (arg2 : Memref sig .tc .vmem S8x1024 .f32) (harg2 : arg2.IsWhole) (arg3 : Memref sig .tc .vmem S192x1024 .f32) (harg3 : arg3.IsWhole) (arg4 : Memref sig .tc .vmem S8x1024 .f32) (harg4 : arg4.IsWhole) (arg5 : Memref sig .tc .vmem S4x1024 .f32) (harg5 : arg5.IsWhole) (arg7 : Memref sig .tc .vmem S192x1024 .bf16) (harg7 : arg7.IsWhole) (arg8 : Memref sig .tc .vmem S4x1024 .f32) (harg8 : arg8.IsWhole) (arg9 : Memref sig .tc .vmem S1x1024 .f32) (harg9 : arg9.IsWhole) (arg10 : Memref sig .tc .vmem S200x1024 .f32) (harg10 : arg10.IsWhole) (arg11 : Memref sig .tc .vmem S200x1024 .f32) (harg11 : arg11.IsWhole) (hc0 : ¬cond0_0 i) (hc1 : cond0_1 i)
    (x0 : Vec Ideal S192x1024 .f32) (x1 : Vec Ideal S8x1024 .f32) (x2 : Vec Ideal S192x1024 .f32) (x3 : Vec Ideal S8x1024 .f32) (x4 : Vec Ideal S4x1024 .f32) (xo6 : Vec Ideal S4x1024 .f32) (xo7 : Vec Ideal S1x1024 .f32) :
    out0_B_7 (F := Ideal) c i arg1 harg1 arg2 harg2 arg3 harg3 arg4 harg4 arg5 harg5 arg7 harg7 arg8 harg8 arg9 harg9 arg10 harg10 arg11 harg11 hc0 hc1 x0 x1 x2 x3 x4 xo6 xo7 = fun y => xo7 y + dbB x2 y := by
  unfold out0_B_7
  rw [View.read_writes_eq_canon _ _ _ (cover0_B_7 c i arg1 harg1 arg2 harg2 arg3 harg3 arg4 harg4 arg5 harg5 arg7 harg7 arg8 harg8 arg9 harg9 arg10 harg10 arg11 harg11 hc0 hc1 x0 x1 x2 x3 x4 xo6 xo7)]
  unfold kernelRun0_B
  dsimp only
  (try sl_unfold_words)
  simp only [View.canon_cons_unit_zero (S := S192x1024) hz, View.canon_cons_unit_zero (S := S4x1024) hz, View.canon_cons_unit_zero (S := S1x1024) hz, View.readAt_eq_ld, harg1.read_unread, harg2.read_unread, harg3.read_unread, harg4.read_unread, harg5.read_unread, harg7.read_unread, harg8.read_unread, harg9.read_unread, View.ld_unit_zero (S := S192x1024) hz, View.ld_unit_zero (S := S8x1024) hz, View.ld_unit_zero (S := S4x1024) hz, View.ld_unit_zero (S := S1x1024) hz]
  (try simp only [load_x _ i x0 x1 5 (by omega), load_x _ i x0 x1 6 (by omega), load_x _ i x0 x1 7 (by omega), load_x _ i x0 x1 8 (by omega)])
  (try simp only [load_d _ i x2 x3 0 (by omega), load_d _ i x2 x3 1 (by omega), load_d _ i x2 x3 2 (by omega), load_d _ i x2 x3 3 (by omega)])
  (try simp only [dx_eq, dw_eq, pay10_eq, pay1_eq, pay2_eq])
  try rfl

/-! ## The reference -/

/-- The convolution's input `3 - j` rows back, zero before the first row. -/
def xsh (g : Vec Ideal S4224x2048 .f32) (j : ℕ) (r : Fin 4224) (l : Fin 1024) : EReal :=
  if h : 3 ≤ j + r.val ∧ j + r.val - 3 < 4224 then g (ix2 ⟨j + r.val - 3, h.2⟩ ⟨1024 + l.val, by omega⟩) else 0

/-- The incoming gradient at row `p`, zero after the last row. -/
def dsh (d : Vec Ideal S4224x1024 .f32) (p : ℕ) (l : Fin 1024) : EReal := if h : p < 4224 then d (ix2 ⟨p, h⟩ l) else 0

/-- The input's gradient. -/
def dx (d : Vec Ideal S4224x1024 .f32) (w : Vec Ideal S4x1024 .f32) (r : Fin 4224) (l : Fin 1024) : EReal :=
  dsh d (3 + r.val) l * w (ix2 0 l) + dsh d (2 + r.val) l * w (ix2 1 l) + dsh d (1 + r.val) l * w (ix2 2 l) + dsh d (0 + r.val) l * w (ix2 3 l)

/-- The two halves side by side: what was there, and the input's gradient. -/
def dgx (d : Vec Ideal S4224x1024 .f32) (w : Vec Ideal S4x1024 .f32) (o : Vec Ideal S4224x2048 .bf16) (r : Fin 4224) (l : Fin 2048) : EReal :=
  if h : l.val < 1024 then o (ix2 r l) else dx d w r ⟨l.val - 1024, by omega⟩

/-- The weights' gradient. -/
def dw (g : Vec Ideal S4224x2048 .f32) (d : Vec Ideal S4224x1024 .f32) (j : ℕ) (l : Fin 1024) : EReal := ∑ r : Fin 4224, xsh g j r l * d (ix2 r l)

/-- The bias's gradient. -/
def dbias (d : Vec Ideal S4224x1024 .f32) (l : Fin 1024) : EReal := ∑ r : Fin 4224, d (ix2 r l)

section Ref

open Cert.ConvRefIdeal.Read

variable (g : Vec Ideal S4224x2048 .f32) (d : Vec Ideal S4224x1024 .f32) (w : Vec Ideal S4x1024 .f32) (o : Vec Ideal S4224x2048 .bf16)

/-- A guarded product is the product of the guarded gradient. -/
theorem guard (p q : ℕ) (c : Prop) [Decidable c] (l : Fin 1024) (u : EReal) (hc : c ↔ q < 4224) (hp : p = q) (hb : c → p < 4224) :
    (if h : c then d (ix2 ⟨p, hb h⟩ l) * u else 0) = dsh d q l * u := by
  subst hp
  unfold dsh
  by_cases h : p < 4224
  · rw [dif_pos (hc.2 h), dif_pos h]
  · rw [dif_neg (fun h' => h (hc.1 h')), dif_neg h, zero_mul]

/-- The reference's gradient of the input. -/
theorem val82 (r : Fin 4224) (k : Fin 1024) : val_main_v82 (F := Ideal) d w (ix2 r k) = dx d w r k := by
  pointwise [val_main_v82, val_main_v80, val_main_v79, val_main_v69, val_main_v74, val_main_v73, val_main_v38, val_main_v8, val_main_v7, val_main_v6, val_main_v68, val_main_v63, val_main_v62, val_main_v16, val_main_v15, val_main_v14, val_main_v58, val_main_v57, val_main_v52, val_main_v51, val_main_v23, val_main_v22, val_main_v21, val_main_v47, val_main_v43, val_main_v42, val_main_v30, val_main_v29, val_main_v28, val_main_cst_7, val_main_cst_11, val_main_cst_15, val_main_cst_19]
  have e0 : d (ix2 r k) = dsh d (0 + r.val) k := by
    unfold dsh
    rw [dif_pos (by omega)]
    exact congrArg (fun x => d (ix2 x k)) (Fin.ext (by show r.val = 0 + r.val; omega))
  unfold dx
  rw [guard d (3 + r.val - 2) (1 + r.val) _ k _ (by omega) (by omega) (by omega), guard d (3 + r.val - 1) (2 + r.val) _ k _ (by omega) (by omega) (by omega),
    guard d (3 + r.val) (3 + r.val) _ k _ (by omega) rfl (by omega), e0]
  abel

/-- The reference's first result. -/
theorem val85 (r : Fin 4224) (k : Fin 2048) : val_main_v85 (F := Ideal) d w o (ix2 r k) = dgx d w o r k := by
  unfold dgx
  pointwise [val_main_v85, val_main_v84, val_main_v83, val82]

/-- The shifted inputs. -/
theorem val27 (r : Fin 4224) (k : Fin 1024) : val_main_v27 (F := Ideal) g (ix2 r k) = xsh g 3 r k := by
  pointwise [val_main_v27, val_main_v3, val_main_v0, val_main_v2, val_main_cst_0]
  unfold xsh
  rw [dif_pos (by omega)]
  exact congrArg (fun x => g (ix2 x ⟨1024 + k.val, by omega⟩)) (Fin.ext (by show r.val = 3 + r.val - 3; omega))

theorem val20 (r : Fin 4224) (k : Fin 1024) : val_main_v20 (F := Ideal) g (ix2 r k) = xsh g 2 r k := by
  pointwise [val_main_v20, val_main_v3, val_main_v0, val_main_v2, val_main_cst_0]
  unfold xsh
  by_cases h : 2 + r.val < 3
  · rw [dif_pos h, dif_neg (by omega)]
  · rw [dif_neg h, dif_pos (by omega)]

theorem val13 (r : Fin 4224) (k : Fin 1024) : val_main_v13 (F := Ideal) g (ix2 r k) = xsh g 1 r k := by
  pointwise [val_main_v13, val_main_v3, val_main_v0, val_main_v2, val_main_cst_0]
  unfold xsh
  by_cases h : 1 + r.val < 3
  · rw [dif_pos h, dif_neg (by omega)]
  · rw [dif_neg h, dif_pos (by omega)]

theorem val5 (r : Fin 4224) (k : Fin 1024) : val_main_v5 (F := Ideal) g (ix2 r k) = xsh g 0 r k := by
  rw [val_main_v5_apply]
  pointwise [val_main_v3, val_main_v0, val_main_v2, val_main_cst_0]
  unfold xsh
  by_cases h : r.val < 3
  · rw [dif_pos h, dif_neg (by omega)]
  · rw [dif_neg h, dif_pos (by omega)]
    exact congrArg (fun x => g (ix2 x ⟨1024 + k.val, by omega⟩)) (Fin.ext (by show r.val - 3 = 0 + r.val - 3; omega))

/-- The four taps' gradients. -/
theorem val40 (k : Fin 1024) : val_main_v40 (F := Ideal) g d (ix1 k) = dw g d 3 k := by
  unfold dw
  pointwise [val_main_v40, val_main_v39, val_main_v38, val_main_cst_4, val27]

theorem val49 (k : Fin 1024) : val_main_v49 (F := Ideal) g d (ix1 k) = dw g d 2 k := by
  unfold dw
  pointwise [val_main_v49, val_main_v48, val_main_v38, val_main_cst_8, val20]

theorem val60 (k : Fin 1024) : val_main_v60 (F := Ideal) g d (ix1 k) = dw g d 1 k := by
  unfold dw
  pointwise [val_main_v60, val_main_v59, val_main_v38, val_main_cst_12, val13]

theorem val71 (k : Fin 1024) : val_main_v71 (F := Ideal) g d (ix1 k) = dw g d 0 k := by
  unfold dw
  pointwise [val_main_v71, val_main_v70, val_main_v38, val_main_cst_16, val5]

/-- The reference's gradient of the weights. -/
theorem val78 (j : Fin 4) (k : Fin 1024) : val_main_v78 (F := Ideal) g d (ix2 j k) = dw g d j.val k := by
  pointwise [val_main_v78, val_main_v77, val_main_v76, val_main_v75, val_main_v72, val_main_v67, val_main_v66, val_main_v65, val_main_v64, val_main_v61, val_main_v56, val_main_v55, val_main_v54, val_main_v53, val_main_v50, val_main_v46, val_main_v45, val_main_v44, val_main_v41, val_main_cst_5, val_main_cst_6, val_main_cst_9, val_main_cst_10, val_main_cst_13, val_main_cst_14, val_main_cst_17, val_main_cst_18, val40, val49, val60, val71]
  fin_cases j <;> simp

/-- The reference's gradient of the bias. -/
theorem val37 (a : Fin 1) (k : Fin 1024) : val_main_v37 (F := Ideal) d (ix2 a k) = dbias d k := by
  unfold dbias
  pointwise [val_main_v37, val_main_v36, val_main_cst_3]

end Ref

/-! ## From the points to the arrays -/

variable (m : (ℓ : Loc nD τ sig) → Buf (Elt Ideal) ℓ)

/-- The gate and the convolution's input, side by side. -/
abbrev aG (c : Dev nD) : Vec Ideal S4224x2048 .f32 := m ((c : Thread nD τ).loc main_arg0)
/-- The incoming gradient. -/
abbrev aD (c : Dev nD) : Vec Ideal S4224x1024 .f32 := m ((c : Thread nD τ).loc main_arg1)
/-- The convolution's weights. -/
abbrev aW (c : Dev nD) : Vec Ideal S4x1024 .f32 := m ((c : Thread nD τ).loc main_arg2)
/-- The array whose second half the kernel fills. -/
abbrev aO (c : Dev nD) : Vec Ideal S4224x2048 .bf16 := m ((c : Thread nD τ).loc main_arg3)

theorem N22 : cfg0.N = 22 := by decide

/-- A point's grid coordinate is its number. -/
theorem coords0 : ∀ t : Fin cfg0.N, (grid0.coords t 0).val = t.val := (by decide +kernel : ∀ t : Fin grid0.N, _)

/-- A point's row of the whole array. -/
abbrev row (t : Fin cfg0.N) (r : Fin 192) : Fin 4224 := ⟨t.val * 192 + r.val, by have h := lt_of_lt_of_eq t.isLt N22; omega⟩

theorem idx0 : ∀ t : Fin cfg0.N, win0_0.index t (0 : Fin 2) = t.val ∧ win0_0.index t (1 : Fin 2) = 1 :=
  (by decide +kernel : ∀ t : Fin grid0.N, _)

theorem idx1 : ∀ t : Fin cfg0.N, win0_1.index t (0 : Fin 2) = t.val * 24 - 1 ∧ win0_1.index t (1 : Fin 2) = 1 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = min ((t.val + 1) * 24) 527 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = t.val ∧ win0_5.index t (1 : Fin 2) = 1 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

/-- The point's rows of the convolution's input. -/
theorem ib0 (c : Dev nD) (t : Fin cfg0.N) (r : Fin 192) (l : Fin 1024) :
    (iblk m c 0 t : Vec Ideal S192x1024 .f32) (ix2 r l) = aG m c (ix2 (row t r) (⟨1024 + l.val, by omega⟩ : Fin 2048)) := by
  have hN := lt_of_lt_of_eq t.isLt N22
  obtain ⟨e0, e1⟩ := idx0 t
  unfold iblk
  rw [View.read_apply]
  have e : ((cfg0.win 0).blk t).view.emb (ix2 r l) = (ix2 (row t r) (⟨1024 + l.val, by omega⟩ : Fin 2048) : S4224x2048.Idx) := by
    funext a; apply Fin.ext; fin_cases a
    · show win0_0.index t (0 : Fin 2) * 192 + 1 * (r : Fin 192).val = t.val * 192 + r.val; rw [e0]; omega
    · show win0_0.index t (1 : Fin 2) * 1024 + 1 * (l : Fin 1024).val = 1024 + l.val; rw [e1]; omega
  show (V m c main_arg0 : Vec Ideal S4224x2048 .f32) (((cfg0.win 0).blk t).view.emb (ix2 r l)) = _
  rw [e, V_main_arg0]

/-- The rows before them, at a later point. -/
theorem ib1 (c : Dev nD) (t : Fin cfg0.N) (h0 : 1 ≤ t.val) (r : Fin 8) (l : Fin 1024) :
    (iblk m c 1 t : Vec Ideal S8x1024 .f32) (ix2 r l) = aG m c (ix2 (⟨t.val * 192 - 8 + r.val, by have hN := lt_of_lt_of_eq t.isLt N22; omega⟩ : Fin 4224) (⟨1024 + l.val, by omega⟩ : Fin 2048)) := by
  have hN := lt_of_lt_of_eq t.isLt N22
  obtain ⟨e0, e1⟩ := idx1 t
  unfold iblk
  rw [View.read_apply]
  have e : ((cfg0.win 1).blk t).view.emb (ix2 r l) = (ix2 (⟨t.val * 192 - 8 + r.val, by have hN := lt_of_lt_of_eq t.isLt N22; omega⟩ : Fin 4224) (⟨1024 + l.val, by omega⟩ : Fin 2048) : S4224x2048.Idx) := by
    funext a; apply Fin.ext; fin_cases a
    · show win0_1.index t (0 : Fin 2) * 8 + 1 * (r : Fin 8).val = t.val * 192 - 8 + r.val; rw [e0]; omega
    · show win0_1.index t (1 : Fin 2) * 1024 + 1 * (l : Fin 1024).val = 1024 + l.val; rw [e1]; omega
  show (V m c main_arg0 : Vec Ideal S4224x2048 .f32) (((cfg0.win 1).blk t).view.emb (ix2 r l)) = _
  rw [e, V_main_arg0]

/-- The point's rows of the incoming gradient. -/
theorem ib2 (c : Dev nD) (t : Fin cfg0.N) (r : Fin 192) (l : Fin 1024) :
    (iblk m c 2 t : Vec Ideal S192x1024 .f32) (ix2 r l) = aD m c (ix2 (row t r) (l)) := by
  have hN := lt_of_lt_of_eq t.isLt N22
  obtain ⟨e0, e1⟩ := idx2 t
  unfold iblk
  rw [View.read_apply]
  have e : ((cfg0.win 2).blk t).view.emb (ix2 r l) = (ix2 (row t r) (l) : S4224x1024.Idx) := by
    funext a; apply Fin.ext; fin_cases a
    · show win0_2.index t (0 : Fin 2) * 192 + 1 * (r : Fin 192).val = t.val * 192 + r.val; rw [e0]; omega
    · show win0_2.index t (1 : Fin 2) * 1024 + 1 * (l : Fin 1024).val = l.val; rw [e1]; omega
  show (V m c main_arg1 : Vec Ideal S4224x1024 .f32) (((cfg0.win 2).blk t).view.emb (ix2 r l)) = _
  rw [e, V_main_arg1]

/-- The rows after them, before the last point. -/
theorem ib3 (c : Dev nD) (t : Fin cfg0.N) (h0 : t.val < 21) (r : Fin 8) (l : Fin 1024) :
    (iblk m c 3 t : Vec Ideal S8x1024 .f32) (ix2 r l) = aD m c (ix2 (⟨(t.val + 1) * 192 + r.val, by omega⟩ : Fin 4224) (l)) := by
  have hN := lt_of_lt_of_eq t.isLt N22
  obtain ⟨e0, e1⟩ := idx3 t
  unfold iblk
  rw [View.read_apply]
  have e : ((cfg0.win 3).blk t).view.emb (ix2 r l) = (ix2 (⟨(t.val + 1) * 192 + r.val, by omega⟩ : Fin 4224) (l) : S4224x1024.Idx) := by
    funext a; apply Fin.ext; fin_cases a
    · show win0_3.index t (0 : Fin 2) * 8 + 1 * (r : Fin 8).val = (t.val + 1) * 192 + r.val; rw [e0]; omega
    · show win0_3.index t (1 : Fin 2) * 1024 + 1 * (l : Fin 1024).val = l.val; rw [e1]; omega
  show (V m c main_arg1 : Vec Ideal S4224x1024 .f32) (((cfg0.win 3).blk t).view.emb (ix2 r l)) = _
  rw [e, V_main_arg1]

/-- The convolution's weights. -/
theorem ib4 (c : Dev nD) (t : Fin cfg0.N) (r : Fin 4) (l : Fin 1024) :
    (iblk m c 4 t : Vec Ideal S4x1024 .f32) (ix2 r l) = aW m c (ix2 (r) (l)) := by
  have hN := lt_of_lt_of_eq t.isLt N22
  obtain ⟨e0, e1⟩ := idx4 t
  unfold iblk
  rw [View.read_apply]
  have e : ((cfg0.win 4).blk t).view.emb (ix2 r l) = (ix2 (r) (l) : S4x1024.Idx) := by
    funext a; apply Fin.ext; fin_cases a
    · show win0_4.index t (0 : Fin 2) * 4 + 1 * (r : Fin 4).val = r.val; rw [e0]; omega
    · show win0_4.index t (1 : Fin 2) * 1024 + 1 * (l : Fin 1024).val = l.val; rw [e1]; omega
  show (V m c main_arg2 : Vec Ideal S4x1024 .f32) (((cfg0.win 4).blk t).view.emb (ix2 r l)) = _
  rw [e, V_main_arg2]

/-- The first buffer holds the shifted input. -/
theorem xb_blk (c : Dev nD) (t : Fin cfg0.N) (j : ℕ) (hj : j < 4) (r : Fin 192) (l : Fin 1024) :
    xb (grid0.coords t) (iblk m c 0 t) (iblk m c 1 t) (5 + j + r.val) l = xsh (aG m c) j (row t r) l := by
  have hN := lt_of_lt_of_eq t.isLt N22
  unfold xb xsh
  rw [coords0]
  by_cases h : 5 + j + r.val < 8
  · rw [dif_pos h]
    by_cases h0 : t.val = 0
    · rw [if_pos h0, dif_neg (by show ¬(3 ≤ j + (t.val * 192 + r.val) ∧ _); omega)]
    · rw [if_neg h0, dif_pos (by show 3 ≤ j + (t.val * 192 + r.val) ∧ j + (t.val * 192 + r.val) - 3 < 4224; omega), ib1 m c t (by omega)]
      exact congrArg (fun x => aG m c (ix2 x ⟨1024 + l.val, by omega⟩)) (Fin.ext (by show t.val * 192 - 8 + (5 + j + r.val) = j + (t.val * 192 + r.val) - 3; omega))
  · rw [dif_neg h, dif_pos (by omega), dif_pos (by show 3 ≤ j + (t.val * 192 + r.val) ∧ j + (t.val * 192 + r.val) - 3 < 4224; omega), ib0]
    exact congrArg (fun x => aG m c (ix2 x ⟨1024 + l.val, by omega⟩)) (Fin.ext (by show t.val * 192 + (5 + j + r.val - 8) = j + (t.val * 192 + r.val) - 3; omega))

/-- The second buffer holds the incoming gradient and what follows. -/
theorem db_blk (c : Dev nD) (t : Fin cfg0.N) (s : ℕ) (hs : s < 4) (r : Fin 192) (l : Fin 1024) :
    db (grid0.coords t) (iblk m c 2 t) (iblk m c 3 t) (s + r.val) l = dsh (aD m c) (s + (row t r).val) l := by
  have hN := lt_of_lt_of_eq t.isLt N22
  have hr : (row t r).val = t.val * 192 + r.val := rfl
  unfold db dsh
  rw [coords0, hr]
  by_cases h : s + r.val < 192
  · rw [dif_pos h, dif_pos (by omega), ib2]
    exact congrArg (fun x => aD m c (ix2 x l)) (Fin.ext (by show t.val * 192 + (s + r.val) = s + (t.val * 192 + r.val); omega))
  · rw [dif_neg h]
    by_cases h0 : t.val = 21
    · rw [if_pos h0, dif_neg (by omega)]
    · rw [if_neg h0, dif_pos (by omega), dif_pos (by omega), ib3 m c t (by omega)]
      exact congrArg (fun x => aD m c (ix2 x l)) (Fin.ext (by show (t.val + 1) * 192 + (s + r.val - 192) = s + (t.val * 192 + r.val); omega))

/-- The block of the input's gradient at an element. -/
theorem dxB_apply (i : grid0.Coords) (x2 : Vec Ideal S192x1024 .f32) (x3 : Vec Ideal S8x1024 .f32) (w : Vec Ideal S4x1024 .f32) (r : Fin 192) (l : Fin 1024) :
    dxB i x2 x3 w (ix2 r l) = db i x2 x3 (3 + r.val) l * w (ix2 0 l) + db i x2 x3 (2 + r.val) l * w (ix2 1 l)
      + db i x2 x3 (1 + r.val) l * w (ix2 2 l) + db i x2 x3 (0 + r.val) l * w (ix2 3 l) := rfl

/-- A point's rows of the input's gradient. -/
theorem dx_blk (c : Dev nD) (t : Fin cfg0.N) (r : Fin 192) (l : Fin 1024) :
    dxB (grid0.coords t) (iblk m c 2 t) (iblk m c 3 t) (iblk m c 4 t) (ix2 r l) = dx (aD m c) (aW m c) (row t r) l := by
  rw [dxB_apply]
  simp only [db_blk m c t _ (by decide : 3 < 4), db_blk m c t _ (by decide : 2 < 4), db_blk m c t _ (by decide : 1 < 4), db_blk m c t _ (by decide : 0 < 4), ib4]
  rfl

/-- Row `x` of row block `i`. -/
abbrev rowB (i : ℕ) (x : Fin 192) : Fin 4224 := ⟨i % 22 * 192 + x.val, by omega⟩
/-- One row block's part of the weights' gradient. -/
def blkW (c : Dev nD) (j : ℕ) (l : Fin 1024) (i : ℕ) : EReal := ∑ x : Fin 192, xsh (aG m c) j (rowB i x) l * aD m c (ix2 (rowB i x) l)
/-- One row block's part of the bias's gradient. -/
def blkB (c : Dev nD) (l : Fin 1024) (i : ℕ) : EReal := ∑ x : Fin 192, aD m c (ix2 (rowB i x) l)

/-- The 22 row blocks make up all rows. -/
theorem blkW_all (c : Dev nD) (j : ℕ) (l : Fin 1024) : ∑ i ∈ Finset.range 22, blkW m c j l i = dw (aG m c) (aD m c) j l := by
  unfold dw
  rw [Finset.sum_range, Fin.sum_univ_tiles 22 192 rfl]
  unfold blkW
  refine Finset.sum_congr rfl fun f _ => Finset.sum_congr rfl fun k _ => ?_
  have e : rowB f.val k = ⟨f.val * 192 + k.val, by omega⟩ := Fin.ext (by show f.val % 22 * 192 + k.val = f.val * 192 + k.val; omega)
  rw [e]

/-- The same for the bias. -/
theorem blkB_all (c : Dev nD) (l : Fin 1024) : ∑ i ∈ Finset.range 22, blkB m c l i = dbias (aD m c) l := by
  unfold dbias
  rw [Finset.sum_range, Fin.sum_univ_tiles 22 192 rfl]
  unfold blkB
  refine Finset.sum_congr rfl fun f _ => Finset.sum_congr rfl fun k _ => ?_
  have e : rowB f.val k = ⟨f.val * 192 + k.val, by omega⟩ := Fin.ext (by show f.val % 22 * 192 + k.val = f.val * 192 + k.val; omega)
  rw [e]

theorem dwB_apply (i : grid0.Coords) (x0 : Vec Ideal S192x1024 .f32) (x1 : Vec Ideal S8x1024 .f32) (x2 : Vec Ideal S192x1024 .f32) (j : Fin 4) (l : Fin 1024) :
    dwB i x0 x1 x2 (ix2 j l) = ∑ r : Fin 192, x2 (ix2 r l) * xb i x0 x1 (5 + j.val + r.val) l := rfl

theorem dbB_apply (x2 : Vec Ideal S192x1024 .f32) (a : Fin 1) (l : Fin 1024) : dbB x2 (ix2 a l) = ∑ r : Fin 192, x2 (ix2 r l) := rfl

/-- A point's part of the weights' gradient. -/
theorem dw_blk (c : Dev nD) (t : Fin cfg0.N) (j : Fin 4) (l : Fin 1024) :
    dwB (grid0.coords t) (iblk m c 0 t) (iblk m c 1 t) (iblk m c 2 t) (ix2 j l) = blkW m c j.val l t.val := by
  have hN := lt_of_lt_of_eq t.isLt N22
  rw [dwB_apply]
  unfold blkW
  refine Finset.sum_congr rfl fun x _ => ?_
  have e : rowB t.val x = row t x := Fin.ext (by show t.val % 22 * 192 + x.val = t.val * 192 + x.val; omega)
  rw [xb_blk m c t j.val j.isLt, ib2, e, mul_comm]

/-- A point's part of the bias's gradient. -/
theorem db_blk' (c : Dev nD) (t : Fin cfg0.N) (a : Fin 1) (l : Fin 1024) : dbB (iblk m c 2 t) (ix2 a l) = blkB m c l t.val := by
  have hN := lt_of_lt_of_eq t.isLt N22
  rw [dbB_apply]
  unfold blkB
  refine Finset.sum_congr rfl fun x _ => ?_
  have e : rowB t.val x = row t x := Fin.ext (by show t.val % 22 * 192 + x.val = t.val * 192 + x.val; omega)
  rw [ib2, e]

/-- What the kernel holds after point `t`. -/
structure Inv (c : Dev nD) (t : Fin cfg0.N) : Prop where
  o5 : ∀ r l, (outsAt0 m c t.val t.isLt).1 (ix2 r l) = dx (aD m c) (aW m c) (row t r) l
  o6 : ∀ (j : Fin 4) l, (outsAt0 m c t.val t.isLt).2.1 (ix2 j l) = ∑ i ∈ Finset.range (t.val + 1), blkW m c j.val l i
  o7 : ∀ (a : Fin 1) l, (outsAt0 m c t.val t.isLt).2.2 (ix2 a l) = ∑ i ∈ Finset.range (t.val + 1), blkB m c l i

theorem inv (c : Dev nD) : ∀ (n : ℕ) (h : n < cfg0.N), Inv m c ⟨n, h⟩ := by
  intro n
  induction n with
  | zero =>
    intro h
    have e := outsAt0_A m c ⟨0, h⟩ rfl (by show ¬1 ≤ 0; decide)
    refine ⟨fun r l => ?_, fun j l => ?_, fun a l => ?_⟩
    all_goals (rw [e]; dsimp only)
    · rw [vout0_A_5]; exact dx_blk m c _ r l
    · rw [vout0_A_6]; exact (dw_blk m c _ j l).trans (Finset.sum_range_one _).symm
    · rw [vout0_A_7]; exact (db_blk' m c _ a l).trans (Finset.sum_range_one _).symm
  | succ n ih =>
    intro h
    have hN := lt_of_lt_of_eq h N22
    have p := ih (by omega)
    have e := outsAt0_B m c ⟨n + 1, h⟩ (by show ¬(n + 1) % 22 = 0; omega) (by show 1 ≤ n + 1; omega)
    refine ⟨fun r l => ?_, fun j l => ?_, fun a l => ?_⟩
    all_goals (rw [e]; dsimp only)
    · rw [vout0_B_5]; exact dx_blk m c _ r l
    · rw [vout0_B_6]
      refine (congrArg₂ (fun x y : EReal => x + y) (p.o6 j l) (dw_blk m c _ j l)).trans ?_
      exact (Finset.sum_range_succ _ _).symm
    · rw [vout0_B_7]
      refine (congrArg₂ (fun x y : EReal => x + y) (p.o7 a l) (db_blk' m c _ a l)).trans ?_
      exact (Finset.sum_range_succ _ _).symm

/-- The first result's array as the region finds it. -/
theorem V5 (c : Dev nD) : V m c (Pipeline.arrRef spec0 5) = aO m c := by
  unfold_abbrev_sides
  after_results
  rfl

/-- The first half of the first result is what was there. -/
theorem arr5_lo (c : Dev nD) (r : Fin 4224) (l : Fin 2048) (hl : l.val < 1024) :
    ((dats m 0 c).arrAt 5 cfg0.N : Vec Ideal S4224x2048 .bf16) (ix2 r l) = aO m c (ix2 r l) := by
  refine (entry5 m c (ix2 r l) fun t _ hm => ?_).trans (congrFun (V5 m c) (ix2 r l))
  obtain ⟨e0, e1⟩ := idx5 t
  obtain ⟨x, hx⟩ := View.exists_emb_of_mem_set _ hm
  have h1 : win0_5.index t (1 : Fin 2) * 1024 + 1 * (x 1).val = l.val := congrArg (fun y : S4224x2048.Idx => (y 1).val) hx
  rw [e1] at h1
  omega

/-- Its second half is the input's gradient. -/
theorem arr5_hi (c : Dev nD) (r : Fin 4224) (k : Fin 1024) :
    ((dats m 0 c).arrAt 5 cfg0.N : Vec Ideal S4224x2048 .bf16) (ix2 r ⟨1024 + k.val, by omega⟩) = dx (aD m c) (aW m c) r k := by
  let t : Fin cfg0.N := ⟨r.val / 192, by rw [N22]; omega⟩
  obtain ⟨e0, e1⟩ := idx5 t
  have ht : t.val = r.val / 192 := rfl
  have e : ((cfg0.win 5).blk t).view.emb (ix2 ⟨r.val % 192, by omega⟩ k : S192x1024.Idx) = (ix2 r ⟨1024 + k.val, by omega⟩ : S4224x2048.Idx) := by
    funext a; apply Fin.ext; fin_cases a
    · show win0_5.index t (0 : Fin 2) * 192 + 1 * (r.val % 192) = r.val; rw [e0]; omega
    · show win0_5.index t (1 : Fin 2) * 1024 + 1 * (k : Fin 1024).val = 1024 + k.val; rw [e1]; omega
  have h := congrFun (blocks5 m c t (flush0_5 t)) (ix2 ⟨r.val % 192, by omega⟩ k : S192x1024.Idx)
  rw [View.read_apply, e, flushed5] at h
  refine Eq.trans h ?_
  refine ((inv m c t.val t.isLt).o5 ⟨r.val % 192, by omega⟩ k).trans ?_
  have er : row t ⟨r.val % 192, by omega⟩ = r := Fin.ext (by show t.val * 192 + r.val % 192 = r.val; omega)
  exact congrArg (fun x => dx (aD m c) (aW m c) x k) er

/-- The first result's array. -/
theorem arr5 (c : Dev nD) (r : Fin 4224) (l : Fin 2048) :
    ((dats m 0 c).arrAt 5 cfg0.N : Vec Ideal S4224x2048 .bf16) (ix2 r l) = dgx (aD m c) (aW m c) (aO m c) r l := by
  unfold dgx
  by_cases h : l.val < 1024
  · rw [dif_pos h]; exact arr5_lo m c r l h
  · rw [dif_neg h]
    refine Eq.trans ?_ (arr5_hi m c r ⟨l.val - 1024, by omega⟩)
    exact congrArg (fun x => ((dats m 0 c).arrAt 5 cfg0.N : Vec Ideal S4224x2048 .bf16) (ix2 r x)) (Fin.ext (by show l.val = 1024 + (l.val - 1024); omega))

/-- Only the last point writes this window back. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' hf hf' hne
  have a := (flush0_6 t).1 hf
  have b := (flush0_6 t').1 hf'
  have h := lt_of_lt_of_eq t.isLt N22
  have h' := lt_of_lt_of_eq t'.isLt N22
  exact absurd (Fin.ext (by omega)) hne

/-- The weights' gradient the kernel leaves. -/
theorem arr6 (c : Dev nD) (j : Fin 4) (l : Fin 1024) :
    ((dats m 0 c).arrAt 6 cfg0.N : Vec Ideal S4x1024 .f32) (ix2 j l) = dw (aG m c) (aD m c) j.val l := by
  obtain ⟨t, ht⟩ : ∃ t : Fin cfg0.N, t.val = 21 := ⟨⟨21, by rw [N22]; omega⟩, rfl⟩
  obtain ⟨e0, e1⟩ := idx6 t
  have e : ((cfg0.win 6).blk t).view.emb (ix2 j l : S4x1024.Idx) = (ix2 j l : S4x1024.Idx) := by
    funext a; apply Fin.ext; fin_cases a
    · show win0_6.index t (0 : Fin 2) * 4 + 1 * (j : Fin 4).val = j.val; rw [e0]; omega
    · show win0_6.index t (1 : Fin 2) * 1024 + 1 * (l : Fin 1024).val = l.val; rw [e1]; omega
  have h := congrFun ((dats m 0 c).read_blk_arrAt_eq_flushed 6 disjoint6 cfg0.N t t.isLt ((flush0_6 t).2 (by rw [ht]))) (ix2 j l : S4x1024.Idx)
  rw [View.read_apply, e, flushed6] at h
  refine Eq.trans h ?_
  refine ((inv m c t.val t.isLt).o6 j l).trans ?_
  rw [ht]
  exact blkW_all m c j.val l

/-- Only the last point writes this window back. -/
theorem disjoint7 : ∀ t t' : Fin cfg0.N, (cfg0.win 7).flush t = true → (cfg0.win 7).flush t' = true → t ≠ t' →
    Disjoint ((cfg0.win 7).blk t).view.set ((cfg0.win 7).blk t').view.set := by
  intro t t' hf hf' hne
  have a := (flush0_7 t).1 hf
  have b := (flush0_7 t').1 hf'
  have h := lt_of_lt_of_eq t.isLt N22
  have h' := lt_of_lt_of_eq t'.isLt N22
  exact absurd (Fin.ext (by omega)) hne

/-- The bias's gradient the kernel leaves. -/
theorem arr7 (c : Dev nD) (j : Fin 1) (l : Fin 1024) :
    ((dats m 0 c).arrAt 7 cfg0.N : Vec Ideal S1x1024 .f32) (ix2 j l) = dbias (aD m c) l := by
  obtain ⟨t, ht⟩ : ∃ t : Fin cfg0.N, t.val = 21 := ⟨⟨21, by rw [N22]; omega⟩, rfl⟩
  obtain ⟨e0, e1⟩ := idx7 t
  have e : ((cfg0.win 7).blk t).view.emb (ix2 j l : S1x1024.Idx) = (ix2 j l : S1x1024.Idx) := by
    funext a; apply Fin.ext; fin_cases a
    · show win0_7.index t (0 : Fin 2) * 1 + 1 * (j : Fin 1).val = j.val; rw [e0]; omega
    · show win0_7.index t (1 : Fin 2) * 1024 + 1 * (l : Fin 1024).val = l.val; rw [e1]; omega
  have h := congrFun ((dats m 0 c).read_blk_arrAt_eq_flushed 7 disjoint7 cfg0.N t t.isLt ((flush0_7 t).2 (by rw [ht]))) (ix2 j l : S1x1024.Idx)
  rw [View.read_apply, e, flushed7] at h
  refine Eq.trans h ?_
  refine ((inv m c t.val t.isLt).o7 j l).trans ?_
  rw [ht]
  exact blkB_all m c l

/-- The kernel's arrays and the reference's results are the same functions of the arguments. -/
theorem alg (hK : Cert.ConvIdeal.Facts) (hR : Cert.ConvRefIdeal.Facts) : @Cert.algebraic_ConvIdeal_ConvRefIdeal hK hR := by
  intro m ρ m' ρ' _ hag
  refine ⟨fun c (i : S4224x2048.Idx) => dgx (aD m c) (aW m c) (aO m c) (i 0) (i 1), fun c (i : S4x1024.Idx) => dw (aG m c) (aD m c) (i 0).val (i 1),
    fun c (i : S1x1024.Idx) => dbias (aD m c) (i 1), ?_, ?_⟩
  · refine (θ_run _ _ _).mono (fun r h c => ?_) (Cert.ConvIdeal.Value.run_blocks m ρ)
    obtain ⟨a, b, d, f⟩ := h c
    refine ⟨a.trans ?_, b.trans ?_, d.trans ?_, f⟩
    · funext i
      obtain ⟨r, l, rfl⟩ : ∃ (r : Fin 4224) (l : Fin 2048), i = ix2 r l := ⟨i 0, i 1, by funext a; fin_cases a <;> rfl⟩
      exact arr5 m c r l
    · funext i
      obtain ⟨r, l, rfl⟩ : ∃ (r : Fin 4) (l : Fin 1024), i = ix2 r l := ⟨i 0, i 1, by funext a; fin_cases a <;> rfl⟩
      exact arr6 m c r l
    · funext i
      obtain ⟨r, l, rfl⟩ : ∃ (r : Fin 1) (l : Fin 1024), i = ix2 r l := ⟨i 0, i 1, by funext a; fin_cases a <;> rfl⟩
      exact arr7 m c r l
  · refine (θ_run _ _ _).mono (fun r h c => ?_) (Cert.ConvRefIdeal.Value.run m' ρ')
    obtain ⟨a, b, d, f⟩ := h c
    obtain ⟨g0, g1, g2, g3⟩ := hag c
    rw [Cert.ConvRefIdeal.Read.val_main_v85_eq, g1, g2, g3] at a
    rw [Cert.ConvRefIdeal.Read.val_main_v78_eq, g0, g1] at b
    rw [Cert.ConvRefIdeal.Read.val_main_v37_eq, g1] at d
    refine ⟨a.trans ?_, b.trans ?_, d.trans ?_, f⟩
    · funext i
      obtain ⟨r, l, rfl⟩ : ∃ (r : Fin 4224) (l : Fin 2048), i = ix2 r l := ⟨i 0, i 1, by funext a; fin_cases a <;> rfl⟩
      exact val85 _ _ _ r l
    · funext i
      obtain ⟨r, l, rfl⟩ : ∃ (r : Fin 4) (l : Fin 1024), i = ix2 r l := ⟨i 0, i 1, by funext a; fin_cases a <;> rfl⟩
      exact val78 _ _ r l
    · funext i
      obtain ⟨r, l, rfl⟩ : ∃ (r : Fin 1) (l : Fin 1024), i = ix2 r l := ⟨i 0, i 1, by funext a; fin_cases a <;> rfl⟩
      exact val37 _ r l

end Cert.ConvFinal

end
-- ==== Proof.DwinFinal.lean ====
module

public import proofs.«01_k».proof.Proof.MlpCase
public import proofs.«01_k».proof.Proof.Gen.DwinIdeal.Value
public import proofs.«01_k».proof.Proof.Gen.DwinRefIdeal.Read
public import proofs.«01_k».proof.Defs
public import Idealize.ShloMosaic.Lib.Claim
public import Idealize.ShloMosaic.Lib.StableHlo.Run

@[expose] public section

/-!
# The kernel of the recurrent block's input projection's weight gradient

Point `t` of the 8 fills rows `(t / 4) * 512 …` of shard `t % 4`.
-/

set_option maxRecDepth 16384

noncomputable section

namespace Cert.DwinFinal

open Cert.DwinIdeal Cert.DwinIdeal.Gen Cert.DwinIdeal.Value Idealize.ShloMosaic Idealize.ShloMosaic.TcCoe Idealize.SL.Sem

/-- The weight gradient: the layer's input transposed, times its output's gradient. -/
def grad (x : Vec Ideal S4224x1024 .bf16) (d : Vec Ideal S4224x2048 .bf16) (r : Fin 1024) (l : Fin 2048) : EReal :=
  ∑ k : Fin 4224, x (ix2 k r) * d (ix2 k l)

/-- The gradient by column shard. -/
def shards (x : Vec Ideal S4224x1024 .bf16) (d : Vec Ideal S4224x2048 .bf16) (q : Fin 4) (r : Fin 1024) (l : Fin 512) : EReal :=
  grad x d r ⟨q * 512 + l, by omega⟩

/-- One point's product at an element. -/
theorem pay1_apply (x : Vec Ideal S4224x512 .bf16) (d : Vec Ideal S4224x512 .bf16) (a : Fin 1) (r l : Fin 512) :
    k0_pay1 x d (ix3 a r l) = ∑ k : Fin 4224, x (ix2 k r) * d (ix2 k l) := by
  pointwise [k0_pay1]

/-- The reference's gradient at an element. -/
theorem ref4 (x : Vec Ideal S4224x1024 .bf16) (d : Vec Ideal S4224x2048 .bf16) (r : Fin 2048) (l : Fin 1024) :
    Cert.DwinRefIdeal.Read.val_main_v4 (F := Ideal) x d (ix2 r l) = grad x d l r := by
  unfold grad
  pointwise [Cert.DwinRefIdeal.Read.val_main_v4, Cert.DwinRefIdeal.Read.val_main_v3, Cert.DwinRefIdeal.Read.val_main_v1]
  exact Finset.sum_congr rfl fun k _ => mul_comm _ _

/-- The reference's result at an element. -/
theorem refOut (x : Vec Ideal S4224x1024 .bf16) (d : Vec Ideal S4224x2048 .bf16) (q : Fin 4) (r : Fin 1024) (l : Fin 512) :
    Cert.DwinRefIdeal.Read.val_main_v8 (F := Ideal) x d (ix3 q r l) = shards x d q r l := by
  unfold shards
  pointwise [Cert.DwinRefIdeal.Read.val_main_v8, Cert.DwinRefIdeal.Read.val_main_v7, Cert.DwinRefIdeal.Read.val_main_v6, Cert.DwinRefIdeal.Read.val_main_v5, ref4]

variable (m : (ℓ : Loc nD τ sig) → Buf (Elt Ideal) ℓ)

/-- The layer's saved input. -/
abbrev aX (c : Dev nD) : Vec Ideal S4224x1024 .bf16 := m ((c : Thread nD τ).loc main_arg0)
/-- The gradient of the layer's output. -/
abbrev aD (c : Dev nD) : Vec Ideal S4224x2048 .bf16 := m ((c : Thread nD τ).loc main_arg1)
theorem hN : cfg0.N = 8 := by decide

theorem idx0 : ∀ t : Fin cfg0.N, win0_0.index t (0 : Fin 2) = 0 ∧ win0_0.index t (1 : Fin 2) = t.val / 4 :=
  (by decide +kernel : ∀ t : Fin grid0.N, _)

theorem idx1 : ∀ t : Fin cfg0.N, win0_1.index t (0 : Fin 2) = 0 ∧ win0_1.index t (1 : Fin 2) = t.val % 4 :=
  (by decide +kernel : ∀ t : Fin grid0.N, _)

theorem idx2 : ∀ t : Fin cfg0.N, win0_2.index t (0 : Fin 3) = t.val % 4 / 1 ∧ win0_2.index t (1 : Fin 3) = t.val / 4
    ∧ win0_2.index t (2 : Fin 3) = t.val % 1 :=
  (by decide +kernel : ∀ t : Fin grid0.N, _)

/-- A column block of the input. -/
theorem ib0 (c : Dev nD) (t : Fin cfg0.N) (r : Fin 4224) (l : Fin 512) :
    (iblk m c 0 t : Vec Ideal S4224x512 .bf16) (ix2 r l)
      = aX m c (ix2 r ⟨t.val / 4 * 512 + l, by have := lt_of_lt_of_eq t.isLt hN; omega⟩) := by
  have hN := lt_of_lt_of_eq t.isLt hN
  obtain ⟨e0, e1⟩ := idx0 t
  unfold iblk
  rw [View.read_apply]
  have e : ((cfg0.win 0).blk t).view.emb (ix2 r l) = (ix2 r ⟨t.val / 4 * 512 + l, by omega⟩ : S4224x1024.Idx) := by
    funext a; apply Fin.ext; fin_cases a
    · show win0_0.index t (0 : Fin 2) * 4224 + 1 * (r : Fin 4224).val = r.val; rw [e0]; omega
    · show win0_0.index t (1 : Fin 2) * 512 + 1 * (l : Fin 512).val = t.val / 4 * 512 + l.val; rw [e1]; omega
  show (V m c main_arg0 : Vec Ideal S4224x1024 .bf16) (((cfg0.win 0).blk t).view.emb (ix2 r l)) = _
  rw [e, V_main_arg0]

/-- A column block of the output's gradient. -/
theorem ib1 (c : Dev nD) (t : Fin cfg0.N) (r : Fin 4224) (l : Fin 512) :
    (iblk m c 1 t : Vec Ideal S4224x512 .bf16) (ix2 r l)
      = aD m c (ix2 r ⟨t.val % 4 * 512 + l, by omega⟩) := by
  obtain ⟨e0, e1⟩ := idx1 t
  unfold iblk
  rw [View.read_apply]
  have e : ((cfg0.win 1).blk t).view.emb (ix2 r l) = (ix2 r ⟨t.val % 4 * 512 + l, by omega⟩ : S4224x2048.Idx) := by
    funext a; apply Fin.ext; fin_cases a
    · show win0_1.index t (0 : Fin 2) * 4224 + 1 * (r : Fin 4224).val = r.val; rw [e0]; omega
    · show win0_1.index t (1 : Fin 2) * 512 + 1 * (l : Fin 512).val = t.val % 4 * 512 + l.val; rw [e1]; omega
  show (V m c main_arg1 : Vec Ideal S4224x2048 .bf16) (((cfg0.win 1).blk t).view.emb (ix2 r l)) = _
  rw [e, V_main_arg1]

/-- The offsets of a whole three-axis block. -/
theorem hz3 : (![0, 0, 0] : Fin 3 → ℕ) = fun _ => 0 := by funext a; fin_cases a <;> rfl

/-- What a point leaves in the output's block. -/
theorem vout (x0 x1 : Vec Ideal S4224x512 .bf16) : out0_2 (F := Ideal) x0 x1 = k0_pay1 x0 x1 := by
  unfold out0_2
  simp only [View.canon_unit_zero (S := S1x512x512) hz3, View.ld_unit_zero (S := S4224x512) MlpCase.hz]

/-- The array the kernel leaves. -/
theorem arr (c : Dev nD) (q : Fin 4) (r : Fin 1024) (l : Fin 512) :
    ((dats m 0 c).arrAt 2 cfg0.N : Vec Ideal S4x1024x512 .bf16) (ix3 q r l) = shards (aX m c) (aD m c) q r l := by
  unfold shards
  let t : Fin cfg0.N := ⟨r.val / 512 * 4 + q.val * 1 + l.val / 512, by rw [hN]; omega⟩
  obtain ⟨e0, e1, e2⟩ := idx2 t
  have ht : t.val = r.val / 512 * 4 + q.val * 1 + l.val / 512 := rfl
  have e : ((cfg0.win 2).blk t).view.emb (ix3 0 ⟨r.val % 512, by omega⟩ ⟨l.val % 512, by omega⟩ : S1x512x512.Idx) = (ix3 q r l : S4x1024x512.Idx) := by
    funext a; apply Fin.ext; fin_cases a
    · show win0_2.index t (0 : Fin 3) * 1 + 1 * 0 = q.val; rw [e0]; omega
    · show win0_2.index t (1 : Fin 3) * 512 + 1 * (r.val % 512) = r.val; rw [e1]; omega
    · show win0_2.index t (2 : Fin 3) * 512 + 1 * (l.val % 512) = l.val; rw [e2]; omega
  have h := congrFun (blocks2 m c t (flush0_2 t)) (ix3 0 ⟨r.val % 512, by omega⟩ ⟨l.val % 512, by omega⟩ : S1x512x512.Idx)
  rw [View.read_apply, e, flushed2, vout] at h
  refine Eq.trans h ?_
  show k0_pay1 _ _ (ix3 0 (⟨r.val % 512, by omega⟩ : Fin 512) (⟨l.val % 512, by omega⟩ : Fin 512)) = _
  rw [pay1_apply]
  unfold grad
  refine Finset.sum_congr rfl fun k _ => ?_
  rw [ib0, ib1]
  have er : (⟨t.val / 4 * 512 + r.val % 512, by omega⟩ : Fin 1024) = r := Fin.ext (by show t.val / 4 * 512 + r.val % 512 = r.val; omega)
  have el : (⟨t.val % 4 * 512 + l.val % 512, by omega⟩ : Fin 2048) = ⟨q * 512 + l, by omega⟩ :=
    Fin.ext (by show t.val % 4 * 512 + l.val % 512 = q.val * 512 + l.val; omega)
  exact congrArg₂ (fun a b => aX m c (ix2 k a) * aD m c (ix2 k b)) er el

/-- The kernel's array and the reference's result are the same function of the arguments. -/
theorem alg (hK : Cert.DwinIdeal.Facts) (hR : Cert.DwinRefIdeal.Facts) : @Cert.algebraic_DwinIdeal_DwinRefIdeal hK hR := by
  intro m ρ m' ρ' _ hag
  refine ⟨fun c (i : S4x1024x512.Idx) => shards (aX m c) (aD m c) (i 0) (i 1) (i 2), ?_, ?_⟩
  · refine (θ_run _ _ _).mono (fun r h c => ?_) (Cert.DwinIdeal.Value.run_blocks m ρ)
    obtain ⟨a, f⟩ := h c
    refine ⟨a.trans ?_, f⟩
    funext i
    obtain ⟨q, r, l, rfl⟩ : ∃ (q : Fin 4) (r : Fin 1024) (l : Fin 512), i = ix3 q r l := ⟨i 0, i 1, i 2, by funext a; fin_cases a <;> rfl⟩
    exact arr m c q r l
  · refine (θ_run _ _ _).mono (fun r h c => ?_) (Cert.DwinRefIdeal.Value.run m' ρ')
    obtain ⟨a, f⟩ := h c
    obtain ⟨g0, g1⟩ := hag c
    rw [Cert.DwinRefIdeal.Read.val_main_v8_eq, g0, g1] at a
    refine ⟨a.trans ?_, f⟩
    funext i
    obtain ⟨q, r, l, rfl⟩ : ∃ (q : Fin 4) (r : Fin 1024) (l : Fin 512), i = ix3 q r l := ⟨i 0, i 1, i 2, by funext a; fin_cases a <;> rfl⟩
    exact refOut _ _ q r l

end Cert.DwinFinal

end
-- ==== Proof.DwoFinal.lean ====
module

public import proofs.«01_k».proof.Proof.MlpCase
public import proofs.«01_k».proof.Proof.Gen.DwoIdeal.Value
public import proofs.«01_k».proof.Proof.Gen.DwoRefIdeal.Read
public import proofs.«01_k».proof.Defs
public import Idealize.ShloMosaic.Lib.Claim
public import Idealize.ShloMosaic.Lib.StableHlo.Run

@[expose] public section

/-!
# The kernel of the square projections' weight gradient

Point `t` of the 4 fills rows `(t / 2) * 512 …` and columns `(t % 2) * 512 …` of the one shard.
-/

set_option maxRecDepth 16384

noncomputable section

namespace Cert.DwoFinal

open Cert.DwoIdeal Cert.DwoIdeal.Gen Cert.DwoIdeal.Value Idealize.ShloMosaic Idealize.ShloMosaic.TcCoe Idealize.SL.Sem

/-- The weight gradient: the layer's input transposed, times its output's gradient. -/
def grad (x : Vec Ideal S4224x1024 .bf16) (d : Vec Ideal S4224x1024 .bf16) (r : Fin 1024) (l : Fin 1024) : EReal :=
  ∑ k : Fin 4224, x (ix2 k r) * d (ix2 k l)

/-- The gradient by column shard. -/
def shards (x : Vec Ideal S4224x1024 .bf16) (d : Vec Ideal S4224x1024 .bf16) (q : Fin 1) (r : Fin 1024) (l : Fin 1024) : EReal :=
  grad x d r ⟨q * 1024 + l, by omega⟩

/-- One point's product at an element. -/
theorem pay1_apply (x : Vec Ideal S4224x512 .bf16) (d : Vec Ideal S4224x512 .bf16) (a : Fin 1) (r l : Fin 512) :
    k0_pay1 x d (ix3 a r l) = ∑ k : Fin 4224, x (ix2 k r) * d (ix2 k l) := by
  pointwise [k0_pay1]

/-- The reference's gradient at an element. -/
theorem ref4 (x : Vec Ideal S4224x1024 .bf16) (d : Vec Ideal S4224x1024 .bf16) (r : Fin 1024) (l : Fin 1024) :
    Cert.DwoRefIdeal.Read.val_main_v4 (F := Ideal) x d (ix2 r l) = grad x d l r := by
  unfold grad
  pointwise [Cert.DwoRefIdeal.Read.val_main_v4, Cert.DwoRefIdeal.Read.val_main_v3, Cert.DwoRefIdeal.Read.val_main_v1]
  exact Finset.sum_congr rfl fun k _ => mul_comm _ _

/-- The reference's result at an element. -/
theorem refOut (x : Vec Ideal S4224x1024 .bf16) (d : Vec Ideal S4224x1024 .bf16) (q : Fin 1) (r : Fin 1024) (l : Fin 1024) :
    Cert.DwoRefIdeal.Read.val_main_v7 (F := Ideal) x d (ix3 q r l) = shards x d q r l := by
  unfold shards
  pointwise [Cert.DwoRefIdeal.Read.val_main_v7, Cert.DwoRefIdeal.Read.val_main_v6, Cert.DwoRefIdeal.Read.val_main_v5, ref4]

variable (m : (ℓ : Loc nD τ sig) → Buf (Elt Ideal) ℓ)

/-- The layer's saved input. -/
abbrev aX (c : Dev nD) : Vec Ideal S4224x1024 .bf16 := m ((c : Thread nD τ).loc main_arg0)
/-- The gradient of the layer's output. -/
abbrev aD (c : Dev nD) : Vec Ideal S4224x1024 .bf16 := m ((c : Thread nD τ).loc main_arg1)
theorem hN : cfg0.N = 4 := by decide

theorem idx0 : ∀ t : Fin cfg0.N, win0_0.index t (0 : Fin 2) = 0 ∧ win0_0.index t (1 : Fin 2) = t.val / 2 :=
  (by decide +kernel : ∀ t : Fin grid0.N, _)

theorem idx1 : ∀ t : Fin cfg0.N, win0_1.index t (0 : Fin 2) = 0 ∧ win0_1.index t (1 : Fin 2) = t.val % 2 :=
  (by decide +kernel : ∀ t : Fin grid0.N, _)

theorem idx2 : ∀ t : Fin cfg0.N, win0_2.index t (0 : Fin 3) = t.val % 2 / 2 ∧ win0_2.index t (1 : Fin 3) = t.val / 2
    ∧ win0_2.index t (2 : Fin 3) = t.val % 2 :=
  (by decide +kernel : ∀ t : Fin grid0.N, _)

/-- A column block of the input. -/
theorem ib0 (c : Dev nD) (t : Fin cfg0.N) (r : Fin 4224) (l : Fin 512) :
    (iblk m c 0 t : Vec Ideal S4224x512 .bf16) (ix2 r l)
      = aX m c (ix2 r ⟨t.val / 2 * 512 + l, by have := lt_of_lt_of_eq t.isLt hN; omega⟩) := by
  have hN := lt_of_lt_of_eq t.isLt hN
  obtain ⟨e0, e1⟩ := idx0 t
  unfold iblk
  rw [View.read_apply]
  have e : ((cfg0.win 0).blk t).view.emb (ix2 r l) = (ix2 r ⟨t.val / 2 * 512 + l, by omega⟩ : S4224x1024.Idx) := by
    funext a; apply Fin.ext; fin_cases a
    · show win0_0.index t (0 : Fin 2) * 4224 + 1 * (r : Fin 4224).val = r.val; rw [e0]; omega
    · show win0_0.index t (1 : Fin 2) * 512 + 1 * (l : Fin 512).val = t.val / 2 * 512 + l.val; rw [e1]; omega
  show (V m c main_arg0 : Vec Ideal S4224x1024 .bf16) (((cfg0.win 0).blk t).view.emb (ix2 r l)) = _
  rw [e, V_main_arg0]

/-- A column block of the output's gradient. -/
theorem ib1 (c : Dev nD) (t : Fin cfg0.N) (r : Fin 4224) (l : Fin 512) :
    (iblk m c 1 t : Vec Ideal S4224x512 .bf16) (ix2 r l)
      = aD m c (ix2 r ⟨t.val % 2 * 512 + l, by omega⟩) := by
  obtain ⟨e0, e1⟩ := idx1 t
  unfold iblk
  rw [View.read_apply]
  have e : ((cfg0.win 1).blk t).view.emb (ix2 r l) = (ix2 r ⟨t.val % 2 * 512 + l, by omega⟩ : S4224x1024.Idx) := by
    funext a; apply Fin.ext; fin_cases a
    · show win0_1.index t (0 : Fin 2) * 4224 + 1 * (r : Fin 4224).val = r.val; rw [e0]; omega
    · show win0_1.index t (1 : Fin 2) * 512 + 1 * (l : Fin 512).val = t.val % 2 * 512 + l.val; rw [e1]; omega
  show (V m c main_arg1 : Vec Ideal S4224x1024 .bf16) (((cfg0.win 1).blk t).view.emb (ix2 r l)) = _
  rw [e, V_main_arg1]

/-- The offsets of a whole three-axis block. -/
theorem hz3 : (![0, 0, 0] : Fin 3 → ℕ) = fun _ => 0 := by funext a; fin_cases a <;> rfl

/-- What a point leaves in the output's block. -/
theorem vout (x0 x1 : Vec Ideal S4224x512 .bf16) : out0_2 (F := Ideal) x0 x1 = k0_pay1 x0 x1 := by
  unfold out0_2
  simp only [View.canon_unit_zero (S := S1x512x512) hz3, View.ld_unit_zero (S := S4224x512) MlpCase.hz]

/-- The array the kernel leaves. -/
theorem arr (c : Dev nD) (q : Fin 1) (r : Fin 1024) (l : Fin 1024) :
    ((dats m 0 c).arrAt 2 cfg0.N : Vec Ideal S1x1024x1024 .bf16) (ix3 q r l) = shards (aX m c) (aD m c) q r l := by
  unfold shards
  let t : Fin cfg0.N := ⟨r.val / 512 * 2 + q.val * 2 + l.val / 512, by rw [hN]; omega⟩
  obtain ⟨e0, e1, e2⟩ := idx2 t
  have ht : t.val = r.val / 512 * 2 + q.val * 2 + l.val / 512 := rfl
  have e : ((cfg0.win 2).blk t).view.emb (ix3 0 ⟨r.val % 512, by omega⟩ ⟨l.val % 512, by omega⟩ : S1x512x512.Idx) = (ix3 q r l : S1x1024x1024.Idx) := by
    funext a; apply Fin.ext; fin_cases a
    · show win0_2.index t (0 : Fin 3) * 1 + 1 * 0 = q.val; rw [e0]; omega
    · show win0_2.index t (1 : Fin 3) * 512 + 1 * (r.val % 512) = r.val; rw [e1]; omega
    · show win0_2.index t (2 : Fin 3) * 512 + 1 * (l.val % 512) = l.val; rw [e2]; omega
  have h := congrFun (blocks2 m c t (flush0_2 t)) (ix3 0 ⟨r.val % 512, by omega⟩ ⟨l.val % 512, by omega⟩ : S1x512x512.Idx)
  rw [View.read_apply, e, flushed2, vout] at h
  refine Eq.trans h ?_
  show k0_pay1 _ _ (ix3 0 (⟨r.val % 512, by omega⟩ : Fin 512) (⟨l.val % 512, by omega⟩ : Fin 512)) = _
  rw [pay1_apply]
  unfold grad
  refine Finset.sum_congr rfl fun k _ => ?_
  rw [ib0, ib1]
  have er : (⟨t.val / 2 * 512 + r.val % 512, by omega⟩ : Fin 1024) = r := Fin.ext (by show t.val / 2 * 512 + r.val % 512 = r.val; omega)
  have el : (⟨t.val % 2 * 512 + l.val % 512, by omega⟩ : Fin 1024) = ⟨q * 1024 + l, by omega⟩ :=
    Fin.ext (by show t.val % 2 * 512 + l.val % 512 = q.val * 1024 + l.val; omega)
  exact congrArg₂ (fun a b => aX m c (ix2 k a) * aD m c (ix2 k b)) er el

/-- The kernel's array and the reference's result are the same function of the arguments. -/
theorem alg (hK : Cert.DwoIdeal.Facts) (hR : Cert.DwoRefIdeal.Facts) : @Cert.algebraic_DwoIdeal_DwoRefIdeal hK hR := by
  intro m ρ m' ρ' _ hag
  refine ⟨fun c (i : S1x1024x1024.Idx) => shards (aX m c) (aD m c) (i 0) (i 1) (i 2), ?_, ?_⟩
  · refine (θ_run _ _ _).mono (fun r h c => ?_) (Cert.DwoIdeal.Value.run_blocks m ρ)
    obtain ⟨a, f⟩ := h c
    refine ⟨a.trans ?_, f⟩
    funext i
    obtain ⟨q, r, l, rfl⟩ : ∃ (q : Fin 1) (r : Fin 1024) (l : Fin 1024), i = ix3 q r l := ⟨i 0, i 1, i 2, by funext a; fin_cases a <;> rfl⟩
    exact arr m c q r l
  · refine (θ_run _ _ _).mono (fun r h c => ?_) (Cert.DwoRefIdeal.Value.run m' ρ')
    obtain ⟨a, f⟩ := h c
    obtain ⟨g0, g1⟩ := hag c
    rw [Cert.DwoRefIdeal.Read.val_main_v7_eq, g0, g1] at a
    refine ⟨a.trans ?_, f⟩
    funext i
    obtain ⟨q, r, l, rfl⟩ : ∃ (q : Fin 1) (r : Fin 1024) (l : Fin 1024), i = ix3 q r l := ⟨i 0, i 1, i 2, by funext a; fin_cases a <;> rfl⟩
    exact refOut _ _ q r l

end Cert.DwoFinal

end
-- ==== Proof.DattFinal.lean ====
module

public import proofs.«01_k».proof.Proof.MlpCase
public import proofs.«01_k».proof.Proof.Gen.DattIdeal.Value
public import proofs.«01_k».proof.Proof.Gen.DattRefIdeal.Read
public import proofs.«01_k».proof.Defs
public import Idealize.ShloMosaic.Lib.Claim
public import Idealize.ShloMosaic.Lib.StableHlo.Run

@[expose] public section

/-!
# The kernel of the attention's output projection's gradient

Point `t` of the 4 fills rows `t * 1056 …`.
-/

set_option maxRecDepth 16384

noncomputable section

namespace Cert.DattFinal

open Cert.DattIdeal Cert.DattIdeal.Gen Cert.DattIdeal.Value Idealize.ShloMosaic Idealize.ShloMosaic.TcCoe Idealize.SL.Sem

/-- The output's gradient times the weight transposed. -/
def proj (a : Vec Ideal S4224x1024 .bf16) (w : Vec Ideal S1024x1024 .f32) (r : Fin 4224) (l : Fin 1024) : EReal :=
  ∑ k : Fin 1024, a (ix2 r k) * w (ix2 l k)

/-- One point's product at an element. -/
theorem pay1_apply (a : Vec Ideal S1056x1024 .bf16) (w : Vec Ideal S1024x1024 .bf16) (r : Fin 1056) (l : Fin 1024) :
    k0_pay1 a w (ix2 r l) = ∑ k : Fin 1024, a (ix2 r k) * w (ix2 l k) := by
  pointwise [k0_pay1]

/-- The reference's result at an element. -/
theorem refOut (a : Vec Ideal S4224x1024 .bf16) (w : Vec Ideal S1024x1024 .f32) (r : Fin 4224) (l : Fin 1024) :
    Cert.DattRefIdeal.Read.val_main_v4 (F := Ideal) a w (ix2 r l) = proj a w r l := by
  unfold proj
  pointwise [Cert.DattRefIdeal.Read.val_main_v4, Cert.DattRefIdeal.Read.val_main_v3, Cert.DattRefIdeal.Read.val_main_v2]

variable (m : (ℓ : Loc nD τ sig) → Buf (Elt Ideal) ℓ)

/-- The kernel's first operand. -/
abbrev aA (c : Dev nD) : Vec Ideal S4224x1024 .bf16 := m ((c : Thread nD τ).loc main_arg0)
/-- The projection's weight. -/
abbrev aW (c : Dev nD) : Vec Ideal S1024x1024 .f32 := m ((c : Thread nD τ).loc main_arg1)
theorem hN : cfg0.N = 4 := by decide

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idxO : ∀ t : Fin cfg0.N, win0_2.index t (0 : Fin 2) = t.val ∧ win0_2.index t (1 : Fin 2) = 0 :=
  (by decide +kernel : ∀ t : Fin grid0.N, _)

/-- The weight as the region receives it. -/
theorem V0 (c : Dev nD) (r l : Fin 1024) : (V m c main_v0 : Vec Ideal S1024x1024 .bf16) (ix2 r l) = aW m c (ix2 r l) := by
  unfold_abbrev_sides
  after_results
  rfl

/-- A row block of the first operand. -/
theorem ib0 (c : Dev nD) (t : Fin cfg0.N) (r : Fin 1056) (l : Fin 1024) :
    (iblk m c 0 t : Vec Ideal S1056x1024 .bf16) (ix2 r l)
      = aA m c (ix2 ⟨t.val * 1056 + r, by have := lt_of_lt_of_eq t.isLt hN; omega⟩ l) := by
  have hN := lt_of_lt_of_eq t.isLt hN
  obtain ⟨e0, e1⟩ := idx0 t
  unfold iblk
  rw [View.read_apply]
  have e : ((cfg0.win 0).blk t).view.emb (ix2 r l) = (ix2 ⟨t.val * 1056 + r, by omega⟩ l : S4224x1024.Idx) := by
    funext a; apply Fin.ext; fin_cases a
    · show win0_0.index t (0 : Fin 2) * 1056 + 1 * (r : Fin 1056).val = t.val * 1056 + r.val; rw [e0]; omega
    · show win0_0.index t (1 : Fin 2) * 1024 + 1 * (l : Fin 1024).val = l.val; rw [e1]; omega
  show (V m c main_arg0 : Vec Ideal S4224x1024 .bf16) (((cfg0.win 0).blk t).view.emb (ix2 r l)) = _
  rw [e, V_main_arg0]

/-- The weight, whole at every point. -/
theorem ib1 (c : Dev nD) (t : Fin cfg0.N) (r l : Fin 1024) :
    (iblk m c 1 t : Vec Ideal S1024x1024 .bf16) (ix2 r l) = aW m c (ix2 r l) := by
  obtain ⟨e0, e1⟩ := idx1 t
  unfold iblk
  rw [View.read_apply]
  have e : ((cfg0.win 1).blk t).view.emb (ix2 r l) = (ix2 r l : S1024x1024.Idx) := by
    funext a; apply Fin.ext; fin_cases a
    · show win0_1.index t (0 : Fin 2) * 1024 + 1 * (r : Fin 1024).val = r.val; rw [e0]; omega
    · show win0_1.index t (1 : Fin 2) * 1024 + 1 * (l : Fin 1024).val = l.val; rw [e1]; omega
  show (V m c main_v0 : Vec Ideal S1024x1024 .bf16) (((cfg0.win 1).blk t).view.emb (ix2 r l)) = _
  rw [e, V0]

/-- What a point leaves in the output's block. -/
theorem vout (x0 : Vec Ideal S1056x1024 .bf16) (x1 : Vec Ideal S1024x1024 .bf16) : out0_2 (F := Ideal) x0 x1 = k0_pay1 x0 x1 := by
  unfold out0_2
  simp only [View.canon_unit_zero (S := S1056x1024) MlpCase.hz, View.ld_unit_zero (S := S1056x1024) MlpCase.hz, View.ld_unit_zero (S := S1024x1024) MlpCase.hz]

/-- The array the kernel leaves. -/
theorem arr (c : Dev nD) (r : Fin 4224) (l : Fin 1024) :
    ((dats m 0 c).arrAt 2 cfg0.N : Vec Ideal S4224x1024 .bf16) (ix2 r l) = proj (aA m c) (aW m c) r l := by
  let t : Fin cfg0.N := ⟨r.val / 1056, by rw [hN]; omega⟩
  obtain ⟨e0, e1⟩ := idxO t
  have ht : t.val = r.val / 1056 := rfl
  have e : ((cfg0.win 2).blk t).view.emb (ix2 ⟨r.val % 1056, by omega⟩ l : S1056x1024.Idx) = (ix2 r l : S4224x1024.Idx) := by
    funext a; apply Fin.ext; fin_cases a
    · show win0_2.index t (0 : Fin 2) * 1056 + 1 * (r.val % 1056) = r.val; rw [e0]; omega
    · show win0_2.index t (1 : Fin 2) * 1024 + 1 * (l : Fin 1024).val = l.val; rw [e1]; omega
  have h := congrFun (blocks2 m c t (flush0_2 t)) (ix2 ⟨r.val % 1056, by omega⟩ l : S1056x1024.Idx)
  rw [View.read_apply, e, flushed2, vout] at h
  refine Eq.trans h ?_
  have er : (⟨t.val * 1056 + r.val % 1056, by omega⟩ : Fin 4224) = r := Fin.ext (by show t.val * 1056 + r.val % 1056 = r.val; omega)
  show k0_pay1 _ _ (ix2 (⟨r.val % 1056, by omega⟩ : Fin 1056) l) = _
  rw [pay1_apply]
  unfold proj
  refine Finset.sum_congr rfl fun k _ => ?_
  rw [ib0, ib1]
  exact congrArg (fun a => aA m c (ix2 a k) * aW m c (ix2 l k)) er

/-- The kernel's array and the reference's result are the same function of the arguments. -/
theorem alg (hK : Cert.DattIdeal.Facts) (hR : Cert.DattRefIdeal.Facts) : @Cert.algebraic_DattIdeal_DattRefIdeal hK hR := by
  intro m ρ m' ρ' _ hag
  refine ⟨fun c (i : S4224x1024.Idx) => proj (aA m c) (aW m c) (i 0) (i 1), ?_, ?_⟩
  · refine (θ_run _ _ _).mono (fun r h c => ?_) (Cert.DattIdeal.Value.run_blocks m ρ)
    obtain ⟨a, f⟩ := h c
    refine ⟨a.trans ?_, f⟩
    funext i
    obtain ⟨r, l, rfl⟩ : ∃ (r : Fin 4224) (l : Fin 1024), i = ix2 r l := ⟨i 0, i 1, by funext a; fin_cases a <;> rfl⟩
    exact arr m c r l
  · refine (θ_run _ _ _).mono (fun r h c => ?_) (Cert.DattRefIdeal.Value.run m' ρ')
    obtain ⟨a, f⟩ := h c
    obtain ⟨g0, g1⟩ := hag c
    rw [Cert.DattRefIdeal.Read.val_main_v4_eq, g0, g1] at a
    refine ⟨a.trans ?_, f⟩
    funext i
    obtain ⟨r, l, rfl⟩ : ∃ (r : Fin 4224) (l : Fin 1024), i = ix2 r l := ⟨i 0, i 1, by funext a; fin_cases a <;> rfl⟩
    exact refOut _ _ r l

end Cert.DattFinal

end
-- ==== Proof.InbwdPay.lean ====
module

public import proofs.«01_k».proof.Proof.Gen.InbwdIdeal.Skeleton
public import proofs.«01_k».proof.Proof.Gen.InbwdRefIdeal.Read
public import proofs.«01_k».proof.Proof.MlpPay

@[expose] public section

/-!
# The values of the backward pass through the RG-LRU's input projection and norm

What one grid point computes, and the reference's results, element by element.
-/

set_option maxRecDepth 16384

noncomputable section

namespace Cert.InbwdPay

open Cert.InbwdIdeal Cert.InbwdIdeal.Gen Idealize.ShloMosaic
open Cert.MlpPay (rstd)

/-- One tile's part of the gradient of the normalised rows. -/
def dnB (d : Vec Ideal S1056x512 .bf16) (w : Vec Ideal S1x1024x512 .bf16) : Vec Ideal S1056x1024 .f32 := fun j =>
  ∑ k : Fin 512, d (ix2 (n0 := 1056) (n1 := 512) (j 0) k) * w (ix3 (n0 := 1) (n1 := 1024) (n2 := 512) 0 (j 1) k)

theorem pay1_eq (d : Vec Ideal S1056x512 .bf16) (w : Vec Ideal S1x1024x512 .bf16) : k0_pay1 d w = dnB d w := by
  funext j
  idx_vars j
  unfold dnB
  pointwise [k0_pay1]

theorem pay2_eq (d : Vec Ideal S1056x512 .bf16) (w : Vec Ideal S1x1024x512 .bf16) : k0_pay2 d w = dnB d w := by
  rw [← pay1_eq]
  funext j; pointwise [k0_pay2]

theorem pay3_eq (d : Vec Ideal S1056x512 .bf16) (w : Vec Ideal S1x1024x512 .bf16) (s : Vec Ideal S1056x1024 .f32) :
    k0_pay3 d w s = fun j => s j + dnB d w j := by
  rw [← pay1_eq]
  funext j; pointwise [k0_pay3]

theorem pay4_eq (v : FVec Ideal S1x1024 .f32) (s : Vec Ideal S1x1024 .f32) : k0_pay4 v s = fun j => s j + v j := by
  funext j; pointwise [k0_pay4]

/-- The norm's backward pass at one element of a block. -/
theorem pay8_apply (h : Vec Ideal S1056x1024 .f32) (g : Vec Ideal S1x1024 .f32) (a dy : Vec Ideal S1056x1024 .f32) (r : Fin 1056) (l : Fin 1024) :
    k0_pay8 h g a dy (ix2 r l)
      = dy (ix2 r l) + rstd (fun k => h (ix2 r k)) * (a (ix2 r l) * g (ix2 0 l) - h (ix2 r l) * rstd (fun k => h (ix2 r k))
          * Ideal.div (∑ k, a (ix2 r k) * g (ix2 0 k) * (h (ix2 r k) * rstd (fun k => h (ix2 r k)))) ((1024 : ℝ) : EReal)) := by
  unfold rstd
  pointwise [k0_pay8, k0_pay6, k0_pay5, Arith.lit_1024]

/-- A block's part of the gradient of the norm's weights. -/
theorem pay7_apply (h : Vec Ideal S1056x1024 .f32) (a : Vec Ideal S1056x1024 .f32) (r : Fin 1) (l : Fin 1024) :
    k0_pay7 h a (ix2 r l) = ∑ x : Fin 1056, a (ix2 x l) * (h (ix2 x l) * rstd (fun k => h (ix2 x k))) := by
  unfold rstd
  pointwise [k0_pay7, k0_pay6, k0_pay5, Arith.lit_1024]

/-- The rounded copy holds the values. -/
theorem pay9_eq (h : Vec Ideal S1056x1024 .f32) (g : Vec Ideal S1x1024 .f32) (a dy : Vec Ideal S1056x1024 .f32) :
    (k0_pay9 h g a dy : Vec Ideal S1056x1024 .bf16) = fun j => k0_pay8 h g a dy j := by
  funext j; pointwise [k0_pay9]

/-! ## The reference -/

section Ref

open Cert.InbwdRefIdeal.Read

variable (d : Vec Ideal S4224x2048 .bf16) (w : Vec Ideal S1024x2048 .f32) (h : Vec Ideal S4224x1024 .f32) (g : Vec Ideal S1x1024 .f32)
  (dy : Vec Ideal S4224x1024 .f32)

/-- The gradient of the normalised rows. -/
def dn (r : Fin 4224) (l : Fin 1024) : EReal := ∑ k : Fin 2048, d (ix2 r k) * w (ix2 l k)

/-- The gradient of the norm's weights. -/
def dg (l : Fin 1024) : EReal := ∑ r : Fin 4224, dn d w r l * (h (ix2 r l) * rstd (fun k => h (ix2 r k)))

/-- The gradient of the residual stream. -/
def dh (r : Fin 4224) (l : Fin 1024) : EReal :=
  dy (ix2 r l) + rstd (fun k => h (ix2 r k)) * (dn d w r l * g (ix2 0 l) - h (ix2 r l) * rstd (fun k => h (ix2 r k))
    * Ideal.div (∑ k, dn d w r k * g (ix2 0 k) * (h (ix2 r k) * rstd (fun k => h (ix2 r k)))) ((1024 : ℝ) : EReal))

/-- The reference's reciprocal root mean square. -/
theorem val7 (r : Fin 4224) : val_main_v7 (F := Ideal) h (ix2 r 0) = rstd (fun k => h (ix2 r k)) := by
  unfold rstd
  pointwise [val_main_v7, val_main_v6, val_main_v5, val_main_v4, val_main_v3, val_main_v2, val_main_v1, val_main_v0, val_main_cst_1, val_main_cst, val_main_cst_0, Arith.lit_1024]

/-- The reference's gradient of the normalised rows. -/
theorem val17 (r : Fin 4224) (l : Fin 1024) : val_main_v17 (F := Ideal) d w (ix2 r l) = dn d w r l := by
  unfold dn
  pointwise [val_main_v17, val_main_v16]

/-- The reference's gradient of the norm's weights. -/
theorem val20 (l : Fin 1024) : val_main_v20 (F := Ideal) d w h (ix2 0 l) = dg d w h l := by
  unfold dg
  pointwise [val_main_v20, val_main_v19, val_main_v18, val_main_v12, val_main_v11, val_main_cst_3, val7, val17]
  exact Finset.sum_congr rfl fun r _ => mul_comm _ _

/-- The reference's gradient of the residual stream, in the form with the normalised row. -/
theorem val37 (r : Fin 4224) (l : Fin 1024) :
    val_main_v37 (F := Ideal) d w h g dy (ix2 r l) = dh d w h g dy r l := by
  obtain ⟨e, he, hee⟩ := Arith.lit_eps
  have key := Arith.rms_bwd (fun k : Fin 1024 => h (ix2 r k)) (fun k => dn d w r k * g (ix2 0 k)) (dy (ix2 r l)) l
    (by norm_num : (0 : ℝ) < 1024) he
  rw [← hee] at key
  unfold dh
  refine Eq.trans ?_ key.symm
  pointwise [val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v10, val_main_v9, val_main_v8, val_main_v6, val_main_v5, val_main_v4, val_main_v3, val_main_v2, val_main_v1, val_main_v0, val_main_cst_1, val_main_cst_2, val_main_cst_0,
    val_main_cst, val_main_cst_4, val_main_cst_5, val_main_cst_6, val7, val17, Arith.lit_1024, Arith.lit_neg_half]
  simp only [Fin.sum_univ_one, val7]
  rfl

/-- The rounded copy holds the values. -/
theorem val38 (r : Fin 4224) (l : Fin 1024) :
    val_main_v38 (F := Ideal) d w h g dy (ix2 r l) = dh d w h g dy r l := by
  pointwise [val_main_v38, val37]

end Ref

end Cert.InbwdPay

end
-- ==== Proof.InbwdCase.lean ====
module

public import proofs.«01_k».proof.Proof.Gen.InbwdIdeal.Frame
public import proofs.«01_k».proof.Proof.InbwdPay
public import proofs.«01_k».proof.Proof.MlpCase
public import Idealize.ShloMosaic.Lib.Pipeline.Value

@[expose] public section

/-!
# What a point of the backward kernel of the RG-LRU's input projection leaves, case by case
-/

set_option maxRecDepth 16384

noncomputable section

namespace Cert.InbwdCase

open Cert.InbwdIdeal Cert.InbwdIdeal.Gen Idealize.ShloMosaic Idealize.ShloMosaic.TcCoe Idealize.SL.Sem
open Cert.MlpCase (hz readCov_ld)

theorem hz3 : (![0, 0, 0] : Fin 3 → Nat) = fun _ => 0 := funext fun a => by fin_cases a <;> rfl

/-- The running sum after the first tile. -/
theorem vsout0_A_0 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : cond0_0 i) (hc1 : ¬cond0_1 i) (hc2 : ¬cond0_2 i)
    (x0 : Vec Ideal S1056x512 .bf16) (x1 : Vec Ideal S1x1024x512 .bf16) (x2 : Vec Ideal S1056x1024 .f32) (x3 : Vec Ideal S1x1024 .f32) (x4 : Vec Ideal S1056x1024 .f32) :
    sout0_A_0 (F := Ideal) c i arg2 harg2 arg3 harg3 arg4 harg4 arg5 harg5 arg6 harg6 arg7 harg7 arg8 harg8 arg9 harg9 arg10 harg10 hc0 hc1 hc2 x0 x1 x2 x3 x4 = InbwdPay.dnB x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4)]
  unfold kernelRun0_A
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- The running sum after a middle tile. -/
theorem vsout0_B_0 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : ¬cond0_2 i)
    (x0 : Vec Ideal S1056x512 .bf16) (x1 : Vec Ideal S1x1024x512 .bf16) (x2 : Vec Ideal S1056x1024 .f32) (x3 : Vec Ideal S1x1024 .f32) (x4 : Vec Ideal S1056x1024 .f32) (xs0 : Vec Ideal S1056x1024 .f32) :
    sout0_B_0 (F := Ideal) c i arg2 harg2 arg3 harg3 arg4 harg4 arg5 harg5 arg6 harg6 arg7 harg7 arg8 harg8 arg9 harg9 arg10 harg10 hc0 hc1 hc2 x0 x1 x2 x3 x4 xs0 = fun j => xs0 j + InbwdPay.dnB x0 x1 j := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 hc2 x0 x1 x2 x3 x4 xs0)]
  unfold kernelRun0_B
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- The running sum after the last tile of the first row block. -/
theorem vsout0_C_0 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : cond0_3 i) (hc4 : ¬cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xs0 : Vec Ideal S1056x1024 .f32) :
    sout0_C_0 (F := Ideal) c i arg2 harg2 arg3 harg3 arg4 harg4 arg5 harg5 arg6 harg6 arg7 harg7 arg8 harg8 arg9 harg9 arg10 harg10 hc0 hc1 hc2 hc3 hc4 x0 x1 x2 x3 x4 xs0 = fun j => xs0 j + InbwdPay.dnB x0 x1 j := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 hc3 hc4 x0 x1 x2 x3 x4 xs0)]
  unfold kernelRun0_C
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- The gradient of the residual stream at the last tile of the first row block. -/
theorem vout0_C_5 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : cond0_3 i) (hc4 : ¬cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xs0 : Vec Ideal S1056x1024 .f32) :
    out0_C_5 (F := Ideal) c i arg2 harg2 arg3 harg3 arg4 harg4 arg5 harg5 arg6 harg6 arg7 harg7 arg8 harg8 arg9 harg9 arg10 harg10 hc0 hc1 hc2 hc3 hc4 x0 x1 x2 x3 x4 xs0 = k0_pay8 x2 x3 (fun j => xs0 j + InbwdPay.dnB x0 x1 j) x4 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 hc2 hc3 hc4 x0 x1 x2 x3 x4 xs0)]
  unfold kernelRun0_C
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- Its rounded copy at the last tile of the first row block. -/
theorem vout0_C_6 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : cond0_3 i) (hc4 : ¬cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xs0 : Vec Ideal S1056x1024 .f32) :
    out0_C_6 (F := Ideal) c i arg2 harg2 arg3 harg3 arg4 harg4 arg5 harg5 arg6 harg6 arg7 harg7 arg8 harg8 arg9 harg9 arg10 harg10 hc0 hc1 hc2 hc3 hc4 x0 x1 x2 x3 x4 xs0 = fun j => k0_pay8 x2 x3 (fun j => xs0 j + InbwdPay.dnB x0 x1 j) x4 j := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 hc2 hc3 hc4 x0 x1 x2 x3 x4 xs0)]
  unfold kernelRun0_C
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- The gradient of the norm's weights at the last tile of the first row block. -/
theorem vout0_C_7 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : cond0_3 i) (hc4 : ¬cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xs0 : Vec Ideal S1056x1024 .f32) :
    out0_C_7 (F := Ideal) c i arg2 harg2 arg3 harg3 arg4 harg4 arg5 harg5 arg6 harg6 arg7 harg7 arg8 harg8 arg9 harg9 arg10 harg10 hc0 hc1 hc2 hc3 hc4 x0 x1 x2 x3 x4 xs0 = k0_pay7 x2 (fun j => xs0 j + InbwdPay.dnB x0 x1 j) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 hc2 hc3 hc4 x0 x1 x2 x3 x4 xs0)]
  unfold kernelRun0_C
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- The running sum after the last tile of a later row block. -/
theorem vsout0_D_0 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : ¬cond0_3 i) (hc4 : cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xo7 : Vec Ideal S1x1024 .f32) (xs0 : Vec Ideal S1056x1024 .f32) :
    sout0_D_0 (F := Ideal) c i arg2 harg2 arg3 harg3 arg4 harg4 arg5 harg5 arg6 harg6 arg7 harg7 arg8 harg8 arg9 harg9 arg10 harg10 hc0 hc1 hc2 hc3 hc4 x0 x1 x2 x3 x4 xo7 xs0 = fun j => xs0 j + InbwdPay.dnB x0 x1 j := by
  unfold sout0_D_0
  rw [View.read_writes_eq_canon _ _ _ (scover0_D_0 c i arg2 harg2 arg3 harg3 arg4 harg4 arg5 harg5 arg6 harg6 arg7 harg7 arg8 harg8 arg9 harg9 arg10 harg10 hc0 hc1 hc2 hc3 hc4 x0 x1 x2 x3 x4 xo7 xs0)]
  unfold kernelRun0_D
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- The gradient of the residual stream at the last tile of a later row block. -/
theorem vout0_D_5 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : ¬cond0_3 i) (hc4 : cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xo7 : Vec Ideal S1x1024 .f32) (xs0 : Vec Ideal S1056x1024 .f32) :
    out0_D_5 (F := Ideal) c i arg2 harg2 arg3 harg3 arg4 harg4 arg5 harg5 arg6 harg6 arg7 harg7 arg8 harg8 arg9 harg9 arg10 harg10 hc0 hc1 hc2 hc3 hc4 x0 x1 x2 x3 x4 xo7 xs0 = k0_pay8 x2 x3 (fun j => xs0 j + InbwdPay.dnB x0 x1 j) x4 := by
  unfold out0_D_5
  rw [View.read_writes_eq_canon _ _ _ (cover0_D_5 c i arg2 harg2 arg3 harg3 arg4 harg4 arg5 harg5 arg6 harg6 arg7 harg7 arg8 harg8 arg9 harg9 arg10 harg10 hc0 hc1 hc2 hc3 hc4 x0 x1 x2 x3 x4 xo7 xs0)]
  unfold kernelRun0_D
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- Its rounded copy at the last tile of a later row block. -/
theorem vout0_D_6 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : ¬cond0_3 i) (hc4 : cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xo7 : Vec Ideal S1x1024 .f32) (xs0 : Vec Ideal S1056x1024 .f32) :
    out0_D_6 (F := Ideal) c i arg2 harg2 arg3 harg3 arg4 harg4 arg5 harg5 arg6 harg6 arg7 harg7 arg8 harg8 arg9 harg9 arg10 harg10 hc0 hc1 hc2 hc3 hc4 x0 x1 x2 x3 x4 xo7 xs0 = fun j => k0_pay8 x2 x3 (fun j => xs0 j + InbwdPay.dnB x0 x1 j) x4 j := by
  unfold out0_D_6
  rw [View.read_writes_eq_canon _ _ _ (cover0_D_6 c i arg2 harg2 arg3 harg3 arg4 harg4 arg5 harg5 arg6 harg6 arg7 harg7 arg8 harg8 arg9 harg9 arg10 harg10 hc0 hc1 hc2 hc3 hc4 x0 x1 x2 x3 x4 xo7 xs0)]
  unfold kernelRun0_D
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

/-- The gradient of the norm's weights at the last tile of a later row block. -/
theorem vout0_D_7 (c : Dev nD) (i : grid0.Coords) (arg2 : Memref sig .tc .vmem S1056x512 .bf16) (harg2 : arg2.IsWhole) (arg3 : Memref sig .tc .vmem S1x1024x512 .bf16) (harg3 : arg3.IsWhole) (arg4 : Memref sig .tc .vmem S1056x1024 .f32) (harg4 : arg4.IsWhole) (arg5 : Memref sig .tc .vmem S1x1024 .f32) (harg5 : arg5.IsWhole) (arg6 : Memref sig .tc .vmem S1056x1024 .f32) (harg6 : arg6.IsWhole) (arg7 : Memref sig .tc .vmem S1056x1024 .f32) (harg7 : arg7.IsWhole) (arg8 : Memref sig .tc .vmem S1056x1024 .bf16) (harg8 : arg8.IsWhole) (arg9 : Memref sig .tc .vmem S1x1024 .f32) (harg9 : arg9.IsWhole) (arg10 : Memref sig .tc .vmem S1056x1024 .f32) (harg10 : arg10.IsWhole) (hc0 : ¬cond0_0 i) (hc1 : cond0_1 i) (hc2 : cond0_2 i) (hc3 : ¬cond0_3 i) (hc4 : cond0_4 i)
    (x0 : Vec Ideal S1056x512 .bf16) (x1 : Vec Ideal S1x1024x512 .bf16) (x2 : Vec Ideal S1056x1024 .f32) (x3 : Vec Ideal S1x1024 .f32) (x4 : Vec Ideal S1056x1024 .f32) (xo7 : Vec Ideal S1x1024 .f32) (xs0 : Vec Ideal S1056x1024 .f32) :
    out0_D_7 (F := Ideal) c i arg2 harg2 arg3 harg3 arg4 harg4 arg5 harg5 arg6 harg6 arg7 harg7 arg8 harg8 arg9 harg9 arg10 harg10 hc0 hc1 hc2 hc3 hc4 x0 x1 x2 x3 x4 xo7 xs0 = fun j => xo7 j + k0_pay7 x2 (fun j => xs0 j + InbwdPay.dnB x0 x1 j) j := by
  unfold out0_D_7
  rw [View.read_writes_eq_canon _ _ _ (cover0_D_7 c i arg2 harg2 arg3 harg3 arg4 harg4 arg5 harg5 arg6 harg6 arg7 harg7 arg8 harg8 arg9 harg9 arg10 harg10 hc0 hc1 hc2 hc3 hc4 x0 x1 x2 x3 x4 xo7 xs0)]
  unfold kernelRun0_D
  dsimp only
  (try sl_unfold_words)
  simp only [readCov_ld (S := S1056x1024) _ hz, View.canon_cons_unit_zero (S := S1056x1024) hz, View.canon_cons_unit_zero (S := S1x1024) hz, View.readAt_eq_ld, harg2.read_unread, harg3.read_unread, harg4.read_unread, harg5.read_unread, harg6.read_unread, harg7.read_unread, harg8.read_unread, harg9.read_unread, harg10.read_unread, View.ld_unit_zero (S := S1056x1024) hz, View.ld_unit_zero (S := S1056x512) hz, View.ld_unit_zero (S := S1x1024) hz, View.ld_unit_zero (S := S1x1024x512) hz3]
  (try simp only [InbwdPay.pay9_eq, InbwdPay.pay4_eq, InbwdPay.pay3_eq, InbwdPay.pay2_eq, InbwdPay.pay1_eq])
  try rfl

end Cert.InbwdCase

end
-- ==== Proof.InbwdFinal.lean ====
module

public import proofs.«01_k».proof.Proof.InbwdCase
public import proofs.«01_k».proof.Proof.Gen.InbwdIdeal.Value
public import proofs.«01_k».proof.Proof.Gen.InbwdRefIdeal.Run
public import proofs.«01_k».proof.Defs
public import Idealize.ShloMosaic.Lib.Claim
public import Idealize.ShloMosaic.Lib.StableHlo.Run

@[expose] public section

/-!
# The backward kernel of the RG-LRU's input projection computes the gradients

Point `t` of the 16 works on row block `t / 4` and on column tile `t % 4` of the projection. By induction over the points, the
running sum holds the tiles so far and the gradient of the norm's weights holds the row blocks finished so far.
-/

set_option maxRecDepth 16384

noncomputable section

namespace Cert.InbwdFinal

open Cert.InbwdIdeal Cert.InbwdIdeal.Gen Cert.InbwdIdeal.Value Cert.InbwdCase Idealize.ShloMosaic Idealize.ShloMosaic.TcCoe Idealize.SL.Sem

variable (m : (ℓ : Loc nD τ sig) → Buf (Elt Ideal) ℓ)

/-- The incoming gradient of the projection. -/
abbrev aD (c : Dev nD) : Vec Ideal S4224x2048 .bf16 := m ((c : Thread nD τ).loc main_arg0)
/-- The projection. -/
abbrev aW (c : Dev nD) : Vec Ideal S1024x2048 .f32 := m ((c : Thread nD τ).loc main_arg1)
/-- The layer's input. -/
abbrev aH (c : Dev nD) : Vec Ideal S4224x1024 .f32 := m ((c : Thread nD τ).loc main_arg2)
/-- The norm's weights. -/
abbrev aG (c : Dev nD) : Vec Ideal S1x1024 .f32 := m ((c : Thread nD τ).loc main_arg3)
/-- The gradient of the residual stream that comes in. -/
abbrev aDy (c : Dev nD) : Vec Ideal S4224x1024 .f32 := m ((c : Thread nD τ).loc main_arg4)

/-- The projection as the kernel's blocks take it: cut into four column tiles. -/
theorem V2 (c : Dev nD) (q : Fin 4) (r : Fin 1024) (l : Fin 512) :
    (V m c main_v2 : Vec Ideal S4x1024x512 .bf16) (ix3 q r l) = aW m c (ix2 r ⟨q * 512 + l, by omega⟩) := by
  unfold_abbrev_sides
  after_results
  pointwise

theorem N16 : cfg0.N = 16 := N_0

/-- A point's row of the whole array. -/
abbrev row (t : Fin cfg0.N) (r : Fin 1056) : Fin 4224 := ⟨t.val / 4 * 1056 + r.val, by have h := lt_of_lt_of_eq t.isLt N16; omega⟩
/-- A point's column of the projection. -/
abbrev col (t : Fin cfg0.N) (l : Fin 512) : Fin 2048 := ⟨t.val % 4 * 512 + l.val, by omega⟩

theorem idx0 : ∀ t : Fin cfg0.N, win0_0.index t (0 : Fin 2) = t.val / 4 ∧ win0_0.index t (1 : Fin 2) = t.val % 4 :=
  (by decide +kernel : ∀ t : Fin grid0.N, _)

theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

theorem idx2 : ∀ t : Fin cfg0.N, win0_2.index t (0 : Fin 2) = t.val / 4 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = t.val / 4 ∧ win0_4.index t (1 : Fin 2) = 0 :=
  (by decide +kernel : ∀ t : Fin grid0.N, _)

/-- A block of the incoming gradient of the projection. -/
theorem ib0 (c : Dev nD) (t : Fin cfg0.N) (r : Fin 1056) (l : Fin 512) :
    (iblk m c 0 t : Vec Ideal S1056x512 .bf16) (ix2 r l) = aD m c (ix2 (row t r) (col t l)) := by
  have hN := lt_of_lt_of_eq t.isLt N16
  obtain ⟨e0, e1⟩ := idx0 t
  unfold iblk
  rw [View.read_apply]
  have e : ((cfg0.win 0).blk t).view.emb (ix2 r l) = ((ix2 (row t r) (col t l)) : S4224x2048.Idx) := by
    funext a; apply Fin.ext; fin_cases a
    · show win0_0.index t (0 : Fin 2) * 1056 + 1 * (r : Fin 1056).val = t.val / 4 * 1056 + r.val; rw [e0]; omega
    · show win0_0.index t (1 : Fin 2) * 512 + 1 * (l : Fin 512).val = t.val % 4 * 512 + l.val; rw [e1]; omega
  show (V m c main_arg0 : Vec Ideal S4224x2048 .bf16) (((cfg0.win 0).blk t).view.emb (ix2 r l)) = _
  rw [e, V_main_arg0]

/-- A column tile of the projection. -/
theorem ib1 (c : Dev nD) (t : Fin cfg0.N) (a : Fin 1) (r : Fin 1024) (l : Fin 512) :
    (iblk m c 1 t : Vec Ideal S1x1024x512 .bf16) (ix3 a r l) = aW m c (ix2 r (col t l)) := by
  have hN := lt_of_lt_of_eq t.isLt N16
  obtain ⟨e0, e1, e2⟩ := idx1 t
  unfold iblk
  rw [View.read_apply]
  have e : ((cfg0.win 1).blk t).view.emb (ix3 a r l) = (ix3 (⟨t.val % 4, Nat.mod_lt _ (by decide)⟩ : Fin 4) r l : S4x1024x512.Idx) := by
    funext a; apply Fin.ext; fin_cases a
    · show win0_1.index t (0 : Fin 3) * 1 + 1 * (a : Fin 1).val = t.val % 4; rw [e0]; omega
    · show win0_1.index t (1 : Fin 3) * 1024 + 1 * (r : Fin 1024).val = r.val; rw [e1]; omega
    · show win0_1.index t (2 : Fin 3) * 512 + 1 * (l : Fin 512).val = l.val; rw [e2]; omega
  show (V m c main_v2 : Vec Ideal S4x1024x512 .bf16) (((cfg0.win 1).blk t).view.emb (ix3 a r l)) = _
  rw [e, V2]

/-- A block of the layer's input. -/
theorem ib2 (c : Dev nD) (t : Fin cfg0.N) (r : Fin 1056) (l : Fin 1024) :
    (iblk m c 2 t : Vec Ideal S1056x1024 .f32) (ix2 r l) = aH m c (ix2 (row t r) l) := by
  have hN := lt_of_lt_of_eq t.isLt N16
  obtain ⟨e0, e1⟩ := idx2 t
  unfold iblk
  rw [View.read_apply]
  have e : ((cfg0.win 2).blk t).view.emb (ix2 r l) = ((ix2 (row t r) l) : S4224x1024.Idx) := by
    funext a; apply Fin.ext; fin_cases a
    · show win0_2.index t (0 : Fin 2) * 1056 + 1 * (r : Fin 1056).val = t.val / 4 * 1056 + r.val; rw [e0]; omega
    · show win0_2.index t (1 : Fin 2) * 1024 + 1 * (l : Fin 1024).val = l.val; rw [e1]; omega
  show (V m c main_arg2 : Vec Ideal S4224x1024 .f32) (((cfg0.win 2).blk t).view.emb (ix2 r l)) = _
  rw [e, V_main_arg2]

/-- The norm's weights. -/
theorem ib3 (c : Dev nD) (t : Fin cfg0.N) (r : Fin 1) (l : Fin 1024) :
    (iblk m c 3 t : Vec Ideal S1x1024 .f32) (ix2 r l) = aG m c (ix2 r l) := by
  have hN := lt_of_lt_of_eq t.isLt N16
  obtain ⟨e0, e1⟩ := idx3 t
  unfold iblk
  rw [View.read_apply]
  have e : ((cfg0.win 3).blk t).view.emb (ix2 r l) = ((ix2 r l) : S1x1024.Idx) := by
    funext a; apply Fin.ext; fin_cases a
    · show win0_3.index t (0 : Fin 2) * 1 + 1 * (r : Fin 1).val = r.val; rw [e0]; omega
    · show win0_3.index t (1 : Fin 2) * 1024 + 1 * (l : Fin 1024).val = l.val; rw [e1]; omega
  show (V m c main_arg3 : Vec Ideal S1x1024 .f32) (((cfg0.win 3).blk t).view.emb (ix2 r l)) = _
  rw [e, V_main_arg3]

/-- A block of the gradient of the residual stream that comes in. -/
theorem ib4 (c : Dev nD) (t : Fin cfg0.N) (r : Fin 1056) (l : Fin 1024) :
    (iblk m c 4 t : Vec Ideal S1056x1024 .f32) (ix2 r l) = aDy m c (ix2 (row t r) l) := by
  have hN := lt_of_lt_of_eq t.isLt N16
  obtain ⟨e0, e1⟩ := idx4 t
  unfold iblk
  rw [View.read_apply]
  have e : ((cfg0.win 4).blk t).view.emb (ix2 r l) = ((ix2 (row t r) l) : S4224x1024.Idx) := by
    funext a; apply Fin.ext; fin_cases a
    · show win0_4.index t (0 : Fin 2) * 1056 + 1 * (r : Fin 1056).val = t.val / 4 * 1056 + r.val; rw [e0]; omega
    · show win0_4.index t (1 : Fin 2) * 1024 + 1 * (l : Fin 1024).val = l.val; rw [e1]; omega
  show (V m c main_arg4 : Vec Ideal S4224x1024 .f32) (((cfg0.win 4).blk t).view.emb (ix2 r l)) = _
  rw [e, V_main_arg4]

/-- The gradient of the normalised rows over the arguments. -/
abbrev dn (c : Dev nD) (r : Fin 4224) (l : Fin 1024) : EReal := InbwdPay.dn (aD m c) (aW m c) r l
/-- The gradient of the norm's weights over the arguments. -/
abbrev dg (c : Dev nD) (l : Fin 1024) : EReal := InbwdPay.dg (aD m c) (aW m c) (aH m c) l
/-- The gradient of the residual stream over the arguments. -/
abbrev dh (c : Dev nD) (r : Fin 4224) (l : Fin 1024) : EReal := InbwdPay.dh (aD m c) (aW m c) (aH m c) (aG m c) (aDy m c) r l

/-- Column `k` of tile `f`. -/
abbrev colT (f : ℕ) (k : Fin 512) : Fin 2048 := ⟨f % 4 * 512 + k.val, by omega⟩
/-- One tile's part of the gradient of the normalised rows. -/
def part (c : Dev nD) (r : Fin 4224) (l : Fin 1024) (f : ℕ) : EReal := ∑ k : Fin 512, aD m c (ix2 r (colT f k)) * aW m c (ix2 l (colT f k))
/-- Row `x` of row block `i`. -/
abbrev rowB (i : ℕ) (x : Fin 1056) : Fin 4224 := ⟨i % 4 * 1056 + x.val, by omega⟩
/-- One row block's part of the gradient of the norm's weights. -/
def blkG (c : Dev nD) (l : Fin 1024) (i : ℕ) : EReal :=
  ∑ x : Fin 1056, dn m c (rowB i x) l * (aH m c (ix2 (rowB i x) l) * MlpPay.rstd (fun k => aH m c (ix2 (rowB i x) k)))

/-- The four tiles make up the whole projection. -/
theorem part_all (c : Dev nD) (r : Fin 4224) (l : Fin 1024) : ∑ f ∈ Finset.range 4, part m c r l f = dn m c r l := by
  unfold dn InbwdPay.dn
  rw [Finset.sum_range, Fin.sum_univ_tiles 4 512 rfl]
  unfold part
  refine Finset.sum_congr rfl fun f _ => Finset.sum_congr rfl fun k _ => ?_
  have e : colT f.val k = ⟨f.val * 512 + k.val, by omega⟩ := Fin.ext (by show f.val % 4 * 512 + k.val = f.val * 512 + k.val; omega)
  rw [e]

/-- The four row blocks make up all rows. -/
theorem blkG_all (c : Dev nD) (l : Fin 1024) : ∑ i ∈ Finset.range 4, blkG m c l i = dg m c l := by
  unfold dg InbwdPay.dg
  rw [Finset.sum_range, Fin.sum_univ_tiles 4 1056 rfl]
  unfold blkG
  refine Finset.sum_congr rfl fun f _ => Finset.sum_congr rfl fun k _ => ?_
  have e : rowB f.val k = ⟨f.val * 1056 + k.val, by omega⟩ := Fin.ext (by show f.val % 4 * 1056 + k.val = f.val * 1056 + k.val; omega)
  rw [e]

/-- A block's product with a tile at an element. -/
theorem dnB_apply (d : Vec Ideal S1056x512 .bf16) (w : Vec Ideal S1x1024x512 .bf16) (r : Fin 1056) (l : Fin 1024) :
    InbwdPay.dnB d w (ix2 r l) = ∑ k : Fin 512, d (ix2 r k) * w (ix3 0 l k) := rfl

/-- A point's part of the gradient of the normalised rows. -/
theorem dn_blk (c : Dev nD) (t : Fin cfg0.N) (r : Fin 1056) (l : Fin 1024) :
    InbwdPay.dnB (iblk m c 0 t) (iblk m c 1 t) (ix2 r l) = part m c (row t r) l (t.val % 4) := by
  rw [dnB_apply]
  unfold part
  refine Finset.sum_congr rfl fun k _ => ?_
  rw [ib0, ib1]
  have e : colT (t.val % 4) k = col t k := Fin.ext (by show t.val % 4 % 4 * 512 + k.val = t.val % 4 * 512 + k.val; omega)
  rw [e]

/-- The gradient of the residual stream at the last tile of a row block. -/
theorem dh_blk (c : Dev nD) (t : Fin cfg0.N) (a : Vec Ideal S1056x1024 .f32) (ha : ∀ r l, a (ix2 r l) = dn m c (row t r) l)
    (r : Fin 1056) (l : Fin 1024) :
    k0_pay8 (iblk m c 2 t) (iblk m c 3 t) a (iblk m c 4 t) (ix2 r l) = dh m c (row t r) l := by
  rw [InbwdPay.pay8_apply]
  simp only [ha, ib2, ib3, ib4]
  rfl

/-- A row block's part of the gradient of the norm's weights. -/
theorem dg_blk (c : Dev nD) (t : Fin cfg0.N) (a : Vec Ideal S1056x1024 .f32) (ha : ∀ r l, a (ix2 r l) = dn m c (row t r) l)
    (r : Fin 1) (l : Fin 1024) :
    k0_pay7 (iblk m c 2 t) a (ix2 r l) = blkG m c l (t.val / 4) := by
  rw [InbwdPay.pay7_apply]
  unfold blkG
  refine Finset.sum_congr rfl fun x _ => ?_
  have hN := lt_of_lt_of_eq t.isLt N16
  have e : rowB (t.val / 4) x = row t x := Fin.ext (by show t.val / 4 % 4 * 1056 + x.val = t.val / 4 * 1056 + x.val; omega)
  simp only [ha, ib2, e]

/-- What the kernel holds after point `t`. -/
structure Inv (c : Dev nD) (t : Fin cfg0.N) : Prop where
  s0 : ∀ r l, (outsAt0 m c t.val t.isLt).2.2.2 (ix2 r l) = ∑ f ∈ Finset.range (t.val % 4 + 1), part m c (row t r) l f
  o5 : t.val % 4 = 3 → ∀ r l, (outsAt0 m c t.val t.isLt).1 (ix2 r l) = dh m c (row t r) l
  o6 : t.val % 4 = 3 → ∀ r l, (outsAt0 m c t.val t.isLt).2.1 (ix2 r l) = dh m c (row t r) l
  o7 : 4 ≤ t.val + 1 → ∀ a l, (outsAt0 m c t.val t.isLt).2.2.1 (ix2 a l) = ∑ i ∈ Finset.range ((t.val + 1) / 4), blkG m c l i

/-- The running sum grows by the point's tile. -/
theorem s0_step (c : Dev nD) (t : Fin cfg0.N) (xs : Vec Ideal S1056x1024 .f32)
    (h' : ∀ r l, xs (ix2 r l) = ∑ f ∈ Finset.range (t.val % 4), part m c (row t r) l f) (r : Fin 1056) (l : Fin 1024) :
    xs (ix2 r l) + InbwdPay.dnB (iblk m c 0 t) (iblk m c 1 t) (ix2 r l) = ∑ f ∈ Finset.range (t.val % 4 + 1), part m c (row t r) l f := by
  rw [h', dn_blk, Finset.sum_range_succ]

theorem inv (c : Dev nD) : ∀ (n : ℕ) (h : n < cfg0.N), Inv m c ⟨n, h⟩ := by
  intro n
  induction n with
  | zero =>
    intro h
    have e := outsAt0_A m c ⟨0, h⟩ rfl (by show ¬1 ≤ 0 % 4; decide) (by show ¬0 % 4 = 3; decide)
    refine ⟨fun r l => ?_, fun h' => absurd h' (by show ¬0 % 4 = 3; decide), fun h' => absurd h' (by show ¬0 % 4 = 3; decide), fun h' => absurd h' (by show ¬4 ≤ 0 + 1; decide)⟩
    rw [e]; dsimp only
    rw [vsout0_A_0, dn_blk]; exact (Finset.sum_range_one _).symm
  | succ n ih =>
    intro h
    have hN := lt_of_lt_of_eq h N16
    have p := ih (by omega)
    by_cases h0 : (n + 1) % 4 = 0
    · have e := outsAt0_A m c ⟨n + 1, h⟩ h0 (by show ¬1 ≤ (n + 1) % 4; omega) (by show ¬(n + 1) % 4 = 3; omega)
      refine ⟨fun r l => ?_, fun h' => absurd h' (by show ¬(n + 1) % 4 = 3; omega), fun h' => absurd h' (by show ¬(n + 1) % 4 = 3; omega), fun h' a l => ?_⟩
      all_goals (rw [e]; dsimp only)
      · rw [vsout0_A_0, dn_blk]
        show part m c _ l ((n + 1) % 4) = ∑ f ∈ Finset.range ((n + 1) % 4 + 1), _
        rw [h0]; exact (Finset.sum_range_one _).symm
      · refine (p.o7 (by show 4 ≤ n + 1; omega) a l).trans ?_
        show ∑ i ∈ Finset.range ((n + 1) / 4), _ = ∑ i ∈ Finset.range ((n + 1 + 1) / 4), _
        rw [show (n + 1 + 1) / 4 = (n + 1) / 4 by omega]
    · have er : ∀ r, row ⟨n, by omega⟩ r = row ⟨n + 1, h⟩ r := fun r => Fin.ext (by show n / 4 * 1056 + r.val = (n + 1) / 4 * 1056 + r.val; omega)
      have hs1 : ∀ r l, (outsAt0 m c n (by omega)).2.2.2 (ix2 r l) = ∑ f ∈ Finset.range ((n + 1) % 4), part m c (row ⟨n + 1, h⟩ r) l f := fun r l => by
        rw [← er, show (n + 1) % 4 = n % 4 + 1 by omega]; exact p.s0 r l
      have hst := s0_step m c ⟨n + 1, h⟩ _ hs1
      by_cases h3 : (n + 1) % 4 = 3
      · have hst' : ∀ r l, _ = dn m c (row ⟨n + 1, h⟩ r) l := fun r l => (hst r l).trans (by
          show ∑ f ∈ Finset.range ((n + 1) % 4 + 1), _ = _
          rw [h3]; exact part_all m c _ l)
        by_cases h4 : n + 1 < 4
        · have e := outsAt0_C m c ⟨n + 1, h⟩ h0 (by show 1 ≤ (n + 1) % 4; omega) h3 h4 (by show ¬4 ≤ n + 1; omega)
          refine ⟨fun r l => ?_, fun h' r l => ?_, fun h' r l => ?_, fun h' a l => ?_⟩
          all_goals (rw [e]; dsimp only)
          · rw [vsout0_C_0]; exact hst r l
          · rw [vout0_C_5]; exact dh_blk m c _ _ hst' r l
          · rw [vout0_C_6]; exact dh_blk m c _ _ hst' r l
          · rw [vout0_C_7]; refine (dg_blk m c _ _ hst' a l).trans ?_
            show blkG m c l ((n + 1) / 4) = ∑ i ∈ Finset.range ((n + 1 + 1) / 4), _
            rw [show (n + 1) / 4 = 0 by omega, show (n + 1 + 1) / 4 = 1 by omega, Finset.sum_range_one]
        · have e := outsAt0_D m c ⟨n + 1, h⟩ h0 (by show 1 ≤ (n + 1) % 4; omega) h3 h4 (by show 4 ≤ n + 1; omega)
          refine ⟨fun r l => ?_, fun h' r l => ?_, fun h' r l => ?_, fun h' a l => ?_⟩
          all_goals (rw [e]; dsimp only)
          · rw [vsout0_D_0]; exact hst r l
          · rw [vout0_D_5]; exact dh_blk m c _ _ hst' r l
          · rw [vout0_D_6]; exact dh_blk m c _ _ hst' r l
          · rw [vout0_D_7]
            refine (congrArg₂ (fun x y : EReal => x + y) (p.o7 (by show 4 ≤ n + 1; omega) a l) (dg_blk m c _ _ hst' a l)).trans ?_
            show (∑ i ∈ Finset.range ((n + 1) / 4), blkG m c l i) + blkG m c l ((n + 1) / 4) = ∑ i ∈ Finset.range ((n + 1 + 1) / 4), blkG m c l i
            rw [show (n + 1 + 1) / 4 = (n + 1) / 4 + 1 by omega, Finset.sum_range_succ]
      · have e := outsAt0_B m c ⟨n + 1, h⟩ h0 (by show 1 ≤ (n + 1) % 4; omega) h3
        refine ⟨fun r l => ?_, fun h' => absurd h' h3, fun h' => absurd h' h3, fun h' a l => ?_⟩
        all_goals (rw [e]; dsimp only)
        · rw [vsout0_B_0]; exact hst r l
        · refine (p.o7 (by have h' : 4 ≤ n + 1 + 1 := h'; show 4 ≤ n + 1; omega) a l).trans ?_
          show ∑ i ∈ Finset.range ((n + 1) / 4), _ = ∑ i ∈ Finset.range ((n + 1 + 1) / 4), _
          rw [show (n + 1 + 1) / 4 = (n + 1) / 4 by omega]

/-- The kernel's first result is the gradient of the residual stream. -/
theorem G5_eq (c : Dev nD) : G5 m c = fun i : S4224x1024.Idx => dh m c (i 0) (i 1) := by
  funext i
  have h0 : (i 0).val < 4224 := (i 0).isLt
  have h1 : (i 1).val < 1024 := (i 1).isLt
  have hp : pt5Of i < cfg0.N := lt_of_lt_of_eq (by show 4 * (1 * ((i 0).val / 1056 - 0) + 1 * ((i 1).val / 1024 - 0)) + 3 < 16; omega) N16.symm
  unfold G5
  rw [dif_pos hp, ← outsAt0_sweep]
  have el : loc5Of i = ix2 ⟨(i 0).val % 1056, Nat.mod_lt _ (by decide)⟩ ⟨(i 1).val % 1024, Nat.mod_lt _ (by decide)⟩ := by
    funext a; fin_cases a <;> rfl
  rw [el]
  refine ((inv m c _ hp).o5 (by show (4 * (1 * ((i 0).val / 1056 - 0) + 1 * ((i 1).val / 1024 - 0)) + 3) % 4 = 3; omega) _ _).trans ?_
  congr 1
  · apply Fin.ext; show (4 * (1 * ((i 0).val / 1056 - 0) + 1 * ((i 1).val / 1024 - 0)) + 3) / 4 * 1056 + (i 0).val % 1056 = (i 0).val; omega
  · apply Fin.ext; show (i 1).val % 1024 = (i 1).val; omega

/-- Its second is the same gradient, rounded. -/
theorem G6_eq (c : Dev nD) : G6 m c = fun i : S4224x1024.Idx => dh m c (i 0) (i 1) := by
  funext i
  have h0 : (i 0).val < 4224 := (i 0).isLt
  have h1 : (i 1).val < 1024 := (i 1).isLt
  have hp : pt6Of i < cfg0.N := lt_of_lt_of_eq (by show 4 * (1 * ((i 0).val / 1056 - 0) + 1 * ((i 1).val / 1024 - 0)) + 3 < 16; omega) N16.symm
  unfold G6
  rw [dif_pos hp, ← outsAt0_sweep]
  have el : loc6Of i = ix2 ⟨(i 0).val % 1056, Nat.mod_lt _ (by decide)⟩ ⟨(i 1).val % 1024, Nat.mod_lt _ (by decide)⟩ := by
    funext a; fin_cases a <;> rfl
  rw [el]
  refine ((inv m c _ hp).o6 (by show (4 * (1 * ((i 0).val / 1056 - 0) + 1 * ((i 1).val / 1024 - 0)) + 3) % 4 = 3; omega) _ _).trans ?_
  congr 1
  · apply Fin.ext; show (4 * (1 * ((i 0).val / 1056 - 0) + 1 * ((i 1).val / 1024 - 0)) + 3) / 4 * 1056 + (i 0).val % 1056 = (i 0).val; omega
  · apply Fin.ext; show (i 1).val % 1024 = (i 1).val; omega

/-- Its third is the gradient of the norm's weights. -/
theorem G7_eq (c : Dev nD) : G7 m c = fun i : S1x1024.Idx => dg m c (i 1) := by
  funext i
  have h0 : (i 0).val < 1 := (i 0).isLt
  have h1 : (i 1).val < 1024 := (i 1).isLt
  have hp : pt7Of i < cfg0.N := lt_of_lt_of_eq (by show 16 * (1 * ((i 0).val / 1 - 0) + 1 * ((i 1).val / 1024 - 0)) + 15 < 16; omega) N16.symm
  unfold G7
  rw [dif_pos hp, ← outsAt0_sweep]
  have el : loc7Of i = ix2 ⟨(i 0).val % 1, Nat.mod_lt _ (by decide)⟩ ⟨(i 1).val % 1024, Nat.mod_lt _ (by decide)⟩ := by
    funext a; fin_cases a <;> rfl
  rw [el]
  have hq : pt7Of i = 15 := by show 16 * (1 * ((i 0).val / 1 - 0) + 1 * ((i 1).val / 1024 - 0)) + 15 = 15; omega
  refine ((inv m c _ hp).o7 (by show 4 ≤ pt7Of i + 1; omega) _ _).trans ?_
  show ∑ k ∈ Finset.range ((pt7Of i + 1) / 4), _ = _
  rw [hq]
  refine (blkG_all m c _).trans ?_
  congr 1
  apply Fin.ext; show (i 1).val % 1024 = (i 1).val; omega

/-- The kernel's gradients are the reference's. -/
theorem alg (hK : Cert.InbwdIdeal.Facts) (hR : Cert.InbwdRefIdeal.Facts) : @Cert.algebraic_InbwdIdeal_InbwdRefIdeal hK hR := by
  intro m ρ m' ρ' _ hag
  refine ⟨fun c (i : S4224x1024.Idx) => dh m c (i 0) (i 1), fun c (i : S4224x1024.Idx) => dh m c (i 0) (i 1), fun c (i : S1x1024.Idx) => dg m c (i 1), ?_, ?_⟩
  · refine (θ_run _ _ _).mono (fun r h c => ?_) (Cert.InbwdIdeal.Value.run m ρ)
    obtain ⟨a, b, d, f⟩ := h c
    exact ⟨a.trans (G5_eq m c), b.trans (G6_eq m c), d.trans (G7_eq m c), f⟩
  · refine (θ_run _ _ _).mono (fun r h c => ?_) (Cert.InbwdRefIdeal.Value.run m' ρ')
    obtain ⟨a, b, d, f⟩ := h c
    obtain ⟨g0, g1, g2, g3, g4⟩ := hag c
    rw [Cert.InbwdRefIdeal.Read.val_main_v37_eq, g0, g1, g2, g3, g4] at a
    rw [Cert.InbwdRefIdeal.Read.val_main_v38_eq, g0, g1, g2, g3, g4] at b
    rw [Cert.InbwdRefIdeal.Read.val_main_v20_eq, g0, g1, g2] at d
    refine ⟨a.trans ?_, b.trans ?_, d.trans ?_, f⟩
    · funext i
      obtain ⟨r, l, rfl⟩ : ∃ (r : Fin 4224) (l : Fin 1024), i = ix2 r l := ⟨i 0, i 1, by funext a; fin_cases a <;> rfl⟩
      exact InbwdPay.val37 _ _ _ _ _ r l
    · funext i
      obtain ⟨r, l, rfl⟩ : ∃ (r : Fin 4224) (l : Fin 1024), i = ix2 r l := ⟨i 0, i 1, by funext a; fin_cases a <;> rfl⟩
      exact InbwdPay.val38 _ _ _ _ _ r l
    · funext i
      obtain ⟨r, l, rfl⟩ : ∃ (r : Fin 1) (l : Fin 1024), i = ix2 r l := ⟨i 0, i 1, by funext a; fin_cases a <;> rfl⟩
      obtain rfl : r = 0 := Subsingleton.elim _ _
      exact InbwdPay.val20 _ _ _ l

end Cert.InbwdFinal

end
-- ==== Proof.OutbFinal.lean ====
module

public import proofs.«01_k».proof.Proof.MlpCase
public import proofs.«01_k».proof.Proof.Arith
public import proofs.«01_k».proof.Proof.Gen.OutbIdeal.Value
public import proofs.«01_k».proof.Proof.Gen.OutbRefIdeal.Run
public import proofs.«01_k».proof.Proof.Gen.OutbRefIdeal.Read
public import proofs.«01_k».proof.Defs
public import Idealize.ShloMosaic.Lib.Claim
public import Idealize.ShloMosaic.Lib.StableHlo.Run

@[expose] public section

/-!
# The kernel of the output gate's gradient

Point `t` of the 8 fills rows `t * 528 …`: the gradient of the recurrence's states, whole, and the gradient of the gate, the first half of
an array whose second half it leaves alone. The kernel multiplies by the GELU's derivative at once, the reference term by term; the two agree
where the factor in front is a real, which the precondition gives.
-/

set_option maxRecDepth 16384

noncomputable section

namespace Cert.OutbFinal

open Cert.OutbIdeal Cert.OutbIdeal.Gen Cert.OutbIdeal.Value Idealize.ShloMosaic Idealize.ShloMosaic.TcCoe Idealize.SL.Sem

/-! ## The GELU and its derivative -/

/-- The root of `2 / π`, as both programs write it. -/
abbrev kK : EReal := Ideal.ofBits FTy.f32 1061962282#32
/-- The cubic term's coefficient. -/
abbrev kC : EReal := ((8943 / 200000 : ℝ) : EReal)
/-- Three times it. -/
abbrev kC3 : EReal := ((26829 / 200000 : ℝ) : EReal)

theorem lit_half : Ideal.ofBits FTy.f32 1056964608#32 = ((1 / 2 : ℝ) : EReal) := by
  simp [Ideal.ofBits, Ideal.ieee, -EReal.coe_mul]; norm_num

theorem lit_three : Ideal.ofBits FTy.f32 1077936128#32 = ((3 : ℝ) : EReal) := by
  simp [Ideal.ofBits, Ideal.ieee, -EReal.coe_mul]; norm_num

theorem lit_44715 : Ideal.ofBits FTy.f32 0x472EAB00#32 = ((44715 : ℝ) : EReal) := by
  simp [Ideal.ofBits, Ideal.ieee, -EReal.coe_mul]; norm_num

theorem lit_million : Ideal.ofBits FTy.f32 0x49742400#32 = ((1000000 : ℝ) : EReal) := by
  simp [Ideal.ofBits, Ideal.ieee, -EReal.coe_mul]; norm_num

/-- The root's literal is a positive real. -/
theorem lit_root : ∃ k : ℝ, 0 < k ∧ kK = (k : EReal) := by
  refine ⟨_, ?_, by simp [kK, Ideal.ofBits, Ideal.ieee, -EReal.coe_mul]; rfl⟩
  norm_num

/-- The hyperbolic tangent inside. -/
def th (x : EReal) : EReal := Ideal.tanh (kK * (x + kC * (x * x * x)))

/-- The GELU. -/
def gelu (x : EReal) : EReal := Ideal.ofBits FTy.f32 1056964608#32 * x * (1 + th x)

/-- Its derivative. -/
def dgelu (x : EReal) : EReal :=
  Ideal.ofBits FTy.f32 1056964608#32 * (1 + th x)
    + Ideal.ofBits FTy.f32 1056964608#32 * x * (1 - th x * th x) * (kK * (1 + kC3 * (x * x)))

/-- At infinity the tangent is 1. -/
theorem th_top : th ⊤ = 1 := by
  obtain ⟨k, hk, e⟩ := lit_root
  unfold th kC
  rw [e, EReal.top_mul_top, EReal.top_mul_top, EReal.coe_mul_top_of_pos (by norm_num), EReal.top_add_top, EReal.coe_mul_top_of_pos hk]
  rfl

/-- At minus infinity it is -1. -/
theorem th_bot : th ⊥ = -1 := by
  obtain ⟨k, hk, e⟩ := lit_root
  unfold th kC
  rw [e, EReal.bot_mul_bot, EReal.top_mul_bot, EReal.coe_mul_bot_of_pos (by norm_num), EReal.bot_add, EReal.coe_mul_bot_of_pos hk]
  rfl

/-- The reference's sum over the three ways the gate enters is a real times the derivative. -/
theorem terms (q : ℝ) (x : EReal) :
    (q : EReal) * (Ideal.ofBits FTy.f32 1056964608#32 * (1 + th x))
        + kK * (Ideal.ofBits FTy.f32 1056964608#32 * (x * q) * ((1 + th x) * (1 - th x)))
        + kC * (kK * (Ideal.ofBits FTy.f32 1056964608#32 * (x * q) * ((1 + th x) * (1 - th x)))) * (Ideal.ofBits FTy.f32 1077936128#32 * (x * x))
      = (q : EReal) * dgelu x := by
  obtain ⟨k, hk, e⟩ := lit_root
  unfold dgelu
  rw [lit_half, lit_three, e]
  induction x with
  | top =>
    have h0 : (1 : EReal) - 1 = 0 := by rw [← EReal.coe_one, ← EReal.coe_sub, sub_self, EReal.coe_zero]
    rw [th_top, mul_one (1 : EReal), h0]
    simp only [mul_zero, zero_mul, add_zero]
  | bot =>
    have h0 : (1 : EReal) + -1 = 0 := by rw [← EReal.coe_one, ← EReal.coe_neg, ← EReal.coe_add, add_neg_cancel, EReal.coe_zero]
    have h1 : (1 : EReal) - -1 * -1 = 0 := by
      rw [← EReal.coe_one, ← EReal.coe_neg, ← EReal.coe_mul, ← EReal.coe_sub, neg_mul_neg, mul_one, sub_self, EReal.coe_zero]
    rw [th_bot, h0, h1]
    simp only [mul_zero, zero_mul, add_zero]
  | coe r =>
    obtain ⟨t, ht⟩ : ∃ t : ℝ, th (r : EReal) = (t : EReal) := by
      unfold th
      rw [e]
      refine ⟨Real.tanh (k * (r + 8943 / 200000 * (r * r * r))), ?_⟩
      rw [← EReal.coe_mul, ← EReal.coe_mul, ← EReal.coe_mul, ← EReal.coe_add, ← EReal.coe_mul]
      rfl
    rw [ht]
    unfold kC kC3
    norm_cast
    ring

/-! ## The precondition -/

/-- An extended real below infinity in size is a real. -/
theorem real_of_lt (x : EReal) (h : BitVec.ofBool (decide (max x (-x) < Ideal.ofBits FTy.f32 2139095040#32)) = 1#1) : ∃ y : ℝ, x = (y : EReal) := by
  have e : Ideal.ofBits FTy.f32 2139095040#32 = ⊤ := by simp [Ideal.ofBits, Ideal.ieee]
  rw [e] at h
  induction x with
  | top => simp at h
  | bot => simp at h
  | coe r => exact ⟨r, rfl⟩

/-- A sum of products of reals is a real. -/
theorem real_sum {n : ℕ} (f g : Fin n → EReal) (hf : ∀ i, ∃ y : ℝ, f i = (y : EReal)) (hg : ∀ i, ∃ y : ℝ, g i = (y : EReal)) :
    ∃ y : ℝ, ∑ i, f i * g i = (y : EReal) := by
  choose a ha using hf
  choose b hb using hg
  refine ⟨∑ i, a i * b i, ?_⟩
  simp only [ha, hb, ← EReal.coe_mul]
  exact (map_sum (⟨⟨Real.toEReal, rfl⟩, fun _ _ => rfl⟩ : ℝ →+ EReal) (fun i => a i * b i) Finset.univ).symm

/-! ## One point -/

/-- The cubic coefficient's name has its exact value. -/
theorem named_cubic : Named.named (F := Ideal) (φ := .f32) κ "cubic" 1027024659#32 = kC := IdealRules.named_const.ideal_named_scalar _ _ _ _ rfl

/-- So has its triple's. -/
theorem named_cubic3 : Named.named (F := Ideal) (φ := .f32) κ "cubic3" 1040801103#32 = kC3 := IdealRules.named_const.ideal_named_scalar _ _ _ _ rfl

/-- At each named literal the program over the reals takes the exact value. -/
theorem names : Cert.preserves_Outb_OutbIdeal :=
  ⟨IdealRules.named_const.statement κ "cubic" .f32 0x3D372713#32 kC rfl, IdealRules.named_const.statement κ "cubic3" .f32 0x3E095D4F#32 kC3 rfl⟩

/-- The reference's quotient is that coefficient. -/
theorem div_cubic : Ideal.div (Ideal.ofBits FTy.f32 1194240768#32) (Ideal.ofBits FTy.f32 1232348160#32) = kC := by
  rw [lit_44715, lit_million, Arith.div_coe, ← EReal.coe_mul]
  · refine congrArg Real.toEReal ?_
    norm_num
  · norm_num

/-- A point's gradient of the gate. -/
theorem pay1_apply (x0 x1 : Vec Ideal S528x1024 .f32) (x2 : Vec Ideal S528x1024 .bf16) (x3 : Vec Ideal S1024x1024 .bf16) (r : Fin 528) (l : Fin 1024) :
    k0_pay1 (k0_pay6 x0) (k0_pay7 x2 x3 x1) (ix2 r l) = (∑ k : Fin 1024, x2 (ix2 r k) * x3 (ix2 l k)) * x1 (ix2 r l) * dgelu (x0 (ix2 r l)) := by
  unfold dgelu th
  pointwise [k0_pay1, k0_pay6, k0_pay7, k0_pay3, k0_pay4]
  rw [named_cubic, named_cubic3]

/-- A point's gradient of the states. -/
theorem pay2_apply (x0 : Vec Ideal S528x1024 .f32) (x2 : Vec Ideal S528x1024 .bf16) (x3 : Vec Ideal S1024x1024 .bf16) (r : Fin 528) (l : Fin 1024) :
    k0_pay2 (k0_pay3 x2 x3) (k0_pay5 x0) (ix2 r l) = (∑ k : Fin 1024, x2 (ix2 r k) * x3 (ix2 l k)) * gelu (x0 (ix2 r l)) := by
  unfold gelu th
  pointwise [k0_pay2, k0_pay3, k0_pay5, k0_pay4]
  rw [named_cubic]

/-! ## The gradients over the arguments -/

/-- A column of the first half, as one of the whole. -/
abbrev wid (k : Fin 1024) : Fin 2048 := ⟨k.val, by omega⟩
/-- A column's place in its half. -/
def half (l : Fin 2048) : Fin 1024 := ⟨l.val % 1024, by omega⟩

theorem half_wid (k : Fin 1024) : half (wid k) = k := Fin.ext (Nat.mod_eq_of_lt k.isLt)

section Ref

open Cert.OutbRefIdeal.Read

variable (g : Vec Ideal S4224x2048 .f32) (h : Vec Ideal S4224x1024 .f32) (d : Vec Ideal S4224x1024 .bf16) (w : Vec Ideal S1024x1024 .f32)

/-- The gradient of the gated output. -/
def dy (r : Fin 4224) (l : Fin 1024) : EReal := ∑ k : Fin 1024, d (ix2 r k) * w (ix2 l k)

/-- The gradient of the gate. -/
def dgate (r : Fin 4224) (l : Fin 1024) : EReal := dy d w r l * h (ix2 r l) * dgelu (g (ix2 r (wid l)))

/-- The gradient of the states. -/
def dstate (r : Fin 4224) (l : Fin 1024) : EReal := dy d w r l * gelu (g (ix2 r (wid l)))

theorem val26 (r : Fin 4224) (k : Fin 1024) : val_main_v26 (F := Ideal) d w (ix2 r k) = dy d w r k := by
  unfold dy
  pointwise [val_main_v26, val_main_v25]

theorem val0 (r : Fin 4224) (k : Fin 1024) : val_main_v0 (F := Ideal) g (ix2 r k) = g (ix2 r (wid k)) := by
  pointwise [val_main_v0]

theorem val12 (r : Fin 4224) (k : Fin 1024) : val_main_v12 (F := Ideal) g (ix2 r k) = th (g (ix2 r (wid k))) := by
  unfold th
  pointwise [val_main_v12, val_main_v11, val_main_v10, val_main_cst_2, val_main_v9, val_main_v8, val_main_v7, val_main_v1, val_main_cst, val_main_cst_0, val_main_v3, val_main_v2, val0]
  rw [div_cubic]

theorem val21 (r : Fin 4224) (k : Fin 1024) :
    val_main_v21 (F := Ideal) g (ix2 r k) = Ideal.ofBits FTy.f32 1056964608#32 * (1 + th (g (ix2 r (wid k)))) := by
  pointwise [val_main_v21, val_main_v20, val_main_cst_6, val_main_v19, val_main_v18, val_main_cst_5, val12]

/-- The reference's second result. -/
theorem val28 (r : Fin 4224) (k : Fin 1024) : val_main_v28 (F := Ideal) g d w (ix2 r k) = dstate g d w r k := by
  unfold dstate gelu
  pointwise [val_main_v28, val26, val_main_v22, val21, val0]
  ac_rfl

theorem val27 (r : Fin 4224) (k : Fin 1024) : val_main_v27 (F := Ideal) h d w (ix2 r k) = dy d w r k * h (ix2 r k) := by
  pointwise [val_main_v27, val26]
  exact mul_comm _ _

theorem val35 (r : Fin 4224) (k : Fin 1024) : val_main_v35 (F := Ideal) g h d w (ix2 r k)
    = kK * (Ideal.ofBits FTy.f32 1056964608#32 * (g (ix2 r (wid k)) * (dy d w r k * h (ix2 r k))) * ((1 + th (g (ix2 r (wid k)))) * (1 - th (g (ix2 r (wid k)))))) := by
  pointwise [val_main_v35, val_main_v34, val_main_cst_8, val_main_v33, val_main_v32, val_main_v31, val_main_cst_7, val_main_v29, val0, val27, val_main_v17, val_main_v16, val_main_v15, val_main_cst_4, val_main_v14, val_main_v13, val_main_cst_3, val12]

theorem val38 (r : Fin 4224) (k : Fin 1024) : val_main_v38 (F := Ideal) g h d w (ix2 r k) = kC * val_main_v35 (F := Ideal) g h d w (ix2 r k) := by
  pointwise [val_main_v38, val_main_v37, val_main_v1, val_main_cst, val_main_cst_0]
  rw [div_cubic]

/-- The reference's gradient of the gate, where the factor in front is a real. -/
theorem val40 (r : Fin 4224) (k : Fin 1024) (hq : ∃ q : ℝ, dy d w r k * h (ix2 r k) = (q : EReal)) :
    val_main_v40 (F := Ideal) g h d w (ix2 r k) = dgate g h d w r k := by
  obtain ⟨q, e⟩ := hq
  unfold dgate
  pointwise [val_main_v40, val_main_v39, val_main_v36, val_main_v30, val21, val38, val35, val27, val_main_v6, val_main_v5, val_main_cst_1, val_main_v4, val0]
  rw [e]
  exact terms q (g (ix2 r (wid k)))

/-- The reference's first result, in its first half. -/
theorem val43 (r : Fin 4224) (k : Fin 1024) (hq : ∃ q : ℝ, dy d w r k * h (ix2 r k) = (q : EReal)) :
    val_main_v43 (F := Ideal) g h d w (ix2 r (wid k)) = dgate g h d w r k := by
  pointwise [val_main_v43, val_main_v41]
  exact val40 g h d w r k hq

end Ref

/-- The mask selects the first half. -/
theorem mask [Cert.On_outb_on.Facts] (g : Vec Ideal S4224x2048 .f32) (h : Vec Ideal S4224x1024 .f32) (d : Vec Ideal S4224x1024 .bf16) (w : Vec Ideal S1024x1024 .f32) (r : Fin 4224) (l : Fin 2048)
    (hm : (Cert.On_outb_on.fn (F := Ideal) g h d w).1 (ix2 r l) = 1#1) : l.val < 1024 := by
  revert hm
  unfold Cert.On_outb_on.fn
  pointwise
  revert l
  decide +kernel

/-- The precondition read at one element of the three arrays on top of each other. -/
theorem pre_apply [Cert.Pre_outb_finite.Facts] (g : Vec Ideal S4224x2048 .f32) (h : Vec Ideal S4224x1024 .f32) (d : Vec Ideal S4224x1024 .bf16) (w : Vec Ideal S1024x1024 .f32)
    (hp : Cert.Pre_outb_finite.fn (F := Ideal) g h d w = fun _ => 1#1) (p : Fin 9472) (l : Fin 1024) :
    ∃ y : ℝ, (if h_1 : p.val < 4224 then h (ix2 ⟨p.val, h_1⟩ l)
      else if h_2 : p.val - 4224 < 4224 then d (ix2 ⟨p.val - 4224, h_2⟩ l) else w (ix2 ⟨p.val - 4224 - 4224, by omega⟩ l) : EReal) = (y : EReal) := by
  have e := congrFun hp (ix2 p l)
  revert e
  unfold Cert.Pre_outb_finite.fn
  pointwise
  exact real_of_lt _

/-- The states are reals. -/
theorem fin_h [Cert.Pre_outb_finite.Facts] (g : Vec Ideal S4224x2048 .f32) (h : Vec Ideal S4224x1024 .f32) (d : Vec Ideal S4224x1024 .bf16) (w : Vec Ideal S1024x1024 .f32)
    (hp : Cert.Pre_outb_finite.fn (F := Ideal) g h d w = fun _ => 1#1) (r : Fin 4224) (l : Fin 1024) : ∃ y : ℝ, h (ix2 r l) = (y : EReal) := by
  have e := pre_apply g h d w hp ⟨r.val, by omega⟩ l
  rwa [dif_pos (show r.val < 4224 from r.isLt)] at e

/-- The gradient of the output is real. -/
theorem fin_d [Cert.Pre_outb_finite.Facts] (g : Vec Ideal S4224x2048 .f32) (h : Vec Ideal S4224x1024 .f32) (d : Vec Ideal S4224x1024 .bf16) (w : Vec Ideal S1024x1024 .f32)
    (hp : Cert.Pre_outb_finite.fn (F := Ideal) g h d w = fun _ => 1#1) (r : Fin 4224) (l : Fin 1024) : ∃ y : ℝ, d (ix2 r l) = (y : EReal) := by
  have e := pre_apply g h d w hp ⟨4224 + r.val, by omega⟩ l
  rw [dif_neg (show ¬ (4224 + r.val < 4224) by omega), dif_pos (show 4224 + r.val - 4224 < 4224 by omega)] at e
  have er : (⟨4224 + r.val - 4224, by omega⟩ : Fin 4224) = r := Fin.ext (Nat.add_sub_cancel_left _ _)
  rwa [er] at e

/-- The weight is real. -/
theorem fin_w [Cert.Pre_outb_finite.Facts] (g : Vec Ideal S4224x2048 .f32) (h : Vec Ideal S4224x1024 .f32) (d : Vec Ideal S4224x1024 .bf16) (w : Vec Ideal S1024x1024 .f32)
    (hp : Cert.Pre_outb_finite.fn (F := Ideal) g h d w = fun _ => 1#1) (r l : Fin 1024) : ∃ y : ℝ, w (ix2 r l) = (y : EReal) := by
  have e := pre_apply g h d w hp ⟨8448 + r.val, by omega⟩ l
  rw [dif_neg (show ¬ (8448 + r.val < 4224) by omega), dif_neg (show ¬ (8448 + r.val - 4224 < 4224) by omega)] at e
  have er : (⟨8448 + r.val - 4224 - 4224, by omega⟩ : Fin 1024) = r := Fin.ext (by dsimp only; omega)
  rwa [er] at e

/-- So the factor in front of the derivative is real. -/
theorem fin_q [Cert.Pre_outb_finite.Facts] (g : Vec Ideal S4224x2048 .f32) (h : Vec Ideal S4224x1024 .f32) (d : Vec Ideal S4224x1024 .bf16) (w : Vec Ideal S1024x1024 .f32)
    (hp : Cert.Pre_outb_finite.fn (F := Ideal) g h d w = fun _ => 1#1) (r : Fin 4224) (l : Fin 1024) : ∃ q : ℝ, dy d w r l * h (ix2 r l) = (q : EReal) := by
  obtain ⟨a, ea⟩ := real_sum (fun k => d (ix2 r k)) (fun k => w (ix2 l k)) (fun k => fin_d g h d w hp r k) (fun k => fin_w g h d w hp l k)
  obtain ⟨b, eb⟩ := fin_h g h d w hp r l
  exact ⟨a * b, by unfold dy; rw [ea, eb, EReal.coe_mul]⟩

variable (m : (ℓ : Loc nD τ sig) → Buf (Elt Ideal) ℓ)

/-- The gate and recurrence inputs, side by side. -/
abbrev aG (c : Dev nD) : Vec Ideal S4224x2048 .f32 := m ((c : Thread nD τ).loc main_arg0)
/-- The recurrence's states. -/
abbrev aS (c : Dev nD) : Vec Ideal S4224x1024 .f32 := m ((c : Thread nD τ).loc main_arg1)
/-- The gradient of the block's output. -/
abbrev aD (c : Dev nD) : Vec Ideal S4224x1024 .bf16 := m ((c : Thread nD τ).loc main_arg2)
/-- The projection's weight. -/
abbrev aW (c : Dev nD) : Vec Ideal S1024x1024 .f32 := m ((c : Thread nD τ).loc main_arg3)

theorem N8 : cfg0.N = 8 := by decide

/-- A point's row of the whole array. -/
abbrev row (t : Fin cfg0.N) (r : Fin 528) : Fin 4224 := ⟨t.val * 528 + r.val, by have h := lt_of_lt_of_eq t.isLt N8; omega⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

/-- The weight as the region receives it. -/
theorem V0 (c : Dev nD) (r l : Fin 1024) : (V m c main_v0 : Vec Ideal S1024x1024 .bf16) (ix2 r l) = aW m c (ix2 r l) := by
  unfold_abbrev_sides
  after_results
  rfl

/-- A row block of the gate. -/
theorem ib0 (c : Dev nD) (t : Fin cfg0.N) (r : Fin 528) (l : Fin 1024) :
    (iblk m c 0 t : Vec Ideal S528x1024 .f32) (ix2 r l) = aG m c (ix2 (row t r) (wid l)) := by
  obtain ⟨e0, e1⟩ := idx0 t
  unfold iblk
  rw [View.read_apply]
  have e : ((cfg0.win 0).blk t).view.emb (ix2 r l) = (ix2 (row t r) (wid l) : S4224x2048.Idx) := by
    funext a; apply Fin.ext; fin_cases a
    · show win0_0.index t (0 : Fin 2) * 528 + 1 * (r : Fin 528).val = t.val * 528 + r.val; rw [e0]; omega
    · show win0_0.index t (1 : Fin 2) * 1024 + 1 * (l : Fin 1024).val = l.val; rw [e1]; omega
  show (V m c main_arg0 : Vec Ideal S4224x2048 .f32) (((cfg0.win 0).blk t).view.emb (ix2 r l)) = _
  rw [e, V_main_arg0]

/-- A row block of the states. -/
theorem ib1 (c : Dev nD) (t : Fin cfg0.N) (r : Fin 528) (l : Fin 1024) :
    (iblk m c 1 t : Vec Ideal S528x1024 .f32) (ix2 r l) = aS m c (ix2 (row t r) l) := by
  obtain ⟨e0, e1⟩ := idx1 t
  unfold iblk
  rw [View.read_apply]
  have e : ((cfg0.win 1).blk t).view.emb (ix2 r l) = (ix2 (row t r) l : S4224x1024.Idx) := by
    funext a; apply Fin.ext; fin_cases a
    · show win0_1.index t (0 : Fin 2) * 528 + 1 * (r : Fin 528).val = t.val * 528 + r.val; rw [e0]; omega
    · show win0_1.index t (1 : Fin 2) * 1024 + 1 * (l : Fin 1024).val = l.val; rw [e1]; omega
  show (V m c main_arg1 : Vec Ideal S4224x1024 .f32) (((cfg0.win 1).blk t).view.emb (ix2 r l)) = _
  rw [e, V_main_arg1]

/-- A row block of the output's gradient. -/
theorem ib2 (c : Dev nD) (t : Fin cfg0.N) (r : Fin 528) (l : Fin 1024) :
    (iblk m c 2 t : Vec Ideal S528x1024 .bf16) (ix2 r l) = aD m c (ix2 (row t r) l) := by
  obtain ⟨e0, e1⟩ := idx2 t
  unfold iblk
  rw [View.read_apply]
  have e : ((cfg0.win 2).blk t).view.emb (ix2 r l) = (ix2 (row t r) l : S4224x1024.Idx) := by
    funext a; apply Fin.ext; fin_cases a
    · show win0_2.index t (0 : Fin 2) * 528 + 1 * (r : Fin 528).val = t.val * 528 + r.val; rw [e0]; omega
    · show win0_2.index t (1 : Fin 2) * 1024 + 1 * (l : Fin 1024).val = l.val; rw [e1]; omega
  show (V m c main_arg2 : Vec Ideal S4224x1024 .bf16) (((cfg0.win 2).blk t).view.emb (ix2 r l)) = _
  rw [e, V_main_arg2]

/-- The weight, whole at every point. -/
theorem ib3 (c : Dev nD) (t : Fin cfg0.N) (r : Fin 1024) (l : Fin 1024) :
    (iblk m c 3 t : Vec Ideal S1024x1024 .bf16) (ix2 r l) = aW m c (ix2 r l) := by
  obtain ⟨e0, e1⟩ := idx3 t
  unfold iblk
  rw [View.read_apply]
  have e : ((cfg0.win 3).blk t).view.emb (ix2 r l) = (ix2 r l : S1024x1024.Idx) := by
    funext a; apply Fin.ext; fin_cases a
    · show win0_3.index t (0 : Fin 2) * 1024 + 1 * (r : Fin 1024).val = r.val; rw [e0]; omega
    · show win0_3.index t (1 : Fin 2) * 1024 + 1 * (l : Fin 1024).val = l.val; rw [e1]; omega
  show (V m c main_v0 : Vec Ideal S1024x1024 .bf16) (((cfg0.win 3).blk t).view.emb (ix2 r l)) = _
  rw [e, V0]

/-- What a point leaves in the first result's block. -/
theorem vout4 (x0 x1 : Vec Ideal S528x1024 .f32) (x2 : Vec Ideal S528x1024 .bf16) (x3 : Vec Ideal S1024x1024 .bf16) : out0_4 (F := Ideal) x0 x1 x2 x3 = k0_pay1 (k0_pay6 x0) (k0_pay7 x2 x3 x1) := by
  unfold out0_4
  simp only [View.canon_unit_zero (S := S528x1024) MlpCase.hz, View.ld_unit_zero (S := S528x1024) MlpCase.hz, View.ld_unit_zero (S := S1024x1024) MlpCase.hz]

/-- It over the arguments. -/
theorem blk4 (c : Dev nD) (t : Fin cfg0.N) (r : Fin 528) (l : Fin 1024) :
    k0_pay1 (k0_pay6 (iblk m c 0 t : Vec Ideal S528x1024 .f32)) (k0_pay7 (iblk m c 2 t : Vec Ideal S528x1024 .bf16) (iblk m c 3 t : Vec Ideal S1024x1024 .bf16) (iblk m c 1 t : Vec Ideal S528x1024 .f32)) (ix2 r l)
      = dgate (aG m c) (aS m c) (aD m c) (aW m c) (row t r) l := by
  rw [pay1_apply]
  simp only [ib0, ib1, ib2, ib3]
  rfl

/-- The first result the kernel leaves, in its first half. -/
theorem arr4 (c : Dev nD) (r : Fin 4224) (l : Fin 1024) :
    ((dats m 0 c).arrAt 4 cfg0.N : Vec Ideal S4224x2048 .bf16) (ix2 r (wid l)) = dgate (aG m c) (aS m c) (aD m c) (aW m c) r l := by
  let t : Fin cfg0.N := ⟨r.val / 528, by rw [N8]; omega⟩
  obtain ⟨e0, e1⟩ := idx4 t
  have ht : t.val = r.val / 528 := rfl
  have e : ((cfg0.win 4).blk t).view.emb (ix2 ⟨r.val % 528, by omega⟩ l : S528x1024.Idx) = (ix2 r (wid l) : S4224x2048.Idx) := by
    funext a; apply Fin.ext; fin_cases a
    · show win0_4.index t (0 : Fin 2) * 528 + 1 * (r.val % 528) = r.val; rw [e0]; omega
    · show win0_4.index t (1 : Fin 2) * 1024 + 1 * (l : Fin 1024).val = l.val; rw [e1]; omega
  have h := congrFun (blocks4 m c t (flush0_4 t)) (ix2 ⟨r.val % 528, by omega⟩ l : S528x1024.Idx)
  rw [View.read_apply, e, flushed4, vout4] at h
  refine Eq.trans h ?_
  have er : row t ⟨r.val % 528, by omega⟩ = r := Fin.ext (by show t.val * 528 + r.val % 528 = r.val; omega)
  refine (blk4 m c t ⟨r.val % 528, by omega⟩ l).trans ?_
  rw [er]

/-- What a point leaves in the second result's block. -/
theorem vout5 (x0 x1 : Vec Ideal S528x1024 .f32) (x2 : Vec Ideal S528x1024 .bf16) (x3 : Vec Ideal S1024x1024 .bf16) : out0_5 (F := Ideal) x0 x1 x2 x3 = k0_pay2 (k0_pay3 x2 x3) (k0_pay5 x0) := by
  unfold out0_5
  simp only [View.canon_unit_zero (S := S528x1024) MlpCase.hz, View.ld_unit_zero (S := S528x1024) MlpCase.hz, View.ld_unit_zero (S := S1024x1024) MlpCase.hz]

/-- It over the arguments. -/
theorem blk5 (c : Dev nD) (t : Fin cfg0.N) (r : Fin 528) (l : Fin 1024) :
    k0_pay2 (k0_pay3 (iblk m c 2 t : Vec Ideal S528x1024 .bf16) (iblk m c 3 t : Vec Ideal S1024x1024 .bf16)) (k0_pay5 (iblk m c 0 t : Vec Ideal S528x1024 .f32)) (ix2 r l)
      = dstate (aG m c) (aD m c) (aW m c) (row t r) l := by
  rw [pay2_apply]
  simp only [ib0, ib1, ib2, ib3]
  rfl

/-- The second result the kernel leaves. -/
theorem arr5 (c : Dev nD) (r : Fin 4224) (l : Fin 1024) :
    ((dats m 0 c).arrAt 5 cfg0.N : Vec Ideal S4224x1024 .f32) (ix2 r l) = dstate (aG m c) (aD m c) (aW m c) r l := by
  let t : Fin cfg0.N := ⟨r.val / 528, by rw [N8]; omega⟩
  obtain ⟨e0, e1⟩ := idx5 t
  have ht : t.val = r.val / 528 := rfl
  have e : ((cfg0.win 5).blk t).view.emb (ix2 ⟨r.val % 528, by omega⟩ l : S528x1024.Idx) = (ix2 r l : S4224x1024.Idx) := by
    funext a; apply Fin.ext; fin_cases a
    · show win0_5.index t (0 : Fin 2) * 528 + 1 * (r.val % 528) = r.val; rw [e0]; omega
    · show win0_5.index t (1 : Fin 2) * 1024 + 1 * (l : Fin 1024).val = l.val; rw [e1]; omega
  have h := congrFun (blocks5 m c t (flush0_5 t)) (ix2 ⟨r.val % 528, by omega⟩ l : S528x1024.Idx)
  rw [View.read_apply, e, flushed5, vout5] at h
  refine Eq.trans h ?_
  have er : row t ⟨r.val % 528, by omega⟩ = r := Fin.ext (by show t.val * 528 + r.val % 528 = r.val; omega)
  refine (blk5 m c t ⟨r.val % 528, by omega⟩ l).trans ?_
  rw [er]

/-- Where the mask is set the kernel's arrays and the reference's results are the same functions of the arguments. -/
theorem alg (hK : Cert.OutbIdeal.Facts) (hR : Cert.OutbRefIdeal.Facts) (hP : Cert.Pre_outb_finite.Facts) (hM : Cert.On_outb_on.Facts) :
    @Cert.algebraic_OutbIdeal_OutbRefIdeal_on_outb_on_pre_outb_finite hK hR hP hM := by
  intro m ρ m' ρ' hp hag
  refine ⟨fun c (i : S4224x2048.Idx) => dgate (aG m c) (aS m c) (aD m c) (aW m c) (i 0) (half (i 1)),
    fun c (i : S4224x1024.Idx) => dstate (aG m c) (aD m c) (aW m c) (i 0) (i 1), ?_, ?_⟩
  · refine (θ_run _ _ _).mono (fun r h c => ?_) (Cert.OutbIdeal.Value.run_blocks m ρ)
    obtain ⟨a, b, f⟩ := h c
    refine ⟨fun i hi => (congrFun a i).trans ?_, fun i _ => (congrFun b i).trans ?_, f⟩
    · obtain ⟨r, l, rfl⟩ : ∃ (r : Fin 4224) (l : Fin 2048), i = ix2 r l := ⟨i 0, i 1, by funext a; fin_cases a <;> rfl⟩
      obtain ⟨k, rfl⟩ : ∃ k : Fin 1024, l = wid k := ⟨⟨l.val, mask _ _ _ _ r l hi⟩, rfl⟩
      refine (arr4 m c r k).trans ?_
      exact congrArg (dgate (aG m c) (aS m c) (aD m c) (aW m c) r) (half_wid k).symm
    · obtain ⟨r, l, rfl⟩ : ∃ (r : Fin 4224) (l : Fin 1024), i = ix2 r l := ⟨i 0, i 1, by funext a; fin_cases a <;> rfl⟩
      exact arr5 m c r l
  · refine (θ_run _ _ _).mono (fun r h c => ?_) (Cert.OutbRefIdeal.Value.run m' ρ')
    obtain ⟨a, b, f⟩ := h c
    obtain ⟨g0, g1, g2, g3⟩ := hag c
    rw [Cert.OutbRefIdeal.Read.val_main_v43_eq, g0, g1, g2, g3] at a
    rw [Cert.OutbRefIdeal.Read.val_main_v28_eq, g0, g2, g3] at b
    refine ⟨fun i hi => (congrFun a i).trans ?_, fun i _ => (congrFun b i).trans ?_, f⟩
    · obtain ⟨r, l, rfl⟩ : ∃ (r : Fin 4224) (l : Fin 2048), i = ix2 r l := ⟨i 0, i 1, by funext a; fin_cases a <;> rfl⟩
      obtain ⟨k, rfl⟩ : ∃ k : Fin 1024, l = wid k := ⟨⟨l.val, mask _ _ _ _ r l hi⟩, rfl⟩
      refine (val43 _ _ _ _ r k (fin_q (aG m c) (aS m c) (aD m c) (aW m c) (hp c) r k)).trans ?_
      exact congrArg (dgate (aG m c) (aS m c) (aD m c) (aW m c) r) (half_wid k).symm
    · obtain ⟨r, l, rfl⟩ : ∃ (r : Fin 4224) (l : Fin 1024), i = ix2 r l := ⟨i 0, i 1, by funext a; fin_cases a <;> rfl⟩
      exact val28 _ _ _ r l

end Cert.OutbFinal

end
-- ==== Proof.FwdPay.lean ====
module

public import proofs.«01_k».proof.Proof.Gen.FwdIdeal.Skeleton
public import proofs.«01_k».proof.Proof.Gen.FwdRefIdeal.Read
public import proofs.«01_k».proof.Proof.MlpPay

@[expose] public section

/-!
# The values of the squared-relu block's forward pass

What one grid point computes, and the reference's results, element by element.
-/

set_option maxRecDepth 16384

noncomputable section

namespace Cert.FwdPay

open Cert.FwdIdeal Cert.FwdIdeal.Gen Idealize.ShloMosaic
open Cert.MlpPay (rstd)

/-- A block of normalised rows. -/
def hnB (h : Vec Ideal S528x1024 .f32) (g : Vec Ideal S1x1024 .f32) : Vec Ideal S528x1024 .bf16 := fun j =>
  h j * rstd (fun k => h (ix2 (n0 := 528) (n1 := 1024) (j 0) k)) * g (ix2 (n0 := 1) (n1 := 1024) 0 (j 1))

/-- A block's pre-activations at one tile of the hidden width. -/
def upB (hn : Vec Ideal S528x1024 .bf16) (wu : Vec Ideal S1x1x1024x1024 .bf16) : Vec Ideal S528x1024 .bf16 := fun j =>
  ∑ k : Fin 1024, hn (ix2 (n0 := 528) (n1 := 1024) (j 0) k) * wu (ix4 (n0 := 1) (n1 := 1) (n2 := 1024) (n3 := 1024) 0 0 k (j 1))

/-- One tile's part of the block's output. -/
def dnB (hn : Vec Ideal S528x1024 .bf16) (wu wd : Vec Ideal S1x1x1024x1024 .bf16) : Vec Ideal S528x1024 .f32 := fun j =>
  ∑ k : Fin 1024, max (upB hn wu (ix2 (n0 := 528) (n1 := 1024) (j 0) k)) 0 * max (upB hn wu (ix2 (n0 := 528) (n1 := 1024) (j 0) k)) 0
    * wd (ix4 (n0 := 1) (n1 := 1) (n2 := 1024) (n3 := 1024) 0 0 k (j 1))

/-- The normalised rows. -/
theorem pay5_eq (h : Vec Ideal S528x1024 .f32) (g : Vec Ideal S1x1024 .f32) : k0_pay5 h g = hnB h g := by
  funext j
  idx_vars j
  unfold hnB rstd
  pointwise [k0_pay5, Arith.lit_1024]

/-- Storing the normalised rows back changes nothing. -/
theorem pay6_eq (x : Vec Ideal S528x1024 .bf16) : k0_pay6 x = x := by
  funext j
  idx_vars j
  pointwise [k0_pay6]

/-- The upper rows' pre-activations. -/
theorem pay7_apply (a : Vec Ideal S272x1024 .bf16) (wu : Vec Ideal S1x1x1024x1024 .bf16) (r : Fin 272) (l : Fin 1024) :
    k0_pay7 a wu (ix2 r l) = ∑ k : Fin 1024, a (ix2 r k) * wu (ix4 0 0 k l) := by
  pointwise [k0_pay7]

theorem pay8_apply (a : Vec Ideal S272x1024 .bf16) (wu : Vec Ideal S1x1x1024x1024 .bf16) (r : Fin 272) (l : Fin 1024) :
    k0_pay8 a wu (ix2 r l) = ∑ k : Fin 1024, a (ix2 r k) * wu (ix4 0 0 k l) := by
  pointwise [k0_pay8, pay7_apply]

/-- The lower rows' pre-activations. -/
theorem pay10_apply (a : Vec Ideal S256x1024 .bf16) (wu : Vec Ideal S1x1x1024x1024 .bf16) (r : Fin 256) (l : Fin 1024) :
    k0_pay10 a wu (ix2 r l) = ∑ k : Fin 1024, a (ix2 r k) * wu (ix4 0 0 k l) := by
  pointwise [k0_pay10]

theorem pay11_apply (a : Vec Ideal S256x1024 .bf16) (wu : Vec Ideal S1x1x1024x1024 .bf16) (r : Fin 256) (l : Fin 1024) :
    k0_pay11 a wu (ix2 r l) = ∑ k : Fin 1024, a (ix2 r k) * wu (ix4 0 0 k l) := by
  pointwise [k0_pay11, pay10_apply]

/-- The product with the down projection, in the two pieces its rows come in. -/
theorem pay1_apply (a : Vec Ideal S272x1024 .bf16) (b : Vec Ideal S256x1024 .bf16) (wu wd : Vec Ideal S1x1x1024x1024 .bf16) (r : Fin 528) (l : Fin 1024) :
    k0_pay1 (k0_pay9 a wu wd) (k0_pay10 b wu) wd (ix2 r l)
      = if h : r.val < 272 then ∑ k : Fin 1024, max (k0_pay7 a wu (ix2 ⟨r.val, h⟩ k)) 0 * max (k0_pay7 a wu (ix2 ⟨r.val, h⟩ k)) 0 * wd (ix4 0 0 k l)
        else ∑ k : Fin 1024, max (k0_pay10 b wu (ix2 ⟨r.val - 272, by omega⟩ k)) 0 * max (k0_pay10 b wu (ix2 ⟨r.val - 272, by omega⟩ k)) 0 * wd (ix4 0 0 k l) := by
  pointwise [k0_pay1, k0_pay9]

/-- One tile's part of the output, its rows taken in two pieces. -/
theorem pay1_eq (hn : Vec Ideal S528x1024 .bf16) (wu wd : Vec Ideal S1x1x1024x1024 .bf16) :
    k0_pay1 (k0_pay9 (View.ld hn (Rect.unit ![0, 0] ![272, 1024] inb_S528x1024_S272x1024_0_0) : Vec Ideal S272x1024 .bf16) wu wd) (k0_pay10 (View.ld hn (Rect.unit ![272, 0] ![256, 1024] inb_S528x1024_S256x1024_272_0) : Vec Ideal S256x1024 .bf16) wu) wd = dnB hn wu wd := by
  funext j
  idx_vars j
  rw [pay1_apply]
  split
  · refine Finset.sum_congr rfl fun k _ => ?_
    rw [pay7_apply]
    pointwise [upB]
  · refine Finset.sum_congr rfl fun k _ => ?_
    rw [pay10_apply]
    have e : (⟨272 + (j0.val - 272), by omega⟩ : Fin 528) = j0 := Fin.ext (by show 272 + (j0.val - 272) = j0.val; omega)
    pointwise [upB]
    simp only [e]

theorem pay2_eq (v : FVec Ideal S272x1024 .f32) (a : FVec Ideal S256x1024 .f32) (wd : Vec Ideal S1x1x1024x1024 .bf16) :
    k0_pay2 v a wd = k0_pay1 v a wd := by
  funext j; pointwise [k0_pay2]

theorem pay3_eq (v : FVec Ideal S272x1024 .f32) (a : FVec Ideal S256x1024 .f32) (wd : Vec Ideal S1x1x1024x1024 .bf16) (s : Vec Ideal S528x1024 .f32) :
    k0_pay3 v a wd s = fun j => s j + k0_pay1 v a wd j := by
  funext j; pointwise [k0_pay3]

theorem pay4_eq (h s : Vec Ideal S528x1024 .f32) : k0_pay4 h s = fun j => h j + s j := by
  funext j; pointwise [k0_pay4]

/-- The block of the pre-activations, stored in two pieces. -/
theorem up_eq (hn : Vec Ideal S528x1024 .bf16) (wu : Vec Ideal S1x1x1024x1024 .bf16) :
    View.canon (
      [⟨Rect.unit (s := S528x1024) ![272, 0] ![256, 1024] inb_S528x1024_S256x1024_272_0, (k0_pay11 (View.ld hn (Rect.unit ![272, 0] ![256, 1024] inb_S528x1024_S256x1024_272_0) : Vec Ideal S256x1024 .bf16) wu : Vec Ideal S256x1024 .bf16)⟩,
       ⟨Rect.unit (s := S528x1024) ![0, 0] ![272, 1024] inb_S528x1024_S272x1024_0_0, (k0_pay8 (View.ld hn (Rect.unit ![0, 0] ![272, 1024] inb_S528x1024_S272x1024_0_0) : Vec Ideal S272x1024 .bf16) wu : Vec Ideal S272x1024 .bf16)⟩] : List (View.Piece (Elt Ideal) S528x1024 .bf16))
      = upB hn wu := by
  funext j
  refine View.canon_apply_of_pieces (upB hn wu) _ ?_ j ?_
  · intro p hp
    rcases List.mem_cons.1 hp with rfl | hp
    · intro (x : S256x1024.Idx)
      idx_vars x
      have e : (Rect.unit (s := S528x1024) ![272, 0] ![256, 1024] inb_S528x1024_S256x1024_272_0).emb (ix2 x0 x1) = ix2 (n0 := 528) (n1 := 1024) ⟨272 + x0.val, by omega⟩ x1 := by
        funext a; apply Fin.ext; rw [Rect.emb_apply]; fin_cases a
        · show 272 + 1 * x0.val = 272 + x0.val; omega
        · show 0 + 1 * x1.val = x1.val; omega
      show _ = upB hn wu ((Rect.unit (s := S528x1024) ![272, 0] ![256, 1024] inb_S528x1024_S256x1024_272_0).emb (ix2 x0 x1))
      rw [e]
      refine (pay11_apply _ _ x0 x1).trans ?_
      pointwise [upB]
    · rcases List.mem_singleton.1 hp with rfl
      intro (x : S272x1024.Idx)
      idx_vars x
      have e : (Rect.unit (s := S528x1024) ![0, 0] ![272, 1024] inb_S528x1024_S272x1024_0_0).emb (ix2 x0 x1) = ix2 (n0 := 528) (n1 := 1024) ⟨x0.val, by omega⟩ x1 := by
        funext a; apply Fin.ext; rw [Rect.emb_apply]; fin_cases a
        · show 0 + 1 * x0.val = x0.val; omega
        · show 0 + 1 * x1.val = x1.val; omega
      show _ = upB hn wu ((Rect.unit (s := S528x1024) ![0, 0] ![272, 1024] inb_S528x1024_S272x1024_0_0).emb (ix2 x0 x1))
      rw [e]
      refine (pay8_apply _ _ x0 x1).trans ?_
      pointwise [upB]
  · have h0 : (j 0).val < 528 := (j 0).isLt
    have h1 : (j 1).val < 1024 := (j 1).isLt
    by_cases h : (j 0).val < 272
    · refine ⟨_, List.mem_cons_of_mem _ (List.mem_singleton_self _), ?_⟩
      rw [Rect.mem_set_unit]
      intro a; fin_cases a
      · show 0 ≤ (j 0).val ∧ (j 0).val < 0 + 272; omega
      · show 0 ≤ (j 1).val ∧ (j 1).val < 0 + 1024; omega
    · refine ⟨_, List.mem_cons_self, ?_⟩
      rw [Rect.mem_set_unit]
      intro a; fin_cases a
      · show 272 ≤ (j 0).val ∧ (j 0).val < 272 + 256; omega
      · show 0 ≤ (j 1).val ∧ (j 1).val < 0 + 1024; omega

/-! ## The reference -/

section Ref

open Cert.FwdRefIdeal.Read

variable (h : Vec Ideal S4224x1024 .f32) (g : Vec Ideal S1x1024 .f32) (wu : Vec Ideal S1024x4096 .f32) (wd : Vec Ideal S4096x1024 .f32)

/-- The normalised rows. -/
def hn (r : Fin 4224) (k : Fin 1024) : EReal := h (ix2 r k) * rstd (fun k => h (ix2 r k)) * g (ix2 0 k)

/-- The pre-activations. -/
def up (r : Fin 4224) (l : Fin 4096) : EReal := ∑ k : Fin 1024, hn h g r k * wu (ix2 k l)

/-- The block's output. -/
def out (r : Fin 4224) (l : Fin 1024) : EReal :=
  h (ix2 r l) + ∑ k : Fin 4096, max (up h g wu r k) 0 * max (up h g wu r k) 0 * wd (ix2 k l)

/-- The reference's normalised rows. -/
theorem val11 (r : Fin 4224) (k : Fin 1024) : val_main_v11 (F := Ideal) h g (ix2 r k) = hn h g r k := by
  unfold hn rstd
  pointwise [val_main_v11, val_main_v10, val_main_v9, val_main_v8, val_main_v7, val_main_v6, val_main_v5, val_main_v4, val_main_v3, val_main_v2, val_main_v1, val_main_v0,
    val_main_cst, val_main_cst_0, val_main_cst_1, Arith.lit_1024]

/-- The copy it returns. -/
theorem val17 (r : Fin 4224) (k : Fin 1024) : val_main_v17 (F := Ideal) h g (ix2 r k) = hn h g r k := by
  pointwise [val_main_v17, val11]

/-- Its pre-activations. -/
theorem val12 (r : Fin 4224) (l : Fin 4096) : val_main_v12 (F := Ideal) h g wu (ix2 r l) = up h g wu r l := by
  unfold up
  pointwise [val_main_v12, val11]

theorem val18 (r : Fin 4224) (l : Fin 4096) : val_main_v18 (F := Ideal) h g wu (ix2 r l) = up h g wu r l := by
  pointwise [val_main_v18, val12]

/-- Its output. -/
theorem val16 (r : Fin 4224) (l : Fin 1024) : val_main_v16 (F := Ideal) h g wu wd (ix2 r l) = out h g wu wd r l := by
  unfold out
  pointwise [val_main_v16, val_main_v15, val_main_v14, val_main_v13, val_main_call0_v0, val_main_call0_cst, val12]

end Ref

end Cert.FwdPay

end
-- ==== Proof.FwdCase.lean ====
module

public import proofs.«01_k».proof.Proof.Gen.FwdIdeal.Frame
public import proofs.«01_k».proof.Proof.FwdPay
public import proofs.«01_k».proof.Proof.MlpCase
public import Idealize.ShloMosaic.Lib.Pipeline.Value

@[expose] public section

/-!
# What a point of the squared-relu block's forward kernel leaves, case by case
-/

set_option maxRecDepth 16384

noncomputable section

namespace Cert.FwdCase

open Cert.FwdIdeal Cert.FwdIdeal.Gen Idealize.ShloMosaic Idealize.ShloMosaic.TcCoe Idealize.SL.Sem
open Cert.MlpCase (hz hz4 readCov_ld)

/-- The normalised rows at the first tile. -/
theorem vout0_A_5 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : cond0_0 i) (hc1 : ¬cond0_1 i) (hc2 : cond0_2 i) (hc3 : ¬cond0_3 i) (hc4 : ¬cond0_4 i)
    (x0 : Vec Ideal S528x1024 .f32) (x1 : Vec Ideal S1x1024 .f32) (x2 : Vec Ideal S1x1x1024x1024 .bf16) (x3 : Vec Ideal S1x1x1024x1024 .bf16) :
    out0_A_5 (F := Ideal) c i arg2 harg2 arg3 harg3 arg4 harg4 arg5 harg5 arg6 harg6 arg7 harg7 arg8 harg8 arg9 harg9 hc0 hc1 hc2 hc3 hc4 x0 x1 x2 x3 = FwdPay.hnB x0 x1 := by
  unfold out0_A_5
  rw [View.read_writes_eq_canon _ _ _ (cover0_A_5 c i arg2 harg2 arg3 harg3 arg4 harg4 arg5 harg5 arg6 harg6 arg7 harg7 arg8 harg8 arg9 harg9 hc0 hc1 hc2 hc3 hc4 x0 x1 x2 x3)]
  unfold kernelRun0_A
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The pre-activations at the first tile. -/
theorem vout0_A_6 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : cond0_0 i) (hc1 : ¬cond0_1 i) (hc2 : cond0_2 i) (hc3 : ¬cond0_3 i) (hc4 : ¬cond0_4 i)
    (x0 : Vec Ideal S528x1024 .f32) (x1 : Vec Ideal S1x1024 .f32) (x2 : Vec Ideal S1x1x1024x1024 .bf16) (x3 : Vec Ideal S1x1x1024x1024 .bf16) :
    out0_A_6 (F := Ideal) c i arg2 harg2 arg3 harg3 arg4 harg4 arg5 harg5 arg6 harg6 arg7 harg7 arg8 harg8 arg9 harg9 hc0 hc1 hc2 hc3 hc4 x0 x1 x2 x3 = FwdPay.upB (FwdPay.hnB x0 x1) x2 := by
  unfold out0_A_6
  rw [View.read_writes_eq_canon _ _ _ (cover0_A_6 c i arg2 harg2 arg3 harg3 arg4 harg4 arg5 harg5 arg6 harg6 arg7 harg7 arg8 harg8 arg9 harg9 hc0 hc1 hc2 hc3 hc4 x0 x1 x2 x3)]
  unfold kernelRun0_A
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The running sum after the first tile. -/
theorem vsout0_A_0 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : cond0_0 i) (hc1 : ¬cond0_1 i) (hc2 : cond0_2 i) (hc3 : ¬cond0_3 i) (hc4 : ¬cond0_4 i)
    (x0 : Vec Ideal S528x1024 .f32) (x1 : Vec Ideal S1x1024 .f32) (x2 : Vec Ideal S1x1x1024x1024 .bf16) (x3 : Vec Ideal S1x1x1024x1024 .bf16) :
    sout0_A_0 (F := Ideal) c i arg2 harg2 arg3 harg3 arg4 harg4 arg5 harg5 arg6 harg6 arg7 harg7 arg8 harg8 arg9 harg9 hc0 hc1 hc2 hc3 hc4 x0 x1 x2 x3 = FwdPay.dnB (FwdPay.hnB x0 x1) x2 x3 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 hc3 hc4 x0 x1 x2 x3)]
  unfold kernelRun0_A
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The normalised rows are kept at a middle tile. -/
theorem vout0_B_5 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : ¬cond0_0 i) (hc1 : cond0_1 i) (hc2 : ¬cond0_2 i) (hc3 : cond0_3 i) (hc4 : ¬cond0_4 i)
    (x0 : Vec Ideal S528x1024 .f32) (x1 : Vec Ideal S1x1024 .f32) (x2 : Vec Ideal S1x1x1024x1024 .bf16) (x3 : Vec Ideal S1x1x1024x1024 .bf16) (xo5 : Vec Ideal S528x1024 .bf16) (xs0 : Vec Ideal S528x1024 .f32) :
    out0_B_5 (F := Ideal) c i arg2 harg2 arg3 harg3 arg4 harg4 arg5 harg5 arg6 harg6 arg7 harg7 arg8 harg8 arg9 harg9 hc0 hc1 hc2 hc3 hc4 x0 x1 x2 x3 xo5 xs0 = xo5 := by
  unfold out0_B_5
  rw [View.read_writes_eq_canon _ _ _ (cover0_B_5 c i arg2 harg2 arg3 harg3 arg4 harg4 arg5 harg5 arg6 harg6 arg7 harg7 arg8 harg8 arg9 harg9 hc0 hc1 hc2 hc3 hc4 x0 x1 x2 x3 xo5 xs0)]
  unfold kernelRun0_B
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The pre-activations at a middle tile. -/
theorem vout0_B_6 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : ¬cond0_0 i) (hc1 : cond0_1 i) (hc2 : ¬cond0_2 i) (hc3 : cond0_3 i) (hc4 : ¬cond0_4 i)
    (x0 : Vec Ideal S528x1024 .f32) (x1 : Vec Ideal S1x1024 .f32) (x2 : Vec Ideal S1x1x1024x1024 .bf16) (x3 : Vec Ideal S1x1x1024x1024 .bf16) (xo5 : Vec Ideal S528x1024 .bf16) (xs0 : Vec Ideal S528x1024 .f32) :
    out0_B_6 (F := Ideal) c i arg2 harg2 arg3 harg3 arg4 harg4 arg5 harg5 arg6 harg6 arg7 harg7 arg8 harg8 arg9 harg9 hc0 hc1 hc2 hc3 hc4 x0 x1 x2 x3 xo5 xs0 = FwdPay.upB xo5 x2 := by
  unfold out0_B_6
  rw [View.read_writes_eq_canon _ _ _ (cover0_B_6 c i arg2 harg2 arg3 harg3 arg4 harg4 arg5 harg5 arg6 harg6 arg7 harg7 arg8 harg8 arg9 harg9 hc0 hc1 hc2 hc3 hc4 x0 x1 x2 x3 xo5 xs0)]
  unfold kernelRun0_B
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The running sum after a middle tile. -/
theorem vsout0_B_0 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : ¬cond0_0 i) (hc1 : cond0_1 i) (hc2 : ¬cond0_2 i) (hc3 : cond0_3 i) (hc4 : ¬cond0_4 i)
    (x0 : Vec Ideal S528x1024 .f32) (x1 : Vec Ideal S1x1024 .f32) (x2 : Vec Ideal S1x1x1024x1024 .bf16) (x3 : Vec Ideal S1x1x1024x1024 .bf16) (xo5 : Vec Ideal S528x1024 .bf16) (xs0 : Vec Ideal S528x1024 .f32) :
    sout0_B_0 (F := Ideal) c i arg2 harg2 arg3 harg3 arg4 harg4 arg5 harg5 arg6 harg6 arg7 harg7 arg8 harg8 arg9 harg9 hc0 hc1 hc2 hc3 hc4 x0 x1 x2 x3 xo5 xs0 = fun j => xs0 j + FwdPay.dnB xo5 x2 x3 j := by
  unfold sout0_B_0
  rw [View.read_writes_eq_canon _ _ _ (scover0_B_0 c i arg2 harg2 arg3 harg3 arg4 harg4 arg5 harg5 arg6 harg6 arg7 harg7 arg8 harg8 arg9 harg9 hc0 hc1 hc2 hc3 hc4 x0 x1 x2 x3 xo5 xs0)]
  unfold kernelRun0_B
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The normalised rows are kept at the last tile. -/
theorem vout0_C_5 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : ¬cond0_0 i) (hc1 : cond0_1 i) (hc2 : ¬cond0_2 i) (hc3 : cond0_3 i) (hc4 : cond0_4 i)
    (x0 : Vec Ideal S528x1024 .f32) (x1 : Vec Ideal S1x1024 .f32) (x2 : Vec Ideal S1x1x1024x1024 .bf16) (x3 : Vec Ideal S1x1x1024x1024 .bf16) (xo5 : Vec Ideal S528x1024 .bf16) (xs0 : Vec Ideal S528x1024 .f32) :
    out0_C_5 (F := Ideal) c i arg2 harg2 arg3 harg3 arg4 harg4 arg5 harg5 arg6 harg6 arg7 harg7 arg8 harg8 arg9 harg9 hc0 hc1 hc2 hc3 hc4 x0 x1 x2 x3 xo5 xs0 = xo5 := by
  unfold out0_C_5
  rw [View.read_writes_eq_canon _ _ _ (cover0_C_5 c i arg2 harg2 arg3 harg3 arg4 harg4 arg5 harg5 arg6 harg6 arg7 harg7 arg8 harg8 arg9 harg9 hc0 hc1 hc2 hc3 hc4 x0 x1 x2 x3 xo5 xs0)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The pre-activations at the last tile. -/
theorem vout0_C_6 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : ¬cond0_0 i) (hc1 : cond0_1 i) (hc2 : ¬cond0_2 i) (hc3 : cond0_3 i) (hc4 : cond0_4 i)
    (x0 : Vec Ideal S528x1024 .f32) (x1 : Vec Ideal S1x1024 .f32) (x2 : Vec Ideal S1x1x1024x1024 .bf16) (x3 : Vec Ideal S1x1x1024x1024 .bf16) (xo5 : Vec Ideal S528x1024 .bf16) (xs0 : Vec Ideal S528x1024 .f32) :
    out0_C_6 (F := Ideal) c i arg2 harg2 arg3 harg3 arg4 harg4 arg5 harg5 arg6 harg6 arg7 harg7 arg8 harg8 arg9 harg9 hc0 hc1 hc2 hc3 hc4 x0 x1 x2 x3 xo5 xs0 = FwdPay.upB xo5 x2 := by
  unfold out0_C_6
  rw [View.read_writes_eq_canon _ _ _ (cover0_C_6 c i arg2 harg2 arg3 harg3 arg4 harg4 arg5 harg5 arg6 harg6 arg7 harg7 arg8 harg8 arg9 harg9 hc0 hc1 hc2 hc3 hc4 x0 x1 x2 x3 xo5 xs0)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The running sum after the last tile. -/
theorem vsout0_C_0 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : ¬cond0_0 i) (hc1 : cond0_1 i) (hc2 : ¬cond0_2 i) (hc3 : cond0_3 i) (hc4 : cond0_4 i)
    (x0 : Vec Ideal S528x1024 .f32) (x1 : Vec Ideal S1x1024 .f32) (x2 : Vec Ideal S1x1x1024x1024 .bf16) (x3 : Vec Ideal S1x1x1024x1024 .bf16) (xo5 : Vec Ideal S528x1024 .bf16) (xs0 : Vec Ideal S528x1024 .f32) :
    sout0_C_0 (F := Ideal) c i arg2 harg2 arg3 harg3 arg4 harg4 arg5 harg5 arg6 harg6 arg7 harg7 arg8 harg8 arg9 harg9 hc0 hc1 hc2 hc3 hc4 x0 x1 x2 x3 xo5 xs0 = fun j => xs0 j + FwdPay.dnB xo5 x2 x3 j := by
  unfold sout0_C_0
  rw [View.read_writes_eq_canon _ _ _ (scover0_C_0 c i arg2 harg2 arg3 harg3 arg4 harg4 arg5 harg5 arg6 harg6 arg7 harg7 arg8 harg8 arg9 harg9 hc0 hc1 hc2 hc3 hc4 x0 x1 x2 x3 xo5 xs0)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

/-- The output at the last tile. -/
theorem vout0_C_4 (c : Dev nD) (i : grid0.Coords) (arg2 : Memref sig .tc .vmem S528x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S528x1024 .f32) (harg6 : arg6.IsWhole) (arg7 : Memref sig .tc .vmem S528x1024 .bf16) (harg7 : arg7.IsWhole) (arg8 : Memref sig .tc .vmem S528x1024 .bf16) (harg8 : arg8.IsWhole) (arg9 : Memref sig .tc .vmem S528x1024 .f32) (harg9 : arg9.IsWhole) (hc0 : ¬cond0_0 i) (hc1 : cond0_1 i) (hc2 : ¬cond0_2 i) (hc3 : cond0_3 i) (hc4 : cond0_4 i)
    (x0 : Vec Ideal S528x1024 .f32) (x1 : Vec Ideal S1x1024 .f32) (x2 : Vec Ideal S1x1x1024x1024 .bf16) (x3 : Vec Ideal S1x1x1024x1024 .bf16) (xo5 : Vec Ideal S528x1024 .bf16) (xs0 : Vec Ideal S528x1024 .f32) :
    out0_C_4 (F := Ideal) c i arg2 harg2 arg3 harg3 arg4 harg4 arg5 harg5 arg6 harg6 arg7 harg7 arg8 harg8 arg9 harg9 hc0 hc1 hc2 hc3 hc4 x0 x1 x2 x3 xo5 xs0 = fun j => x0 j + (xs0 j + FwdPay.dnB xo5 x2 x3 j) := by
  unfold out0_C_4
  rw [View.read_writes_eq_canon _ _ _ (cover0_C_4 c i arg2 harg2 arg3 harg3 arg4 harg4 arg5 harg5 arg6 harg6 arg7 harg7 arg8 harg8 arg9 harg9 hc0 hc1 hc2 hc3 hc4 x0 x1 x2 x3 xo5 xs0)]
  unfold kernelRun0_C
  dsimp only
  (try sl_unfold_words)
  simp only [readCov_ld (S := S528x1024) _ hz, View.canon_cons_unit_zero (S := S528x1024) hz, View.canon_cons_unit_zero (S := S1x1024) hz, View.readAt_eq_ld, harg2.read_unread, harg3.read_unread, harg4.read_unread, harg5.read_unread, harg6.read_unread, harg7.read_unread, harg8.read_unread, harg9.read_unread, View.ld_unit_zero (S := S528x1024) hz, View.ld_unit_zero (S := S1x1024) hz, View.ld_unit_zero (S := S1x1x1024x1024) hz4]
  (try simp only [FwdPay.pay5_eq, FwdPay.pay6_eq, FwdPay.pay4_eq, FwdPay.pay3_eq, FwdPay.pay2_eq, FwdPay.pay1_eq, FwdPay.up_eq])
  try rfl

end Cert.FwdCase

end
-- ==== Proof.FwdFinal.lean ====
module

public import proofs.«01_k».proof.Proof.FwdCase
public import proofs.«01_k».proof.Proof.Gen.FwdIdeal.Value
public import proofs.«01_k».proof.Proof.Gen.FwdRefIdeal.Run
public import proofs.«01_k».proof.Defs
public import Idealize.ShloMosaic.Lib.Claim
public import Idealize.ShloMosaic.Lib.StableHlo.Run

@[expose] public section

/-!
# The squared-relu block's forward kernel computes the block

Point `t` of the 32 works on row block `t / 4` and on tile `t % 4` of the hidden width. By induction over the points, the staged
normalised rows, the pre-activations and the running sum are the block's; the last tile adds the input.
-/

set_option maxRecDepth 16384

noncomputable section

namespace Cert.FwdFinal

open Cert.FwdIdeal Cert.FwdIdeal.Gen Cert.FwdIdeal.Value Cert.FwdCase Idealize.ShloMosaic Idealize.ShloMosaic.TcCoe Idealize.SL.Sem

variable (m : (ℓ : Loc nD τ sig) → Buf (Elt Ideal) ℓ)

/-- The block's input. -/
abbrev aH (c : Dev nD) : Vec Ideal S4224x1024 .f32 := m ((c : Thread nD τ).loc main_arg0)
/-- The norm's weights. -/
abbrev aG (c : Dev nD) : Vec Ideal S1x1024 .f32 := m ((c : Thread nD τ).loc main_arg1)
/-- The up projection. -/
abbrev aWu (c : Dev nD) : Vec Ideal S1024x4096 .f32 := m ((c : Thread nD τ).loc main_arg2)
/-- The down projection. -/
abbrev aWd (c : Dev nD) : Vec Ideal S4096x1024 .f32 := m ((c : Thread nD τ).loc main_arg3)

/-- The up projection as the kernel's blocks take it: cut into four column tiles. -/
theorem V2 (c : Dev nD) (a : Fin 1) (q : Fin 4) (r : Fin 1024) (l : Fin 1024) :
    (V m c main_v2 : Vec Ideal S4x1x1024x1024 .bf16) (ix4 q a r l) = aWu m c (ix2 r ⟨q * 1024 + l, by omega⟩) := by
  unfold_abbrev_sides
  after_results
  pointwise

/-- The down projection as the kernel's blocks take it: cut into four row tiles. -/
theorem V4 (c : Dev nD) (a : Fin 1) (q : Fin 4) (r : Fin 1024) (l : Fin 1024) :
    (V m c main_v4 : Vec Ideal S4x1x1024x1024 .bf16) (ix4 q a r l) = aWd m c (ix2 ⟨q * 1024 + r, by omega⟩ l) := by
  unfold_abbrev_sides
  after_results
  pointwise

theorem N32 : cfg0.N = 32 := N_0

/-- A point's row of the whole array. -/
abbrev row (t : Fin cfg0.N) (r : Fin 528) : Fin 4224 := ⟨t.val / 4 * 528 + r.val, by have h := lt_of_lt_of_eq t.isLt N32; omega⟩
/-- A point's column of the hidden width. -/
abbrev col (t : Fin cfg0.N) (l : Fin 1024) : Fin 4096 := ⟨t.val % 4 * 1024 + l.val, by omega⟩

theorem idx0 : ∀ t : Fin cfg0.N, win0_0.index t (0 : Fin 2) = t.val / 4 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 4) = t.val % 4 ∧ win0_2.index t (1 : Fin 4) = 0 ∧ win0_2.index t (2 : Fin 4) = 0 ∧ win0_2.index t (3 : Fin 4) = 0 :=
  (by decide +kernel : ∀ t : Fin grid0.N, _)

theorem idx3 : ∀ t : Fin cfg0.N, win0_3.index t (0 : Fin 4) = t.val % 4 ∧ win0_3.index t (1 : Fin 4) = 0 ∧ win0_3.index t (2 : Fin 4) = 0 ∧ win0_3.index t (3 : Fin 4) = 0 :=
  (by decide +kernel : ∀ t : Fin grid0.N, _)

/-- A block of the input. -/
theorem ib0 (c : Dev nD) (t : Fin cfg0.N) (r : Fin 528) (l : Fin 1024) :
    (iblk m c 0 t : Vec Ideal S528x1024 .f32) (ix2 r l) = aH m c (ix2 (row t r) l) := by
  have hN := lt_of_lt_of_eq t.isLt N32
  obtain ⟨e0, e1⟩ := idx0 t
  unfold iblk
  rw [View.read_apply]
  have e : ((cfg0.win 0).blk t).view.emb (ix2 r l) = (ix2 (row t r) l : S4224x1024.Idx) := by
    funext a; apply Fin.ext; fin_cases a
    · show win0_0.index t (0 : Fin 2) * 528 + 1 * (r : Fin 528).val = t.val / 4 * 528 + r.val; rw [e0]; omega
    · show win0_0.index t (1 : Fin 2) * 1024 + 1 * (l : Fin 1024).val = l.val; rw [e1]; omega
  show (V m c main_arg0 : Vec Ideal S4224x1024 .f32) (((cfg0.win 0).blk t).view.emb (ix2 r l)) = _
  rw [e, V_main_arg0]

/-- The norm's weights. -/
theorem ib1 (c : Dev nD) (t : Fin cfg0.N) (r : Fin 1) (l : Fin 1024) :
    (iblk m c 1 t : Vec Ideal S1x1024 .f32) (ix2 r l) = aG m c (ix2 r l) := by
  have hN := lt_of_lt_of_eq t.isLt N32
  obtain ⟨e0, e1⟩ := idx1 t
  unfold iblk
  rw [View.read_apply]
  have e : ((cfg0.win 1).blk t).view.emb (ix2 r l) = (ix2 r l : S1x1024.Idx) := by
    funext a; apply Fin.ext; fin_cases a
    · show win0_1.index t (0 : Fin 2) * 1 + 1 * (r : Fin 1).val = r.val; rw [e0]; omega
    · show win0_1.index t (1 : Fin 2) * 1024 + 1 * (l : Fin 1024).val = l.val; rw [e1]; omega
  show (V m c main_arg1 : Vec Ideal S1x1024 .f32) (((cfg0.win 1).blk t).view.emb (ix2 r l)) = _
  rw [e, V_main_arg1]

/-- A column tile of the up projection. -/
theorem ib2 (c : Dev nD) (t : Fin cfg0.N) (a b : Fin 1) (r l : Fin 1024) :
    (iblk m c 2 t : Vec Ideal S1x1x1024x1024 .bf16) (ix4 a b r l) = aWu m c (ix2 r (col t l)) := by
  have hN := lt_of_lt_of_eq t.isLt N32
  obtain ⟨e0, e1, e2, e3⟩ := idx2 t
  unfold iblk
  rw [View.read_apply]
  have e : ((cfg0.win 2).blk t).view.emb (ix4 a b r l) = (ix4 (⟨t.val % 4, Nat.mod_lt _ (by decide)⟩ : Fin 4) b r l : S4x1x1024x1024.Idx) := by
    funext a; apply Fin.ext; fin_cases a
    · show win0_2.index t (0 : Fin 4) * 1 + 1 * (a : Fin 1).val = t.val % 4; rw [e0]; omega
    · show win0_2.index t (1 : Fin 4) * 1 + 1 * (b : Fin 1).val = b.val; rw [e1]; omega
    · show win0_2.index t (2 : Fin 4) * 1024 + 1 * (r : Fin 1024).val = r.val; rw [e2]; omega
    · show win0_2.index t (3 : Fin 4) * 1024 + 1 * (l : Fin 1024).val = l.val; rw [e3]; omega
  show (V m c main_v2 : Vec Ideal S4x1x1024x1024 .bf16) (((cfg0.win 2).blk t).view.emb (ix4 a b r l)) = _
  rw [e, V2]

/-- A row tile of the down projection. -/
theorem ib3 (c : Dev nD) (t : Fin cfg0.N) (a b : Fin 1) (r l : Fin 1024) :
    (iblk m c 3 t : Vec Ideal S1x1x1024x1024 .bf16) (ix4 a b r l) = aWd m c (ix2 (col t r) l) := by
  have hN := lt_of_lt_of_eq t.isLt N32
  obtain ⟨e0, e1, e2, e3⟩ := idx3 t
  unfold iblk
  rw [View.read_apply]
  have e : ((cfg0.win 3).blk t).view.emb (ix4 a b r l) = (ix4 (⟨t.val % 4, Nat.mod_lt _ (by decide)⟩ : Fin 4) b r l : S4x1x1024x1024.Idx) := by
    funext a; apply Fin.ext; fin_cases a
    · show win0_3.index t (0 : Fin 4) * 1 + 1 * (a : Fin 1).val = t.val % 4; rw [e0]; omega
    · show win0_3.index t (1 : Fin 4) * 1 + 1 * (b : Fin 1).val = b.val; rw [e1]; omega
    · show win0_3.index t (2 : Fin 4) * 1024 + 1 * (r : Fin 1024).val = r.val; rw [e2]; omega
    · show win0_3.index t (3 : Fin 4) * 1024 + 1 * (l : Fin 1024).val = l.val; rw [e3]; omega
  show (V m c main_v4 : Vec Ideal S4x1x1024x1024 .bf16) (((cfg0.win 3).blk t).view.emb (ix4 a b r l)) = _
  rw [e, V4]

/-- The normalised rows over the arguments. -/
abbrev hn (c : Dev nD) (r : Fin 4224) (k : Fin 1024) : EReal := FwdPay.hn (aH m c) (aG m c) r k
/-- The pre-activations over the arguments. -/
abbrev up (c : Dev nD) (r : Fin 4224) (l : Fin 4096) : EReal := FwdPay.up (aH m c) (aG m c) (aWu m c) r l
/-- The output over the arguments. -/
abbrev out (c : Dev nD) (r : Fin 4224) (l : Fin 1024) : EReal := FwdPay.out (aH m c) (aG m c) (aWu m c) (aWd m c) r l

/-- Column `k` of tile `f`. -/
abbrev colT (f : ℕ) (k : Fin 1024) : Fin 4096 := ⟨f % 4 * 1024 + k.val, by omega⟩
/-- One tile's part of the product with the down projection. -/
def part (c : Dev nD) (r : Fin 4224) (l : Fin 1024) (f : ℕ) : EReal :=
  ∑ k : Fin 1024, max (up m c r (colT f k)) 0 * max (up m c r (colT f k)) 0 * aWd m c (ix2 (colT f k) l)

/-- The four tiles make up the whole width. -/
theorem part_all (c : Dev nD) (r : Fin 4224) (l : Fin 1024) :
    aH m c (ix2 r l) + ∑ f ∈ Finset.range 4, part m c r l f = out m c r l := by
  unfold out FwdPay.out
  refine congrArg (fun x : EReal => aH m c (ix2 r l) + x) ?_
  rw [Finset.sum_range, Fin.sum_univ_tiles 4 1024 rfl]
  unfold part
  refine Finset.sum_congr rfl fun f _ => Finset.sum_congr rfl fun k _ => ?_
  have e : colT f.val k = ⟨f.val * 1024 + k.val, by omega⟩ := Fin.ext (by show f.val % 4 * 1024 + k.val = f.val * 1024 + k.val; omega)
  rw [e]

/-- A block of normalised rows at an element. -/
theorem hnB_apply (h : Vec Ideal S528x1024 .f32) (g : Vec Ideal S1x1024 .f32) (r : Fin 528) (l : Fin 1024) :
    FwdPay.hnB h g (ix2 r l) = h (ix2 r l) * MlpPay.rstd (fun k => h (ix2 r k)) * g (ix2 0 l) := rfl

/-- The block of normalised rows at a point. -/
theorem hn_blk (c : Dev nD) (t : Fin cfg0.N) (r : Fin 528) (l : Fin 1024) :
    FwdPay.hnB (iblk m c 0 t) (iblk m c 1 t) (ix2 r l) = hn m c (row t r) l := by
  rw [hnB_apply]
  simp only [ib0, ib1]
  rfl

/-- The block of pre-activations at a point. -/
theorem up_blk (c : Dev nD) (t : Fin cfg0.N) (d : Vec Ideal S528x1024 .bf16) (hd : ∀ r k, d (ix2 r k) = hn m c (row t r) k)
    (r : Fin 528) (l : Fin 1024) :
    FwdPay.upB d (iblk m c 2 t) (ix2 r l) = up m c (row t r) (col t l) := by
  show (∑ k : Fin 1024, d (ix2 r k) * (iblk m c 2 t : Vec Ideal S1x1x1024x1024 .bf16) (ix4 0 0 k l)) = _
  simp only [hd, ib2]
  rfl

/-- A point's part of the product with the down projection. -/
theorem dn_blk (c : Dev nD) (t : Fin cfg0.N) (d : Vec Ideal S528x1024 .bf16) (hd : ∀ r k, d (ix2 r k) = hn m c (row t r) k)
    (r : Fin 528) (l : Fin 1024) :
    FwdPay.dnB d (iblk m c 2 t) (iblk m c 3 t) (ix2 r l) = part m c (row t r) l (t.val % 4) := by
  show (∑ k : Fin 1024, max (FwdPay.upB d (iblk m c 2 t) (ix2 r k)) 0 * max (FwdPay.upB d (iblk m c 2 t) (ix2 r k)) 0 * (iblk m c 3 t : Vec Ideal S1x1x1024x1024 .bf16) (ix4 0 0 k l)) = _
  unfold part
  refine Finset.sum_congr rfl fun k _ => ?_
  rw [up_blk m c t d hd, ib3]
  have e : colT (t.val % 4) k = col t k := Fin.ext (by show t.val % 4 % 4 * 1024 + k.val = t.val % 4 * 1024 + k.val; omega)
  rw [e]

/-- What the kernel holds after point `t`. -/
structure Inv (c : Dev nD) (t : Fin cfg0.N) : Prop where
  o5 : ∀ r l, (outsAt0 m c t.val t.isLt).2.1 (ix2 r l) = hn m c (row t r) l
  o6 : ∀ r l, (outsAt0 m c t.val t.isLt).2.2.1 (ix2 r l) = up m c (row t r) (col t l)
  s0 : ∀ r l, (outsAt0 m c t.val t.isLt).2.2.2 (ix2 r l) = ∑ f ∈ Finset.range (t.val % 4 + 1), part m c (row t r) l f
  o4 : t.val % 4 = 3 → ∀ r l, (outsAt0 m c t.val t.isLt).1 (ix2 r l) = out m c (row t r) l

/-- The running sum grows by the point's tile. -/
theorem s0_step (c : Dev nD) (t : Fin cfg0.N) (d : Vec Ideal S528x1024 .bf16) (xs : Vec Ideal S528x1024 .f32)
    (h : ∀ r l, d (ix2 r l) = hn m c (row t r) l)
    (h' : ∀ r l, xs (ix2 r l) = ∑ f ∈ Finset.range (t.val % 4), part m c (row t r) l f) (r : Fin 528) (l : Fin 1024) :
    xs (ix2 r l) + FwdPay.dnB d (iblk m c 2 t) (iblk m c 3 t) (ix2 r l) = ∑ f ∈ Finset.range (t.val % 4 + 1), part m c (row t r) l f := by
  rw [h', dn_blk m c t d h, Finset.sum_range_succ]

/-- A row block's first point leaves what the invariant says. -/
theorem inv_first (c : Dev nD) (t : Fin cfg0.N) (h0 : t.val % 4 = 0) : Inv m c t := by
  have e := outsAt0_A m c t h0 (by omega) h0 (by omega) (by omega)
  refine ⟨fun r l => ?_, fun r l => ?_, fun r l => ?_, fun h' => absurd h' (by omega)⟩
  all_goals (rw [e]; dsimp only)
  · rw [vout0_A_5]; exact hn_blk m c t r l
  · rw [vout0_A_6]; exact up_blk m c t _ (fun r k => hn_blk m c t r k) r l
  · rw [vsout0_A_0, dn_blk m c t _ (fun r k => hn_blk m c t r k), h0]; exact (Finset.sum_range_one _).symm

theorem inv (c : Dev nD) : ∀ (n : ℕ) (h : n < cfg0.N), Inv m c ⟨n, h⟩ := by
  intro n
  induction n with
  | zero => intro h; exact inv_first m c ⟨0, h⟩ rfl
  | succ n ih =>
    intro h
    have p := ih (by omega)
    by_cases h0 : (n + 1) % 4 = 0
    · exact inv_first m c ⟨n + 1, h⟩ h0
    · have er : ∀ r, row ⟨n, by omega⟩ r = row ⟨n + 1, h⟩ r := fun r => Fin.ext (by show n / 4 * 528 + r.val = (n + 1) / 4 * 528 + r.val; omega)
      have hs0 : ∀ r l, (outsAt0 m c n (by omega)).2.1 (ix2 r l) = hn m c (row ⟨n + 1, h⟩ r) l := fun r l => by rw [← er]; exact p.o5 r l
      have hs1 : ∀ r l, (outsAt0 m c n (by omega)).2.2.2 (ix2 r l) = ∑ f ∈ Finset.range ((n + 1) % 4), part m c (row ⟨n + 1, h⟩ r) l f := fun r l => by
        rw [← er, show (n + 1) % 4 = n % 4 + 1 by omega]; exact p.s0 r l
      have hst := s0_step m c ⟨n + 1, h⟩ _ _ hs0 hs1
      by_cases h3 : (n + 1) % 4 = 3
      · have e := outsAt0_C m c ⟨n + 1, h⟩ h0 (by show 1 ≤ (n + 1) % 4; omega) h0 (by show 1 ≤ (n + 1) % 4; omega) h3
        refine ⟨fun r l => ?_, fun r l => ?_, fun r l => ?_, fun h' r l => ?_⟩
        all_goals (rw [e]; dsimp only)
        · rw [vout0_C_5]; exact hs0 r l
        · rw [vout0_C_6]; exact up_blk m c _ _ hs0 r l
        · rw [vsout0_C_0]; exact hst r l
        · rw [vout0_C_4]
          refine (congrArg₂ (fun x y : EReal => x + y) (ib0 m c ⟨n + 1, h⟩ r l) (hst r l)).trans ?_
          show aH m c _ + ∑ f ∈ Finset.range ((n + 1) % 4 + 1), _ = _
          rw [h3]
          exact part_all m c _ l
      · have e := outsAt0_B m c ⟨n + 1, h⟩ h0 (by show 1 ≤ (n + 1) % 4; omega) h0 (by show 1 ≤ (n + 1) % 4; omega) h3
        refine ⟨fun r l => ?_, fun r l => ?_, fun r l => ?_, fun h' => absurd h' h3⟩
        all_goals (rw [e]; dsimp only)
        · rw [vout0_B_5]; exact hs0 r l
        · rw [vout0_B_6]; exact up_blk m c _ _ hs0 r l
        · rw [vsout0_B_0]; exact hst r l

/-- The kernel's first result is the block's output. -/
theorem G4_eq (c : Dev nD) : G4 m c = fun i : S4224x1024.Idx => out m c (i 0) (i 1) := by
  funext i
  have h0 : (i 0).val < 4224 := (i 0).isLt
  have h1 : (i 1).val < 1024 := (i 1).isLt
  have hp : pt4Of i < cfg0.N := lt_of_lt_of_eq (by show 4 * (1 * ((i 0).val / 528 - 0) + 1 * ((i 1).val / 1024 - 0)) + 3 < 32; omega) N32.symm
  unfold G4
  rw [dif_pos hp, ← outsAt0_sweep]
  have el : loc4Of i = ix2 ⟨(i 0).val % 528, Nat.mod_lt _ (by decide)⟩ ⟨(i 1).val % 1024, Nat.mod_lt _ (by decide)⟩ := by
    funext a; fin_cases a <;> rfl
  rw [el]
  refine ((inv m c _ hp).o4 (by show (4 * (1 * ((i 0).val / 528 - 0) + 1 * ((i 1).val / 1024 - 0)) + 3) % 4 = 3; omega) _ _).trans ?_
  congr 1
  · apply Fin.ext; show (4 * (1 * ((i 0).val / 528 - 0) + 1 * ((i 1).val / 1024 - 0)) + 3) / 4 * 528 + (i 0).val % 528 = (i 0).val; omega
  · apply Fin.ext; show (i 1).val % 1024 = (i 1).val; omega

/-- Its second is the normalised rows. -/
theorem G5_eq (c : Dev nD) : G5 m c = fun i : S4224x1024.Idx => hn m c (i 0) (i 1) := by
  funext i
  have h0 : (i 0).val < 4224 := (i 0).isLt
  have h1 : (i 1).val < 1024 := (i 1).isLt
  have hp : pt5Of i < cfg0.N := lt_of_lt_of_eq (by show 4 * (1 * ((i 0).val / 528 - 0) + 1 * ((i 1).val / 1024 - 0)) + 3 < 32; omega) N32.symm
  unfold G5
  rw [dif_pos hp, ← outsAt0_sweep]
  have el : loc5Of i = ix2 ⟨(i 0).val % 528, Nat.mod_lt _ (by decide)⟩ ⟨(i 1).val % 1024, Nat.mod_lt _ (by decide)⟩ := by
    funext a; fin_cases a <;> rfl
  rw [el]
  refine ((inv m c _ hp).o5 _ _).trans ?_
  congr 1
  · apply Fin.ext; show (4 * (1 * ((i 0).val / 528 - 0) + 1 * ((i 1).val / 1024 - 0)) + 3) / 4 * 528 + (i 0).val % 528 = (i 0).val; omega
  · apply Fin.ext; show (i 1).val % 1024 = (i 1).val; omega

/-- Its third is the pre-activations. -/
theorem G6_eq (c : Dev nD) : G6 m c = fun i : S4224x4096.Idx => up m c (i 0) (i 1) := by
  funext i
  have h0 : (i 0).val < 4224 := (i 0).isLt
  have h1 : (i 1).val < 4096 := (i 1).isLt
  have hp : pt6Of i < cfg0.N := lt_of_lt_of_eq (by show 4 * ((i 0).val / 528 - 0) + 1 * ((i 1).val / 1024 - 0) < 32; omega) N32.symm
  unfold G6
  rw [dif_pos hp, ← outsAt0_sweep]
  have el : loc6Of i = ix2 ⟨(i 0).val % 528, Nat.mod_lt _ (by decide)⟩ ⟨(i 1).val % 1024, Nat.mod_lt _ (by decide)⟩ := by
    funext a; fin_cases a <;> rfl
  rw [el]
  refine ((inv m c _ hp).o6 _ _).trans ?_
  congr 1
  · apply Fin.ext; show (4 * ((i 0).val / 528 - 0) + 1 * ((i 1).val / 1024 - 0)) / 4 * 528 + (i 0).val % 528 = (i 0).val; omega
  · apply Fin.ext; show (4 * ((i 0).val / 528 - 0) + 1 * ((i 1).val / 1024 - 0)) % 4 * 1024 + (i 1).val % 1024 = (i 1).val; omega

/-- The kernel's results are the reference's. -/
theorem alg (hK : Cert.FwdIdeal.Facts) (hR : Cert.FwdRefIdeal.Facts) : @Cert.algebraic_FwdIdeal_FwdRefIdeal hK hR := by
  intro m ρ m' ρ' _ hag
  refine ⟨fun c (i : S4224x1024.Idx) => out m c (i 0) (i 1), fun c (i : S4224x1024.Idx) => hn m c (i 0) (i 1), fun c (i : S4224x4096.Idx) => up m c (i 0) (i 1), ?_, ?_⟩
  · refine (θ_run _ _ _).mono (fun r h c => ?_) (Cert.FwdIdeal.Value.run m ρ)
    obtain ⟨a, b, d, f⟩ := h c
    exact ⟨a.trans (G4_eq m c), b.trans (G5_eq m c), d.trans (G6_eq m c), f⟩
  · refine (θ_run _ _ _).mono (fun r h c => ?_) (Cert.FwdRefIdeal.Value.run m' ρ')
    obtain ⟨a, b, d, f⟩ := h c
    obtain ⟨g0, g1, g2, g3⟩ := hag c
    rw [Cert.FwdRefIdeal.Read.val_main_v16_eq, g0, g1, g2, g3] at a
    rw [Cert.FwdRefIdeal.Read.val_main_v17_eq, g0, g1] at b
    rw [Cert.FwdRefIdeal.Read.val_main_v18_eq, g0, g1, g2] at d
    refine ⟨a.trans ?_, b.trans ?_, d.trans ?_, f⟩
    · funext i
      obtain ⟨r, l, rfl⟩ : ∃ (r : Fin 4224) (l : Fin 1024), i = ix2 r l := ⟨i 0, i 1, by funext a; fin_cases a <;> rfl⟩
      exact FwdPay.val16 _ _ _ _ r l
    · funext i
      obtain ⟨r, l, rfl⟩ : ∃ (r : Fin 4224) (l : Fin 1024), i = ix2 r l := ⟨i 0, i 1, by funext a; fin_cases a <;> rfl⟩
      exact FwdPay.val17 _ _ r l
    · funext i
      obtain ⟨r, l, rfl⟩ : ∃ (r : Fin 4224) (l : Fin 4096), i = ix2 r l := ⟨i 0, i 1, by funext a; fin_cases a <;> rfl⟩
      exact FwdPay.val18 _ _ _ r l

end Cert.FwdFinal

end
-- ==== Proof.QkvFinal.lean ====
module

public import proofs.«01_k».proof.Proof.MlpCase
public import proofs.«01_k».proof.Proof.Gen.QkvIdeal.Value
public import proofs.«01_k».proof.Proof.Gen.QkvRefIdeal.Run
public import proofs.«01_k».proof.Proof.Gen.QkvRefIdeal.Read
public import proofs.«01_k».proof.Defs
public import Idealize.ShloMosaic.Lib.Claim
public import Idealize.ShloMosaic.Lib.StableHlo.Run

@[expose] public section

/-!
# The kernel of the attention layer's input projection computes the normalised rows and their projection

Point `t` of the 16 works on row block `t / 4` and on column tile `t % 4` of the projection; the normalised rows are made at the first tile of a
row block and kept through the other three.
-/

set_option maxRecDepth 16384

noncomputable section

namespace Cert.QkvFinal

open Cert.QkvIdeal Cert.QkvIdeal.Gen Cert.QkvIdeal.Value Idealize.ShloMosaic Idealize.ShloMosaic.TcCoe Idealize.SL.Sem
open Cert.MlpPay (rstd)
open Cert.MlpCase (hz readCov_ld)

/-- The offsets of a whole three-axis block. -/
theorem hz3 : (![0, 0, 0] : Fin 3 → ℕ) = fun _ => 0 := by funext a; fin_cases a <;> rfl

/-- The kernel's block of normalised rows. -/
def hnB (h : Vec Ideal S1056x1024 .f32) (g : Vec Ideal S1x1024 .f32) : Vec Ideal S1056x1024 .bf16 := fun j =>
  h j * rstd (fun k => h (ix2 (n0 := 1056) (n1 := 1024) (j 0) k)) * g (ix2 (n0 := 1) (n1 := 1024) 0 (j 1))

/-- A block's product with a column tile of the projection. -/
def prB (hn : Vec Ideal S1056x1024 .bf16) (w : Vec Ideal S1x1024x768 .bf16) : Vec Ideal S1056x768 .bf16 := fun j =>
  ∑ k : Fin 1024, hn (ix2 (n0 := 1056) (n1 := 1024) (j 0) k) * w (ix3 (n0 := 1) (n1 := 1024) (n2 := 768) 0 k (j 1))

/-- The normalised rows. -/
theorem pay1_eq (h : Vec Ideal S1056x1024 .f32) (g : Vec Ideal S1x1024 .f32) : k0_pay1 h g = hnB h g := by
  funext j
  idx_vars j
  unfold hnB rstd
  pointwise [k0_pay1, Arith.lit_1024]

/-- Storing the normalised rows back changes nothing. -/
theorem pay2_eq (x : Vec Ideal S1056x1024 .bf16) : k0_pay2 x = x := by
  funext j
  idx_vars j
  pointwise [k0_pay2]

/-- One tile's product. -/
theorem pay3_eq (hn : Vec Ideal S1056x1024 .bf16) (w : Vec Ideal S1x1024x768 .bf16) : k0_pay3 hn w = prB hn w := by
  funext j
  idx_vars j
  unfold prB
  pointwise [k0_pay3]

/-! ## The reference -/

section Ref

open Cert.QkvRefIdeal.Read

variable (h : Vec Ideal S4224x1024 .f32) (g : Vec Ideal S1x1024 .f32) (w : Vec Ideal S1024x3072 .f32)

/-- The normalised rows. -/
def hn (r : Fin 4224) (k : Fin 1024) : EReal := h (ix2 r k) * rstd (fun k => h (ix2 r k)) * g (ix2 0 k)

/-- The projection. -/
def pr (r : Fin 4224) (l : Fin 3072) : EReal := ∑ k : Fin 1024, hn h g r k * w (ix2 k l)

/-- The reference's normalised rows. -/
theorem val11 (r : Fin 4224) (k : Fin 1024) : val_main_v11 (F := Ideal) h g (ix2 r k) = hn h g r k := by
  unfold hn rstd
  pointwise [val_main_v11, val_main_v10, val_main_v9, val_main_v8, val_main_v7, val_main_v6, val_main_v5, val_main_v4, val_main_v3, val_main_v2, val_main_v1, val_main_v0,
    val_main_cst, val_main_cst_0, val_main_cst_1, Arith.lit_1024]

/-- The copy it returns. -/
theorem val12 (r : Fin 4224) (k : Fin 1024) : val_main_v12 (F := Ideal) h g (ix2 r k) = hn h g r k := by
  pointwise [val_main_v12, val11]

/-- Its projection. -/
theorem val14 (r : Fin 4224) (l : Fin 3072) : val_main_v14 (F := Ideal) h g w (ix2 r l) = pr h g w r l := by
  unfold pr
  pointwise [val_main_v14, val_main_v13, val11]

end Ref

/-- The normalised rows at the first tile. -/
theorem vout0_A_3 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x768 .bf16) (harg4 : arg4.IsWhole) (arg5 : Memref sig .tc .vmem S1056x1024 .bf16) (harg5 : arg5.IsWhole) (arg6 : Memref sig .tc .vmem S1056x768 .bf16) (harg6 : arg6.IsWhole) (hc0 : cond0_0 i) (hc1 : ¬cond0_1 i)
    (x0 : Vec Ideal S1056x1024 .f32) (x1 : Vec Ideal S1x1024 .f32) (x2 : Vec Ideal S1x1024x768 .bf16) :
    out0_A_3 (F := Ideal) c i arg2 harg2 arg3 harg3 arg4 harg4 arg5 harg5 arg6 harg6 hc0 hc1 x0 x1 x2 = hnB x0 x1 := by
  unfold out0_A_3
  rw [View.read_writes_eq_canon _ _ _ (cover0_A_3 c i arg2 harg2 arg3 harg3 arg4 harg4 arg5 harg5 arg6 harg6 hc0 hc1 x0 x1 x2)]
  unfold kernelRun0_A
  dsimp only
  (try sl_unfold_words)
  simp only [readCov_ld (S := S1056x1024) _ hz, View.canon_cons_unit_zero (S := S1056x1024) hz, View.canon_cons_unit_zero (S := S1056x768) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x768) hz3]
  (try simp only [pay1_eq, pay2_eq, pay3_eq])
  try rfl

/-- The product at the first tile. -/
theorem vout0_A_4 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x768 .bf16) (harg4 : arg4.IsWhole) (arg5 : Memref sig .tc .vmem S1056x1024 .bf16) (harg5 : arg5.IsWhole) (arg6 : Memref sig .tc .vmem S1056x768 .bf16) (harg6 : arg6.IsWhole) (hc0 : cond0_0 i) (hc1 : ¬cond0_1 i)
    (x0 : Vec Ideal S1056x1024 .f32) (x1 : Vec Ideal S1x1024 .f32) (x2 : Vec Ideal S1x1024x768 .bf16) :
    out0_A_4 (F := Ideal) c i arg2 harg2 arg3 harg3 arg4 harg4 arg5 harg5 arg6 harg6 hc0 hc1 x0 x1 x2 = prB (hnB x0 x1) x2 := by
  unfold out0_A_4
  rw [View.read_writes_eq_canon _ _ _ (cover0_A_4 c i arg2 harg2 arg3 harg3 arg4 harg4 arg5 harg5 arg6 harg6 hc0 hc1 x0 x1 x2)]
  unfold kernelRun0_A
  dsimp only
  (try sl_unfold_words)
  simp only [readCov_ld (S := S1056x1024) _ hz, View.canon_cons_unit_zero (S := S1056x1024) hz, View.canon_cons_unit_zero (S := S1056x768) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x768) hz3]
  (try simp only [pay1_eq, pay2_eq, pay3_eq])
  try rfl

/-- The normalised rows are kept at a later tile. -/
theorem vout0_B_3 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x768 .bf16) (harg4 : arg4.IsWhole) (arg5 : Memref sig .tc .vmem S1056x1024 .bf16) (harg5 : arg5.IsWhole) (arg6 : Memref sig .tc .vmem S1056x768 .bf16) (harg6 : arg6.IsWhole) (hc0 : ¬cond0_0 i) (hc1 : cond0_1 i)
    (x0 : Vec Ideal S1056x1024 .f32) (x1 : Vec Ideal S1x1024 .f32) (x2 : Vec Ideal S1x1024x768 .bf16) (xo3 : Vec Ideal S1056x1024 .bf16) :
    out0_B_3 (F := Ideal) c i arg2 harg2 arg3 harg3 arg4 harg4 arg5 harg5 arg6 harg6 hc0 hc1 x0 x1 x2 xo3 = xo3 := by
  unfold out0_B_3
  rw [View.read_writes_eq_canon _ _ _ (cover0_B_3 c i arg2 harg2 arg3 harg3 arg4 harg4 arg5 harg5 arg6 harg6 hc0 hc1 x0 x1 x2 xo3)]
  unfold kernelRun0_B
  dsimp only
  (try sl_unfold_words)
  simp only [readCov_ld (S := S1056x1024) _ hz, View.canon_cons_unit_zero (S := S1056x1024) hz, View.canon_cons_unit_zero (S := S1056x768) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x768) hz3]
  (try simp only [pay1_eq, pay2_eq, pay3_eq])
  try rfl

/-- The product at a later tile. -/
theorem vout0_B_4 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x768 .bf16) (harg4 : arg4.IsWhole) (arg5 : Memref sig .tc .vmem S1056x1024 .bf16) (harg5 : arg5.IsWhole) (arg6 : Memref sig .tc .vmem S1056x768 .bf16) (harg6 : arg6.IsWhole) (hc0 : ¬cond0_0 i) (hc1 : cond0_1 i)
    (x0 : Vec Ideal S1056x1024 .f32) (x1 : Vec Ideal S1x1024 .f32) (x2 : Vec Ideal S1x1024x768 .bf16) (xo3 : Vec Ideal S1056x1024 .bf16) :
    out0_B_4 (F := Ideal) c i arg2 harg2 arg3 harg3 arg4 harg4 arg5 harg5 arg6 harg6 hc0 hc1 x0 x1 x2 xo3 = prB xo3 x2 := by
  unfold out0_B_4
  rw [View.read_writes_eq_canon _ _ _ (cover0_B_4 c i arg2 harg2 arg3 harg3 arg4 harg4 arg5 harg5 arg6 harg6 hc0 hc1 x0 x1 x2 xo3)]
  unfold kernelRun0_B
  dsimp only
  (try sl_unfold_words)
  simp only [readCov_ld (S := S1056x1024) _ hz, View.canon_cons_unit_zero (S := S1056x1024) hz, View.canon_cons_unit_zero (S := S1056x768) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x768) hz3]
  (try simp only [pay1_eq, pay2_eq, pay3_eq])
  try rfl

variable (m : (ℓ : Loc nD τ sig) → Buf (Elt Ideal) ℓ)

/-- The layer's input. -/
abbrev aH (c : Dev nD) : Vec Ideal S4224x1024 .f32 := m ((c : Thread nD τ).loc main_arg0)
/-- The norm's weights. -/
abbrev aG (c : Dev nD) : Vec Ideal S1x1024 .f32 := m ((c : Thread nD τ).loc main_arg1)
/-- The projection. -/
abbrev aW (c : Dev nD) : Vec Ideal S1024x3072 .f32 := m ((c : Thread nD τ).loc main_arg2)

/-- The projection as the kernel's blocks take it: cut into four column tiles. -/
theorem V2 (c : Dev nD) (q : Fin 4) (r : Fin 1024) (l : Fin 768) :
    (V m c main_v2 : Vec Ideal S4x1024x768 .bf16) (ix3 q r l) = aW m c (ix2 r ⟨q * 768 + l, by omega⟩) := by
  unfold_abbrev_sides
  after_results
  pointwise

theorem N16 : cfg0.N = 16 := by decide

/-- A point's row of the whole array. -/
abbrev row (t : Fin cfg0.N) (r : Fin 1056) : Fin 4224 := ⟨t.val / 4 * 1056 + r.val, by have h := lt_of_lt_of_eq t.isLt N16; omega⟩
/-- A point's column of the projection. -/
abbrev col (t : Fin cfg0.N) (l : Fin 768) : Fin 3072 := ⟨t.val % 4 * 768 + l.val, by omega⟩

theorem idx0 : ∀ t : Fin cfg0.N, win0_0.index t (0 : Fin 2) = t.val / 4 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 3) = t.val % 4 ∧ win0_2.index t (1 : Fin 3) = 0 ∧ win0_2.index t (2 : Fin 3) = 0 :=
  (by decide +kernel : ∀ t : Fin grid0.N, _)

theorem idx3 : ∀ t : Fin cfg0.N, win0_3.index t (0 : Fin 2) = t.val / 4 ∧ win0_3.index t (1 : Fin 2) = 0 :=
  (by decide +kernel : ∀ t : Fin grid0.N, _)

theorem idx4 : ∀ t : Fin cfg0.N, win0_4.index t (0 : Fin 2) = t.val / 4 ∧ win0_4.index t (1 : Fin 2) = t.val % 4 :=
  (by decide +kernel : ∀ t : Fin grid0.N, _)

/-- A block of the layer's input. -/
theorem ib0 (c : Dev nD) (t : Fin cfg0.N) (r : Fin 1056) (l : Fin 1024) :
    (iblk m c 0 t : Vec Ideal S1056x1024 .f32) (ix2 r l) = aH m c (ix2 (row t r) l) := by
  have hN := lt_of_lt_of_eq t.isLt N16
  obtain ⟨e0, e1⟩ := idx0 t
  unfold iblk
  rw [View.read_apply]
  have e : ((cfg0.win 0).blk t).view.emb (ix2 r l) = ((ix2 (row t r) l) : S4224x1024.Idx) := by
    funext a; apply Fin.ext; fin_cases a
    · show win0_0.index t (0 : Fin 2) * 1056 + 1 * (r : Fin 1056).val = t.val / 4 * 1056 + r.val; rw [e0]; omega
    · show win0_0.index t (1 : Fin 2) * 1024 + 1 * (l : Fin 1024).val = l.val; rw [e1]; omega
  show (V m c main_arg0 : Vec Ideal S4224x1024 .f32) (((cfg0.win 0).blk t).view.emb (ix2 r l)) = _
  rw [e, V_main_arg0]

/-- The norm's weights. -/
theorem ib1 (c : Dev nD) (t : Fin cfg0.N) (r : Fin 1) (l : Fin 1024) :
    (iblk m c 1 t : Vec Ideal S1x1024 .f32) (ix2 r l) = aG m c (ix2 r l) := by
  have hN := lt_of_lt_of_eq t.isLt N16
  obtain ⟨e0, e1⟩ := idx1 t
  unfold iblk
  rw [View.read_apply]
  have e : ((cfg0.win 1).blk t).view.emb (ix2 r l) = ((ix2 r l) : S1x1024.Idx) := by
    funext a; apply Fin.ext; fin_cases a
    · show win0_1.index t (0 : Fin 2) * 1 + 1 * (r : Fin 1).val = r.val; rw [e0]; omega
    · show win0_1.index t (1 : Fin 2) * 1024 + 1 * (l : Fin 1024).val = l.val; rw [e1]; omega
  show (V m c main_arg1 : Vec Ideal S1x1024 .f32) (((cfg0.win 1).blk t).view.emb (ix2 r l)) = _
  rw [e, V_main_arg1]

/-- A column tile of the projection. -/
theorem ib2 (c : Dev nD) (t : Fin cfg0.N) (a : Fin 1) (r : Fin 1024) (l : Fin 768) :
    (iblk m c 2 t : Vec Ideal S1x1024x768 .bf16) (ix3 a r l) = aW m c (ix2 r (col t l)) := by
  have hN := lt_of_lt_of_eq t.isLt N16
  obtain ⟨e0, e1, e2⟩ := idx2 t
  unfold iblk
  rw [View.read_apply]
  have e : ((cfg0.win 2).blk t).view.emb (ix3 a r l) = (ix3 (⟨t.val % 4, Nat.mod_lt _ (by decide)⟩ : Fin 4) r l : S4x1024x768.Idx) := by
    funext a; apply Fin.ext; fin_cases a
    · show win0_2.index t (0 : Fin 3) * 1 + 1 * (a : Fin 1).val = t.val % 4; rw [e0]; omega
    · show win0_2.index t (1 : Fin 3) * 1024 + 1 * (r : Fin 1024).val = r.val; rw [e1]; omega
    · show win0_2.index t (2 : Fin 3) * 768 + 1 * (l : Fin 768).val = l.val; rw [e2]; omega
  show (V m c main_v2 : Vec Ideal S4x1024x768 .bf16) (((cfg0.win 2).blk t).view.emb (ix3 a r l)) = _
  rw [e, V2]

/-- The normalised rows over the arguments. -/
abbrev hnA (c : Dev nD) (r : Fin 4224) (l : Fin 1024) : EReal := hn (aH m c) (aG m c) r l
/-- The projection over the arguments. -/
abbrev prA (c : Dev nD) (r : Fin 4224) (l : Fin 3072) : EReal := pr (aH m c) (aG m c) (aW m c) r l

/-- The block of normalised rows at an element. -/
theorem hnB_apply (h : Vec Ideal S1056x1024 .f32) (g : Vec Ideal S1x1024 .f32) (r : Fin 1056) (l : Fin 1024) :
    hnB h g (ix2 r l) = h (ix2 r l) * rstd (fun k => h (ix2 r k)) * g (ix2 0 l) := rfl

/-- A tile's product at an element. -/
theorem prB_apply (x : Vec Ideal S1056x1024 .bf16) (w : Vec Ideal S1x1024x768 .bf16) (r : Fin 1056) (l : Fin 768) :
    prB x w (ix2 r l) = ∑ k : Fin 1024, x (ix2 r k) * w (ix3 0 k l) := rfl

/-- A point's normalised rows. -/
theorem hn_blk (c : Dev nD) (t : Fin cfg0.N) (r : Fin 1056) (l : Fin 1024) :
    hnB (iblk m c 0 t) (iblk m c 1 t) (ix2 r l) = hnA m c (row t r) l := by
  rw [hnB_apply]
  simp only [ib0, ib1]
  rfl

/-- A point's product. -/
theorem pr_blk (c : Dev nD) (t : Fin cfg0.N) (x : Vec Ideal S1056x1024 .bf16) (hx : ∀ r l, x (ix2 r l) = hnA m c (row t r) l) (r : Fin 1056) (l : Fin 768) :
    prB x (iblk m c 2 t) (ix2 r l) = prA m c (row t r) (col t l) := by
  rw [prB_apply]
  simp only [hx, ib2]
  rfl

/-- What the kernel holds after point `t`. -/
structure Inv (c : Dev nD) (t : Fin cfg0.N) : Prop where
  o3 : ∀ r l, (outsAt0 m c t.val t.isLt).1 (ix2 r l) = hnA m c (row t r) l
  o4 : ∀ r l, (outsAt0 m c t.val t.isLt).2 (ix2 r l) = prA m c (row t r) (col t l)

theorem inv_first (c : Dev nD) (t : Fin cfg0.N) (h0 : t.val % 4 = 0) : Inv m c t := by
  have e := outsAt0_A m c t h0 (by omega)
  refine ⟨fun r l => ?_, fun r l => ?_⟩
  all_goals (rw [e]; dsimp only)
  · rw [vout0_A_3]; exact hn_blk m c t r l
  · rw [vout0_A_4]; exact pr_blk m c t _ (hn_blk m c t) r l

theorem inv (c : Dev nD) : ∀ (n : ℕ) (h : n < cfg0.N), Inv m c ⟨n, h⟩ := by
  intro n
  induction n with
  | zero => exact fun h => inv_first m c ⟨0, h⟩ rfl
  | succ n ih =>
    intro h
    have hN := lt_of_lt_of_eq h N16
    have p := ih (by omega)
    by_cases h0 : (n + 1) % 4 = 0
    · exact inv_first m c ⟨n + 1, h⟩ h0
    · have e := outsAt0_B m c ⟨n + 1, h⟩ h0 (by show 1 ≤ (n + 1) % 4; omega)
      have er : ∀ r, row ⟨n, by omega⟩ r = row ⟨n + 1, h⟩ r := fun r => Fin.ext (by show n / 4 * 1056 + r.val = (n + 1) / 4 * 1056 + r.val; omega)
      have hs : ∀ r l, (outsAt0 m c n (by omega)).1 (ix2 r l) = hnA m c (row ⟨n + 1, h⟩ r) l := fun r l => by rw [← er]; exact p.o3 r l
      refine ⟨fun r l => ?_, fun r l => ?_⟩
      all_goals (rw [e]; dsimp only)
      · rw [vout0_B_3]; exact hs r l
      · rw [vout0_B_4]; exact pr_blk m c ⟨n + 1, h⟩ _ hs r l

/-- The normalised rows are written back at the last tile of each row block. -/
theorem flush3 : ∀ t : Fin cfg0.N, (cfg0.win 3).flush t = true ↔ t.val % 4 = 3 :=
  (by decide +kernel : ∀ t : Fin grid0.N, _)

/-- Two points that write the normalised rows back write different blocks. -/
theorem disjoint3 : ∀ t t' : Fin cfg0.N, (cfg0.win 3).flush t = true → (cfg0.win 3).flush t' = true → t ≠ t' →
    Disjoint ((cfg0.win 3).blk t).view.set ((cfg0.win 3).blk t').view.set := by
  intro t t' hf hf' hne
  refine (cfg0.win 3).disjoint_blk fun h => hne (Fin.ext ?_)
  have e : win0_3.index t (0 : Fin 2) = win0_3.index t' (0 : Fin 2) := congrFun h (0 : Fin 2)
  rw [(idx3 t).1, (idx3 t').1] at e
  have a := (flush3 t).1 hf
  have b := (flush3 t').1 hf'
  omega

/-- The array of normalised rows the kernel leaves. -/
theorem arr3 (c : Dev nD) (r : Fin 4224) (l : Fin 1024) :
    ((dats m 0 c).arrAt 3 cfg0.N : Vec Ideal S4224x1024 .bf16) (ix2 r l) = hnA m c r l := by
  let t : Fin cfg0.N := ⟨r.val / 1056 * 4 + 3, by rw [N16]; omega⟩
  obtain ⟨e0, e1⟩ := idx3 t
  have ht : t.val = r.val / 1056 * 4 + 3 := rfl
  have e : ((cfg0.win 3).blk t).view.emb (ix2 ⟨r.val % 1056, by omega⟩ l : S1056x1024.Idx) = (ix2 r l : S4224x1024.Idx) := by
    funext a; apply Fin.ext; fin_cases a
    · show win0_3.index t (0 : Fin 2) * 1056 + 1 * (r.val % 1056) = r.val; rw [e0]; omega
    · show win0_3.index t (1 : Fin 2) * 1024 + 1 * (l : Fin 1024).val = l.val; rw [e1]; omega
  have h := congrFun ((dats m 0 c).read_blk_arrAt_eq_flushed 3 (disjoint3) cfg0.N t t.isLt ((flush3 t).2 (by omega))) (ix2 ⟨r.val % 1056, by omega⟩ l : S1056x1024.Idx)
  rw [View.read_apply, e, flushed3] at h
  refine Eq.trans h ?_
  refine ((inv m c t.val t.isLt).o3 ⟨r.val % 1056, by omega⟩ l).trans ?_
  have er : row t ⟨r.val % 1056, by omega⟩ = r := Fin.ext (by show t.val / 4 * 1056 + r.val % 1056 = r.val; omega)
  exact congrArg (fun x => hnA m c x l) er

/-- The array of the projection the kernel leaves. -/
theorem arr4 (c : Dev nD) (r : Fin 4224) (l : Fin 3072) :
    ((dats m 0 c).arrAt 4 cfg0.N : Vec Ideal S4224x3072 .bf16) (ix2 r l) = prA m c r l := by
  let t : Fin cfg0.N := ⟨r.val / 1056 * 4 + l.val / 768, by rw [N16]; omega⟩
  obtain ⟨e0, e1⟩ := idx4 t
  have ht : t.val = r.val / 1056 * 4 + l.val / 768 := rfl
  have e : ((cfg0.win 4).blk t).view.emb (ix2 ⟨r.val % 1056, by omega⟩ ⟨l.val % 768, by omega⟩ : S1056x768.Idx) = (ix2 r l : S4224x3072.Idx) := by
    funext a; apply Fin.ext; fin_cases a
    · show win0_4.index t (0 : Fin 2) * 1056 + 1 * (r.val % 1056) = r.val; rw [e0]; omega
    · show win0_4.index t (1 : Fin 2) * 768 + 1 * (l.val % 768) = l.val; rw [e1]; omega
  have h := congrFun (blocks4 m c t (flush0_4 t)) (ix2 ⟨r.val % 1056, by omega⟩ ⟨l.val % 768, by omega⟩ : S1056x768.Idx)
  rw [View.read_apply, e, flushed4] at h
  refine Eq.trans h ?_
  refine ((inv m c t.val t.isLt).o4 ⟨r.val % 1056, by omega⟩ ⟨l.val % 768, by omega⟩).trans ?_
  have er : row t ⟨r.val % 1056, by omega⟩ = r := Fin.ext (by show t.val / 4 * 1056 + r.val % 1056 = r.val; omega)
  have el : col t ⟨l.val % 768, by omega⟩ = l := Fin.ext (by show t.val % 4 * 768 + l.val % 768 = l.val; omega)
  exact congrArg₂ (fun x y => prA m c x y) er el

/-- The kernel's arrays and the reference's results are the same functions of the arguments. -/
theorem alg (hK : Cert.QkvIdeal.Facts) (hR : Cert.QkvRefIdeal.Facts) : @Cert.algebraic_QkvIdeal_QkvRefIdeal hK hR := by
  intro m ρ m' ρ' _ hag
  refine ⟨fun c (i : S4224x1024.Idx) => hnA m c (i 0) (i 1), fun c (i : S4224x3072.Idx) => prA m c (i 0) (i 1), ?_, ?_⟩
  · refine (θ_run _ _ _).mono (fun r h c => ?_) (Cert.QkvIdeal.Value.run_blocks m ρ)
    obtain ⟨a, b, f⟩ := h c
    refine ⟨a.trans ?_, b.trans ?_, f⟩
    · funext i
      obtain ⟨r, l, rfl⟩ : ∃ (r : Fin 4224) (l : Fin 1024), i = ix2 r l := ⟨i 0, i 1, by funext a; fin_cases a <;> rfl⟩
      exact arr3 m c r l
    · funext i
      obtain ⟨r, l, rfl⟩ : ∃ (r : Fin 4224) (l : Fin 3072), i = ix2 r l := ⟨i 0, i 1, by funext a; fin_cases a <;> rfl⟩
      exact arr4 m c r l
  · refine (θ_run _ _ _).mono (fun r h c => ?_) (Cert.QkvRefIdeal.Value.run m' ρ')
    obtain ⟨a, b, f⟩ := h c
    obtain ⟨g0, g1, g2⟩ := hag c
    rw [Cert.QkvRefIdeal.Read.val_main_v12_eq, g0, g1] at a
    rw [Cert.QkvRefIdeal.Read.val_main_v14_eq, g0, g1, g2] at b
    refine ⟨a.trans ?_, b.trans ?_, f⟩
    · funext i
      obtain ⟨r, l, rfl⟩ : ∃ (r : Fin 4224) (l : Fin 1024), i = ix2 r l := ⟨i 0, i 1, by funext a; fin_cases a <;> rfl⟩
      exact val12 _ _ r l
    · funext i
      obtain ⟨r, l, rfl⟩ : ∃ (r : Fin 4224) (l : Fin 3072), i = ix2 r l := ⟨i 0, i 1, by funext a; fin_cases a <;> rfl⟩
      exact val14 _ _ _ r l

end Cert.QkvFinal

end
-- ==== Proof.LruinFinal.lean ====
module

public import proofs.«01_k».proof.Proof.MlpCase
public import proofs.«01_k».proof.Proof.Gen.LruinIdeal.Value
public import proofs.«01_k».proof.Proof.Gen.LruinRefIdeal.Run
public import proofs.«01_k».proof.Proof.Gen.LruinRefIdeal.Read
public import proofs.«01_k».proof.Defs
public import Idealize.ShloMosaic.Lib.Claim
public import Idealize.ShloMosaic.Lib.StableHlo.Run

@[expose] public section

/-!
# The kernel of the RG-LRU's input projection computes the normalised rows and their projection

Point `t` of the 16 works on row block `t / 4` and on column tile `t % 4` of the projection; the normalised rows are made at the first tile of a
row block and kept through the other three.
-/

set_option maxRecDepth 16384

noncomputable section

namespace Cert.LruinFinal

open Cert.LruinIdeal Cert.LruinIdeal.Gen Cert.LruinIdeal.Value Idealize.ShloMosaic Idealize.ShloMosaic.TcCoe Idealize.SL.Sem
open Cert.MlpPay (rstd)
open Cert.MlpCase (hz readCov_ld)

/-- The offsets of a whole three-axis block. -/
theorem hz3 : (![0, 0, 0] : Fin 3 → ℕ) = fun _ => 0 := by funext a; fin_cases a <;> rfl

/-- The kernel's block of normalised rows. -/
def hnB (h : Vec Ideal S1056x1024 .f32) (g : Vec Ideal S1x1024 .f32) : Vec Ideal S1056x1024 .bf16 := fun j =>
  h j * rstd (fun k => h (ix2 (n0 := 1056) (n1 := 1024) (j 0) k)) * g (ix2 (n0 := 1) (n1 := 1024) 0 (j 1))

/-- A block's product with a column tile of the projection. -/
def prB (hn : Vec Ideal S1056x1024 .bf16) (w : Vec Ideal S1x1024x512 .bf16) : Vec Ideal S1056x512 .f32 := fun j =>
  ∑ k : Fin 1024, hn (ix2 (n0 := 1056) (n1 := 1024) (j 0) k) * w (ix3 (n0 := 1) (n1 := 1024) (n2 := 512) 0 k (j 1))

/-- The normalised rows. -/
theorem pay1_eq (h : Vec Ideal S1056x1024 .f32) (g : Vec Ideal S1x1024 .f32) : k0_pay1 h g = hnB h g := by
  funext j
  idx_vars j
  unfold hnB rstd
  pointwise [k0_pay1, Arith.lit_1024]

/-- Storing the normalised rows back changes nothing. -/
theorem pay2_eq (x : Vec Ideal S1056x1024 .bf16) : k0_pay2 x = x := by
  funext j
  idx_vars j
  pointwise [k0_pay2]

/-- One tile's product. -/
theorem pay3_eq (hn : Vec Ideal S1056x1024 .bf16) (w : Vec Ideal S1x1024x512 .bf16) : k0_pay3 hn w = prB hn w := by
  funext j
  idx_vars j
  unfold prB
  pointwise [k0_pay3]

/-! ## The reference -/

section Ref

open Cert.LruinRefIdeal.Read

variable (h : Vec Ideal S4224x1024 .f32) (g : Vec Ideal S1x1024 .f32) (w : Vec Ideal S1024x2048 .f32)

/-- The normalised rows. -/
def hn (r : Fin 4224) (k : Fin 1024) : EReal := h (ix2 r k) * rstd (fun k => h (ix2 r k)) * g (ix2 0 k)

/-- The projection. -/
def pr (r : Fin 4224) (l : Fin 2048) : EReal := ∑ k : Fin 1024, hn h g r k * w (ix2 k l)

/-- The reference's normalised rows. -/
theorem val11 (r : Fin 4224) (k : Fin 1024) : val_main_v11 (F := Ideal) h g (ix2 r k) = hn h g r k := by
  unfold hn rstd
  pointwise [val_main_v11, val_main_v10, val_main_v9, val_main_v8, val_main_v7, val_main_v6, val_main_v5, val_main_v4, val_main_v3, val_main_v2, val_main_v1, val_main_v0,
    val_main_cst, val_main_cst_0, val_main_cst_1, Arith.lit_1024]

/-- The copy it returns. -/
theorem val12 (r : Fin 4224) (k : Fin 1024) : val_main_v12 (F := Ideal) h g (ix2 r k) = hn h g r k := by
  pointwise [val_main_v12, val11]

/-- Its projection. -/
theorem val13 (r : Fin 4224) (l : Fin 2048) : val_main_v13 (F := Ideal) h g w (ix2 r l) = pr h g w r l := by
  unfold pr
  pointwise [val_main_v13, val11]

end Ref

/-- The normalised rows at the first tile. -/
theorem vout0_A_3 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1056x1024 .bf16) (harg5 : arg5.IsWhole) (arg6 : Memref sig .tc .vmem S1056x512 .f32) (harg6 : arg6.IsWhole) (hc0 : cond0_0 i) (hc1 : ¬cond0_1 i)
    (x0 : Vec Ideal S1056x1024 .f32) (x1 : Vec Ideal S1x1024 .f32) (x2 : Vec Ideal S1x1024x512 .bf16) :
    out0_A_3 (F := Ideal) c i arg2 harg2 arg3 harg3 arg4 harg4 arg5 harg5 arg6 harg6 hc0 hc1 x0 x1 x2 = hnB x0 x1 := by
  unfold out0_A_3
  rw [View.read_writes_eq_canon _ _ _ (cover0_A_3 c i arg2 harg2 arg3 harg3 arg4 harg4 arg5 harg5 arg6 harg6 hc0 hc1 x0 x1 x2)]
  unfold kernelRun0_A
  dsimp only
  (try sl_unfold_words)
  simp only [readCov_ld (S := S1056x1024) _ hz, View.canon_cons_unit_zero (S := S1056x1024) hz, View.canon_cons_unit_zero (S := S1056x512) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x512) hz3]
  (try simp only [pay1_eq, pay2_eq, pay3_eq])
  try rfl

/-- The product at the first tile. -/
theorem vout0_A_4 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1056x1024 .bf16) (harg5 : arg5.IsWhole) (arg6 : Memref sig .tc .vmem S1056x512 .f32) (harg6 : arg6.IsWhole) (hc0 : cond0_0 i) (hc1 : ¬cond0_1 i)
    (x0 : Vec Ideal S1056x1024 .f32) (x1 : Vec Ideal S1x1024 .f32) (x2 : Vec Ideal S1x1024x512 .bf16) :
    out0_A_4 (F := Ideal) c i arg2 harg2 arg3 harg3 arg4 harg4 arg5 harg5 arg6 harg6 hc0 hc1 x0 x1 x2 = prB (hnB x0 x1) x2 := by
  unfold out0_A_4
  rw [View.read_writes_eq_canon _ _ _ (cover0_A_4 c i arg2 harg2 arg3 harg3 arg4 harg4 arg5 harg5 arg6 harg6 hc0 hc1 x0 x1 x2)]
  unfold kernelRun0_A
  dsimp only
  (try sl_unfold_words)
  simp only [readCov_ld (S := S1056x1024) _ hz, View.canon_cons_unit_zero (S := S1056x1024) hz, View.canon_cons_unit_zero (S := S1056x512) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x512) hz3]
  (try simp only [pay1_eq, pay2_eq, pay3_eq])
  try rfl

/-- The normalised rows are kept at a later tile. -/
theorem vout0_B_3 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1056x1024 .bf16) (harg5 : arg5.IsWhole) (arg6 : Memref sig .tc .vmem S1056x512 .f32) (harg6 : arg6.IsWhole) (hc0 : ¬cond0_0 i) (hc1 : cond0_1 i)
    (x0 : Vec Ideal S1056x1024 .f32) (x1 : Vec Ideal S1x1024 .f32) (x2 : Vec Ideal S1x1024x512 .bf16) (xo3 : Vec Ideal S1056x1024 .bf16) :
    out0_B_3 (F := Ideal) c i arg2 harg2 arg3 harg3 arg4 harg4 arg5 harg5 arg6 harg6 hc0 hc1 x0 x1 x2 xo3 = xo3 := by
  unfold out0_B_3
  rw [View.read_writes_eq_canon _ _ _ (cover0_B_3 c i arg2 harg2 arg3 harg3 arg4 harg4 arg5 harg5 arg6 harg6 hc0 hc1 x0 x1 x2 xo3)]
  unfold kernelRun0_B
  dsimp only
  (try sl_unfold_words)
  simp only [readCov_ld (S := S1056x1024) _ hz, View.canon_cons_unit_zero (S := S1056x1024) hz, View.canon_cons_unit_zero (S := S1056x512) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x512) hz3]
  (try simp only [pay1_eq, pay2_eq, pay3_eq])
  try rfl

/-- The product at a later tile. -/
theorem vout0_B_4 (c : Dev nD) (i : grid0.Coords) (arg2 : Memref sig .tc .vmem S1056x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1056x1024 .bf16) (harg5 : arg5.IsWhole) (arg6 : Memref sig .tc .vmem S1056x512 .f32) (harg6 : arg6.IsWhole) (hc0 : ¬cond0_0 i) (hc1 : cond0_1 i)
    (x0 : Vec Ideal S1056x1024 .f32) (x1 : Vec Ideal S1x1024 .f32) (x2 : Vec Ideal S1x1024x512 .bf16) (xo3 : Vec Ideal S1056x1024 .bf16) :
    out0_B_4 (F := Ideal) c i arg2 harg2 arg3 harg3 arg4 harg4 arg5 harg5 arg6 harg6 hc0 hc1 x0 x1 x2 xo3 = prB xo3 x2 := by
  unfold out0_B_4
  rw [View.read_writes_eq_canon _ _ _ (cover0_B_4 c i arg2 harg2 arg3 harg3 arg4 harg4 arg5 harg5 arg6 harg6 hc0 hc1 x0 x1 x2 xo3)]
  unfold kernelRun0_B
  dsimp only
  (try sl_unfold_words)
  simp only [readCov_ld (S := S1056x1024) _ hz, View.canon_cons_unit_zero (S := S1056x1024) hz, View.canon_cons_unit_zero (S := S1056x512) hz, View.readAt_eq_ld, harg2.read_unread, harg3.read_unread, harg4.read_unread, harg5.read_unread, harg6.read_unread, View.ld_unit_zero (S := S1056x1024) hz, View.ld_unit_zero (S := S1x1024) hz, View.ld_unit_zero (S := S1x1024x512) hz3]
  (try simp only [pay1_eq, pay2_eq, pay3_eq])
  try rfl

variable (m : (ℓ : Loc nD τ sig) → Buf (Elt Ideal) ℓ)

/-- The layer's input. -/
abbrev aH (c : Dev nD) : Vec Ideal S4224x1024 .f32 := m ((c : Thread nD τ).loc main_arg0)
/-- The norm's weights. -/
abbrev aG (c : Dev nD) : Vec Ideal S1x1024 .f32 := m ((c : Thread nD τ).loc main_arg1)
/-- The projection. -/
abbrev aW (c : Dev nD) : Vec Ideal S1024x2048 .f32 := m ((c : Thread nD τ).loc main_arg2)

/-- The projection as the kernel's blocks take it: cut into four column tiles. -/
theorem V2 (c : Dev nD) (q : Fin 4) (r : Fin 1024) (l : Fin 512) :
    (V m c main_v2 : Vec Ideal S4x1024x512 .bf16) (ix3 q r l) = aW m c (ix2 r ⟨q * 512 + l, by omega⟩) := by
  unfold_abbrev_sides
  after_results
  pointwise

theorem N16 : cfg0.N = 16 := by decide

/-- A point's row of the whole array. -/
abbrev row (t : Fin cfg0.N) (r : Fin 1056) : Fin 4224 := ⟨t.val / 4 * 1056 + r.val, by have h := lt_of_lt_of_eq t.isLt N16; omega⟩
/-- A point's column of the projection. -/
abbrev col (t : Fin cfg0.N) (l : Fin 512) : Fin 2048 := ⟨t.val % 4 * 512 + l.val, by omega⟩

theorem idx0 : ∀ t : Fin cfg0.N, win0_0.index t (0 : Fin 2) = t.val / 4 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 3) = t.val % 4 ∧ win0_2.index t (1 : Fin 3) = 0 ∧ win0_2.index t (2 : Fin 3) = 0 :=
  (by decide +kernel : ∀ t : Fin grid0.N, _)

theorem idx3 : ∀ t : Fin cfg0.N, win0_3.index t (0 : Fin 2) = t.val / 4 ∧ win0_3.index t (1 : Fin 2) = 0 :=
  (by decide +kernel : ∀ t : Fin grid0.N, _)

theorem idx4 : ∀ t : Fin cfg0.N, win0_4.index t (0 : Fin 2) = t.val / 4 ∧ win0_4.index t (1 : Fin 2) = t.val % 4 :=
  (by decide +kernel : ∀ t : Fin grid0.N, _)

/-- A block of the layer's input. -/
theorem ib0 (c : Dev nD) (t : Fin cfg0.N) (r : Fin 1056) (l : Fin 1024) :
    (iblk m c 0 t : Vec Ideal S1056x1024 .f32) (ix2 r l) = aH m c (ix2 (row t r) l) := by
  have hN := lt_of_lt_of_eq t.isLt N16
  obtain ⟨e0, e1⟩ := idx0 t
  unfold iblk
  rw [View.read_apply]
  have e : ((cfg0.win 0).blk t).view.emb (ix2 r l) = ((ix2 (row t r) l) : S4224x1024.Idx) := by
    funext a; apply Fin.ext; fin_cases a
    · show win0_0.index t (0 : Fin 2) * 1056 + 1 * (r : Fin 1056).val = t.val / 4 * 1056 + r.val; rw [e0]; omega
    · show win0_0.index t (1 : Fin 2) * 1024 + 1 * (l : Fin 1024).val = l.val; rw [e1]; omega
  show (V m c main_arg0 : Vec Ideal S4224x1024 .f32) (((cfg0.win 0).blk t).view.emb (ix2 r l)) = _
  rw [e, V_main_arg0]

/-- The norm's weights. -/
theorem ib1 (c : Dev nD) (t : Fin cfg0.N) (r : Fin 1) (l : Fin 1024) :
    (iblk m c 1 t : Vec Ideal S1x1024 .f32) (ix2 r l) = aG m c (ix2 r l) := by
  have hN := lt_of_lt_of_eq t.isLt N16
  obtain ⟨e0, e1⟩ := idx1 t
  unfold iblk
  rw [View.read_apply]
  have e : ((cfg0.win 1).blk t).view.emb (ix2 r l) = ((ix2 r l) : S1x1024.Idx) := by
    funext a; apply Fin.ext; fin_cases a
    · show win0_1.index t (0 : Fin 2) * 1 + 1 * (r : Fin 1).val = r.val; rw [e0]; omega
    · show win0_1.index t (1 : Fin 2) * 1024 + 1 * (l : Fin 1024).val = l.val; rw [e1]; omega
  show (V m c main_arg1 : Vec Ideal S1x1024 .f32) (((cfg0.win 1).blk t).view.emb (ix2 r l)) = _
  rw [e, V_main_arg1]

/-- A column tile of the projection. -/
theorem ib2 (c : Dev nD) (t : Fin cfg0.N) (a : Fin 1) (r : Fin 1024) (l : Fin 512) :
    (iblk m c 2 t : Vec Ideal S1x1024x512 .bf16) (ix3 a r l) = aW m c (ix2 r (col t l)) := by
  have hN := lt_of_lt_of_eq t.isLt N16
  obtain ⟨e0, e1, e2⟩ := idx2 t
  unfold iblk
  rw [View.read_apply]
  have e : ((cfg0.win 2).blk t).view.emb (ix3 a r l) = (ix3 (⟨t.val % 4, Nat.mod_lt _ (by decide)⟩ : Fin 4) r l : S4x1024x512.Idx) := by
    funext a; apply Fin.ext; fin_cases a
    · show win0_2.index t (0 : Fin 3) * 1 + 1 * (a : Fin 1).val = t.val % 4; rw [e0]; omega
    · show win0_2.index t (1 : Fin 3) * 1024 + 1 * (r : Fin 1024).val = r.val; rw [e1]; omega
    · show win0_2.index t (2 : Fin 3) * 512 + 1 * (l : Fin 512).val = l.val; rw [e2]; omega
  show (V m c main_v2 : Vec Ideal S4x1024x512 .bf16) (((cfg0.win 2).blk t).view.emb (ix3 a r l)) = _
  rw [e, V2]

/-- The normalised rows over the arguments. -/
abbrev hnA (c : Dev nD) (r : Fin 4224) (l : Fin 1024) : EReal := hn (aH m c) (aG m c) r l
/-- The projection over the arguments. -/
abbrev prA (c : Dev nD) (r : Fin 4224) (l : Fin 2048) : EReal := pr (aH m c) (aG m c) (aW m c) r l

/-- The block of normalised rows at an element. -/
theorem hnB_apply (h : Vec Ideal S1056x1024 .f32) (g : Vec Ideal S1x1024 .f32) (r : Fin 1056) (l : Fin 1024) :
    hnB h g (ix2 r l) = h (ix2 r l) * rstd (fun k => h (ix2 r k)) * g (ix2 0 l) := rfl

/-- A tile's product at an element. -/
theorem prB_apply (x : Vec Ideal S1056x1024 .bf16) (w : Vec Ideal S1x1024x512 .bf16) (r : Fin 1056) (l : Fin 512) :
    prB x w (ix2 r l) = ∑ k : Fin 1024, x (ix2 r k) * w (ix3 0 k l) := rfl

/-- A point's normalised rows. -/
theorem hn_blk (c : Dev nD) (t : Fin cfg0.N) (r : Fin 1056) (l : Fin 1024) :
    hnB (iblk m c 0 t) (iblk m c 1 t) (ix2 r l) = hnA m c (row t r) l := by
  rw [hnB_apply]
  simp only [ib0, ib1]
  rfl

/-- A point's product. -/
theorem pr_blk (c : Dev nD) (t : Fin cfg0.N) (x : Vec Ideal S1056x1024 .bf16) (hx : ∀ r l, x (ix2 r l) = hnA m c (row t r) l) (r : Fin 1056) (l : Fin 512) :
    prB x (iblk m c 2 t) (ix2 r l) = prA m c (row t r) (col t l) := by
  rw [prB_apply]
  simp only [hx, ib2]
  rfl

/-- What the kernel holds after point `t`. -/
structure Inv (c : Dev nD) (t : Fin cfg0.N) : Prop where
  o3 : ∀ r l, (outsAt0 m c t.val t.isLt).1 (ix2 r l) = hnA m c (row t r) l
  o4 : ∀ r l, (outsAt0 m c t.val t.isLt).2 (ix2 r l) = prA m c (row t r) (col t l)

theorem inv_first (c : Dev nD) (t : Fin cfg0.N) (h0 : t.val % 4 = 0) : Inv m c t := by
  have e := outsAt0_A m c t h0 (by omega)
  refine ⟨fun r l => ?_, fun r l => ?_⟩
  all_goals (rw [e]; dsimp only)
  · rw [vout0_A_3]; exact hn_blk m c t r l
  · rw [vout0_A_4]; exact pr_blk m c t _ (hn_blk m c t) r l

theorem inv (c : Dev nD) : ∀ (n : ℕ) (h : n < cfg0.N), Inv m c ⟨n, h⟩ := by
  intro n
  induction n with
  | zero => exact fun h => inv_first m c ⟨0, h⟩ rfl
  | succ n ih =>
    intro h
    have hN := lt_of_lt_of_eq h N16
    have p := ih (by omega)
    by_cases h0 : (n + 1) % 4 = 0
    · exact inv_first m c ⟨n + 1, h⟩ h0
    · have e := outsAt0_B m c ⟨n + 1, h⟩ h0 (by show 1 ≤ (n + 1) % 4; omega)
      have er : ∀ r, row ⟨n, by omega⟩ r = row ⟨n + 1, h⟩ r := fun r => Fin.ext (by show n / 4 * 1056 + r.val = (n + 1) / 4 * 1056 + r.val; omega)
      have hs : ∀ r l, (outsAt0 m c n (by omega)).1 (ix2 r l) = hnA m c (row ⟨n + 1, h⟩ r) l := fun r l => by rw [← er]; exact p.o3 r l
      refine ⟨fun r l => ?_, fun r l => ?_⟩
      all_goals (rw [e]; dsimp only)
      · rw [vout0_B_3]; exact hs r l
      · rw [vout0_B_4]; exact pr_blk m c ⟨n + 1, h⟩ _ hs r l

/-- The normalised rows are written back at the last tile of each row block. -/
theorem flush3 : ∀ t : Fin cfg0.N, (cfg0.win 3).flush t = true ↔ t.val % 4 = 3 :=
  (by decide +kernel : ∀ t : Fin grid0.N, _)

/-- Two points that write the normalised rows back write different blocks. -/
theorem disjoint3 : ∀ t t' : Fin cfg0.N, (cfg0.win 3).flush t = true → (cfg0.win 3).flush t' = true → t ≠ t' →
    Disjoint ((cfg0.win 3).blk t).view.set ((cfg0.win 3).blk t').view.set := by
  intro t t' hf hf' hne
  refine (cfg0.win 3).disjoint_blk fun h => hne (Fin.ext ?_)
  have e : win0_3.index t (0 : Fin 2) = win0_3.index t' (0 : Fin 2) := congrFun h (0 : Fin 2)
  rw [(idx3 t).1, (idx3 t').1] at e
  have a := (flush3 t).1 hf
  have b := (flush3 t').1 hf'
  omega

/-- The array of normalised rows the kernel leaves. -/
theorem arr3 (c : Dev nD) (r : Fin 4224) (l : Fin 1024) :
    ((dats m 0 c).arrAt 3 cfg0.N : Vec Ideal S4224x1024 .bf16) (ix2 r l) = hnA m c r l := by
  let t : Fin cfg0.N := ⟨r.val / 1056 * 4 + 3, by rw [N16]; omega⟩
  obtain ⟨e0, e1⟩ := idx3 t
  have ht : t.val = r.val / 1056 * 4 + 3 := rfl
  have e : ((cfg0.win 3).blk t).view.emb (ix2 ⟨r.val % 1056, by omega⟩ l : S1056x1024.Idx) = (ix2 r l : S4224x1024.Idx) := by
    funext a; apply Fin.ext; fin_cases a
    · show win0_3.index t (0 : Fin 2) * 1056 + 1 * (r.val % 1056) = r.val; rw [e0]; omega
    · show win0_3.index t (1 : Fin 2) * 1024 + 1 * (l : Fin 1024).val = l.val; rw [e1]; omega
  have h := congrFun ((dats m 0 c).read_blk_arrAt_eq_flushed 3 (disjoint3) cfg0.N t t.isLt ((flush3 t).2 (by omega))) (ix2 ⟨r.val % 1056, by omega⟩ l : S1056x1024.Idx)
  rw [View.read_apply, e, flushed3] at h
  refine Eq.trans h ?_
  refine ((inv m c t.val t.isLt).o3 ⟨r.val % 1056, by omega⟩ l).trans ?_
  have er : row t ⟨r.val % 1056, by omega⟩ = r := Fin.ext (by show t.val / 4 * 1056 + r.val % 1056 = r.val; omega)
  exact congrArg (fun x => hnA m c x l) er

/-- The array of the projection the kernel leaves. -/
theorem arr4 (c : Dev nD) (r : Fin 4224) (l : Fin 2048) :
    ((dats m 0 c).arrAt 4 cfg0.N : Vec Ideal S4224x2048 .f32) (ix2 r l) = prA m c r l := by
  let t : Fin cfg0.N := ⟨r.val / 1056 * 4 + l.val / 512, by rw [N16]; omega⟩
  obtain ⟨e0, e1⟩ := idx4 t
  have ht : t.val = r.val / 1056 * 4 + l.val / 512 := rfl
  have e : ((cfg0.win 4).blk t).view.emb (ix2 ⟨r.val % 1056, by omega⟩ ⟨l.val % 512, by omega⟩ : S1056x512.Idx) = (ix2 r l : S4224x2048.Idx) := by
    funext a; apply Fin.ext; fin_cases a
    · show win0_4.index t (0 : Fin 2) * 1056 + 1 * (r.val % 1056) = r.val; rw [e0]; omega
    · show win0_4.index t (1 : Fin 2) * 512 + 1 * (l.val % 512) = l.val; rw [e1]; omega
  have h := congrFun (blocks4 m c t (flush0_4 t)) (ix2 ⟨r.val % 1056, by omega⟩ ⟨l.val % 512, by omega⟩ : S1056x512.Idx)
  rw [View.read_apply, e, flushed4] at h
  refine Eq.trans h ?_
  refine ((inv m c t.val t.isLt).o4 ⟨r.val % 1056, by omega⟩ ⟨l.val % 512, by omega⟩).trans ?_
  have er : row t ⟨r.val % 1056, by omega⟩ = r := Fin.ext (by show t.val / 4 * 1056 + r.val % 1056 = r.val; omega)
  have el : col t ⟨l.val % 512, by omega⟩ = l := Fin.ext (by show t.val % 4 * 512 + l.val % 512 = l.val; omega)
  exact congrArg₂ (fun x y => prA m c x y) er el

/-- The kernel's arrays and the reference's results are the same functions of the arguments. -/
theorem alg (hK : Cert.LruinIdeal.Facts) (hR : Cert.LruinRefIdeal.Facts) : @Cert.algebraic_LruinIdeal_LruinRefIdeal hK hR := by
  intro m ρ m' ρ' _ hag
  refine ⟨fun c (i : S4224x1024.Idx) => hnA m c (i 0) (i 1), fun c (i : S4224x2048.Idx) => prA m c (i 0) (i 1), ?_, ?_⟩
  · refine (θ_run _ _ _).mono (fun r h c => ?_) (Cert.LruinIdeal.Value.run_blocks m ρ)
    obtain ⟨a, b, f⟩ := h c
    refine ⟨a.trans ?_, b.trans ?_, f⟩
    · funext i
      obtain ⟨r, l, rfl⟩ : ∃ (r : Fin 4224) (l : Fin 1024), i = ix2 r l := ⟨i 0, i 1, by funext a; fin_cases a <;> rfl⟩
      exact arr3 m c r l
    · funext i
      obtain ⟨r, l, rfl⟩ : ∃ (r : Fin 4224) (l : Fin 2048), i = ix2 r l := ⟨i 0, i 1, by funext a; fin_cases a <;> rfl⟩
      exact arr4 m c r l
  · refine (θ_run _ _ _).mono (fun r h c => ?_) (Cert.LruinRefIdeal.Value.run m' ρ')
    obtain ⟨a, b, f⟩ := h c
    obtain ⟨g0, g1, g2⟩ := hag c
    rw [Cert.LruinRefIdeal.Read.val_main_v12_eq, g0, g1] at a
    rw [Cert.LruinRefIdeal.Read.val_main_v13_eq, g0, g1, g2] at b
    refine ⟨a.trans ?_, b.trans ?_, f⟩
    · funext i
      obtain ⟨r, l, rfl⟩ : ∃ (r : Fin 4224) (l : Fin 1024), i = ix2 r l := ⟨i 0, i 1, by funext a; fin_cases a <;> rfl⟩
      exact val12 _ _ r l
    · funext i
      obtain ⟨r, l, rfl⟩ : ∃ (r : Fin 4224) (l : Fin 2048), i = ix2 r l := ⟨i 0, i 1, by funext a; fin_cases a <;> rfl⟩
      exact val13 _ _ _ r l

end Cert.LruinFinal

end
-- ==== Proof.LruoutFinal.lean ====
module

public import proofs.«01_k».proof.Proof.MlpCase
public import proofs.«01_k».proof.Proof.Gen.LruoutIdeal.Value
public import proofs.«01_k».proof.Proof.Gen.LruoutRefIdeal.Run
public import proofs.«01_k».proof.Proof.Gen.LruoutRefIdeal.Read
public import proofs.«01_k».proof.Defs
public import Idealize.ShloMosaic.Lib.Claim
public import Idealize.ShloMosaic.Lib.StableHlo.Run

@[expose] public section

/-!
# The kernel of the recurrent block's gated output projection

Point `t` of the 8 fills rows `t * 528 …` of both results: the recurrence's output times the GELU of the gate, and the residual plus that
product's projection.
-/

set_option maxRecDepth 16384

noncomputable section

namespace Cert.LruoutFinal

open Cert.LruoutIdeal Cert.LruoutIdeal.Gen Cert.LruoutIdeal.Value Idealize.ShloMosaic Idealize.ShloMosaic.TcCoe Idealize.SL.Sem

/-- The GELU by the hyperbolic tangent, with the three constants as the programs write them. -/
def gelu (x : EReal) : EReal :=
  x * (Ideal.ofBits FTy.f32 1056964608#32 *
    (1 + Ideal.tanh (Ideal.ofBits FTy.f32 1061962282#32 * (x + Ideal.ofBits FTy.f32 1027024659#32 * (x * x * x)))))

/-- The gated output at an element. -/
def gated (g : Vec Ideal S4224x2048 .f32) (h : Vec Ideal S4224x1024 .f32) (r : Fin 4224) (l : Fin 1024) : EReal :=
  h (ix2 r l) * gelu (g (ix2 r ⟨l.val, by omega⟩))

/-- The residual plus the gated output's projection. -/
def proj (g : Vec Ideal S4224x2048 .f32) (h : Vec Ideal S4224x1024 .f32) (w : Vec Ideal S1024x1024 .f32) (x : Vec Ideal S4224x1024 .f32)
    (r : Fin 4224) (l : Fin 1024) : EReal :=
  x (ix2 r l) + ∑ k : Fin 1024, gated g h r k * w (ix2 k l)

/-- One point's gated output: the half multiplies the gate first, which the products' associativity undoes. -/
theorem pay1_apply (h g : Vec Ideal S528x1024 .f32) (r : Fin 528) (l : Fin 1024) :
    k0_pay1 h g (ix2 r l) = h (ix2 r l) * gelu (g (ix2 r l)) := by
  unfold gelu
  pointwise [k0_pay1]
  rw [mul_comm (Ideal.ofBits FTy.f32 1056964608#32) (g (ix2 r l)), mul_assoc (g (ix2 r l))]

/-- One point's projection. -/
theorem pay2_apply (h g x : Vec Ideal S528x1024 .f32) (w : Vec Ideal S1024x1024 .bf16) (r : Fin 528) (l : Fin 1024) :
    k0_pay2 h g x w (ix2 r l) = x (ix2 r l) + ∑ k : Fin 1024, (h (ix2 r k) * gelu (g (ix2 r k))) * w (ix2 k l) := by
  unfold k0_pay2
  have e := pay1_apply h g r
  generalize k0_pay1 h g = y at e
  pointwise [e]

section Ref

open Cert.LruoutRefIdeal.Read

variable (g : Vec Ideal S4224x2048 .f32) (h : Vec Ideal S4224x1024 .f32) (w : Vec Ideal S1024x1024 .f32) (x : Vec Ideal S4224x1024 .f32)

/-- The reference's gated output. -/
theorem val14 (r : Fin 4224) (k : Fin 1024) : val_main_v14 (F := Ideal) g h (ix2 r k) = gated g h r k := by
  unfold gated gelu
  pointwise [val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2]

/-- The copy it returns. -/
theorem val15 (r : Fin 4224) (k : Fin 1024) : val_main_v15 (F := Ideal) g h (ix2 r k) = gated g h r k := by
  pointwise [val_main_v15, val14]

/-- Its second result. -/
theorem val17 (r : Fin 4224) (l : Fin 1024) : val_main_v17 (F := Ideal) g h w x (ix2 r l) = proj g h w x r l := by
  unfold proj
  pointwise [val_main_v17, val_main_v16, val14]

end Ref

variable (m : (ℓ : Loc nD τ sig) → Buf (Elt Ideal) ℓ)

/-- The gate and recurrence inputs, side by side. -/
abbrev aG (c : Dev nD) : Vec Ideal S4224x2048 .f32 := m ((c : Thread nD τ).loc main_arg0)
/-- The recurrence's output. -/
abbrev aS (c : Dev nD) : Vec Ideal S4224x1024 .f32 := m ((c : Thread nD τ).loc main_arg1)
/-- The projection's weight. -/
abbrev aW (c : Dev nD) : Vec Ideal S1024x1024 .f32 := m ((c : Thread nD τ).loc main_arg2)
/-- The residual. -/
abbrev aH (c : Dev nD) : Vec Ideal S4224x1024 .f32 := m ((c : Thread nD τ).loc main_arg3)

theorem N8 : cfg0.N = 8 := by decide

/-- A point's row of the whole array. -/
abbrev row (t : Fin cfg0.N) (r : Fin 528) : Fin 4224 := ⟨t.val * 528 + r.val, by have h := lt_of_lt_of_eq t.isLt N8; omega⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

/-- The weight as the region receives it. -/
theorem V0 (c : Dev nD) (r l : Fin 1024) : (V m c main_v0 : Vec Ideal S1024x1024 .bf16) (ix2 r l) = aW m c (ix2 r l) := by
  unfold_abbrev_sides
  after_results
  rfl

/-- A row block of the gate. -/
theorem ib0 (c : Dev nD) (t : Fin cfg0.N) (r : Fin 528) (l : Fin 1024) :
    (iblk m c 0 t : Vec Ideal S528x1024 .f32) (ix2 r l) = aG m c (ix2 (row t r) (⟨l.val, by omega⟩ : Fin 2048)) := by
  have hN := lt_of_lt_of_eq t.isLt N8
  obtain ⟨e0, e1⟩ := idx0 t
  unfold iblk
  rw [View.read_apply]
  have e : ((cfg0.win 0).blk t).view.emb (ix2 r l) = (ix2 (row t r) (⟨l.val, by omega⟩ : Fin 2048) : S4224x2048.Idx) := by
    funext a; apply Fin.ext; fin_cases a
    · show win0_0.index t (0 : Fin 2) * 528 + 1 * (r : Fin 528).val = t.val * 528 + r.val; rw [e0]; omega
    · show win0_0.index t (1 : Fin 2) * 1024 + 1 * (l : Fin 1024).val = l.val; rw [e1]; omega
  show (V m c main_arg0 : Vec Ideal S4224x2048 .f32) (((cfg0.win 0).blk t).view.emb (ix2 r l)) = _
  rw [e, V_main_arg0]

/-- A row block of the recurrence's output. -/
theorem ib1 (c : Dev nD) (t : Fin cfg0.N) (r : Fin 528) (l : Fin 1024) :
    (iblk m c 1 t : Vec Ideal S528x1024 .f32) (ix2 r l) = aS m c (ix2 (row t r) (l)) := by
  have hN := lt_of_lt_of_eq t.isLt N8
  obtain ⟨e0, e1⟩ := idx1 t
  unfold iblk
  rw [View.read_apply]
  have e : ((cfg0.win 1).blk t).view.emb (ix2 r l) = (ix2 (row t r) (l) : S4224x1024.Idx) := by
    funext a; apply Fin.ext; fin_cases a
    · show win0_1.index t (0 : Fin 2) * 528 + 1 * (r : Fin 528).val = t.val * 528 + r.val; rw [e0]; omega
    · show win0_1.index t (1 : Fin 2) * 1024 + 1 * (l : Fin 1024).val = l.val; rw [e1]; omega
  show (V m c main_arg1 : Vec Ideal S4224x1024 .f32) (((cfg0.win 1).blk t).view.emb (ix2 r l)) = _
  rw [e, V_main_arg1]

/-- The weight, whole at every point. -/
theorem ib2 (c : Dev nD) (t : Fin cfg0.N) (r : Fin 1024) (l : Fin 1024) :
    (iblk m c 2 t : Vec Ideal S1024x1024 .bf16) (ix2 r l) = aW m c (ix2 (r) (l)) := by
  have hN := lt_of_lt_of_eq t.isLt N8
  obtain ⟨e0, e1⟩ := idx2 t
  unfold iblk
  rw [View.read_apply]
  have e : ((cfg0.win 2).blk t).view.emb (ix2 r l) = (ix2 (r) (l) : S1024x1024.Idx) := by
    funext a; apply Fin.ext; fin_cases a
    · show win0_2.index t (0 : Fin 2) * 1024 + 1 * (r : Fin 1024).val = r.val; rw [e0]; omega
    · show win0_2.index t (1 : Fin 2) * 1024 + 1 * (l : Fin 1024).val = l.val; rw [e1]; omega
  show (V m c main_v0 : Vec Ideal S1024x1024 .bf16) (((cfg0.win 2).blk t).view.emb (ix2 r l)) = _
  rw [e, V0]

/-- A row block of the residual. -/
theorem ib3 (c : Dev nD) (t : Fin cfg0.N) (r : Fin 528) (l : Fin 1024) :
    (iblk m c 3 t : Vec Ideal S528x1024 .f32) (ix2 r l) = aH m c (ix2 (row t r) (l)) := by
  have hN := lt_of_lt_of_eq t.isLt N8
  obtain ⟨e0, e1⟩ := idx3 t
  unfold iblk
  rw [View.read_apply]
  have e : ((cfg0.win 3).blk t).view.emb (ix2 r l) = (ix2 (row t r) (l) : S4224x1024.Idx) := by
    funext a; apply Fin.ext; fin_cases a
    · show win0_3.index t (0 : Fin 2) * 528 + 1 * (r : Fin 528).val = t.val * 528 + r.val; rw [e0]; omega
    · show win0_3.index t (1 : Fin 2) * 1024 + 1 * (l : Fin 1024).val = l.val; rw [e1]; omega
  show (V m c main_arg3 : Vec Ideal S4224x1024 .f32) (((cfg0.win 3).blk t).view.emb (ix2 r l)) = _
  rw [e, V_main_arg3]

/-- What a point leaves in the first result's block. -/
theorem vout4 (x0 x1 : Vec Ideal S528x1024 .f32) (x2 : Vec Ideal S1024x1024 .bf16) (x3 : Vec Ideal S528x1024 .f32) : out0_4 (F := Ideal) x0 x1 x2 x3 = k0_pay1 x1 x0 := by
  unfold out0_4
  simp only [View.canon_unit_zero (S := S528x1024) MlpCase.hz, View.ld_unit_zero (S := S528x1024) MlpCase.hz, View.ld_unit_zero (S := S1024x1024) MlpCase.hz]

/-- What a point leaves in the second result's block. -/
theorem vout5 (x0 x1 : Vec Ideal S528x1024 .f32) (x2 : Vec Ideal S1024x1024 .bf16) (x3 : Vec Ideal S528x1024 .f32) : out0_5 (F := Ideal) x0 x1 x2 x3 = k0_pay2 x1 x0 x3 x2 := by
  unfold out0_5
  simp only [View.canon_unit_zero (S := S528x1024) MlpCase.hz, View.ld_unit_zero (S := S528x1024) MlpCase.hz, View.ld_unit_zero (S := S1024x1024) MlpCase.hz]

/-- A point's gated output over the arguments. -/
theorem blk4 (c : Dev nD) (t : Fin cfg0.N) (r : Fin 528) (l : Fin 1024) :
    k0_pay1 (iblk m c 1 t : Vec Ideal S528x1024 .f32) (iblk m c 0 t : Vec Ideal S528x1024 .f32) (ix2 r l) = gated (aG m c) (aS m c) (row t r) l := by
  rw [pay1_apply]
  simp only [ib0, ib1]
  rfl

/-- A point's projection over the arguments. -/
theorem blk5 (c : Dev nD) (t : Fin cfg0.N) (r : Fin 528) (l : Fin 1024) :
    k0_pay2 (iblk m c 1 t : Vec Ideal S528x1024 .f32) (iblk m c 0 t : Vec Ideal S528x1024 .f32) (iblk m c 3 t : Vec Ideal S528x1024 .f32)
      (iblk m c 2 t : Vec Ideal S1024x1024 .bf16) (ix2 r l) = proj (aG m c) (aS m c) (aW m c) (aH m c) (row t r) l := by
  rw [pay2_apply]
  simp only [ib0, ib1, ib2, ib3]
  rfl

/-- The array of gated outputs the kernel leaves. -/
theorem arr4 (c : Dev nD) (r : Fin 4224) (l : Fin 1024) :
    ((dats m 0 c).arrAt 4 cfg0.N : Vec Ideal S4224x1024 .bf16) (ix2 r l) = gated (aG m c) (aS m c) r l := by
  let t : Fin cfg0.N := ⟨r.val / 528, by rw [N8]; omega⟩
  obtain ⟨e0, e1⟩ := idx4 t
  have ht : t.val = r.val / 528 := rfl
  have e : ((cfg0.win 4).blk t).view.emb (ix2 ⟨r.val % 528, by omega⟩ l : S528x1024.Idx) = (ix2 r l : S4224x1024.Idx) := by
    funext a; apply Fin.ext; fin_cases a
    · show win0_4.index t (0 : Fin 2) * 528 + 1 * (r.val % 528) = r.val; rw [e0]; omega
    · show win0_4.index t (1 : Fin 2) * 1024 + 1 * (l : Fin 1024).val = l.val; rw [e1]; omega
  have h := congrFun (blocks4 m c t (flush0_4 t)) (ix2 ⟨r.val % 528, by omega⟩ l : S528x1024.Idx)
  rw [View.read_apply, e, flushed4, vout4] at h
  refine Eq.trans h ?_
  have er : row t ⟨r.val % 528, by omega⟩ = r := Fin.ext (by show t.val * 528 + r.val % 528 = r.val; omega)
  refine (blk4 m c t ⟨r.val % 528, by omega⟩ l).trans ?_
  rw [er]

/-- The array of the second result. -/
theorem arr5 (c : Dev nD) (r : Fin 4224) (l : Fin 1024) :
    ((dats m 0 c).arrAt 5 cfg0.N : Vec Ideal S4224x1024 .f32) (ix2 r l) = proj (aG m c) (aS m c) (aW m c) (aH m c) r l := by
  let t : Fin cfg0.N := ⟨r.val / 528, by rw [N8]; omega⟩
  obtain ⟨e0, e1⟩ := idx5 t
  have ht : t.val = r.val / 528 := rfl
  have e : ((cfg0.win 5).blk t).view.emb (ix2 ⟨r.val % 528, by omega⟩ l : S528x1024.Idx) = (ix2 r l : S4224x1024.Idx) := by
    funext a; apply Fin.ext; fin_cases a
    · show win0_5.index t (0 : Fin 2) * 528 + 1 * (r.val % 528) = r.val; rw [e0]; omega
    · show win0_5.index t (1 : Fin 2) * 1024 + 1 * (l : Fin 1024).val = l.val; rw [e1]; omega
  have h := congrFun (blocks5 m c t (flush0_5 t)) (ix2 ⟨r.val % 528, by omega⟩ l : S528x1024.Idx)
  rw [View.read_apply, e, flushed5, vout5] at h
  refine Eq.trans h ?_
  have er : row t ⟨r.val % 528, by omega⟩ = r := Fin.ext (by show t.val * 528 + r.val % 528 = r.val; omega)
  refine (blk5 m c t ⟨r.val % 528, by omega⟩ l).trans ?_
  rw [er]

/-- The kernel's arrays and the reference's results are the same functions of the arguments. -/
theorem alg (hK : Cert.LruoutIdeal.Facts) (hR : Cert.LruoutRefIdeal.Facts) : @Cert.algebraic_LruoutIdeal_LruoutRefIdeal hK hR := by
  intro m ρ m' ρ' _ hag
  refine ⟨fun c (i : S4224x1024.Idx) => gated (aG m c) (aS m c) (i 0) (i 1),
    fun c (i : S4224x1024.Idx) => proj (aG m c) (aS m c) (aW m c) (aH m c) (i 0) (i 1), ?_, ?_⟩
  · refine (θ_run _ _ _).mono (fun r h c => ?_) (Cert.LruoutIdeal.Value.run_blocks m ρ)
    obtain ⟨a, b, f⟩ := h c
    refine ⟨a.trans ?_, b.trans ?_, f⟩
    · funext i
      obtain ⟨r, l, rfl⟩ : ∃ (r : Fin 4224) (l : Fin 1024), i = ix2 r l := ⟨i 0, i 1, by funext a; fin_cases a <;> rfl⟩
      exact arr4 m c r l
    · funext i
      obtain ⟨r, l, rfl⟩ : ∃ (r : Fin 4224) (l : Fin 1024), i = ix2 r l := ⟨i 0, i 1, by funext a; fin_cases a <;> rfl⟩
      exact arr5 m c r l
  · refine (θ_run _ _ _).mono (fun r h c => ?_) (Cert.LruoutRefIdeal.Value.run m' ρ')
    obtain ⟨a, b, f⟩ := h c
    obtain ⟨g0, g1, g2, g3⟩ := hag c
    rw [Cert.LruoutRefIdeal.Read.val_main_v15_eq, g0, g1] at a
    rw [Cert.LruoutRefIdeal.Read.val_main_v17_eq, g0, g1, g2, g3] at b
    refine ⟨a.trans ?_, b.trans ?_, f⟩
    · funext i
      obtain ⟨r, l, rfl⟩ : ∃ (r : Fin 4224) (l : Fin 1024), i = ix2 r l := ⟨i 0, i 1, by funext a; fin_cases a <;> rfl⟩
      exact val15 _ _ r l
    · funext i
      obtain ⟨r, l, rfl⟩ : ∃ (r : Fin 4224) (l : Fin 1024), i = ix2 r l := ⟨i 0, i 1, by funext a; fin_cases a <;> rfl⟩
      exact val17 _ _ _ _ r l

end Cert.LruoutFinal

end
-- ==== Proof.AttFinal.lean ====
module

public import proofs.«01_k».proof.Proof.MlpCase
public import proofs.«01_k».proof.Proof.Gen.AttIdeal.Value
public import proofs.«01_k».proof.Proof.Gen.AttRefIdeal.Read
public import proofs.«01_k».proof.Defs
public import Idealize.ShloMosaic.Lib.Claim
public import Idealize.ShloMosaic.Lib.StableHlo.Run

@[expose] public section

/-!
# The kernel of the attention's output projection

Point `t` of the 4 fills rows `t * 1056 …`.
-/

set_option maxRecDepth 16384

noncomputable section

namespace Cert.AttFinal

open Cert.AttIdeal Cert.AttIdeal.Gen Cert.AttIdeal.Value Idealize.ShloMosaic Idealize.ShloMosaic.TcCoe Idealize.SL.Sem

/-- The residual plus the product with the weight. -/
def proj (a : Vec Ideal S4224x1024 .bf16) (w : Vec Ideal S1024x1024 .f32) (h : Vec Ideal S4224x1024 .f32) (r : Fin 4224) (l : Fin 1024) : EReal :=
  h (ix2 r l) + ∑ k : Fin 1024, a (ix2 r k) * w (ix2 k l)

/-- One point's sum at an element. -/
theorem pay1_apply (h : Vec Ideal S1056x1024 .f32) (a : Vec Ideal S1056x1024 .bf16) (w : Vec Ideal S1024x1024 .bf16) (r : Fin 1056) (l : Fin 1024) :
    k0_pay1 h a w (ix2 r l) = h (ix2 r l) + ∑ k : Fin 1024, a (ix2 r k) * w (ix2 k l) := by
  pointwise [k0_pay1]

/-- The reference's result at an element. -/
theorem refOut (a : Vec Ideal S4224x1024 .bf16) (w : Vec Ideal S1024x1024 .f32) (h : Vec Ideal S4224x1024 .f32) (r : Fin 4224) (l : Fin 1024) :
    Cert.AttRefIdeal.Read.val_main_v2 (F := Ideal) a w h (ix2 r l) = proj a w h r l := by
  unfold proj
  pointwise [Cert.AttRefIdeal.Read.val_main_v2, Cert.AttRefIdeal.Read.val_main_v1, Cert.AttRefIdeal.Read.val_main_v0]

variable (m : (ℓ : Loc nD τ sig) → Buf (Elt Ideal) ℓ)

/-- The kernel's first operand. -/
abbrev aA (c : Dev nD) : Vec Ideal S4224x1024 .bf16 := m ((c : Thread nD τ).loc main_arg0)
/-- The projection's weight. -/
abbrev aW (c : Dev nD) : Vec Ideal S1024x1024 .f32 := m ((c : Thread nD τ).loc main_arg1)
/-- The residual. -/
abbrev aH (c : Dev nD) : Vec Ideal S4224x1024 .f32 := m ((c : Thread nD τ).loc main_arg2)
theorem hN : cfg0.N = 4 := by decide

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idxO : ∀ t : Fin cfg0.N, win0_3.index t (0 : Fin 2) = t.val ∧ win0_3.index t (1 : Fin 2) = 0 :=
  (by decide +kernel : ∀ t : Fin grid0.N, _)

/-- The weight as the region receives it. -/
theorem V0 (c : Dev nD) (r l : Fin 1024) : (V m c main_v0 : Vec Ideal S1024x1024 .bf16) (ix2 r l) = aW m c (ix2 r l) := by
  unfold_abbrev_sides
  after_results
  rfl

/-- A row block of the first operand. -/
theorem ib0 (c : Dev nD) (t : Fin cfg0.N) (r : Fin 1056) (l : Fin 1024) :
    (iblk m c 0 t : Vec Ideal S1056x1024 .bf16) (ix2 r l)
      = aA m c (ix2 ⟨t.val * 1056 + r, by have := lt_of_lt_of_eq t.isLt hN; omega⟩ l) := by
  have hN := lt_of_lt_of_eq t.isLt hN
  obtain ⟨e0, e1⟩ := idx0 t
  unfold iblk
  rw [View.read_apply]
  have e : ((cfg0.win 0).blk t).view.emb (ix2 r l) = (ix2 ⟨t.val * 1056 + r, by omega⟩ l : S4224x1024.Idx) := by
    funext a; apply Fin.ext; fin_cases a
    · show win0_0.index t (0 : Fin 2) * 1056 + 1 * (r : Fin 1056).val = t.val * 1056 + r.val; rw [e0]; omega
    · show win0_0.index t (1 : Fin 2) * 1024 + 1 * (l : Fin 1024).val = l.val; rw [e1]; omega
  show (V m c main_arg0 : Vec Ideal S4224x1024 .bf16) (((cfg0.win 0).blk t).view.emb (ix2 r l)) = _
  rw [e, V_main_arg0]

/-- The weight, whole at every point. -/
theorem ib1 (c : Dev nD) (t : Fin cfg0.N) (r l : Fin 1024) :
    (iblk m c 1 t : Vec Ideal S1024x1024 .bf16) (ix2 r l) = aW m c (ix2 r l) := by
  obtain ⟨e0, e1⟩ := idx1 t
  unfold iblk
  rw [View.read_apply]
  have e : ((cfg0.win 1).blk t).view.emb (ix2 r l) = (ix2 r l : S1024x1024.Idx) := by
    funext a; apply Fin.ext; fin_cases a
    · show win0_1.index t (0 : Fin 2) * 1024 + 1 * (r : Fin 1024).val = r.val; rw [e0]; omega
    · show win0_1.index t (1 : Fin 2) * 1024 + 1 * (l : Fin 1024).val = l.val; rw [e1]; omega
  show (V m c main_v0 : Vec Ideal S1024x1024 .bf16) (((cfg0.win 1).blk t).view.emb (ix2 r l)) = _
  rw [e, V0]

/-- A row block of the residual. -/
theorem ib2 (c : Dev nD) (t : Fin cfg0.N) (r : Fin 1056) (l : Fin 1024) :
    (iblk m c 2 t : Vec Ideal S1056x1024 .f32) (ix2 r l)
      = aH m c (ix2 ⟨t.val * 1056 + r, by have := lt_of_lt_of_eq t.isLt hN; omega⟩ l) := by
  have hN := lt_of_lt_of_eq t.isLt hN
  obtain ⟨e0, e1⟩ := idx2 t
  unfold iblk
  rw [View.read_apply]
  have e : ((cfg0.win 2).blk t).view.emb (ix2 r l) = (ix2 ⟨t.val * 1056 + r, by omega⟩ l : S4224x1024.Idx) := by
    funext a; apply Fin.ext; fin_cases a
    · show win0_2.index t (0 : Fin 2) * 1056 + 1 * (r : Fin 1056).val = t.val * 1056 + r.val; rw [e0]; omega
    · show win0_2.index t (1 : Fin 2) * 1024 + 1 * (l : Fin 1024).val = l.val; rw [e1]; omega
  show (V m c main_arg2 : Vec Ideal S4224x1024 .f32) (((cfg0.win 2).blk t).view.emb (ix2 r l)) = _
  rw [e, V_main_arg2]

/-- What a point leaves in the output's block. -/
theorem vout (x0 : Vec Ideal S1056x1024 .bf16) (x1 : Vec Ideal S1024x1024 .bf16) (x2 : Vec Ideal S1056x1024 .f32) : out0_3 (F := Ideal) x0 x1 x2 = k0_pay1 x2 x0 x1 := by
  unfold out0_3
  simp only [View.canon_unit_zero (S := S1056x1024) MlpCase.hz, View.ld_unit_zero (S := S1056x1024) MlpCase.hz, View.ld_unit_zero (S := S1024x1024) MlpCase.hz]

/-- The array the kernel leaves. -/
theorem arr (c : Dev nD) (r : Fin 4224) (l : Fin 1024) :
    ((dats m 0 c).arrAt 3 cfg0.N : Vec Ideal S4224x1024 .f32) (ix2 r l) = proj (aA m c) (aW m c) (aH m c) r l := by
  let t : Fin cfg0.N := ⟨r.val / 1056, by rw [hN]; omega⟩
  obtain ⟨e0, e1⟩ := idxO t
  have ht : t.val = r.val / 1056 := rfl
  have e : ((cfg0.win 3).blk t).view.emb (ix2 ⟨r.val % 1056, by omega⟩ l : S1056x1024.Idx) = (ix2 r l : S4224x1024.Idx) := by
    funext a; apply Fin.ext; fin_cases a
    · show win0_3.index t (0 : Fin 2) * 1056 + 1 * (r.val % 1056) = r.val; rw [e0]; omega
    · show win0_3.index t (1 : Fin 2) * 1024 + 1 * (l : Fin 1024).val = l.val; rw [e1]; omega
  have h := congrFun (blocks3 m c t (flush0_3 t)) (ix2 ⟨r.val % 1056, by omega⟩ l : S1056x1024.Idx)
  rw [View.read_apply, e, flushed3, vout] at h
  refine Eq.trans h ?_
  have er : (⟨t.val * 1056 + r.val % 1056, by omega⟩ : Fin 4224) = r := Fin.ext (by show t.val * 1056 + r.val % 1056 = r.val; omega)
  show k0_pay1 _ _ _ (ix2 (⟨r.val % 1056, by omega⟩ : Fin 1056) l) = _
  rw [pay1_apply]
  unfold proj
  refine congrArg₂ (· + ·) ?_ (Finset.sum_congr rfl fun k _ => ?_)
  · rw [ib2]
    exact congrArg (fun a => aH m c (ix2 a l)) er
  · rw [ib0, ib1]
    exact congrArg (fun a => aA m c (ix2 a k) * aW m c (ix2 k l)) er

/-- The kernel's array and the reference's result are the same function of the arguments. -/
theorem alg (hK : Cert.AttIdeal.Facts) (hR : Cert.AttRefIdeal.Facts) : @Cert.algebraic_AttIdeal_AttRefIdeal hK hR := by
  intro m ρ m' ρ' _ hag
  refine ⟨fun c (i : S4224x1024.Idx) => proj (aA m c) (aW m c) (aH m c) (i 0) (i 1), ?_, ?_⟩
  · refine (θ_run _ _ _).mono (fun r h c => ?_) (Cert.AttIdeal.Value.run_blocks m ρ)
    obtain ⟨a, f⟩ := h c
    refine ⟨a.trans ?_, f⟩
    funext i
    obtain ⟨r, l, rfl⟩ : ∃ (r : Fin 4224) (l : Fin 1024), i = ix2 r l := ⟨i 0, i 1, by funext a; fin_cases a <;> rfl⟩
    exact arr m c r l
  · refine (θ_run _ _ _).mono (fun r h c => ?_) (Cert.AttRefIdeal.Value.run m' ρ')
    obtain ⟨a, f⟩ := h c
    obtain ⟨g0, g1, g2⟩ := hag c
    rw [Cert.AttRefIdeal.Read.val_main_v2_eq, g0, g1, g2] at a
    refine ⟨a.trans ?_, f⟩
    funext i
    obtain ⟨r, l, rfl⟩ : ∃ (r : Fin 4224) (l : Fin 1024), i = ix2 r l := ⟨i 0, i 1, by funext a; fin_cases a <;> rfl⟩
    exact refOut _ _ _ r l

end Cert.AttFinal

end
-- ==== Proof.AdamsFinal.lean ====
module

public import proofs.«01_k».proof.Proof.Arith
public import proofs.«01_k».proof.Proof.Gen.AdamsIdeal.Value
public import proofs.«01_k».proof.Proof.Gen.AdamsRefIdeal.Run
public import proofs.«01_k».proof.Defs
public import Idealize.ShloMosaic.Lib.Claim

@[expose] public section

/-!
# The optimiser on the small weights

The two programs are the same function of each element; the kernel multiplies by the reciprocals of what the reference divides by.
-/

set_option maxRecDepth 16384

noncomputable section

namespace Cert.AdamsFinal

open Cert.AdamsIdeal Cert.AdamsIdeal.Gen Cert.AdamsIdeal.Value Idealize.ShloMosaic Idealize.ShloMosaic.TcCoe Idealize.SL.Sem

/-- The first moment's correction. -/
abbrev kC1 : EReal := ((8388608 / 5463681 : ℝ) : EReal)
/-- The second moment's correction. -/
abbrev kC2 : EReal := ((268435456 / 2672307 : ℝ) : EReal)

/-- At each named literal the program over the reals takes the exact value. -/
theorem names : Cert.preserves_Adams_AdamsIdeal :=
  ⟨IdealRules.named_const.statement κ "corr1" .f32 0x3FC48605#32 kC1 rfl, IdealRules.named_const.statement κ "corr2" .f32 0x42C8E6D3#32 kC2 rfl⟩

/-- The first correction as the kernel reads it. -/
theorem named1 : Named.named (F := Ideal) (φ := .f32) κ "corr1" 0x3FC48605#32 = kC1 := IdealRules.named_const.ideal_named_scalar _ _ _ _ rfl
/-- The second correction as the kernel reads it. -/
theorem named2 : Named.named (F := Ideal) (φ := .f32) κ "corr2" 0x42C8E6D3#32 = kC2 := IdealRules.named_const.ideal_named_scalar _ _ _ _ rfl

/-- The reference's first divisor. -/
theorem lit1 : Ideal.ofBits .f32 0x3F26BD02#32 = ((5463681 / 8388608 : ℝ) : EReal) := by
  simp [Ideal.ofBits, Ideal.ieee, -EReal.coe_mul]; norm_num
/-- The reference's second divisor. -/
theorem lit2 : Ideal.ofBits .f32 0x3C231ACC#32 = ((2672307 / 268435456 : ℝ) : EReal) := by
  simp [Ideal.ofBits, Ideal.ieee, -EReal.coe_mul]; norm_num

/-- Dividing by the first divisor is multiplying by the first correction. -/
theorem div1 (x : EReal) : Ideal.div x (Ideal.ofBits .f32 0x3F26BD02#32) = x * kC1 := by
  rw [lit1, Arith.div_coe _ (by norm_num)]; norm_num
/-- Dividing by the second divisor is multiplying by the second correction. -/
theorem div2 (x : EReal) : Ideal.div x (Ideal.ofBits .f32 0x3C231ACC#32) = x * kC2 := by
  rw [lit2, Arith.div_coe _ (by norm_num)]; norm_num

/-- The kernel's arrays and the reference's results are the same functions of the arguments. -/
theorem alg (hK : Cert.AdamsIdeal.Facts) (hR : Cert.AdamsRefIdeal.Facts) : @Cert.algebraic_AdamsIdeal_AdamsRefIdeal hK hR := by
  intro m ρ m' ρ' _ hag
  refine ⟨_, _, _, Cert.AdamsIdeal.Value.run m ρ, ?_⟩
  refine (θ_run _ _ _).mono (fun r h c => ?_) (Cert.AdamsRefIdeal.Value.run m' ρ')
  obtain ⟨a, b, d, f⟩ := h c
  obtain ⟨g0, g1, g2, g3⟩ := hag c
  rw [g0, g1, g2, g3] at a
  rw [g1, g2] at b
  rw [g1, g3] at d
  refine ⟨a.trans ?_, b.trans ?_, d.trans ?_, f⟩
  · funext i
    dsimp only [G4]
    rw [named1, named2]
    refine congrArg (fun x : EReal => Ideal.ofBits .f32 0xBA83126F#32 * (x + Ideal.ofBits .f32 0x3C23D70A#32 * _)) ?_
    refine congrArg₂ (fun x y : EReal => Ideal.div x y) (div1 _) ?_
    exact congrArg (fun x : EReal => Ideal.sqrt x + Ideal.ofBits .f32 0x322BCC77#32) (div2 _)
  · rfl
  · rfl

end Cert.AdamsFinal

end
-- ==== Proof.AdamupFinal.lean ====
module

public import proofs.«01_k».proof.Proof.AdamsFinal
public import proofs.«01_k».proof.Proof.Gen.AdamupIdeal.Frame
public import proofs.«01_k».proof.Proof.Gen.AdamupRefIdeal.Read
public import proofs.«01_k».proof.Defs
public import Idealize.ShloMosaic.Lib.Claim
public import Idealize.ShloMosaic.Lib.Pipeline.Value
public import Idealize.ShloMosaic.Lib.Pointwise

@[expose] public section

/-!
# The optimiser on a projection of the MLP

The gradient of row half `p` is the device's own half where `p` is the device's number and the other device's half
elsewhere; the step is then the same function of each element in both programs.
-/

set_option maxRecDepth 16384

noncomputable section

namespace Cert.AdamupFinal

open Cert.AdamupIdeal Cert.AdamupIdeal.Gen Cert.AdamsFinal Idealize.ShloMosaic Idealize.ShloMosaic.TcCoe Idealize.SL.Sem
open Idealize.ShloMosaic.Pipeline (Dat)

/-- At each named literal the program over the reals takes the exact value. -/
theorem names : Cert.preserves_Adamup_AdamupIdeal :=
  ⟨IdealRules.named_const.statement κ "corr1" .f32 0x3FC48605#32 kC1 rfl, IdealRules.named_const.statement κ "corr2" .f32 0x42C8E6D3#32 kC2 rfl⟩

/-- The first correction as the kernel reads it. -/
theorem nam1 : Named.named (F := Ideal) (φ := .f32) κ "corr1" 0x3FC48605#32 = kC1 := IdealRules.named_const.ideal_named_scalar _ _ _ _ rfl
/-- The second correction as the kernel reads it. -/
theorem nam2 : Named.named (F := Ideal) (φ := .f32) κ "corr2" 0x42C8E6D3#32 = kC2 := IdealRules.named_const.ideal_named_scalar _ _ _ _ rfl

/-- One half or the other, by the device's number. -/
abbrev gsel (b w : BitVec 32) (x y : EReal) : EReal := Scalar.select (Scalar.cmpi .eq b w) x y
/-- The new first moment. -/
abbrev mom (x g : EReal) : EReal := Ideal.ofBits .f32 0x3F666666#32 * x + Ideal.ofBits .f32 0x3DCCCCCD#32 * g
/-- The new second moment. -/
abbrev sec (x g : EReal) : EReal := Ideal.ofBits .f32 0x3F7FBE77#32 * x + Ideal.ofBits .f32 0x3A83126F#32 * (g * g)
/-- The step, of the weight and the two new moments. -/
abbrev dlt (w a b : EReal) : EReal := Ideal.ofBits .f32 0xBA83126F#32 * (Ideal.div (a * kC1) (Ideal.sqrt (b * kC2) + Ideal.ofBits .f32 0x322BCC77#32) + Ideal.ofBits .f32 0x3C23D70A#32 * w)

/-- The step of equal things. -/
theorem dlt_congr {w w' a a' b b' : EReal} (h : w = w') (ha : a = a') (hb : b = b') : dlt w a b = dlt w' a' b' := by rw [h, ha, hb]

/-- The device's number out of its one-word array. -/
def wrd (f : S1.Idx → BitVec 32) : BitVec 32 := f (fun a => ⟨0, by fin_cases a; exact Nat.one_pos⟩)

/-- The one-word array has one index. -/
theorem one_idx (f : S1.Idx → BitVec 32) (k : S1.Idx) : f k = wrd f := by
  unfold wrd
  refine congrArg f (funext fun a => Fin.ext ?_)
  fin_cases a
  have h : (k 0).val < 1 := (k 0).isLt
  show (k 0).val = 0
  omega

theorem hz : (![0, 0] : Fin 2 → Nat) = fun _ => 0 := funext fun a => by fin_cases a <;> rfl
theorem hz3 : (![0, 0, 0] : Fin 3 → Nat) = fun _ => 0 := funext fun a => by fin_cases a <;> rfl

/-! ## One block -/

/-- A block's index without its leading axis. -/
abbrev lo (y : S1x256x1024.Idx) : S256x1024.Idx := fun a => match a with
  | ⟨0, _⟩ => ⟨(y 1).val, (y 1).isLt⟩
  | ⟨1, _⟩ => ⟨(y 2).val, (y 2).isLt⟩

/-- Adding the leading axis. -/
theorem cast_up (v : FVec Ideal S256x1024 .f32) (y : S1x256x1024.Idx) : shapeCast S1x256x1024 v shapeCasts_S256x1024_S1x256x1024 y = v (lo y) := by
  refine (shapeCast_addUnit_apply ![256, 1024] v shapeCasts_S256x1024_S1x256x1024 y).trans (congrArg v ?_)
  funext a; fin_cases a <;> rfl

/-- Dropping it again. -/
theorem cast_lo (v : FVec Ideal S1x256x1024 .f32) (y : S1x256x1024.Idx) : shapeCast S256x1024 v shapeCasts_S1x256x1024_S256x1024 (lo y) = v y := by
  refine (shapeCast_dropUnit_apply ![256, 1024] v shapeCasts_S1x256x1024_S256x1024 (lo y)).trans (congrArg v ?_)
  have h : (y 0).val < 1 := (y 0).isLt
  funext a; apply Fin.ext; fin_cases a
  · show 0 = (y 0).val; omega
  · rfl
  · rfl

section Block
variable (i : grid0.Coords) (w : BitVec 32) (x0 : Vec Ideal S1x256x1024 .f32) (x1 : Vec Ideal S256x1024 .f32) (x2 : Vec Ideal S256x1024 .f32) (x3 : Vec Ideal S1x256x1024 .f32) (x4 : Vec Ideal S1x256x1024 .f32)

/-- The gradient's element of a block. -/
abbrev gB (y : S1x256x1024.Idx) : EReal := gsel (BitVec.ofNat 32 (i 0).val) w (x1 (lo y)) (x2 (lo y))

/-- The chosen half at an index. -/
theorem pay4_apply (y : S1x256x1024.Idx) : k0_pay4 (F := Ideal) i w x1 x2 (lo y) = gB i w x1 x2 y := by
  show (Scalar.select (Scalar.cmpi .eq (BitVec.ofNat 32 (i 0).val) w) x1 x2) (lo y) = Scalar.select (Scalar.cmpi .eq (BitVec.ofNat 32 (i 0).val) w) (x1 (lo y)) (x2 (lo y))
  unfold Scalar.select
  split <;> rfl

/-- The stored gradient. -/
theorem pay5_apply (y : S1x256x1024.Idx) : k0_pay5 (F := Ideal) i w x1 x2 y = gB i w x1 x2 y :=
  (cast_up _ y).trans (pay4_apply i w x1 x2 y)

/-- The new first moment at an index. -/
theorem pay7_apply (y : S1x256x1024.Idx) : k0_pay7 (F := Ideal) i w x1 x2 x3 (lo y) = mom (x3 y) (gB i w x1 x2 y) := by
  show Ideal.ofBits .f32 0x3F666666#32 * shapeCast S256x1024 x3 shapeCasts_S1x256x1024_S256x1024 (lo y) + Ideal.ofBits .f32 0x3DCCCCCD#32 * k0_pay4 (F := Ideal) i w x1 x2 (lo y) = _
  rw [cast_lo, pay4_apply]

/-- The new second moment at an index. -/
theorem pay8_apply (y : S1x256x1024.Idx) : k0_pay8 (F := Ideal) i w x1 x2 x4 (lo y) = sec (x4 y) (gB i w x1 x2 y) := by
  show Ideal.ofBits .f32 0x3F7FBE77#32 * shapeCast S256x1024 x4 shapeCasts_S1x256x1024_S256x1024 (lo y) + Ideal.ofBits .f32 0x3A83126F#32 * (k0_pay4 (F := Ideal) i w x1 x2 (lo y) * k0_pay4 (F := Ideal) i w x1 x2 (lo y)) = _
  rw [cast_lo, pay4_apply]

/-- The stored step at an index. -/
theorem pay1_apply (y : S1x256x1024.Idx) :
    k0_pay1 (F := Ideal) (k0_pay6 x0) (k0_pay9 i w x1 x2 x3 x4) y = dlt (x0 y) (mom (x3 y) (gB i w x1 x2 y)) (sec (x4 y) (gB i w x1 x2 y)) := by
  refine (cast_up (mulf (broadcast S256x1024 (Scalar.ofBits .f32 0xBA83126F#32)) (addf (k0_pay9 (F := Ideal) i w x1 x2 x3 x4) (mulf (broadcast S256x1024 (Scalar.ofBits .f32 0x3C23D70A#32)) (k0_pay6 (F := Ideal) x0)))) y).trans ?_
  show Ideal.ofBits .f32 0xBA83126F#32 * (Ideal.div (k0_pay7 (F := Ideal) i w x1 x2 x3 (lo y) * Named.named (F := Ideal) (φ := .f32) κ "corr1" 0x3FC48605#32)
      (Ideal.sqrt (k0_pay8 (F := Ideal) i w x1 x2 x4 (lo y) * Named.named (F := Ideal) (φ := .f32) κ "corr2" 0x42C8E6D3#32) + Ideal.ofBits .f32 0x322BCC77#32)
      + Ideal.ofBits .f32 0x3C23D70A#32 * shapeCast S256x1024 x0 shapeCasts_S1x256x1024_S256x1024 (lo y)) = _
  rw [nam1, nam2, pay7_apply, pay8_apply, cast_lo]

end Block

section Case
variable (c : Dev nD) (i : grid0.Coords) (arg3 : Memref sig .tc .vmem S1x256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x256x1024 .f32) (harg11 : arg11.IsWhole)
    (x0 : Vec Ideal S1x256x1024 .f32) (x1 : Vec Ideal S256x1024 .f32) (x2 : Vec Ideal S256x1024 .f32) (x3 : Vec Ideal S1x256x1024 .f32) (x4 : Vec Ideal S1x256x1024 .f32) (xt0 : TbBuf0 (F := Ideal) c tbM0_0)

/-- What a point leaves of the gradient. -/
theorem out5 : out0_A_5 (F := Ideal) c i arg3 harg3 arg4 harg4 arg5 harg5 arg6 harg6 arg7 harg7 arg8 harg8 arg9 harg9 arg10 harg10 arg11 harg11 x0 x1 x2 x3 x4 xt0 = k0_pay5 i (wrd xt0) x1 x2 := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x1024) hz3, View.readAt_eq_ld, harg3.read_unread, harg4.read_unread, harg5.read_unread, harg6.read_unread, harg7.read_unread, View.ld_unit_zero (S := S1x256x1024) hz3, View.ld_unit_zero (S := S256x1024) hz]
  exact congrArg (fun w => k0_pay5 i w x1 x2) (one_idx xt0 _)

/-- What a point leaves of the step. -/
theorem out6 : out0_A_6 (F := Ideal) c i arg3 harg3 arg4 harg4 arg5 harg5 arg6 harg6 arg7 harg7 arg8 harg8 arg9 harg9 arg10 harg10 arg11 harg11 x0 x1 x2 x3 x4 xt0 = k0_pay1 (k0_pay6 x0) (k0_pay9 i (wrd xt0) x1 x2 x3 x4) := by
  unfold out0_A_6
  rw [View.read_writes_eq_canon _ _ _ (cover0_A_6 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x1024) hz3, View.readAt_eq_ld, harg3.read_unread, harg4.read_unread, harg5.read_unread, harg6.read_unread, harg7.read_unread, View.ld_unit_zero (S := S1x256x1024) hz3, View.ld_unit_zero (S := S256x1024) hz]
  exact congrArg (fun w => k0_pay1 (k0_pay6 x0) (k0_pay9 i w x1 x2 x3 x4)) (one_idx xt0 _)

/-- What a point leaves of the new first moment. -/
theorem out7 : out0_A_7 (F := Ideal) c i arg3 harg3 arg4 harg4 arg5 harg5 arg6 harg6 arg7 harg7 arg8 harg8 arg9 harg9 arg10 harg10 arg11 harg11 x0 x1 x2 x3 x4 xt0 = k0_pay2 (k0_pay7 i (wrd xt0) x1 x2 x3) := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x1024) hz3, View.readAt_eq_ld, harg3.read_unread, harg4.read_unread, harg5.read_unread, harg6.read_unread, harg7.read_unread, View.ld_unit_zero (S := S1x256x1024) hz3, View.ld_unit_zero (S := S256x1024) hz]
  exact congrArg (fun w => k0_pay2 (k0_pay7 i w x1 x2 x3)) (one_idx xt0 _)

/-- What a point leaves of the new second moment. -/
theorem out8 : out0_A_8 (F := Ideal) c i arg3 harg3 arg4 harg4 arg5 harg5 arg6 harg6 arg7 harg7 arg8 harg8 arg9 harg9 arg10 harg10 arg11 harg11 x0 x1 x2 x3 x4 xt0 = k0_pay3 (k0_pay8 i (wrd xt0) x1 x2 x4) := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x1024) hz3, View.readAt_eq_ld, harg3.read_unread, harg4.read_unread, harg5.read_unread, harg6.read_unread, harg7.read_unread, View.ld_unit_zero (S := S1x256x1024) hz3, View.ld_unit_zero (S := S256x1024) hz]
  exact congrArg (fun w => k0_pay3 (k0_pay8 i w x1 x2 x4)) (one_idx xt0 _)

end Case

/-! ## The whole arrays -/

variable (m : (ℓ : Loc nD τ sig) → Buf (Elt Ideal) ℓ)

/-- Nothing is asked of the prefetched word. -/
theorem ok : Ok (F := Ideal) m := trivial

/-- The pipeline. -/
abbrev cfgT : Pipeline.Cfg sig Λ₀ := cfgM (F := Ideal) m (ok m)
/-- Its proof data. -/
abbrev dat (c : Dev nD) := dats (F := Ideal) m (ok m) 0 c

/-- The element of the whole array at place `y` of point `t`'s block. -/
def pt (t : Fin grid0.N) (y : S1x256x1024.Idx) : S2x1024x1024.Idx := fun a => match a with
  | ⟨0, _⟩ => ⟨(grid0.coords t 0).val, (grid0.coords t 0).isLt⟩
  | ⟨1, _⟩ => ⟨(grid0.coords t 1).val * 256 + (y 1).val, by have h : (grid0.coords t 1).val < 4 := (grid0.coords t 1).isLt; have h' : (y 1).val < 256 := (y 1).isLt; show _ < 1024; omega⟩
  | ⟨2, _⟩ => ⟨(y 2).val, (y 2).isLt⟩

/-- The element of a half that element of the whole array is chosen from. -/
abbrev lo3 (k : S2x1024x1024.Idx) : S1024x1024.Idx := fun a => match a with
  | ⟨0, _⟩ => ⟨(k 1).val, (k 1).isLt⟩
  | ⟨1, _⟩ => ⟨(k 2).val, (k 2).isLt⟩

/-- Window 0 moves with both coordinates. -/
theorem ix0 : ∀ t : Fin grid0.N, cc0_transform_0 (grid0.coords t) 0 = (grid0.coords t 0).val ∧ cc0_transform_0 (grid0.coords t) 1 = (grid0.coords t 1).val ∧ cc0_transform_0 (grid0.coords t) 2 = 0 := by decide +kernel

/-- Window 3 moves with both coordinates. -/
theorem ix3 : ∀ t : Fin grid0.N, cc0_transform_3 (grid0.coords t) 0 = (grid0.coords t 0).val ∧ cc0_transform_3 (grid0.coords t) 1 = (grid0.coords t 1).val ∧ cc0_transform_3 (grid0.coords t) 2 = 0 := by decide +kernel

/-- Window 4 moves with both coordinates. -/
theorem ix4 : ∀ t : Fin grid0.N, cc0_transform_4 (grid0.coords t) 0 = (grid0.coords t 0).val ∧ cc0_transform_4 (grid0.coords t) 1 = (grid0.coords t 1).val ∧ cc0_transform_4 (grid0.coords t) 2 = 0 := by decide +kernel

/-- Window 5 moves with both coordinates. -/
theorem ix5 : ∀ t : Fin grid0.N, cc0_transform_5 (grid0.coords t) 0 = (grid0.coords t 0).val ∧ cc0_transform_5 (grid0.coords t) 1 = (grid0.coords t 1).val ∧ cc0_transform_5 (grid0.coords t) 2 = 0 := by decide +kernel

/-- Window 6 moves with both coordinates. -/
theorem ix6 : ∀ t : Fin grid0.N, cc0_transform_6 (grid0.coords t) 0 = (grid0.coords t 0).val ∧ cc0_transform_6 (grid0.coords t) 1 = (grid0.coords t 1).val ∧ cc0_transform_6 (grid0.coords t) 2 = 0 := by decide +kernel

/-- Window 7 moves with both coordinates. -/
theorem ix7 : ∀ t : Fin grid0.N, cc0_transform_7 (grid0.coords t) 0 = (grid0.coords t 0).val ∧ cc0_transform_7 (grid0.coords t) 1 = (grid0.coords t 1).val ∧ cc0_transform_7 (grid0.coords t) 2 = 0 := by decide +kernel

/-- Window 8 moves with both coordinates. -/
theorem ix8 : ∀ t : Fin grid0.N, cc0_transform_8 (grid0.coords t) 0 = (grid0.coords t 0).val ∧ cc0_transform_8 (grid0.coords t) 1 = (grid0.coords t 1).val ∧ cc0_transform_8 (grid0.coords t) 2 = 0 := by decide +kernel

/-- Window 1 moves with the second coordinate. -/
theorem ix1 : ∀ t : Fin grid0.N, cc0_transform_1 (grid0.coords t) 0 = (grid0.coords t 1).val ∧ cc0_transform_1 (grid0.coords t) 1 = 0 := by decide +kernel

/-- Window 2 moves with the second coordinate. -/
theorem ix2 : ∀ t : Fin grid0.N, cc0_transform_2 (grid0.coords t) 0 = (grid0.coords t 1).val ∧ cc0_transform_2 (grid0.coords t) 1 = 0 := by decide +kernel

/-- Every pair of coordinates is some point's. -/
theorem onto : ∀ (p : Fin 2) (q : Fin 4), ∃ t : Fin grid0.N, (grid0.coords t 0).val = p.val ∧ (grid0.coords t 1).val = q.val := by decide +kernel

/-- The gradient at an element of the whole array. -/
abbrev gA (a1 a2 : S1024x1024.Idx → EReal) (w : BitVec 32) (k : S2x1024x1024.Idx) : EReal := gsel (BitVec.ofNat 32 (k 0).val) w (a1 (lo3 k)) (a2 (lo3 k))

/-- Where window 0's block lies. -/
theorem emb0 (t : Fin (cfgT m).N) (y : S1x256x1024.Idx) : (((cfgT m).win 0).blk t).view.emb y = (pt t y : S2x1024x1024.Idx) := by
  obtain ⟨e0, e1, e2⟩ := ix0 t
  have h : (y 0).val < 1 := (y 0).isLt
  funext a; apply Fin.ext; fin_cases a
  · show cc0_transform_0 (grid0.coords t) 0 * 1 + 1 * (y 0).val = (grid0.coords t 0).val; omega
  · show cc0_transform_0 (grid0.coords t) 1 * 256 + 1 * (y 1).val = (grid0.coords t 1).val * 256 + (y 1).val; omega
  · show cc0_transform_0 (grid0.coords t) 2 * 1024 + 1 * (y 2).val = (y 2).val; omega

/-- Where window 3's block lies. -/
theorem emb3 (t : Fin (cfgT m).N) (y : S1x256x1024.Idx) : (((cfgT m).win 3).blk t).view.emb y = (pt t y : S2x1024x1024.Idx) := by
  obtain ⟨e0, e1, e2⟩ := ix3 t
  have h : (y 0).val < 1 := (y 0).isLt
  funext a; apply Fin.ext; fin_cases a
  · show cc0_transform_3 (grid0.coords t) 0 * 1 + 1 * (y 0).val = (grid0.coords t 0).val; omega
  · show cc0_transform_3 (grid0.coords t) 1 * 256 + 1 * (y 1).val = (grid0.coords t 1).val * 256 + (y 1).val; omega
  · show cc0_transform_3 (grid0.coords t) 2 * 1024 + 1 * (y 2).val = (y 2).val; omega

/-- Where window 4's block lies. -/
theorem emb4 (t : Fin (cfgT m).N) (y : S1x256x1024.Idx) : (((cfgT m).win 4).blk t).view.emb y = (pt t y : S2x1024x1024.Idx) := by
  obtain ⟨e0, e1, e2⟩ := ix4 t
  have h : (y 0).val < 1 := (y 0).isLt
  funext a; apply Fin.ext; fin_cases a
  · show cc0_transform_4 (grid0.coords t) 0 * 1 + 1 * (y 0).val = (grid0.coords t 0).val; omega
  · show cc0_transform_4 (grid0.coords t) 1 * 256 + 1 * (y 1).val = (grid0.coords t 1).val * 256 + (y 1).val; omega
  · show cc0_transform_4 (grid0.coords t) 2 * 1024 + 1 * (y 2).val = (y 2).val; omega

/-- Where window 5's block lies. -/
theorem emb5 (t : Fin (cfgT m).N) (y : S1x256x1024.Idx) : (((cfgT m).win 5).blk t).view.emb y = (pt t y : S2x1024x1024.Idx) := by
  obtain ⟨e0, e1, e2⟩ := ix5 t
  have h : (y 0).val < 1 := (y 0).isLt
  funext a; apply Fin.ext; fin_cases a
  · show cc0_transform_5 (grid0.coords t) 0 * 1 + 1 * (y 0).val = (grid0.coords t 0).val; omega
  · show cc0_transform_5 (grid0.coords t) 1 * 256 + 1 * (y 1).val = (grid0.coords t 1).val * 256 + (y 1).val; omega
  · show cc0_transform_5 (grid0.coords t) 2 * 1024 + 1 * (y 2).val = (y 2).val; omega

/-- Where window 6's block lies. -/
theorem emb6 (t : Fin (cfgT m).N) (y : S1x256x1024.Idx) : (((cfgT m).win 6).blk t).view.emb y = (pt t y : S2x1024x1024.Idx) := by
  obtain ⟨e0, e1, e2⟩ := ix6 t
  have h : (y 0).val < 1 := (y 0).isLt
  funext a; apply Fin.ext; fin_cases a
  · show cc0_transform_6 (grid0.coords t) 0 * 1 + 1 * (y 0).val = (grid0.coords t 0).val; omega
  · show cc0_transform_6 (grid0.coords t) 1 * 256 + 1 * (y 1).val = (grid0.coords t 1).val * 256 + (y 1).val; omega
  · show cc0_transform_6 (grid0.coords t) 2 * 1024 + 1 * (y 2).val = (y 2).val; omega

/-- Where window 7's block lies. -/
theorem emb7 (t : Fin (cfgT m).N) (y : S1x256x1024.Idx) : (((cfgT m).win 7).blk t).view.emb y = (pt t y : S2x1024x1024.Idx) := by
  obtain ⟨e0, e1, e2⟩ := ix7 t
  have h : (y 0).val < 1 := (y 0).isLt
  funext a; apply Fin.ext; fin_cases a
  · show cc0_transform_7 (grid0.coords t) 0 * 1 + 1 * (y 0).val = (grid0.coords t 0).val; omega
  · show cc0_transform_7 (grid0.coords t) 1 * 256 + 1 * (y 1).val = (grid0.coords t 1).val * 256 + (y 1).val; omega
  · show cc0_transform_7 (grid0.coords t) 2 * 1024 + 1 * (y 2).val = (y 2).val; omega

/-- Where window 8's block lies. -/
theorem emb8 (t : Fin (cfgT m).N) (y : S1x256x1024.Idx) : (((cfgT m).win 8).blk t).view.emb y = (pt t y : S2x1024x1024.Idx) := by
  obtain ⟨e0, e1, e2⟩ := ix8 t
  have h : (y 0).val < 1 := (y 0).isLt
  funext a; apply Fin.ext; fin_cases a
  · show cc0_transform_8 (grid0.coords t) 0 * 1 + 1 * (y 0).val = (grid0.coords t 0).val; omega
  · show cc0_transform_8 (grid0.coords t) 1 * 256 + 1 * (y 1).val = (grid0.coords t 1).val * 256 + (y 1).val; omega
  · show cc0_transform_8 (grid0.coords t) 2 * 1024 + 1 * (y 2).val = (y 2).val; omega

/-- Where window 1's block lies. -/
theorem emb1 (t : Fin (cfgT m).N) (y : S1x256x1024.Idx) : (((cfgT m).win 1).blk t).view.emb (lo y) = (lo3 (pt t y) : S1024x1024.Idx) := by
  obtain ⟨e0, e1⟩ := ix1 t
  funext a; apply Fin.ext; fin_cases a
  · show cc0_transform_1 (grid0.coords t) 0 * 256 + 1 * (y 1).val = (grid0.coords t 1).val * 256 + (y 1).val; omega
  · show cc0_transform_1 (grid0.coords t) 1 * 1024 + 1 * (y 2).val = (y 2).val; omega

/-- Where window 2's block lies. -/
theorem emb2 (t : Fin (cfgT m).N) (y : S1x256x1024.Idx) : (((cfgT m).win 2).blk t).view.emb (lo y) = (lo3 (pt t y) : S1024x1024.Idx) := by
  obtain ⟨e0, e1⟩ := ix2 t
  funext a; apply Fin.ext; fin_cases a
  · show cc0_transform_2 (grid0.coords t) 0 * 256 + 1 * (y 1).val = (grid0.coords t 1).val * 256 + (y 1).val; omega
  · show cc0_transform_2 (grid0.coords t) 1 * 1024 + 1 * (y 2).val = (y 2).val; omega

variable (c : Dev nD)
/-- The weights. -/
abbrev a0 : S2x1024x1024.Idx → EReal := m ((c : Thread nD τ).loc main_arg0)
/-- The device's own half of the gradient. -/
abbrev a1 : S1024x1024.Idx → EReal := m ((c : Thread nD τ).loc main_arg1)
/-- The other device's half. -/
abbrev a2 : S1024x1024.Idx → EReal := m ((c : Thread nD τ).loc main_arg2)
/-- The first moment. -/
abbrev a3 : S2x1024x1024.Idx → EReal := m ((c : Thread nD τ).loc main_arg3)
/-- The second moment. -/
abbrev a4 : S2x1024x1024.Idx → EReal := m ((c : Thread nD τ).loc main_arg4)
/-- The device's number. -/
abbrev nr : BitVec 32 := wrd (m ((c : Thread nD τ).loc main_arg5))
/-- The gradient. -/
abbrev gr (k : S2x1024x1024.Idx) : EReal := gA (a1 m c) (a2 m c) (nr m c) k

/-- The prefetched word is the device's number. -/
theorem tbl_nr : wrd (tbl (F := Ideal) m 0) = nr m c := by
  obtain rfl : c = 0 := Subsingleton.elim _ _
  rfl

/-- Window 0's block at an index. -/
theorem ib0 (t : Fin (cfgT m).N) (y : S1x256x1024.Idx) : (iblk (F := Ideal) m (ok m) c 0 t : Vec Ideal S1x256x1024 .f32) y = a0 m c (pt t y) := by
  exact Eq.trans (show _ = V (F := Ideal) m c main_arg0 ((((cfgT m).win 0).blk t).view.emb y) from rfl) (congrArg (a0 m c) (emb0 m t y))

/-- Window 3's block at an index. -/
theorem ib3 (t : Fin (cfgT m).N) (y : S1x256x1024.Idx) : (iblk (F := Ideal) m (ok m) c 3 t : Vec Ideal S1x256x1024 .f32) y = a3 m c (pt t y) := by
  exact Eq.trans (show _ = V (F := Ideal) m c main_arg3 ((((cfgT m).win 3).blk t).view.emb y) from rfl) (congrArg (a3 m c) (emb3 m t y))

/-- Window 4's block at an index. -/
theorem ib4 (t : Fin (cfgT m).N) (y : S1x256x1024.Idx) : (iblk (F := Ideal) m (ok m) c 4 t : Vec Ideal S1x256x1024 .f32) y = a4 m c (pt t y) := by
  exact Eq.trans (show _ = V (F := Ideal) m c main_arg4 ((((cfgT m).win 4).blk t).view.emb y) from rfl) (congrArg (a4 m c) (emb4 m t y))

/-- Window 1's block at an index. -/
theorem ib1 (t : Fin (cfgT m).N) (y : S1x256x1024.Idx) : (iblk (F := Ideal) m (ok m) c 1 t : Vec Ideal S256x1024 .f32) (lo y) = a1 m c (lo3 (pt t y)) := by
  exact Eq.trans (show _ = V (F := Ideal) m c main_arg1 ((((cfgT m).win 1).blk t).view.emb (lo y)) from rfl) (congrArg (a1 m c) (emb1 m t y))

/-- Window 2's block at an index. -/
theorem ib2 (t : Fin (cfgT m).N) (y : S1x256x1024.Idx) : (iblk (F := Ideal) m (ok m) c 2 t : Vec Ideal S256x1024 .f32) (lo y) = a2 m c (lo3 (pt t y)) := by
  exact Eq.trans (show _ = V (F := Ideal) m c main_arg2 ((((cfgT m).win 2).blk t).view.emb (lo y)) from rfl) (congrArg (a2 m c) (emb2 m t y))

/-- The gradient's element of a block is the whole array's. -/
theorem gB_eq (t : Fin grid0.N) (y : S1x256x1024.Idx) :
    gB (grid0.coords t) (wrd (tbl (F := Ideal) m 0)) (iblk (F := Ideal) m (ok m) c 1 t) (iblk (F := Ideal) m (ok m) c 2 t) y = gr m c (pt t y) := by
  have e1 := ib1 m c t y
  have e2 := ib2 m c t y
  have e3 := tbl_nr m c
  show gsel (BitVec.ofNat 32 (grid0.coords t 0).val) (wrd (tbl (F := Ideal) m 0)) ((iblk (F := Ideal) m (ok m) c 1 t : Vec Ideal S256x1024 .f32) (lo y)) ((iblk (F := Ideal) m (ok m) c 2 t : Vec Ideal S256x1024 .f32) (lo y)) = _
  exact (congrArg (fun w => gsel _ w _ _) e3).trans (congrArg₂ (fun u v => gsel _ _ u v) e1 e2)

/-- The gradient as a function of the arguments. -/
def G5 : S2x1024x1024.Idx → EReal := fun k => gr m c k

/-- Each point writes back its block of it. -/
theorem flushed5 (t : Fin (cfgT m).N) : (dat m c).flushed 5 t = (((cfgT m).win 5).blk t).view.read (Elt Ideal) (G5 m c) := by
  have hL : (outsAt0 (F := Ideal) m (ok m) c t).1 = k0_pay5 (grid0.coords t) (wrd (tbl (F := Ideal) m 0)) (iblk (F := Ideal) m (ok m) c 1 t) (iblk (F := Ideal) m (ok m) c 2 t) := by
    unfold outsAt0
    dsimp only
    exact out5 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x1024.Idx, (outsAt0 (F := Ideal) m (ok m) c t).1 y = G5 m c (pt t y) := by
    intro y
    rw [hL]
    unfold G5
    refine (pay5_apply _ _ _ _ y).trans (gB_eq m c t y)
  show ((cfgT m).win 5).cut (grid0.coords t) ((dats (F := Ideal) m (ok m) 0 c).after 5 t) = _
  rw [after0_5]
  funext y
  refine Eq.trans ?_ (Eq.trans (hV y) ?_)
  · rfl
  · exact (Eq.trans (show _ = G5 m c ((((cfgT m).win 5).blk t).view.emb y) from rfl) (congrArg (G5 m c) (emb5 m t y))).symm

/-- Every element is some point's. -/
theorem cover5 (k : S2x1024x1024.Idx) : ∃ t : Fin (cfgT m).N, ((cfgT m).win 5).flush t = true ∧ k ∈ (((cfgT m).win 5).blk t).view.set := by
  have h0 : (k 0).val < 2 := (k 0).isLt
  have h1 : (k 1).val < 1024 := (k 1).isLt
  have h2 : (k 2).val < 1024 := (k 2).isLt
  obtain ⟨t, t0, t1⟩ := onto ⟨(k 0).val, h0⟩ ⟨(k 1).val / 256, by omega⟩
  refine ⟨t, flush0_5 _ t, ?_⟩
  have e : k = (((cfgT m).win 5).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x1024.Idx)) := by
    refine Eq.trans ?_ (emb5 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin5 : (dat m c).arrAt 5 (cfgT m).N = G5 m c :=
  (dat m c).arrAt_eq_of_cover 5 _ (fun t _ => flushed5 m c t) (fun k => cover5 m k)

/-- The step as a function of the arguments. -/
def G6 : S2x1024x1024.Idx → EReal := fun k => dlt (a0 m c k) (mom (a3 m c k) (gr m c k)) (sec (a4 m c k) (gr m c k))

/-- Each point writes back its block of it. -/
theorem flushed6 (t : Fin (cfgT m).N) : (dat m c).flushed 6 t = (((cfgT m).win 6).blk t).view.read (Elt Ideal) (G6 m c) := by
  have hL : (outsAt0 (F := Ideal) m (ok m) c t).2.1 = k0_pay1 (k0_pay6 (iblk (F := Ideal) m (ok m) c 0 t)) (k0_pay9 (grid0.coords t) (wrd (tbl (F := Ideal) m 0)) (iblk (F := Ideal) m (ok m) c 1 t) (iblk (F := Ideal) m (ok m) c 2 t) (iblk (F := Ideal) m (ok m) c 3 t) (iblk (F := Ideal) m (ok m) c 4 t)) := by
    unfold outsAt0
    dsimp only
    exact out6 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x1024.Idx, (outsAt0 (F := Ideal) m (ok m) c t).2.1 y = G6 m c (pt t y) := by
    intro y
    rw [hL]
    unfold G6
    refine (pay1_apply (grid0.coords t) (wrd (tbl (F := Ideal) m 0)) (iblk (F := Ideal) m (ok m) c 0 t) (iblk (F := Ideal) m (ok m) c 1 t) (iblk (F := Ideal) m (ok m) c 2 t) (iblk (F := Ideal) m (ok m) c 3 t) (iblk (F := Ideal) m (ok m) c 4 t) y).trans ?_
    have e0 := ib0 m c t y
    have e3 := ib3 m c t y
    have e4 := ib4 m c t y
    have eg := gB_eq m c t y
    exact dlt_congr e0 (congrArg₂ mom e3 eg) (congrArg₂ sec e4 eg)
  show ((cfgT m).win 6).cut (grid0.coords t) ((dats (F := Ideal) m (ok m) 0 c).after 6 t) = _
  rw [after0_6]
  funext y
  refine Eq.trans ?_ (Eq.trans (hV y) ?_)
  · rfl
  · exact (Eq.trans (show _ = G6 m c ((((cfgT m).win 6).blk t).view.emb y) from rfl) (congrArg (G6 m c) (emb6 m t y))).symm

/-- Every element is some point's. -/
theorem cover6 (k : S2x1024x1024.Idx) : ∃ t : Fin (cfgT m).N, ((cfgT m).win 6).flush t = true ∧ k ∈ (((cfgT m).win 6).blk t).view.set := by
  have h0 : (k 0).val < 2 := (k 0).isLt
  have h1 : (k 1).val < 1024 := (k 1).isLt
  have h2 : (k 2).val < 1024 := (k 2).isLt
  obtain ⟨t, t0, t1⟩ := onto ⟨(k 0).val, h0⟩ ⟨(k 1).val / 256, by omega⟩
  refine ⟨t, flush0_6 _ t, ?_⟩
  have e : k = (((cfgT m).win 6).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x1024.Idx)) := by
    refine Eq.trans ?_ (emb6 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin6 : (dat m c).arrAt 6 (cfgT m).N = G6 m c :=
  (dat m c).arrAt_eq_of_cover 6 _ (fun t _ => flushed6 m c t) (fun k => cover6 m k)

/-- The new first moment as a function of the arguments. -/
def G7 : S2x1024x1024.Idx → EReal := fun k => mom (a3 m c k) (gr m c k)

/-- Each point writes back its block of it. -/
theorem flushed7 (t : Fin (cfgT m).N) : (dat m c).flushed 7 t = (((cfgT m).win 7).blk t).view.read (Elt Ideal) (G7 m c) := by
  have hL : (outsAt0 (F := Ideal) m (ok m) c t).2.2.1 = k0_pay2 (k0_pay7 (grid0.coords t) (wrd (tbl (F := Ideal) m 0)) (iblk (F := Ideal) m (ok m) c 1 t) (iblk (F := Ideal) m (ok m) c 2 t) (iblk (F := Ideal) m (ok m) c 3 t)) := by
    unfold outsAt0
    dsimp only
    exact out7 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x1024.Idx, (outsAt0 (F := Ideal) m (ok m) c t).2.2.1 y = G7 m c (pt t y) := by
    intro y
    rw [hL]
    unfold G7
    refine ((cast_up _ y).trans (pay7_apply _ _ _ _ _ y)).trans ?_
    exact congrArg₂ mom (ib3 m c t y) (gB_eq m c t y)
  show ((cfgT m).win 7).cut (grid0.coords t) ((dats (F := Ideal) m (ok m) 0 c).after 7 t) = _
  rw [after0_7]
  funext y
  refine Eq.trans ?_ (Eq.trans (hV y) ?_)
  · rfl
  · exact (Eq.trans (show _ = G7 m c ((((cfgT m).win 7).blk t).view.emb y) from rfl) (congrArg (G7 m c) (emb7 m t y))).symm

/-- Every element is some point's. -/
theorem cover7 (k : S2x1024x1024.Idx) : ∃ t : Fin (cfgT m).N, ((cfgT m).win 7).flush t = true ∧ k ∈ (((cfgT m).win 7).blk t).view.set := by
  have h0 : (k 0).val < 2 := (k 0).isLt
  have h1 : (k 1).val < 1024 := (k 1).isLt
  have h2 : (k 2).val < 1024 := (k 2).isLt
  obtain ⟨t, t0, t1⟩ := onto ⟨(k 0).val, h0⟩ ⟨(k 1).val / 256, by omega⟩
  refine ⟨t, flush0_7 _ t, ?_⟩
  have e : k = (((cfgT m).win 7).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x1024.Idx)) := by
    refine Eq.trans ?_ (emb7 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin7 : (dat m c).arrAt 7 (cfgT m).N = G7 m c :=
  (dat m c).arrAt_eq_of_cover 7 _ (fun t _ => flushed7 m c t) (fun k => cover7 m k)

/-- The new second moment as a function of the arguments. -/
def G8 : S2x1024x1024.Idx → EReal := fun k => sec (a4 m c k) (gr m c k)

/-- Each point writes back its block of it. -/
theorem flushed8 (t : Fin (cfgT m).N) : (dat m c).flushed 8 t = (((cfgT m).win 8).blk t).view.read (Elt Ideal) (G8 m c) := by
  have hL : (outsAt0 (F := Ideal) m (ok m) c t).2.2.2 = k0_pay3 (k0_pay8 (grid0.coords t) (wrd (tbl (F := Ideal) m 0)) (iblk (F := Ideal) m (ok m) c 1 t) (iblk (F := Ideal) m (ok m) c 2 t) (iblk (F := Ideal) m (ok m) c 4 t)) := by
    unfold outsAt0
    dsimp only
    exact out8 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x1024.Idx, (outsAt0 (F := Ideal) m (ok m) c t).2.2.2 y = G8 m c (pt t y) := by
    intro y
    rw [hL]
    unfold G8
    refine ((cast_up _ y).trans (pay8_apply _ _ _ _ _ y)).trans ?_
    exact congrArg₂ sec (ib4 m c t y) (gB_eq m c t y)
  show ((cfgT m).win 8).cut (grid0.coords t) ((dats (F := Ideal) m (ok m) 0 c).after 8 t) = _
  rw [after0_8]
  funext y
  refine Eq.trans ?_ (Eq.trans (hV y) ?_)
  · rfl
  · exact (Eq.trans (show _ = G8 m c ((((cfgT m).win 8).blk t).view.emb y) from rfl) (congrArg (G8 m c) (emb8 m t y))).symm

/-- Every element is some point's. -/
theorem cover8 (k : S2x1024x1024.Idx) : ∃ t : Fin (cfgT m).N, ((cfgT m).win 8).flush t = true ∧ k ∈ (((cfgT m).win 8).blk t).view.set := by
  have h0 : (k 0).val < 2 := (k 0).isLt
  have h1 : (k 1).val < 1024 := (k 1).isLt
  have h2 : (k 2).val < 1024 := (k 2).isLt
  obtain ⟨t, t0, t1⟩ := onto ⟨(k 0).val, h0⟩ ⟨(k 1).val / 256, by omega⟩
  refine ⟨t, flush0_8 _ t, ?_⟩
  have e : k = (((cfgT m).win 8).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x1024.Idx)) := by
    refine Eq.trans ?_ (emb8 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin8 : (dat m c).arrAt 8 (cfgT m).N = G8 m c :=
  (dat m c).arrAt_eq_of_cover 8 _ (fun t _ => flushed8 m c t) (fun k => cover8 m k)

/-- The reference's gradient. -/
theorem ref7 (x1 x2 : S1024x1024.Idx → EReal) (x5 : S1.Idx → BitVec 32) (k : S2x1024x1024.Idx) :
    Cert.AdamupRefIdeal.Read.val_main_v7 (F := Ideal) x1 x2 x5 k = gA x1 x2 (wrd x5) k := by
  rw [Cert.AdamupRefIdeal.Read.val_main_v7_apply, Cert.AdamupRefIdeal.Read.val_main_call0_v0_apply, Cert.AdamupRefIdeal.Read.val_main_call0_v1_apply, Cert.AdamupRefIdeal.Read.val_main_call0_v2_apply,
    Cert.AdamupRefIdeal.Read.val_main_v4_apply, Cert.AdamupRefIdeal.Read.val_main_v3_apply, Cert.AdamupRefIdeal.Read.val_main_v2_apply, Cert.AdamupRefIdeal.Read.val_main_v5_apply, Cert.AdamupRefIdeal.Read.val_main_v6_apply]
  have e : ∀ z, Cert.AdamupRefIdeal.Read.val_main_v1 (F := Ideal) x5 z = wrd x5 := fun z => one_idx x5 _
  rw [e]
  have e1 : Cert.AdamupRefIdeal.Read.idx_main_v5 (Cert.AdamupRefIdeal.Read.idx_main_call0_v1 k) = lo3 k := by funext a; fin_cases a <;> rfl
  have e2 : Cert.AdamupRefIdeal.Read.idx_main_v6 (Cert.AdamupRefIdeal.Read.idx_main_call0_v2 k) = lo3 k := by funext a; fin_cases a <;> rfl
  rw [e1, e2]
  rfl

/-- The reference's new first moment. -/
theorem ref12 (x1 x2 : S1024x1024.Idx → EReal) (x3 : S2x1024x1024.Idx → EReal) (x5 : S1.Idx → BitVec 32) (k : S2x1024x1024.Idx) :
    Cert.AdamupRefIdeal.Read.val_main_v12 (F := Ideal) x1 x2 x3 x5 k = mom (x3 k) (gA x1 x2 (wrd x5) k) := by
  rw [← ref7]; rfl

/-- The reference's new second moment. -/
theorem ref18 (x1 x2 : S1024x1024.Idx → EReal) (x4 : S2x1024x1024.Idx → EReal) (x5 : S1.Idx → BitVec 32) (k : S2x1024x1024.Idx) :
    Cert.AdamupRefIdeal.Read.val_main_v18 (F := Ideal) x1 x2 x4 x5 k = sec (x4 k) (gA x1 x2 (wrd x5) k) := by
  rw [← ref7]; rfl

/-- The reference's step. -/
theorem ref31 (x0 : S2x1024x1024.Idx → EReal) (x1 x2 : S1024x1024.Idx → EReal) (x3 x4 : S2x1024x1024.Idx → EReal) (x5 : S1.Idx → BitVec 32) (k : S2x1024x1024.Idx) :
    Cert.AdamupRefIdeal.Read.val_main_v31 (F := Ideal) x0 x1 x2 x3 x4 x5 k = dlt (x0 k) (mom (x3 k) (gA x1 x2 (wrd x5) k)) (sec (x4 k) (gA x1 x2 (wrd x5) k)) := by
  have h : Cert.AdamupRefIdeal.Read.val_main_v31 (F := Ideal) x0 x1 x2 x3 x4 x5 k = Ideal.ofBits .f32 0xBA83126F#32 * (Ideal.div (Ideal.div (Cert.AdamupRefIdeal.Read.val_main_v12 (F := Ideal) x1 x2 x3 x5 k) (Ideal.ofBits .f32 0x3F26BD02#32))
      (Ideal.sqrt (Ideal.div (Cert.AdamupRefIdeal.Read.val_main_v18 (F := Ideal) x1 x2 x4 x5 k) (Ideal.ofBits .f32 0x3C231ACC#32)) + Ideal.ofBits .f32 0x322BCC77#32) + Ideal.ofBits .f32 0x3C23D70A#32 * x0 k) := rfl
  rw [h, ref12, ref18, div1, div2]

/-- The kernel's arrays and the reference's results are the same functions of the arguments. -/
theorem alg (hK : Cert.AdamupIdeal.Facts) (hR : Cert.AdamupRefIdeal.Facts) : @Cert.algebraic_AdamupIdeal_AdamupRefIdeal hK hR := by
  intro m ρ m' ρ' _ hag
  refine ⟨_, _, _, _, (θ_run _ _ _).mono (fun r h c => ⟨(h c).1 5, (h c).1 6, (h c).1 7, (h c).1 8,
    ((h c).1 0).trans (((dat m c).arrAt_in 0 rfl _).trans ((A_eq m (ok m) c 0).trans (V_main_arg0 m c))),
    ((h c).1 1).trans (((dat m c).arrAt_in 1 rfl _).trans ((A_eq m (ok m) c 1).trans (V_main_arg1 m c))),
    ((h c).1 2).trans (((dat m c).arrAt_in 2 rfl _).trans ((A_eq m (ok m) c 2).trans (V_main_arg2 m c))),
    ((h c).1 3).trans (((dat m c).arrAt_in 3 rfl _).trans ((A_eq m (ok m) c 3).trans (V_main_arg3 m c))),
    ((h c).1 4).trans (((dat m c).arrAt_in 4 rfl _).trans ((A_eq m (ok m) c 4).trans (V_main_arg4 m c))), ((h c).2 main_arg5 (by decide : main_arg5 ∈ Pipeline.restRefs sig spec0)).trans (V_main_arg5 m c)⟩) (run_main m ρ (ok m)), ?_⟩
  refine (θ_run _ _ _).mono (fun r h c => ?_) (Cert.AdamupRefIdeal.Value.run m' ρ')
  obtain ⟨a, b, d, e, f⟩ := h c
  obtain ⟨g0, g1, g2, g3, g4, g5⟩ := hag c
  rw [Cert.AdamupRefIdeal.Read.val_main_v7_eq, g1, g2, g5] at a
  rw [Cert.AdamupRefIdeal.Read.val_main_v31_eq, g0, g1, g2, g3, g4, g5] at b
  rw [Cert.AdamupRefIdeal.Read.val_main_v12_eq, g1, g2, g3, g5] at d
  rw [Cert.AdamupRefIdeal.Read.val_main_v18_eq, g1, g2, g4, g5] at e
  exact ⟨a.trans ((funext fun k => ref7 _ _ _ k).trans (fin5 m c).symm), b.trans ((funext fun k => ref31 _ _ _ _ _ _ k).trans (fin6 m c).symm),
    d.trans ((funext fun k => ref12 _ _ _ _ k).trans (fin7 m c).symm), e.trans ((funext fun k => ref18 _ _ _ _ k).trans (fin8 m c).symm), f⟩

end Cert.AdamupFinal

end
-- ==== Proof.AdamqkvFinal.lean ====
module

public import proofs.«01_k».proof.Proof.AdamsFinal
public import proofs.«01_k».proof.Proof.Gen.AdamqkvIdeal.Frame
public import proofs.«01_k».proof.Proof.Gen.AdamqkvRefIdeal.Read
public import proofs.«01_k».proof.Defs
public import Idealize.ShloMosaic.Lib.Claim
public import Idealize.ShloMosaic.Lib.Pipeline.Value
public import Idealize.ShloMosaic.Lib.Pointwise

@[expose] public section

/-!
# The optimiser on the attention's first projection

The gradient of row half `p` is the device's own half where `p` is the device's number and the other device's half
elsewhere; the step is then the same function of each element in both programs.
-/

set_option maxRecDepth 16384

noncomputable section

namespace Cert.AdamqkvFinal

open Cert.AdamqkvIdeal Cert.AdamqkvIdeal.Gen Cert.AdamsFinal Idealize.ShloMosaic Idealize.ShloMosaic.TcCoe Idealize.SL.Sem
open Idealize.ShloMosaic.Pipeline (Dat)

/-- At each named literal the program over the reals takes the exact value. -/
theorem names : Cert.preserves_Adamqkv_AdamqkvIdeal :=
  ⟨IdealRules.named_const.statement κ "corr1" .f32 0x3FC48605#32 kC1 rfl, IdealRules.named_const.statement κ "corr2" .f32 0x42C8E6D3#32 kC2 rfl⟩

/-- The first correction as the kernel reads it. -/
theorem nam1 : Named.named (F := Ideal) (φ := .f32) κ "corr1" 0x3FC48605#32 = kC1 := IdealRules.named_const.ideal_named_scalar _ _ _ _ rfl
/-- The second correction as the kernel reads it. -/
theorem nam2 : Named.named (F := Ideal) (φ := .f32) κ "corr2" 0x42C8E6D3#32 = kC2 := IdealRules.named_const.ideal_named_scalar _ _ _ _ rfl

/-- One half or the other, by the device's number. -/
abbrev gsel (b w : BitVec 32) (x y : EReal) : EReal := Scalar.select (Scalar.cmpi .eq b w) x y
/-- The new first moment. -/
abbrev mom (x g : EReal) : EReal := Ideal.ofBits .f32 0x3F666666#32 * x + Ideal.ofBits .f32 0x3DCCCCCD#32 * g
/-- The new second moment. -/
abbrev sec (x g : EReal) : EReal := Ideal.ofBits .f32 0x3F7FBE77#32 * x + Ideal.ofBits .f32 0x3A83126F#32 * (g * g)
/-- The step, of the weight and the two new moments. -/
abbrev dlt (w a b : EReal) : EReal := Ideal.ofBits .f32 0xBA83126F#32 * (Ideal.div (a * kC1) (Ideal.sqrt (b * kC2) + Ideal.ofBits .f32 0x322BCC77#32) + Ideal.ofBits .f32 0x3C23D70A#32 * w)

/-- The step of equal things. -/
theorem dlt_congr {w w' a a' b b' : EReal} (h : w = w') (ha : a = a') (hb : b = b') : dlt w a b = dlt w' a' b' := by rw [h, ha, hb]

/-- The device's number out of its one-word array. -/
def wrd (f : S1.Idx → BitVec 32) : BitVec 32 := f (fun a => ⟨0, by fin_cases a; exact Nat.one_pos⟩)

/-- The one-word array has one index. -/
theorem one_idx (f : S1.Idx → BitVec 32) (k : S1.Idx) : f k = wrd f := by
  unfold wrd
  refine congrArg f (funext fun a => Fin.ext ?_)
  fin_cases a
  have h : (k 0).val < 1 := (k 0).isLt
  show (k 0).val = 0
  omega

theorem hz : (![0, 0] : Fin 2 → Nat) = fun _ => 0 := funext fun a => by fin_cases a <;> rfl
theorem hz3 : (![0, 0, 0] : Fin 3 → Nat) = fun _ => 0 := funext fun a => by fin_cases a <;> rfl

/-! ## One block -/

/-- A block's index without its leading axis. -/
abbrev lo (y : S1x256x768.Idx) : S256x768.Idx := fun a => match a with
  | ⟨0, _⟩ => ⟨(y 1).val, (y 1).isLt⟩
  | ⟨1, _⟩ => ⟨(y 2).val, (y 2).isLt⟩

/-- Adding the leading axis. -/
theorem cast_up (v : FVec Ideal S256x768 .f32) (y : S1x256x768.Idx) : shapeCast S1x256x768 v shapeCasts_S256x768_S1x256x768 y = v (lo y) := by
  refine (shapeCast_addUnit_apply ![256, 768] v shapeCasts_S256x768_S1x256x768 y).trans (congrArg v ?_)
  funext a; fin_cases a <;> rfl

/-- Dropping it again. -/
theorem cast_lo (v : FVec Ideal S1x256x768 .f32) (y : S1x256x768.Idx) : shapeCast S256x768 v shapeCasts_S1x256x768_S256x768 (lo y) = v y := by
  refine (shapeCast_dropUnit_apply ![256, 768] v shapeCasts_S1x256x768_S256x768 (lo y)).trans (congrArg v ?_)
  have h : (y 0).val < 1 := (y 0).isLt
  funext a; apply Fin.ext; fin_cases a
  · show 0 = (y 0).val; omega
  · rfl
  · rfl

section Block
variable (i : grid0.Coords) (w : BitVec 32) (x0 : Vec Ideal S1x256x768 .f32) (x1 : Vec Ideal S256x768 .f32) (x2 : Vec Ideal S256x768 .f32) (x3 : Vec Ideal S1x256x768 .f32) (x4 : Vec Ideal S1x256x768 .f32)

/-- The gradient's element of a block. -/
abbrev gB (y : S1x256x768.Idx) : EReal := gsel (BitVec.ofNat 32 (i 0).val) w (x1 (lo y)) (x2 (lo y))

/-- The chosen half at an index. -/
theorem pay4_apply (y : S1x256x768.Idx) : k0_pay4 (F := Ideal) i w x1 x2 (lo y) = gB i w x1 x2 y := by
  show (Scalar.select (Scalar.cmpi .eq (BitVec.ofNat 32 (i 0).val) w) x1 x2) (lo y) = Scalar.select (Scalar.cmpi .eq (BitVec.ofNat 32 (i 0).val) w) (x1 (lo y)) (x2 (lo y))
  unfold Scalar.select
  split <;> rfl

/-- The stored gradient. -/
theorem pay5_apply (y : S1x256x768.Idx) : k0_pay5 (F := Ideal) i w x1 x2 y = gB i w x1 x2 y :=
  (cast_up _ y).trans (pay4_apply i w x1 x2 y)

/-- The new first moment at an index. -/
theorem pay7_apply (y : S1x256x768.Idx) : k0_pay7 (F := Ideal) i w x1 x2 x3 (lo y) = mom (x3 y) (gB i w x1 x2 y) := by
  show Ideal.ofBits .f32 0x3F666666#32 * shapeCast S256x768 x3 shapeCasts_S1x256x768_S256x768 (lo y) + Ideal.ofBits .f32 0x3DCCCCCD#32 * k0_pay4 (F := Ideal) i w x1 x2 (lo y) = _
  rw [cast_lo, pay4_apply]

/-- The new second moment at an index. -/
theorem pay8_apply (y : S1x256x768.Idx) : k0_pay8 (F := Ideal) i w x1 x2 x4 (lo y) = sec (x4 y) (gB i w x1 x2 y) := by
  show Ideal.ofBits .f32 0x3F7FBE77#32 * shapeCast S256x768 x4 shapeCasts_S1x256x768_S256x768 (lo y) + Ideal.ofBits .f32 0x3A83126F#32 * (k0_pay4 (F := Ideal) i w x1 x2 (lo y) * k0_pay4 (F := Ideal) i w x1 x2 (lo y)) = _
  rw [cast_lo, pay4_apply]

/-- The stored step at an index. -/
theorem pay1_apply (y : S1x256x768.Idx) :
    k0_pay1 (F := Ideal) (k0_pay6 x0) (k0_pay9 i w x1 x2 x3 x4) y = dlt (x0 y) (mom (x3 y) (gB i w x1 x2 y)) (sec (x4 y) (gB i w x1 x2 y)) := by
  refine (cast_up (mulf (broadcast S256x768 (Scalar.ofBits .f32 0xBA83126F#32)) (addf (k0_pay9 (F := Ideal) i w x1 x2 x3 x4) (mulf (broadcast S256x768 (Scalar.ofBits .f32 0x3C23D70A#32)) (k0_pay6 (F := Ideal) x0)))) y).trans ?_
  show Ideal.ofBits .f32 0xBA83126F#32 * (Ideal.div (k0_pay7 (F := Ideal) i w x1 x2 x3 (lo y) * Named.named (F := Ideal) (φ := .f32) κ "corr1" 0x3FC48605#32)
      (Ideal.sqrt (k0_pay8 (F := Ideal) i w x1 x2 x4 (lo y) * Named.named (F := Ideal) (φ := .f32) κ "corr2" 0x42C8E6D3#32) + Ideal.ofBits .f32 0x322BCC77#32)
      + Ideal.ofBits .f32 0x3C23D70A#32 * shapeCast S256x768 x0 shapeCasts_S1x256x768_S256x768 (lo y)) = _
  rw [nam1, nam2, pay7_apply, pay8_apply, cast_lo]

end Block

section Case
variable (c : Dev nD) (i : grid0.Coords) (arg3 : Memref sig .tc .vmem S1x256x768 .f32) (harg3 : arg3.IsWhole) (arg4 : Memref sig .tc .vmem S256x768 .f32) (harg4 : arg4.IsWhole) (arg5 : Memref sig .tc .vmem S256x768 .f32) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole)
    (x0 : Vec Ideal S1x256x768 .f32) (x1 : Vec Ideal S256x768 .f32) (x2 : Vec Ideal S256x768 .f32) (x3 : Vec Ideal S1x256x768 .f32) (x4 : Vec Ideal S1x256x768 .f32) (xt0 : TbBuf0 (F := Ideal) c tbM0_0)

/-- What a point leaves of the gradient. -/
theorem out5 : out0_A_5 (F := Ideal) c i arg3 harg3 arg4 harg4 arg5 harg5 arg6 harg6 arg7 harg7 arg8 harg8 arg9 harg9 arg10 harg10 arg11 harg11 x0 x1 x2 x3 x4 xt0 = k0_pay5 i (wrd xt0) x1 x2 := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x768) hz3, View.readAt_eq_ld, harg3.read_unread, harg4.read_unread, harg5.read_unread, harg6.read_unread, harg7.read_unread, View.ld_unit_zero (S := S1x256x768) hz3, View.ld_unit_zero (S := S256x768) hz]
  exact congrArg (fun w => k0_pay5 i w x1 x2) (one_idx xt0 _)

/-- What a point leaves of the step. -/
theorem out6 : out0_A_6 (F := Ideal) c i arg3 harg3 arg4 harg4 arg5 harg5 arg6 harg6 arg7 harg7 arg8 harg8 arg9 harg9 arg10 harg10 arg11 harg11 x0 x1 x2 x3 x4 xt0 = k0_pay1 (k0_pay6 x0) (k0_pay9 i (wrd xt0) x1 x2 x3 x4) := by
  unfold out0_A_6
  rw [View.read_writes_eq_canon _ _ _ (cover0_A_6 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x768) hz3, View.readAt_eq_ld, harg3.read_unread, harg4.read_unread, harg5.read_unread, harg6.read_unread, harg7.read_unread, View.ld_unit_zero (S := S1x256x768) hz3, View.ld_unit_zero (S := S256x768) hz]
  exact congrArg (fun w => k0_pay1 (k0_pay6 x0) (k0_pay9 i w x1 x2 x3 x4)) (one_idx xt0 _)

/-- What a point leaves of the new first moment. -/
theorem out7 : out0_A_7 (F := Ideal) c i arg3 harg3 arg4 harg4 arg5 harg5 arg6 harg6 arg7 harg7 arg8 harg8 arg9 harg9 arg10 harg10 arg11 harg11 x0 x1 x2 x3 x4 xt0 = k0_pay2 (k0_pay7 i (wrd xt0) x1 x2 x3) := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x768) hz3, View.readAt_eq_ld, harg3.read_unread, harg4.read_unread, harg5.read_unread, harg6.read_unread, harg7.read_unread, View.ld_unit_zero (S := S1x256x768) hz3, View.ld_unit_zero (S := S256x768) hz]
  exact congrArg (fun w => k0_pay2 (k0_pay7 i w x1 x2 x3)) (one_idx xt0 _)

/-- What a point leaves of the new second moment. -/
theorem out8 : out0_A_8 (F := Ideal) c i arg3 harg3 arg4 harg4 arg5 harg5 arg6 harg6 arg7 harg7 arg8 harg8 arg9 harg9 arg10 harg10 arg11 harg11 x0 x1 x2 x3 x4 xt0 = k0_pay3 (k0_pay8 i (wrd xt0) x1 x2 x4) := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x768) hz3, View.readAt_eq_ld, harg3.read_unread, harg4.read_unread, harg5.read_unread, harg6.read_unread, harg7.read_unread, View.ld_unit_zero (S := S1x256x768) hz3, View.ld_unit_zero (S := S256x768) hz]
  exact congrArg (fun w => k0_pay3 (k0_pay8 i w x1 x2 x4)) (one_idx xt0 _)

end Case

/-! ## The whole arrays -/

variable (m : (ℓ : Loc nD τ sig) → Buf (Elt Ideal) ℓ)

/-- Nothing is asked of the prefetched word. -/
theorem ok : Ok (F := Ideal) m := trivial

/-- The pipeline. -/
abbrev cfgT : Pipeline.Cfg sig Λ₀ := cfgM (F := Ideal) m (ok m)
/-- Its proof data. -/
abbrev dat (c : Dev nD) := dats (F := Ideal) m (ok m) 0 c

/-- The element of the whole array at place `y` of point `t`'s block. -/
def pt (t : Fin grid0.N) (y : S1x256x768.Idx) : S2x512x768.Idx := fun a => match a with
  | ⟨0, _⟩ => ⟨(grid0.coords t 0).val, (grid0.coords t 0).isLt⟩
  | ⟨1, _⟩ => ⟨(grid0.coords t 1).val * 256 + (y 1).val, by have h : (grid0.coords t 1).val < 2 := (grid0.coords t 1).isLt; have h' : (y 1).val < 256 := (y 1).isLt; show _ < 512; omega⟩
  | ⟨2, _⟩ => ⟨(y 2).val, (y 2).isLt⟩

/-- The element of a half that element of the whole array is chosen from. -/
abbrev lo3 (k : S2x512x768.Idx) : S512x768.Idx := fun a => match a with
  | ⟨0, _⟩ => ⟨(k 1).val, (k 1).isLt⟩
  | ⟨1, _⟩ => ⟨(k 2).val, (k 2).isLt⟩

/-- Window 0 moves with both coordinates. -/
theorem ix0 : ∀ t : Fin grid0.N, cc0_transform_0 (grid0.coords t) 0 = (grid0.coords t 0).val ∧ cc0_transform_0 (grid0.coords t) 1 = (grid0.coords t 1).val ∧ cc0_transform_0 (grid0.coords t) 2 = 0 := by decide +kernel

/-- Window 3 moves with both coordinates. -/
theorem ix3 : ∀ t : Fin grid0.N, cc0_transform_3 (grid0.coords t) 0 = (grid0.coords t 0).val ∧ cc0_transform_3 (grid0.coords t) 1 = (grid0.coords t 1).val ∧ cc0_transform_3 (grid0.coords t) 2 = 0 := by decide +kernel

/-- Window 4 moves with both coordinates. -/
theorem ix4 : ∀ t : Fin grid0.N, cc0_transform_4 (grid0.coords t) 0 = (grid0.coords t 0).val ∧ cc0_transform_4 (grid0.coords t) 1 = (grid0.coords t 1).val ∧ cc0_transform_4 (grid0.coords t) 2 = 0 := by decide +kernel

/-- Window 5 moves with both coordinates. -/
theorem ix5 : ∀ t : Fin grid0.N, cc0_transform_5 (grid0.coords t) 0 = (grid0.coords t 0).val ∧ cc0_transform_5 (grid0.coords t) 1 = (grid0.coords t 1).val ∧ cc0_transform_5 (grid0.coords t) 2 = 0 := by decide +kernel

/-- Window 6 moves with both coordinates. -/
theorem ix6 : ∀ t : Fin grid0.N, cc0_transform_6 (grid0.coords t) 0 = (grid0.coords t 0).val ∧ cc0_transform_6 (grid0.coords t) 1 = (grid0.coords t 1).val ∧ cc0_transform_6 (grid0.coords t) 2 = 0 := by decide +kernel

/-- Window 7 moves with both coordinates. -/
theorem ix7 : ∀ t : Fin grid0.N, cc0_transform_7 (grid0.coords t) 0 = (grid0.coords t 0).val ∧ cc0_transform_7 (grid0.coords t) 1 = (grid0.coords t 1).val ∧ cc0_transform_7 (grid0.coords t) 2 = 0 := by decide +kernel

/-- Window 8 moves with both coordinates. -/
theorem ix8 : ∀ t : Fin grid0.N, cc0_transform_8 (grid0.coords t) 0 = (grid0.coords t 0).val ∧ cc0_transform_8 (grid0.coords t) 1 = (grid0.coords t 1).val ∧ cc0_transform_8 (grid0.coords t) 2 = 0 := by decide +kernel

/-- Window 1 moves with the second coordinate. -/
theorem ix1 : ∀ t : Fin grid0.N, cc0_transform_1 (grid0.coords t) 0 = (grid0.coords t 1).val ∧ cc0_transform_1 (grid0.coords t) 1 = 0 := by decide +kernel

/-- Window 2 moves with the second coordinate. -/
theorem ix2 : ∀ t : Fin grid0.N, cc0_transform_2 (grid0.coords t) 0 = (grid0.coords t 1).val ∧ cc0_transform_2 (grid0.coords t) 1 = 0 := by decide +kernel

/-- Every pair of coordinates is some point's. -/
theorem onto : ∀ (p : Fin 2) (q : Fin 2), ∃ t : Fin grid0.N, (grid0.coords t 0).val = p.val ∧ (grid0.coords t 1).val = q.val := by decide +kernel

/-- The gradient at an element of the whole array. -/
abbrev gA (a1 a2 : S512x768.Idx → EReal) (w : BitVec 32) (k : S2x512x768.Idx) : EReal := gsel (BitVec.ofNat 32 (k 0).val) w (a1 (lo3 k)) (a2 (lo3 k))

/-- Where window 0's block lies. -/
theorem emb0 (t : Fin (cfgT m).N) (y : S1x256x768.Idx) : (((cfgT m).win 0).blk t).view.emb y = (pt t y : S2x512x768.Idx) := by
  obtain ⟨e0, e1, e2⟩ := ix0 t
  have h : (y 0).val < 1 := (y 0).isLt
  funext a; apply Fin.ext; fin_cases a
  · show cc0_transform_0 (grid0.coords t) 0 * 1 + 1 * (y 0).val = (grid0.coords t 0).val; omega
  · show cc0_transform_0 (grid0.coords t) 1 * 256 + 1 * (y 1).val = (grid0.coords t 1).val * 256 + (y 1).val; omega
  · show cc0_transform_0 (grid0.coords t) 2 * 768 + 1 * (y 2).val = (y 2).val; omega

/-- Where window 3's block lies. -/
theorem emb3 (t : Fin (cfgT m).N) (y : S1x256x768.Idx) : (((cfgT m).win 3).blk t).view.emb y = (pt t y : S2x512x768.Idx) := by
  obtain ⟨e0, e1, e2⟩ := ix3 t
  have h : (y 0).val < 1 := (y 0).isLt
  funext a; apply Fin.ext; fin_cases a
  · show cc0_transform_3 (grid0.coords t) 0 * 1 + 1 * (y 0).val = (grid0.coords t 0).val; omega
  · show cc0_transform_3 (grid0.coords t) 1 * 256 + 1 * (y 1).val = (grid0.coords t 1).val * 256 + (y 1).val; omega
  · show cc0_transform_3 (grid0.coords t) 2 * 768 + 1 * (y 2).val = (y 2).val; omega

/-- Where window 4's block lies. -/
theorem emb4 (t : Fin (cfgT m).N) (y : S1x256x768.Idx) : (((cfgT m).win 4).blk t).view.emb y = (pt t y : S2x512x768.Idx) := by
  obtain ⟨e0, e1, e2⟩ := ix4 t
  have h : (y 0).val < 1 := (y 0).isLt
  funext a; apply Fin.ext; fin_cases a
  · show cc0_transform_4 (grid0.coords t) 0 * 1 + 1 * (y 0).val = (grid0.coords t 0).val; omega
  · show cc0_transform_4 (grid0.coords t) 1 * 256 + 1 * (y 1).val = (grid0.coords t 1).val * 256 + (y 1).val; omega
  · show cc0_transform_4 (grid0.coords t) 2 * 768 + 1 * (y 2).val = (y 2).val; omega

/-- Where window 5's block lies. -/
theorem emb5 (t : Fin (cfgT m).N) (y : S1x256x768.Idx) : (((cfgT m).win 5).blk t).view.emb y = (pt t y : S2x512x768.Idx) := by
  obtain ⟨e0, e1, e2⟩ := ix5 t
  have h : (y 0).val < 1 := (y 0).isLt
  funext a; apply Fin.ext; fin_cases a
  · show cc0_transform_5 (grid0.coords t) 0 * 1 + 1 * (y 0).val = (grid0.coords t 0).val; omega
  · show cc0_transform_5 (grid0.coords t) 1 * 256 + 1 * (y 1).val = (grid0.coords t 1).val * 256 + (y 1).val; omega
  · show cc0_transform_5 (grid0.coords t) 2 * 768 + 1 * (y 2).val = (y 2).val; omega

/-- Where window 6's block lies. -/
theorem emb6 (t : Fin (cfgT m).N) (y : S1x256x768.Idx) : (((cfgT m).win 6).blk t).view.emb y = (pt t y : S2x512x768.Idx) := by
  obtain ⟨e0, e1, e2⟩ := ix6 t
  have h : (y 0).val < 1 := (y 0).isLt
  funext a; apply Fin.ext; fin_cases a
  · show cc0_transform_6 (grid0.coords t) 0 * 1 + 1 * (y 0).val = (grid0.coords t 0).val; omega
  · show cc0_transform_6 (grid0.coords t) 1 * 256 + 1 * (y 1).val = (grid0.coords t 1).val * 256 + (y 1).val; omega
  · show cc0_transform_6 (grid0.coords t) 2 * 768 + 1 * (y 2).val = (y 2).val; omega

/-- Where window 7's block lies. -/
theorem emb7 (t : Fin (cfgT m).N) (y : S1x256x768.Idx) : (((cfgT m).win 7).blk t).view.emb y = (pt t y : S2x512x768.Idx) := by
  obtain ⟨e0, e1, e2⟩ := ix7 t
  have h : (y 0).val < 1 := (y 0).isLt
  funext a; apply Fin.ext; fin_cases a
  · show cc0_transform_7 (grid0.coords t) 0 * 1 + 1 * (y 0).val = (grid0.coords t 0).val; omega
  · show cc0_transform_7 (grid0.coords t) 1 * 256 + 1 * (y 1).val = (grid0.coords t 1).val * 256 + (y 1).val; omega
  · show cc0_transform_7 (grid0.coords t) 2 * 768 + 1 * (y 2).val = (y 2).val; omega

/-- Where window 8's block lies. -/
theorem emb8 (t : Fin (cfgT m).N) (y : S1x256x768.Idx) : (((cfgT m).win 8).blk t).view.emb y = (pt t y : S2x512x768.Idx) := by
  obtain ⟨e0, e1, e2⟩ := ix8 t
  have h : (y 0).val < 1 := (y 0).isLt
  funext a; apply Fin.ext; fin_cases a
  · show cc0_transform_8 (grid0.coords t) 0 * 1 + 1 * (y 0).val = (grid0.coords t 0).val; omega
  · show cc0_transform_8 (grid0.coords t) 1 * 256 + 1 * (y 1).val = (grid0.coords t 1).val * 256 + (y 1).val; omega
  · show cc0_transform_8 (grid0.coords t) 2 * 768 + 1 * (y 2).val = (y 2).val; omega

/-- Where window 1's block lies. -/
theorem emb1 (t : Fin (cfgT m).N) (y : S1x256x768.Idx) : (((cfgT m).win 1).blk t).view.emb (lo y) = (lo3 (pt t y) : S512x768.Idx) := by
  obtain ⟨e0, e1⟩ := ix1 t
  funext a; apply Fin.ext; fin_cases a
  · show cc0_transform_1 (grid0.coords t) 0 * 256 + 1 * (y 1).val = (grid0.coords t 1).val * 256 + (y 1).val; omega
  · show cc0_transform_1 (grid0.coords t) 1 * 768 + 1 * (y 2).val = (y 2).val; omega

/-- Where window 2's block lies. -/
theorem emb2 (t : Fin (cfgT m).N) (y : S1x256x768.Idx) : (((cfgT m).win 2).blk t).view.emb (lo y) = (lo3 (pt t y) : S512x768.Idx) := by
  obtain ⟨e0, e1⟩ := ix2 t
  funext a; apply Fin.ext; fin_cases a
  · show cc0_transform_2 (grid0.coords t) 0 * 256 + 1 * (y 1).val = (grid0.coords t 1).val * 256 + (y 1).val; omega
  · show cc0_transform_2 (grid0.coords t) 1 * 768 + 1 * (y 2).val = (y 2).val; omega

variable (c : Dev nD)
/-- The weights. -/
abbrev a0 : S2x512x768.Idx → EReal := m ((c : Thread nD τ).loc main_arg0)
/-- The device's own half of the gradient. -/
abbrev a1 : S512x768.Idx → EReal := m ((c : Thread nD τ).loc main_arg1)
/-- The other device's half. -/
abbrev a2 : S512x768.Idx → EReal := m ((c : Thread nD τ).loc main_arg2)
/-- The first moment. -/
abbrev a3 : S2x512x768.Idx → EReal := m ((c : Thread nD τ).loc main_arg3)
/-- The second moment. -/
abbrev a4 : S2x512x768.Idx → EReal := m ((c : Thread nD τ).loc main_arg4)
/-- The device's number. -/
abbrev nr : BitVec 32 := wrd (m ((c : Thread nD τ).loc main_arg5))
/-- The gradient. -/
abbrev gr (k : S2x512x768.Idx) : EReal := gA (a1 m c) (a2 m c) (nr m c) k

/-- The prefetched word is the device's number. -/
theorem tbl_nr : wrd (tbl (F := Ideal) m 0) = nr m c := by
  obtain rfl : c = 0 := Subsingleton.elim _ _
  rfl

/-- Window 0's block at an index. -/
theorem ib0 (t : Fin (cfgT m).N) (y : S1x256x768.Idx) : (iblk (F := Ideal) m (ok m) c 0 t : Vec Ideal S1x256x768 .f32) y = a0 m c (pt t y) := by
  exact Eq.trans (show _ = V (F := Ideal) m c main_arg0 ((((cfgT m).win 0).blk t).view.emb y) from rfl) (congrArg (a0 m c) (emb0 m t y))

/-- Window 3's block at an index. -/
theorem ib3 (t : Fin (cfgT m).N) (y : S1x256x768.Idx) : (iblk (F := Ideal) m (ok m) c 3 t : Vec Ideal S1x256x768 .f32) y = a3 m c (pt t y) := by
  exact Eq.trans (show _ = V (F := Ideal) m c main_arg3 ((((cfgT m).win 3).blk t).view.emb y) from rfl) (congrArg (a3 m c) (emb3 m t y))

/-- Window 4's block at an index. -/
theorem ib4 (t : Fin (cfgT m).N) (y : S1x256x768.Idx) : (iblk (F := Ideal) m (ok m) c 4 t : Vec Ideal S1x256x768 .f32) y = a4 m c (pt t y) := by
  exact Eq.trans (show _ = V (F := Ideal) m c main_arg4 ((((cfgT m).win 4).blk t).view.emb y) from rfl) (congrArg (a4 m c) (emb4 m t y))

/-- Window 1's block at an index. -/
theorem ib1 (t : Fin (cfgT m).N) (y : S1x256x768.Idx) : (iblk (F := Ideal) m (ok m) c 1 t : Vec Ideal S256x768 .f32) (lo y) = a1 m c (lo3 (pt t y)) := by
  exact Eq.trans (show _ = V (F := Ideal) m c main_arg1 ((((cfgT m).win 1).blk t).view.emb (lo y)) from rfl) (congrArg (a1 m c) (emb1 m t y))

/-- Window 2's block at an index. -/
theorem ib2 (t : Fin (cfgT m).N) (y : S1x256x768.Idx) : (iblk (F := Ideal) m (ok m) c 2 t : Vec Ideal S256x768 .f32) (lo y) = a2 m c (lo3 (pt t y)) := by
  exact Eq.trans (show _ = V (F := Ideal) m c main_arg2 ((((cfgT m).win 2).blk t).view.emb (lo y)) from rfl) (congrArg (a2 m c) (emb2 m t y))

/-- The gradient's element of a block is the whole array's. -/
theorem gB_eq (t : Fin grid0.N) (y : S1x256x768.Idx) :
    gB (grid0.coords t) (wrd (tbl (F := Ideal) m 0)) (iblk (F := Ideal) m (ok m) c 1 t) (iblk (F := Ideal) m (ok m) c 2 t) y = gr m c (pt t y) := by
  have e1 := ib1 m c t y
  have e2 := ib2 m c t y
  have e3 := tbl_nr m c
  show gsel (BitVec.ofNat 32 (grid0.coords t 0).val) (wrd (tbl (F := Ideal) m 0)) ((iblk (F := Ideal) m (ok m) c 1 t : Vec Ideal S256x768 .f32) (lo y)) ((iblk (F := Ideal) m (ok m) c 2 t : Vec Ideal S256x768 .f32) (lo y)) = _
  exact (congrArg (fun w => gsel _ w _ _) e3).trans (congrArg₂ (fun u v => gsel _ _ u v) e1 e2)

/-- The gradient as a function of the arguments. -/
def G5 : S2x512x768.Idx → EReal := fun k => gr m c k

/-- Each point writes back its block of it. -/
theorem flushed5 (t : Fin (cfgT m).N) : (dat m c).flushed 5 t = (((cfgT m).win 5).blk t).view.read (Elt Ideal) (G5 m c) := by
  have hL : (outsAt0 (F := Ideal) m (ok m) c t).1 = k0_pay5 (grid0.coords t) (wrd (tbl (F := Ideal) m 0)) (iblk (F := Ideal) m (ok m) c 1 t) (iblk (F := Ideal) m (ok m) c 2 t) := by
    unfold outsAt0
    dsimp only
    exact out5 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x768.Idx, (outsAt0 (F := Ideal) m (ok m) c t).1 y = G5 m c (pt t y) := by
    intro y
    rw [hL]
    unfold G5
    refine (pay5_apply _ _ _ _ y).trans (gB_eq m c t y)
  show ((cfgT m).win 5).cut (grid0.coords t) ((dats (F := Ideal) m (ok m) 0 c).after 5 t) = _
  rw [after0_5]
  funext y
  refine Eq.trans ?_ (Eq.trans (hV y) ?_)
  · rfl
  · exact (Eq.trans (show _ = G5 m c ((((cfgT m).win 5).blk t).view.emb y) from rfl) (congrArg (G5 m c) (emb5 m t y))).symm

/-- Every element is some point's. -/
theorem cover5 (k : S2x512x768.Idx) : ∃ t : Fin (cfgT m).N, ((cfgT m).win 5).flush t = true ∧ k ∈ (((cfgT m).win 5).blk t).view.set := by
  have h0 : (k 0).val < 2 := (k 0).isLt
  have h1 : (k 1).val < 512 := (k 1).isLt
  have h2 : (k 2).val < 768 := (k 2).isLt
  obtain ⟨t, t0, t1⟩ := onto ⟨(k 0).val, h0⟩ ⟨(k 1).val / 256, by omega⟩
  refine ⟨t, flush0_5 _ t, ?_⟩
  have e : k = (((cfgT m).win 5).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x768.Idx)) := by
    refine Eq.trans ?_ (emb5 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin5 : (dat m c).arrAt 5 (cfgT m).N = G5 m c :=
  (dat m c).arrAt_eq_of_cover 5 _ (fun t _ => flushed5 m c t) (fun k => cover5 m k)

/-- The step as a function of the arguments. -/
def G6 : S2x512x768.Idx → EReal := fun k => dlt (a0 m c k) (mom (a3 m c k) (gr m c k)) (sec (a4 m c k) (gr m c k))

/-- Each point writes back its block of it. -/
theorem flushed6 (t : Fin (cfgT m).N) : (dat m c).flushed 6 t = (((cfgT m).win 6).blk t).view.read (Elt Ideal) (G6 m c) := by
  have hL : (outsAt0 (F := Ideal) m (ok m) c t).2.1 = k0_pay1 (k0_pay6 (iblk (F := Ideal) m (ok m) c 0 t)) (k0_pay9 (grid0.coords t) (wrd (tbl (F := Ideal) m 0)) (iblk (F := Ideal) m (ok m) c 1 t) (iblk (F := Ideal) m (ok m) c 2 t) (iblk (F := Ideal) m (ok m) c 3 t) (iblk (F := Ideal) m (ok m) c 4 t)) := by
    unfold outsAt0
    dsimp only
    exact out6 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x768.Idx, (outsAt0 (F := Ideal) m (ok m) c t).2.1 y = G6 m c (pt t y) := by
    intro y
    rw [hL]
    unfold G6
    refine (pay1_apply (grid0.coords t) (wrd (tbl (F := Ideal) m 0)) (iblk (F := Ideal) m (ok m) c 0 t) (iblk (F := Ideal) m (ok m) c 1 t) (iblk (F := Ideal) m (ok m) c 2 t) (iblk (F := Ideal) m (ok m) c 3 t) (iblk (F := Ideal) m (ok m) c 4 t) y).trans ?_
    have e0 := ib0 m c t y
    have e3 := ib3 m c t y
    have e4 := ib4 m c t y
    have eg := gB_eq m c t y
    exact dlt_congr e0 (congrArg₂ mom e3 eg) (congrArg₂ sec e4 eg)
  show ((cfgT m).win 6).cut (grid0.coords t) ((dats (F := Ideal) m (ok m) 0 c).after 6 t) = _
  rw [after0_6]
  funext y
  refine Eq.trans ?_ (Eq.trans (hV y) ?_)
  · rfl
  · exact (Eq.trans (show _ = G6 m c ((((cfgT m).win 6).blk t).view.emb y) from rfl) (congrArg (G6 m c) (emb6 m t y))).symm

/-- Every element is some point's. -/
theorem cover6 (k : S2x512x768.Idx) : ∃ t : Fin (cfgT m).N, ((cfgT m).win 6).flush t = true ∧ k ∈ (((cfgT m).win 6).blk t).view.set := by
  have h0 : (k 0).val < 2 := (k 0).isLt
  have h1 : (k 1).val < 512 := (k 1).isLt
  have h2 : (k 2).val < 768 := (k 2).isLt
  obtain ⟨t, t0, t1⟩ := onto ⟨(k 0).val, h0⟩ ⟨(k 1).val / 256, by omega⟩
  refine ⟨t, flush0_6 _ t, ?_⟩
  have e : k = (((cfgT m).win 6).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x768.Idx)) := by
    refine Eq.trans ?_ (emb6 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin6 : (dat m c).arrAt 6 (cfgT m).N = G6 m c :=
  (dat m c).arrAt_eq_of_cover 6 _ (fun t _ => flushed6 m c t) (fun k => cover6 m k)

/-- The new first moment as a function of the arguments. -/
def G7 : S2x512x768.Idx → EReal := fun k => mom (a3 m c k) (gr m c k)

/-- Each point writes back its block of it. -/
theorem flushed7 (t : Fin (cfgT m).N) : (dat m c).flushed 7 t = (((cfgT m).win 7).blk t).view.read (Elt Ideal) (G7 m c) := by
  have hL : (outsAt0 (F := Ideal) m (ok m) c t).2.2.1 = k0_pay2 (k0_pay7 (grid0.coords t) (wrd (tbl (F := Ideal) m 0)) (iblk (F := Ideal) m (ok m) c 1 t) (iblk (F := Ideal) m (ok m) c 2 t) (iblk (F := Ideal) m (ok m) c 3 t)) := by
    unfold outsAt0
    dsimp only
    exact out7 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x768.Idx, (outsAt0 (F := Ideal) m (ok m) c t).2.2.1 y = G7 m c (pt t y) := by
    intro y
    rw [hL]
    unfold G7
    refine ((cast_up _ y).trans (pay7_apply _ _ _ _ _ y)).trans ?_
    exact congrArg₂ mom (ib3 m c t y) (gB_eq m c t y)
  show ((cfgT m).win 7).cut (grid0.coords t) ((dats (F := Ideal) m (ok m) 0 c).after 7 t) = _
  rw [after0_7]
  funext y
  refine Eq.trans ?_ (Eq.trans (hV y) ?_)
  · rfl
  · exact (Eq.trans (show _ = G7 m c ((((cfgT m).win 7).blk t).view.emb y) from rfl) (congrArg (G7 m c) (emb7 m t y))).symm

/-- Every element is some point's. -/
theorem cover7 (k : S2x512x768.Idx) : ∃ t : Fin (cfgT m).N, ((cfgT m).win 7).flush t = true ∧ k ∈ (((cfgT m).win 7).blk t).view.set := by
  have h0 : (k 0).val < 2 := (k 0).isLt
  have h1 : (k 1).val < 512 := (k 1).isLt
  have h2 : (k 2).val < 768 := (k 2).isLt
  obtain ⟨t, t0, t1⟩ := onto ⟨(k 0).val, h0⟩ ⟨(k 1).val / 256, by omega⟩
  refine ⟨t, flush0_7 _ t, ?_⟩
  have e : k = (((cfgT m).win 7).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x768.Idx)) := by
    refine Eq.trans ?_ (emb7 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin7 : (dat m c).arrAt 7 (cfgT m).N = G7 m c :=
  (dat m c).arrAt_eq_of_cover 7 _ (fun t _ => flushed7 m c t) (fun k => cover7 m k)

/-- The new second moment as a function of the arguments. -/
def G8 : S2x512x768.Idx → EReal := fun k => sec (a4 m c k) (gr m c k)

/-- Each point writes back its block of it. -/
theorem flushed8 (t : Fin (cfgT m).N) : (dat m c).flushed 8 t = (((cfgT m).win 8).blk t).view.read (Elt Ideal) (G8 m c) := by
  have hL : (outsAt0 (F := Ideal) m (ok m) c t).2.2.2 = k0_pay3 (k0_pay8 (grid0.coords t) (wrd (tbl (F := Ideal) m 0)) (iblk (F := Ideal) m (ok m) c 1 t) (iblk (F := Ideal) m (ok m) c 2 t) (iblk (F := Ideal) m (ok m) c 4 t)) := by
    unfold outsAt0
    dsimp only
    exact out8 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x768.Idx, (outsAt0 (F := Ideal) m (ok m) c t).2.2.2 y = G8 m c (pt t y) := by
    intro y
    rw [hL]
    unfold G8
    refine ((cast_up _ y).trans (pay8_apply _ _ _ _ _ y)).trans ?_
    exact congrArg₂ sec (ib4 m c t y) (gB_eq m c t y)
  show ((cfgT m).win 8).cut (grid0.coords t) ((dats (F := Ideal) m (ok m) 0 c).after 8 t) = _
  rw [after0_8]
  funext y
  refine Eq.trans ?_ (Eq.trans (hV y) ?_)
  · rfl
  · exact (Eq.trans (show _ = G8 m c ((((cfgT m).win 8).blk t).view.emb y) from rfl) (congrArg (G8 m c) (emb8 m t y))).symm

/-- Every element is some point's. -/
theorem cover8 (k : S2x512x768.Idx) : ∃ t : Fin (cfgT m).N, ((cfgT m).win 8).flush t = true ∧ k ∈ (((cfgT m).win 8).blk t).view.set := by
  have h0 : (k 0).val < 2 := (k 0).isLt
  have h1 : (k 1).val < 512 := (k 1).isLt
  have h2 : (k 2).val < 768 := (k 2).isLt
  obtain ⟨t, t0, t1⟩ := onto ⟨(k 0).val, h0⟩ ⟨(k 1).val / 256, by omega⟩
  refine ⟨t, flush0_8 _ t, ?_⟩
  have e : k = (((cfgT m).win 8).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x768.Idx)) := by
    refine Eq.trans ?_ (emb8 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin8 : (dat m c).arrAt 8 (cfgT m).N = G8 m c :=
  (dat m c).arrAt_eq_of_cover 8 _ (fun t _ => flushed8 m c t) (fun k => cover8 m k)

/-- The reference's gradient. -/
theorem ref7 (x1 x2 : S512x768.Idx → EReal) (x5 : S1.Idx → BitVec 32) (k : S2x512x768.Idx) :
    Cert.AdamqkvRefIdeal.Read.val_main_v7 (F := Ideal) x1 x2 x5 k = gA x1 x2 (wrd x5) k := by
  rw [Cert.AdamqkvRefIdeal.Read.val_main_v7_apply, Cert.AdamqkvRefIdeal.Read.val_main_call0_v0_apply, Cert.AdamqkvRefIdeal.Read.val_main_call0_v1_apply, Cert.AdamqkvRefIdeal.Read.val_main_call0_v2_apply,
    Cert.AdamqkvRefIdeal.Read.val_main_v4_apply, Cert.AdamqkvRefIdeal.Read.val_main_v3_apply, Cert.AdamqkvRefIdeal.Read.val_main_v2_apply, Cert.AdamqkvRefIdeal.Read.val_main_v5_apply, Cert.AdamqkvRefIdeal.Read.val_main_v6_apply]
  have e : ∀ z, Cert.AdamqkvRefIdeal.Read.val_main_v1 (F := Ideal) x5 z = wrd x5 := fun z => one_idx x5 _
  rw [e]
  have e1 : Cert.AdamqkvRefIdeal.Read.idx_main_v5 (Cert.AdamqkvRefIdeal.Read.idx_main_call0_v1 k) = lo3 k := by funext a; fin_cases a <;> rfl
  have e2 : Cert.AdamqkvRefIdeal.Read.idx_main_v6 (Cert.AdamqkvRefIdeal.Read.idx_main_call0_v2 k) = lo3 k := by funext a; fin_cases a <;> rfl
  rw [e1, e2]
  rfl

/-- The reference's new first moment. -/
theorem ref12 (x1 x2 : S512x768.Idx → EReal) (x3 : S2x512x768.Idx → EReal) (x5 : S1.Idx → BitVec 32) (k : S2x512x768.Idx) :
    Cert.AdamqkvRefIdeal.Read.val_main_v12 (F := Ideal) x1 x2 x3 x5 k = mom (x3 k) (gA x1 x2 (wrd x5) k) := by
  rw [← ref7]; rfl

/-- The reference's new second moment. -/
theorem ref18 (x1 x2 : S512x768.Idx → EReal) (x4 : S2x512x768.Idx → EReal) (x5 : S1.Idx → BitVec 32) (k : S2x512x768.Idx) :
    Cert.AdamqkvRefIdeal.Read.val_main_v18 (F := Ideal) x1 x2 x4 x5 k = sec (x4 k) (gA x1 x2 (wrd x5) k) := by
  rw [← ref7]; rfl

/-- The reference's step. -/
theorem ref31 (x0 : S2x512x768.Idx → EReal) (x1 x2 : S512x768.Idx → EReal) (x3 x4 : S2x512x768.Idx → EReal) (x5 : S1.Idx → BitVec 32) (k : S2x512x768.Idx) :
    Cert.AdamqkvRefIdeal.Read.val_main_v31 (F := Ideal) x0 x1 x2 x3 x4 x5 k = dlt (x0 k) (mom (x3 k) (gA x1 x2 (wrd x5) k)) (sec (x4 k) (gA x1 x2 (wrd x5) k)) := by
  have h : Cert.AdamqkvRefIdeal.Read.val_main_v31 (F := Ideal) x0 x1 x2 x3 x4 x5 k = Ideal.ofBits .f32 0xBA83126F#32 * (Ideal.div (Ideal.div (Cert.AdamqkvRefIdeal.Read.val_main_v12 (F := Ideal) x1 x2 x3 x5 k) (Ideal.ofBits .f32 0x3F26BD02#32))
      (Ideal.sqrt (Ideal.div (Cert.AdamqkvRefIdeal.Read.val_main_v18 (F := Ideal) x1 x2 x4 x5 k) (Ideal.ofBits .f32 0x3C231ACC#32)) + Ideal.ofBits .f32 0x322BCC77#32) + Ideal.ofBits .f32 0x3C23D70A#32 * x0 k) := rfl
  rw [h, ref12, ref18, div1, div2]

/-- The kernel's arrays and the reference's results are the same functions of the arguments. -/
theorem alg (hK : Cert.AdamqkvIdeal.Facts) (hR : Cert.AdamqkvRefIdeal.Facts) : @Cert.algebraic_AdamqkvIdeal_AdamqkvRefIdeal hK hR := by
  intro m ρ m' ρ' _ hag
  refine ⟨_, _, _, _, (θ_run _ _ _).mono (fun r h c => ⟨(h c).1 5, (h c).1 6, (h c).1 7, (h c).1 8,
    ((h c).1 0).trans (((dat m c).arrAt_in 0 rfl _).trans ((A_eq m (ok m) c 0).trans (V_main_arg0 m c))),
    ((h c).1 1).trans (((dat m c).arrAt_in 1 rfl _).trans ((A_eq m (ok m) c 1).trans (V_main_arg1 m c))),
    ((h c).1 2).trans (((dat m c).arrAt_in 2 rfl _).trans ((A_eq m (ok m) c 2).trans (V_main_arg2 m c))),
    ((h c).1 3).trans (((dat m c).arrAt_in 3 rfl _).trans ((A_eq m (ok m) c 3).trans (V_main_arg3 m c))),
    ((h c).1 4).trans (((dat m c).arrAt_in 4 rfl _).trans ((A_eq m (ok m) c 4).trans (V_main_arg4 m c))), ((h c).2 main_arg5 (by decide : main_arg5 ∈ Pipeline.restRefs sig spec0)).trans (V_main_arg5 m c)⟩) (run_main m ρ (ok m)), ?_⟩
  refine (θ_run _ _ _).mono (fun r h c => ?_) (Cert.AdamqkvRefIdeal.Value.run m' ρ')
  obtain ⟨a, b, d, e, f⟩ := h c
  obtain ⟨g0, g1, g2, g3, g4, g5⟩ := hag c
  rw [Cert.AdamqkvRefIdeal.Read.val_main_v7_eq, g1, g2, g5] at a
  rw [Cert.AdamqkvRefIdeal.Read.val_main_v31_eq, g0, g1, g2, g3, g4, g5] at b
  rw [Cert.AdamqkvRefIdeal.Read.val_main_v12_eq, g1, g2, g3, g5] at d
  rw [Cert.AdamqkvRefIdeal.Read.val_main_v18_eq, g1, g2, g4, g5] at e
  exact ⟨a.trans ((funext fun k => ref7 _ _ _ k).trans (fin5 m c).symm), b.trans ((funext fun k => ref31 _ _ _ _ _ _ k).trans (fin6 m c).symm),
    d.trans ((funext fun k => ref12 _ _ _ _ k).trans (fin7 m c).symm), e.trans ((funext fun k => ref18 _ _ _ _ k).trans (fin8 m c).symm), f⟩

end Cert.AdamqkvFinal

end
-- ==== Proof.AdaminFinal.lean ====
module

public import proofs.«01_k».proof.Proof.AdamsFinal
public import proofs.«01_k».proof.Proof.Gen.AdaminIdeal.Frame
public import proofs.«01_k».proof.Proof.Gen.AdaminRefIdeal.Read
public import proofs.«01_k».proof.Defs
public import Idealize.ShloMosaic.Lib.Claim
public import Idealize.ShloMosaic.Lib.Pipeline.Value
public import Idealize.ShloMosaic.Lib.Pointwise

@[expose] public section

/-!
# The optimiser on the recurrence's first projection

The gradient of row half `p` is the device's own half where `p` is the device's number and the other device's half
elsewhere; the step is then the same function of each element in both programs.
-/

set_option maxRecDepth 16384

noncomputable section

namespace Cert.AdaminFinal

open Cert.AdaminIdeal Cert.AdaminIdeal.Gen Cert.AdamsFinal Idealize.ShloMosaic Idealize.ShloMosaic.TcCoe Idealize.SL.Sem
open Idealize.ShloMosaic.Pipeline (Dat)

/-- At each named literal the program over the reals takes the exact value. -/
theorem names : Cert.preserves_Adamin_AdaminIdeal :=
  ⟨IdealRules.named_const.statement κ "corr1" .f32 0x3FC48605#32 kC1 rfl, IdealRules.named_const.statement κ "corr2" .f32 0x42C8E6D3#32 kC2 rfl⟩

/-- The first correction as the kernel reads it. -/
theorem nam1 : Named.named (F := Ideal) (φ := .f32) κ "corr1" 0x3FC48605#32 = kC1 := IdealRules.named_const.ideal_named_scalar _ _ _ _ rfl
/-- The second correction as the kernel reads it. -/
theorem nam2 : Named.named (F := Ideal) (φ := .f32) κ "corr2" 0x42C8E6D3#32 = kC2 := IdealRules.named_const.ideal_named_scalar _ _ _ _ rfl

/-- One half or the other, by the device's number. -/
abbrev gsel (b w : BitVec 32) (x y : EReal) : EReal := Scalar.select (Scalar.cmpi .eq b w) x y
/-- The new first moment. -/
abbrev mom (x g : EReal) : EReal := Ideal.ofBits .f32 0x3F666666#32 * x + Ideal.ofBits .f32 0x3DCCCCCD#32 * g
/-- The new second moment. -/
abbrev sec (x g : EReal) : EReal := Ideal.ofBits .f32 0x3F7FBE77#32 * x + Ideal.ofBits .f32 0x3A83126F#32 * (g * g)
/-- The step, of the weight and the two new moments. -/
abbrev dlt (w a b : EReal) : EReal := Ideal.ofBits .f32 0xBA83126F#32 * (Ideal.div (a * kC1) (Ideal.sqrt (b * kC2) + Ideal.ofBits .f32 0x322BCC77#32) + Ideal.ofBits .f32 0x3C23D70A#32 * w)

/-- The step of equal things. -/
theorem dlt_congr {w w' a a' b b' : EReal} (h : w = w') (ha : a = a') (hb : b = b') : dlt w a b = dlt w' a' b' := by rw [h, ha, hb]

/-- The device's number out of its one-word array. -/
def wrd (f : S1.Idx → BitVec 32) : BitVec 32 := f (fun a => ⟨0, by fin_cases a; exact Nat.one_pos⟩)

/-- The one-word array has one index. -/
theorem one_idx (f : S1.Idx → BitVec 32) (k : S1.Idx) : f k = wrd f := by
  unfold wrd
  refine congrArg f (funext fun a => Fin.ext ?_)
  fin_cases a
  have h : (k 0).val < 1 := (k 0).isLt
  show (k 0).val = 0
  omega

theorem hz : (![0, 0] : Fin 2 → Nat) = fun _ => 0 := funext fun a => by fin_cases a <;> rfl
theorem hz3 : (![0, 0, 0] : Fin 3 → Nat) = fun _ => 0 := funext fun a => by fin_cases a <;> rfl

/-! ## One block -/

/-- A block's index without its leading axis. -/
abbrev lo (y : S1x256x512.Idx) : S256x512.Idx := fun a => match a with
  | ⟨0, _⟩ => ⟨(y 1).val, (y 1).isLt⟩
  | ⟨1, _⟩ => ⟨(y 2).val, (y 2).isLt⟩

/-- Adding the leading axis. -/
theorem cast_up (v : FVec Ideal S256x512 .f32) (y : S1x256x512.Idx) : shapeCast S1x256x512 v shapeCasts_S256x512_S1x256x512 y = v (lo y) := by
  refine (shapeCast_addUnit_apply ![256, 512] v shapeCasts_S256x512_S1x256x512 y).trans (congrArg v ?_)
  funext a; fin_cases a <;> rfl

/-- Dropping it again. -/
theorem cast_lo (v : FVec Ideal S1x256x512 .f32) (y : S1x256x512.Idx) : shapeCast S256x512 v shapeCasts_S1x256x512_S256x512 (lo y) = v y := by
  refine (shapeCast_dropUnit_apply ![256, 512] v shapeCasts_S1x256x512_S256x512 (lo y)).trans (congrArg v ?_)
  have h : (y 0).val < 1 := (y 0).isLt
  funext a; apply Fin.ext; fin_cases a
  · show 0 = (y 0).val; omega
  · rfl
  · rfl

section Block
variable (i : grid0.Coords) (w : BitVec 32) (x0 : Vec Ideal S1x256x512 .f32) (x1 : Vec Ideal S256x512 .f32) (x2 : Vec Ideal S256x512 .f32) (x3 : Vec Ideal S1x256x512 .f32) (x4 : Vec Ideal S1x256x512 .f32)

/-- The gradient's element of a block. -/
abbrev gB (y : S1x256x512.Idx) : EReal := gsel (BitVec.ofNat 32 (i 0).val) w (x1 (lo y)) (x2 (lo y))

/-- The chosen half at an index. -/
theorem pay4_apply (y : S1x256x512.Idx) : k0_pay4 (F := Ideal) i w x1 x2 (lo y) = gB i w x1 x2 y := by
  show (Scalar.select (Scalar.cmpi .eq (BitVec.ofNat 32 (i 0).val) w) x1 x2) (lo y) = Scalar.select (Scalar.cmpi .eq (BitVec.ofNat 32 (i 0).val) w) (x1 (lo y)) (x2 (lo y))
  unfold Scalar.select
  split <;> rfl

/-- The stored gradient. -/
theorem pay5_apply (y : S1x256x512.Idx) : k0_pay5 (F := Ideal) i w x1 x2 y = gB i w x1 x2 y :=
  (cast_up _ y).trans (pay4_apply i w x1 x2 y)

/-- The new first moment at an index. -/
theorem pay7_apply (y : S1x256x512.Idx) : k0_pay7 (F := Ideal) i w x1 x2 x3 (lo y) = mom (x3 y) (gB i w x1 x2 y) := by
  show Ideal.ofBits .f32 0x3F666666#32 * shapeCast S256x512 x3 shapeCasts_S1x256x512_S256x512 (lo y) + Ideal.ofBits .f32 0x3DCCCCCD#32 * k0_pay4 (F := Ideal) i w x1 x2 (lo y) = _
  rw [cast_lo, pay4_apply]

/-- The new second moment at an index. -/
theorem pay8_apply (y : S1x256x512.Idx) : k0_pay8 (F := Ideal) i w x1 x2 x4 (lo y) = sec (x4 y) (gB i w x1 x2 y) := by
  show Ideal.ofBits .f32 0x3F7FBE77#32 * shapeCast S256x512 x4 shapeCasts_S1x256x512_S256x512 (lo y) + Ideal.ofBits .f32 0x3A83126F#32 * (k0_pay4 (F := Ideal) i w x1 x2 (lo y) * k0_pay4 (F := Ideal) i w x1 x2 (lo y)) = _
  rw [cast_lo, pay4_apply]

/-- The stored step at an index. -/
theorem pay1_apply (y : S1x256x512.Idx) :
    k0_pay1 (F := Ideal) (k0_pay6 x0) (k0_pay9 i w x1 x2 x3 x4) y = dlt (x0 y) (mom (x3 y) (gB i w x1 x2 y)) (sec (x4 y) (gB i w x1 x2 y)) := by
  refine (cast_up (mulf (broadcast S256x512 (Scalar.ofBits .f32 0xBA83126F#32)) (addf (k0_pay9 (F := Ideal) i w x1 x2 x3 x4) (mulf (broadcast S256x512 (Scalar.ofBits .f32 0x3C23D70A#32)) (k0_pay6 (F := Ideal) x0)))) y).trans ?_
  show Ideal.ofBits .f32 0xBA83126F#32 * (Ideal.div (k0_pay7 (F := Ideal) i w x1 x2 x3 (lo y) * Named.named (F := Ideal) (φ := .f32) κ "corr1" 0x3FC48605#32)
      (Ideal.sqrt (k0_pay8 (F := Ideal) i w x1 x2 x4 (lo y) * Named.named (F := Ideal) (φ := .f32) κ "corr2" 0x42C8E6D3#32) + Ideal.ofBits .f32 0x322BCC77#32)
      + Ideal.ofBits .f32 0x3C23D70A#32 * shapeCast S256x512 x0 shapeCasts_S1x256x512_S256x512 (lo y)) = _
  rw [nam1, nam2, pay7_apply, pay8_apply, cast_lo]

end Block

section Case
variable (c : Dev nD) (i : grid0.Coords) (arg3 : Memref sig .tc .vmem S1x256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x512 .f32) (harg8 : arg8.IsWhole) (arg9 : Memref sig .tc .vmem S1x256x512 .f32) (harg9 : arg9.IsWhole) (arg10 : Memref sig .tc .vmem S1x256x512 .f32) (harg10 : arg10.IsWhole) (arg11 : Memref sig .tc .vmem S1x256x512 .f32) (harg11 : arg11.IsWhole)
    (x0 : Vec Ideal S1x256x512 .f32) (x1 : Vec Ideal S256x512 .f32) (x2 : Vec Ideal S256x512 .f32) (x3 : Vec Ideal S1x256x512 .f32) (x4 : Vec Ideal S1x256x512 .f32) (xt0 : TbBuf0 (F := Ideal) c tbM0_0)

/-- What a point leaves of the gradient. -/
theorem out5 : out0_A_5 (F := Ideal) c i arg3 harg3 arg4 harg4 arg5 harg5 arg6 harg6 arg7 harg7 arg8 harg8 arg9 harg9 arg10 harg10 arg11 harg11 x0 x1 x2 x3 x4 xt0 = k0_pay5 i (wrd xt0) x1 x2 := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x512) hz3, View.readAt_eq_ld, harg3.read_unread, harg4.read_unread, harg5.read_unread, harg6.read_unread, harg7.read_unread, View.ld_unit_zero (S := S1x256x512) hz3, View.ld_unit_zero (S := S256x512) hz]
  exact congrArg (fun w => k0_pay5 i w x1 x2) (one_idx xt0 _)

/-- What a point leaves of the step. -/
theorem out6 : out0_A_6 (F := Ideal) c i arg3 harg3 arg4 harg4 arg5 harg5 arg6 harg6 arg7 harg7 arg8 harg8 arg9 harg9 arg10 harg10 arg11 harg11 x0 x1 x2 x3 x4 xt0 = k0_pay1 (k0_pay6 x0) (k0_pay9 i (wrd xt0) x1 x2 x3 x4) := by
  unfold out0_A_6
  rw [View.read_writes_eq_canon _ _ _ (cover0_A_6 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x512) hz3, View.readAt_eq_ld, harg3.read_unread, harg4.read_unread, harg5.read_unread, harg6.read_unread, harg7.read_unread, View.ld_unit_zero (S := S1x256x512) hz3, View.ld_unit_zero (S := S256x512) hz]
  exact congrArg (fun w => k0_pay1 (k0_pay6 x0) (k0_pay9 i w x1 x2 x3 x4)) (one_idx xt0 _)

/-- What a point leaves of the new first moment. -/
theorem out7 : out0_A_7 (F := Ideal) c i arg3 harg3 arg4 harg4 arg5 harg5 arg6 harg6 arg7 harg7 arg8 harg8 arg9 harg9 arg10 harg10 arg11 harg11 x0 x1 x2 x3 x4 xt0 = k0_pay2 (k0_pay7 i (wrd xt0) x1 x2 x3) := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x512) hz3, View.readAt_eq_ld, harg3.read_unread, harg4.read_unread, harg5.read_unread, harg6.read_unread, harg7.read_unread, View.ld_unit_zero (S := S1x256x512) hz3, View.ld_unit_zero (S := S256x512) hz]
  exact congrArg (fun w => k0_pay2 (k0_pay7 i w x1 x2 x3)) (one_idx xt0 _)

/-- What a point leaves of the new second moment. -/
theorem out8 : out0_A_8 (F := Ideal) c i arg3 harg3 arg4 harg4 arg5 harg5 arg6 harg6 arg7 harg7 arg8 harg8 arg9 harg9 arg10 harg10 arg11 harg11 x0 x1 x2 x3 x4 xt0 = k0_pay3 (k0_pay8 i (wrd xt0) x1 x2 x4) := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x256x512) hz3, View.readAt_eq_ld, harg3.read_unread, harg4.read_unread, harg5.read_unread, harg6.read_unread, harg7.read_unread, View.ld_unit_zero (S := S1x256x512) hz3, View.ld_unit_zero (S := S256x512) hz]
  exact congrArg (fun w => k0_pay3 (k0_pay8 i w x1 x2 x4)) (one_idx xt0 _)

end Case

/-! ## The whole arrays -/

variable (m : (ℓ : Loc nD τ sig) → Buf (Elt Ideal) ℓ)

/-- Nothing is asked of the prefetched word. -/
theorem ok : Ok (F := Ideal) m := trivial

/-- The pipeline. -/
abbrev cfgT : Pipeline.Cfg sig Λ₀ := cfgM (F := Ideal) m (ok m)
/-- Its proof data. -/
abbrev dat (c : Dev nD) := dats (F := Ideal) m (ok m) 0 c

/-- The element of the whole array at place `y` of point `t`'s block. -/
def pt (t : Fin grid0.N) (y : S1x256x512.Idx) : S2x512x512.Idx := fun a => match a with
  | ⟨0, _⟩ => ⟨(grid0.coords t 0).val, (grid0.coords t 0).isLt⟩
  | ⟨1, _⟩ => ⟨(grid0.coords t 1).val * 256 + (y 1).val, by have h : (grid0.coords t 1).val < 2 := (grid0.coords t 1).isLt; have h' : (y 1).val < 256 := (y 1).isLt; show _ < 512; omega⟩
  | ⟨2, _⟩ => ⟨(y 2).val, (y 2).isLt⟩

/-- The element of a half that element of the whole array is chosen from. -/
abbrev lo3 (k : S2x512x512.Idx) : S512x512.Idx := fun a => match a with
  | ⟨0, _⟩ => ⟨(k 1).val, (k 1).isLt⟩
  | ⟨1, _⟩ => ⟨(k 2).val, (k 2).isLt⟩

/-- Window 0 moves with both coordinates. -/
theorem ix0 : ∀ t : Fin grid0.N, cc0_transform_0 (grid0.coords t) 0 = (grid0.coords t 0).val ∧ cc0_transform_0 (grid0.coords t) 1 = (grid0.coords t 1).val ∧ cc0_transform_0 (grid0.coords t) 2 = 0 := by decide +kernel

/-- Window 3 moves with both coordinates. -/
theorem ix3 : ∀ t : Fin grid0.N, cc0_transform_3 (grid0.coords t) 0 = (grid0.coords t 0).val ∧ cc0_transform_3 (grid0.coords t) 1 = (grid0.coords t 1).val ∧ cc0_transform_3 (grid0.coords t) 2 = 0 := by decide +kernel

/-- Window 4 moves with both coordinates. -/
theorem ix4 : ∀ t : Fin grid0.N, cc0_transform_4 (grid0.coords t) 0 = (grid0.coords t 0).val ∧ cc0_transform_4 (grid0.coords t) 1 = (grid0.coords t 1).val ∧ cc0_transform_4 (grid0.coords t) 2 = 0 := by decide +kernel

/-- Window 5 moves with both coordinates. -/
theorem ix5 : ∀ t : Fin grid0.N, cc0_transform_5 (grid0.coords t) 0 = (grid0.coords t 0).val ∧ cc0_transform_5 (grid0.coords t) 1 = (grid0.coords t 1).val ∧ cc0_transform_5 (grid0.coords t) 2 = 0 := by decide +kernel

/-- Window 6 moves with both coordinates. -/
theorem ix6 : ∀ t : Fin grid0.N, cc0_transform_6 (grid0.coords t) 0 = (grid0.coords t 0).val ∧ cc0_transform_6 (grid0.coords t) 1 = (grid0.coords t 1).val ∧ cc0_transform_6 (grid0.coords t) 2 = 0 := by decide +kernel

/-- Window 7 moves with both coordinates. -/
theorem ix7 : ∀ t : Fin grid0.N, cc0_transform_7 (grid0.coords t) 0 = (grid0.coords t 0).val ∧ cc0_transform_7 (grid0.coords t) 1 = (grid0.coords t 1).val ∧ cc0_transform_7 (grid0.coords t) 2 = 0 := by decide +kernel

/-- Window 8 moves with both coordinates. -/
theorem ix8 : ∀ t : Fin grid0.N, cc0_transform_8 (grid0.coords t) 0 = (grid0.coords t 0).val ∧ cc0_transform_8 (grid0.coords t) 1 = (grid0.coords t 1).val ∧ cc0_transform_8 (grid0.coords t) 2 = 0 := by decide +kernel

/-- Window 1 moves with the second coordinate. -/
theorem ix1 : ∀ t : Fin grid0.N, cc0_transform_1 (grid0.coords t) 0 = (grid0.coords t 1).val ∧ cc0_transform_1 (grid0.coords t) 1 = 0 := by decide +kernel

/-- Window 2 moves with the second coordinate. -/
theorem ix2 : ∀ t : Fin grid0.N, cc0_transform_2 (grid0.coords t) 0 = (grid0.coords t 1).val ∧ cc0_transform_2 (grid0.coords t) 1 = 0 := by decide +kernel

/-- Every pair of coordinates is some point's. -/
theorem onto : ∀ (p : Fin 2) (q : Fin 2), ∃ t : Fin grid0.N, (grid0.coords t 0).val = p.val ∧ (grid0.coords t 1).val = q.val := by decide +kernel

/-- The gradient at an element of the whole array. -/
abbrev gA (a1 a2 : S512x512.Idx → EReal) (w : BitVec 32) (k : S2x512x512.Idx) : EReal := gsel (BitVec.ofNat 32 (k 0).val) w (a1 (lo3 k)) (a2 (lo3 k))

/-- Where window 0's block lies. -/
theorem emb0 (t : Fin (cfgT m).N) (y : S1x256x512.Idx) : (((cfgT m).win 0).blk t).view.emb y = (pt t y : S2x512x512.Idx) := by
  obtain ⟨e0, e1, e2⟩ := ix0 t
  have h : (y 0).val < 1 := (y 0).isLt
  funext a; apply Fin.ext; fin_cases a
  · show cc0_transform_0 (grid0.coords t) 0 * 1 + 1 * (y 0).val = (grid0.coords t 0).val; omega
  · show cc0_transform_0 (grid0.coords t) 1 * 256 + 1 * (y 1).val = (grid0.coords t 1).val * 256 + (y 1).val; omega
  · show cc0_transform_0 (grid0.coords t) 2 * 512 + 1 * (y 2).val = (y 2).val; omega

/-- Where window 3's block lies. -/
theorem emb3 (t : Fin (cfgT m).N) (y : S1x256x512.Idx) : (((cfgT m).win 3).blk t).view.emb y = (pt t y : S2x512x512.Idx) := by
  obtain ⟨e0, e1, e2⟩ := ix3 t
  have h : (y 0).val < 1 := (y 0).isLt
  funext a; apply Fin.ext; fin_cases a
  · show cc0_transform_3 (grid0.coords t) 0 * 1 + 1 * (y 0).val = (grid0.coords t 0).val; omega
  · show cc0_transform_3 (grid0.coords t) 1 * 256 + 1 * (y 1).val = (grid0.coords t 1).val * 256 + (y 1).val; omega
  · show cc0_transform_3 (grid0.coords t) 2 * 512 + 1 * (y 2).val = (y 2).val; omega

/-- Where window 4's block lies. -/
theorem emb4 (t : Fin (cfgT m).N) (y : S1x256x512.Idx) : (((cfgT m).win 4).blk t).view.emb y = (pt t y : S2x512x512.Idx) := by
  obtain ⟨e0, e1, e2⟩ := ix4 t
  have h : (y 0).val < 1 := (y 0).isLt
  funext a; apply Fin.ext; fin_cases a
  · show cc0_transform_4 (grid0.coords t) 0 * 1 + 1 * (y 0).val = (grid0.coords t 0).val; omega
  · show cc0_transform_4 (grid0.coords t) 1 * 256 + 1 * (y 1).val = (grid0.coords t 1).val * 256 + (y 1).val; omega
  · show cc0_transform_4 (grid0.coords t) 2 * 512 + 1 * (y 2).val = (y 2).val; omega

/-- Where window 5's block lies. -/
theorem emb5 (t : Fin (cfgT m).N) (y : S1x256x512.Idx) : (((cfgT m).win 5).blk t).view.emb y = (pt t y : S2x512x512.Idx) := by
  obtain ⟨e0, e1, e2⟩ := ix5 t
  have h : (y 0).val < 1 := (y 0).isLt
  funext a; apply Fin.ext; fin_cases a
  · show cc0_transform_5 (grid0.coords t) 0 * 1 + 1 * (y 0).val = (grid0.coords t 0).val; omega
  · show cc0_transform_5 (grid0.coords t) 1 * 256 + 1 * (y 1).val = (grid0.coords t 1).val * 256 + (y 1).val; omega
  · show cc0_transform_5 (grid0.coords t) 2 * 512 + 1 * (y 2).val = (y 2).val; omega

/-- Where window 6's block lies. -/
theorem emb6 (t : Fin (cfgT m).N) (y : S1x256x512.Idx) : (((cfgT m).win 6).blk t).view.emb y = (pt t y : S2x512x512.Idx) := by
  obtain ⟨e0, e1, e2⟩ := ix6 t
  have h : (y 0).val < 1 := (y 0).isLt
  funext a; apply Fin.ext; fin_cases a
  · show cc0_transform_6 (grid0.coords t) 0 * 1 + 1 * (y 0).val = (grid0.coords t 0).val; omega
  · show cc0_transform_6 (grid0.coords t) 1 * 256 + 1 * (y 1).val = (grid0.coords t 1).val * 256 + (y 1).val; omega
  · show cc0_transform_6 (grid0.coords t) 2 * 512 + 1 * (y 2).val = (y 2).val; omega

/-- Where window 7's block lies. -/
theorem emb7 (t : Fin (cfgT m).N) (y : S1x256x512.Idx) : (((cfgT m).win 7).blk t).view.emb y = (pt t y : S2x512x512.Idx) := by
  obtain ⟨e0, e1, e2⟩ := ix7 t
  have h : (y 0).val < 1 := (y 0).isLt
  funext a; apply Fin.ext; fin_cases a
  · show cc0_transform_7 (grid0.coords t) 0 * 1 + 1 * (y 0).val = (grid0.coords t 0).val; omega
  · show cc0_transform_7 (grid0.coords t) 1 * 256 + 1 * (y 1).val = (grid0.coords t 1).val * 256 + (y 1).val; omega
  · show cc0_transform_7 (grid0.coords t) 2 * 512 + 1 * (y 2).val = (y 2).val; omega

/-- Where window 8's block lies. -/
theorem emb8 (t : Fin (cfgT m).N) (y : S1x256x512.Idx) : (((cfgT m).win 8).blk t).view.emb y = (pt t y : S2x512x512.Idx) := by
  obtain ⟨e0, e1, e2⟩ := ix8 t
  have h : (y 0).val < 1 := (y 0).isLt
  funext a; apply Fin.ext; fin_cases a
  · show cc0_transform_8 (grid0.coords t) 0 * 1 + 1 * (y 0).val = (grid0.coords t 0).val; omega
  · show cc0_transform_8 (grid0.coords t) 1 * 256 + 1 * (y 1).val = (grid0.coords t 1).val * 256 + (y 1).val; omega
  · show cc0_transform_8 (grid0.coords t) 2 * 512 + 1 * (y 2).val = (y 2).val; omega

/-- Where window 1's block lies. -/
theorem emb1 (t : Fin (cfgT m).N) (y : S1x256x512.Idx) : (((cfgT m).win 1).blk t).view.emb (lo y) = (lo3 (pt t y) : S512x512.Idx) := by
  obtain ⟨e0, e1⟩ := ix1 t
  funext a; apply Fin.ext; fin_cases a
  · show cc0_transform_1 (grid0.coords t) 0 * 256 + 1 * (y 1).val = (grid0.coords t 1).val * 256 + (y 1).val; omega
  · show cc0_transform_1 (grid0.coords t) 1 * 512 + 1 * (y 2).val = (y 2).val; omega

/-- Where window 2's block lies. -/
theorem emb2 (t : Fin (cfgT m).N) (y : S1x256x512.Idx) : (((cfgT m).win 2).blk t).view.emb (lo y) = (lo3 (pt t y) : S512x512.Idx) := by
  obtain ⟨e0, e1⟩ := ix2 t
  funext a; apply Fin.ext; fin_cases a
  · show cc0_transform_2 (grid0.coords t) 0 * 256 + 1 * (y 1).val = (grid0.coords t 1).val * 256 + (y 1).val; omega
  · show cc0_transform_2 (grid0.coords t) 1 * 512 + 1 * (y 2).val = (y 2).val; omega

variable (c : Dev nD)
/-- The weights. -/
abbrev a0 : S2x512x512.Idx → EReal := m ((c : Thread nD τ).loc main_arg0)
/-- The device's own half of the gradient. -/
abbrev a1 : S512x512.Idx → EReal := m ((c : Thread nD τ).loc main_arg1)
/-- The other device's half. -/
abbrev a2 : S512x512.Idx → EReal := m ((c : Thread nD τ).loc main_arg2)
/-- The first moment. -/
abbrev a3 : S2x512x512.Idx → EReal := m ((c : Thread nD τ).loc main_arg3)
/-- The second moment. -/
abbrev a4 : S2x512x512.Idx → EReal := m ((c : Thread nD τ).loc main_arg4)
/-- The device's number. -/
abbrev nr : BitVec 32 := wrd (m ((c : Thread nD τ).loc main_arg5))
/-- The gradient. -/
abbrev gr (k : S2x512x512.Idx) : EReal := gA (a1 m c) (a2 m c) (nr m c) k

/-- The prefetched word is the device's number. -/
theorem tbl_nr : wrd (tbl (F := Ideal) m 0) = nr m c := by
  obtain rfl : c = 0 := Subsingleton.elim _ _
  rfl

/-- Window 0's block at an index. -/
theorem ib0 (t : Fin (cfgT m).N) (y : S1x256x512.Idx) : (iblk (F := Ideal) m (ok m) c 0 t : Vec Ideal S1x256x512 .f32) y = a0 m c (pt t y) := by
  exact Eq.trans (show _ = V (F := Ideal) m c main_arg0 ((((cfgT m).win 0).blk t).view.emb y) from rfl) (congrArg (a0 m c) (emb0 m t y))

/-- Window 3's block at an index. -/
theorem ib3 (t : Fin (cfgT m).N) (y : S1x256x512.Idx) : (iblk (F := Ideal) m (ok m) c 3 t : Vec Ideal S1x256x512 .f32) y = a3 m c (pt t y) := by
  exact Eq.trans (show _ = V (F := Ideal) m c main_arg3 ((((cfgT m).win 3).blk t).view.emb y) from rfl) (congrArg (a3 m c) (emb3 m t y))

/-- Window 4's block at an index. -/
theorem ib4 (t : Fin (cfgT m).N) (y : S1x256x512.Idx) : (iblk (F := Ideal) m (ok m) c 4 t : Vec Ideal S1x256x512 .f32) y = a4 m c (pt t y) := by
  exact Eq.trans (show _ = V (F := Ideal) m c main_arg4 ((((cfgT m).win 4).blk t).view.emb y) from rfl) (congrArg (a4 m c) (emb4 m t y))

/-- Window 1's block at an index. -/
theorem ib1 (t : Fin (cfgT m).N) (y : S1x256x512.Idx) : (iblk (F := Ideal) m (ok m) c 1 t : Vec Ideal S256x512 .f32) (lo y) = a1 m c (lo3 (pt t y)) := by
  exact Eq.trans (show _ = V (F := Ideal) m c main_arg1 ((((cfgT m).win 1).blk t).view.emb (lo y)) from rfl) (congrArg (a1 m c) (emb1 m t y))

/-- Window 2's block at an index. -/
theorem ib2 (t : Fin (cfgT m).N) (y : S1x256x512.Idx) : (iblk (F := Ideal) m (ok m) c 2 t : Vec Ideal S256x512 .f32) (lo y) = a2 m c (lo3 (pt t y)) := by
  exact Eq.trans (show _ = V (F := Ideal) m c main_arg2 ((((cfgT m).win 2).blk t).view.emb (lo y)) from rfl) (congrArg (a2 m c) (emb2 m t y))

/-- The gradient's element of a block is the whole array's. -/
theorem gB_eq (t : Fin grid0.N) (y : S1x256x512.Idx) :
    gB (grid0.coords t) (wrd (tbl (F := Ideal) m 0)) (iblk (F := Ideal) m (ok m) c 1 t) (iblk (F := Ideal) m (ok m) c 2 t) y = gr m c (pt t y) := by
  have e1 := ib1 m c t y
  have e2 := ib2 m c t y
  have e3 := tbl_nr m c
  show gsel (BitVec.ofNat 32 (grid0.coords t 0).val) (wrd (tbl (F := Ideal) m 0)) ((iblk (F := Ideal) m (ok m) c 1 t : Vec Ideal S256x512 .f32) (lo y)) ((iblk (F := Ideal) m (ok m) c 2 t : Vec Ideal S256x512 .f32) (lo y)) = _
  exact (congrArg (fun w => gsel _ w _ _) e3).trans (congrArg₂ (fun u v => gsel _ _ u v) e1 e2)

/-- The gradient as a function of the arguments. -/
def G5 : S2x512x512.Idx → EReal := fun k => gr m c k

/-- Each point writes back its block of it. -/
theorem flushed5 (t : Fin (cfgT m).N) : (dat m c).flushed 5 t = (((cfgT m).win 5).blk t).view.read (Elt Ideal) (G5 m c) := by
  have hL : (outsAt0 (F := Ideal) m (ok m) c t).1 = k0_pay5 (grid0.coords t) (wrd (tbl (F := Ideal) m 0)) (iblk (F := Ideal) m (ok m) c 1 t) (iblk (F := Ideal) m (ok m) c 2 t) := by
    unfold outsAt0
    dsimp only
    exact out5 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x512.Idx, (outsAt0 (F := Ideal) m (ok m) c t).1 y = G5 m c (pt t y) := by
    intro y
    rw [hL]
    unfold G5
    refine (pay5_apply _ _ _ _ y).trans (gB_eq m c t y)
  show ((cfgT m).win 5).cut (grid0.coords t) ((dats (F := Ideal) m (ok m) 0 c).after 5 t) = _
  rw [after0_5]
  funext y
  refine Eq.trans ?_ (Eq.trans (hV y) ?_)
  · rfl
  · exact (Eq.trans (show _ = G5 m c ((((cfgT m).win 5).blk t).view.emb y) from rfl) (congrArg (G5 m c) (emb5 m t y))).symm

/-- Every element is some point's. -/
theorem cover5 (k : S2x512x512.Idx) : ∃ t : Fin (cfgT m).N, ((cfgT m).win 5).flush t = true ∧ k ∈ (((cfgT m).win 5).blk t).view.set := by
  have h0 : (k 0).val < 2 := (k 0).isLt
  have h1 : (k 1).val < 512 := (k 1).isLt
  have h2 : (k 2).val < 512 := (k 2).isLt
  obtain ⟨t, t0, t1⟩ := onto ⟨(k 0).val, h0⟩ ⟨(k 1).val / 256, by omega⟩
  refine ⟨t, flush0_5 _ t, ?_⟩
  have e : k = (((cfgT m).win 5).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x512.Idx)) := by
    refine Eq.trans ?_ (emb5 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin5 : (dat m c).arrAt 5 (cfgT m).N = G5 m c :=
  (dat m c).arrAt_eq_of_cover 5 _ (fun t _ => flushed5 m c t) (fun k => cover5 m k)

/-- The step as a function of the arguments. -/
def G6 : S2x512x512.Idx → EReal := fun k => dlt (a0 m c k) (mom (a3 m c k) (gr m c k)) (sec (a4 m c k) (gr m c k))

/-- Each point writes back its block of it. -/
theorem flushed6 (t : Fin (cfgT m).N) : (dat m c).flushed 6 t = (((cfgT m).win 6).blk t).view.read (Elt Ideal) (G6 m c) := by
  have hL : (outsAt0 (F := Ideal) m (ok m) c t).2.1 = k0_pay1 (k0_pay6 (iblk (F := Ideal) m (ok m) c 0 t)) (k0_pay9 (grid0.coords t) (wrd (tbl (F := Ideal) m 0)) (iblk (F := Ideal) m (ok m) c 1 t) (iblk (F := Ideal) m (ok m) c 2 t) (iblk (F := Ideal) m (ok m) c 3 t) (iblk (F := Ideal) m (ok m) c 4 t)) := by
    unfold outsAt0
    dsimp only
    exact out6 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x512.Idx, (outsAt0 (F := Ideal) m (ok m) c t).2.1 y = G6 m c (pt t y) := by
    intro y
    rw [hL]
    unfold G6
    refine (pay1_apply (grid0.coords t) (wrd (tbl (F := Ideal) m 0)) (iblk (F := Ideal) m (ok m) c 0 t) (iblk (F := Ideal) m (ok m) c 1 t) (iblk (F := Ideal) m (ok m) c 2 t) (iblk (F := Ideal) m (ok m) c 3 t) (iblk (F := Ideal) m (ok m) c 4 t) y).trans ?_
    have e0 := ib0 m c t y
    have e3 := ib3 m c t y
    have e4 := ib4 m c t y
    have eg := gB_eq m c t y
    exact dlt_congr e0 (congrArg₂ mom e3 eg) (congrArg₂ sec e4 eg)
  show ((cfgT m).win 6).cut (grid0.coords t) ((dats (F := Ideal) m (ok m) 0 c).after 6 t) = _
  rw [after0_6]
  funext y
  refine Eq.trans ?_ (Eq.trans (hV y) ?_)
  · rfl
  · exact (Eq.trans (show _ = G6 m c ((((cfgT m).win 6).blk t).view.emb y) from rfl) (congrArg (G6 m c) (emb6 m t y))).symm

/-- Every element is some point's. -/
theorem cover6 (k : S2x512x512.Idx) : ∃ t : Fin (cfgT m).N, ((cfgT m).win 6).flush t = true ∧ k ∈ (((cfgT m).win 6).blk t).view.set := by
  have h0 : (k 0).val < 2 := (k 0).isLt
  have h1 : (k 1).val < 512 := (k 1).isLt
  have h2 : (k 2).val < 512 := (k 2).isLt
  obtain ⟨t, t0, t1⟩ := onto ⟨(k 0).val, h0⟩ ⟨(k 1).val / 256, by omega⟩
  refine ⟨t, flush0_6 _ t, ?_⟩
  have e : k = (((cfgT m).win 6).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x512.Idx)) := by
    refine Eq.trans ?_ (emb6 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin6 : (dat m c).arrAt 6 (cfgT m).N = G6 m c :=
  (dat m c).arrAt_eq_of_cover 6 _ (fun t _ => flushed6 m c t) (fun k => cover6 m k)

/-- The new first moment as a function of the arguments. -/
def G7 : S2x512x512.Idx → EReal := fun k => mom (a3 m c k) (gr m c k)

/-- Each point writes back its block of it. -/
theorem flushed7 (t : Fin (cfgT m).N) : (dat m c).flushed 7 t = (((cfgT m).win 7).blk t).view.read (Elt Ideal) (G7 m c) := by
  have hL : (outsAt0 (F := Ideal) m (ok m) c t).2.2.1 = k0_pay2 (k0_pay7 (grid0.coords t) (wrd (tbl (F := Ideal) m 0)) (iblk (F := Ideal) m (ok m) c 1 t) (iblk (F := Ideal) m (ok m) c 2 t) (iblk (F := Ideal) m (ok m) c 3 t)) := by
    unfold outsAt0
    dsimp only
    exact out7 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x512.Idx, (outsAt0 (F := Ideal) m (ok m) c t).2.2.1 y = G7 m c (pt t y) := by
    intro y
    rw [hL]
    unfold G7
    refine ((cast_up _ y).trans (pay7_apply _ _ _ _ _ y)).trans ?_
    exact congrArg₂ mom (ib3 m c t y) (gB_eq m c t y)
  show ((cfgT m).win 7).cut (grid0.coords t) ((dats (F := Ideal) m (ok m) 0 c).after 7 t) = _
  rw [after0_7]
  funext y
  refine Eq.trans ?_ (Eq.trans (hV y) ?_)
  · rfl
  · exact (Eq.trans (show _ = G7 m c ((((cfgT m).win 7).blk t).view.emb y) from rfl) (congrArg (G7 m c) (emb7 m t y))).symm

/-- Every element is some point's. -/
theorem cover7 (k : S2x512x512.Idx) : ∃ t : Fin (cfgT m).N, ((cfgT m).win 7).flush t = true ∧ k ∈ (((cfgT m).win 7).blk t).view.set := by
  have h0 : (k 0).val < 2 := (k 0).isLt
  have h1 : (k 1).val < 512 := (k 1).isLt
  have h2 : (k 2).val < 512 := (k 2).isLt
  obtain ⟨t, t0, t1⟩ := onto ⟨(k 0).val, h0⟩ ⟨(k 1).val / 256, by omega⟩
  refine ⟨t, flush0_7 _ t, ?_⟩
  have e : k = (((cfgT m).win 7).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x512.Idx)) := by
    refine Eq.trans ?_ (emb7 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin7 : (dat m c).arrAt 7 (cfgT m).N = G7 m c :=
  (dat m c).arrAt_eq_of_cover 7 _ (fun t _ => flushed7 m c t) (fun k => cover7 m k)

/-- The new second moment as a function of the arguments. -/
def G8 : S2x512x512.Idx → EReal := fun k => sec (a4 m c k) (gr m c k)

/-- Each point writes back its block of it. -/
theorem flushed8 (t : Fin (cfgT m).N) : (dat m c).flushed 8 t = (((cfgT m).win 8).blk t).view.read (Elt Ideal) (G8 m c) := by
  have hL : (outsAt0 (F := Ideal) m (ok m) c t).2.2.2 = k0_pay3 (k0_pay8 (grid0.coords t) (wrd (tbl (F := Ideal) m 0)) (iblk (F := Ideal) m (ok m) c 1 t) (iblk (F := Ideal) m (ok m) c 2 t) (iblk (F := Ideal) m (ok m) c 4 t)) := by
    unfold outsAt0
    dsimp only
    exact out8 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x256x512.Idx, (outsAt0 (F := Ideal) m (ok m) c t).2.2.2 y = G8 m c (pt t y) := by
    intro y
    rw [hL]
    unfold G8
    refine ((cast_up _ y).trans (pay8_apply _ _ _ _ _ y)).trans ?_
    exact congrArg₂ sec (ib4 m c t y) (gB_eq m c t y)
  show ((cfgT m).win 8).cut (grid0.coords t) ((dats (F := Ideal) m (ok m) 0 c).after 8 t) = _
  rw [after0_8]
  funext y
  refine Eq.trans ?_ (Eq.trans (hV y) ?_)
  · rfl
  · exact (Eq.trans (show _ = G8 m c ((((cfgT m).win 8).blk t).view.emb y) from rfl) (congrArg (G8 m c) (emb8 m t y))).symm

/-- Every element is some point's. -/
theorem cover8 (k : S2x512x512.Idx) : ∃ t : Fin (cfgT m).N, ((cfgT m).win 8).flush t = true ∧ k ∈ (((cfgT m).win 8).blk t).view.set := by
  have h0 : (k 0).val < 2 := (k 0).isLt
  have h1 : (k 1).val < 512 := (k 1).isLt
  have h2 : (k 2).val < 512 := (k 2).isLt
  obtain ⟨t, t0, t1⟩ := onto ⟨(k 0).val, h0⟩ ⟨(k 1).val / 256, by omega⟩
  refine ⟨t, flush0_8 _ t, ?_⟩
  have e : k = (((cfgT m).win 8).blk t).view.emb ((fun a => match a with
      | ⟨0, _⟩ => ⟨0, Nat.one_pos⟩
      | ⟨1, _⟩ => ⟨(k 1).val % 256, Nat.mod_lt _ (by decide)⟩
      | ⟨2, _⟩ => ⟨(k 2).val, h2⟩ : S1x256x512.Idx)) := by
    refine Eq.trans ?_ (emb8 m t _).symm
    funext a; apply Fin.ext; fin_cases a
    · exact t0.symm
    · show (k 1).val = (grid0.coords t 1).val * 256 + (k 1).val % 256
      have : (grid0.coords t 1).val = (k 1).val / 256 := t1
      omega
    · rfl
  rw [e]
  exact View.emb_mem_set _ _

/-- So the array ends as that function. -/
theorem fin8 : (dat m c).arrAt 8 (cfgT m).N = G8 m c :=
  (dat m c).arrAt_eq_of_cover 8 _ (fun t _ => flushed8 m c t) (fun k => cover8 m k)

/-- The reference's gradient. -/
theorem ref7 (x1 x2 : S512x512.Idx → EReal) (x5 : S1.Idx → BitVec 32) (k : S2x512x512.Idx) :
    Cert.AdaminRefIdeal.Read.val_main_v7 (F := Ideal) x1 x2 x5 k = gA x1 x2 (wrd x5) k := by
  rw [Cert.AdaminRefIdeal.Read.val_main_v7_apply, Cert.AdaminRefIdeal.Read.val_main_call0_v0_apply, Cert.AdaminRefIdeal.Read.val_main_call0_v1_apply, Cert.AdaminRefIdeal.Read.val_main_call0_v2_apply,
    Cert.AdaminRefIdeal.Read.val_main_v4_apply, Cert.AdaminRefIdeal.Read.val_main_v3_apply, Cert.AdaminRefIdeal.Read.val_main_v2_apply, Cert.AdaminRefIdeal.Read.val_main_v5_apply, Cert.AdaminRefIdeal.Read.val_main_v6_apply]
  have e : ∀ z, Cert.AdaminRefIdeal.Read.val_main_v1 (F := Ideal) x5 z = wrd x5 := fun z => one_idx x5 _
  rw [e]
  have e1 : Cert.AdaminRefIdeal.Read.idx_main_v5 (Cert.AdaminRefIdeal.Read.idx_main_call0_v1 k) = lo3 k := by funext a; fin_cases a <;> rfl
  have e2 : Cert.AdaminRefIdeal.Read.idx_main_v6 (Cert.AdaminRefIdeal.Read.idx_main_call0_v2 k) = lo3 k := by funext a; fin_cases a <;> rfl
  rw [e1, e2]
  rfl

/-- The reference's new first moment. -/
theorem ref12 (x1 x2 : S512x512.Idx → EReal) (x3 : S2x512x512.Idx → EReal) (x5 : S1.Idx → BitVec 32) (k : S2x512x512.Idx) :
    Cert.AdaminRefIdeal.Read.val_main_v12 (F := Ideal) x1 x2 x3 x5 k = mom (x3 k) (gA x1 x2 (wrd x5) k) := by
  rw [← ref7]; rfl

/-- The reference's new second moment. -/
theorem ref18 (x1 x2 : S512x512.Idx → EReal) (x4 : S2x512x512.Idx → EReal) (x5 : S1.Idx → BitVec 32) (k : S2x512x512.Idx) :
    Cert.AdaminRefIdeal.Read.val_main_v18 (F := Ideal) x1 x2 x4 x5 k = sec (x4 k) (gA x1 x2 (wrd x5) k) := by
  rw [← ref7]; rfl

/-- The reference's step. -/
theorem ref31 (x0 : S2x512x512.Idx → EReal) (x1 x2 : S512x512.Idx → EReal) (x3 x4 : S2x512x512.Idx → EReal) (x5 : S1.Idx → BitVec 32) (k : S2x512x512.Idx) :
    Cert.AdaminRefIdeal.Read.val_main_v31 (F := Ideal) x0 x1 x2 x3 x4 x5 k = dlt (x0 k) (mom (x3 k) (gA x1 x2 (wrd x5) k)) (sec (x4 k) (gA x1 x2 (wrd x5) k)) := by
  have h : Cert.AdaminRefIdeal.Read.val_main_v31 (F := Ideal) x0 x1 x2 x3 x4 x5 k = Ideal.ofBits .f32 0xBA83126F#32 * (Ideal.div (Ideal.div (Cert.AdaminRefIdeal.Read.val_main_v12 (F := Ideal) x1 x2 x3 x5 k) (Ideal.ofBits .f32 0x3F26BD02#32))
      (Ideal.sqrt (Ideal.div (Cert.AdaminRefIdeal.Read.val_main_v18 (F := Ideal) x1 x2 x4 x5 k) (Ideal.ofBits .f32 0x3C231ACC#32)) + Ideal.ofBits .f32 0x322BCC77#32) + Ideal.ofBits .f32 0x3C23D70A#32 * x0 k) := rfl
  rw [h, ref12, ref18, div1, div2]

/-- The kernel's arrays and the reference's results are the same functions of the arguments. -/
theorem alg (hK : Cert.AdaminIdeal.Facts) (hR : Cert.AdaminRefIdeal.Facts) : @Cert.algebraic_AdaminIdeal_AdaminRefIdeal hK hR := by
  intro m ρ m' ρ' _ hag
  refine ⟨_, _, _, _, (θ_run _ _ _).mono (fun r h c => ⟨(h c).1 5, (h c).1 6, (h c).1 7, (h c).1 8,
    ((h c).1 0).trans (((dat m c).arrAt_in 0 rfl _).trans ((A_eq m (ok m) c 0).trans (V_main_arg0 m c))),
    ((h c).1 1).trans (((dat m c).arrAt_in 1 rfl _).trans ((A_eq m (ok m) c 1).trans (V_main_arg1 m c))),
    ((h c).1 2).trans (((dat m c).arrAt_in 2 rfl _).trans ((A_eq m (ok m) c 2).trans (V_main_arg2 m c))),
    ((h c).1 3).trans (((dat m c).arrAt_in 3 rfl _).trans ((A_eq m (ok m) c 3).trans (V_main_arg3 m c))),
    ((h c).1 4).trans (((dat m c).arrAt_in 4 rfl _).trans ((A_eq m (ok m) c 4).trans (V_main_arg4 m c))), ((h c).2 main_arg5 (by decide : main_arg5 ∈ Pipeline.restRefs sig spec0)).trans (V_main_arg5 m c)⟩) (run_main m ρ (ok m)), ?_⟩
  refine (θ_run _ _ _).mono (fun r h c => ?_) (Cert.AdaminRefIdeal.Value.run m' ρ')
  obtain ⟨a, b, d, e, f⟩ := h c
  obtain ⟨g0, g1, g2, g3, g4, g5⟩ := hag c
  rw [Cert.AdaminRefIdeal.Read.val_main_v7_eq, g1, g2, g5] at a
  rw [Cert.AdaminRefIdeal.Read.val_main_v31_eq, g0, g1, g2, g3, g4, g5] at b
  rw [Cert.AdaminRefIdeal.Read.val_main_v12_eq, g1, g2, g3, g5] at d
  rw [Cert.AdaminRefIdeal.Read.val_main_v18_eq, g1, g2, g4, g5] at e
  exact ⟨a.trans ((funext fun k => ref7 _ _ _ k).trans (fin5 m c).symm), b.trans ((funext fun k => ref31 _ _ _ _ _ _ k).trans (fin6 m c).symm),
    d.trans ((funext fun k => ref12 _ _ _ _ k).trans (fin7 m c).symm), e.trans ((funext fun k => ref18 _ _ _ _ k).trans (fin8 m c).symm), f⟩

end Cert.AdaminFinal

end
-- ==== Proof.AdamoFinal.lean ====
module

public import proofs.«01_k».proof.Proof.AdamsFinal
public import proofs.«01_k».proof.Proof.Gen.AdamoIdeal.Frame
public import proofs.«01_k».proof.Proof.Gen.AdamoRefIdeal.Read
public import proofs.«01_k».proof.Defs
public import Idealize.ShloMosaic.Lib.Claim
public import Idealize.ShloMosaic.Lib.Pipeline.Value
public import Idealize.ShloMosaic.Lib.Pointwise

@[expose] public section

/-!
# The optimiser on an output projection

The gradient of row half `p` is the device's own half where `p` is the device's number and the other device's half
elsewhere; the step is then the same function of each element in both programs.
-/

set_option maxRecDepth 16384

noncomputable section

namespace Cert.AdamoFinal

open Cert.AdamoIdeal Cert.AdamoIdeal.Gen Cert.AdamsFinal Idealize.ShloMosaic Idealize.ShloMosaic.TcCoe Idealize.SL.Sem
open Idealize.ShloMosaic.Pipeline (Dat)

/-- At each named literal the program over the reals takes the exact value. -/
theorem names : Cert.preserves_Adamo_AdamoIdeal :=
  ⟨IdealRules.named_const.statement κ "corr1" .f32 0x3FC48605#32 kC1 rfl, IdealRules.named_const.statement κ "corr2" .f32 0x42C8E6D3#32 kC2 rfl⟩

/-- The first correction as the kernel reads it. -/
theorem nam1 : Named.named (F := Ideal) (φ := .f32) κ "corr1" 0x3FC48605#32 = kC1 := IdealRules.named_const.ideal_named_scalar _ _ _ _ rfl
/-- The second correction as the kernel reads it. -/
theorem nam2 : Named.named (F := Ideal) (φ := .f32) κ "corr2" 0x42C8E6D3#32 = kC2 := IdealRules.named_const.ideal_named_scalar _ _ _ _ rfl

/-- One half or the other, by the device's number. -/
abbrev gsel (b w : BitVec 32) (x y : EReal) : EReal := Scalar.select (Scalar.cmpi .eq b w) x y
/-- The new first moment. -/
abbrev mom (x g : EReal) : EReal := Ideal.ofBits .f32 0x3F666666#32 * x + Ideal.ofBits .f32 0x3DCCCCCD#32 * g
/-- The new second moment. -/
abbrev sec (x g : EReal) : EReal := Ideal.ofBits .f32 0x3F7FBE77#32 * x + Ideal.ofBits .f32 0x3A83126F#32 * (g * g)
/-- The step, of the weight and the two new moments. -/
abbrev dlt (w a b : EReal) : EReal := Ideal.ofBits .f32 0xBA83126F#32 * (Ideal.div (a * kC1) (Ideal.sqrt (b * kC2) + Ideal.ofBits .f32 0x322BCC77#32) + Ideal.ofBits .f32 0x3C23D70A#32 * w)

/-- The step of equal things. -/
theorem dlt_congr {w w' a a' b b' : EReal} (h : w = w') (ha : a = a') (hb : b = b') : dlt w a b = dlt w' a' b' := by rw [h, ha, hb]

/-- The device's number out of its one-word array. -/
def wrd (f : S1.Idx → BitVec 32) : BitVec 32 := f (fun a => ⟨0, by fin_cases a; exact Nat.one_pos⟩)

/-- The one-word array has one index. -/
theorem one_idx (f : S1.Idx → BitVec 32) (k : S1.Idx) : f k = wrd f := by
  unfold wrd
  refine congrArg f (funext fun a => Fin.ext ?_)
  fin_cases a
  have h : (k 0).val < 1 := (k 0).isLt
  show (k 0).val = 0
  omega

theorem hz : (![0, 0] : Fin 2 → Nat) = fun _ => 0 := funext fun a => by fin_cases a <;> rfl
theorem hz3 : (![0, 0, 0] : Fin 3 → Nat) = fun _ => 0 := funext fun a => by fin_cases a <;> rfl

/-! ## One block -/

/-- A block's index without its leading axis. -/
abbrev lo (y : S1x128x1024.Idx) : S128x1024.Idx := fun a => match a with
  | ⟨0, _⟩ => ⟨(y 1).val, (y 1).isLt⟩
  | ⟨1, _⟩ => ⟨(y 2).val, (y 2).isLt⟩

/-- Adding the leading axis. -/
theorem cast_up (v : FVec Ideal S128x1024 .f32) (y : S1x128x1024.Idx) : shapeCast S1x128x1024 v shapeCasts_S128x1024_S1x128x1024 y = v (lo y) := by
  refine (shapeCast_addUnit_apply ![128, 1024] v shapeCasts_S128x1024_S1x128x1024 y).trans (congrArg v ?_)
  funext a; fin_cases a <;> rfl

/-- Dropping it again. -/
theorem cast_lo (v : FVec Ideal S1x128x1024 .f32) (y : S1x128x1024.Idx) : shapeCast S128x1024 v shapeCasts_S1x128x1024_S128x1024 (lo y) = v y := by
  refine (shapeCast_dropUnit_apply ![128, 1024] v shapeCasts_S1x128x1024_S128x1024 (lo y)).trans (congrArg v ?_)
  have h : (y 0).val < 1 := (y 0).isLt
  funext a; apply Fin.ext; fin_cases a
  · show 0 = (y 0).val; omega
  · rfl
  · rfl

section Block
variable (i : grid0.Coords) (w : BitVec 32) (x0 : Vec Ideal S1x128x1024 .f32) (x1 : Vec Ideal S128x1024 .f32) (x2 : Vec Ideal S128x1024 .f32) (x3 : Vec Ideal S1x128x1024 .f32) (x4 : Vec Ideal S1x128x1024 .f32)

/-- The gradient's element of a block. -/
abbrev gB (y : S1x128x1024.Idx) : EReal := gsel (BitVec.ofNat 32 (i 0).val) w (x1 (lo y)) (x2 (lo y))

/-- The chosen half at an index. -/
theorem pay4_apply (y : S1x128x1024.Idx) : k0_pay4 (F := Ideal) i w x1 x2 (lo y) = gB i w x1 x2 y := by
  show (Scalar.select (Scalar.cmpi .eq (BitVec.ofNat 32 (i 0).val) w) x1 x2) (lo y) = Scalar.select (Scalar.cmpi .eq (BitVec.ofNat 32 (i 0).val) w) (x1 (lo y)) (x2 (lo y))
  unfold Scalar.select
  split <;> rfl

/-- The stored gradient. -/
theorem pay5_apply (y : S1x128x1024.Idx) : k0_pay5 (F := Ideal) i w x1 x2 y = gB i w x1 x2 y :=
  (cast_up _ y).trans (pay4_apply i w x1 x2 y)

/-- The new first moment at an index. -/
theorem pay7_apply (y : S1x128x1024.Idx) : k0_pay7 (F := Ideal) i w x1 x2 x3 (lo y) = mom (x3 y) (gB i w x1 x2 y) := by
  show Ideal.ofBits .f32 0x3F666666#32 * shapeCast S128x1024 x3 shapeCasts_S1x128x1024_S128x1024 (lo y) + Ideal.ofBits .f32 0x3DCCCCCD#32 * k0_pay4 (F := Ideal) i w x1 x2 (lo y) = _
  rw [cast_lo, pay4_apply]

/-- The new second moment at an index. -/
theorem pay8_apply (y : S1x128x1024.Idx) : k0_pay8 (F := Ideal) i w x1 x2 x4 (lo y) = sec (x4 y) (gB i w x1 x2 y) := by
  show Ideal.ofBits .f32 0x3F7FBE77#32 * shapeCast S128x1024 x4 shapeCasts_S1x128x1024_S128x1024 (lo y) + Ideal.ofBits .f32 0x3A83126F#32 * (k0_pay4 (F := Ideal) i w x1 x2 (lo y) * k0_pay4 (F := Ideal) i w x1 x2 (lo y)) = _
  rw [cast_lo, pay4_apply]

/-- The stored step at an index. -/
theorem pay1_apply (y : S1x128x1024.Idx) :
    k0_pay1 (F := Ideal) (k0_pay6 x0) (k0_pay9 i w x1 x2 x3 x4) y = dlt (x0 y) (mom (x3 y) (gB i w x1 x2 y)) (sec (x4 y) (gB i w x1 x2 y)) := by
  refine (cast_up (mulf (broadcast S128x1024 (Scalar.ofBits .f32 0xBA83126F#32)) (addf (k0_pay9 (F := Ideal) i w x1 x2 x3 x4) (mulf (broadcast S128x1024 (Scalar.ofBits .f32 0x3C23D70A#32)) (k0_pay6 (F := Ideal) x0)))) y).trans ?_
  show Ideal.ofBits .f32 0xBA83126F#32 * (Ideal.div (k0_pay7 (F := Ideal) i w x1 x2 x3 (lo y) * Named.named (F := Ideal) (φ := .f32) κ "corr1" 0x3FC48605#32)
      (Ideal.sqrt (k0_pay8 (F := Ideal) i w x1 x2 x4 (lo y) * Named.named (F := Ideal) (φ := .f32) κ "corr2" 0x42C8E6D3#32) + Ideal.ofBits .f32 0x322BCC77#32)
      + Ideal.ofBits .f32 0x3C23D70A#32 * shapeCast S128x1024 x0 shapeCasts_S1x128x1024_S128x1024 (lo y)) = _
  rw [nam1, nam2, pay7_apply, pay8_apply, cast_lo]

end Block

section Case
variable (c : Dev nD) (i : grid0.Coords) (arg3 : Memref sig .tc .vmem S1x128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x128x1024 .f32) (harg10 : arg10.IsWhole) (arg11 : Memref sig .tc .vmem S1x128x1024 .f32) (harg11 : arg11.IsWhole)
    (x0 : Vec Ideal S1x128x1024 .f32) (x1 : Vec Ideal S128x1024 .f32) (x2 : Vec Ideal S128x1024 .f32) (x3 : Vec Ideal S1x128x1024 .f32) (x4 : Vec Ideal S1x128x1024 .f32) (xt0 : TbBuf0 (F := Ideal) c tbM0_0)

/-- What a point leaves of the gradient. -/
theorem out5 : out0_A_5 (F := Ideal) c i arg3 harg3 arg4 harg4 arg5 harg5 arg6 harg6 arg7 harg7 arg8 harg8 arg9 harg9 arg10 harg10 arg11 harg11 x0 x1 x2 x3 x4 xt0 = k0_pay5 i (wrd xt0) x1 x2 := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x128x1024) hz3, View.readAt_eq_ld, harg3.read_unread, harg4.read_unread, harg5.read_unread, harg6.read_unread, harg7.read_unread, View.ld_unit_zero (S := S1x128x1024) hz3, View.ld_unit_zero (S := S128x1024) hz]
  exact congrArg (fun w => k0_pay5 i w x1 x2) (one_idx xt0 _)

/-- What a point leaves of the step. -/
theorem out6 : out0_A_6 (F := Ideal) c i arg3 harg3 arg4 harg4 arg5 harg5 arg6 harg6 arg7 harg7 arg8 harg8 arg9 harg9 arg10 harg10 arg11 harg11 x0 x1 x2 x3 x4 xt0 = k0_pay1 (k0_pay6 x0) (k0_pay9 i (wrd xt0) x1 x2 x3 x4) := by
  unfold out0_A_6
  rw [View.read_writes_eq_canon _ _ _ (cover0_A_6 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x128x1024) hz3, View.readAt_eq_ld, harg3.read_unread, harg4.read_unread, harg5.read_unread, harg6.read_unread, harg7.read_unread, View.ld_unit_zero (S := S1x128x1024) hz3, View.ld_unit_zero (S := S128x1024) hz]
  exact congrArg (fun w => k0_pay1 (k0_pay6 x0) (k0_pay9 i w x1 x2 x3 x4)) (one_idx xt0 _)

/-- What a point leaves of the new first moment. -/
theorem out7 : out0_A_7 (F := Ideal) c i arg3 harg3 arg4 harg4 arg5 harg5 arg6 harg6 arg7 harg7 arg8 harg8 arg9 harg9 arg10 harg10 arg11 harg11 x0 x1 x2 x3 x4 xt0 = k0_pay2 (k0_pay7 i (wrd xt0) x1 x2 x3) := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x128x1024) hz3, View.readAt_eq_ld, harg3.read_unread, harg4.read_unread, harg5.read_unread, harg6.read_unread, harg7.read_unread, View.ld_unit_zero (S := S1x128x1024) hz3, View.ld_unit_zero (S := S128x1024) hz]
  exact congrArg (fun w => k0_pay2 (k0_pay7 i w x1 x2 x3)) (one_idx xt0 _)

/-- What a point leaves of the new second moment. -/
theorem out8 : out0_A_8 (F := Ideal) c i arg3 harg3 arg4 harg4 arg5 harg5 arg6 harg6 arg7 harg7 arg8 harg8 arg9 harg9 arg10 harg10 arg11 harg11 x0 x1 x2 x3 x4 xt0 = k0_pay3 (k0_pay8 i (wrd xt0) x1 x2 x4) := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 xt0)]
  unfold kernelRun0_A
  dsimp only
  (try sl_unfold_words)
  simp only [View.canon_cons_unit_zero (S := S1x128x1024) hz3, View.readAt_eq_ld, harg3.read_unread, harg4.read_unread, harg5.read_unread, harg6.read_unread, harg7.read_unread, View.ld_unit_zero (S := S1x128x1024) hz3, View.ld_unit_zero (S := S128x1024) hz]
  exact congrArg (fun w => k0_pay3 (k0_pay8 i w x1 x2 x4)) (one_idx xt0 _)

end Case

/-! ## The whole arrays -/

variable (m : (ℓ : Loc nD τ sig) → Buf (Elt Ideal) ℓ)

/-- Nothing is asked of the prefetched word. -/
theorem ok : Ok (F := Ideal) m := trivial

/-- The pipeline. -/
abbrev cfgT : Pipeline.Cfg sig Λ₀ := cfgM (F := Ideal) m (ok m)
/-- Its proof data. -/
abbrev dat (c : Dev nD) := dats (F := Ideal) m (ok m) 0 c

/-- The element of the whole array at place `y` of point `t`'s block. -/
def pt (t : Fin grid0.N) (y : S1x128x1024.Idx) : S2x128x1024.Idx := fun a => match a with
  | ⟨0, _⟩ => ⟨(grid0.coords t 0).val, (grid0.coords t 0).isLt⟩
  | ⟨1, _⟩ => ⟨(grid0.coords t 1).val * 128 + (y 1).val, by have h : (grid0.coords t 1).val < 1 := (grid0.coords t 1).isLt; have h' : (y 1).val < 128 := (y 1).isLt; show _ < 128; omega⟩
  | ⟨2, _⟩ => ⟨(y 2).val, (y 2).isLt⟩

/-- The element of a half that element of the whole array is chosen from. -/
abbrev lo3 (k : S2x128x1024.Idx) : S128x1024.Idx := fun a => match a with
  | ⟨0, _⟩ => ⟨(k 1).val, (k 1).isLt⟩
  | ⟨1, _⟩ => ⟨(k 2).val, (k 2).isLt⟩

/-- Window 0 moves with both coordinates. -/
theorem ix0 : ∀ t : Fin grid0.N, cc0_transform_0 (grid0.coords t) 0 = (grid0.coords t 0).val ∧ cc0_transform_0 (grid0.coords t) 1 = (grid0.coords t 1).val ∧ cc0_transform_0 (grid0.coords t) 2 = 0 := by decide +kernel

/-- Window 3 moves with both coordinates. -/
theorem ix3 : ∀ t : Fin grid0.N, cc0_transform_3 (grid0.coords t) 0 = (grid0.coords t 0).val ∧ cc0_transform_3 (grid0.coords t) 1 = (grid0.coords t 1).val ∧ cc0_transform_3 (grid0.coords t) 2 = 0 := by decide +kernel

/-- Window 4 moves with both coordinates. -/
theorem ix4 : ∀ t : Fin grid0.N, cc0_transform_4 (grid0.coords t) 0 = (grid0.coords t 0).val ∧ cc0_transform_4 (grid0.coords t) 1 = (grid0.coords t 1).val ∧ cc0_transform_4 (grid0.coords t) 2 = 0 := by decide +kernel

/-- Window 5 moves with both coordinates. -/
theorem ix5 : ∀ t : Fin grid0.N, cc0_transform_5 (grid0.coords t) 0 = (grid0.coords t 0).val ∧ cc0_transform_5 (grid0.coords t) 1 = (grid0.coords t 1).val ∧ cc0_transform_5 (grid0.coords t) 2 = 0 := by decide +kernel

/-- Window 6 moves with both coordinates. -/
theorem ix6 : ∀ t : Fin grid0.N, cc0_transform_6 (grid0.coords t) 0 = (grid0.coords t 0).val ∧ cc0_transform_6 (grid0.coords t) 1 = (grid0.coords t 1).val ∧ cc0_transform_6 (grid0.coords t) 2 = 0 := by decide +kernel

/-- Window 7 moves with both coordinates. -/
theorem ix7 : ∀ t : Fin grid0.N, cc0_transform_7 (grid0.coords t) 0 = (grid0.coords t 0).val ∧ cc0_transform_7 (grid0.coords t) 1 = (grid0.coords t 1).val ∧ cc0_transform_7 (grid0.coords t) 2 = 0 := by decide +kernel

/-- Window 8 moves with both coordinates. -/
theorem ix8 : ∀ t : Fin grid0.N, cc0_transform_8 (grid0.coords t) 0 = (grid0.coords t 0).val ∧ cc0_transform_8 (grid0.coords t) 1 = (grid0.coords t 1).val ∧ cc0_transform_8 (grid0.coords t) 2 = 0 := by decide +kernel

/-- Window 1 moves with the second coordinate. -/
theorem ix1 : ∀ t : Fin grid0.N, cc0_transform_1 (grid0.coords t) 0 = (grid0.coords t 1).val ∧ cc0_transform_1 (grid0.coords t) 1 = 0 := by decide +kernel

/-- Window 2 moves with the second coordinate. -/
theorem ix2 : ∀ t : Fin grid0.N, cc0_transform_2 (grid0.coords t) 0 = (grid0.coords t 1).val ∧ cc0_transform_2 (grid0.coords t) 1 = 0 := by decide +kernel

/-- Every pair of coordinates is some point's. -/
theorem onto : ∀ (p : Fin 2) (q : Fin 1), ∃ t : Fin grid0.N, (grid0.coords t 0).val = p.val ∧ (grid0.coords t 1).val = q.val := by decide +kernel

/-- The gradient at an element of the whole array. -/
abbrev gA (a1 a2 : S128x1024.Idx → EReal) (w : BitVec 32) (k : S2x128x1024.Idx) : EReal := gsel (BitVec.ofNat 32 (k 0).val) w (a1 (lo3 k)) (a2 (lo3 k))

/-- Where window 0's block lies. -/
theorem emb0 (t : Fin (cfgT m).N) (y : S1x128x1024.Idx) : (((cfgT m).win 0).blk t).view.emb y = (pt t y : S2x128x1024.Idx) := by
  obtain ⟨e0, e1, e2⟩ := ix0 t
  have h : (y 0).val < 1 := (y 0).isLt
  funext a; apply Fin.ext; fin_cases a
  · show cc0_transform_0 (grid0.coords t) 0 * 1 + 1 * (y 0).val = (grid0.coords t 0).val; omega
  · show cc0_transform_0 (grid0.coords t) 1 * 128 + 1 * (y 1).val = (grid0.coords t 1).val * 128 + (y 1).val; omega
  · show cc0_transform_0 (grid0.coords t) 2 * 1024 + 1 * (y 2).val = (y 2).val; omega

/-- Where window 3's block lies. -/
theorem emb3 (t : Fin (cfgT m).N) (y : S1x128x1024.Idx) : (((cfgT m).win 3).blk t).view.emb y = (pt t y : S2x128x1024.Idx) := by
  obtain ⟨e0, e1, e2⟩ := ix3 t
  have h : (y 0).val < 1 := (y 0).isLt
  funext a; apply Fin.ext; fin_cases a
  · show cc0_transform_3 (grid0.coords t) 0 * 1 + 1 * (y 0).val = (grid0.coords t 0).val; omega
  · show cc0_transform_3 (grid0.coords t) 1 * 128 + 1 * (y 1).val = (grid0.coords t 1).val * 128 + (y 1).val; omega
  · show cc0_transform_3 (grid0.coords t) 2 * 1024 + 1 * (y 2).val = (y 2).val; omega

/-- Where window 4's block lies. -/
theorem emb4 (t : Fin (cfgT m).N) (y : S1x128x1024.Idx) : (((cfgT m).win 4).blk t).view.emb y = (pt t y : S2x128x1024.Idx) := by
  obtain ⟨e0, e1, e2⟩ := ix4 t
  have h : (y 0).val < 1 := (y 0).isLt
  funext a; apply Fin.ext; fin_cases a
  · show cc0_transform_4 (grid0.coords t) 0 * 1 + 1 * (y 0).val = (grid0.coords t 0).val; omega
  · show cc0_transform_4 (grid0.coords t) 1 * 128 + 1 * (y 1).val = (grid0.coords t 1).val * 128 + (y 1).val; omega
  · show cc0_transform_4 (grid0.coords t) 2 * 1024 + 1 * (y 2).val = (y 2).val; omega

/-- Where window 5's block lies. -/
theorem emb5 (t : Fin (cfgT m).N) (y : S1x128x1024.Idx) : (((cfgT m).win 5).blk t).view.emb y = (pt t y : S2x128x1024.Idx) := by
  obtain ⟨e0, e1, e2⟩ := ix5 t
  have h : (y 0).val < 1 := (y 0).isLt
  funext a; apply Fin.ext; fin_cases a
  · show cc0_transform_5 (grid0.coords t) 0 * 1 + 1 * (y 0).val = (grid0.coords t 0).val; omega
  · show cc0_transform_5 (grid0.coords t) 1 * 128 + 1 * (y 1).val = (grid0.coords t 1).val * 128 + (y 1).val; omega
  · show cc0_transform_5 (grid0.coords t) 2 * 1024 + 1 * (y 2).val = (y 2).val; omega

/-- Where window 6's block lies. -/
theorem emb6 (t : Fin (cfgT m).N) (y : S1x128x1024.Idx) : (((cfgT m).win 6).blk t).view.emb y = (pt t y : S2x128x1024.Idx) := by
  obtain ⟨e0, e1, e2⟩ := ix6 t
  have h : (y 0).val < 1 := (y 0).isLt
  funext a; apply Fin.ext; fin_cases a
  · show cc0_transform_6 (grid0.coords t) 0 * 1 + 1 * (y 0).val = (grid0.coords t 0).val; omega
  · show cc0_transform_6 (grid0.coords t) 1 * 128 + 1 * (y 1).val = (grid0.coords t 1).val * 128 + (y 1).val; omega
  · show cc0_transform_6 (grid0.coords t) 2 * 1024 + 1 * (y 2).val = (y 2).val; omega

/-- Where window 7's block lies. -/
theorem emb7 (t : Fin (cfgT m).N) (y : S1x128x1024.Idx) : (((cfgT m).win 7).blk t).view.emb y = (pt t y : S2x128x1024.Idx) := by
  obtain ⟨e0, e1, e2⟩ := ix7 t
  have h : (y 0).val < 1 := (y 0).isLt
  funext a; apply Fin.ext; fin_cases a
  · show cc0_transform_7 (grid0.coords t) 0 * 1 + 1 * (y 0).val = (grid0.coords t 0).val; omega
  · show cc0_transform_7 (grid0.coords t) 1 * 128 + 1 * (y 1).val = (grid0.coords t 1).val * 128 + (y 1).val; omega
  · show cc0_transform_7 (grid0.coords t) 2 * 1024 + 1 * (y 2).val = (y 2).val; omega

/-- Where window 8's block lies. -/
theorem emb8 (t : Fin (cfgT m).N) (y : S1x128x1024.Idx) : (((cfgT m).win 8).blk t).view.emb y = (pt t y : S2x128x1024.Idx) := by
  obtain ⟨e0, e1, e2⟩ := ix8 t
  have h : (y 0).val < 1 := (y 0).isLt
  funext a; apply Fin.ext; fin_cases a
  · show cc0_transform_8 (grid0.coords t) 0 * 1 + 1 * (y 0).val = (grid0.coords t 0).val; omega
  · show cc0_transform_8 (grid0.coords t) 1 * 128 + 1 * (y 1).val = (grid0.coords t 1).val * 128 + (y 1).val; omega
  · show cc0_transform_8 (grid0.coords t) 2 * 1024 + 1 * (y 2).val = (y 2).val; omega

/-- Where window 1's block lies. -/
theorem emb1 (t : Fin (cfgT m).N) (y : S1x128x1024.Idx) : (((cfgT m).win 1).blk t).view.emb (lo y) = (lo3 (pt t y) : S128x1024.Idx) := by
  obtain ⟨e0, e1⟩ := ix1 t
  funext a; apply Fin.ext; fin_cases a
  · show cc0_transform_1 (grid0.coords t) 0 * 128 + 1 * (y 1).val = (grid0.coords t 1).val * 128 + (y 1).val; omega
  · show cc0_transform_1 (grid0.coords t) 1 * 1024 + 1 * (y 2).val = (y 2).val; omega

/-- Where window 2's block lies. -/
theorem emb2 (t : Fin (cfgT m).N) (y : S1x128x1024.Idx) : (((cfgT m).win 2).blk t).view.emb (lo y) = (lo3 (pt t y) : S128x1024.Idx) := by
  obtain ⟨e0, e1⟩ := ix2 t
  funext a; apply Fin.ext; fin_cases a
  · show cc0_transform_2 (grid0.coords t) 0 * 128 + 1 * (y 1).val = (grid0.coords t 1).val * 128 + (y 1).val; omega
  · show cc0_transform_2 (grid0.coords t) 1 * 1024 + 1 * (y 2).val = (y 2).val; omega

variable (c : Dev nD)
/-- The weights. -/
abbrev a0 : S2x128x1024.Idx → EReal := m ((c : Thread nD τ).loc main_arg0)
/-- The device's own half of the gradient. -/
abbrev a1 : S128x1024.Idx → EReal := m ((c : Thread nD τ).loc main_arg1)
/-- The other device's half. -/
abbrev a2 : S128x1024.Idx → EReal := m ((c : Thread nD τ).loc main_arg2)
/-- The first moment. -/
abbrev a3 : S2x128x1024.Idx → EReal := m ((c : Thread nD τ).loc main_arg3)
/-- The second moment. -/
abbrev a4 : S2x128x1024.Idx → EReal := m ((c : Thread nD τ).loc main_arg4)
/-- The device's number. -/
abbrev nr : BitVec 32 := wrd (m ((c : Thread nD τ).loc main_arg5))
/-- The gradient. -/
abbrev gr (k : S2x128x1024.Idx) : EReal := gA (a1 m c) (a2 m c) (nr m c) k

/-- The prefetched word is the device's number. -/
theorem tbl_nr : wrd (tbl (F := Ideal) m 0) = nr m c := by
  obtain rfl : c = 0 := Subsingleton.elim _ _
  rfl

/-- Window 0's block at an index. -/
theorem ib0 (t : Fin (cfgT m).N) (y : S1x128x1024.Idx) : (iblk (F := Ideal) m (ok m) c 0 t : Vec Ideal S1x128x1024 .f32) y = a0 m c (pt t y) := by
  exact Eq.trans (show _ = V (F := Ideal) m c main_arg0 ((((cfgT m).win 0).blk t).view.emb y) from rfl) (congrArg (a0 m c) (emb0 m t y))

/-- Window 3's block at an index. -/
theorem ib3 (t : Fin (cfgT m).N) (y : S1x128x1024.Idx) : (iblk (F := Ideal) m (ok m) c 3 t : Vec Ideal S1x128x1024 .f32) y = a3 m c (pt t y) := by
  exact Eq.trans (show _ = V (F := Ideal) m c main_arg3 ((((cfgT m).win 3).blk t).view.emb y) from rfl) (congrArg (a3 m c) (emb3 m t y))

/-- Window 4's block at an index. -/
theorem ib4 (t : Fin (cfgT m).N) (y : S1x128x1024.Idx) : (iblk (F := Ideal) m (ok m) c 4 t : Vec Ideal S1x128x1024 .f32) y = a4 m c (pt t y) := by
  exact Eq.trans (show _ = V (F := Ideal) m c main_arg4 ((((cfgT m).win 4).blk t).view.emb y) from rfl) (congrArg (a4 m c) (emb4 m t y))

/-- Window 1's block at an index. -/
theorem ib1 (t : Fin (cfgT m).N) (y : S1x128x1024.Idx) : (iblk (F := Ideal) m (ok m) c 1 t : Vec Ideal S128x1024 .f32) (lo y) = a1 m c (lo3 (pt t y)) := by
  exact Eq.trans (show _ = V (F := Ideal) m c main_arg1 ((((cfgT m).win 1).blk t).view.emb (lo y)) from rfl) (congrArg (a1 m c) (emb1 m t y))

/-- Window 2's block at an index. -/
theorem ib2 (t : Fin (cfgT m).N) (y : S1x128x1024.Idx) : (iblk (F := Ideal) m (ok m) c 2 t : Vec Ideal S128x1024 .f32) (lo y) = a2 m c (lo3 (pt t y)) := by
  exact Eq.trans (show _ = V (F := Ideal) m c main_arg2 ((((cfgT m).win 2).blk t).view.emb (lo y)) from rfl) (congrArg (a2 m c) (emb2 m t y))

/-- The gradient's element of a block is the whole array's. -/
theorem gB_eq (t : Fin grid0.N) (y : S1x128x1024.Idx) :
    gB (grid0.coords t) (wrd (tbl (F := Ideal) m 0)) (iblk (F := Ideal) m (ok m) c 1 t) (iblk (F := Ideal) m (ok m) c 2 t) y = gr m c (pt t y) := by
  have e1 := ib1 m c t y
  have e2 := ib2 m c t y
  have e3 := tbl_nr m c
  show gsel (BitVec.ofNat 32 (grid0.coords t 0).val) (wrd (tbl (F := Ideal) m 0)) ((iblk (F := Ideal) m (ok m) c 1 t : Vec Ideal S128x1024 .f32) (lo y)) ((iblk (F := Ideal) m (ok m) c 2 t : Vec Ideal S128x1024 .f32) (lo y)) = _
  exact (congrArg (fun w => gsel _ w _ _) e3).trans (congrArg₂ (fun u v => gsel _ _ u v) e1 e2)

/-- The gradient as a function of the arguments. -/
def G5 : S2x128x1024.Idx → EReal := fun k => gr m c k

/-- Each point writes back its block of it. -/
theorem flushed5 (t : Fin (cfgT m).N) : (dat m c).flushed 5 t = (((cfgT m).win 5).blk t).view.read (Elt Ideal) (G5 m c) := by
  have hL : (outsAt0 (F := Ideal) m (ok m) c t).1 = k0_pay5 (grid0.coords t) (wrd (tbl (F := Ideal) m 0)) (iblk (F := Ideal) m (ok m) c 1 t) (iblk (F := Ideal) m (ok m) c 2 t) := by
    unfold outsAt0
    dsimp only
    exact out5 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x128x1024.Idx, (outsAt0 (F := Ideal) m (ok m) c t).1 y = G5 m c (pt t y) := by
    intro y
    rw [hL]
    unfold G5
    refine (pay5_apply _ _ _ _ y).trans (gB_eq m c t y)
  show ((cfgT m).win 5).cut (grid0.coords t) ((dats (F := Ideal) m (ok m) 0 c).after 5 t) = _
  rw [after0_5]
  funext y
  refine Eq.trans ?_ (Eq.trans (hV y) ?_)
  · rfl
  · exact (Eq.trans (show _ = G5 m c ((((cfgT m).win 5).blk t).view.emb y) from rfl) (congrArg (G5 m c) (emb5 m t y))).symm

/-- Every element is some point's. -/
theorem cover5 (k : S2x128x1024.Idx) : ∃ t : Fin (cfgT m).N, ((cfgT m).win 5).flush t = true ∧ k ∈ (((cfgT m).win 5).blk t).view.set := by
  have h0 : (k 0).val < 2 := (k 0).isLt
  have h1 : (k 1).val < 128 := (k 1).isLt
  have h2 : (k 2).val < 1024 := (k 2).isLt
  obtain ⟨t, t0, t1⟩ := onto ⟨(k 0).val, h0⟩ ⟨(k 1).val / 128, by omega⟩
  refine ⟨t, flush0_5 _ t, ?_⟩
  have e : k = (((cfgT m).win 5).blk t).view.emb ((fun a => match a with
      | ⟨0, _⟩ => ⟨0, Nat.one_pos⟩
      | ⟨1, _⟩ => ⟨(k 1).val % 128, Nat.mod_lt _ (by decide)⟩
      | ⟨2, _⟩ => ⟨(k 2).val, h2⟩ : S1x128x1024.Idx)) := by
    refine Eq.trans ?_ (emb5 m t _).symm
    funext a; apply Fin.ext; fin_cases a
    · exact t0.symm
    · show (k 1).val = (grid0.coords t 1).val * 128 + (k 1).val % 128
      have : (grid0.coords t 1).val = (k 1).val / 128 := t1
      omega
    · rfl
  rw [e]
  exact View.emb_mem_set _ _

/-- So the array ends as that function. -/
theorem fin5 : (dat m c).arrAt 5 (cfgT m).N = G5 m c :=
  (dat m c).arrAt_eq_of_cover 5 _ (fun t _ => flushed5 m c t) (fun k => cover5 m k)

/-- The step as a function of the arguments. -/
def G6 : S2x128x1024.Idx → EReal := fun k => dlt (a0 m c k) (mom (a3 m c k) (gr m c k)) (sec (a4 m c k) (gr m c k))

/-- Each point writes back its block of it. -/
theorem flushed6 (t : Fin (cfgT m).N) : (dat m c).flushed 6 t = (((cfgT m).win 6).blk t).view.read (Elt Ideal) (G6 m c) := by
  have hL : (outsAt0 (F := Ideal) m (ok m) c t).2.1 = k0_pay1 (k0_pay6 (iblk (F := Ideal) m (ok m) c 0 t)) (k0_pay9 (grid0.coords t) (wrd (tbl (F := Ideal) m 0)) (iblk (F := Ideal) m (ok m) c 1 t) (iblk (F := Ideal) m (ok m) c 2 t) (iblk (F := Ideal) m (ok m) c 3 t) (iblk (F := Ideal) m (ok m) c 4 t)) := by
    unfold outsAt0
    dsimp only
    exact out6 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x128x1024.Idx, (outsAt0 (F := Ideal) m (ok m) c t).2.1 y = G6 m c (pt t y) := by
    intro y
    rw [hL]
    unfold G6
    refine (pay1_apply (grid0.coords t) (wrd (tbl (F := Ideal) m 0)) (iblk (F := Ideal) m (ok m) c 0 t) (iblk (F := Ideal) m (ok m) c 1 t) (iblk (F := Ideal) m (ok m) c 2 t) (iblk (F := Ideal) m (ok m) c 3 t) (iblk (F := Ideal) m (ok m) c 4 t) y).trans ?_
    have e0 := ib0 m c t y
    have e3 := ib3 m c t y
    have e4 := ib4 m c t y
    have eg := gB_eq m c t y
    exact dlt_congr e0 (congrArg₂ mom e3 eg) (congrArg₂ sec e4 eg)
  show ((cfgT m).win 6).cut (grid0.coords t) ((dats (F := Ideal) m (ok m) 0 c).after 6 t) = _
  rw [after0_6]
  funext y
  refine Eq.trans ?_ (Eq.trans (hV y) ?_)
  · rfl
  · exact (Eq.trans (show _ = G6 m c ((((cfgT m).win 6).blk t).view.emb y) from rfl) (congrArg (G6 m c) (emb6 m t y))).symm

/-- Every element is some point's. -/
theorem cover6 (k : S2x128x1024.Idx) : ∃ t : Fin (cfgT m).N, ((cfgT m).win 6).flush t = true ∧ k ∈ (((cfgT m).win 6).blk t).view.set := by
  have h0 : (k 0).val < 2 := (k 0).isLt
  have h1 : (k 1).val < 128 := (k 1).isLt
  have h2 : (k 2).val < 1024 := (k 2).isLt
  obtain ⟨t, t0, t1⟩ := onto ⟨(k 0).val, h0⟩ ⟨(k 1).val / 128, by omega⟩
  refine ⟨t, flush0_6 _ t, ?_⟩
  have e : k = (((cfgT m).win 6).blk t).view.emb ((fun a => match a with
      | ⟨0, _⟩ => ⟨0, Nat.one_pos⟩
      | ⟨1, _⟩ => ⟨(k 1).val % 128, Nat.mod_lt _ (by decide)⟩
      | ⟨2, _⟩ => ⟨(k 2).val, h2⟩ : S1x128x1024.Idx)) := by
    refine Eq.trans ?_ (emb6 m t _).symm
    funext a; apply Fin.ext; fin_cases a
    · exact t0.symm
    · show (k 1).val = (grid0.coords t 1).val * 128 + (k 1).val % 128
      have : (grid0.coords t 1).val = (k 1).val / 128 := t1
      omega
    · rfl
  rw [e]
  exact View.emb_mem_set _ _

/-- So the array ends as that function. -/
theorem fin6 : (dat m c).arrAt 6 (cfgT m).N = G6 m c :=
  (dat m c).arrAt_eq_of_cover 6 _ (fun t _ => flushed6 m c t) (fun k => cover6 m k)

/-- The new first moment as a function of the arguments. -/
def G7 : S2x128x1024.Idx → EReal := fun k => mom (a3 m c k) (gr m c k)

/-- Each point writes back its block of it. -/
theorem flushed7 (t : Fin (cfgT m).N) : (dat m c).flushed 7 t = (((cfgT m).win 7).blk t).view.read (Elt Ideal) (G7 m c) := by
  have hL : (outsAt0 (F := Ideal) m (ok m) c t).2.2.1 = k0_pay2 (k0_pay7 (grid0.coords t) (wrd (tbl (F := Ideal) m 0)) (iblk (F := Ideal) m (ok m) c 1 t) (iblk (F := Ideal) m (ok m) c 2 t) (iblk (F := Ideal) m (ok m) c 3 t)) := by
    unfold outsAt0
    dsimp only
    exact out7 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x128x1024.Idx, (outsAt0 (F := Ideal) m (ok m) c t).2.2.1 y = G7 m c (pt t y) := by
    intro y
    rw [hL]
    unfold G7
    refine ((cast_up _ y).trans (pay7_apply _ _ _ _ _ y)).trans ?_
    exact congrArg₂ mom (ib3 m c t y) (gB_eq m c t y)
  show ((cfgT m).win 7).cut (grid0.coords t) ((dats (F := Ideal) m (ok m) 0 c).after 7 t) = _
  rw [after0_7]
  funext y
  refine Eq.trans ?_ (Eq.trans (hV y) ?_)
  · rfl
  · exact (Eq.trans (show _ = G7 m c ((((cfgT m).win 7).blk t).view.emb y) from rfl) (congrArg (G7 m c) (emb7 m t y))).symm

/-- Every element is some point's. -/
theorem cover7 (k : S2x128x1024.Idx) : ∃ t : Fin (cfgT m).N, ((cfgT m).win 7).flush t = true ∧ k ∈ (((cfgT m).win 7).blk t).view.set := by
  have h0 : (k 0).val < 2 := (k 0).isLt
  have h1 : (k 1).val < 128 := (k 1).isLt
  have h2 : (k 2).val < 1024 := (k 2).isLt
  obtain ⟨t, t0, t1⟩ := onto ⟨(k 0).val, h0⟩ ⟨(k 1).val / 128, by omega⟩
  refine ⟨t, flush0_7 _ t, ?_⟩
  have e : k = (((cfgT m).win 7).blk t).view.emb ((fun a => match a with
      | ⟨0, _⟩ => ⟨0, Nat.one_pos⟩
      | ⟨1, _⟩ => ⟨(k 1).val % 128, Nat.mod_lt _ (by decide)⟩
      | ⟨2, _⟩ => ⟨(k 2).val, h2⟩ : S1x128x1024.Idx)) := by
    refine Eq.trans ?_ (emb7 m t _).symm
    funext a; apply Fin.ext; fin_cases a
    · exact t0.symm
    · show (k 1).val = (grid0.coords t 1).val * 128 + (k 1).val % 128
      have : (grid0.coords t 1).val = (k 1).val / 128 := t1
      omega
    · rfl
  rw [e]
  exact View.emb_mem_set _ _

/-- So the array ends as that function. -/
theorem fin7 : (dat m c).arrAt 7 (cfgT m).N = G7 m c :=
  (dat m c).arrAt_eq_of_cover 7 _ (fun t _ => flushed7 m c t) (fun k => cover7 m k)

/-- The new second moment as a function of the arguments. -/
def G8 : S2x128x1024.Idx → EReal := fun k => sec (a4 m c k) (gr m c k)

/-- Each point writes back its block of it. -/
theorem flushed8 (t : Fin (cfgT m).N) : (dat m c).flushed 8 t = (((cfgT m).win 8).blk t).view.read (Elt Ideal) (G8 m c) := by
  have hL : (outsAt0 (F := Ideal) m (ok m) c t).2.2.2 = k0_pay3 (k0_pay8 (grid0.coords t) (wrd (tbl (F := Ideal) m 0)) (iblk (F := Ideal) m (ok m) c 1 t) (iblk (F := Ideal) m (ok m) c 2 t) (iblk (F := Ideal) m (ok m) c 4 t)) := by
    unfold outsAt0
    dsimp only
    exact out8 c (grid0.coords t) (ms0_0 (F := Ideal) m (ok m) t) (hs0_0 (F := Ideal) m (ok m) t) (ms0_1 (F := Ideal) m (ok m) t) (hs0_1 (F := Ideal) m (ok m) t) (ms0_2 (F := Ideal) m (ok m) t) (hs0_2 (F := Ideal) m (ok m) t) (ms0_3 (F := Ideal) m (ok m) t) (hs0_3 (F := Ideal) m (ok m) t) (ms0_4 (F := Ideal) m (ok m) t) (hs0_4 (F := Ideal) m (ok m) t) (ms0_5 (F := Ideal) m (ok m) t) (hs0_5 (F := Ideal) m (ok m) t) (ms0_6 (F := Ideal) m (ok m) t) (hs0_6 (F := Ideal) m (ok m) t) (ms0_7 (F := Ideal) m (ok m) t) (hs0_7 (F := Ideal) m (ok m) t) (ms0_8 (F := Ideal) m (ok m) t) (hs0_8 (F := Ideal) m (ok m) t) (iblk (F := Ideal) m (ok m) c 0 t) (iblk (F := Ideal) m (ok m) c 1 t) (iblk (F := Ideal) m (ok m) c 2 t) (iblk (F := Ideal) m (ok m) c 3 t) (iblk (F := Ideal) m (ok m) c 4 t) (tbl (F := Ideal) m 0)
  have hV : ∀ y : S1x128x1024.Idx, (outsAt0 (F := Ideal) m (ok m) c t).2.2.2 y = G8 m c (pt t y) := by
    intro y
    rw [hL]
    unfold G8
    refine ((cast_up _ y).trans (pay8_apply _ _ _ _ _ y)).trans ?_
    exact congrArg₂ sec (ib4 m c t y) (gB_eq m c t y)
  show ((cfgT m).win 8).cut (grid0.coords t) ((dats (F := Ideal) m (ok m) 0 c).after 8 t) = _
  rw [after0_8]
  funext y
  refine Eq.trans ?_ (Eq.trans (hV y) ?_)
  · rfl
  · exact (Eq.trans (show _ = G8 m c ((((cfgT m).win 8).blk t).view.emb y) from rfl) (congrArg (G8 m c) (emb8 m t y))).symm

/-- Every element is some point's. -/
theorem cover8 (k : S2x128x1024.Idx) : ∃ t : Fin (cfgT m).N, ((cfgT m).win 8).flush t = true ∧ k ∈ (((cfgT m).win 8).blk t).view.set := by
  have h0 : (k 0).val < 2 := (k 0).isLt
  have h1 : (k 1).val < 128 := (k 1).isLt
  have h2 : (k 2).val < 1024 := (k 2).isLt
  obtain ⟨t, t0, t1⟩ := onto ⟨(k 0).val, h0⟩ ⟨(k 1).val / 128, by omega⟩
  refine ⟨t, flush0_8 _ t, ?_⟩
  have e : k = (((cfgT m).win 8).blk t).view.emb ((fun a => match a with
      | ⟨0, _⟩ => ⟨0, Nat.one_pos⟩
      | ⟨1, _⟩ => ⟨(k 1).val % 128, Nat.mod_lt _ (by decide)⟩
      | ⟨2, _⟩ => ⟨(k 2).val, h2⟩ : S1x128x1024.Idx)) := by
    refine Eq.trans ?_ (emb8 m t _).symm
    funext a; apply Fin.ext; fin_cases a
    · exact t0.symm
    · show (k 1).val = (grid0.coords t 1).val * 128 + (k 1).val % 128
      have : (grid0.coords t 1).val = (k 1).val / 128 := t1
      omega
    · rfl
  rw [e]
  exact View.emb_mem_set _ _

/-- So the array ends as that function. -/
theorem fin8 : (dat m c).arrAt 8 (cfgT m).N = G8 m c :=
  (dat m c).arrAt_eq_of_cover 8 _ (fun t _ => flushed8 m c t) (fun k => cover8 m k)

/-- The reference's gradient. -/
theorem ref7 (x1 x2 : S128x1024.Idx → EReal) (x5 : S1.Idx → BitVec 32) (k : S2x128x1024.Idx) :
    Cert.AdamoRefIdeal.Read.val_main_v7 (F := Ideal) x1 x2 x5 k = gA x1 x2 (wrd x5) k := by
  rw [Cert.AdamoRefIdeal.Read.val_main_v7_apply, Cert.AdamoRefIdeal.Read.val_main_call0_v0_apply, Cert.AdamoRefIdeal.Read.val_main_call0_v1_apply, Cert.AdamoRefIdeal.Read.val_main_call0_v2_apply,
    Cert.AdamoRefIdeal.Read.val_main_v4_apply, Cert.AdamoRefIdeal.Read.val_main_v3_apply, Cert.AdamoRefIdeal.Read.val_main_v2_apply, Cert.AdamoRefIdeal.Read.val_main_v5_apply, Cert.AdamoRefIdeal.Read.val_main_v6_apply]
  have e : ∀ z, Cert.AdamoRefIdeal.Read.val_main_v1 (F := Ideal) x5 z = wrd x5 := fun z => one_idx x5 _
  rw [e]
  have e1 : Cert.AdamoRefIdeal.Read.idx_main_v5 (Cert.AdamoRefIdeal.Read.idx_main_call0_v1 k) = lo3 k := by funext a; fin_cases a <;> rfl
  have e2 : Cert.AdamoRefIdeal.Read.idx_main_v6 (Cert.AdamoRefIdeal.Read.idx_main_call0_v2 k) = lo3 k := by funext a; fin_cases a <;> rfl
  rw [e1, e2]
  rfl

/-- The reference's new first moment. -/
theorem ref12 (x1 x2 : S128x1024.Idx → EReal) (x3 : S2x128x1024.Idx → EReal) (x5 : S1.Idx → BitVec 32) (k : S2x128x1024.Idx) :
    Cert.AdamoRefIdeal.Read.val_main_v12 (F := Ideal) x1 x2 x3 x5 k = mom (x3 k) (gA x1 x2 (wrd x5) k) := by
  rw [← ref7]; rfl

/-- The reference's new second moment. -/
theorem ref18 (x1 x2 : S128x1024.Idx → EReal) (x4 : S2x128x1024.Idx → EReal) (x5 : S1.Idx → BitVec 32) (k : S2x128x1024.Idx) :
    Cert.AdamoRefIdeal.Read.val_main_v18 (F := Ideal) x1 x2 x4 x5 k = sec (x4 k) (gA x1 x2 (wrd x5) k) := by
  rw [← ref7]; rfl

/-- The reference's step. -/
theorem ref31 (x0 : S2x128x1024.Idx → EReal) (x1 x2 : S128x1024.Idx → EReal) (x3 x4 : S2x128x1024.Idx → EReal) (x5 : S1.Idx → BitVec 32) (k : S2x128x1024.Idx) :
    Cert.AdamoRefIdeal.Read.val_main_v31 (F := Ideal) x0 x1 x2 x3 x4 x5 k = dlt (x0 k) (mom (x3 k) (gA x1 x2 (wrd x5) k)) (sec (x4 k) (gA x1 x2 (wrd x5) k)) := by
  have h : Cert.AdamoRefIdeal.Read.val_main_v31 (F := Ideal) x0 x1 x2 x3 x4 x5 k = Ideal.ofBits .f32 0xBA83126F#32 * (Ideal.div (Ideal.div (Cert.AdamoRefIdeal.Read.val_main_v12 (F := Ideal) x1 x2 x3 x5 k) (Ideal.ofBits .f32 0x3F26BD02#32))
      (Ideal.sqrt (Ideal.div (Cert.AdamoRefIdeal.Read.val_main_v18 (F := Ideal) x1 x2 x4 x5 k) (Ideal.ofBits .f32 0x3C231ACC#32)) + Ideal.ofBits .f32 0x322BCC77#32) + Ideal.ofBits .f32 0x3C23D70A#32 * x0 k) := rfl
  rw [h, ref12, ref18, div1, div2]

/-- The kernel's arrays and the reference's results are the same functions of the arguments. -/
theorem alg (hK : Cert.AdamoIdeal.Facts) (hR : Cert.AdamoRefIdeal.Facts) : @Cert.algebraic_AdamoIdeal_AdamoRefIdeal hK hR := by
  intro m ρ m' ρ' _ hag
  refine ⟨_, _, _, _, (θ_run _ _ _).mono (fun r h c => ⟨(h c).1 5, (h c).1 6, (h c).1 7, (h c).1 8,
    ((h c).1 0).trans (((dat m c).arrAt_in 0 rfl _).trans ((A_eq m (ok m) c 0).trans (V_main_arg0 m c))),
    ((h c).1 1).trans (((dat m c).arrAt_in 1 rfl _).trans ((A_eq m (ok m) c 1).trans (V_main_arg1 m c))),
    ((h c).1 2).trans (((dat m c).arrAt_in 2 rfl _).trans ((A_eq m (ok m) c 2).trans (V_main_arg2 m c))),
    ((h c).1 3).trans (((dat m c).arrAt_in 3 rfl _).trans ((A_eq m (ok m) c 3).trans (V_main_arg3 m c))),
    ((h c).1 4).trans (((dat m c).arrAt_in 4 rfl _).trans ((A_eq m (ok m) c 4).trans (V_main_arg4 m c))), ((h c).2 main_arg5 (by decide : main_arg5 ∈ Pipeline.restRefs sig spec0)).trans (V_main_arg5 m c)⟩) (run_main m ρ (ok m)), ?_⟩
  refine (θ_run _ _ _).mono (fun r h c => ?_) (Cert.AdamoRefIdeal.Value.run m' ρ')
  obtain ⟨a, b, d, e, f⟩ := h c
  obtain ⟨g0, g1, g2, g3, g4, g5⟩ := hag c
  rw [Cert.AdamoRefIdeal.Read.val_main_v7_eq, g1, g2, g5] at a
  rw [Cert.AdamoRefIdeal.Read.val_main_v31_eq, g0, g1, g2, g3, g4, g5] at b
  rw [Cert.AdamoRefIdeal.Read.val_main_v12_eq, g1, g2, g3, g5] at d
  rw [Cert.AdamoRefIdeal.Read.val_main_v18_eq, g1, g2, g4, g5] at e
  exact ⟨a.trans ((funext fun k => ref7 _ _ _ k).trans (fin5 m c).symm), b.trans ((funext fun k => ref31 _ _ _ _ _ _ k).trans (fin6 m c).symm),
    d.trans ((funext fun k => ref12 _ _ _ _ k).trans (fin7 m c).symm), e.trans ((funext fun k => ref18 _ _ _ _ k).trans (fin8 m c).symm), f⟩

end Cert.AdamoFinal

end
-- ==== Proof.lean ====
/- The certificate: the frames of the programs, and what the kernels compute. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Dwup
public import proofs.«01_k».proof.Proof.Gen.Dwup.Skeleton
public import proofs.«01_k».proof.Proof.Gen.Dwup.Launch
public import proofs.«01_k».proof.Proof.Gen.Dwup.Points
public import proofs.«01_k».proof.Proof.Gen.Dwup.Frame
public import proofs.«01_k».proof.Proof.Gen.DwupIdeal
public import proofs.«01_k».proof.Proof.Gen.DwupIdeal.Skeleton
public import proofs.«01_k».proof.Proof.Gen.DwupIdeal.Launch
public import proofs.«01_k».proof.Proof.Gen.DwupIdeal.Points
public import proofs.«01_k».proof.Proof.Gen.DwupIdeal.Frame
public import proofs.«01_k».proof.Proof.Gen.DwupIdeal.Value
public import proofs.«01_k».proof.Proof.Gen.DwupRefIdeal
public import proofs.«01_k».proof.Proof.Gen.DwupRefIdeal.Run
public import proofs.«01_k».proof.Proof.Gen.DwupRefIdeal.Read
public import proofs.«01_k».proof.Proof.Gen.Dwdown
public import proofs.«01_k».proof.Proof.Gen.Dwdown.Skeleton
public import proofs.«01_k».proof.Proof.Gen.Dwdown.Launch
public import proofs.«01_k».proof.Proof.Gen.Dwdown.Points
public import proofs.«01_k».proof.Proof.Gen.Dwdown.Frame
public import proofs.«01_k».proof.Proof.Gen.DwdownIdeal
public import proofs.«01_k».proof.Proof.Gen.DwdownIdeal.Skeleton
public import proofs.«01_k».proof.Proof.Gen.DwdownIdeal.Launch
public import proofs.«01_k».proof.Proof.Gen.DwdownIdeal.Points
public import proofs.«01_k».proof.Proof.Gen.DwdownIdeal.Frame
public import proofs.«01_k».proof.Proof.Gen.DwdownIdeal.Value
public import proofs.«01_k».proof.Proof.Gen.DwdownRefIdeal
public import proofs.«01_k».proof.Proof.Gen.DwdownRefIdeal.Run
public import proofs.«01_k».proof.Proof.Gen.DwdownRefIdeal.Read
public import proofs.«01_k».proof.Proof.Gen.Dwup1
public import proofs.«01_k».proof.Proof.Gen.Dwup1.Skeleton
public import proofs.«01_k».proof.Proof.Gen.Dwup1.Launch
public import proofs.«01_k».proof.Proof.Gen.Dwup1.Points
public import proofs.«01_k».proof.Proof.Gen.Dwup1.Frame
public import proofs.«01_k».proof.Proof.Gen.Dwup1Ideal
public import proofs.«01_k».proof.Proof.Gen.Dwup1Ideal.Skeleton
public import proofs.«01_k».proof.Proof.Gen.Dwup1Ideal.Launch
public import proofs.«01_k».proof.Proof.Gen.Dwup1Ideal.Points
public import proofs.«01_k».proof.Proof.Gen.Dwup1Ideal.Frame
public import proofs.«01_k».proof.Proof.Gen.Dwup1Ideal.Value
public import proofs.«01_k».proof.Proof.Gen.Dwup1RefIdeal
public import proofs.«01_k».proof.Proof.Gen.Dwup1RefIdeal.Run
public import proofs.«01_k».proof.Proof.Gen.Dwup1RefIdeal.Read
public import proofs.«01_k».proof.Proof.Gen.Dwdown1
public import proofs.«01_k».proof.Proof.Gen.Dwdown1.Skeleton
public import proofs.«01_k».proof.Proof.Gen.Dwdown1.Launch
public import proofs.«01_k».proof.Proof.Gen.Dwdown1.Points
public import proofs.«01_k».proof.Proof.Gen.Dwdown1.Frame
public import proofs.«01_k».proof.Proof.Gen.Dwdown1Ideal
public import proofs.«01_k».proof.Proof.Gen.Dwdown1Ideal.Skeleton
public import proofs.«01_k».proof.Proof.Gen.Dwdown1Ideal.Launch
public import proofs.«01_k».proof.Proof.Gen.Dwdown1Ideal.Points
public import proofs.«01_k».proof.Proof.Gen.Dwdown1Ideal.Frame
public import proofs.«01_k».proof.Proof.Gen.Dwdown1Ideal.Value
public import proofs.«01_k».proof.Proof.Gen.Dwdown1RefIdeal
public import proofs.«01_k».proof.Proof.Gen.Dwdown1RefIdeal.Run
public import proofs.«01_k».proof.Proof.Gen.Dwdown1RefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Gen.Dwo
public import proofs.«01_k».proof.Proof.Gen.Dwo.Skeleton
public import proofs.«01_k».proof.Proof.Gen.Dwo.Launch
public import proofs.«01_k».proof.Proof.Gen.Dwo.Points
public import proofs.«01_k».proof.Proof.Gen.Dwo.Frame
public import proofs.«01_k».proof.Proof.Gen.DwoIdeal
public import proofs.«01_k».proof.Proof.Gen.DwoIdeal.Skeleton
public import proofs.«01_k».proof.Proof.Gen.DwoIdeal.Launch
public import proofs.«01_k».proof.Proof.Gen.DwoIdeal.Points
public import proofs.«01_k».proof.Proof.Gen.DwoIdeal.Frame
public import proofs.«01_k».proof.Proof.Gen.DwoIdeal.Value
public import proofs.«01_k».proof.Proof.Gen.DwoRefIdeal
public import proofs.«01_k».proof.Proof.Gen.DwoRefIdeal.Run
public import proofs.«01_k».proof.Proof.Gen.DwoRefIdeal.Read
public import proofs.«01_k».proof.Proof.Gen.Datt
public import proofs.«01_k».proof.Proof.Gen.Datt.Skeleton
public import proofs.«01_k».proof.Proof.Gen.Datt.Launch
public import proofs.«01_k».proof.Proof.Gen.Datt.Points
public import proofs.«01_k».proof.Proof.Gen.Datt.Frame
public import proofs.«01_k».proof.Proof.Gen.DattIdeal
public import proofs.«01_k».proof.Proof.Gen.DattIdeal.Skeleton
public import proofs.«01_k».proof.Proof.Gen.DattIdeal.Launch
public import proofs.«01_k».proof.Proof.Gen.DattIdeal.Points
public import proofs.«01_k».proof.Proof.Gen.DattIdeal.Frame
public import proofs.«01_k».proof.Proof.Gen.DattIdeal.Value
public import proofs.«01_k».proof.Proof.Gen.DattRefIdeal
public import proofs.«01_k».proof.Proof.Gen.DattRefIdeal.Run
public import proofs.«01_k».proof.Proof.Gen.DattRefIdeal.Read
public import proofs.«01_k».proof.Proof.Gen.Inbwd
public import proofs.«01_k».proof.Proof.Gen.Inbwd.Skeleton
public import proofs.«01_k».proof.Proof.Gen.Inbwd.Launch
public import proofs.«01_k».proof.Proof.Gen.Inbwd.Points
public import proofs.«01_k».proof.Proof.Gen.Inbwd.Frame
public import proofs.«01_k».proof.Proof.Gen.InbwdIdeal
public import proofs.«01_k».proof.Proof.Gen.InbwdIdeal.Skeleton
public import proofs.«01_k».proof.Proof.Gen.InbwdIdeal.Launch
public import proofs.«01_k».proof.Proof.Gen.InbwdIdeal.Points
public import proofs.«01_k».proof.Proof.Gen.InbwdIdeal.Frame
public import proofs.«01_k».proof.Proof.Gen.InbwdIdeal.Value
public import proofs.«01_k».proof.Proof.Gen.InbwdRefIdeal
public import proofs.«01_k».proof.Proof.Gen.InbwdRefIdeal.Run
public import proofs.«01_k».proof.Proof.Gen.InbwdRefIdeal.Read
public import proofs.«01_k».proof.Proof.Gen.Outb
public import proofs.«01_k».proof.Proof.Gen.Outb.Skeleton
public import proofs.«01_k».proof.Proof.Gen.Outb.Launch
public import proofs.«01_k».proof.Proof.Gen.Outb.Points
public import proofs.«01_k».proof.Proof.Gen.Outb.Frame
public import proofs.«01_k».proof.Proof.Gen.OutbIdeal
public import proofs.«01_k».proof.Proof.Gen.OutbIdeal.Skeleton
public import proofs.«01_k».proof.Proof.Gen.OutbIdeal.Launch
public import proofs.«01_k».proof.Proof.Gen.OutbIdeal.Points
public import proofs.«01_k».proof.Proof.Gen.OutbIdeal.Frame
public import proofs.«01_k».proof.Proof.Gen.OutbIdeal.Value
public import proofs.«01_k».proof.Proof.Gen.OutbRefIdeal
public import proofs.«01_k».proof.Proof.Gen.OutbRefIdeal.Run
public import proofs.«01_k».proof.Proof.Gen.OutbRefIdeal.Read
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Lruin
public import proofs.«01_k».proof.Proof.Gen.Lruin.Skeleton
public import proofs.«01_k».proof.Proof.Gen.Lruin.Launch
public import proofs.«01_k».proof.Proof.Gen.Lruin.Points
public import proofs.«01_k».proof.Proof.Gen.Lruin.Frame
public import proofs.«01_k».proof.Proof.Gen.LruinIdeal
public import proofs.«01_k».proof.Proof.Gen.LruinIdeal.Skeleton
public import proofs.«01_k».proof.Proof.Gen.LruinIdeal.Launch
public import proofs.«01_k».proof.Proof.Gen.LruinIdeal.Points
public import proofs.«01_k».proof.Proof.Gen.LruinIdeal.Frame
public import proofs.«01_k».proof.Proof.Gen.LruinIdeal.Value
public import proofs.«01_k».proof.Proof.Gen.LruinRefIdeal
public import proofs.«01_k».proof.Proof.Gen.LruinRefIdeal.Run
public import proofs.«01_k».proof.Proof.Gen.LruinRefIdeal.Read
public import proofs.«01_k».proof.Proof.Gen.Lruout
public import proofs.«01_k».proof.Proof.Gen.Lruout.Skeleton
public import proofs.«01_k».proof.Proof.Gen.Lruout.Launch
public import proofs.«01_k».proof.Proof.Gen.Lruout.Points
public import proofs.«01_k».proof.Proof.Gen.Lruout.Frame
public import proofs.«01_k».proof.Proof.Gen.LruoutIdeal
public import proofs.«01_k».proof.Proof.Gen.LruoutIdeal.Skeleton
public import proofs.«01_k».proof.Proof.Gen.LruoutIdeal.Launch
public import proofs.«01_k».proof.Proof.Gen.LruoutIdeal.Points
public import proofs.«01_k».proof.Proof.Gen.LruoutIdeal.Frame
public import proofs.«01_k».proof.Proof.Gen.LruoutIdeal.Value
public import proofs.«01_k».proof.Proof.Gen.LruoutRefIdeal
public import proofs.«01_k».proof.Proof.Gen.LruoutRefIdeal.Run
public import proofs.«01_k».proof.Proof.Gen.LruoutRefIdeal.Read
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttIdeal.Frame
public import proofs.«01_k».proof.Proof.Gen.AttIdeal.Value
public import proofs.«01_k».proof.Proof.Gen.AttRefIdeal
public import proofs.«01_k».proof.Proof.Gen.AttRefIdeal.Run
public import proofs.«01_k».proof.Proof.Gen.AttRefIdeal.Read
public import proofs.«01_k».proof.Proof.Gen.Adams
public import proofs.«01_k».proof.Proof.Gen.Adams.Skeleton
public import proofs.«01_k».proof.Proof.Gen.Adams.Launch
public import proofs.«01_k».proof.Proof.Gen.Adams.Points
public import proofs.«01_k».proof.Proof.Gen.Adams.Frame
public import proofs.«01_k».proof.Proof.Gen.AdamsIdeal
public import proofs.«01_k».proof.Proof.Gen.AdamsIdeal.Skeleton
public import proofs.«01_k».proof.Proof.Gen.AdamsIdeal.Launch
public import proofs.«01_k».proof.Proof.Gen.AdamsIdeal.Points
public import proofs.«01_k».proof.Proof.Gen.AdamsIdeal.Frame
public import proofs.«01_k».proof.Proof.Gen.AdamsIdeal.Value
public import proofs.«01_k».proof.Proof.Gen.AdamsRefIdeal
public import proofs.«01_k».proof.Proof.Gen.AdamsRefIdeal.Run
public import proofs.«01_k».proof.Proof.Gen.AdamsRefIdeal.Read
public import proofs.«01_k».proof.Proof.Gen.Adamup
public import proofs.«01_k».proof.Proof.Gen.Adamup.Skeleton
public import proofs.«01_k».proof.Proof.Gen.Adamup.Launch
public import proofs.«01_k».proof.Proof.Gen.Adamup.Points
public import proofs.«01_k».proof.Proof.Gen.Adamup.Frame
public import proofs.«01_k».proof.Proof.Gen.AdamupIdeal
public import proofs.«01_k».proof.Proof.Gen.AdamupIdeal.Skeleton
public import proofs.«01_k».proof.Proof.Gen.AdamupIdeal.Launch
public import proofs.«01_k».proof.Proof.Gen.AdamupIdeal.Points
public import proofs.«01_k».proof.Proof.Gen.AdamupIdeal.Frame
public import proofs.«01_k».proof.Proof.Gen.AdamupRefIdeal
public import proofs.«01_k».proof.Proof.Gen.AdamupRefIdeal.Run
public import proofs.«01_k».proof.Proof.Gen.AdamupRefIdeal.Read
public import proofs.«01_k».proof.Proof.Gen.Adamqkv
public import proofs.«01_k».proof.Proof.Gen.Adamqkv.Skeleton
public import proofs.«01_k».proof.Proof.Gen.Adamqkv.Launch
public import proofs.«01_k».proof.Proof.Gen.Adamqkv.Points
public import proofs.«01_k».proof.Proof.Gen.Adamqkv.Frame
public import proofs.«01_k».proof.Proof.Gen.AdamqkvIdeal
public import proofs.«01_k».proof.Proof.Gen.AdamqkvIdeal.Skeleton
public import proofs.«01_k».proof.Proof.Gen.AdamqkvIdeal.Launch
public import proofs.«01_k».proof.Proof.Gen.AdamqkvIdeal.Points
public import proofs.«01_k».proof.Proof.Gen.AdamqkvIdeal.Frame
public import proofs.«01_k».proof.Proof.Gen.AdamqkvRefIdeal
public import proofs.«01_k».proof.Proof.Gen.AdamqkvRefIdeal.Run
public import proofs.«01_k».proof.Proof.Gen.AdamqkvRefIdeal.Read
public import proofs.«01_k».proof.Proof.Gen.Adamin
public import proofs.«01_k».proof.Proof.Gen.Adamin.Skeleton
public import proofs.«01_k».proof.Proof.Gen.Adamin.Launch
public import proofs.«01_k».proof.Proof.Gen.Adamin.Points
public import proofs.«01_k».proof.Proof.Gen.Adamin.Frame
public import proofs.«01_k».proof.Proof.Gen.AdaminIdeal
public import proofs.«01_k».proof.Proof.Gen.AdaminIdeal.Skeleton
public import proofs.«01_k».proof.Proof.Gen.AdaminIdeal.Launch
public import proofs.«01_k».proof.Proof.Gen.AdaminIdeal.Points
public import proofs.«01_k».proof.Proof.Gen.AdaminIdeal.Frame
public import proofs.«01_k».proof.Proof.Gen.AdaminRefIdeal
public import proofs.«01_k».proof.Proof.Gen.AdaminRefIdeal.Run
public import proofs.«01_k».proof.Proof.Gen.AdaminRefIdeal.Read
public import proofs.«01_k».proof.Proof.Gen.Adamo
public import proofs.«01_k».proof.Proof.Gen.Adamo.Skeleton
public import proofs.«01_k».proof.Proof.Gen.Adamo.Launch
public import proofs.«01_k».proof.Proof.Gen.Adamo.Points
public import proofs.«01_k».proof.Proof.Gen.Adamo.Frame
public import proofs.«01_k».proof.Proof.Gen.AdamoIdeal
public import proofs.«01_k».proof.Proof.Gen.AdamoIdeal.Skeleton
public import proofs.«01_k».proof.Proof.Gen.AdamoIdeal.Launch
public import proofs.«01_k».proof.Proof.Gen.AdamoIdeal.Points
public import proofs.«01_k».proof.Proof.Gen.AdamoIdeal.Frame
public import proofs.«01_k».proof.Proof.Gen.AdamoRefIdeal
public import proofs.«01_k».proof.Proof.Gen.AdamoRefIdeal.Run
public import proofs.«01_k».proof.Proof.Gen.AdamoRefIdeal.Read
public import proofs.«01_k».proof.Proof.Gen.Pre_outb_finite
public import proofs.«01_k».proof.Proof.Gen.On_dwup1_on
public import proofs.«01_k».proof.Proof.Gen.On_dwdown1_on
public import proofs.«01_k».proof.Proof.Gen.On_outb_on
public import proofs.«01_k».proof.Proof.MlpFinal
public import proofs.«01_k».proof.Proof.DwupFinal
public import proofs.«01_k».proof.Proof.DwdownFinal
public import proofs.«01_k».proof.Proof.Dwup1Final
public import proofs.«01_k».proof.Proof.Dwdown1Final
public import proofs.«01_k».proof.Proof.ConvFinal
public import proofs.«01_k».proof.Proof.DwinFinal
public import proofs.«01_k».proof.Proof.DwoFinal
public import proofs.«01_k».proof.Proof.DattFinal
public import proofs.«01_k».proof.Proof.InbwdFinal
public import proofs.«01_k».proof.Proof.OutbFinal
public import proofs.«01_k».proof.Proof.FwdFinal
public import proofs.«01_k».proof.Proof.QkvFinal
public import proofs.«01_k».proof.Proof.LruinFinal
public import proofs.«01_k».proof.Proof.LruoutFinal
public import proofs.«01_k».proof.Proof.AttFinal
public import proofs.«01_k».proof.Proof.AdamsFinal
public import proofs.«01_k».proof.Proof.AdamupFinal
public import proofs.«01_k».proof.Proof.AdamqkvFinal
public import proofs.«01_k».proof.Proof.AdaminFinal
public import proofs.«01_k».proof.Proof.AdamoFinal
public import Idealize.ShloMosaic.Adequacy
public import Idealize.ShloMosaic.Init
public import Idealize.ShloMosaic.Lib.Quiescent

@[expose] public section

noncomputable section

namespace Cert.Proof

open Idealize.ShloMosaic Idealize.SL.Sem

/-- The reference of the feed-forward block's gradient ends, leaves its arguments as they were, and uses no semaphore. -/
theorem frame_MlpRefIdeal [Cert.MlpRefIdeal.Facts] : Cert.quiescent_MlpRefIdeal := fun m ρ _ =>
  (θ_run Cert.MlpRefIdeal.defs _ _).mono
    (fun r h => ⟨fun c => (h c).2.2.2.2, sem_eq_zero_of_no_sems (by decide) r.2⟩)
    (Cert.MlpRefIdeal.Value.run (F := Ideal) m ρ)

/-- The reference of the up projection's weight gradient ends, leaves its arguments as they were, and uses no semaphore. -/
theorem frame_DwupRefIdeal [Cert.DwupRefIdeal.Facts] : Cert.quiescent_DwupRefIdeal := fun m ρ _ =>
  (θ_run Cert.DwupRefIdeal.defs _ _).mono
    (fun r h => ⟨fun c => (h c).2, sem_eq_zero_of_no_sems (by decide) r.2⟩)
    (Cert.DwupRefIdeal.Value.run (F := Ideal) m ρ)

/-- The reference of the down projection's weight gradient ends, leaves its arguments as they were, and uses no semaphore. -/
theorem frame_DwdownRefIdeal [Cert.DwdownRefIdeal.Facts] : Cert.quiescent_DwdownRefIdeal := fun m ρ _ =>
  (θ_run Cert.DwdownRefIdeal.defs _ _).mono
    (fun r h => ⟨fun c => (h c).2, sem_eq_zero_of_no_sems (by decide) r.2⟩)
    (Cert.DwdownRefIdeal.Value.run (F := Ideal) m ρ)

/-- The reference of the second layer's up projection's weight gradient ends, leaves its arguments as they were, and uses no semaphore. -/
theorem frame_Dwup1RefIdeal [Cert.Dwup1RefIdeal.Facts] : Cert.quiescent_Dwup1RefIdeal := fun m ρ _ =>
  (θ_run Cert.Dwup1RefIdeal.defs _ _).mono
    (fun r h => ⟨fun c => (h c).2, sem_eq_zero_of_no_sems (by decide) r.2⟩)
    (Cert.Dwup1RefIdeal.Value.run (F := Ideal) m ρ)

/-- The reference of the second layer's down projection's weight gradient ends, leaves its arguments as they were, and uses no semaphore. -/
theorem frame_Dwdown1RefIdeal [Cert.Dwdown1RefIdeal.Facts] : Cert.quiescent_Dwdown1RefIdeal := fun m ρ _ =>
  (θ_run Cert.Dwdown1RefIdeal.defs _ _).mono
    (fun r h => ⟨fun c => (h c).2, sem_eq_zero_of_no_sems (by decide) r.2⟩)
    (Cert.Dwdown1RefIdeal.Value.run (F := Ideal) m ρ)

/-- The reference of the convolution's gradient ends, leaves its arguments as they were, and uses no semaphore. -/
theorem frame_ConvRefIdeal [Cert.ConvRefIdeal.Facts] : Cert.quiescent_ConvRefIdeal := fun m ρ _ =>
  (θ_run Cert.ConvRefIdeal.defs _ _).mono
    (fun r h => ⟨fun c => (h c).2.2.2, sem_eq_zero_of_no_sems (by decide) r.2⟩)
    (Cert.ConvRefIdeal.Value.run (F := Ideal) m ρ)

/-- The reference of the recurrent block's input projection's weight gradient ends, leaves its arguments as they were, and uses no semaphore. -/
theorem frame_DwinRefIdeal [Cert.DwinRefIdeal.Facts] : Cert.quiescent_DwinRefIdeal := fun m ρ _ =>
  (θ_run Cert.DwinRefIdeal.defs _ _).mono
    (fun r h => ⟨fun c => (h c).2, sem_eq_zero_of_no_sems (by decide) r.2⟩)
    (Cert.DwinRefIdeal.Value.run (F := Ideal) m ρ)

/-- The reference of the square projections' weight gradient ends, leaves its arguments as they were, and uses no semaphore. -/
theorem frame_DwoRefIdeal [Cert.DwoRefIdeal.Facts] : Cert.quiescent_DwoRefIdeal := fun m ρ _ =>
  (θ_run Cert.DwoRefIdeal.defs _ _).mono
    (fun r h => ⟨fun c => (h c).2, sem_eq_zero_of_no_sems (by decide) r.2⟩)
    (Cert.DwoRefIdeal.Value.run (F := Ideal) m ρ)

/-- The reference of the attention's output projection's gradient ends, leaves its arguments as they were, and uses no semaphore. -/
theorem frame_DattRefIdeal [Cert.DattRefIdeal.Facts] : Cert.quiescent_DattRefIdeal := fun m ρ _ =>
  (θ_run Cert.DattRefIdeal.defs _ _).mono
    (fun r h => ⟨fun c => (h c).2, sem_eq_zero_of_no_sems (by decide) r.2⟩)
    (Cert.DattRefIdeal.Value.run (F := Ideal) m ρ)

/-- The reference of the recurrent block's input projection's gradient ends, leaves its arguments as they were, and uses no semaphore. -/
theorem frame_InbwdRefIdeal [Cert.InbwdRefIdeal.Facts] : Cert.quiescent_InbwdRefIdeal := fun m ρ _ =>
  (θ_run Cert.InbwdRefIdeal.defs _ _).mono
    (fun r h => ⟨fun c => (h c).2.2.2, sem_eq_zero_of_no_sems (by decide) r.2⟩)
    (Cert.InbwdRefIdeal.Value.run (F := Ideal) m ρ)

/-- The reference of the output gate's gradient ends, leaves its arguments as they were, and uses no semaphore. -/
theorem frame_OutbRefIdeal [Cert.OutbRefIdeal.Facts] : Cert.quiescent_OutbRefIdeal := fun m ρ _ =>
  (θ_run Cert.OutbRefIdeal.defs _ _).mono
    (fun r h => ⟨fun c => (h c).2.2, sem_eq_zero_of_no_sems (by decide) r.2⟩)
    (Cert.OutbRefIdeal.Value.run (F := Ideal) m ρ)

/-- The reference of the feed-forward block ends, leaves its arguments as they were, and uses no semaphore. -/
theorem frame_FwdRefIdeal [Cert.FwdRefIdeal.Facts] : Cert.quiescent_FwdRefIdeal := fun m ρ _ =>
  (θ_run Cert.FwdRefIdeal.defs _ _).mono
    (fun r h => ⟨fun c => (h c).2.2.2, sem_eq_zero_of_no_sems (by decide) r.2⟩)
    (Cert.FwdRefIdeal.Value.run (F := Ideal) m ρ)

/-- The reference of the attention's norm and projection ends, leaves its arguments as they were, and uses no semaphore. -/
theorem frame_QkvRefIdeal [Cert.QkvRefIdeal.Facts] : Cert.quiescent_QkvRefIdeal := fun m ρ _ =>
  (θ_run Cert.QkvRefIdeal.defs _ _).mono
    (fun r h => ⟨fun c => (h c).2.2, sem_eq_zero_of_no_sems (by decide) r.2⟩)
    (Cert.QkvRefIdeal.Value.run (F := Ideal) m ρ)

/-- The reference of the recurrent block's norm and projection ends, leaves its arguments as they were, and uses no semaphore. -/
theorem frame_LruinRefIdeal [Cert.LruinRefIdeal.Facts] : Cert.quiescent_LruinRefIdeal := fun m ρ _ =>
  (θ_run Cert.LruinRefIdeal.defs _ _).mono
    (fun r h => ⟨fun c => (h c).2.2, sem_eq_zero_of_no_sems (by decide) r.2⟩)
    (Cert.LruinRefIdeal.Value.run (F := Ideal) m ρ)

/-- The reference of the recurrent block's gated output projection ends, leaves its arguments as they were, and uses no semaphore. -/
theorem frame_LruoutRefIdeal [Cert.LruoutRefIdeal.Facts] : Cert.quiescent_LruoutRefIdeal := fun m ρ _ =>
  (θ_run Cert.LruoutRefIdeal.defs _ _).mono
    (fun r h => ⟨fun c => (h c).2.2, sem_eq_zero_of_no_sems (by decide) r.2⟩)
    (Cert.LruoutRefIdeal.Value.run (F := Ideal) m ρ)

/-- The reference of the attention's output projection ends, leaves its arguments as they were, and uses no semaphore. -/
theorem frame_AttRefIdeal [Cert.AttRefIdeal.Facts] : Cert.quiescent_AttRefIdeal := fun m ρ _ =>
  (θ_run Cert.AttRefIdeal.defs _ _).mono
    (fun r h => ⟨fun c => (h c).2, sem_eq_zero_of_no_sems (by decide) r.2⟩)
    (Cert.AttRefIdeal.Value.run (F := Ideal) m ρ)

/-- The reference of the optimiser on the small weights ends, leaves its arguments as they were, and uses no semaphore. -/
theorem frame_AdamsRefIdeal [Cert.AdamsRefIdeal.Facts] : Cert.quiescent_AdamsRefIdeal := fun m ρ _ =>
  (θ_run Cert.AdamsRefIdeal.defs _ _).mono
    (fun r h => ⟨fun c => (h c).2.2.2, sem_eq_zero_of_no_sems (by decide) r.2⟩)
    (Cert.AdamsRefIdeal.Value.run (F := Ideal) m ρ)

/-- The reference of the optimiser on the feed-forward weights ends, leaves its arguments as they were, and uses no semaphore. -/
theorem frame_AdamupRefIdeal [Cert.AdamupRefIdeal.Facts] : Cert.quiescent_AdamupRefIdeal := fun m ρ _ =>
  (θ_run Cert.AdamupRefIdeal.defs _ _).mono
    (fun r h => ⟨fun c => (h c).2.2.2.2, sem_eq_zero_of_no_sems (by decide) r.2⟩)
    (Cert.AdamupRefIdeal.Value.run (F := Ideal) m ρ)

/-- The reference of the optimiser on the attention's first projection ends, leaves its arguments as they were, and uses no semaphore. -/
theorem frame_AdamqkvRefIdeal [Cert.AdamqkvRefIdeal.Facts] : Cert.quiescent_AdamqkvRefIdeal := fun m ρ _ =>
  (θ_run Cert.AdamqkvRefIdeal.defs _ _).mono
    (fun r h => ⟨fun c => (h c).2.2.2.2, sem_eq_zero_of_no_sems (by decide) r.2⟩)
    (Cert.AdamqkvRefIdeal.Value.run (F := Ideal) m ρ)

/-- The reference of the optimiser on the recurrent block's input projection ends, leaves its arguments as they were, and uses no semaphore. -/
theorem frame_AdaminRefIdeal [Cert.AdaminRefIdeal.Facts] : Cert.quiescent_AdaminRefIdeal := fun m ρ _ =>
  (θ_run Cert.AdaminRefIdeal.defs _ _).mono
    (fun r h => ⟨fun c => (h c).2.2.2.2, sem_eq_zero_of_no_sems (by decide) r.2⟩)
    (Cert.AdaminRefIdeal.Value.run (F := Ideal) m ρ)

/-- The reference of the optimiser on the output projections ends, leaves its arguments as they were, and uses no semaphore. -/
theorem frame_AdamoRefIdeal [Cert.AdamoRefIdeal.Facts] : Cert.quiescent_AdamoRefIdeal := fun m ρ _ =>
  (θ_run Cert.AdamoRefIdeal.defs _ _).mono
    (fun r h => ⟨fun c => (h c).2.2.2.2, sem_eq_zero_of_no_sems (by decide) r.2⟩)
    (Cert.AdamoRefIdeal.Value.run (F := Ideal) m ρ)

/-- Everything that is claimed. -/
theorem claim : Cert.Claim :=
  ⟨Cert.Mlp.Gen.facts, Cert.MlpIdeal.Gen.facts, Cert.MlpRefIdeal.Gen.facts,
    Cert.Dwup.Gen.facts, Cert.DwupIdeal.Gen.facts, Cert.DwupRefIdeal.Gen.facts,
    Cert.Dwdown.Gen.facts, Cert.DwdownIdeal.Gen.facts, Cert.DwdownRefIdeal.Gen.facts,
    Cert.Dwup1.Gen.facts, Cert.Dwup1Ideal.Gen.facts, Cert.Dwup1RefIdeal.Gen.facts,
    Cert.Dwdown1.Gen.facts, Cert.Dwdown1Ideal.Gen.facts, Cert.Dwdown1RefIdeal.Gen.facts,
    Cert.Conv.Gen.facts, Cert.ConvIdeal.Gen.facts, Cert.ConvRefIdeal.Gen.facts,
    Cert.Dwin.Gen.facts, Cert.DwinIdeal.Gen.facts, Cert.DwinRefIdeal.Gen.facts,
    Cert.Dwo.Gen.facts, Cert.DwoIdeal.Gen.facts, Cert.DwoRefIdeal.Gen.facts,
    Cert.Datt.Gen.facts, Cert.DattIdeal.Gen.facts, Cert.DattRefIdeal.Gen.facts,
    Cert.Inbwd.Gen.facts, Cert.InbwdIdeal.Gen.facts, Cert.InbwdRefIdeal.Gen.facts,
    Cert.Outb.Gen.facts, Cert.OutbIdeal.Gen.facts, Cert.OutbRefIdeal.Gen.facts,
    Cert.Fwd.Gen.facts, Cert.FwdIdeal.Gen.facts, Cert.FwdRefIdeal.Gen.facts,
    Cert.Qkv.Gen.facts, Cert.QkvIdeal.Gen.facts, Cert.QkvRefIdeal.Gen.facts,
    Cert.Lruin.Gen.facts, Cert.LruinIdeal.Gen.facts, Cert.LruinRefIdeal.Gen.facts,
    Cert.Lruout.Gen.facts, Cert.LruoutIdeal.Gen.facts, Cert.LruoutRefIdeal.Gen.facts,
    Cert.Att.Gen.facts, Cert.AttIdeal.Gen.facts, Cert.AttRefIdeal.Gen.facts,
    Cert.Adams.Gen.facts, Cert.AdamsIdeal.Gen.facts, Cert.AdamsRefIdeal.Gen.facts,
    Cert.Adamup.Gen.facts, Cert.AdamupIdeal.Gen.facts, Cert.AdamupRefIdeal.Gen.facts,
    Cert.Adamqkv.Gen.facts, Cert.AdamqkvIdeal.Gen.facts, Cert.AdamqkvRefIdeal.Gen.facts,
    Cert.Adamin.Gen.facts, Cert.AdaminIdeal.Gen.facts, Cert.AdaminRefIdeal.Gen.facts,
    Cert.Adamo.Gen.facts, Cert.AdamoIdeal.Gen.facts, Cert.AdamoRefIdeal.Gen.facts,
    Cert.Pre_outb_finite.Gen.facts,
    Cert.On_dwup1_on.Gen.facts,
    Cert.On_dwdown1_on.Gen.facts,
    Cert.On_outb_on.Gen.facts,
    fun m ρ _ => Cert.Mlp.Gen.frame m ρ, fun m ρ _ => Cert.MlpIdeal.Gen.frame m ρ, frame_MlpRefIdeal,
    fun m ρ _ => Cert.Dwup.Gen.frame m ρ, fun m ρ _ => Cert.DwupIdeal.Gen.frame m ρ, frame_DwupRefIdeal,
    fun m ρ _ => Cert.Dwdown.Gen.frame m ρ, fun m ρ _ => Cert.DwdownIdeal.Gen.frame m ρ, frame_DwdownRefIdeal,
    fun m ρ _ => Cert.Dwup1.Gen.frame m ρ, fun m ρ _ => Cert.Dwup1Ideal.Gen.frame m ρ, frame_Dwup1RefIdeal,
    fun m ρ _ => Cert.Dwdown1.Gen.frame m ρ, fun m ρ _ => Cert.Dwdown1Ideal.Gen.frame m ρ, frame_Dwdown1RefIdeal,
    fun m ρ _ => Cert.Conv.Gen.frame m ρ, fun m ρ _ => Cert.ConvIdeal.Gen.frame m ρ, frame_ConvRefIdeal,
    fun m ρ _ => Cert.Dwin.Gen.frame m ρ, fun m ρ _ => Cert.DwinIdeal.Gen.frame m ρ, frame_DwinRefIdeal,
    fun m ρ _ => Cert.Dwo.Gen.frame m ρ, fun m ρ _ => Cert.DwoIdeal.Gen.frame m ρ, frame_DwoRefIdeal,
    fun m ρ _ => Cert.Datt.Gen.frame m ρ, fun m ρ _ => Cert.DattIdeal.Gen.frame m ρ, frame_DattRefIdeal,
    fun m ρ _ => Cert.Inbwd.Gen.frame m ρ, fun m ρ _ => Cert.InbwdIdeal.Gen.frame m ρ, frame_InbwdRefIdeal,
    fun m ρ _ => Cert.Outb.Gen.frame m ρ, fun m ρ _ => Cert.OutbIdeal.Gen.frame m ρ, fun m ρ _ => Cert.OutbIdeal.Gen.frame m ρ,
    frame_OutbRefIdeal, fun m ρ _ => frame_OutbRefIdeal m ρ trivial,
    fun m ρ _ => Cert.Fwd.Gen.frame m ρ, fun m ρ _ => Cert.FwdIdeal.Gen.frame m ρ, frame_FwdRefIdeal,
    fun m ρ _ => Cert.Qkv.Gen.frame m ρ, fun m ρ _ => Cert.QkvIdeal.Gen.frame m ρ, frame_QkvRefIdeal,
    fun m ρ _ => Cert.Lruin.Gen.frame m ρ, fun m ρ _ => Cert.LruinIdeal.Gen.frame m ρ, frame_LruinRefIdeal,
    fun m ρ _ => Cert.Lruout.Gen.frame m ρ, fun m ρ _ => Cert.LruoutIdeal.Gen.frame m ρ, frame_LruoutRefIdeal,
    fun m ρ _ => Cert.Att.Gen.frame m ρ, fun m ρ _ => Cert.AttIdeal.Gen.frame m ρ, frame_AttRefIdeal,
    fun m ρ _ => Cert.Adams.Gen.frame m ρ, fun m ρ _ => Cert.AdamsIdeal.Gen.frame m ρ, frame_AdamsRefIdeal,
    fun m ρ _ => Cert.Adamup.Gen.frame m ρ trivial, fun m ρ _ => Cert.AdamupIdeal.Gen.frame m ρ trivial, frame_AdamupRefIdeal,
    fun m ρ _ => Cert.Adamqkv.Gen.frame m ρ trivial, fun m ρ _ => Cert.AdamqkvIdeal.Gen.frame m ρ trivial, frame_AdamqkvRefIdeal,
    fun m ρ _ => Cert.Adamin.Gen.frame m ρ trivial, fun m ρ _ => Cert.AdaminIdeal.Gen.frame m ρ trivial, frame_AdaminRefIdeal,
    fun m ρ _ => Cert.Adamo.Gen.frame m ρ trivial, fun m ρ _ => Cert.AdamoIdeal.Gen.frame m ρ trivial, frame_AdamoRefIdeal,
    trivial, Cert.MlpFinal.alg _ _,
    trivial, Cert.DwupFinal.alg _ _,
    trivial, Cert.DwdownFinal.alg _ _,
    trivial, Cert.Dwup1Final.alg _ _ _,
    trivial, Cert.Dwdown1Final.alg _ _ _,
    trivial, Cert.ConvFinal.alg _ _,
    trivial, Cert.DwinFinal.alg _ _,
    trivial, Cert.DwoFinal.alg _ _,
    trivial, Cert.DattFinal.alg _ _,
    trivial, Cert.InbwdFinal.alg _ _,
    Cert.OutbFinal.names, Cert.OutbFinal.alg _ _ _ _,
    trivial, Cert.FwdFinal.alg _ _,
    trivial, Cert.QkvFinal.alg _ _,
    trivial, Cert.LruinFinal.alg _ _,
    trivial, Cert.LruoutFinal.alg _ _,
    trivial, Cert.AttFinal.alg _ _,
    Cert.AdamsFinal.names, Cert.AdamsFinal.alg _ _,
    Cert.AdamupFinal.names, Cert.AdamupFinal.alg _ _,
    Cert.AdamqkvFinal.names, Cert.AdamqkvFinal.alg _ _,
    Cert.AdaminFinal.names, Cert.AdaminFinal.alg _ _,
    Cert.AdamoFinal.names, Cert.AdamoFinal.alg _ _⟩

end Cert.Proof

end
